-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_ordered_and_finite [hPre_ordered_and_finite : Cert.Pre_ordered_and_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ordered_and_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ordered_and_finite [hPre_ordered_and_finite : Cert.Pre_ordered_and_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ordered_and_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_conv [hPre_finite_conv : Cert.Pre_finite_conv.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_conv.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_conv [hPre_finite_conv : Cert.Pre_finite_conv.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_conv.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_ordered_and_finite [hKernel2Ideal : Cert.Kernel2Ideal.Facts] [hPre_ordered_and_finite : Cert.Pre_ordered_and_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_ordered_and_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_ordered_and_finite [hReference2Ideal : Cert.Reference2Ideal.Facts] [hPre_ordered_and_finite : Cert.Pre_ordered_and_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ordered_and_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite_conv [hKernel9Ideal : Cert.Kernel9Ideal.Facts] [hPre_finite_conv : Cert.Pre_finite_conv.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_conv m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite_conv [hReference9Ideal : Cert.Reference9Ideal.Facts] [hPre_finite_conv : Cert.Pre_finite_conv.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_conv m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "mask" .f32 0xFF7FFFFF#32 ⊥

def algebraic_Kernel2Ideal_Reference2Ideal_pre_ordered_and_finite [hKernel2Ideal : Cert.Kernel2Ideal.Facts] [hReference2Ideal : Cert.Reference2Ideal.Facts] [hPre_ordered_and_finite : Cert.Pre_ordered_and_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_ordered_and_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v44)) (v1 : (c : Dev Cert.Kernel2Ideal.nD) → Buf (Elt Ideal) ((c.tc : Thread Cert.Kernel2Ideal.nD Cert.Kernel2Ideal.τ).loc Cert.Kernel2Ideal.main_v46)) (v2 : (c : Dev Cert.Kernel2Ideal.nD) → Buf (Elt Ideal) ((c.tc : Thread Cert.Kernel2Ideal.nD Cert.Kernel2Ideal.τ).loc Cert.Kernel2Ideal.main_v42_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v44) = v0 c
          ∧ r.2.mem ((c.tc : Thread Cert.Kernel2Ideal.nD Cert.Kernel2Ideal.τ).loc Cert.Kernel2Ideal.main_v46) = v1 c
          ∧ r.2.mem ((c.tc : Thread Cert.Kernel2Ideal.nD Cert.Kernel2Ideal.τ).loc Cert.Kernel2Ideal.main_v42_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_v62) = v1 c
          ∧ r.2.mem ((c.tc : Thread Cert.Reference2Ideal.nD Cert.Reference2Ideal.τ).loc Cert.Reference2Ideal.main_v45) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v42) = v0 c
          ∧ r.2.mem ((c.tc : Thread Cert.Reference6Ideal.nD Cert.Reference6Ideal.τ).loc Cert.Reference6Ideal.main_v43) = v1 c
          ∧ r.2.mem ((c.tc : Thread Cert.Reference6Ideal.nD Cert.Reference6Ideal.τ).loc Cert.Reference6Ideal.main_v44) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_v24) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite_conv [hKernel9Ideal : Cert.Kernel9Ideal.Facts] [hReference9Ideal : Cert.Reference9Ideal.Facts] [hPre_finite_conv : Cert.Pre_finite_conv.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_conv m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v42) = v0 c
          ∧ r.2.mem ((c.tc : Thread Cert.Reference9Ideal.nD Cert.Reference9Ideal.τ).loc Cert.Reference9Ideal.main_v43) = v1 c
          ∧ r.2.mem ((c.tc : Thread Cert.Reference9Ideal.nD Cert.Reference9Ideal.τ).loc Cert.Reference9Ideal.main_v44) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v15)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v15) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v20) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_v19) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2_0)) (v1 : (c : Dev Cert.Kernel17Ideal.nD) → Buf (Elt Ideal) ((c.tc : Thread Cert.Kernel17Ideal.nD Cert.Kernel17Ideal.τ).loc Cert.Kernel17Ideal.main_v2_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2_0) = v0 c
          ∧ r.2.mem ((c.tc : Thread Cert.Kernel17Ideal.nD Cert.Kernel17Ideal.τ).loc Cert.Kernel17Ideal.main_v2_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v7) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v22) = v0 c
          ∧ r.2.mem ((c.tc : Thread Cert.Reference18Ideal.nD Cert.Reference18Ideal.τ).loc Cert.Reference18Ideal.main_v18) = v1 c
          ∧ r.2.mem ((c.tc : Thread Cert.Reference18Ideal.nD Cert.Reference18Ideal.τ).loc Cert.Reference18Ideal.main_v23) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v2_0)) (v1 : (c : Dev Cert.Kernel19Ideal.nD) → Buf (Elt Ideal) ((c.tc : Thread Cert.Kernel19Ideal.nD Cert.Kernel19Ideal.τ).loc Cert.Kernel19Ideal.main_v2_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2_0) = v0 c
          ∧ r.2.mem ((c.tc : Thread Cert.Kernel19Ideal.nD Cert.Kernel19Ideal.τ).loc Cert.Kernel19Ideal.main_v2_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v14) = v0 c
          ∧ r.2.mem ((c.tc : Thread Cert.Reference19Ideal.nD Cert.Reference19Ideal.τ).loc Cert.Reference19Ideal.main_v16) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_ordered_and_finite : Cert.Pre_ordered_and_finite.Facts) (hPre_finite : Cert.Pre_finite.Facts) (hPre_finite_conv : Cert.Pre_finite_conv.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_ordered_and_finite (hKernel2Ideal := hKernel2Ideal) (hPre_ordered_and_finite := hPre_ordered_and_finite)
    ∧ quiescent_Reference2Ideal (hReference2Ideal := hReference2Ideal)
    ∧ quiescent_Reference2Ideal_pre_ordered_and_finite (hReference2Ideal := hReference2Ideal) (hPre_ordered_and_finite := hPre_ordered_and_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_conv (hKernel9Ideal := hKernel9Ideal) (hPre_finite_conv := hPre_finite_conv)
    ∧ quiescent_Reference9Ideal (hReference9Ideal := hReference9Ideal)
    ∧ quiescent_Reference9Ideal_pre_finite_conv (hReference9Ideal := hReference9Ideal) (hPre_finite_conv := hPre_finite_conv)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_ordered_and_finite (hKernel2Ideal := hKernel2Ideal) (hReference2Ideal := hReference2Ideal) (hPre_ordered_and_finite := hPre_ordered_and_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite (hKernel6Ideal := hKernel6Ideal) (hReference6Ideal := hReference6Ideal) (hPre_finite := hPre_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_conv (hKernel9Ideal := hKernel9Ideal) (hReference9Ideal := hReference9Ideal) (hPre_finite_conv := hPre_finite_conv)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S8192x4096 : Shape := ⟨2, ![8192, 4096]⟩
abbrev S8192x1024 : Shape := ⟨2, ![8192, 1024]⟩
abbrev S1024 : Shape := ⟨1, ![1024]⟩
abbrev S8x1024x512 : Shape := ⟨3, ![8, 1024, 512]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S8x1024x512 : S_.BroadcastsInDim S8x1024x512 (![] : Fin 0 → Fin S8x1024x512.rank)
  reducesTo_S8x1024x512_S_d0_1_2 : S8x1024x512.ReducesTo [0, 1, 2] S_

variable [Facts]

def fn_part1 {F : FTy → Type} [FloatOps F] (main_v14 : IVec S_ 1) (main_v16 : FVec F S8x1024x512 .f32) (main_cst_4 : FVec F S_ .f32) : IVec S_ 1 :=
  let main_v17 : FVec F S8x1024x512 .f32 := broadcastInDim S8x1024x512 ![] bcast_S_S8x1024x512 main_cst_4
  let main_v18 : IVec S8x1024x512 1 := cmpf .olt main_v16 main_v17
  let main_c_5 : IVec S_ 1 := constantI S_ 1 1#1
  let main_v19 : IVec S_ 1 := (fun x v => Host.reduce IntOp.andi x v reducesTo_S8x1024x512_S_d0_1_2 h_S_) main_v18 main_c_5
  let main_v20 : IVec S_ 1 := andi main_v14 main_v19
  main_v20

def fn {F : FTy → Type} [FloatOps F] (main_arg0 : FVec F S8192x4096 .bf16) (main_arg1 : FVec F S8192x1024 .f32) (main_arg2 : FVec F S1024 .f32) (main_arg3 : FVec F S8x1024x512 .bf16) (main_arg4 : FVec F S8192x1024 .f32) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S8192x1024 .f32 := Host.absf main_arg1
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  let main_v10 : FVec F S1024 .f32 := Host.absf main_arg2
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  let main_v15 : FVec F S8x1024x512 .f32 := (extf .f32 · bitsLt_bf16_f32) main_arg3
  let main_v16 : FVec F S8x1024x512 .f32 := Host.absf main_v15
  let main_cst_4 : FVec F S_ .f32 := constant S_ .f32 0x7F800000#32
  fn_part1 (F := F) main_v14 main_v16 main_cst_4
-- ==== Pre_finite_conv.lean ====
abbrev S8192x3072 : Shape := ⟨2, ![8192, 3072]⟩
abbrev S8192x1024 : Shape := ⟨2, ![8192, 1024]⟩
abbrev S1024 : Shape := ⟨1, ![1024]⟩
abbrev S8x1024x384 : Shape := ⟨3, ![8, 1024, 384]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S8x1024x384 : S_.BroadcastsInDim S8x1024x384 (![] : Fin 0 → Fin S8x1024x384.rank)
  reducesTo_S8x1024x384_S_d0_1_2 : S8x1024x384.ReducesTo [0, 1, 2] S_

variable [Facts]

def fn_part1 {F : FTy → Type} [FloatOps F] (main_v14 : IVec S_ 1) (main_v16 : FVec F S8x1024x384 .f32) (main_cst_4 : FVec F S_ .f32) : IVec S_ 1 :=
  let main_v17 : FVec F S8x1024x384 .f32 := broadcastInDim S8x1024x384 ![] bcast_S_S8x1024x384 main_cst_4
  let main_v18 : IVec S8x1024x384 1 := cmpf .olt main_v16 main_v17
  let main_c_5 : IVec S_ 1 := constantI S_ 1 1#1
  let main_v19 : IVec S_ 1 := (fun x v => Host.reduce IntOp.andi x v reducesTo_S8x1024x384_S_d0_1_2 h_S_) main_v18 main_c_5
  let main_v20 : IVec S_ 1 := andi main_v14 main_v19
  main_v20

def fn {F : FTy → Type} [FloatOps F] (main_arg0 : FVec F S8192x3072 .bf16) (main_arg1 : FVec F S8192x1024 .f32) (main_arg2 : FVec F S1024 .f32) (main_arg3 : FVec F S8x1024x384 .bf16) (main_arg4 : FVec F S8192x1024 .f32) : IVec S_ 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S8192x1024 .f32 := Host.absf main_arg1
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  let main_v10 : FVec F S1024 .f32 := Host.absf main_arg2
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  let main_v15 : FVec F S8x1024x384 .f32 := (extf .f32 · bitsLt_bf16_f32) main_arg3
  let main_v16 : FVec F S8x1024x384 .f32 := Host.absf main_v15
  let main_cst_4 : FVec F S_ .f32 := constant S_ .f32 0x7F800000#32
  fn_part1 (F := F) main_v14 main_v16 main_cst_4
-- ==== Pre_ordered_and_finite.lean ====
abbrev S8x8192x256 : Shape := ⟨3, ![8, 8192, 256]⟩
abbrev S8x8192x128 : Shape := ⟨3, ![8, 8192, 128]⟩
abbrev S8192x1024 : Shape := ⟨2, ![8192, 1024]⟩
abbrev S8192 : Shape := ⟨1, ![8192]⟩
abbrev S8191 : Shape := ⟨1, ![8191]⟩
abbrev S_ : Shape := ⟨0, ![]⟩

class Facts : Prop where
  slices_S8192_S8191_1 : S8192.Slices ![1] S8191
  slices_S8192_S8191_0 : S8192.Slices ![0] S8191
  reducesTo_S8191_S_d0 : S8191.ReducesTo [0] S_
  h_S_ : 0 < S_.numel
  bcast_S_S8x8192x256 : S_.BroadcastsInDim S8x8192x256 (![] : Fin 0 → Fin S8x8192x256.rank)
  reducesTo_S8x8192x256_S_d0_1_2 : S8x8192x256.ReducesTo [0, 1, 2] S_
  bitsLt_bf16_f32 : FTy.bits .bf16 < FTy.bits .f32
  bcast_S_S8x8192x128 : S_.BroadcastsInDim S8x8192x128 (![] : Fin 0 → Fin S8x8192x128.rank)
  reducesTo_S8x8192x128_S_d0_1_2 : S8x8192x128.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg3 : FVec F S8192x1024 .f32) (main_v14 : IVec S_ 1) (main_v16 : FVec F S8x8192x128 .f32) (main_v17 : FVec F S8x8192x128 .f32) : IVec S_ 1 :=
  let main_v18 : IVec S8x8192x128 1 := cmpf .olt main_v16 main_v17
  let main_c_4 : IVec S_ 1 := constantI S_ 1 1#1
  let main_v19 : IVec S_ 1 := (fun x v => Host.reduce IntOp.andi x v reducesTo_S8x8192x128_S_d0_1_2 h_S_) main_v18 main_c_4
  let main_v20 : IVec S_ 1 := andi main_v14 main_v19
  let main_v21 : FVec F S8192x1024 .f32 := Host.absf main_arg3
  let main_cst_5 : FVec F S_ .f32 := constant S_ .f32 0x7F800000#32
  let main_v22 : FVec F S8192x1024 .f32 := broadcastInDim S8192x1024 ![] bcast_S_S8192x1024 main_cst_5
  let main_v23 : IVec S8192x1024 1 := cmpf .olt main_v21 main_v22
  let main_c_6 : IVec S_ 1 := constantI S_ 1 1#1
  let main_v24 : IVec S_ 1 := (fun x v => Host.reduce IntOp.andi x v reducesTo_S8192x1024_S_d0_1 h_S_) main_v23 main_c_6
  let main_v25 : IVec S_ 1 := andi main_v20 main_v24
  main_v25

def fn {F : FTy → Type} [FloatOps F] (main_arg0 : FVec F S8x8192x256 .f32) (main_arg1 : FVec F S8x8192x256 .bf16) (main_arg2 : FVec F S8x8192x128 .bf16) (main_arg3 : FVec F S8192x1024 .f32) (main_arg4 : IVec S8192 32) : IVec S_ 1 :=
  let main_v0 : IVec S8191 32 := (extractStridedSlice S8191 ![1] · slices_S8192_S8191_1) main_arg4
  let main_v1 : IVec S8191 32 := (extractStridedSlice S8191 ![0] · slices_S8192_S8191_0) main_arg4
  let main_v2 : IVec S8191 1 := cmpi .sgt main_v0 main_v1
  let main_c : IVec S_ 1 := constantI S_ 1 1#1
  let main_v3 : IVec S_ 1 := (fun x v => Host.reduce IntOp.andi x v reducesTo_S8191_S_d0 h_S_) main_v2 main_c
  let main_v4 : FVec F S8x8192x256 .f32 := Host.absf main_arg0
  let main_cst : FVec F S_ .f32 := constant S_ .f32 0x7F800000#32
  let main_v5 : FVec F S8x8192x256 .f32 := broadcastInDim S8x8192x256 ![] bcast_S_S8x8192x256 main_cst
  let main_v6 : IVec S8x8192x256 1 := cmpf .olt main_v4 main_v5
  let main_c_0 : IVec S_ 1 := constantI S_ 1 1#1
  let main_v7 : IVec S_ 1 := (fun x v => Host.reduce IntOp.andi x v reducesTo_S8x8192x256_S_d0_1_2 h_S_) main_v6 main_c_0
  let main_v8 : IVec S_ 1 := andi main_v3 main_v7
  let main_v9 : FVec F S8x8192x256 .f32 := (extf .f32 · bitsLt_bf16_f32) main_arg1
  let main_v10 : FVec F S8x8192x256 .f32 := Host.absf main_v9
  let main_cst_1 : FVec F S_ .f32 := constant S_ .f32 0x7F800000#32
  let main_v11 : FVec F S8x8192x256 .f32 := broadcastInDim S8x8192x256 ![] bcast_S_S8x8192x256 main_cst_1
  let main_v12 : IVec S8x8192x256 1 := cmpf .olt main_v10 main_v11
  let main_c_2 : IVec S_ 1 := constantI S_ 1 1#1
  let main_v13 : IVec S_ 1 := (fun x v => Host.reduce IntOp.andi x v reducesTo_S8x8192x256_S_d0_1_2 h_S_) main_v12 main_c_2
  let main_v14 : IVec S_ 1 := andi main_v8 main_v13
  let main_v15 : FVec F S8x8192x128 .f32 := (extf .f32 · bitsLt_bf16_f32) main_arg2
  let main_v16 : FVec F S8x8192x128 .f32 := Host.absf main_v15
  let main_cst_3 : FVec F S_ .f32 := constant S_ .f32 0x7F800000#32
  let main_v17 : FVec F S8x8192x128 .f32 := broadcastInDim S8x8192x128 ![] bcast_S_S8x8192x128 main_cst_3
  fn_part1 (F := F) main_arg3 main_v14 main_v16 main_v17
-- ==== Kernel.lean ====
abbrev S8192x1024 : Shape := ⟨2, ![8192, 1024]⟩
abbrev S8192x3072 : Shape := ⟨2, ![8192, 3072]⟩
abbrev S3x1024 : Shape := ⟨2, ![3, 1024]⟩
abbrev S1024x1024 : Shape := ⟨2, ![1024, 1024]⟩
abbrev S16x1024 : Shape := ⟨2, ![16, 1024]⟩
abbrev S1024x3072 : Shape := ⟨2, ![1024, 3072]⟩
abbrev S1040x1024 : Shape := ⟨2, ![1040, 1024]⟩
abbrev S1x1024 : Shape := ⟨2, ![1, 1024]⟩
abbrev S1024 : Shape := ⟨1, ![1024]⟩

abbrev nBuf : Space → Nat
  | .hbm => 5
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S3x1024, .f32⟩
  | .hbm, ⟨3, _⟩ => ⟨S8192x3072, .bf16⟩
  | .hbm, ⟨4, _⟩ => ⟨S3x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1024x1024, .bf16⟩
  | .local _ .vmem, ⟨5, _⟩ => ⟨S1024x1024, .bf16⟩
  | .local _ .vmem, ⟨6, _⟩ => ⟨S16x1024, .bf16⟩
  | .local _ .vmem, ⟨7, _⟩ => ⟨S16x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S3x1024, .f32⟩
  | .local _ .vmem, ⟨17, _⟩ => ⟨S1024x3072, .bf16⟩
  | .local _ .vmem, ⟨18, _⟩ => ⟨S1024x3072, .bf16⟩
  | .local _ .vmem, ⟨19, _⟩ => ⟨S3x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_33 : BitVec 32 := 0#32
  let v86 : BitVec 1 := Scalar.cmpi .eq arg0 c0_i32_33
  let v87 : BitVec 32 := Scalar.extui v86
  let c0_i32_34 : BitVec 32 := 0#32
  let v88 : BitVec 1 := Scalar.cmpi .ne v87 c0_i32_34
  v88

def k0_cond2 (i : grid0.Coords) : BitVec 1 :=
  let arg0 : BitVec 32 := BitVec.ofNat 32 (i 0).val
  let c0_i32_35 : BitVec 32 := 0#32
  let v89 : BitVec 1 := Scalar.cmpi .ne arg0 c0_i32_35
  let v90 : BitVec 32 := Scalar.extui v89
  let c0_i32_36 : BitVec 32 := 0#32
  let v91 : BitVec 1 := Scalar.cmpi .ne v90 c0_i32_36
  v91

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x1024 : Shape := ⟨2, ![8192, 1024]⟩
abbrev S8192x3072 : Shape := ⟨2, ![8192, 3072]⟩
abbrev S3x1024 : Shape := ⟨2, ![3, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S3x1024, .f32⟩
  | .hbm, ⟨3, _⟩ => ⟨S8192x3072, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S2x1024, .f32⟩
  | .hbm, ⟨10, _⟩ => ⟨S8194x1024, .f32⟩
  | .hbm, ⟨11, _⟩ => ⟨S_, .f32⟩
  | .hbm, ⟨12, _⟩ => ⟨S2x1024, .f32⟩
  | .hbm, ⟨13, _⟩ => ⟨S1x1024, .f32⟩
  | .hbm, ⟨14, _⟩ => ⟨S1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S1024, .f32⟩
  | .hbm, ⟨44, _⟩ => ⟨S_, .f32⟩
  | .hbm, ⟨45, _⟩ => ⟨S8194x1024, .f32⟩
  | .hbm, ⟨46, _⟩ => ⟨S1x1024, .f32⟩
  | .hbm, ⟨47, _⟩ => ⟨S_, .f32⟩
  | .hbm, ⟨48, _⟩ => ⟨S3x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S_, .f32⟩
  | .hbm, ⟨58, _⟩ => ⟨S8194x1024, .f32⟩
  | .hbm, ⟨59, _⟩ => ⟨S8194x1024, .f32⟩
  | .hbm, ⟨60, _⟩ => ⟨S1x1024, .f32⟩
  | .hbm, ⟨61, _⟩ => ⟨S_, .f32⟩
  | .hbm, ⟨62, _⟩ => ⟨S3x1024, .f32⟩
  | .hbm, ⟨63, _⟩ => ⟨S3x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S_, .f32⟩
  | .hbm, ⟨71, _⟩ => ⟨S1024, .f32⟩
  | .hbm, ⟨72, _⟩ => ⟨S_, .f32⟩
  | .hbm, ⟨73, _⟩ => ⟨S8194x1024, .f32⟩
  | .hbm, ⟨74, _⟩ => ⟨S8194x1024, .f32⟩
  | .hbm, ⟨75, _⟩ => ⟨S1x1024, .f32⟩
  | .hbm, ⟨76, _⟩ => ⟨S_, .f32⟩
  | .hbm, ⟨77, _⟩ => ⟨S3x1024, .f32⟩
  | .hbm, ⟨78, _⟩ => ⟨S3x1024, .f32⟩
  | .hbm, ⟨79, _⟩ => ⟨S2x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x3072, .f32⟩
  | .hbm, ⟨84, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Kernel2.lean ====
abbrev S8x8192x256 : Shape := ⟨3, ![8, 8192, 256]⟩
abbrev S8x8192x128 : Shape := ⟨3, ![8, 8192, 128]⟩
abbrev S8192x1024 : Shape := ⟨2, ![8192, 1024]⟩
abbrev S8192 : Shape := ⟨1, ![8192]⟩
abbrev S10 : Shape := ⟨1, ![10]⟩
abbrev S_ : Shape := ⟨0, ![]⟩
abbrev S8x8192x8192 : Shape := ⟨3, ![8, 8192, 8192]⟩
abbrev S8192x1 : Shape := ⟨2, ![8192, 1]⟩
abbrev S1x8192 : Shape := ⟨2, ![1, 8192]⟩
abbrev S8192x8192 : Shape := ⟨2, ![8192, 8192]⟩
abbrev S8x8192 : Shape := ⟨2, ![8, 8192]⟩
abbrev S8x8192x1 : Shape := ⟨3, ![8, 8192, 1]⟩
abbrev S8192x8x128 : Shape := ⟨3, ![8192, 8, 128]⟩
abbrev S8x1x8192 : Shape := ⟨3, ![8, 1, 8192]⟩
abbrev S8192x8 : Shape := ⟨2, ![8192, 8]⟩
abbrev S1x2048x256 : Shape := ⟨3, ![1, 2048, 256]⟩
abbrev S1 : Shape := ⟨1, ![1]⟩
abbrev S1x2048x128 : Shape := ⟨3, ![1, 2048, 128]⟩
abbrev S2048x128 : Shape := ⟨2, ![2048, 128]⟩
abbrev S1x1x2048 : Shape := ⟨3, ![1, 1, 2048]⟩
abbrev S2048x1 : Shape := ⟨2, ![2048, 1]⟩
abbrev S1x2048 : Shape := ⟨2, ![1, 2048]⟩
abbrev S1x8192x256 : Shape := ⟨3, ![1, 8192, 256]⟩
abbrev S8192x256 : Shape := ⟨2, ![8192, 256]⟩
abbrev S2048x256 : Shape := ⟨2, ![2048, 256]⟩
abbrev S1x256x256 : Shape := ⟨3, ![1, 256, 256]⟩
abbrev S256x256 : Shape := ⟨2, ![256, 256]⟩
abbrev S256x128 : Shape := ⟨2, ![256, 128]⟩
abbrev S256x1 : Shape := ⟨2, ![256, 1]⟩
abbrev S1x256 : Shape := ⟨2, ![1, 256]⟩
abbrev S1x256x128 : Shape := ⟨3, ![1, 256, 128]⟩
abbrev S1x512x256 : Shape := ⟨3, ![1, 512, 256]⟩
abbrev S512x256 : Shape := ⟨2, ![512, 256]⟩
abbrev S512x1 : Shape := ⟨2, ![512, 1]⟩
abbrev S1x512x128 : Shape := ⟨3, ![1, 512, 128]⟩
abbrev S512x128 : Shape := ⟨2, ![512, 128]⟩
abbrev S1x1x256 : Shape := ⟨3, ![1, 1, 256]⟩
abbrev S1x768x256 : Shape := ⟨3, ![1, 768, 256]⟩
abbrev S768x256 : Shape := ⟨2, ![768, 256]⟩
abbrev S768x1 : Shape := ⟨2, ![768, 1]⟩
abbrev S1x768x128 : Shape := ⟨3, ![1, 768, 128]⟩
abbrev S768x128 : Shape := ⟨2, ![768, 128]⟩
abbrev S1x1024x256 : Shape := ⟨3, ![1, 1024, 256]⟩
abbrev S1024x256 : Shape := ⟨2, ![1024, 256]⟩
abbrev S1024x1 : Shape := ⟨2, ![1024, 1]⟩
abbrev S1x1024x128 : Shape := ⟨3, ![1, 1024, 128]⟩
abbrev S1024x128 : Shape := ⟨2, ![1024, 128]⟩
abbrev S1x1280x256 : Shape := ⟨3, ![1, 1280, 256]⟩
abbrev S1280x256 : Shape := ⟨2, ![1280, 256]⟩
abbrev S1280x1 : Shape := ⟨2, ![1280, 1]⟩
abbrev S1x1280x128 : Shape := ⟨3, ![1, 1280, 128]⟩
abbrev S1280x128 : Shape := ⟨2, ![1280, 128]⟩
abbrev S1x1536x256 : Shape := ⟨3, ![1, 1536, 256]⟩
abbrev S1536x256 : Shape := ⟨2, ![1536, 256]⟩
abbrev S1536x1 : Shape := ⟨2, ![1536, 1]⟩
abbrev S1x1536x128 : Shape := ⟨3, ![1, 1536, 128]⟩
abbrev S1536x128 : Shape := ⟨2, ![1536, 128]⟩
abbrev S1x1792x256 : Shape := ⟨3, ![1, 1792, 256]⟩
abbrev S1792x256 : Shape := ⟨2, ![1792, 256]⟩
abbrev S1792x1 : Shape := ⟨2, ![1792, 1]⟩
abbrev S1x1792x128 : Shape := ⟨3, ![1, 1792, 128]⟩
abbrev S1792x128 : Shape := ⟨2, ![1792, 128]⟩

abbrev nBuf : Space → Nat
  | .hbm => 62
  | .vmem => 22
  | .smem => 2
  | _ => 0

abbrev bufTy : (tb : Table) → Fin (tcTables nBuf tb) → BufTy
  | .hbm, ⟨0, _⟩ => ⟨S8x8192x256, .f32⟩
  | .hbm, ⟨1, _⟩ => ⟨S8x8192x256, .bf16⟩
  | .hbm, ⟨2, _⟩ => ⟨S8x8192x128, .bf16⟩
  | .hbm, ⟨3, _⟩ => ⟨S8192x1024, .f32⟩
  | .hbm, ⟨4, _⟩ => ⟨S8192, .i32⟩
  | .hbm, ⟨5, _⟩ => ⟨S_, .f32⟩
  | .hbm, ⟨6, _⟩ => ⟨S_, .f32⟩
  | .hbm, ⟨7, _⟩ => ⟨S8x8192x256, .f32⟩
  | .hbm, ⟨8, _⟩ => ⟨S8x8192x128, .f32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S8192x1, .i32⟩
  | .hbm, ⟨14, _⟩ => ⟨S1x8192, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S8x8192x8192, .i1⟩
  | .hbm, ⟨19, _⟩ => ⟨S_, .f32⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S8x8192x8192, .f32⟩
  | .hbm, ⟨32, _⟩ => ⟨S8x8192x8192, .f32⟩
  | .hbm, ⟨33, _⟩ => ⟨S8x8192x128, .f32⟩
  | .hbm, ⟨34, _⟩ => ⟨S8192x8x128, .f32⟩
  | .hbm, ⟨35, _⟩ => ⟨S8192x1024, .f32⟩
  | .hbm, ⟨36, _⟩ => ⟨S8x8192x1, .f32⟩
  | .hbm, ⟨37, _⟩ => ⟨S8x8192x1, .f32⟩
  | .hbm, ⟨38, _⟩ => ⟨S8x8192x1, .f32⟩
  | .hbm, ⟨39, _⟩ => ⟨S8x8192x1, .f32⟩
  | .hbm, ⟨40, _⟩ => ⟨S8x1x8192, .f32⟩
  | .hbm, ⟨41, _⟩ => ⟨S8192x1024, .f32⟩
  | .hbm, ⟨42, _⟩ => ⟨S8192x8x128, .f32⟩
  | .hbm, ⟨43, _⟩ => ⟨S_, .f32⟩
  | .hbm, ⟨44, _⟩ => ⟨S8192x8, .f32⟩
  | .hbm, ⟨45, _⟩ => ⟨S8x8192, .f32⟩
  | .hbm, ⟨46, _⟩ => ⟨S8x1x8192, .f32⟩
  | .hbm, ⟨47, _⟩ => ⟨S_, .f32⟩
  | .hbm, ⟨48, _⟩ => ⟨S_, .f32⟩
  | .hbm, ⟨49, _⟩ => ⟨S8x8192x256, .f32⟩
  | .hbm, ⟨50, _⟩ => ⟨S8x8192x256, .f32⟩
  | .hbm, ⟨51, _⟩ => ⟨S8x8192x256, .bf16⟩
  | .hbm, ⟨52, _⟩ => ⟨S8192x1, .i32⟩
  | .hbm, ⟨53, _⟩ => ⟨S1x8192, .i32⟩
  | .hbm, ⟨54, _⟩ => ⟨S8x8192x256, .f32⟩
  | .hbm, ⟨55, _⟩ => ⟨S8x8192x256, .f32⟩
  | .hbm, ⟨56, _⟩ => ⟨S8x8192x128, .f32⟩
  | .hbm, ⟨57, _⟩ => ⟨S_, .f32⟩
  | .hbm, ⟨58, _⟩ => ⟨S8x8192x256, .f32⟩
  | .hbm, ⟨59, _⟩ => ⟨S8x8192x256, .f32⟩
  | .hbm, ⟨60, _⟩ => ⟨S8x8192x256, .f32⟩
  | .hbm, ⟨61, _⟩ => ⟨S8x8192x256, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S2048x128, .f32⟩
  | .local _ .vmem, ⟨7, _⟩ => ⟨S2048x128, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S2048x1, .i32⟩
  | .local _ .vmem, ⟨13, _⟩ => ⟨S2048x1, .i32⟩
  | .local _ .vmem, ⟨14, _⟩ => ⟨S1x2048, .i32⟩
  | .local _ .vmem, ⟨15, _⟩ => ⟨S1x2048, .i32⟩
  | .local _ .vmem, ⟨16, _⟩ => ⟨S1x8192x256, .f32⟩
  | .local _ .vmem, ⟨17, _⟩ => ⟨S1x8192x256, .f32⟩
  | .local _ .vmem, ⟨18, _⟩ => ⟨S1x2048x256, .f32⟩
  | .local _ .vmem, ⟨19, _⟩ => ⟨S1x2048x256, .f32⟩
  | .local _ .vmem, ⟨20, _⟩ => ⟨S1x2048x128, .f32⟩
  | .local _ .vmem, ⟨21, _⟩ => ⟨S1x2048x128, .f32⟩
  | .local _ .smem, ⟨0, _⟩ => ⟨S10, .i32⟩
  | .local _ .smem, ⟨1, _⟩ => ⟨S10, .i32⟩
  | _, _ => ⟨S8x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v42_2 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c2048_i32 : BitVec 32 := 2048#32
  let v80 : BitVec 32 := Scalar.muli v1 c2048_i32
  let c0_i32_57 : BitVec 32 := 0#32
  let v81 : BitVec 32 := Scalar.addi v80 c0_i32_57
  v81
def k0_cond3 (v1 : BitVec 32) (v3 : BitVec 32) : BitVec 1 :=
  let v10 : BitVec 1 := Scalar.cmpi .eq v1 v3
  let v11 : BitVec 32 := Scalar.extui v10
  let c0_i32_2 : BitVec 32 := 0#32
  let v12 : BitVec 1 := Scalar.cmpi .ne v11 c0_i32_2
  v12

def k0_off2 (v1 : BitVec 32) (c0_i32_57 : BitVec 32) : Fin 3 → Nat :=
  let c0_58 : Index := 0#32
  let c2048_i32 : BitVec 32 := 2048#32
  let v80 : BitVec 32 := Scalar.muli v1 c2048_i32
  let v81 : BitVec 32 := Scalar.addi v80 c0_i32_57
  let v82 : BitVec 32 := v81
  let v83 : Index := Scalar.indexCast v82
  let c0_59 : Index := 0#32
  ![0, v83.toNat, 0]
def k0_mult2 (v1 : BitVec 32) : BitVec 32 :=
  let c2048_i32_103 : BitVec 32 := 2048#32
  let v139 : BitVec 32 := Scalar.muli v1 c2048_i32_103
  let c256_i32 : BitVec 32 := 256#32
  let v140 : BitVec 32 := Scalar.addi v139 c256_i32
  v140
def k0_mult3 (v1 : BitVec 32) : BitVec 32 :=
  let c2048_i32_149 : BitVec 32 := 2048#32
  let v198 : BitVec 32 := Scalar.muli v1 c2048_i32_149
  let c512_i32 : BitVec 32 := 512#32
  let v199 : BitVec 32 := Scalar.addi v198 c512_i32
  v199
def k0_mult4 (v1 : BitVec 32) : BitVec 32 :=
  let c2048_i32_195 : BitVec 32 := 2048#32
  let v257 : BitVec 32 := Scalar.muli v1 c2048_i32_195
  let c768_i32 : BitVec 32 := 768#32
  let v258 : BitVec 32 := Scalar.addi v257 c768_i32
  v258
def k0_mult5 (v1 : BitVec 32) : BitVec 32 :=
  let c2048_i32_241 : BitVec 32 := 2048#32
  let v316 : BitVec 32 := Scalar.muli v1 c2048_i32_241
  let c1024_i32 : BitVec 32 := 1024#32
  let v317 : BitVec 32 := Scalar.addi v316 c1024_i32
  v317
def k0_mult6 (v1 : BitVec 32) : BitVec 32 :=
  let c2048_i32_287 : BitVec 32 := 2048#32
  let v375 : BitVec 32 := Scalar.muli v1 c2048_i32_287
  let c1280_i32 : BitVec 32 := 1280#32
  let v376 : BitVec 32 := Scalar.addi v375 c1280_i32
  v376
def k0_mult7 (v1 : BitVec 32) : BitVec 32 :=
  let c2048_i32_333 : BitVec 32 := 2048#32
  let v434 : BitVec 32 := Scalar.muli v1 c2048_i32_333
  let c1536_i32 : BitVec 32 := 1536#32
  let v435 : BitVec 32 := Scalar.addi v434 c1536_i32
  v435
def k0_mult8 (v1 : BitVec 32) : BitVec 32 :=
  let c2048_i32_362 : BitVec 32 := 2048#32
  let v474 : BitVec 32 := Scalar.muli v1 c2048_i32_362
  let c1792_i32 : BitVec 32 := 1792#32
  let v475 : BitVec 32 := Scalar.addi v474 c1792_i32
  v475
def k0_mult9 (v1 : BitVec 32) : BitVec 32 :=
  let c2048_i32 : BitVec 32 := 2048#32
  let v62 : BitVec 32 := Scalar.muli v1 c2048_i32
  let c0_i32_47 : BitVec 32 := 0#32
  let v63 : BitVec 32 := Scalar.addi v62 c0_i32_47
  v63
def k0_cond4 (v1 : BitVec 32) (v3 : BitVec 32) : BitVec 1 :=
  let v13 : BitVec 1 := Scalar.cmpi .ne v1 v3
  let v14 : BitVec 32 := Scalar.extui v13
  let c0_i32_3 : BitVec 32 := 0#32
  let v15 : BitVec 1 := Scalar.cmpi .ne v14 c0_i32_3
  v15

def k0_off3 (v1 : BitVec 32) (c0_i32_47 : BitVec 32) : Fin 3 → Nat :=
  let c0_48 : Index := 0#32
  let c2048_i32 : BitVec 32 := 2048#32
  let v62 : BitVec 32 := Scalar.muli v1 c2048_i32
  let v63 : BitVec 32 := Scalar.addi v62 c0_i32_47
  let v64 : BitVec 32 := v63
  let v65 : Index := Scalar.indexCast v64
  let c0_49 : Index := 0#32
  ![0, v65.toNat, 0]
def k0_mult10 (v1 : BitVec 32) : BitVec 32 :=
  let c2048_i32_88 : BitVec 32 := 2048#32
  let v112 : BitVec 32 := Scalar.muli v1 c2048_i32_88
  let c256_i32 : BitVec 32 := 256#32
  let v113 : BitVec 32 := Scalar.addi v112 c256_i32
  v113
def k0_mult11 (v1 : BitVec 32) : BitVec 32 :=
  let c2048_i32_129 : BitVec 32 := 2048#32
  let v162 : BitVec 32 := Scalar.muli v1 c2048_i32_129
  let c512_i32 : BitVec 32 := 512#32
  let v163 : BitVec 32 := Scalar.addi v162 c512_i32
  v163
def k0_mult12 (v1 : BitVec 32) : BitVec 32 :=
  let c2048_i32_170 : BitVec 32 := 2048#32
  let v212 : BitVec 32 := Scalar.muli v1 c2048_i32_170
  let c768_i32 : BitVec 32 := 768#32
  let v213 : BitVec 32 := Scalar.addi v212 c768_i32
  v213
def k0_mult13 (v1 : BitVec 32) : BitVec 32 :=
  let c2048_i32_211 : BitVec 32 := 2048#32
  let v262 : BitVec 32 := Scalar.muli v1 c2048_i32_211
  let c1024_i32 : BitVec 32 := 1024#32
  let v263 : BitVec 32 := Scalar.addi v262 c1024_i32
  v263
def k0_mult14 (v1 : BitVec 32) : BitVec 32 :=
  let c2048_i32_252 : BitVec 32 := 2048#32
  let v312 : BitVec 32 := Scalar.muli v1 c2048_i32_252
  let c1280_i32 : BitVec 32 := 1280#32
  let v313 : BitVec 32 := Scalar.addi v312 c1280_i32
  v313
def k0_mult15 (v1 : BitVec 32) : BitVec 32 :=
  let c2048_i32_293 : BitVec 32 := 2048#32
  let v362 : BitVec 32 := Scalar.muli v1 c2048_i32_293
  let c1536_i32 : BitVec 32 := 1536#32
  let v363 : BitVec 32 := Scalar.addi v362 c1536_i32
  v363
def k0_mult16 (v1 : BitVec 32) : BitVec 32 :=
  let c2048_i32_322 : BitVec 32 := 2048#32
  let v402 : BitVec 32 := Scalar.muli v1 c2048_i32_322
  let c1792_i32 : BitVec 32 := 1792#32
  let v403 : BitVec 32 := Scalar.addi v402 c1792_i32
  v403

def k0_chk1 (v1 : BitVec 32) (v3 : BitVec 32) : Prop :=
  (∀ (k0_h3 : k0_cond3 v1 v3 = 1#1), 256 ∣ (k0_mult1 v1).toNat) ∧
  (∀ (k0_h3 : k0_cond3 v1 v3 = 1#1), ∀ (r : Fin 8), ∀ a, (k0_off2 v1 (BitVec.ofNat 32 (256 * r.val))) a + S1x256x256.size a ≤ S1x8192x256.size a) ∧
  (∀ (k0_h3 : k0_cond3 v1 v3 = 1#1), 256 ∣ (k0_mult2 v1).toNat) ∧
  (∀ (k0_h3 : k0_cond3 v1 v3 = 1#1), 256 ∣ (k0_mult3 v1).toNat) ∧
  (∀ (k0_h3 : k0_cond3 v1 v3 = 1#1), 256 ∣ (k0_mult4 v1).toNat) ∧
  (∀ (k0_h3 : k0_cond3 v1 v3 = 1#1), 256 ∣ (k0_mult5 v1).toNat) ∧
  (∀ (k0_h3 : k0_cond3 v1 v3 = 1#1), 256 ∣ (k0_mult6 v1).toNat) ∧
  (∀ (k0_h3 : k0_cond3 v1 v3 = 1#1), 256 ∣ (k0_mult7 v1).toNat) ∧
  (∀ (k0_h3 : k0_cond3 v1 v3 = 1#1), 256 ∣ (k0_mult8 v1).toNat) ∧
  (∀ (k0_h4 : k0_cond4 v1 v3 = 1#1), 256 ∣ (k0_mult9 v1).toNat) ∧
  (∀ (k0_h4 : k0_cond4 v1 v3 = 1#1), ∀ (r : Fin 8), ∀ a, (k0_off3 v1 (BitVec.ofNat 32 (256 * r.val))) a + S1x256x256.size a ≤ S1x8192x256.size a) ∧
  (∀ (k0_h4 : k0_cond4 v1 v3 = 1#1), 256 ∣ (k0_mult10 v1).toNat) ∧
  (∀ (k0_h4 : k0_cond4 v1 v3 = 1#1), 256 ∣ (k0_mult11 v1).toNat) ∧
  (∀ (k0_h4 : k0_cond4 v1 v3 = 1#1), 256 ∣ (k0_mult12 v1).toNat) ∧
  (∀ (k0_h4 : k0_cond4 v1 v3 = 1#1), 256 ∣ (k0_mult13 v1).toNat) ∧
  (∀ (k0_h4 : k0_cond4 v1 v3 = 1#1), 256 ∣ (k0_mult14 v1).toNat) ∧
  (∀ (k0_h4 : k0_cond4 v1 v3 = 1#1), 256 ∣ (k0_mult15 v1).toNat) ∧
  (∀ (k0_h4 : k0_cond4 v1 v3 = 1#1), 256 ∣ (k0_mult16 v1).toNat)
theorem k0_mult1_dvd : ∀ (v1 : BitVec 32) (v3 : BitVec 32) (k0_hw1 : k0_chk1 v1 v3), ∀ (k0_h3 : k0_cond3 v1 v3 = 1#1), 256 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ (r : Fin 8), ∀ a, (k0_off2 v1 (BitVec.ofNat 32 (256 * r.val))) a + S1x256x256.size a ≤ S1x8192x256.size a := fun v1 v3 k0_hw1 k0_h3 r => k0_hw1.2.1 k0_h3 r
theorem k0_mult2_dvd : ∀ (v1 : BitVec 32) (v3 : BitVec 32) (k0_hw1 : k0_chk1 v1 v3), ∀ (k0_h3 : k0_cond3 v1 v3 = 1#1), 256 ∣ (k0_mult2 v1).toNat := fun v1 v3 k0_hw1 k0_h3 => k0_hw1.2.2.1 k0_h3
theorem k0_mult3_dvd : ∀ (v1 : BitVec 32) (v3 : BitVec 32) (k0_hw1 : k0_chk1 v1 v3), ∀ (k0_h3 : k0_cond3 v1 v3 = 1#1), 256 ∣ (k0_mult3 v1).toNat := fun v1 v3 k0_hw1 k0_h3 => k0_hw1.2.2.2.1 k0_h3
theorem k0_mult4_dvd : ∀ (v1 : BitVec 32) (v3 : BitVec 32) (k0_hw1 : k0_chk1 v1 v3), ∀ (k0_h3 : k0_cond3 v1 v3 = 1#1), 256 ∣ (k0_mult4 v1).toNat := fun v1 v3 k0_hw1 k0_h3 => k0_hw1.2.2.2.2.1 k0_h3
theorem k0_mult5_dvd : ∀ (v1 : BitVec 32) (v3 : BitVec 32) (k0_hw1 : k0_chk1 v1 v3), ∀ (k0_h3 : k0_cond3 v1 v3 = 1#1), 256 ∣ (k0_mult5 v1).toNat := fun v1 v3 k0_hw1 k0_h3 => k0_hw1.2.2.2.2.2.1 k0_h3
theorem k0_mult6_dvd : ∀ (v1 : BitVec 32) (v3 : BitVec 32) (k0_hw1 : k0_chk1 v1 v3), ∀ (k0_h3 : k0_cond3 v1 v3 = 1#1), 256 ∣ (k0_mult6 v1).toNat := fun v1 v3 k0_hw1 k0_h3 => k0_hw1.2.2.2.2.2.2.1 k0_h3
theorem k0_mult7_dvd : ∀ (v1 : BitVec 32) (v3 : BitVec 32) (k0_hw1 : k0_chk1 v1 v3), ∀ (k0_h3 : k0_cond3 v1 v3 = 1#1), 256 ∣ (k0_mult7 v1).toNat := fun v1 v3 k0_hw1 k0_h3 => k0_hw1.2.2.2.2.2.2.2.1 k0_h3
theorem k0_mult8_dvd : ∀ (v1 : BitVec 32) (v3 : BitVec 32) (k0_hw1 : k0_chk1 v1 v3), ∀ (k0_h3 : k0_cond3 v1 v3 = 1#1), 256 ∣ (k0_mult8 v1).toNat := fun v1 v3 k0_hw1 k0_h3 => k0_hw1.2.2.2.2.2.2.2.2.1 k0_h3
theorem k0_mult9_dvd : ∀ (v1 : BitVec 32) (v3 : BitVec 32) (k0_hw1 : k0_chk1 v1 v3), ∀ (k0_h4 : k0_cond4 v1 v3 = 1#1), 256 ∣ (k0_mult9 v1).toNat := fun v1 v3 k0_hw1 k0_h4 => k0_hw1.2.2.2.2.2.2.2.2.2.1 k0_h4
theorem k0_off3_inb : ∀ (v1 : BitVec 32) (v3 : BitVec 32) (k0_hw1 : k0_chk1 v1 v3), ∀ (k0_h4 : k0_cond4 v1 v3 = 1#1), ∀ (r : Fin 8), ∀ a, (k0_off3 v1 (BitVec.ofNat 32 (256 * r.val))) a + S1x256x256.size a ≤ S1x8192x256.size a := fun v1 v3 k0_hw1 k0_h4 r => k0_hw1.2.2.2.2.2.2.2.2.2.2.1 k0_h4 r
theorem k0_mult10_dvd : ∀ (v1 : BitVec 32) (v3 : BitVec 32) (k0_hw1 : k0_chk1 v1 v3), ∀ (k0_h4 : k0_cond4 v1 v3 = 1#1), 256 ∣ (k0_mult10 v1).toNat := fun v1 v3 k0_hw1 k0_h4 => k0_hw1.2.2.2.2.2.2.2.2.2.2.2.1 k0_h4
theorem k0_mult11_dvd : ∀ (v1 : BitVec 32) (v3 : BitVec 32) (k0_hw1 : k0_chk1 v1 v3), ∀ (k0_h4 : k0_cond4 v1 v3 = 1#1), 256 ∣ (k0_mult11 v1).toNat := fun v1 v3 k0_hw1 k0_h4 => k0_hw1.2.2.2.2.2.2.2.2.2.2.2.2.1 k0_h4
theorem k0_mult12_dvd : ∀ (v1 : BitVec 32) (v3 : BitVec 32) (k0_hw1 : k0_chk1 v1 v3), ∀ (k0_h4 : k0_cond4 v1 v3 = 1#1), 256 ∣ (k0_mult12 v1).toNat := fun v1 v3 k0_hw1 k0_h4 => k0_hw1.2.2.2.2.2.2.2.2.2.2.2.2.2.1 k0_h4
theorem k0_mult13_dvd : ∀ (v1 : BitVec 32) (v3 : BitVec 32) (k0_hw1 : k0_chk1 v1 v3), ∀ (k0_h4 : k0_cond4 v1 v3 = 1#1), 256 ∣ (k0_mult13 v1).toNat := fun v1 v3 k0_hw1 k0_h4 => k0_hw1.2.2.2.2.2.2.2.2.2.2.2.2.2.2.1 k0_h4
theorem k0_mult14_dvd : ∀ (v1 : BitVec 32) (v3 : BitVec 32) (k0_hw1 : k0_chk1 v1 v3), ∀ (k0_h4 : k0_cond4 v1 v3 = 1#1), 256 ∣ (k0_mult14 v1).toNat := fun v1 v3 k0_hw1 k0_h4 => k0_hw1.2.2.2.2.2.2.2.2.2.2.2.2.2.2.2.1 k0_h4
theorem k0_mult15_dvd : ∀ (v1 : BitVec 32) (v3 : BitVec 32) (k0_hw1 : k0_chk1 v1 v3), ∀ (k0_h4 : k0_cond4 v1 v3 = 1#1), 256 ∣ (k0_mult15 v1).toNat := fun v1 v3 k0_hw1 k0_h4 => k0_hw1.2.2.2.2.2.2.2.2.2.2.2.2.2.2.2.2.1 k0_h4
theorem k0_mult16_dvd : ∀ (v1 : BitVec 32) (v3 : BitVec 32) (k0_hw1 : k0_chk1 v1 v3), ∀ (k0_h4 : k0_cond4 v1 v3 = 1#1), 256 ∣ (k0_mult16 v1).toNat := fun v1 v3 k0_hw1 k0_h4 => k0_hw1.2.2.2.2.2.2.2.2.2.2.2.2.2.2.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def cc0_transform_0 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, c0_i32.toNat, v1.toNat]

def cc0_transform_6 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![v1.toNat, c0_i32.toNat]

def cc0_transform_7 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![c0_i32.toNat, v1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_10 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x8192x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel2Ideal.lean ====
variable {F : FTy → Type} [FloatOps F] [Named F]
def κ : String → Option EReal := fun
  | "mask" => some ⊥
  | _ => none
-- ==== Reference2Ideal.lean ====
abbrev S8x8192x256 : Shape := ⟨3, ![8, 8192, 256]⟩
abbrev S8x8192x128 : Shape := ⟨3, ![8, 8192, 128]⟩
abbrev S8192x1024 : Shape := ⟨2, ![8192, 1024]⟩
abbrev S8192 : Shape := ⟨1, ![8192]⟩
abbrev S8x8192x8192 : Shape := ⟨3, ![8, 8192, 8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S8x8192 : Shape := ⟨2, ![8, 8192]⟩
abbrev S8x8192x1 : Shape := ⟨3, ![8, 8192, 1]⟩
abbrev S8192x8x128 : Shape := ⟨3, ![8192, 8, 128]⟩
abbrev S8x128x8192 : Shape := ⟨3, ![8, 128, 8192]⟩

abbrev nBuf : Space → Nat
  | .hbm => 91
  | .vmem => 0
  | .smem => 0
  | _ => 0

abbrev bufTy : (tb : Table) → Fin (tcTables nBuf tb) → BufTy
  | .hbm, ⟨0, _⟩ => ⟨S8x8192x256, .f32⟩
  | .hbm, ⟨1, _⟩ => ⟨S8x8192x256, .bf16⟩
  | .hbm, ⟨2, _⟩ => ⟨S8x8192x128, .bf16⟩
  | .hbm, ⟨3, _⟩ => ⟨S8192x1024, .f32⟩
  | .hbm, ⟨4, _⟩ => ⟨S8192, .i32⟩
  | .hbm, ⟨5, _⟩ => ⟨S8x8192x256, .f32⟩
  | .hbm, ⟨6, _⟩ => ⟨S8x8192x128, .f32⟩
  | .hbm, ⟨7, _⟩ => ⟨S8x8192x8192, .f32⟩
  | .hbm, ⟨8, _⟩ => ⟨S_, .f32⟩
  | .hbm, ⟨9, _⟩ => ⟨S8x8192x8192, .f32⟩
  | .hbm, ⟨10, _⟩ => ⟨S8x8192x8192, .f32⟩
  | .hbm, ⟨11, _⟩ => ⟨S8192x1, .i32⟩
  | .hbm, ⟨12, _⟩ => ⟨S1x8192, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S8x8192x8192, .i1⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192x8192, .f32⟩
  | .hbm, ⟨23, _⟩ => ⟨S_, .f32⟩
  | .hbm, ⟨24, _⟩ => ⟨S8x8192, .f32⟩
  | .hbm, ⟨25, _⟩ => ⟨S8x8192x1, .f32⟩
  | .hbm, ⟨26, _⟩ => ⟨S8x8192x8192, .f32⟩
  | .hbm, ⟨27, _⟩ => ⟨S8x8192x8192, .i1⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S_, .f32⟩
  | .hbm, ⟨32, _⟩ => ⟨S8x8192, .f32⟩
  | .hbm, ⟨33, _⟩ => ⟨S8x8192, .f32⟩
  | .hbm, ⟨34, _⟩ => ⟨S_, .f32⟩
  | .hbm, ⟨35, _⟩ => ⟨S8x8192, .f32⟩
  | .hbm, ⟨36, _⟩ => ⟨S8x8192, .i1⟩
  | .hbm, ⟨37, _⟩ => ⟨S_, .f32⟩
  | .hbm, ⟨38, _⟩ => ⟨S8x8192, .f32⟩
  | .hbm, ⟨39, _⟩ => ⟨S8x8192, .i1⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S8x8192, .f32⟩
  | .hbm, ⟨47, _⟩ => ⟨S8x8192, .f32⟩
  | .hbm, ⟨48, _⟩ => ⟨S8x8192x1, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S_, .f32⟩
  | .hbm, ⟨53, _⟩ => ⟨S8x8192, .f32⟩
  | .hbm, ⟨54, _⟩ => ⟨S8x8192x1, .f32⟩
  | .hbm, ⟨55, _⟩ => ⟨S8x8192x8192, .f32⟩
  | .hbm, ⟨56, _⟩ => ⟨S8x8192x8192, .f32⟩
  | .hbm, ⟨57, _⟩ => ⟨S8x8192x1, .f32⟩
  | .hbm, ⟨58, _⟩ => ⟨S_, .f32⟩
  | .hbm, ⟨59, _⟩ => ⟨S8x8192x1, .f32⟩
  | .hbm, ⟨60, _⟩ => ⟨S8x8192x1, .f32⟩
  | .hbm, ⟨61, _⟩ => ⟨S8x8192x128, .f32⟩
  | .hbm, ⟨62, _⟩ => ⟨S8192x8x128, .f32⟩
  | .hbm, ⟨63, _⟩ => ⟨S8192x1024, .f32⟩
  | .hbm, ⟨64, _⟩ => ⟨S8192x8x128, .f32⟩
  | .hbm, ⟨65, _⟩ => ⟨S8x8192x128, .f32⟩
  | .hbm, ⟨66, _⟩ => ⟨S8x128x8192, .f32⟩
  | .hbm, ⟨67, _⟩ => ⟨S8x8192x128, .f32⟩
  | .hbm, ⟨68, _⟩ => ⟨S8x8192x8192, .f32⟩
  | .hbm, ⟨69, _⟩ => ⟨S8x8192x8192, .f32⟩
  | .hbm, ⟨70, _⟩ => ⟨S8x8192x8192, .f32⟩
  | .hbm, ⟨71, _⟩ => ⟨S8x8192x8192, .f32⟩
  | .hbm, ⟨72, _⟩ => ⟨S_, .f32⟩
  | .hbm, ⟨73, _⟩ => ⟨S8x8192, .f32⟩
  | .hbm, ⟨74, _⟩ => ⟨S8x8192x1, .f32⟩
  | .hbm, ⟨75, _⟩ => ⟨S8x8192x1, .f32⟩
  | .hbm, ⟨76, _⟩ => ⟨S8x8192x8192, .f32⟩
  | .hbm, ⟨77, _⟩ => ⟨S8x8192x8192, .f32⟩
  | .hbm, ⟨78, _⟩ => ⟨S_, .f32⟩
  | .hbm, ⟨79, _⟩ => ⟨S8x8192, .f32⟩
  | .hbm, ⟨80, _⟩ => ⟨S8x8192x8192, .f32⟩
  | .hbm, ⟨81, _⟩ => ⟨S8x8192x8192, .f32⟩
  | .hbm, ⟨82, _⟩ => ⟨S8x8192x8192, .f32⟩
  | .hbm, ⟨83, _⟩ => ⟨S_, .f32⟩
  | .hbm, ⟨84, _⟩ => ⟨S8x8192x8192, .f32⟩
  | .hbm, ⟨85, _⟩ => ⟨S8x8192x8192, .f32⟩
  | .hbm, ⟨86, _⟩ => ⟨S_, .f32⟩
  | .hbm, ⟨87, _⟩ => ⟨S8x8192x8192, .f32⟩
  | .hbm, ⟨88, _⟩ => ⟨S8x8192x8192, .f32⟩
  | .hbm, ⟨89, _⟩ => ⟨S8x8192x256, .f32⟩
  | .hbm, ⟨90, _⟩ => ⟨S8x8192x256, .f32⟩
  | _, _ => ⟨S8x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_call0_v0 : Ref sig .tc := ⟨.hbm, 17, rfl⟩
abbrev main_v10_1 : Ref sig .tc := ⟨.hbm, 18, rfl⟩
abbrev main_call0_v2 : Ref sig .tc := ⟨.hbm, 19, rfl⟩
abbrev main_v10_0 : Ref sig .tc := ⟨.hbm, 20, rfl⟩
abbrev main_call0_cst : Ref sig .tc := ⟨.hbm, 21, rfl⟩
abbrev main_v10_2 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]
-- ==== Kernel3.lean ====
abbrev S8192x1024 : Shape := ⟨2, ![8192, 1024]⟩
abbrev S8192x4096 : Shape := ⟨2, ![8192, 4096]⟩
abbrev S4096x1024 : Shape := ⟨2, ![4096, 1024]⟩
abbrev S_ : Shape := ⟨0, ![]⟩
abbrev S1x4096x1024 : Shape := ⟨3, ![1, 4096, 1024]⟩
abbrev S512x1024 : Shape := ⟨2, ![512, 1024]⟩
abbrev S512x4096 : Shape := ⟨2, ![512, 4096]⟩
abbrev S1x512x1024 : Shape := ⟨3, ![1, 512, 1024]⟩
abbrev S512x512 : Shape := ⟨2, ![512, 512]⟩

abbrev nBuf : Space → Nat
  | .hbm => 13
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .bf16⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .bf16⟩
  | .hbm, ⟨10, _⟩ => ⟨S8192x1024, .bf16⟩
  | .hbm, ⟨11, _⟩ => ⟨S1x4096x1024, .bf16⟩
  | .hbm, ⟨12, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1x4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8192x1024 : Shape := ⟨2, ![8192, 1024]⟩
abbrev S8192x4096 : Shape := ⟨2, ![8192, 4096]⟩
abbrev S4096x1024 : Shape := ⟨2, ![4096, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .bf16⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S4096x1024, .f32⟩
  | .hbm, ⟨16, _⟩ => ⟨S8192x1024, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel4.lean ====
abbrev S8192x1024 : Shape := ⟨2, ![8192, 1024]⟩
abbrev S8192x4096 : Shape := ⟨2, ![8192, 4096]⟩
abbrev S_ : Shape := ⟨0, ![]⟩
abbrev S1x4096x1024 : Shape := ⟨3, ![1, 4096, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S8192x1024, .bf16⟩
  | .hbm, ⟨8, _⟩ => ⟨S1x4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x4096 : Shape := ⟨2, ![8192, 4096]⟩
abbrev S_ : Shape := ⟨0, ![]⟩
abbrev S4096x1024 : Shape := ⟨2, ![4096, 1024]⟩
abbrev S1024x4096 : Shape := ⟨2, ![1024, 4096]⟩
abbrev S1x4096x1024 : Shape := ⟨3, ![1, 4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | .hbm, ⟨12, _⟩ => ⟨S1x4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel5.lean ====
abbrev S8192x4096 : Shape := ⟨2, ![8192, 4096]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8192 : Shape := ⟨2, ![1024, 8192]⟩
abbrev S8x1024x512 : Shape := ⟨3, ![8, 1024, 512]⟩
abbrev S1024x2048 : Shape := ⟨2, ![1024, 2048]⟩
abbrev S2048x1024 : Shape := ⟨2, ![2048, 1024]⟩
abbrev S2x1024x512 : Shape := ⟨3, ![2, 1024, 512]⟩
abbrev S1x1024x512 : Shape := ⟨3, ![1, 1024, 512]⟩
abbrev S1024x512 : Shape := ⟨2, ![1024, 512]⟩
abbrev S2048x512 : Shape := ⟨2, ![2048, 512]⟩

abbrev nBuf : Space → Nat
  | .hbm => 22
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x8192, .bf16⟩
  | .hbm, ⟨21, _⟩ => ⟨S8x1024x512, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S2x1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_17 : BitVec 32 := 0#32
  let v23 : BitVec 1 := Scalar.cmpi .ne v22 c0_i32_17
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x4096 : Shape := ⟨2, ![8192, 4096]⟩
abbrev S8192x1024 : Shape := ⟨2, ![8192, 1024]⟩
abbrev S1024 : Shape := ⟨1, ![1024]⟩
abbrev S_ : Shape := ⟨0, ![]⟩
abbrev S1024x4096 : Shape := ⟨2, ![1024, 4096]⟩
abbrev S8192 : Shape := ⟨1, ![8192]⟩
abbrev S8192x1 : Shape := ⟨2, ![8192, 1]⟩
abbrev S1x1024 : Shape := ⟨2, ![1, 1024]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S1024, .f32⟩
  | .hbm, ⟨3, _⟩ => ⟨S_, .f32⟩
  | .hbm, ⟨4, _⟩ => ⟨S1024x4096, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .f32⟩
  | .hbm, ⟨23, _⟩ => ⟨S4096x1024, .f32⟩
  | .hbm, ⟨24, _⟩ => ⟨S1024x4096, .f32⟩
  | .hbm, ⟨25, _⟩ => ⟨S1024x8x512, .f32⟩
  | .hbm, ⟨26, _⟩ => ⟨S8x1024x512, .f32⟩
  | .hbm, ⟨27, _⟩ => ⟨S8x1024x512, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel6.lean ====
abbrev S8192x4096 : Shape := ⟨2, ![8192, 4096]⟩
abbrev S8192x1024 : Shape := ⟨2, ![8192, 1024]⟩
abbrev S1024 : Shape := ⟨1, ![1024]⟩
abbrev S8x1024x512 : Shape := ⟨3, ![8, 1024, 512]⟩
abbrev S1x1024 : Shape := ⟨2, ![1, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S1024, .f32⟩
  | .hbm, ⟨3, _⟩ => ⟨S8x1024x512, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v72 : BitVec 1 := Scalar.cmpi .eq arg0 c0_i32
  let v73 : BitVec 32 := Scalar.extui v72
  let c0_i32_48 : BitVec 32 := 0#32
  let v74 : BitVec 1 := Scalar.cmpi .ne v73 c0_i32_48
  v74

def k0_cond2 (i : grid0.Coords) : BitVec 1 :=
  let arg0 : BitVec 32 := BitVec.ofNat 32 (i 0).val
  let c0_i32_49 : BitVec 32 := 0#32
  let v75 : BitVec 1 := Scalar.cmpi .ne arg0 c0_i32_49
  let v76 : BitVec 32 := Scalar.extui v75
  let c0_i32_50 : BitVec 32 := 0#32
  let v77 : BitVec 1 := Scalar.cmpi .ne v76 c0_i32_50
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S8192x4096 : Shape := ⟨2, ![8192, 4096]⟩
abbrev S8192x1024 : Shape := ⟨2, ![8192, 1024]⟩
abbrev S1024 : Shape := ⟨1, ![1024]⟩
abbrev S8x1024x512 : Shape := ⟨3, ![8, 1024, 512]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8x512 : Shape := ⟨3, ![1024, 8, 512]⟩
abbrev S1024x4096 : Shape := ⟨2, ![1024, 4096]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S1024, .f32⟩
  | .hbm, ⟨3, _⟩ => ⟨S8x1024x512, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8x1024x512, .f32⟩
  | .hbm, ⟨26, _⟩ => ⟨S1024x8x512, .f32⟩
  | .hbm, ⟨27, _⟩ => ⟨S1024x4096, .f32⟩
  | .hbm, ⟨28, _⟩ => ⟨S8192x4096, .f32⟩
  | .hbm, ⟨29, _⟩ => ⟨S8192x4096, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S8x1024x512 : Shape := ⟨3, ![8, 1024, 512]⟩
abbrev S1x1024 : Shape := ⟨2, ![1, 1024]⟩
abbrev S1024x8192 : Shape := ⟨2, ![1024, 8192]⟩
abbrev S8192x4096 : Shape := ⟨2, ![8192, 4096]⟩
abbrev S512x1024 : Shape := ⟨2, ![512, 1024]⟩
abbrev S1024x512 : Shape := ⟨2, ![1024, 512]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S512x512 : Shape := ⟨2, ![512, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x1024x512, .bf16⟩
  | .hbm, ⟨3, _⟩ => ⟨S1x1024, .f32⟩
  | .hbm, ⟨4, _⟩ => ⟨S1024x8192, .bf16⟩
  | .hbm, ⟨5, _⟩ => ⟨S8192x4096, .bf16⟩
  | .hbm, ⟨6, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8192x1024 : Shape := ⟨2, ![8192, 1024]⟩
abbrev S1024 : Shape := ⟨1, ![1024]⟩
abbrev S8x1024x512 : Shape := ⟨3, ![8, 1024, 512]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8x512 : Shape := ⟨3, ![1024, 8, 512]⟩
abbrev S1024x4096 : Shape := ⟨2, ![1024, 4096]⟩
abbrev S8192x4096 : Shape := ⟨2, ![8192, 4096]⟩
abbrev S1024x8192 : Shape := ⟨2, ![1024, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x1024x512, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8x1024x512, .f32⟩
  | .hbm, ⟨20, _⟩ => ⟨S1024x8x512, .f32⟩
  | .hbm, ⟨21, _⟩ => ⟨S1024x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S1024x8192, .f32⟩
  | .hbm, ⟨27, _⟩ => ⟨S1024x8192, .bf16⟩
  | .hbm, ⟨28, _⟩ => ⟨S8192x4096, .f32⟩
  | .hbm, ⟨29, _⟩ => ⟨S8192x4096, .bf16⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_cst : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel8.lean ====
abbrev S8192x4096 : Shape := ⟨2, ![8192, 4096]⟩
abbrev S4096x1024 : Shape := ⟨2, ![4096, 1024]⟩
abbrev S8192x1024 : Shape := ⟨2, ![8192, 1024]⟩
abbrev S512x4096 : Shape := ⟨2, ![512, 4096]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x4096, .f32⟩
  | .hbm, ⟨4, _⟩ => ⟨S4096x1024, .f32⟩
  | .hbm, ⟨5, _⟩ => ⟨S8192x1024, .f32⟩
  | .hbm, ⟨6, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x3072 : Shape := ⟨2, ![8192, 3072]⟩
abbrev S8192x1024 : Shape := ⟨2, ![8192, 1024]⟩
abbrev S1024 : Shape := ⟨1, ![1024]⟩
abbrev S8x1024x384 : Shape := ⟨3, ![8, 1024, 384]⟩
abbrev S1x1024 : Shape := ⟨2, ![1, 1024]⟩
abbrev S512x3072 : Shape := ⟨2, ![512, 3072]⟩
abbrev S512x1024 : Shape := ⟨2, ![512, 1024]⟩
abbrev S512x384 : Shape := ⟨2, ![512, 384]⟩
abbrev S1x1024x384 : Shape := ⟨3, ![1, 1024, 384]⟩
abbrev S1024x384 : Shape := ⟨2, ![1024, 384]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S1024, .f32⟩
  | .hbm, ⟨3, _⟩ => ⟨S8x1024x384, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S8x1024x384, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v72 : BitVec 1 := Scalar.cmpi .eq arg0 c0_i32
  let v73 : BitVec 32 := Scalar.extui v72
  let c0_i32_48 : BitVec 32 := 0#32
  let v74 : BitVec 1 := Scalar.cmpi .ne v73 c0_i32_48
  v74

def k0_cond2 (i : grid0.Coords) : BitVec 1 :=
  let arg0 : BitVec 32 := BitVec.ofNat 32 (i 0).val
  let c0_i32_49 : BitVec 32 := 0#32
  let v75 : BitVec 1 := Scalar.cmpi .ne arg0 c0_i32_49
  let v76 : BitVec 32 := Scalar.extui v75
  let c0_i32_50 : BitVec 32 := 0#32
  let v77 : BitVec 1 := Scalar.cmpi .ne v76 c0_i32_50
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference9Ideal.lean ====
abbrev S8192x3072 : Shape := ⟨2, ![8192, 3072]⟩
abbrev S8192x1024 : Shape := ⟨2, ![8192, 1024]⟩
abbrev S1024 : Shape := ⟨1, ![1024]⟩
abbrev S8x1024x384 : Shape := ⟨3, ![8, 1024, 384]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8x384 : Shape := ⟨3, ![1024, 8, 384]⟩
abbrev S1024x3072 : Shape := ⟨2, ![1024, 3072]⟩

abbrev nBuf : Space → Nat
  | .hbm => 59
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S1024, .f32⟩
  | .hbm, ⟨3, _⟩ => ⟨S8x1024x384, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8x1024x384, .f32⟩
  | .hbm, ⟨26, _⟩ => ⟨S1024x8x384, .f32⟩
  | .hbm, ⟨27, _⟩ => ⟨S1024x3072, .f32⟩
  | .hbm, ⟨28, _⟩ => ⟨S8192x3072, .f32⟩
  | .hbm, ⟨29, _⟩ => ⟨S8192x3072, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S1x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel10.lean ====
abbrev S8192x3072 : Shape := ⟨2, ![8192, 3072]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8192 : Shape := ⟨2, ![1024, 8192]⟩
abbrev S8x1024x384 : Shape := ⟨3, ![8, 1024, 384]⟩
abbrev S1024x2048 : Shape := ⟨2, ![1024, 2048]⟩
abbrev S2048x768 : Shape := ⟨2, ![2048, 768]⟩
abbrev S2x1024x384 : Shape := ⟨3, ![2, 1024, 384]⟩
abbrev S1x1024x384 : Shape := ⟨3, ![1, 1024, 384]⟩
abbrev S1024x384 : Shape := ⟨2, ![1024, 384]⟩
abbrev S2048x384 : Shape := ⟨2, ![2048, 384]⟩

abbrev nBuf : Space → Nat
  | .hbm => 22
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x8192, .bf16⟩
  | .hbm, ⟨21, _⟩ => ⟨S8x1024x384, .bf16⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S2x1024x384, .bf16⟩
  | .local _ .vmem, ⟨5, _⟩ => ⟨S2x1024x384, .bf16⟩
  | .local _ .vmem, ⟨6, _⟩ => ⟨S2x1024x384, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_17 : BitVec 32 := 0#32
  let v23 : BitVec 1 := Scalar.cmpi .ne v22 c0_i32_17
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x3072 : Shape := ⟨2, ![8192, 3072]⟩
abbrev S8192x1024 : Shape := ⟨2, ![8192, 1024]⟩
abbrev S1024 : Shape := ⟨1, ![1024]⟩
abbrev S_ : Shape := ⟨0, ![]⟩
abbrev S1024x3072 : Shape := ⟨2, ![1024, 3072]⟩
abbrev S8192 : Shape := ⟨1, ![8192]⟩
abbrev S8192x1 : Shape := ⟨2, ![8192, 1]⟩
abbrev S1x1024 : Shape := ⟨2, ![1, 1024]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 28
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S1024, .f32⟩
  | .hbm, ⟨3, _⟩ => ⟨S_, .f32⟩
  | .hbm, ⟨4, _⟩ => ⟨S1024x3072, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x3072, .f32⟩
  | .hbm, ⟨22, _⟩ => ⟨S8192x3072, .f32⟩
  | .hbm, ⟨23, _⟩ => ⟨S3072x1024, .f32⟩
  | .hbm, ⟨24, _⟩ => ⟨S1024x3072, .f32⟩
  | .hbm, ⟨25, _⟩ => ⟨S1024x8x384, .f32⟩
  | .hbm, ⟨26, _⟩ => ⟨S8x1024x384, .f32⟩
  | .hbm, ⟨27, _⟩ => ⟨S8x1024x384, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .hbm, ⟨3, _⟩ => ⟨S1x1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S8192x1024 : Shape := ⟨2, ![8192, 1024]⟩
abbrev S1024 : Shape := ⟨1, ![1024]⟩
abbrev S8x1024x384 : Shape := ⟨3, ![8, 1024, 384]⟩
abbrev S1x1024 : Shape := ⟨2, ![1, 1024]⟩
abbrev S1024x8192 : Shape := ⟨2, ![1024, 8192]⟩
abbrev S8192x3072 : Shape := ⟨2, ![8192, 3072]⟩
abbrev S512x1024 : Shape := ⟨2, ![512, 1024]⟩
abbrev S1024x512 : Shape := ⟨2, ![1024, 512]⟩
abbrev S512x3072 : Shape := ⟨2, ![512, 3072]⟩
abbrev S512 : Shape := ⟨1, ![512]⟩
abbrev S512x1 : Shape := ⟨2, ![512, 1]⟩
abbrev S1x1024x384 : Shape := ⟨3, ![1, 1024, 384]⟩
abbrev S1024x384 : Shape := ⟨2, ![1024, 384]⟩
abbrev S512x384 : Shape := ⟨2, ![512, 384]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x1024x384, .bf16⟩
  | .hbm, ⟨3, _⟩ => ⟨S1x1024, .f32⟩
  | .hbm, ⟨4, _⟩ => ⟨S1024x8192, .bf16⟩
  | .hbm, ⟨5, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x384, .bf16⟩
  | .local _ .vmem, ⟨4, _⟩ => ⟨S1024x512, .bf16⟩
  | .local _ .vmem, ⟨5, _⟩ => ⟨S1024x512, .bf16⟩
  | .local _ .vmem, ⟨6, _⟩ => ⟨S512x3072, .bf16⟩
  | .local _ .vmem, ⟨7, _⟩ => ⟨S512x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S8192x1024 : Shape := ⟨2, ![8192, 1024]⟩
abbrev S1024 : Shape := ⟨1, ![1024]⟩
abbrev S8x1024x384 : Shape := ⟨3, ![8, 1024, 384]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8192 : Shape := ⟨2, ![1024, 8192]⟩
abbrev S1024x8x384 : Shape := ⟨3, ![1024, 8, 384]⟩
abbrev S1024x3072 : Shape := ⟨2, ![1024, 3072]⟩
abbrev S8192x3072 : Shape := ⟨2, ![8192, 3072]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x1024x384, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x8192, .f32⟩
  | .hbm, ⟨20, _⟩ => ⟨S1024x8192, .bf16⟩
  | .hbm, ⟨21, _⟩ => ⟨S8x1024x384, .f32⟩
  | .hbm, ⟨22, _⟩ => ⟨S1024x8x384, .f32⟩
  | .hbm, ⟨23, _⟩ => ⟨S1024x3072, .f32⟩
  | .hbm, ⟨24, _⟩ => ⟨S8192x3072, .f32⟩
  | .hbm, ⟨25, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel16.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1x1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S1x1024x1024 : Shape := ⟨3, ![1, 1024, 1024]⟩
abbrev S8x1x8192 : Shape := ⟨3, ![8, 1, 8192]⟩
abbrev S8x1x1024 : Shape := ⟨3, ![8, 1, 1024]⟩
abbrev S1024x128 : Shape := ⟨2, ![1024, 128]⟩
abbrev S128x1024 : Shape := ⟨2, ![128, 1024]⟩
abbrev S1024 : Shape := ⟨1, ![1024]⟩
abbrev S1x1024 : Shape := ⟨2, ![1, 1024]⟩
abbrev S1x1x1024 : Shape := ⟨3, ![1, 1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S8192x1024, .bf16⟩
  | .hbm, ⟨4, _⟩ => ⟨S1x1024x1024, .bf16⟩
  | .hbm, ⟨5, _⟩ => ⟨S8192x1024, .f32⟩
  | .hbm, ⟨6, _⟩ => ⟨S8x1x8192, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x1x1024, .f32⟩
  | .local _ .vmem, ⟨8, _⟩ => ⟨S8x1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S8192x1024 : Shape := ⟨2, ![8192, 1024]⟩
abbrev S1024x1024 : Shape := ⟨2, ![1024, 1024]⟩
abbrev S8192x8x128 : Shape := ⟨3, ![8192, 8, 128]⟩
abbrev S_ : Shape := ⟨0, ![]⟩
abbrev S8192x8 : Shape := ⟨2, ![8192, 8]⟩
abbrev S8x8192 : Shape := ⟨2, ![8, 8192]⟩
abbrev S8x1x8192 : Shape := ⟨3, ![8, 1, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x8x128, .f32⟩
  | .hbm, ⟨8, _⟩ => ⟨S_, .f32⟩
  | .hbm, ⟨9, _⟩ => ⟨S8192x8, .f32⟩
  | .hbm, ⟨10, _⟩ => ⟨S8x8192, .f32⟩
  | .hbm, ⟨11, _⟩ => ⟨S8x1x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel18.lean ====
abbrev S8192x4096 : Shape := ⟨2, ![8192, 4096]⟩
abbrev S4096x1024 : Shape := ⟨2, ![4096, 1024]⟩
abbrev S8192x1024 : Shape := ⟨2, ![8192, 1024]⟩
abbrev S1x128 : Shape := ⟨2, ![1, 128]⟩
abbrev S512x4096 : Shape := ⟨2, ![512, 4096]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S1x128, .f32⟩
  | .hbm, ⟨5, _⟩ => ⟨S8192x1024, .f32⟩
  | .hbm, ⟨6, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_13 : BitVec 32 := 0#32
  let v20 : BitVec 1 := Scalar.cmpi .ne v19 c0_i32_13
  v20

def k0_cond2 (i : grid0.Coords) : BitVec 1 :=
  let arg0 : BitVec 32 := BitVec.ofNat 32 (i 0).val
  let c0_i32_14 : BitVec 32 := 0#32
  let v21 : BitVec 1 := Scalar.cmpi .ne arg0 c0_i32_14
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S8192 : Shape := ⟨1, ![8192]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S8192x4096, .f32⟩
  | .hbm, ⟨5, _⟩ => ⟨S4096x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S_, .f32⟩
  | .hbm, ⟨35, _⟩ => ⟨S1x128, .f32⟩
  | .hbm, ⟨36, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S8192x1024 : Shape := ⟨2, ![8192, 1024]⟩
abbrev S1024 : Shape := ⟨1, ![1024]⟩
abbrev S1024x512 : Shape := ⟨2, ![1024, 512]⟩
abbrev S1x1024x512 : Shape := ⟨3, ![1, 1024, 512]⟩
abbrev S1x1024 : Shape := ⟨2, ![1, 1024]⟩
abbrev S1024x8192 : Shape := ⟨2, ![1024, 8192]⟩
abbrev S8192x512 : Shape := ⟨2, ![8192, 512]⟩
abbrev S1024x1024 : Shape := ⟨2, ![1024, 1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x512, .bf16⟩
  | .hbm, ⟨3, _⟩ => ⟨S1x1024x512, .bf16⟩
  | .hbm, ⟨4, _⟩ => ⟨S1x1024, .f32⟩
  | .hbm, ⟨5, _⟩ => ⟨S1024x8192, .bf16⟩
  | .hbm, ⟨6, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .f32⟩
  | .local _ .vmem, ⟨7, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference19Ideal.lean ====
abbrev S8192x1024 : Shape := ⟨2, ![8192, 1024]⟩
abbrev S1024 : Shape := ⟨1, ![1024]⟩
abbrev S1024x512 : Shape := ⟨2, ![1024, 512]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8192 : Shape := ⟨2, ![1024, 8192]⟩
abbrev S8192x512 : Shape := ⟨2, ![8192, 512]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x512, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x8192, .f32⟩
  | .hbm, ⟨20, _⟩ => ⟨S1024x8192, .bf16⟩
  | .hbm, ⟨21, _⟩ => ⟨S1024x512, .f32⟩
  | .hbm, ⟨22, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.ConvSpec.lean ====
/-
  The gradient of the gated short convolution, written at an index: a causal filter of three taps on the product of
  two thirds of the input, the result multiplied by the first third. `Z` is the cotangent of the result, `A` the
  input (three thirds of 1024 columns), `W` the taps. The kernel and the reference are both shown to compute this.
-/
module

public import Idealize.ShloMosaic.Lib.Pointwise

@[expose] public section

noncomputable section

open Idealize.ShloMosaic

namespace ConvSpec

/-- The cotangent's array, the input's and the taps', by their sizes. -/
abbrev ZShape : Shape := ⟨2, ![8192, 1024]⟩
abbrev AShape : Shape := ⟨2, ![8192, 3072]⟩
abbrev WShape : Shape := ⟨2, ![3, 1024]⟩

/-- Row `k` of the filter's input with two rows of zeros in front: the product of the second and third thirds. -/
def gated (A : AShape.Idx → EReal) (k : ℕ) (q : Fin 1024) : EReal :=
  if h : 2 ≤ k ∧ k < 8194 then
    A (ix2 ⟨k - 2, by omega⟩ ⟨1024 + q.val, by omega⟩) * A (ix2 ⟨k - 2, by omega⟩ ⟨2048 + q.val, by omega⟩)
  else 0

/-- Row `k` of the filter's cotangent, zero from the last row on. -/
def cot (Z : ZShape.Idx → EReal) (A : AShape.Idx → EReal) (k : ℕ) (q : Fin 1024) : EReal :=
  if h : k < 8192 then Z (ix2 ⟨k, h⟩ q) * A (ix2 ⟨k, h⟩ ⟨q.val, by omega⟩) else 0

/-- The filter's result at row `r`. -/
def filtered (A : AShape.Idx → EReal) (W : WShape.Idx → EReal) (r : ℕ) (q : Fin 1024) : EReal :=
  W (ix2 2 q) * gated A (r + 2) q + W (ix2 1 q) * gated A (r + 1) q + W (ix2 0 q) * gated A r q

/-- The gradient of the filter's input at row `r`. -/
def back (Z : ZShape.Idx → EReal) (A : AShape.Idx → EReal) (W : WShape.Idx → EReal) (r : ℕ) (q : Fin 1024) : EReal :=
  W (ix2 2 q) * cot Z A r q + W (ix2 1 q) * cot Z A (r + 1) q + W (ix2 0 q) * cot Z A (r + 2) q

/-- The gradient of the input at row `r` and column `k`, its three thirds side by side. -/
def dinputAt (Z : ZShape.Idx → EReal) (A : AShape.Idx → EReal) (W : WShape.Idx → EReal) (r : Fin 8192) (k : Fin 3072) : EReal :=
  if h : k.val < 1024 then Z (ix2 r ⟨k.val, h⟩) * filtered A W r.val ⟨k.val, h⟩
  else if h' : k.val < 2048 then
    back Z A W r.val ⟨k.val - 1024, by omega⟩ * A (ix2 r ⟨2048 + (k.val - 1024), by omega⟩)
  else
    back Z A W r.val ⟨k.val - 2048, by omega⟩ * A (ix2 r ⟨1024 + (k.val - 2048), by omega⟩)

/-- The gradient of the input. -/
def dinput (Z : ZShape.Idx → EReal) (A : AShape.Idx → EReal) (W : WShape.Idx → EReal) (i : AShape.Idx) : EReal :=
  dinputAt Z A W (i 0) (i 1)

/-- The gradient of the taps: tap `k` meets the cotangent of row `r` at row `r + k` of the padded input. -/
def dtaps (Z : ZShape.Idx → EReal) (A : AShape.Idx → EReal) (i : WShape.Idx) : EReal :=
  ∑ r : Fin 8192, cot Z A r.val (i 1) * gated A (r.val + (i 0).val) (i 1)

end ConvSpec

end
-- ==== Proof.ConvBlock.lean ====
/-
  What one grid point of the convolution's gradient kernel leaves in its two output blocks, read at an index: rows
  `1024 t …` of the gradient of the input, and the rows' share of the gradient of the taps.
-/
module

public import proofs.«01_k».proof.Proof.Gen.KernelIdeal.Value
public import proofs.«01_k».proof.Proof.ConvSpec
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Idealize.ShloMosaic.Pipeline (Dat)
open Idealize.ShloMosaic.WordCmp (cmpi_slt_ofNat cmpi_sge_ofNat cmpi_eq_ofNat)

namespace Cert.KernelIdeal.Conv

open Cert.KernelIdeal Cert.KernelIdeal.Gen ConvSpec

/-- A value masked to zero on the rows below `b` at the first grid point. -/
theorem select_first (j b t : ℕ) (hj : j < 2 ^ 31) (hb : b < 2 ^ 31) (ht : t < 2 ^ 32) (x : EReal) :
    Scalar.select (IntOp.andi (IntOp.cmpi .slt (BitVec.ofNat 32 j) (BitVec.ofNat 32 b))
      (Scalar.cmpi .eq (BitVec.ofNat 32 t) 0#32)) 0 x = if j < b ∧ t = 0 then 0 else x := by
  unfold Scalar.cmpi
  rw [cmpi_slt_ofNat hj hb, cmpi_eq_ofNat ht (by decide)]
  by_cases h1 : j < b <;> by_cases h2 : t = 0 <;> simp [h1, h2, Scalar.select, IntOp.andi]

/-- A value masked to zero on the rows from `b` on at grid point `e`. -/
theorem select_last (j b t e : ℕ) (hj : j < 2 ^ 31) (hb : b < 2 ^ 31) (ht : t < 2 ^ 32) (he : e < 2 ^ 32) (x : EReal) :
    Scalar.select (IntOp.andi (IntOp.cmpi .sge (BitVec.ofNat 32 j) (BitVec.ofNat 32 b))
      (Scalar.cmpi .eq (BitVec.ofNat 32 t) (BitVec.ofNat 32 e))) 0 x = if b ≤ j ∧ t = e then 0 else x := by
  unfold Scalar.cmpi
  rw [cmpi_sge_ofNat hj hb, cmpi_eq_ofNat ht he]
  by_cases h1 : b ≤ j <;> by_cases h2 : t = e <;> simp [h1, h2, Scalar.select, IntOp.andi]

variable (m : (ℓ : Loc nD τ sig) → Buf (Elt Ideal) ℓ)

/-- The three arguments of the call on device `c`. -/
abbrev Z (c : Dev nD) : ZShape.Idx → EReal := m ((c : Thread nD τ).loc main_arg0)
abbrev A (c : Dev nD) : AShape.Idx → EReal := m ((c : Thread nD τ).loc main_arg1)
abbrev W (c : Dev nD) : WShape.Idx → EReal := m ((c : Thread nD τ).loc main_arg2)

theorem coord_eq : ∀ t : Fin grid0.N, (grid0.coords t 0).val = t.val := by decide +kernel

theorem idx0 : ∀ t : Fin grid0.N, win0_0.index t 0 = t.val ∧ win0_0.index t 1 = 0 := by decide +kernel
theorem idx1 : ∀ t : Fin grid0.N, win0_1.index t 0 = min ((t.val + 1) * 64) 511 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = min ((t.val + 1) * 64) 511 ∧ win0_3.index t 1 = 0 := by decide +kernel
theorem idx4 : ∀ t : Fin grid0.N, win0_4.index t 0 = t.val ∧ win0_4.index t 1 = 1 := by decide +kernel
theorem idx5 : ∀ t : Fin grid0.N, win0_5.index t 0 = t.val ∧ win0_5.index t 1 = 2 := by decide +kernel
theorem idx6 : ∀ t : Fin grid0.N, win0_6.index t 0 = t.val * 64 - 1 ∧ win0_6.index t 1 = 1 := by decide +kernel
theorem idx7 : ∀ t : Fin grid0.N, win0_7.index t 0 = t.val * 64 - 1 ∧ win0_7.index t 1 = 2 := by decide +kernel
theorem idx8 : ∀ t : Fin grid0.N, win0_8.index t 0 = 0 ∧ win0_8.index t 1 = 0 := by decide +kernel
theorem idx9 : ∀ t : Fin grid0.N, win0_9.index t 0 = t.val ∧ win0_9.index t 1 = 0 := by decide +kernel
theorem idx10 : ∀ t : Fin grid0.N, win0_10.index t 0 = 0 ∧ win0_10.index t 1 = 0 := by decide +kernel

theorem blk0 (c : Dev nD) (t : Fin cfg0.N) (p q : Fin 1024) (r : Fin 8192) (hr : r.val = 1024 * t.val + p.val) :
    (iblk m c 0 t : S1024x1024.Idx → EReal) (ix2 p q) = Z m c (ix2 r q) := by
  unfold iblk
  rw [View.read_apply]
  show V m c main_arg0 _ = m (c.tc.loc main_arg0) _
  unfold V
  congr 1
  funext a
  apply Fin.ext
  match a with
  | ⟨0, _⟩ => show win0_0.index t 0 * 1024 + 1 * p.val = r.val; rw [(idx0 t).1]; omega
  | ⟨1, _⟩ => show win0_0.index t 1 * 1024 + 1 * q.val = q.val; rw [(idx0 t).2]; omega

theorem blk1 (c : Dev nD) (t : Fin cfg0.N) (p : Fin 16) (q : Fin 1024) (r : Fin 8192)
    (hr : r.val = 16 * min ((t.val + 1) * 64) 511 + p.val) :
    (iblk m c 1 t : S16x1024.Idx → EReal) (ix2 p q) = Z m c (ix2 r q) := by
  unfold iblk
  rw [View.read_apply]
  show V m c main_arg0 _ = m (c.tc.loc main_arg0) _
  unfold V
  congr 1
  funext a
  apply Fin.ext
  match a with
  | ⟨0, _⟩ => show win0_1.index t 0 * 16 + 1 * p.val = r.val; rw [(idx1 t).1]; omega
  | ⟨1, _⟩ => show win0_1.index t 1 * 1024 + 1 * q.val = q.val; rw [(idx1 t).2]; omega

theorem blk2 (c : Dev nD) (t : Fin cfg0.N) (p q : Fin 1024) (r : Fin 8192) (k : Fin 3072) (hr : r.val = 1024 * t.val + p.val) (hk : k.val = q.val) :
    (iblk m c 2 t : S1024x1024.Idx → EReal) (ix2 p q) = A m c (ix2 r k) := by
  unfold iblk
  rw [View.read_apply]
  show V m c main_arg1 _ = m (c.tc.loc main_arg1) _
  unfold V
  congr 1
  funext a
  apply Fin.ext
  match a with
  | ⟨0, _⟩ => show win0_2.index t 0 * 1024 + 1 * p.val = r.val; rw [(idx2 t).1]; omega
  | ⟨1, _⟩ => show win0_2.index t 1 * 1024 + 1 * q.val = k.val; rw [(idx2 t).2]; omega

theorem blk3 (c : Dev nD) (t : Fin cfg0.N) (p : Fin 16) (q : Fin 1024) (r : Fin 8192) (k : Fin 3072)
    (hr : r.val = 16 * min ((t.val + 1) * 64) 511 + p.val) (hk : k.val = q.val) :
    (iblk m c 3 t : S16x1024.Idx → EReal) (ix2 p q) = A m c (ix2 r k) := by
  unfold iblk
  rw [View.read_apply]
  show V m c main_arg1 _ = m (c.tc.loc main_arg1) _
  unfold V
  congr 1
  funext a
  apply Fin.ext
  match a with
  | ⟨0, _⟩ => show win0_3.index t 0 * 16 + 1 * p.val = r.val; rw [(idx3 t).1]; omega
  | ⟨1, _⟩ => show win0_3.index t 1 * 1024 + 1 * q.val = k.val; rw [(idx3 t).2]; omega

theorem blk4 (c : Dev nD) (t : Fin cfg0.N) (p q : Fin 1024) (r : Fin 8192) (k : Fin 3072) (hr : r.val = 1024 * t.val + p.val) (hk : k.val = 1024 + q.val) :
    (iblk m c 4 t : S1024x1024.Idx → EReal) (ix2 p q) = A m c (ix2 r k) := by
  unfold iblk
  rw [View.read_apply]
  show V m c main_arg1 _ = m (c.tc.loc main_arg1) _
  unfold V
  congr 1
  funext a
  apply Fin.ext
  match a with
  | ⟨0, _⟩ => show win0_4.index t 0 * 1024 + 1 * p.val = r.val; rw [(idx4 t).1]; omega
  | ⟨1, _⟩ => show win0_4.index t 1 * 1024 + 1 * q.val = k.val; rw [(idx4 t).2]; omega

theorem blk5 (c : Dev nD) (t : Fin cfg0.N) (p q : Fin 1024) (r : Fin 8192) (k : Fin 3072) (hr : r.val = 1024 * t.val + p.val) (hk : k.val = 2048 + q.val) :
    (iblk m c 5 t : S1024x1024.Idx → EReal) (ix2 p q) = A m c (ix2 r k) := by
  unfold iblk
  rw [View.read_apply]
  show V m c main_arg1 _ = m (c.tc.loc main_arg1) _
  unfold V
  congr 1
  funext a
  apply Fin.ext
  match a with
  | ⟨0, _⟩ => show win0_5.index t 0 * 1024 + 1 * p.val = r.val; rw [(idx5 t).1]; omega
  | ⟨1, _⟩ => show win0_5.index t 1 * 1024 + 1 * q.val = k.val; rw [(idx5 t).2]; omega

theorem blk6 (c : Dev nD) (t : Fin cfg0.N) (p : Fin 16) (q : Fin 1024) (r : Fin 8192) (k : Fin 3072)
    (hr : r.val = 16 * (t.val * 64 - 1) + p.val) (hk : k.val = 1024 + q.val) :
    (iblk m c 6 t : S16x1024.Idx → EReal) (ix2 p q) = A m c (ix2 r k) := by
  unfold iblk
  rw [View.read_apply]
  show V m c main_arg1 _ = m (c.tc.loc main_arg1) _
  unfold V
  congr 1
  funext a
  apply Fin.ext
  match a with
  | ⟨0, _⟩ => show win0_6.index t 0 * 16 + 1 * p.val = r.val; rw [(idx6 t).1]; omega
  | ⟨1, _⟩ => show win0_6.index t 1 * 1024 + 1 * q.val = k.val; rw [(idx6 t).2]; omega

theorem blk7 (c : Dev nD) (t : Fin cfg0.N) (p : Fin 16) (q : Fin 1024) (r : Fin 8192) (k : Fin 3072)
    (hr : r.val = 16 * (t.val * 64 - 1) + p.val) (hk : k.val = 2048 + q.val) :
    (iblk m c 7 t : S16x1024.Idx → EReal) (ix2 p q) = A m c (ix2 r k) := by
  unfold iblk
  rw [View.read_apply]
  show V m c main_arg1 _ = m (c.tc.loc main_arg1) _
  unfold V
  congr 1
  funext a
  apply Fin.ext
  match a with
  | ⟨0, _⟩ => show win0_7.index t 0 * 16 + 1 * p.val = r.val; rw [(idx7 t).1]; omega
  | ⟨1, _⟩ => show win0_7.index t 1 * 1024 + 1 * q.val = k.val; rw [(idx7 t).2]; omega

theorem blk8 (c : Dev nD) (t : Fin cfg0.N) (p : Fin 3) (q : Fin 1024) :
    (iblk m c 8 t : S3x1024.Idx → EReal) (ix2 p q) = W m c (ix2 p q) := by
  unfold iblk
  rw [View.read_apply]
  show V m c main_arg2 _ = m (c.tc.loc main_arg2) _
  unfold V
  congr 1
  funext a
  apply Fin.ext
  match a with
  | ⟨0, _⟩ => show win0_8.index t 0 * 3 + 1 * p.val = p.val; rw [(idx8 t).1]; omega
  | ⟨1, _⟩ => show win0_8.index t 1 * 1024 + 1 * q.val = q.val; rw [(idx8 t).2]; omega

/-- The rows the kernel puts before its block, then the block: from row 14 on they are rows of the padded input. -/
theorem pay10_apply (c : Dev nD) (t : Fin cfg0.N) (j : Fin 1040) (q : Fin 1024) (k : ℕ) (hj : 14 ≤ j.val)
    (hk : k + 14 = 1024 * t.val + j.val) :
    k0_pay10 (F := Ideal) (grid0.coords t) (iblk m c 4 t) (iblk m c 5 t) (iblk m c 6 t) (iblk m c 7 t) (ix2 j q)
      = gated (A m c) k q := by
  have hN : t.val < 8 := lt_of_lt_of_eq t.isLt (show cfg0.N = 8 from N_0)
  have hc : (grid0.coords t 0).val = t.val := coord_eq t
  have hj' := j.isLt
  pointwise [k0_pay10, k0_pay8, k0_pay9]
  rw [hc]
  rw [select_first j.val 16 t.val (by omega) (by decide) (by omega)]
  unfold gated
  by_cases h16 : j.val < 16
  · by_cases h0 : t.val = 0
    · rw [if_pos ⟨h16, h0⟩, dif_neg (by omega)]
    · rw [if_neg (by omega), dif_pos h16, dif_pos h16, dif_pos (by omega),
        blk6 m c t _ _ ⟨k - 2, by omega⟩ ⟨1024 + q.val, by omega⟩ (by simp only; omega) rfl,
        blk7 m c t _ _ ⟨k - 2, by omega⟩ ⟨2048 + q.val, by omega⟩ (by simp only; omega) rfl]
  · rw [if_neg (by omega), dif_neg h16, dif_neg h16, dif_pos (by omega),
        blk4 m c t _ _ ⟨k - 2, by omega⟩ ⟨1024 + q.val, by omega⟩ (by simp only; omega) rfl,
        blk5 m c t _ _ ⟨k - 2, by omega⟩ ⟨2048 + q.val, by omega⟩ (by simp only; omega) rfl]

/-- The block's rows of the filter's cotangent, then the rows after the block. -/
theorem pay15_apply (c : Dev nD) (t : Fin cfg0.N) (j : Fin 1040) (q : Fin 1024) (k : ℕ)
    (hk : k = 1024 * t.val + j.val) :
    k0_pay15 (F := Ideal) (BitVec.ofNat 32 (grid0.coords t 0).val) (k0_pay14 (iblk m c 0 t) (iblk m c 2 t))
        (iblk m c 1 t) (iblk m c 3 t) (ix2 j q)
      = cot (Z m c) (A m c) k q := by
  have hN : t.val < 8 := lt_of_lt_of_eq t.isLt (show cfg0.N = 8 from N_0)
  have hc : (grid0.coords t 0).val = t.val := coord_eq t
  have hj' := j.isLt
  pointwise [k0_pay15, k0_pay14]
  rw [hc]
  rw [select_last j.val 1024 t.val 7 (by omega) (by decide) (by omega) (by decide)]
  unfold cot
  by_cases h16 : j.val < 1024
  · rw [if_neg (by omega), dif_pos h16, dif_pos (by omega),
        blk0 m c t _ _ ⟨k, by omega⟩ (by simp only; omega),
        blk2 m c t _ _ ⟨k, by omega⟩ ⟨q.val, by omega⟩ (by simp only; omega) rfl]
  · by_cases h0 : t.val = 7
    · rw [if_pos ⟨by omega, h0⟩, dif_neg (by omega)]
    · rw [if_neg (by omega), dif_neg h16, dif_pos (by omega),
        blk1 m c t _ _ ⟨k, by omega⟩ (by simp only; omega),
        blk3 m c t _ _ ⟨k, by omega⟩ ⟨q.val, by omega⟩ (by simp only; omega) rfl]

/-! ## The two blocks a point leaves -/

theorem hz : (![0, 0] : Fin 2 → Nat) = fun _ => 0 := funext fun a => by fin_cases a <;> rfl

/-- The input's gradient in the rows of point `t`. -/
abbrev rows (c : Dev nD) (t : Fin cfg0.N) : S1024x3072.Idx → EReal := fun i =>
  dinput (Z m c) (A m c) (W m c) (ix2 ⟨1024 * t.val + (i 0).val, by
    have hN : t.val < 8 := lt_of_lt_of_eq t.isLt (show cfg0.N = 8 from N_0)
    have h0 : (i 0).val < 1024 := (i 0).isLt
    omega⟩ (i 1))

/-- The taps' gradient gathered from the rows of point `t`. -/
abbrev share (c : Dev nD) (t : ℕ) : S3x1024.Idx → EReal := fun i =>
  ∑ r : Fin 1024, cot (Z m c) (A m c) (1024 * t + r.val) (i 1) * gated (A m c) (1024 * t + r.val + (i 0).val) (i 1)

/-- The kernel's filtered rows. -/
theorem pay13_apply (c : Dev nD) (t : Fin cfg0.N) (p q : Fin 1024) :
    k0_pay13 (F := Ideal) (grid0.coords t) (iblk m c 4 t) (iblk m c 5 t) (iblk m c 6 t) (iblk m c 7 t)
        (View.ld (iblk m c 8 t) (Rect.unit ![2, 0] ![1, 1024] inb_S3x1024_S1x1024_2_0))
        (View.ld (iblk m c 8 t) (Rect.unit ![1, 0] ![1, 1024] inb_S3x1024_S1x1024_1_0))
        (View.ld (iblk m c 8 t) (Rect.unit ![0, 0] ![1, 1024] inb_S3x1024_S1x1024_0_0)) (ix2 ⟨16 + p.val, by omega⟩ q)
      = filtered (A m c) (W m c) (1024 * t.val + p.val) q := by
  have hN : t.val < 8 := lt_of_lt_of_eq t.isLt (show cfg0.N = 8 from N_0)
  pointwise [k0_pay13, k0_pay11, k0_pay12]
  rw [pay10_apply m c t _ q (1024 * t.val + p.val + 2) (by simp only; omega) (by simp only; omega),
    pay10_apply m c t _ q (1024 * t.val + p.val + 1) (by simp only; omega) (by simp only; omega),
    pay10_apply m c t _ q (1024 * t.val + p.val) (by simp only; omega) (by simp only; omega), blk8, blk8, blk8]
  rfl

/-- The kernel's gradient of the filter's input. -/
theorem pay16_apply (c : Dev nD) (t : Fin cfg0.N) (p q : Fin 1024) :
    k0_pay16 (F := Ideal) (BitVec.ofNat 32 (grid0.coords t 0).val) (k0_pay14 (iblk m c 0 t) (iblk m c 2 t)) (iblk m c 1 t) (iblk m c 3 t)
        (View.ld (iblk m c 8 t) (Rect.unit ![2, 0] ![1, 1024] inb_S3x1024_S1x1024_2_0))
        (View.ld (iblk m c 8 t) (Rect.unit ![1, 0] ![1, 1024] inb_S3x1024_S1x1024_1_0))
        (View.ld (iblk m c 8 t) (Rect.unit ![0, 0] ![1, 1024] inb_S3x1024_S1x1024_0_0)) (ix2 p q)
      = back (Z m c) (A m c) (W m c) (1024 * t.val + p.val) q := by
  have hN : t.val < 8 := lt_of_lt_of_eq t.isLt (show cfg0.N = 8 from N_0)
  pointwise [k0_pay16]
  rw [pay15_apply m c t _ q (1024 * t.val + p.val) (by simp only),
    pay15_apply m c t _ q (1024 * t.val + p.val + 1) (by simp only; omega),
    pay15_apply m c t _ q (1024 * t.val + p.val + 2) (by simp only; omega), blk8, blk8, blk8]
  rfl

/-- The three stores of a point into the input's gradient, each a third of the rows. -/
theorem pieces (c : Dev nD) (t : Fin cfg0.N) : ∀ p ∈ ([
    ⟨Rect.unit ![0, 2048] ![1024, 1024] inb_S1024x3072_S1024x1024_0_2048,
      k0_pay19 (BitVec.ofNat 32 (grid0.coords t 0).val) (k0_pay8 (iblk m c 4 t)) (k0_pay14 (iblk m c 0 t) (iblk m c 2 t)) (iblk m c 1 t) (iblk m c 3 t)
        (View.ld (iblk m c 8 t) (Rect.unit ![2, 0] ![1, 1024] inb_S3x1024_S1x1024_2_0))
        (View.ld (iblk m c 8 t) (Rect.unit ![1, 0] ![1, 1024] inb_S3x1024_S1x1024_1_0))
        (View.ld (iblk m c 8 t) (Rect.unit ![0, 0] ![1, 1024] inb_S3x1024_S1x1024_0_0))⟩,
    ⟨Rect.unit ![0, 1024] ![1024, 1024] inb_S1024x3072_S1024x1024_0_1024,
      k0_pay18 (BitVec.ofNat 32 (grid0.coords t 0).val) (k0_pay9 (iblk m c 5 t)) (k0_pay14 (iblk m c 0 t) (iblk m c 2 t)) (iblk m c 1 t) (iblk m c 3 t)
        (View.ld (iblk m c 8 t) (Rect.unit ![2, 0] ![1, 1024] inb_S3x1024_S1x1024_2_0))
        (View.ld (iblk m c 8 t) (Rect.unit ![1, 0] ![1, 1024] inb_S3x1024_S1x1024_1_0))
        (View.ld (iblk m c 8 t) (Rect.unit ![0, 0] ![1, 1024] inb_S3x1024_S1x1024_0_0))⟩,
    ⟨Rect.unit ![0, 0] ![1024, 1024] inb_S1024x3072_S1024x1024_0_0,
      k0_pay17 (k0_pay13 (F := Ideal) (grid0.coords t) (iblk m c 4 t) (iblk m c 5 t) (iblk m c 6 t) (iblk m c 7 t)
        (View.ld (iblk m c 8 t) (Rect.unit ![2, 0] ![1, 1024] inb_S3x1024_S1x1024_2_0))
        (View.ld (iblk m c 8 t) (Rect.unit ![1, 0] ![1, 1024] inb_S3x1024_S1x1024_1_0))
        (View.ld (iblk m c 8 t) (Rect.unit ![0, 0] ![1, 1024] inb_S3x1024_S1x1024_0_0))) (iblk m c 0 t)⟩]
      : List (View.Piece (Elt Ideal) S1024x3072 .bf16)), ∀ x : p.1.shape.Idx, p.2 x = rows m c t (p.1.emb x) := by
  have hN : t.val < 8 := lt_of_lt_of_eq t.isLt (show cfg0.N = 8 from N_0)
  intro p hp
  simp only [List.mem_cons, List.not_mem_nil, or_false] at hp
  rcases hp with rfl | rfl | rfl
  · intro x
    obtain ⟨p, q, rfl⟩ : ∃ (p q : Fin 1024), x = ix2 p q := ⟨x 0, x 1, eq_ix2 x⟩
    show _ = dinputAt (Z m c) (A m c) (W m c) ⟨1024 * t.val + (0 + 1 * p.val), by omega⟩ ⟨2048 + 1 * q.val, by omega⟩
    pointwise [k0_pay19, k0_pay8]
    rw [pay16_apply]
    unfold dinputAt
    rw [dif_neg (by simp only; omega), dif_neg (by simp only; omega), blk4 m c t p q ⟨1024 * t.val + p.val, by omega⟩ ⟨1024 + q.val, by omega⟩ rfl rfl]
    simp only [Nat.zero_add, Nat.one_mul, Nat.add_sub_cancel_left]
  · intro x
    obtain ⟨p, q, rfl⟩ : ∃ (p q : Fin 1024), x = ix2 p q := ⟨x 0, x 1, eq_ix2 x⟩
    show _ = dinputAt (Z m c) (A m c) (W m c) ⟨1024 * t.val + (0 + 1 * p.val), by omega⟩ ⟨1024 + 1 * q.val, by omega⟩
    pointwise [k0_pay18, k0_pay9]
    rw [pay16_apply]
    unfold dinputAt
    rw [dif_neg (by simp only; omega), dif_pos (by simp only; omega), blk5 m c t p q ⟨1024 * t.val + p.val, by omega⟩ ⟨2048 + q.val, by omega⟩ rfl rfl]
    simp only [Nat.zero_add, Nat.one_mul, Nat.add_sub_cancel_left]
  · intro x
    obtain ⟨p, q, rfl⟩ : ∃ (p q : Fin 1024), x = ix2 p q := ⟨x 0, x 1, eq_ix2 x⟩
    show _ = dinputAt (Z m c) (A m c) (W m c) ⟨1024 * t.val + (0 + 1 * p.val), by omega⟩ ⟨0 + 1 * q.val, by omega⟩
    pointwise [k0_pay17]
    rw [pay13_apply]
    unfold dinputAt
    rw [dif_pos (by simp only; omega), blk0 m c t p q ⟨1024 * t.val + p.val, by omega⟩ rfl]

theorem out_A (c : Dev nD) (t : Fin cfg0.N) (h0 : t.val % 8 = 0) (h1 : ¬1 ≤ t.val) : (outsAt0 m c t.val t.isLt).1 = rows m c t := by
  rw [outsAt0_A m c t h0 h1]
  dsimp only
  unfold out0_A_9
  rw [View.read_writes_eq_canon _ _ _ (fun y => cover0_A_9 ..)]
  funext y
  refine View.canon_apply_of_pieces (Val := Elt Ideal) (e := .bf16) (rows m c t) _ ?_ y (cover0_A_9 ..)
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S1024x1024) hz, View.ld_unit_zero (S := S16x1024) hz]
  exact pieces m c t

theorem out_B (c : Dev nD) (t : Fin cfg0.N) (h0 : ¬t.val % 8 = 0) (h1 : 1 ≤ t.val) : (outsAt0 m c t.val t.isLt).1 = rows m c t := by
  rw [outsAt0_B m c t h0 h1]
  dsimp only
  unfold out0_B_9
  rw [View.read_writes_eq_canon _ _ _ (fun y => cover0_B_9 ..)]
  funext y
  refine View.canon_apply_of_pieces (Val := Elt Ideal) (e := .bf16) (rows m c t) _ ?_ y (cover0_B_9 ..)
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S1024x1024) hz, View.ld_unit_zero (S := S16x1024) hz]
  exact pieces m c t

/-- A tap's share of the point: the product of the cotangent's rows and the padded input's, added over the block. -/
theorem tap_apply (c : Dev nD) (t : Fin cfg0.N) (q : Fin 1024) (k : ℕ) (v : S1040x1024.Idx → EReal) (hk : k < 3)
    (hv : ∀ r : Fin 1024, v (ix2 ⟨16 + r.val, by omega⟩ q) = gated (A m c) (1024 * t.val + r.val + k) q) :
    (∑ r : Fin 1024, (k0_pay15 (F := Ideal) (BitVec.ofNat 32 (grid0.coords t 0).val) (k0_pay14 (iblk m c 0 t) (iblk m c 2 t))
        (iblk m c 1 t) (iblk m c 3 t) : S1040x1024.Idx → EReal) (ix2 ⟨r.val, by omega⟩ q) * v (ix2 ⟨16 + r.val, by omega⟩ q))
      = share m c t.val (ix2 ⟨k, hk⟩ q) := by
  refine Finset.sum_congr rfl fun r _ => ?_
  rw [hv, pay15_apply m c t _ q (1024 * t.val + r.val) rfl]
  rfl

theorem tap2 (c : Dev nD) (t : Fin cfg0.N) (q : Fin 1024) (r : Fin 1024) :
    k0_pay10 (F := Ideal) (grid0.coords t) (iblk m c 4 t) (iblk m c 5 t) (iblk m c 6 t) (iblk m c 7 t) (ix2 ⟨16 + r.val, by omega⟩ q)
      = gated (A m c) (1024 * t.val + r.val + 2) q :=
  pay10_apply m c t _ q _ (by simp only; omega) (by simp only; omega)

theorem idx_row2 (q : Fin 1024) : (Rect.unit (s := S3x1024) ![2, 0] ![1, 1024] inb_S3x1024_S1x1024_2_0).emb (ix2 (0 : Fin 1) q)
    = ix2 (⟨2, by decide⟩ : Fin 3) q := by
  funext a
  apply Fin.ext
  match a with
  | ⟨0, _⟩ => rfl
  | ⟨1, _⟩ => show 0 + 1 * q.val = q.val; omega

theorem tap1 (c : Dev nD) (t : Fin cfg0.N) (q : Fin 1024) (r : Fin 1024) :
    k0_pay11 (F := Ideal) (grid0.coords t) (iblk m c 4 t) (iblk m c 5 t) (iblk m c 6 t) (iblk m c 7 t) (ix2 ⟨16 + r.val, by omega⟩ q)
      = gated (A m c) (1024 * t.val + r.val + 1) q :=
  by
    pointwise [k0_pay11]
    exact pay10_apply m c t _ q _ (by simp only; omega) (by simp only; omega)

theorem idx_row1 (q : Fin 1024) : (Rect.unit (s := S3x1024) ![1, 0] ![1, 1024] inb_S3x1024_S1x1024_1_0).emb (ix2 (0 : Fin 1) q)
    = ix2 (⟨1, by decide⟩ : Fin 3) q := by
  funext a
  apply Fin.ext
  match a with
  | ⟨0, _⟩ => rfl
  | ⟨1, _⟩ => show 0 + 1 * q.val = q.val; omega

theorem tap0 (c : Dev nD) (t : Fin cfg0.N) (q : Fin 1024) (r : Fin 1024) :
    k0_pay12 (F := Ideal) (grid0.coords t) (iblk m c 4 t) (iblk m c 5 t) (iblk m c 6 t) (iblk m c 7 t) (ix2 ⟨16 + r.val, by omega⟩ q)
      = gated (A m c) (1024 * t.val + r.val + 0) q :=
  by
    pointwise [k0_pay12]
    exact pay10_apply m c t _ q _ (by simp only; omega) (by simp only; omega)

theorem idx_row0 (q : Fin 1024) : (Rect.unit (s := S3x1024) ![0, 0] ![1, 1024] inb_S3x1024_S1x1024_0_0).emb (ix2 (0 : Fin 1) q)
    = ix2 (⟨0, by decide⟩ : Fin 3) q := by
  funext a
  apply Fin.ext
  match a with
  | ⟨0, _⟩ => rfl
  | ⟨1, _⟩ => show 0 + 1 * q.val = q.val; omega

/-- The taps' gradient after point `t`, over what the point before left. -/
abbrev next (c : Dev nD) (t : Fin cfg0.N) : S3x1024.Idx → EReal := fun i =>
  ((outsAt0 m c (t.val - 1) (Nat.lt_of_le_of_lt (Nat.sub_le _ _) t.isLt)).2 : S3x1024.Idx → EReal) i + share m c t.val i

theorem taps_A (c : Dev nD) (t : Fin cfg0.N) (h0 : t.val % 8 = 0) (h1 : ¬1 ≤ t.val) : (outsAt0 m c t.val t.isLt).2 = (share m c t.val) := by
  rw [outsAt0_A m c t h0 h1]
  dsimp only
  unfold out0_A_10
  rw [View.read_writes_eq_canon _ _ _ (fun y => cover0_A_10 ..)]
  funext y
  refine View.canon_apply_of_pieces (Val := Elt Ideal) (e := .f32) (share m c t.val) _ ?_ y (cover0_A_10 ..)
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread,
    View.ld_unit_zero (S := S1024x1024) hz, View.ld_unit_zero (S := S16x1024) hz]
  intro p hp
  simp only [List.mem_cons, List.not_mem_nil, or_false] at hp
  rcases hp with rfl | rfl | rfl
  · intro x
    obtain ⟨p, q, rfl⟩ : ∃ (p : Fin 1) (q : Fin 1024), x = ix2 p q := ⟨x 0, x 1, eq_ix2 x⟩
    obtain rfl : p = 0 := Subsingleton.elim _ _
    pointwise [k0_pay4, k0_pay1]
    refine (tap_apply m c t q 2 (k0_pay10 (F := Ideal) (grid0.coords t) (iblk m c 4 t) (iblk m c 5 t) (iblk m c 6 t) (iblk m c 7 t)) (by decide) (tap2 m c t q)).trans ?_
    exact congrArg (share m c t.val) (idx_row2 q).symm
  · intro x
    obtain ⟨p, q, rfl⟩ : ∃ (p : Fin 1) (q : Fin 1024), x = ix2 p q := ⟨x 0, x 1, eq_ix2 x⟩
    obtain rfl : p = 0 := Subsingleton.elim _ _
    pointwise [k0_pay3, k0_pay1]
    refine (tap_apply m c t q 1 (k0_pay11 (F := Ideal) (grid0.coords t) (iblk m c 4 t) (iblk m c 5 t) (iblk m c 6 t) (iblk m c 7 t)) (by decide) (tap1 m c t q)).trans ?_
    exact congrArg (share m c t.val) (idx_row1 q).symm
  · intro x
    obtain ⟨p, q, rfl⟩ : ∃ (p : Fin 1) (q : Fin 1024), x = ix2 p q := ⟨x 0, x 1, eq_ix2 x⟩
    obtain rfl : p = 0 := Subsingleton.elim _ _
    pointwise [k0_pay2, k0_pay1]
    refine (tap_apply m c t q 0 (k0_pay12 (F := Ideal) (grid0.coords t) (iblk m c 4 t) (iblk m c 5 t) (iblk m c 6 t) (iblk m c 7 t)) (by decide) (tap0 m c t q)).trans ?_
    exact congrArg (share m c t.val) (idx_row0 q).symm

theorem taps_B (c : Dev nD) (t : Fin cfg0.N) (h0 : ¬t.val % 8 = 0) (h1 : 1 ≤ t.val) : (outsAt0 m c t.val t.isLt).2 = (next m c t) := by
  rw [outsAt0_B m c t h0 h1]
  dsimp only
  unfold out0_B_10
  rw [View.read_writes_eq_canon _ _ _ (fun y => cover0_B_10 ..)]
  funext y
  refine View.canon_apply_of_pieces (Val := Elt Ideal) (e := .f32) (next m c t) _ ?_ y (cover0_B_10 ..)
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread,
    View.ld_unit_zero (S := S1024x1024) hz, View.ld_unit_zero (S := S16x1024) hz]
  intro p hp
  simp only [List.mem_cons, List.not_mem_nil, or_false] at hp
  rcases hp with rfl | rfl | rfl
  · intro x
    obtain ⟨p, q, rfl⟩ : ∃ (p : Fin 1) (q : Fin 1024), x = ix2 p q := ⟨x 0, x 1, eq_ix2 x⟩
    obtain rfl : p = 0 := Subsingleton.elim _ _
    pointwise [k0_pay7, k0_pay4, k0_pay1]
    refine (congrArg (fun x => _ + x) (tap_apply m c t q 2 (k0_pay10 (F := Ideal) (grid0.coords t) (iblk m c 4 t) (iblk m c 5 t) (iblk m c 6 t) (iblk m c 7 t)) (by decide) (tap2 m c t q))).trans ?_
    exact congrArg (next m c t) (idx_row2 q).symm
  · intro x
    obtain ⟨p, q, rfl⟩ : ∃ (p : Fin 1) (q : Fin 1024), x = ix2 p q := ⟨x 0, x 1, eq_ix2 x⟩
    obtain rfl : p = 0 := Subsingleton.elim _ _
    pointwise [k0_pay6, k0_pay3, k0_pay1]
    refine (congrArg (fun x => _ + x) (tap_apply m c t q 1 (k0_pay11 (F := Ideal) (grid0.coords t) (iblk m c 4 t) (iblk m c 5 t) (iblk m c 6 t) (iblk m c 7 t)) (by decide) (tap1 m c t q))).trans ?_
    exact congrArg (next m c t) (idx_row1 q).symm
  · intro x
    obtain ⟨p, q, rfl⟩ : ∃ (p : Fin 1) (q : Fin 1024), x = ix2 p q := ⟨x 0, x 1, eq_ix2 x⟩
    obtain rfl : p = 0 := Subsingleton.elim _ _
    pointwise [k0_pay5, k0_pay2, k0_pay1]
    refine (congrArg (fun x => _ + x) (tap_apply m c t q 0 (k0_pay12 (F := Ideal) (grid0.coords t) (iblk m c 4 t) (iblk m c 5 t) (iblk m c 6 t) (iblk m c 7 t)) (by decide) (tap0 m c t q))).trans ?_
    exact congrArg (next m c t) (idx_row0 q).symm

/-- The taps' gradient gathered from the rows of the points up to `n`. -/
theorem taps_eq (c : Dev nD) : ∀ (n : ℕ) (h : n < cfg0.N), ((outsAt0 m c n h).2 : S3x1024.Idx → EReal)
    = fun i => ∑ s ∈ Finset.range (n + 1), share m c s i
  | 0, h => by
    refine (taps_A m c ⟨0, h⟩ rfl (by simp)).trans ?_
    funext i
    rw [Finset.sum_range_one]
  | n + 1, h => by
    have hN : n + 1 < 8 := lt_of_lt_of_eq h (show cfg0.N = 8 from N_0)
    refine (taps_B m c ⟨n + 1, h⟩ (by simp only; omega) (by simp)).trans ?_
    funext i
    rw [Finset.sum_range_succ]
    show ((outsAt0 m c n _).2 : S3x1024.Idx → EReal) i + _ = _
    rw [taps_eq c n]

/-- The eight blocks' shares are the whole sum over the rows. -/
theorem shares (c : Dev nD) (i : S3x1024.Idx) : ∑ s ∈ Finset.range 8, share m c s i = dtaps (Z m c) (A m c) i := by
  unfold dtaps share
  rw [Finset.sum_range, ← Finset.sum_product']
  refine Finset.sum_nbij' (fun x : Fin 8 × Fin 1024 => (⟨1024 * x.1.val + x.2.val, by omega⟩ : Fin 8192))
    (fun r => (⟨r.val / 1024, by omega⟩, ⟨r.val % 1024, by omega⟩)) (by simp) (by simp) ?_ ?_ (fun _ _ => rfl)
  · rintro ⟨x, y⟩ _
    ext <;> simp only <;> omega
  · intro r _
    ext
    simp only
    omega

/-! ## The two result arrays -/

theorem mem_blk9 (t : Fin cfg0.N) (i : S8192x3072.Idx) (h : 1024 * t.val ≤ (i 0 : Nat) ∧ (i 0 : Nat) < 1024 * t.val + 1024) :
    i ∈ ((cfg0.win 9).blk t).view.set := by
  show i ∈ ((View.whole main_v0_0).slice (win0_9.rect t)).set
  rw [View.set_slice_whole, Rect.mem_set_unit]
  have h1 : (i 1 : Nat) < 3072 := (i 1).isLt
  intro a
  match a with
  | ⟨0, _⟩ => show win0_9.index t 0 * 1024 ≤ (i 0 : Nat) ∧ (i 0 : Nat) < win0_9.index t 0 * 1024 + 1024; rw [(idx9 t).1]; omega
  | ⟨1, _⟩ => show win0_9.index t 1 * 3072 ≤ (i 1 : Nat) ∧ (i 1 : Nat) < win0_9.index t 1 * 3072 + 3072; rw [(idx9 t).2]; omega

theorem mem_blk10 (t : Fin cfg0.N) (i : S3x1024.Idx) : i ∈ ((cfg0.win 10).blk t).view.set := by
  show i ∈ ((View.whole main_v0_1).slice (win0_10.rect t)).set
  rw [View.set_slice_whole, Rect.mem_set_unit]
  have h0 : (i 0 : Nat) < 3 := (i 0).isLt
  have h1 : (i 1 : Nat) < 1024 := (i 1).isLt
  intro a
  match a with
  | ⟨0, _⟩ => show win0_10.index t 0 * 3 ≤ (i 0 : Nat) ∧ (i 0 : Nat) < win0_10.index t 0 * 3 + 3
              rw [(idx10 t).1]; omega
  | ⟨1, _⟩ => show win0_10.index t 1 * 1024 ≤ (i 1 : Nat) ∧ (i 1 : Nat) < win0_10.index t 1 * 1024 + 1024
              rw [(idx10 t).2]; omega

theorem out_eq (c : Dev nD) (t : Fin cfg0.N) : (outsAt0 m c t.val t.isLt).1 = rows m c t := by
  have hN : t.val < 8 := lt_of_lt_of_eq t.isLt (show cfg0.N = 8 from N_0)
  by_cases h : 1 ≤ t.val
  · exact out_B m c t (by omega) h
  · exact out_A m c t (by omega) h

/-- The input's gradient, whole. -/
theorem final9 (c : Dev nD) : (dats m 0 c).arrAt 9 cfg0.N = (dinput (Z m c) (A m c) (W m c) : S8192x3072.Idx → EReal) := by
  refine (dats m 0 c).arrAt_eq_of_cover 9 _ (fun t _ => ?_) fun i => ?_
  · rw [Value.flushed9, out_eq]
    funext j
    rw [View.read_apply]
    show dinputAt _ _ _ _ _ = dinputAt _ _ _ _ _
    congr 1
    · apply Fin.ext
      show 1024 * t.val + (j 0).val = win0_9.index t 0 * 1024 + 1 * (j 0).val
      rw [(idx9 t).1]; omega
    · apply Fin.ext
      show (j 1).val = win0_9.index t 1 * 3072 + 1 * (j 1).val
      rw [(idx9 t).2]; omega
  · have h0 : (i 0).val < 8192 := (i 0).isLt
    have hN : cfg0.N = 8 := N_0
    refine ⟨⟨(i 0).val / 1024, by rw [hN]; omega⟩, flush0_9 _, ?_⟩
    refine mem_blk9 _ i ?_
    simp only
    omega

/-- The taps' gradient, whole. -/
theorem final10 (c : Dev nD) : (dats m 0 c).arrAt 10 cfg0.N = (dtaps (Z m c) (A m c) : S3x1024.Idx → EReal) := by
  have hN : cfg0.N = 8 := N_0
  refine (dats m 0 c).arrAt_eq_of_cover 10 _ (fun t hf => ?_) fun i => ?_
  · have h7 : t.val = 7 := by have := (flush0_10 t).mp hf; have := t.isLt; omega
    rw [Value.flushed10, taps_eq]
    funext j
    rw [View.read_apply]
    show ∑ s ∈ Finset.range (t.val + 1), share m c s j = _
    rw [h7, shares]
    show dtaps _ _ _ = dtaps _ _ _
    congr 1
    funext a
    apply Fin.ext
    match a with
    | ⟨0, _⟩ => show (j 0).val = win0_10.index t 0 * 3 + 1 * (j 0).val
                rw [(idx10 t).1]; omega
    | ⟨1, _⟩ => show (j 1).val = win0_10.index t 1 * 1024 + 1 * (j 1).val
                rw [(idx10 t).2]; omega
  · refine ⟨⟨7, by omega⟩, (flush0_10 _).mpr rfl, ?_⟩
    exact mem_blk10 _ i

end Cert.KernelIdeal.Conv
end
-- ==== Proof.ConvRef.lean ====
/-
  The reference of the convolution's gradient, read at an index: its two results are the gradient of the input and of
  the taps.
-/
module

public import proofs.«01_k».proof.Proof.Gen.ReferenceIdeal.Read
public import proofs.«01_k».proof.Proof.ConvSpec
public import Idealize.ShloMosaic.Lib.Pointwise

@[expose] public section

set_option maxRecDepth 16384

noncomputable section

open Idealize.ShloMosaic Idealize.ShloMosaic.TcCoe Idealize.SL.Sem

namespace Cert.ReferenceIdeal.Conv

open Cert.ReferenceIdeal Cert.ReferenceIdeal.Gen Cert.ReferenceIdeal.Read ConvSpec

variable (z : (⟨S8192x1024, .f32⟩ : BufTy).Contents (Elt Ideal)) (a : (⟨S8192x3072, .bf16⟩ : BufTy).Contents (Elt Ideal))
  (w : (⟨S3x1024, .f32⟩ : BufTy).Contents (Elt Ideal))

/-- The gated input with two rows of zeros in front. -/
theorem v6 (p : Fin 8194) (q : Fin 1024) : val_main_v6 (F := Ideal) a (ix2 p q) = gated a p.val q := by
  have hp := p.isLt
  pointwise [val_main_v6, val_main_v5, val_main_v4, val_main_v3, val_main_v2, val_main_v1, val_main_v0, val_main_cst]
  unfold gated
  by_cases h : p.val < 2
  · rw [dif_pos h, dif_neg (by omega)]
  · rw [dif_neg h, dif_pos (by omega)]

/-- The filter's cotangent. -/
theorem v29 (p : Fin 8192) (q : Fin 1024) : val_main_v29 (F := Ideal) z a (ix2 p q) = cot z a p.val q := by
  pointwise [val_main_v29, val_main_v1, val_main_v0]
  unfold cot
  rw [dif_pos p.isLt, mul_comm]

theorem sum3 (x y z : EReal) : x + y + z = z + y + x := by rw [add_comm (x + y), add_comm x, add_assoc]

/-- The cotangent is zero after the last row. -/
theorem cot_ge (k : ℕ) (q : Fin 1024) (h : 8192 ≤ k) : cot z a k q = 0 := dif_neg (by omega)

/-- The filter's result. -/
theorem v28 (p : Fin 8192) (q : Fin 1024) : val_main_v27 (F := Ideal) a w (ix2 p q) = filtered a w p.val q := by
  pointwise [val_main_v27, val_main_v26, val_main_v25, val_main_v24, val_main_v22, val_main_v21, val_main_v23, val_main_v20, val_main_v19,
    val_main_v18, val_main_v17, val_main_v16, val_main_v15, val_main_v14, val_main_v13, val_main_v12, val_main_v11, val_main_v10,
    val_main_v9, val_main_v8]
  rw [v6, v6, v6]
  unfold filtered
  simp only [Nat.add_comm 2, Nat.add_comm 1]
  exact sum3 _ _ _

/-- The gradient of the filter's input. -/
theorem v63 (p : Fin 8192) (q : Fin 1024) : val_main_v63 (F := Ideal) z a w (ix2 p q) = back z a w p.val q := by
  have hp := p.isLt
  pointwise [val_main_v63, val_main_v58, val_main_v57, val_main_v52, val_main_v51, val_main_v47, val_main_v46, val_main_v41,
    val_main_v40, val_main_v37, val_main_v32, val_main_v31, val_main_v8, val_main_v9, val_main_v11, val_main_v14, val_main_v15, val_main_v17,
    val_main_v21, val_main_v22, val_main_v24, val_main_cst_3, val_main_cst_7, val_main_cst_11, v29]
  unfold back
  have e1 : 2 + p.val - 1 = p.val + 1 := by omega
  simp only [e1, Nat.add_comm 2 p.val]
  congr 1
  · congr 1
    by_cases h : p.val + 1 < 8192
    · exact dif_pos ⟨by omega, h⟩
    · rw [dif_neg (by omega), cot_ge _ _ _ _ (by omega), mul_zero]
  · by_cases h : p.val + 2 < 8192
    · exact dif_pos h
    · rw [dif_neg h, cot_ge _ _ _ _ (by omega), mul_zero]

theorem v67 (j : S8192x3072.Idx) : val_main_v67 (F := Ideal) z a w j = dinput z a w j := by
  idx_vars j
  pointwise [val_main_v67, val_main_v66, val_main_v65, val_main_v64, val_main_v30, val_main_v1, val_main_v2, val_main_v3, val_main_v0]
  show _ = dinputAt z a w j0 j1
  unfold dinputAt
  simp only [v28, v63]
  have h1 := j1.isLt
  by_cases h : j1.val < 1024
  · rw [dif_pos h, dif_pos h]
  · rw [dif_neg h, dif_neg h]
    by_cases h' : j1.val < 2048
    · rw [dif_pos (show j1.val - 1024 < 1024 by omega), dif_pos h']
    · rw [dif_neg (show ¬ j1.val - 1024 < 1024 by omega), dif_neg h', mul_comm]
      have e : j1.val - 1024 - 1024 = j1.val - 2048 := by omega
      simp only [e]

theorem v61 (j : S3x1024.Idx) : val_main_v61 (F := Ideal) z a j = dtaps z a j := by
  idx_vars j
  pointwise [val_main_v61, val_main_v50, val_main_v39, val_main_v49, val_main_v60, val_main_cst_1, val_main_cst_2, val_main_cst_4,
    val_main_cst_5, val_main_cst_6, val_main_cst_8, val_main_cst_9, val_main_cst_10, val_main_cst_12, val_main_v59, val_main_v56,
    val_main_v55, val_main_v54, val_main_v53, val_main_v48, val_main_v45, val_main_v44, val_main_v43, val_main_v42, val_main_v38,
    val_main_v36, val_main_v35, val_main_v34, val_main_v33, val_main_v10, val_main_v16, val_main_v23, v29, v6]
  unfold dtaps
  simp only [Finset.univ_unique, Finset.sum_singleton]
  have h0 := j0.isLt
  show _ = ∑ r : Fin 8192, cot z a r.val j1 * gated a (r.val + j0.val) j1
  rcases (by omega : j0.val = 0 ∨ j0.val = 1 ∨ j0.val = 2) with h | h | h <;> simp [h, Nat.add_comm]
end Cert.ReferenceIdeal.Conv
end
-- ==== Proof.ConvClaim.lean ====
/-
  The claims about the gradient of the gated convolution: the kernel's two results equal the reference's.
-/
module

public import proofs.«01_k».proof.Defs
public import proofs.«01_k».proof.Proof.ConvBlock
public import proofs.«01_k».proof.Proof.ConvRef
public import proofs.«01_k».proof.Proof.Gen.KernelIdeal.Value
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.Conv

open ConvSpec

/-- The reference runs, leaves its arguments alone and ends with every semaphore at zero. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Both results of the kernel are the gradients of the reference. -/
theorem algebraic : Cert.algebraic_KernelIdeal_ReferenceIdeal := by
  intro m ρ m' ρ' _ hagree
  refine ⟨fun c => dinput (Cert.KernelIdeal.Conv.Z m c) (Cert.KernelIdeal.Conv.A m c) (Cert.KernelIdeal.Conv.W m c),
    fun c => dtaps (Cert.KernelIdeal.Conv.Z m c) (Cert.KernelIdeal.Conv.A m c), ?_, ?_⟩
  · exact (θ_run Cert.KernelIdeal.defs _ _).mono
      (fun _ h c => ⟨(h c).1.trans (Cert.KernelIdeal.Conv.final9 m c), (h c).2.1.trans (Cert.KernelIdeal.Conv.final10 m c), (h c).2.2⟩)
      (Cert.KernelIdeal.Value.run_blocks (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v67_eq, (hagree c).1, (hagree c).2.1, (hagree c).2.2]
      funext i
      exact Cert.ReferenceIdeal.Conv.v67 _ _ _ i
    · rw [Cert.ReferenceIdeal.Read.val_main_v61_eq, (hagree c).1, (hagree c).2.1]
      funext i
      exact Cert.ReferenceIdeal.Conv.v61 _ _ i

end Cert.Proof.Conv
end
-- ==== Proof.AttnPins.lean ====
/-
  The two tables of the attention gradient call (which query block, which key block at each of a head's ten steps), and the
  words the body reads of them.
-/
module

public import proofs.«01_k».proof.Defs
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Pipeline.FrameSuffix
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel2Ideal.Attn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The tables, whole, as the body is handed them. -/
abbrev tab0 : Memref sig .tc .smem S10 .i32 := Memref.whole main_c
abbrev tab1 : Memref sig .tc .smem S10 .i32 := Memref.whole main_c_0

/-- The word the body reads of a table at a grid point. -/
abbrev word0 (i : grid0.Coords) (T : S10.Idx → Elt F .i32) : BitVec 32 :=
  View.readAt (Elt F) tab0.view (Rect.unit (s := S10) (k0_off1 i) S1.size (k0_off1_inb i)).toLoadRect T (Shape.Idx.first (numel1_S1.symm ▸ Nat.one_pos))
abbrev word1 (i : grid0.Coords) (T : S10.Idx → Elt F .i32) : BitVec 32 :=
  View.readAt (Elt F) tab1.view (Rect.unit (s := S10) (k0_off1 i) S1.size (k0_off1_inb i)).toLoadRect T (Shape.Idx.first (numel1_S1.symm ▸ Nat.one_pos))

end Cert.Kernel2Ideal.Attn

end
-- ==== Proof.AttnCfg.lean ====
/-
  The pipeline at the tables the program itself carries: which block of every array each grid point works on, and the
  facts of the ten pairs of blocks that are decided once.
-/
module

public import proofs.«01_k».proof.Proof.AttnPins

@[expose] public section

set_option maxRecDepth 16384
set_option Elab.async false

noncomputable section

namespace Cert.Kernel2Ideal.Attn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The tables -/

/-- The block of queries, and the block of keys, of every step of a head. -/
def tabQ : S10.Idx → Elt F .i32 := fun i => lit0 (S10.rowMajor i)
def tabK : S10.Idx → Elt F .i32 := fun i => lit1 (S10.rowMajor i)

/-- The tables' contents, as the pipeline takes them. -/
def pf : pre0.Contents (Elt F) := fun | ⟨0, _⟩ => tabQ | ⟨1, _⟩ => tabK | ⟨_ + 2, h⟩ => absurd h (by simp)

theorem inb0 : ∀ i : grid0.Coords, ∀ a, (cc0_transform_0 k0_off1_inb numel1_S1 (pf (F := F)) i a + 1) * S1x2048x256.size a ≤ S8x8192x256.size a :=
  of_decide_eq_true (by sl_kernel_rfl)
theorem inb1 : ∀ i : grid0.Coords, ∀ a, (cc0_transform_1 k0_off1_inb numel1_S1 (pf (F := F)) i a + 1) * S1x2048x256.size a ≤ S8x8192x256.size a :=
  of_decide_eq_true (by sl_kernel_rfl)
theorem inb2 : ∀ i : grid0.Coords, ∀ a, (cc0_transform_2 k0_off1_inb numel1_S1 (pf (F := F)) i a + 1) * S1x2048x128.size a ≤ S8x8192x128.size a :=
  of_decide_eq_true (by sl_kernel_rfl)
theorem inb3 : ∀ i : grid0.Coords, ∀ a, (cc0_transform_3 k0_off1_inb numel1_S1 (pf (F := F)) i a + 1) * S2048x128.size a ≤ S8192x1024.size a :=
  of_decide_eq_true (by sl_kernel_rfl)
theorem inb4 : ∀ i : grid0.Coords, ∀ a, (cc0_transform_4 k0_off1_inb numel1_S1 (pf (F := F)) i a + 1) * S1x1x2048.size a ≤ S8x1x8192.size a :=
  of_decide_eq_true (by sl_kernel_rfl)
theorem inb5 : ∀ i : grid0.Coords, ∀ a, (cc0_transform_5 k0_off1_inb numel1_S1 (pf (F := F)) i a + 1) * S1x1x2048.size a ≤ S8x1x8192.size a :=
  of_decide_eq_true (by sl_kernel_rfl)
theorem inb6 : ∀ i : grid0.Coords, ∀ a, (cc0_transform_6 k0_off1_inb numel1_S1 (pf (F := F)) i a + 1) * S2048x1.size a ≤ S8192x1.size a :=
  of_decide_eq_true (by sl_kernel_rfl)
theorem inb7 : ∀ i : grid0.Coords, ∀ a, (cc0_transform_7 k0_off1_inb numel1_S1 (pf (F := F)) i a + 1) * S1x2048.size a ≤ S1x8192.size a :=
  of_decide_eq_true (by sl_kernel_rfl)
theorem inb9 : ∀ i : grid0.Coords, ∀ a, (cc0_transform_9 k0_off1_inb numel1_S1 (pf (F := F)) i a + 1) * S1x2048x256.size a ≤ S8x8192x256.size a :=
  of_decide_eq_true (by sl_kernel_rfl)
theorem inb10 : ∀ i : grid0.Coords, ∀ a, (cc0_transform_10 k0_off1_inb numel1_S1 (pf (F := F)) i a + 1) * S1x2048x128.size a ≤ S8x8192x128.size a :=
  of_decide_eq_true (by sl_kernel_rfl)

/-- Every block lies inside its array, on whole words. -/
theorem ok_pf : ok0 (pf (F := F)) :=
  ⟨fun i => ⟨inb0 i, .inr (Affine.block_words_dvd (s := S8x8192x256) (p := EltTy.packing .bf16) (by decide) (by decide))⟩,
   fun i => ⟨inb1 i, .inr (Affine.block_words_dvd (s := S8x8192x256) (p := EltTy.packing .bf16) (by decide) (by decide))⟩,
   fun i => ⟨inb2 i, .inr (Affine.block_words_dvd (s := S8x8192x128) (p := EltTy.packing .bf16) (by decide) (by decide))⟩,
   fun i => ⟨inb3 i, .inl rfl⟩,
   fun i => ⟨inb4 i, .inl rfl⟩,
   fun i => ⟨inb5 i, .inl rfl⟩,
   fun i => ⟨inb6 i, .inl rfl⟩,
   fun i => ⟨inb7 i, .inl rfl⟩,
   fun i => ⟨inb9 i, .inl rfl⟩,
   fun i => ⟨inb10 i, .inl rfl⟩⟩

/-- The pipeline at these tables. -/
def adm : (pcfg0 (F := F)).Adm := ⟨pf, ok_pf⟩
abbrev cfgA : Pipeline.Cfg sig Λ₀ := cfg0 (F := F) adm
abbrev pcs : Fin 1 → Pipeline.Cfg sig Λ₀ := Pipeline.pin (pcfgs (F := F)) fun _ => adm

/-- A point's coordinates. -/
abbrev crd (t : Fin (cfgA (F := F)).N) : (cfgA (F := F)).grid.Coords := (cfgA (F := F)).grid.coords t

/-! ## Each window's staging memref at a point -/

abbrev ms0 (t : Fin (cfgA (F := F)).N) : Memref sig .tc .vmem S1x2048x256 .bf16 := spec0_0.stage ((cfgA (F := F)).slots t (0 : Fin 11))
abbrev hs0 (t : Fin (cfgA (F := F)).N) : (ms0 (F := F) t).IsWhole := hstage0_0 (((cfgA (F := F)).slots t (0 : Fin 11)).cast nbuf0_0)
abbrev ms1 (t : Fin (cfgA (F := F)).N) : Memref sig .tc .vmem S1x2048x256 .bf16 := spec0_1.stage ((cfgA (F := F)).slots t (1 : Fin 11))
abbrev hs1 (t : Fin (cfgA (F := F)).N) : (ms1 (F := F) t).IsWhole := hstage0_1 (((cfgA (F := F)).slots t (1 : Fin 11)).cast nbuf0_1)
abbrev ms2 (t : Fin (cfgA (F := F)).N) : Memref sig .tc .vmem S1x2048x128 .bf16 := spec0_2.stage ((cfgA (F := F)).slots t (2 : Fin 11))
abbrev hs2 (t : Fin (cfgA (F := F)).N) : (ms2 (F := F) t).IsWhole := hstage0_2 (((cfgA (F := F)).slots t (2 : Fin 11)).cast nbuf0_2)
abbrev ms3 (t : Fin (cfgA (F := F)).N) : Memref sig .tc .vmem S2048x128 .f32 := spec0_3.stage ((cfgA (F := F)).slots t (3 : Fin 11))
abbrev hs3 (t : Fin (cfgA (F := F)).N) : (ms3 (F := F) t).IsWhole := hstage0_3 (((cfgA (F := F)).slots t (3 : Fin 11)).cast nbuf0_3)
abbrev ms4 (t : Fin (cfgA (F := F)).N) : Memref sig .tc .vmem S1x1x2048 .f32 := spec0_4.stage ((cfgA (F := F)).slots t (4 : Fin 11))
abbrev hs4 (t : Fin (cfgA (F := F)).N) : (ms4 (F := F) t).IsWhole := hstage0_4 (((cfgA (F := F)).slots t (4 : Fin 11)).cast nbuf0_4)
abbrev ms5 (t : Fin (cfgA (F := F)).N) : Memref sig .tc .vmem S1x1x2048 .f32 := spec0_5.stage ((cfgA (F := F)).slots t (5 : Fin 11))
abbrev hs5 (t : Fin (cfgA (F := F)).N) : (ms5 (F := F) t).IsWhole := hstage0_5 (((cfgA (F := F)).slots t (5 : Fin 11)).cast nbuf0_5)
abbrev ms6 (t : Fin (cfgA (F := F)).N) : Memref sig .tc .vmem S2048x1 .i32 := spec0_6.stage ((cfgA (F := F)).slots t (6 : Fin 11))
abbrev hs6 (t : Fin (cfgA (F := F)).N) : (ms6 (F := F) t).IsWhole := hstage0_6 (((cfgA (F := F)).slots t (6 : Fin 11)).cast nbuf0_6)
abbrev ms7 (t : Fin (cfgA (F := F)).N) : Memref sig .tc .vmem S1x2048 .i32 := spec0_7.stage ((cfgA (F := F)).slots t (7 : Fin 11))
abbrev hs7 (t : Fin (cfgA (F := F)).N) : (ms7 (F := F) t).IsWhole := hstage0_7 (((cfgA (F := F)).slots t (7 : Fin 11)).cast nbuf0_7)
abbrev ms8 (t : Fin (cfgA (F := F)).N) : Memref sig .tc .vmem S1x8192x256 .f32 := spec0_8.stage ((cfgA (F := F)).slots t (8 : Fin 11))
abbrev hs8 (t : Fin (cfgA (F := F)).N) : (ms8 (F := F) t).IsWhole := hstage0_8 (((cfgA (F := F)).slots t (8 : Fin 11)).cast nbuf0_8)
abbrev ms9 (t : Fin (cfgA (F := F)).N) : Memref sig .tc .vmem S1x2048x256 .f32 := spec0_9.stage ((cfgA (F := F)).slots t (9 : Fin 11))
abbrev hs9 (t : Fin (cfgA (F := F)).N) : (ms9 (F := F) t).IsWhole := hstage0_9 (((cfgA (F := F)).slots t (9 : Fin 11)).cast nbuf0_9)
abbrev ms10 (t : Fin (cfgA (F := F)).N) : Memref sig .tc .vmem S1x2048x128 .f32 := spec0_10.stage ((cfgA (F := F)).slots t (10 : Fin 11))
abbrev hs10 (t : Fin (cfgA (F := F)).N) : (ms10 (F := F) t).IsWhole := hstage0_10 (((cfgA (F := F)).slots t (10 : Fin 11)).cast nbuf0_10)

/-! ## The facts of the points -/

/-- A point of the first kind opens a head; of the second it opens a block of keys; of the third it does neither. -/
abbrev PA (t : Fin (cfgA (F := F)).N) : Prop := k0_cond1 (crd t) = 1#1
abbrev PB (t : Fin (cfgA (F := F)).N) : Prop := k0_cond2 (word0 (crd t) (tabQ (F := F))) (word1 (crd t) (tabK (F := F))) = 1#1

/-- Whether an output's staging buffer is still to be determined before position `n`: at the first step of a head, for
    the queries; at the first step of a block of keys, for the keys. -/
def newHead : ℕ → Bool
  | n => n % 10 == 0
def newBlock : ℕ → Bool
  | n => n % 10 == 0 || n % 10 == 4 || n % 10 == 7 || n % 10 == 9

/-- What is decided at a point. -/
abbrev FactsAt (t : Fin (cfgA (F := F)).N) : Prop :=
  k0_chk1 (word0 (crd t) (tabQ (F := F))) (word1 (crd t) (tabK (F := F)))
  ∧ newHead (t.val + 1) = (((cfgA (F := F)).win (8 : Fin 11)).flush t || ((cfgA (F := F)).idle (8 : Fin 11) (crd t) && newHead t.val))
  ∧ newBlock (t.val + 1) = (((cfgA (F := F)).win (9 : Fin 11)).flush t || ((cfgA (F := F)).idle (9 : Fin 11) (crd t) && newBlock t.val))
  ∧ newBlock (t.val + 1) = (((cfgA (F := F)).win (10 : Fin 11)).flush t || ((cfgA (F := F)).idle (10 : Fin 11) (crd t) && newBlock t.val))
  ∧ (cfgA (F := F)).idle (8 : Fin 11) (crd t) = false ∧ (cfgA (F := F)).idle (9 : Fin 11) (crd t) = false ∧ (cfgA (F := F)).idle (10 : Fin 11) (crd t) = false
  ∧ (PA t → PB (F := F) t)
  ∧ (PB (F := F) t → k0_cond3 (word0 (crd t) (tabQ (F := F))) (word1 (crd t) (tabK (F := F))) = 1#1 ∧ ¬ k0_cond4 (word0 (crd t) (tabQ (F := F))) (word1 (crd t) (tabK (F := F))) = 1#1)
  ∧ (¬ PB (F := F) t → ¬ k0_cond3 (word0 (crd t) (tabQ (F := F))) (word1 (crd t) (tabK (F := F))) = 1#1 ∧ k0_cond4 (word0 (crd t) (tabQ (F := F))) (word1 (crd t) (tabK (F := F))) = 1#1)
  ∧ (newHead t.val = true ↔ PA t) ∧ (newBlock t.val = true ↔ PB (F := F) t)

theorem facts_0 : ∀ t : Fin (cfgA (F := F)).N, 0 ≤ t.val → t.val < 10 → FactsAt (F := F) t := of_decide_eq_true (by sl_kernel_rfl)
theorem facts_1 : ∀ t : Fin (cfgA (F := F)).N, 10 ≤ t.val → t.val < 20 → FactsAt (F := F) t := of_decide_eq_true (by sl_kernel_rfl)
theorem facts_2 : ∀ t : Fin (cfgA (F := F)).N, 20 ≤ t.val → t.val < 30 → FactsAt (F := F) t := of_decide_eq_true (by sl_kernel_rfl)
theorem facts_3 : ∀ t : Fin (cfgA (F := F)).N, 30 ≤ t.val → t.val < 40 → FactsAt (F := F) t := of_decide_eq_true (by sl_kernel_rfl)
theorem facts_4 : ∀ t : Fin (cfgA (F := F)).N, 40 ≤ t.val → t.val < 50 → FactsAt (F := F) t := of_decide_eq_true (by sl_kernel_rfl)
theorem facts_5 : ∀ t : Fin (cfgA (F := F)).N, 50 ≤ t.val → t.val < 60 → FactsAt (F := F) t := of_decide_eq_true (by sl_kernel_rfl)
theorem facts_6 : ∀ t : Fin (cfgA (F := F)).N, 60 ≤ t.val → t.val < 70 → FactsAt (F := F) t := of_decide_eq_true (by sl_kernel_rfl)
theorem facts_7 : ∀ t : Fin (cfgA (F := F)).N, 70 ≤ t.val → t.val < 80 → FactsAt (F := F) t := of_decide_eq_true (by sl_kernel_rfl)

theorem facts (t : Fin (cfgA (F := F)).N) : FactsAt (F := F) t := by
  have h0 : 0 ≤ t.val := Nat.zero_le _
  rcases Nat.lt_or_ge t.val 10 with h1 | h1; · exact facts_0 t h0 h1
  rcases Nat.lt_or_ge t.val 20 with h2 | h2; · exact facts_1 t h1 h2
  rcases Nat.lt_or_ge t.val 30 with h3 | h3; · exact facts_2 t h2 h3
  rcases Nat.lt_or_ge t.val 40 with h4 | h4; · exact facts_3 t h3 h4
  rcases Nat.lt_or_ge t.val 50 with h5 | h5; · exact facts_4 t h4 h5
  rcases Nat.lt_or_ge t.val 60 with h6 | h6; · exact facts_5 t h5 h6
  rcases Nat.lt_or_ge t.val 70 with h7 | h7; · exact facts_6 t h6 h7
  exact facts_7 t h7 t.isLt

end Cert.Kernel2Ideal.Attn

end
-- ==== Proof.AttnRunA.lean ====
/-
  The body at the first step of a head: all three accumulators are cleared, then one diagonal pair of blocks is added.
-/
module

public import proofs.«01_k».proof.Proof.AttnPins

@[expose] public section

set_option maxRecDepth 16384
set_option Elab.async false

noncomputable section

namespace Cert.Kernel2Ideal.Attn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (arg4 : Memref sig .tc .vmem S1x2048x256 .bf16) (harg4 : arg4.IsWhole) (arg5 : Memref sig .tc .vmem S1x2048x256 .bf16) (harg5 : arg5.IsWhole) (arg6 : Memref sig .tc .vmem S1x2048x128 .bf16) (harg6 : arg6.IsWhole) (arg7 : Memref sig .tc .vmem S2048x128 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S2048x1 .i32) (harg10 : arg10.IsWhole) (arg11 : Memref sig .tc .vmem S1x2048 .i32) (harg11 : arg11.IsWhole) (arg12 : Memref sig .tc .vmem S1x8192x256 .f32) (harg12 : arg12.IsWhole) (arg13 : Memref sig .tc .vmem S1x2048x256 .f32) (harg13 : arg13.IsWhole) (arg14 : Memref sig .tc .vmem S1x2048x128 .f32) (harg14 : arg14.IsWhole)

set_option backward.proofsInPublic true in
set_option maxHeartbeats 16000000 in
/-- The body at the first step of a head: all three accumulators are cleared, then one diagonal pair of blocks is added. -/
def runA (c : Dev nD) (i : grid0.Coords) (T0 T1 : S10.Idx → Elt F .i32)
    (x0 : S1x2048x256.Idx → Elt F .bf16) (x1 : S1x2048x256.Idx → Elt F .bf16) (x2 : S1x2048x128.Idx → Elt F .bf16) (x3 : S2048x128.Idx → Elt F .f32) (x4 : S1x1x2048.Idx → Elt F .f32) (x5 : S1x1x2048.Idx → Elt F .f32) (x6 : S2048x1.Idx → Elt F .i32) (x7 : S1x2048.Idx → Elt F .i32)
    (hchk : k0_chk1 (word0 i T0) (word1 i T1))
    (h1 : k0_cond1 i = 1#1) (h2 : k0_cond2 (word0 i T0) (word1 i T1) = 1#1) (h3 : k0_cond3 (word0 i T0) (word1 i T1) = 1#1) (h4 : ¬(k0_cond4 (word0 i T0) (word1 i T1) = 1#1)) :
    Σ' (out0 : List (View.Piece (Elt F) S1x8192x256 .f32)) (out1 : List (View.Piece (Elt F) S1x2048x256 .f32)), { out2 : List (View.Piece (Elt F) S1x2048x128 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (tab0.view.loc (c : Thread nD τ) ↦{fullShare.right} T0)
          ∗ (tab1.view.loc (c : Thread nD τ) ↦{fullShare.right} T1)
          ∗ (∃ d, owns (c : Thread nD τ) arg12 fullShare d)
          ∗ (∃ d, owns (c : Thread nD τ) arg13 fullShare d)
          ∗ (∃ d, owns (c : Thread nD τ) arg14 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (arg10.view.loc (c : Thread nD τ) ↦[arg10.view.set]{fullShare} arg10.view.rep x6)
              ∗ (arg11.view.loc (c : Thread nD τ) ↦[arg11.view.set]{fullShare} arg11.view.rep x7)
              ∗ (tab0.view.loc (c : Thread nD τ) ↦{fullShare.right} T0)
              ∗ (tab1.view.loc (c : Thread nD τ) ↦{fullShare.right} T1)
              ∗ (∃ f, arg12.view.loc (c : Thread nD τ) ↦[arg12.view.set]{fullShare} arg12.view.writes (Elt F) f out0)
              ∗ (∃ f, arg13.view.loc (c : Thread nD τ) ↦[arg13.view.set]{fullShare} arg13.view.writes (Elt F) f out1)
              ∗ (∃ f, arg14.view.loc (c : Thread nD τ) ↦[arg14.view.set]{fullShare} arg14.view.writes (Elt F) f out2)) -∗ K ⟨⟩))
          ⊢ wp frame (wpE (defs₀ (F := F)) Variants.none c none) Set.univ (cc0_attn_bwd i tab0 (Memref.isWhole_whole _) tab1 (Memref.isWhole_whole _) arg4 harg4 arg5 harg5 arg6 harg6 arg7 harg7 arg8 harg8 arg9 harg9 arg10 harg10 arg11 harg11 arg12 harg12 arg13 harg13 arg14 harg14) K } :=
  ⟨_, _, _, fun K => by
    unfold owns
    rw [cc0_attn_bwd_eq_skeleton]; unfold cc0_attn_bwd_skel
    iintro ⟨H0, H1, H2, H3, H4, H5, H6, H7, HT0, HT1, ⟨%d12, %f12, -, HO12⟩, ⟨%d13, %f13, -, HO13⟩, ⟨%d14, %f14, -, HO14⟩, Hk⟩
    have hT0 : tab0.IsWhole := Memref.isWhole_whole _
    have hT1 : tab1.IsWhole := Memref.isWhole_whole _
    sl_exec! (disch := first | (guard_target = k0_chk1 _ _; exact hchk) | (guard_target = k0_cond1 _ = _; exact h1) | (guard_target = k0_cond2 _ _ = _; exact h2) | (guard_target = k0_cond3 _ _ = _; exact h3) | (guard_target = ¬(k0_cond4 _ _ = _); exact h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HT0]; · iexact HT0
    isplitl [HT1]; · iexact HT1
    isplitl [HO12]; · iexists _; iexact HO12
    isplitl [HO13]; · iexists _; iexact HO13
    iexists _; iexact HO14⟩

end Cert.Kernel2Ideal.Attn

end
-- ==== Proof.AttnRunB.lean ====
/-
  The body at a later diagonal pair of blocks: the accumulators of the keys are cleared, the one of the queries goes on.
-/
module

public import proofs.«01_k».proof.Proof.AttnPins

@[expose] public section

set_option maxRecDepth 16384
set_option Elab.async false

noncomputable section

namespace Cert.Kernel2Ideal.Attn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (arg4 : Memref sig .tc .vmem S1x2048x256 .bf16) (harg4 : arg4.IsWhole) (arg5 : Memref sig .tc .vmem S1x2048x256 .bf16) (harg5 : arg5.IsWhole) (arg6 : Memref sig .tc .vmem S1x2048x128 .bf16) (harg6 : arg6.IsWhole) (arg7 : Memref sig .tc .vmem S2048x128 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S2048x1 .i32) (harg10 : arg10.IsWhole) (arg11 : Memref sig .tc .vmem S1x2048 .i32) (harg11 : arg11.IsWhole) (arg12 : Memref sig .tc .vmem S1x8192x256 .f32) (harg12 : arg12.IsWhole) (arg13 : Memref sig .tc .vmem S1x2048x256 .f32) (harg13 : arg13.IsWhole) (arg14 : Memref sig .tc .vmem S1x2048x128 .f32) (harg14 : arg14.IsWhole)

set_option backward.proofsInPublic true in
set_option maxHeartbeats 16000000 in
/-- The body at a later diagonal pair of blocks: the accumulators of the keys are cleared, the one of the queries goes on. -/
def runB (c : Dev nD) (i : grid0.Coords) (T0 T1 : S10.Idx → Elt F .i32)
    (x0 : S1x2048x256.Idx → Elt F .bf16) (x1 : S1x2048x256.Idx → Elt F .bf16) (x2 : S1x2048x128.Idx → Elt F .bf16) (x3 : S2048x128.Idx → Elt F .f32) (x4 : S1x1x2048.Idx → Elt F .f32) (x5 : S1x1x2048.Idx → Elt F .f32) (x6 : S2048x1.Idx → Elt F .i32) (x7 : S1x2048.Idx → Elt F .i32)
    (p12 : S1x8192x256.Idx → Elt F .f32)
    (hchk : k0_chk1 (word0 i T0) (word1 i T1))
    (h1 : ¬(k0_cond1 i = 1#1)) (h2 : k0_cond2 (word0 i T0) (word1 i T1) = 1#1) (h3 : k0_cond3 (word0 i T0) (word1 i T1) = 1#1) (h4 : ¬(k0_cond4 (word0 i T0) (word1 i T1) = 1#1)) :
    Σ' (out0 : List (View.Piece (Elt F) S1x8192x256 .f32)) (out1 : List (View.Piece (Elt F) S1x2048x256 .f32)), { out2 : List (View.Piece (Elt F) S1x2048x128 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (tab0.view.loc (c : Thread nD τ) ↦{fullShare.right} T0)
          ∗ (tab1.view.loc (c : Thread nD τ) ↦{fullShare.right} T1)
          ∗ owns (c : Thread nD τ) arg12 fullShare p12
          ∗ (∃ d, owns (c : Thread nD τ) arg13 fullShare d)
          ∗ (∃ d, owns (c : Thread nD τ) arg14 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (arg10.view.loc (c : Thread nD τ) ↦[arg10.view.set]{fullShare} arg10.view.rep x6)
              ∗ (arg11.view.loc (c : Thread nD τ) ↦[arg11.view.set]{fullShare} arg11.view.rep x7)
              ∗ (tab0.view.loc (c : Thread nD τ) ↦{fullShare.right} T0)
              ∗ (tab1.view.loc (c : Thread nD τ) ↦{fullShare.right} T1)
              ∗ (arg12.view.loc (c : Thread nD τ) ↦[arg12.view.set]{fullShare} arg12.view.writes (Elt F) (harg12.unread p12) out0)
              ∗ (∃ f, arg13.view.loc (c : Thread nD τ) ↦[arg13.view.set]{fullShare} arg13.view.writes (Elt F) f out1)
              ∗ (∃ f, arg14.view.loc (c : Thread nD τ) ↦[arg14.view.set]{fullShare} arg14.view.writes (Elt F) f out2)) -∗ K ⟨⟩))
          ⊢ wp frame (wpE (defs₀ (F := F)) Variants.none c none) Set.univ (cc0_attn_bwd i tab0 (Memref.isWhole_whole _) tab1 (Memref.isWhole_whole _) arg4 harg4 arg5 harg5 arg6 harg6 arg7 harg7 arg8 harg8 arg9 harg9 arg10 harg10 arg11 harg11 arg12 harg12 arg13 harg13 arg14 harg14) K } :=
  ⟨_, _, _, fun K => by
    unfold owns
    rw [cc0_attn_bwd_eq_skeleton]; unfold cc0_attn_bwd_skel
    iintro ⟨H0, H1, H2, H3, H4, H5, H6, H7, HT0, HT1, ⟨%f12, %hf12, HO12⟩, ⟨%d13, %f13, -, HO13⟩, ⟨%d14, %f14, -, HO14⟩, Hk⟩
    obtain rfl := harg12.eq_unread hf12
    have hT0 : tab0.IsWhole := Memref.isWhole_whole _
    have hT1 : tab1.IsWhole := Memref.isWhole_whole _
    sl_exec! (disch := first | (guard_target = k0_chk1 _ _; exact hchk) | (guard_target = ¬(k0_cond1 _ = _); exact h1) | (guard_target = k0_cond2 _ _ = _; exact h2) | (guard_target = k0_cond3 _ _ = _; exact h3) | (guard_target = ¬(k0_cond4 _ _ = _); exact h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HT0]; · iexact HT0
    isplitl [HT1]; · iexact HT1
    isplitl [HO12]; · iexact HO12
    isplitl [HO13]; · iexists _; iexact HO13
    iexists _; iexact HO14⟩

end Cert.Kernel2Ideal.Attn

end
-- ==== Proof.AttnRunC.lean ====
/-
  The body at a pair of blocks below the diagonal: all three accumulators go on.
-/
module

public import proofs.«01_k».proof.Proof.AttnPins

@[expose] public section

set_option maxRecDepth 16384
set_option Elab.async false

noncomputable section

namespace Cert.Kernel2Ideal.Attn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (arg4 : Memref sig .tc .vmem S1x2048x256 .bf16) (harg4 : arg4.IsWhole) (arg5 : Memref sig .tc .vmem S1x2048x256 .bf16) (harg5 : arg5.IsWhole) (arg6 : Memref sig .tc .vmem S1x2048x128 .bf16) (harg6 : arg6.IsWhole) (arg7 : Memref sig .tc .vmem S2048x128 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S2048x1 .i32) (harg10 : arg10.IsWhole) (arg11 : Memref sig .tc .vmem S1x2048 .i32) (harg11 : arg11.IsWhole) (arg12 : Memref sig .tc .vmem S1x8192x256 .f32) (harg12 : arg12.IsWhole) (arg13 : Memref sig .tc .vmem S1x2048x256 .f32) (harg13 : arg13.IsWhole) (arg14 : Memref sig .tc .vmem S1x2048x128 .f32) (harg14 : arg14.IsWhole)

set_option backward.proofsInPublic true in
set_option maxHeartbeats 16000000 in
/-- The body at a pair of blocks below the diagonal: all three accumulators go on. -/
def runC (c : Dev nD) (i : grid0.Coords) (T0 T1 : S10.Idx → Elt F .i32)
    (x0 : S1x2048x256.Idx → Elt F .bf16) (x1 : S1x2048x256.Idx → Elt F .bf16) (x2 : S1x2048x128.Idx → Elt F .bf16) (x3 : S2048x128.Idx → Elt F .f32) (x4 : S1x1x2048.Idx → Elt F .f32) (x5 : S1x1x2048.Idx → Elt F .f32) (x6 : S2048x1.Idx → Elt F .i32) (x7 : S1x2048.Idx → Elt F .i32)
    (p12 : S1x8192x256.Idx → Elt F .f32) (p13 : S1x2048x256.Idx → Elt F .f32) (p14 : S1x2048x128.Idx → Elt F .f32)
    (hchk : k0_chk1 (word0 i T0) (word1 i T1))
    (h1 : ¬(k0_cond1 i = 1#1)) (h2 : ¬(k0_cond2 (word0 i T0) (word1 i T1) = 1#1)) (h3 : ¬(k0_cond3 (word0 i T0) (word1 i T1) = 1#1)) (h4 : k0_cond4 (word0 i T0) (word1 i T1) = 1#1) :
    Σ' (out0 : List (View.Piece (Elt F) S1x8192x256 .f32)) (out1 : List (View.Piece (Elt F) S1x2048x256 .f32)), { out2 : List (View.Piece (Elt F) S1x2048x128 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (arg10.view.loc (c : Thread nD τ) ↦[arg10.view.set]{fullShare} arg10.view.rep x6)
          ∗ (arg11.view.loc (c : Thread nD τ) ↦[arg11.view.set]{fullShare} arg11.view.rep x7)
          ∗ (tab0.view.loc (c : Thread nD τ) ↦{fullShare.right} T0)
          ∗ (tab1.view.loc (c : Thread nD τ) ↦{fullShare.right} T1)
          ∗ owns (c : Thread nD τ) arg12 fullShare p12
          ∗ owns (c : Thread nD τ) arg13 fullShare p13
          ∗ owns (c : Thread nD τ) arg14 fullShare p14
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (arg10.view.loc (c : Thread nD τ) ↦[arg10.view.set]{fullShare} arg10.view.rep x6)
              ∗ (arg11.view.loc (c : Thread nD τ) ↦[arg11.view.set]{fullShare} arg11.view.rep x7)
              ∗ (tab0.view.loc (c : Thread nD τ) ↦{fullShare.right} T0)
              ∗ (tab1.view.loc (c : Thread nD τ) ↦{fullShare.right} T1)
              ∗ (arg12.view.loc (c : Thread nD τ) ↦[arg12.view.set]{fullShare} arg12.view.writes (Elt F) (harg12.unread p12) out0)
              ∗ (arg13.view.loc (c : Thread nD τ) ↦[arg13.view.set]{fullShare} arg13.view.writes (Elt F) (harg13.unread p13) out1)
              ∗ (arg14.view.loc (c : Thread nD τ) ↦[arg14.view.set]{fullShare} arg14.view.writes (Elt F) (harg14.unread p14) out2)) -∗ K ⟨⟩))
          ⊢ wp frame (wpE (defs₀ (F := F)) Variants.none c none) Set.univ (cc0_attn_bwd i tab0 (Memref.isWhole_whole _) tab1 (Memref.isWhole_whole _) arg4 harg4 arg5 harg5 arg6 harg6 arg7 harg7 arg8 harg8 arg9 harg9 arg10 harg10 arg11 harg11 arg12 harg12 arg13 harg13 arg14 harg14) K } :=
  ⟨_, _, _, fun K => by
    unfold owns
    rw [cc0_attn_bwd_eq_skeleton]; unfold cc0_attn_bwd_skel
    iintro ⟨H0, H1, H2, H3, H4, H5, H6, H7, HT0, HT1, ⟨%f12, %hf12, HO12⟩, ⟨%f13, %hf13, HO13⟩, ⟨%f14, %hf14, HO14⟩, Hk⟩
    obtain rfl := harg12.eq_unread hf12; obtain rfl := harg13.eq_unread hf13; obtain rfl := harg14.eq_unread hf14
    have hT0 : tab0.IsWhole := Memref.isWhole_whole _
    have hT1 : tab1.IsWhole := Memref.isWhole_whole _
    sl_exec (disch := first | (guard_target = k0_chk1 _ _; exact hchk) | (guard_target = ¬(k0_cond1 _ = _); exact h1) | (guard_target = ¬(k0_cond2 _ _ = _); exact h2) | (guard_target = ¬(k0_cond3 _ _ = _); exact h3) | (guard_target = k0_cond4 _ _ = _; exact h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HT0]; · iexact HT0
    isplitl [HT1]; · iexact HT1
    isplitl [HO12]; · iexact HO12
    isplitl [HO13]; · iexact HO13
    iexact HO14⟩

end Cert.Kernel2Ideal.Attn

end
-- ==== Proof.AttnDat.lean ====
/-
  What the attention gradient call leaves in its output blocks, point by point, and that its body keeps to it.
-/
module

public import proofs.«01_k».proof.Proof.AttnCfg
public import proofs.«01_k».proof.Proof.AttnRunA
public import proofs.«01_k».proof.Proof.AttnRunB
public import proofs.«01_k».proof.Proof.AttnRunC

@[expose] public section

set_option maxRecDepth 16384
set_option Elab.async false

noncomputable section

namespace Cert.Kernel2Ideal.Attn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (V : Dev nD → Valuation τ sig (Elt F))

/-- Window `w`'s block at point `t`, read off its array as the region finds it. -/
def iblk (c : Dev nD) (w : Fin (cfgA (F := F)).W) (t : Fin (cfgA (F := F)).N) : (((cfgA (F := F)).win w).xblock (crd (F := F) t)).Idx → Elt F ((cfgA (F := F)).win w).elt :=
  (((cfgA (F := F)).win w).blk t).view.read (Elt F) (V c (Proc.devRef .tc (Pipeline.arrRef (cfgA (F := F)).spec w)))

/-- The contents of the three accumulators. -/
abbrev Acc (F : FTy → Type) : Type := (S1x8192x256.Idx → Elt F .f32) × (S1x2048x256.Idx → Elt F .f32) × (S1x2048x128.Idx → Elt F .f32)

theorem chk (t : Fin (cfgA (F := F)).N) : k0_chk1 (word0 (crd (F := F) t) (tabQ (F := F))) (word1 (crd (F := F) t) (tabK (F := F))) := (facts t).1
theorem new8 (t : Fin (cfgA (F := F)).N) : newHead (t.val + 1) = (((cfgA (F := F)).win (8 : Fin 11)).flush t || ((cfgA (F := F)).idle (8 : Fin 11) ((cfgA (F := F)).grid.coords t) && newHead t.val)) := (facts (F := F) t).2.1
theorem new9 (t : Fin (cfgA (F := F)).N) : newBlock (t.val + 1) = (((cfgA (F := F)).win (9 : Fin 11)).flush t || ((cfgA (F := F)).idle (9 : Fin 11) ((cfgA (F := F)).grid.coords t) && newBlock t.val)) := (facts (F := F) t).2.2.1
theorem new10 (t : Fin (cfgA (F := F)).N) : newBlock (t.val + 1) = (((cfgA (F := F)).win (10 : Fin 11)).flush t || ((cfgA (F := F)).idle (10 : Fin 11) ((cfgA (F := F)).grid.coords t) && newBlock t.val)) := (facts (F := F) t).2.2.2.1
theorem idle8 (t : Fin (cfgA (F := F)).N) : (cfgA (F := F)).idle (8 : Fin 11) ((cfgA (F := F)).grid.coords t) = false := (facts (F := F) t).2.2.2.2.1
theorem idle9 (t : Fin (cfgA (F := F)).N) : (cfgA (F := F)).idle (9 : Fin 11) ((cfgA (F := F)).grid.coords t) = false := (facts (F := F) t).2.2.2.2.2.1
theorem idle10 (t : Fin (cfgA (F := F)).N) : (cfgA (F := F)).idle (10 : Fin 11) ((cfgA (F := F)).grid.coords t) = false := (facts (F := F) t).2.2.2.2.2.2.1
theorem pb_of_pa (t : Fin (cfgA (F := F)).N) : PA (F := F) t → PB (F := F) t := (facts t).2.2.2.2.2.2.2.1
theorem c3 (t : Fin (cfgA (F := F)).N) (h : PB (F := F) t) : k0_cond3 (word0 (crd (F := F) t) (tabQ (F := F))) (word1 (crd (F := F) t) (tabK (F := F))) = 1#1 := ((facts t).2.2.2.2.2.2.2.2.1 h).1
theorem c4 (t : Fin (cfgA (F := F)).N) (h : PB (F := F) t) : ¬ k0_cond4 (word0 (crd (F := F) t) (tabQ (F := F))) (word1 (crd (F := F) t) (tabK (F := F))) = 1#1 := ((facts t).2.2.2.2.2.2.2.2.1 h).2
theorem nc3 (t : Fin (cfgA (F := F)).N) (h : ¬ PB (F := F) t) : ¬ k0_cond3 (word0 (crd (F := F) t) (tabQ (F := F))) (word1 (crd (F := F) t) (tabK (F := F))) = 1#1 := ((facts t).2.2.2.2.2.2.2.2.2.1 h).1
theorem nc4 (t : Fin (cfgA (F := F)).N) (h : ¬ PB (F := F) t) : k0_cond4 (word0 (crd (F := F) t) (tabQ (F := F))) (word1 (crd (F := F) t) (tabK (F := F))) = 1#1 := ((facts t).2.2.2.2.2.2.2.2.2.1 h).2
theorem newHead_iff (t : Fin (cfgA (F := F)).N) : newHead t.val = true ↔ PA (F := F) t := (facts (F := F) t).2.2.2.2.2.2.2.2.2.2.1
theorem newBlock_iff (t : Fin (cfgA (F := F)).N) : newBlock t.val = true ↔ PB (F := F) t := (facts t).2.2.2.2.2.2.2.2.2.2.2

/-- The body's runs at a point. -/
abbrev rA (c : Dev nD) (t : Fin (cfgA (F := F)).N) (q : PA (F := F) t) :=
  runA (F := F) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (ms7 (F := F) t) (hs7 (F := F) t) (ms8 (F := F) t) (hs8 (F := F) t) (ms9 (F := F) t) (hs9 (F := F) t) (ms10 (F := F) t) (hs10 (F := F) t) c (crd (F := F) t) (tabQ (F := F)) (tabK (F := F)) (iblk (F := F) V c (0 : Fin 11) t) (iblk (F := F) V c (1 : Fin 11) t) (iblk (F := F) V c (2 : Fin 11) t) (iblk (F := F) V c (3 : Fin 11) t) (iblk (F := F) V c (4 : Fin 11) t) (iblk (F := F) V c (5 : Fin 11) t) (iblk (F := F) V c (6 : Fin 11) t) (iblk (F := F) V c (7 : Fin 11) t) (chk (F := F) t) q (pb_of_pa (F := F) t q) (c3 (F := F) t (pb_of_pa (F := F) t q)) (c4 (F := F) t (pb_of_pa (F := F) t q))
abbrev rB (c : Dev nD) (t : Fin (cfgA (F := F)).N) (p : Acc F) (q : ¬ PA (F := F) t) (q' : PB (F := F) t) :=
  runB (F := F) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (ms7 (F := F) t) (hs7 (F := F) t) (ms8 (F := F) t) (hs8 (F := F) t) (ms9 (F := F) t) (hs9 (F := F) t) (ms10 (F := F) t) (hs10 (F := F) t) c (crd (F := F) t) (tabQ (F := F)) (tabK (F := F)) (iblk (F := F) V c (0 : Fin 11) t) (iblk (F := F) V c (1 : Fin 11) t) (iblk (F := F) V c (2 : Fin 11) t) (iblk (F := F) V c (3 : Fin 11) t) (iblk (F := F) V c (4 : Fin 11) t) (iblk (F := F) V c (5 : Fin 11) t) (iblk (F := F) V c (6 : Fin 11) t) (iblk (F := F) V c (7 : Fin 11) t) p.1 (chk (F := F) t) q q' (c3 (F := F) t q') (c4 (F := F) t q')
abbrev rC (c : Dev nD) (t : Fin (cfgA (F := F)).N) (p : Acc F) (q : ¬ PB (F := F) t) :=
  runC (F := F) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (ms7 (F := F) t) (hs7 (F := F) t) (ms8 (F := F) t) (hs8 (F := F) t) (ms9 (F := F) t) (hs9 (F := F) t) (ms10 (F := F) t) (hs10 (F := F) t) c (crd (F := F) t) (tabQ (F := F)) (tabK (F := F)) (iblk (F := F) V c (0 : Fin 11) t) (iblk (F := F) V c (1 : Fin 11) t) (iblk (F := F) V c (2 : Fin 11) t) (iblk (F := F) V c (3 : Fin 11) t) (iblk (F := F) V c (4 : Fin 11) t) (iblk (F := F) V c (5 : Fin 11) t) (iblk (F := F) V c (6 : Fin 11) t) (iblk (F := F) V c (7 : Fin 11) t) p.1 p.2.1 p.2.2 (chk (F := F) t) (fun h => q (pb_of_pa (F := F) t h)) q (nc3 (F := F) t q) (nc4 (F := F) t q)

/-- What the accumulators hold after the body ran at a point, from what they held before it. -/
def step (c : Dev nD) (t : Fin (cfgA (F := F)).N) (p : Acc F) : Acc F :=
  if q : PA (F := F) t then
    ((ms8 (F := F) t).view.read (Elt F) ((ms8 (F := F) t).view.writes (Elt F) ((hs8 (F := F) t).unread p.1) (rA (F := F) V c t q).1),
     (ms9 (F := F) t).view.read (Elt F) ((ms9 (F := F) t).view.writes (Elt F) ((hs9 (F := F) t).unread p.2.1) (rA (F := F) V c t q).2.1),
     (ms10 (F := F) t).view.read (Elt F) ((ms10 (F := F) t).view.writes (Elt F) ((hs10 (F := F) t).unread p.2.2) (rA (F := F) V c t q).2.2.1))
  else if q' : PB (F := F) t then
    ((ms8 (F := F) t).view.read (Elt F) ((ms8 (F := F) t).view.writes (Elt F) ((hs8 (F := F) t).unread p.1) (rB (F := F) V c t p q q').1),
     (ms9 (F := F) t).view.read (Elt F) ((ms9 (F := F) t).view.writes (Elt F) ((hs9 (F := F) t).unread p.2.1) (rB (F := F) V c t p q q').2.1),
     (ms10 (F := F) t).view.read (Elt F) ((ms10 (F := F) t).view.writes (Elt F) ((hs10 (F := F) t).unread p.2.2) (rB (F := F) V c t p q q').2.2.1))
  else
    ((ms8 (F := F) t).view.read (Elt F) ((ms8 (F := F) t).view.writes (Elt F) ((hs8 (F := F) t).unread p.1) (rC (F := F) V c t p q').1),
     (ms9 (F := F) t).view.read (Elt F) ((ms9 (F := F) t).view.writes (Elt F) ((hs9 (F := F) t).unread p.2.1) (rC (F := F) V c t p q').2.1),
     (ms10 (F := F) t).view.read (Elt F) ((ms10 (F := F) t).view.writes (Elt F) ((hs10 (F := F) t).unread p.2.2) (rC (F := F) V c t p q').2.2.1))

theorem step_A (c : Dev nD) (t : Fin (cfgA (F := F)).N) (p : Acc F) (q : PA (F := F) t) : step (F := F) V c t p =
    ((ms8 (F := F) t).view.read (Elt F) ((ms8 (F := F) t).view.writes (Elt F) ((hs8 (F := F) t).unread p.1) (rA (F := F) V c t q).1),
     (ms9 (F := F) t).view.read (Elt F) ((ms9 (F := F) t).view.writes (Elt F) ((hs9 (F := F) t).unread p.2.1) (rA (F := F) V c t q).2.1),
     (ms10 (F := F) t).view.read (Elt F) ((ms10 (F := F) t).view.writes (Elt F) ((hs10 (F := F) t).unread p.2.2) (rA (F := F) V c t q).2.2.1)) := by
  unfold step; rw [dif_pos q]
theorem step_B (c : Dev nD) (t : Fin (cfgA (F := F)).N) (p : Acc F) (q : ¬ PA (F := F) t) (q' : PB (F := F) t) : step (F := F) V c t p =
    ((ms8 (F := F) t).view.read (Elt F) ((ms8 (F := F) t).view.writes (Elt F) ((hs8 (F := F) t).unread p.1) (rB (F := F) V c t p q q').1),
     (ms9 (F := F) t).view.read (Elt F) ((ms9 (F := F) t).view.writes (Elt F) ((hs9 (F := F) t).unread p.2.1) (rB (F := F) V c t p q q').2.1),
     (ms10 (F := F) t).view.read (Elt F) ((ms10 (F := F) t).view.writes (Elt F) ((hs10 (F := F) t).unread p.2.2) (rB (F := F) V c t p q q').2.2.1)) := by
  unfold step; rw [dif_neg q, dif_pos q']
theorem step_C (c : Dev nD) (t : Fin (cfgA (F := F)).N) (p : Acc F) (q' : ¬ PB (F := F) t) : step (F := F) V c t p =
    ((ms8 (F := F) t).view.read (Elt F) ((ms8 (F := F) t).view.writes (Elt F) ((hs8 (F := F) t).unread p.1) (rC (F := F) V c t p q').1),
     (ms9 (F := F) t).view.read (Elt F) ((ms9 (F := F) t).view.writes (Elt F) ((hs9 (F := F) t).unread p.2.1) (rC (F := F) V c t p q').2.1),
     (ms10 (F := F) t).view.read (Elt F) ((ms10 (F := F) t).view.writes (Elt F) ((hs10 (F := F) t).unread p.2.2) (rC (F := F) V c t p q').2.2.1)) := by
  unfold step; rw [dif_neg (fun h => q' (pb_of_pa (F := F) t h)), dif_neg q']

/-- Nothing stored yet. -/
def acc0 : Acc F := (constant S1x8192x256 .f32 0x00000000#32, constant S1x2048x256 .f32 0x00000000#32, constant S1x2048x128 .f32 0x00000000#32)

/-- The accumulators after each point. -/
def traj (c : Dev nD) : (n : ℕ) → n < (cfgA (F := F)).N → Acc F
  | 0, h => step (F := F) V c ⟨0, h⟩ (acc0 (F := F))
  | n + 1, h => step (F := F) V c ⟨n + 1, h⟩ (traj c n (by omega))

/-- The accumulators before a point. -/
def prev (c : Dev nD) (t : Fin (cfgA (F := F)).N) : Acc F :=
  if h : t.val = 0 then acc0 (F := F) else traj (F := F) V c (t.val - 1) (by have := t.isLt; omega)

theorem traj_eq (c : Dev nD) (t : Fin (cfgA (F := F)).N) : traj (F := F) V c t.val t.isLt = step (F := F) V c t (prev (F := F) V c t) := by
  obtain ⟨n, hn⟩ := t
  cases n with
  | zero => rfl
  | succ n =>
    unfold prev
    simp only [Nat.add_one_ne_zero, dif_neg, not_false_eq_true]; rfl

/-- The proof data of the pipeline on a core. -/
def dats (_ : Fin 1) (c : Dev nD) : Dat τ (Elt F) Unit ℕ (UR sig nD τ) ℕ (cfgA (F := F)) c where
  A w := V c (Proc.devRef .tc (Pipeline.arrRef (cfgA (F := F)).spec w))
  after w t := match w with
    | ⟨0, _⟩ => iblk (F := F) V c (0 : Fin 11) t
    | ⟨1, _⟩ => iblk (F := F) V c (1 : Fin 11) t
    | ⟨2, _⟩ => iblk (F := F) V c (2 : Fin 11) t
    | ⟨3, _⟩ => iblk (F := F) V c (3 : Fin 11) t
    | ⟨4, _⟩ => iblk (F := F) V c (4 : Fin 11) t
    | ⟨5, _⟩ => iblk (F := F) V c (5 : Fin 11) t
    | ⟨6, _⟩ => iblk (F := F) V c (6 : Fin 11) t
    | ⟨7, _⟩ => iblk (F := F) V c (7 : Fin 11) t
    | ⟨8, _⟩ => (traj (F := F) V c t.val t.isLt).1
    | ⟨9, _⟩ => (traj (F := F) V c t.val t.isLt).2.1
    | ⟨10, _⟩ => (traj (F := F) V c t.val t.isLt).2.2
  Φ t := iprop(Pipeline.ΦA (cfgA (F := F)).spec c ∗ Pipeline.ΦT pre0 (pf (F := F)) c)
  q _ := fullShare
  owed _ := 0

theorem after_0 (c : Dev nD) (t : Fin (cfgA (F := F)).N) : (dats (F := F) V 0 c).after (0 : Fin 11) t = iblk (F := F) V c (0 : Fin 11) t := rfl
theorem after_1 (c : Dev nD) (t : Fin (cfgA (F := F)).N) : (dats (F := F) V 0 c).after (1 : Fin 11) t = iblk (F := F) V c (1 : Fin 11) t := rfl
theorem after_2 (c : Dev nD) (t : Fin (cfgA (F := F)).N) : (dats (F := F) V 0 c).after (2 : Fin 11) t = iblk (F := F) V c (2 : Fin 11) t := rfl
theorem after_3 (c : Dev nD) (t : Fin (cfgA (F := F)).N) : (dats (F := F) V 0 c).after (3 : Fin 11) t = iblk (F := F) V c (3 : Fin 11) t := rfl
theorem after_4 (c : Dev nD) (t : Fin (cfgA (F := F)).N) : (dats (F := F) V 0 c).after (4 : Fin 11) t = iblk (F := F) V c (4 : Fin 11) t := rfl
theorem after_5 (c : Dev nD) (t : Fin (cfgA (F := F)).N) : (dats (F := F) V 0 c).after (5 : Fin 11) t = iblk (F := F) V c (5 : Fin 11) t := rfl
theorem after_6 (c : Dev nD) (t : Fin (cfgA (F := F)).N) : (dats (F := F) V 0 c).after (6 : Fin 11) t = iblk (F := F) V c (6 : Fin 11) t := rfl
theorem after_7 (c : Dev nD) (t : Fin (cfgA (F := F)).N) : (dats (F := F) V 0 c).after (7 : Fin 11) t = iblk (F := F) V c (7 : Fin 11) t := rfl
theorem after_8 (c : Dev nD) (t : Fin (cfgA (F := F)).N) : (dats (F := F) V 0 c).after (8 : Fin 11) t = (traj (F := F) V c t.val t.isLt).1 := rfl
theorem after_9 (c : Dev nD) (t : Fin (cfgA (F := F)).N) : (dats (F := F) V 0 c).after (9 : Fin 11) t = (traj (F := F) V c t.val t.isLt).2.1 := rfl
theorem after_10 (c : Dev nD) (t : Fin (cfgA (F := F)).N) : (dats (F := F) V 0 c).after (10 : Fin 11) t = (traj (F := F) V c t.val t.isLt).2.2 := rfl

theorem before_0 (c : Dev nD) (t : Fin (cfgA (F := F)).N) (d) : (dats (F := F) V 0 c).before (0 : Fin 11) t d = iblk (F := F) V c (0 : Fin 11) t :=
  ((dats (F := F) V 0 c).before_in_eq_fetched (0 : Fin 11) rfl (fun _ => rfl) (fun _ _ _ => rfl) (fun t => by rw [after_0 (F := F) V c t]; unfold Dat.blockOf iblk; rfl) t d).trans
    (by unfold Dat.fetched Dat.blockOf iblk; rfl)
theorem before_1 (c : Dev nD) (t : Fin (cfgA (F := F)).N) (d) : (dats (F := F) V 0 c).before (1 : Fin 11) t d = iblk (F := F) V c (1 : Fin 11) t :=
  ((dats (F := F) V 0 c).before_in_eq_fetched (1 : Fin 11) rfl (fun _ => rfl) (fun _ _ _ => rfl) (fun t => by rw [after_1 (F := F) V c t]; unfold Dat.blockOf iblk; rfl) t d).trans
    (by unfold Dat.fetched Dat.blockOf iblk; rfl)
theorem before_2 (c : Dev nD) (t : Fin (cfgA (F := F)).N) (d) : (dats (F := F) V 0 c).before (2 : Fin 11) t d = iblk (F := F) V c (2 : Fin 11) t :=
  ((dats (F := F) V 0 c).before_in_eq_fetched (2 : Fin 11) rfl (fun _ => rfl) (fun _ _ _ => rfl) (fun t => by rw [after_2 (F := F) V c t]; unfold Dat.blockOf iblk; rfl) t d).trans
    (by unfold Dat.fetched Dat.blockOf iblk; rfl)
theorem before_3 (c : Dev nD) (t : Fin (cfgA (F := F)).N) (d) : (dats (F := F) V 0 c).before (3 : Fin 11) t d = iblk (F := F) V c (3 : Fin 11) t :=
  ((dats (F := F) V 0 c).before_in_eq_fetched (3 : Fin 11) rfl (fun _ => rfl) (fun _ _ _ => rfl) (fun t => by rw [after_3 (F := F) V c t]; unfold Dat.blockOf iblk; rfl) t d).trans
    (by unfold Dat.fetched Dat.blockOf iblk; rfl)
theorem before_4 (c : Dev nD) (t : Fin (cfgA (F := F)).N) (d) : (dats (F := F) V 0 c).before (4 : Fin 11) t d = iblk (F := F) V c (4 : Fin 11) t :=
  ((dats (F := F) V 0 c).before_in_eq_fetched (4 : Fin 11) rfl (fun _ => rfl) (fun _ _ _ => rfl) (fun t => by rw [after_4 (F := F) V c t]; unfold Dat.blockOf iblk; rfl) t d).trans
    (by unfold Dat.fetched Dat.blockOf iblk; rfl)
theorem before_5 (c : Dev nD) (t : Fin (cfgA (F := F)).N) (d) : (dats (F := F) V 0 c).before (5 : Fin 11) t d = iblk (F := F) V c (5 : Fin 11) t :=
  ((dats (F := F) V 0 c).before_in_eq_fetched (5 : Fin 11) rfl (fun _ => rfl) (fun _ _ _ => rfl) (fun t => by rw [after_5 (F := F) V c t]; unfold Dat.blockOf iblk; rfl) t d).trans
    (by unfold Dat.fetched Dat.blockOf iblk; rfl)
theorem before_6 (c : Dev nD) (t : Fin (cfgA (F := F)).N) (d) : (dats (F := F) V 0 c).before (6 : Fin 11) t d = iblk (F := F) V c (6 : Fin 11) t :=
  ((dats (F := F) V 0 c).before_in_eq_fetched (6 : Fin 11) rfl (fun _ => rfl) (fun _ _ _ => rfl) (fun t => by rw [after_6 (F := F) V c t]; unfold Dat.blockOf iblk; rfl) t d).trans
    (by unfold Dat.fetched Dat.blockOf iblk; rfl)
theorem before_7 (c : Dev nD) (t : Fin (cfgA (F := F)).N) (d) : (dats (F := F) V 0 c).before (7 : Fin 11) t d = iblk (F := F) V c (7 : Fin 11) t :=
  ((dats (F := F) V 0 c).before_in_eq_fetched (7 : Fin 11) rfl (fun _ => rfl) (fun _ _ _ => rfl) (fun t => by rw [after_7 (F := F) V c t]; unfold Dat.blockOf iblk; rfl) t d).trans
    (by unfold Dat.fetched Dat.blockOf iblk; rfl)

theorem fresh_8 (t : Fin (cfgA (F := F)).N) : (cfgA (F := F)).fresh (8 : Fin 11) t.val = newHead t.val :=
  Pipeline.Cfg.fresh_tab (cfgA (F := F)) (8 : Fin 11) newHead rfl (new8 (F := F)) t.val (Nat.le_of_lt t.isLt)

theorem before_8 (c : Dev nD) (t : Fin (cfgA (F := F)).N) (d : S1x8192x256.Idx → Elt F .f32) :
    (dats (F := F) V 0 c).before (8 : Fin 11) t d = if newHead t.val then d else (prev (F := F) V c t).1 := by
  rw [(dats (F := F) V 0 c).before_out_traj (8 : Fin 11) rfl (fun _ _ => rfl)
    (fun t ht hi hf => absurd ((idle8 (F := F) t).symm.trans hi) (by decide)) t.val t rfl d]
  by_cases hf : (cfgA (F := F)).fresh (8 : Fin 11) t.val = true
  · have hn := hf; rw [fresh_8 (F := F)] at hn
    simp only [hf, hn, ↓reduceIte]
  · have h0 : t.val ≠ 0 := fun h0 => hf (by rw [h0]; exact Pipeline.Cfg.fresh_zero _ _)
    rw [Bool.not_eq_true] at hf
    have hn := hf; rw [fresh_8 (F := F)] at hn
    simp only [hf, hn, Bool.false_eq_true, ↓reduceIte, after_8 (F := F) V c]; unfold prev; rw [dif_neg h0]

theorem fresh_9 (t : Fin (cfgA (F := F)).N) : (cfgA (F := F)).fresh (9 : Fin 11) t.val = newBlock t.val :=
  Pipeline.Cfg.fresh_tab (cfgA (F := F)) (9 : Fin 11) newBlock rfl (new9 (F := F)) t.val (Nat.le_of_lt t.isLt)

theorem before_9 (c : Dev nD) (t : Fin (cfgA (F := F)).N) (d : S1x2048x256.Idx → Elt F .f32) :
    (dats (F := F) V 0 c).before (9 : Fin 11) t d = if newBlock t.val then d else (prev (F := F) V c t).2.1 := by
  rw [(dats (F := F) V 0 c).before_out_traj (9 : Fin 11) rfl (fun _ _ => rfl)
    (fun t ht hi hf => absurd ((idle9 (F := F) t).symm.trans hi) (by decide)) t.val t rfl d]
  by_cases hf : (cfgA (F := F)).fresh (9 : Fin 11) t.val = true
  · have hn := hf; rw [fresh_9 (F := F)] at hn
    simp only [hf, hn, ↓reduceIte]
  · have h0 : t.val ≠ 0 := fun h0 => hf (by rw [h0]; exact Pipeline.Cfg.fresh_zero _ _)
    rw [Bool.not_eq_true] at hf
    have hn := hf; rw [fresh_9 (F := F)] at hn
    simp only [hf, hn, Bool.false_eq_true, ↓reduceIte, after_9 (F := F) V c]; unfold prev; rw [dif_neg h0]

theorem fresh_10 (t : Fin (cfgA (F := F)).N) : (cfgA (F := F)).fresh (10 : Fin 11) t.val = newBlock t.val :=
  Pipeline.Cfg.fresh_tab (cfgA (F := F)) (10 : Fin 11) newBlock rfl (new10 (F := F)) t.val (Nat.le_of_lt t.isLt)

theorem before_10 (c : Dev nD) (t : Fin (cfgA (F := F)).N) (d : S1x2048x128.Idx → Elt F .f32) :
    (dats (F := F) V 0 c).before (10 : Fin 11) t d = if newBlock t.val then d else (prev (F := F) V c t).2.2 := by
  rw [(dats (F := F) V 0 c).before_out_traj (10 : Fin 11) rfl (fun _ _ => rfl)
    (fun t ht hi hf => absurd ((idle10 (F := F) t).symm.trans hi) (by decide)) t.val t rfl d]
  by_cases hf : (cfgA (F := F)).fresh (10 : Fin 11) t.val = true
  · have hn := hf; rw [fresh_10 (F := F)] at hn
    simp only [hf, hn, ↓reduceIte]
  · have h0 : t.val ≠ 0 := fun h0 => hf (by rw [h0]; exact Pipeline.Cfg.fresh_zero _ _)
    rw [Bool.not_eq_true] at hf
    have hn := hf; rw [fresh_10 (F := F)] at hn
    simp only [hf, hn, Bool.false_eq_true, ↓reduceIte, after_10 (F := F) V c]; unfold prev; rw [dif_neg h0]

/-- The tables as the region hands them over, one by one. -/
theorem tables_eq (c : Dev nD) : (Pipeline.ΦT pre0 (pf (F := F)) c : sProp 𝕄)
    = iprop((tab0.view.loc (c : Thread nD τ) ↦{fullShare.right} tabQ (F := F)) ∗ (tab1.view.loc (c : Thread nD τ) ↦{fullShare.right} tabK (F := F))) := by
  unfold Pipeline.ΦT Pipeline.prefHeld
  rw [bigSep_univ_eq_bigSepL [(0 : Fin 2), (1 : Fin 2)] (by decide) (by decide)]
  rfl

end Cert.Kernel2Ideal.Attn

end
-- ==== Proof.AttnFrame.lean ====
/-
  The body of the attention gradient call keeps to the proof data, at every point.
-/
module

public import proofs.«01_k».proof.Proof.AttnDat

@[expose] public section

set_option maxRecDepth 16384
set_option Elab.async false

noncomputable section

namespace Cert.Kernel2Ideal.Attn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (V : Dev nD → Valuation τ sig (Elt F))

/-- Pieces one of which is the whole shape cover it. -/
theorem cover_at {s : Shape} {e : EltTy} (L : List (View.Piece (Elt F) s e)) (n : ℕ) (h : (L[n]?.map View.Piece.whole) = some true) :
    ∀ y : s.Idx, ∃ p ∈ L, y ∈ p.1.set := by
  refine View.cover_of_wholeMem L ?_
  cases hp : L[n]? with
  | none => rw [hp] at h; exact absurd h (by simp)
  | some p => rw [hp] at h; exact ⟨p, List.mem_of_getElem? hp, by simpa using h⟩

theorem coverA_8 (c : Dev nD) (t : Fin (cfgA (F := F)).N) (q : PA (F := F) t) : ∀ y, ∃ pc ∈ (rA (F := F) V c t q).1, y ∈ pc.1.set :=
  cover_at _ 8 (by sl_kernel_rfl)
theorem coverA_9 (c : Dev nD) (t : Fin (cfgA (F := F)).N) (q : PA (F := F) t) : ∀ y, ∃ pc ∈ (rA (F := F) V c t q).2.1, y ∈ pc.1.set :=
  cover_at _ 8 (by sl_kernel_rfl)
theorem coverA_10 (c : Dev nD) (t : Fin (cfgA (F := F)).N) (q : PA (F := F) t) : ∀ y, ∃ pc ∈ (rA (F := F) V c t q).2.2.1, y ∈ pc.1.set :=
  cover_at _ 8 (by sl_kernel_rfl)
theorem coverB_9 (c : Dev nD) (t : Fin (cfgA (F := F)).N) (p : Acc F) (q : ¬ PA (F := F) t) (q' : PB (F := F) t) : ∀ y, ∃ pc ∈ (rB (F := F) V c t p q q').2.1, y ∈ pc.1.set :=
  cover_at _ 8 (by sl_kernel_rfl)
theorem coverB_10 (c : Dev nD) (t : Fin (cfgA (F := F)).N) (p : Acc F) (q : ¬ PA (F := F) t) (q' : PB (F := F) t) : ∀ y, ∃ pc ∈ (rB (F := F) V c t p q q').2.2.1, y ∈ pc.1.set :=
  cover_at _ 8 (by sl_kernel_rfl)

/-- The body at point `t` on its staging memrefs, as the pipeline calls it. -/
abbrev bodyAt (t : Fin (cfgA (F := F)).N) : Prog (TpuEff nD τ sig (Elt F) Λ₀ .tc) PUnit :=
  cc0_attn_bwd (crd (F := F) t) tab0 (Memref.isWhole_whole _) tab1 (Memref.isWhole_whole _) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (ms7 (F := F) t) (hs7 (F := F) t) (ms8 (F := F) t) (hs8 (F := F) t) (ms9 (F := F) t) (hs9 (F := F) t) (ms10 (F := F) t) (hs10 (F := F) t)

set_option maxHeartbeats 8000000 in
/-- The body's obligation at a point, case A of its conditions. -/
theorem soundA (c : Dev nD) (t : Fin (cfgA (F := F)).N) (q : PA (F := F) t) :
    iprop((dats (F := F) V 0 c).Φ t.castSucc ∗ (dats (F := F) V 0 c).owesAt () t.castSucc
        ∗ (∃ d, owns (c : Thread nD τ) (ms0 (F := F) t) fullShare ((dats (F := F) V 0 c).before (0 : Fin 11) t d))
        ∗ (∃ d, owns (c : Thread nD τ) (ms1 (F := F) t) fullShare ((dats (F := F) V 0 c).before (1 : Fin 11) t d))
        ∗ (∃ d, owns (c : Thread nD τ) (ms2 (F := F) t) fullShare ((dats (F := F) V 0 c).before (2 : Fin 11) t d))
        ∗ (∃ d, owns (c : Thread nD τ) (ms3 (F := F) t) fullShare ((dats (F := F) V 0 c).before (3 : Fin 11) t d))
        ∗ (∃ d, owns (c : Thread nD τ) (ms4 (F := F) t) fullShare ((dats (F := F) V 0 c).before (4 : Fin 11) t d))
        ∗ (∃ d, owns (c : Thread nD τ) (ms5 (F := F) t) fullShare ((dats (F := F) V 0 c).before (5 : Fin 11) t d))
        ∗ (∃ d, owns (c : Thread nD τ) (ms6 (F := F) t) fullShare ((dats (F := F) V 0 c).before (6 : Fin 11) t d))
        ∗ (∃ d, owns (c : Thread nD τ) (ms7 (F := F) t) fullShare ((dats (F := F) V 0 c).before (7 : Fin 11) t d))
        ∗ (∃ d, owns (c : Thread nD τ) (ms8 (F := F) t) fullShare ((dats (F := F) V 0 c).before (8 : Fin 11) t d))
        ∗ (∃ d, owns (c : Thread nD τ) (ms9 (F := F) t) fullShare ((dats (F := F) V 0 c).before (9 : Fin 11) t d))
        ∗ (∃ d, owns (c : Thread nD τ) (ms10 (F := F) t) fullShare ((dats (F := F) V 0 c).before (10 : Fin 11) t d)))
      ⊢ wp frame (wpE (defs₀ (F := F)) Variants.none c none) Set.univ (bodyAt (F := F) t) fun _ =>
          iprop((dats (F := F) V 0 c).Φ t.succ ∗ (dats (F := F) V 0 c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dats (F := F) V 0 c).before w t d))
                  | true => owns (c : Thread nD τ) (((cfgA (F := F)).win w).stage ((cfgA (F := F)).slots t w)) fullShare ((dats (F := F) V 0 c).after w t)
                | false => owns (c : Thread nD τ) (((cfgA (F := F)).win w).stage ((cfgA (F := F)).slots t w)) fullShare ((dats (F := F) V 0 c).after w t)) := by
  rw [bigSep_W0]
  rewrite [idle8 (F := F) t]; try rewrite [idle9 (F := F) t]
  try rewrite [idle10 (F := F) t]
  simp only [before_0 (F := F), before_1 (F := F), before_2 (F := F), before_3 (F := F), before_4 (F := F), before_5 (F := F), before_6 (F := F), before_7 (F := F), before_8 (F := F), before_9 (F := F), before_10 (F := F), after_0 (F := F), after_1 (F := F), after_2 (F := F), after_3 (F := F), after_4 (F := F), after_5 (F := F), after_6 (F := F), after_7 (F := F), after_8 (F := F), after_9 (F := F), after_10 (F := F)]
  rewrite [traj_eq (F := F) V c t, step_A (F := F) V c t _ q]
  rewrite [(newHead_iff (F := F) t).2 q, (newBlock_iff (F := F) t).2 (pb_of_pa (F := F) t q)]
  simp only [Bool.false_eq_true, ↓reduceIte]
  rewrite [show (dats (F := F) V 0 c).Φ t.succ = iprop(Pipeline.ΦA (cfgA (F := F)).spec c ∗ Pipeline.ΦT pre0 (pf (F := F)) c) from rfl, show (dats (F := F) V 0 c).Φ t.castSucc = iprop(Pipeline.ΦA (cfgA (F := F)).spec c ∗ Pipeline.ΦT pre0 (pf (F := F)) c) from rfl,
    show (dats (F := F) V 0 c).owesAt () t.succ = (dats (F := F) V 0 c).owesAt () t.castSucc from rfl, tables_eq (F := F) c]
  iintro ⟨⟨HA, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((rA (F := F) V c t q).2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [HT0]; · iexact HT0
  isplitl [HT1]; · iexact HT1
  isplitl [H8]; · iexists _; iexact H8
  isplitl [H9]; · iexists _; iexact H9
  isplitl [H10]; · iexists _; iexact H10
  iintro ⟨H0, H1, H2, H3, H4, H5, H6, H7, HT0, HT1, ⟨%e8, H8⟩, ⟨%e9, H9⟩, ⟨%e10, H10⟩⟩
  isplitl [HA HT0 HT1]
  · isplitl [HA]; · iexact HA
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]
  · unfold owns; iexists _; isplitr; swap
    · iexact H8
    · ipureintro; exact View.read_writes_of_cover _ _ _ _ _ (coverA_8 (F := F) V c t q)
  isplitl [H9]
  · unfold owns; iexists _; isplitr; swap
    · iexact H9
    · ipureintro; exact View.read_writes_of_cover _ _ _ _ _ (coverA_9 (F := F) V c t q)
  unfold owns; iexists _; isplitr; swap
  · iexact H10
  · ipureintro; exact View.read_writes_of_cover _ _ _ _ _ (coverA_10 (F := F) V c t q)

set_option maxHeartbeats 8000000 in
/-- The body's obligation at a point, case B of its conditions. -/
theorem soundB (c : Dev nD) (t : Fin (cfgA (F := F)).N) (q : ¬ PA (F := F) t) (q' : PB (F := F) t) :
    iprop((dats (F := F) V 0 c).Φ t.castSucc ∗ (dats (F := F) V 0 c).owesAt () t.castSucc
        ∗ (∃ d, owns (c : Thread nD τ) (ms0 (F := F) t) fullShare ((dats (F := F) V 0 c).before (0 : Fin 11) t d))
        ∗ (∃ d, owns (c : Thread nD τ) (ms1 (F := F) t) fullShare ((dats (F := F) V 0 c).before (1 : Fin 11) t d))
        ∗ (∃ d, owns (c : Thread nD τ) (ms2 (F := F) t) fullShare ((dats (F := F) V 0 c).before (2 : Fin 11) t d))
        ∗ (∃ d, owns (c : Thread nD τ) (ms3 (F := F) t) fullShare ((dats (F := F) V 0 c).before (3 : Fin 11) t d))
        ∗ (∃ d, owns (c : Thread nD τ) (ms4 (F := F) t) fullShare ((dats (F := F) V 0 c).before (4 : Fin 11) t d))
        ∗ (∃ d, owns (c : Thread nD τ) (ms5 (F := F) t) fullShare ((dats (F := F) V 0 c).before (5 : Fin 11) t d))
        ∗ (∃ d, owns (c : Thread nD τ) (ms6 (F := F) t) fullShare ((dats (F := F) V 0 c).before (6 : Fin 11) t d))
        ∗ (∃ d, owns (c : Thread nD τ) (ms7 (F := F) t) fullShare ((dats (F := F) V 0 c).before (7 : Fin 11) t d))
        ∗ (∃ d, owns (c : Thread nD τ) (ms8 (F := F) t) fullShare ((dats (F := F) V 0 c).before (8 : Fin 11) t d))
        ∗ (∃ d, owns (c : Thread nD τ) (ms9 (F := F) t) fullShare ((dats (F := F) V 0 c).before (9 : Fin 11) t d))
        ∗ (∃ d, owns (c : Thread nD τ) (ms10 (F := F) t) fullShare ((dats (F := F) V 0 c).before (10 : Fin 11) t d)))
      ⊢ wp frame (wpE (defs₀ (F := F)) Variants.none c none) Set.univ (bodyAt (F := F) t) fun _ =>
          iprop((dats (F := F) V 0 c).Φ t.succ ∗ (dats (F := F) V 0 c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dats (F := F) V 0 c).before w t d))
                  | true => owns (c : Thread nD τ) (((cfgA (F := F)).win w).stage ((cfgA (F := F)).slots t w)) fullShare ((dats (F := F) V 0 c).after w t)
                | false => owns (c : Thread nD τ) (((cfgA (F := F)).win w).stage ((cfgA (F := F)).slots t w)) fullShare ((dats (F := F) V 0 c).after w t)) := by
  rw [bigSep_W0]
  rewrite [idle8 (F := F) t]; try rewrite [idle9 (F := F) t]
  try rewrite [idle10 (F := F) t]
  simp only [before_0 (F := F), before_1 (F := F), before_2 (F := F), before_3 (F := F), before_4 (F := F), before_5 (F := F), before_6 (F := F), before_7 (F := F), before_8 (F := F), before_9 (F := F), before_10 (F := F), after_0 (F := F), after_1 (F := F), after_2 (F := F), after_3 (F := F), after_4 (F := F), after_5 (F := F), after_6 (F := F), after_7 (F := F), after_8 (F := F), after_9 (F := F), after_10 (F := F)]
  rewrite [traj_eq (F := F) V c t, step_B (F := F) V c t _ q q']
  rewrite [show newHead t.val = false from Bool.eq_false_iff.2 (fun h => q ((newHead_iff (F := F) t).1 h)), (newBlock_iff (F := F) t).2 q']
  simp only [Bool.false_eq_true, ↓reduceIte]
  rewrite [show (dats (F := F) V 0 c).Φ t.succ = iprop(Pipeline.ΦA (cfgA (F := F)).spec c ∗ Pipeline.ΦT pre0 (pf (F := F)) c) from rfl, show (dats (F := F) V 0 c).Φ t.castSucc = iprop(Pipeline.ΦA (cfgA (F := F)).spec c ∗ Pipeline.ΦT pre0 (pf (F := F)) c) from rfl,
    show (dats (F := F) V 0 c).owesAt () t.succ = (dats (F := F) V 0 c).owesAt () t.castSucc from rfl, tables_eq (F := F) c]
  iintro ⟨⟨HA, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((rB (F := F) V c t (prev (F := F) V c t) q q').2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [HT0]; · iexact HT0
  isplitl [HT1]; · iexact HT1
  isplitl [H8]; · iexact H8
  isplitl [H9]; · iexists _; iexact H9
  isplitl [H10]; · iexists _; iexact H10
  iintro ⟨H0, H1, H2, H3, H4, H5, H6, H7, HT0, HT1, H8, ⟨%e9, H9⟩, ⟨%e10, H10⟩⟩
  isplitl [HA HT0 HT1]
  · isplitl [HA]; · iexact HA
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]
  · unfold owns; iexists _; isplitr; swap
    · iexact H8
    · ipureintro; rfl
  isplitl [H9]
  · unfold owns; iexists _; isplitr; swap
    · iexact H9
    · ipureintro; exact View.read_writes_of_cover _ _ _ _ _ (coverB_9 (F := F) V c t (prev (F := F) V c t) q q')
  unfold owns; iexists _; isplitr; swap
  · iexact H10
  · ipureintro; exact View.read_writes_of_cover _ _ _ _ _ (coverB_10 (F := F) V c t (prev (F := F) V c t) q q')

set_option maxHeartbeats 8000000 in
/-- The body's obligation at a point, case C of its conditions. -/
theorem soundC (c : Dev nD) (t : Fin (cfgA (F := F)).N) (q' : ¬ PB (F := F) t) :
    iprop((dats (F := F) V 0 c).Φ t.castSucc ∗ (dats (F := F) V 0 c).owesAt () t.castSucc
        ∗ (∃ d, owns (c : Thread nD τ) (ms0 (F := F) t) fullShare ((dats (F := F) V 0 c).before (0 : Fin 11) t d))
        ∗ (∃ d, owns (c : Thread nD τ) (ms1 (F := F) t) fullShare ((dats (F := F) V 0 c).before (1 : Fin 11) t d))
        ∗ (∃ d, owns (c : Thread nD τ) (ms2 (F := F) t) fullShare ((dats (F := F) V 0 c).before (2 : Fin 11) t d))
        ∗ (∃ d, owns (c : Thread nD τ) (ms3 (F := F) t) fullShare ((dats (F := F) V 0 c).before (3 : Fin 11) t d))
        ∗ (∃ d, owns (c : Thread nD τ) (ms4 (F := F) t) fullShare ((dats (F := F) V 0 c).before (4 : Fin 11) t d))
        ∗ (∃ d, owns (c : Thread nD τ) (ms5 (F := F) t) fullShare ((dats (F := F) V 0 c).before (5 : Fin 11) t d))
        ∗ (∃ d, owns (c : Thread nD τ) (ms6 (F := F) t) fullShare ((dats (F := F) V 0 c).before (6 : Fin 11) t d))
        ∗ (∃ d, owns (c : Thread nD τ) (ms7 (F := F) t) fullShare ((dats (F := F) V 0 c).before (7 : Fin 11) t d))
        ∗ (∃ d, owns (c : Thread nD τ) (ms8 (F := F) t) fullShare ((dats (F := F) V 0 c).before (8 : Fin 11) t d))
        ∗ (∃ d, owns (c : Thread nD τ) (ms9 (F := F) t) fullShare ((dats (F := F) V 0 c).before (9 : Fin 11) t d))
        ∗ (∃ d, owns (c : Thread nD τ) (ms10 (F := F) t) fullShare ((dats (F := F) V 0 c).before (10 : Fin 11) t d)))
      ⊢ wp frame (wpE (defs₀ (F := F)) Variants.none c none) Set.univ (bodyAt (F := F) t) fun _ =>
          iprop((dats (F := F) V 0 c).Φ t.succ ∗ (dats (F := F) V 0 c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dats (F := F) V 0 c).before w t d))
                  | true => owns (c : Thread nD τ) (((cfgA (F := F)).win w).stage ((cfgA (F := F)).slots t w)) fullShare ((dats (F := F) V 0 c).after w t)
                | false => owns (c : Thread nD τ) (((cfgA (F := F)).win w).stage ((cfgA (F := F)).slots t w)) fullShare ((dats (F := F) V 0 c).after w t)) := by
  rw [bigSep_W0]
  rewrite [idle8 (F := F) t]; try rewrite [idle9 (F := F) t]
  try rewrite [idle10 (F := F) t]
  simp only [before_0 (F := F), before_1 (F := F), before_2 (F := F), before_3 (F := F), before_4 (F := F), before_5 (F := F), before_6 (F := F), before_7 (F := F), before_8 (F := F), before_9 (F := F), before_10 (F := F), after_0 (F := F), after_1 (F := F), after_2 (F := F), after_3 (F := F), after_4 (F := F), after_5 (F := F), after_6 (F := F), after_7 (F := F), after_8 (F := F), after_9 (F := F), after_10 (F := F)]
  rewrite [traj_eq (F := F) V c t, step_C (F := F) V c t _ q']
  rewrite [show newHead t.val = false from Bool.eq_false_iff.2 (fun h => q' (pb_of_pa (F := F) t ((newHead_iff (F := F) t).1 h))), show newBlock t.val = false from Bool.eq_false_iff.2 (fun h => q' ((newBlock_iff (F := F) t).1 h))]
  simp only [Bool.false_eq_true, ↓reduceIte]
  rewrite [show (dats (F := F) V 0 c).Φ t.succ = iprop(Pipeline.ΦA (cfgA (F := F)).spec c ∗ Pipeline.ΦT pre0 (pf (F := F)) c) from rfl, show (dats (F := F) V 0 c).Φ t.castSucc = iprop(Pipeline.ΦA (cfgA (F := F)).spec c ∗ Pipeline.ΦT pre0 (pf (F := F)) c) from rfl,
    show (dats (F := F) V 0 c).owesAt () t.succ = (dats (F := F) V 0 c).owesAt () t.castSucc from rfl, tables_eq (F := F) c]
  iintro ⟨⟨HA, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((rC (F := F) V c t (prev (F := F) V c t) q').2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [HT0]; · iexact HT0
  isplitl [HT1]; · iexact HT1
  isplitl [H8]; · iexact H8
  isplitl [H9]; · iexact H9
  isplitl [H10]; · iexact H10
  iintro ⟨H0, H1, H2, H3, H4, H5, H6, H7, HT0, HT1, H8, H9, H10⟩
  isplitl [HA HT0 HT1]
  · isplitl [HA]; · iexact HA
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]
  · unfold owns; iexists _; isplitr; swap
    · iexact H8
    · ipureintro; rfl
  isplitl [H9]
  · unfold owns; iexists _; isplitr; swap
    · iexact H9
    · ipureintro; rfl
  unfold owns; iexists _; isplitr; swap
  · iexact H10
  · ipureintro; rfl

/-- The body's obligation at a point. -/
theorem sound_body (c : Dev nD) (t : Fin (cfgA (F := F)).N) :
    iprop((dats (F := F) V 0 c).Φ t.castSucc ∗ (dats (F := F) V 0 c).owesAt () t.castSucc
        ∗ (∃ d, owns (c : Thread nD τ) (ms0 (F := F) t) fullShare ((dats (F := F) V 0 c).before (0 : Fin 11) t d))
        ∗ (∃ d, owns (c : Thread nD τ) (ms1 (F := F) t) fullShare ((dats (F := F) V 0 c).before (1 : Fin 11) t d))
        ∗ (∃ d, owns (c : Thread nD τ) (ms2 (F := F) t) fullShare ((dats (F := F) V 0 c).before (2 : Fin 11) t d))
        ∗ (∃ d, owns (c : Thread nD τ) (ms3 (F := F) t) fullShare ((dats (F := F) V 0 c).before (3 : Fin 11) t d))
        ∗ (∃ d, owns (c : Thread nD τ) (ms4 (F := F) t) fullShare ((dats (F := F) V 0 c).before (4 : Fin 11) t d))
        ∗ (∃ d, owns (c : Thread nD τ) (ms5 (F := F) t) fullShare ((dats (F := F) V 0 c).before (5 : Fin 11) t d))
        ∗ (∃ d, owns (c : Thread nD τ) (ms6 (F := F) t) fullShare ((dats (F := F) V 0 c).before (6 : Fin 11) t d))
        ∗ (∃ d, owns (c : Thread nD τ) (ms7 (F := F) t) fullShare ((dats (F := F) V 0 c).before (7 : Fin 11) t d))
        ∗ (∃ d, owns (c : Thread nD τ) (ms8 (F := F) t) fullShare ((dats (F := F) V 0 c).before (8 : Fin 11) t d))
        ∗ (∃ d, owns (c : Thread nD τ) (ms9 (F := F) t) fullShare ((dats (F := F) V 0 c).before (9 : Fin 11) t d))
        ∗ (∃ d, owns (c : Thread nD τ) (ms10 (F := F) t) fullShare ((dats (F := F) V 0 c).before (10 : Fin 11) t d)))
      ⊢ wp frame (wpE (defs₀ (F := F)) Variants.none c none) Set.univ (bodyAt (F := F) t) fun _ =>
          iprop((dats (F := F) V 0 c).Φ t.succ ∗ (dats (F := F) V 0 c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dats (F := F) V 0 c).before w t d))
                  | true => owns (c : Thread nD τ) (((cfgA (F := F)).win w).stage ((cfgA (F := F)).slots t w)) fullShare ((dats (F := F) V 0 c).after w t)
                | false => owns (c : Thread nD τ) (((cfgA (F := F)).win w).stage ((cfgA (F := F)).slots t w)) fullShare ((dats (F := F) V 0 c).after w t)) := by
  by_cases q : PA (F := F) t
  · exact soundA (F := F) V c t q
  by_cases q' : PB (F := F) t
  · exact soundB (F := F) V c t q q'
  · exact soundC (F := F) V c t q'

/-- The library's body obligation, at every point. -/
theorem body_obligation (c : Dev nD) : BodyObligation (dats (F := F) V 0 c) (defs₀ (F := F)) Variants.none () Set.univ := fun t => by
  rw [bigSep_W0]
  exact sound_body (F := F) V c t

theorem share_eq (c : Dev nD) (w : Fin (cfgA (F := F)).W) : (dats (F := F) V 0 c).share w = fullShare := by unfold Dat.share; split <;> rfl

end Cert.Kernel2Ideal.Attn

end
-- ==== Proof.AttnLaunch.lean ====
/-
  The whole run of the attention gradient program: it ends, its arguments unchanged, its counters at zero, its results at
  the pipeline's outputs scaled by the host.
-/
module

public import proofs.«01_k».proof.Proof.AttnFrame

@[expose] public section

set_option maxRecDepth 16384
set_option Elab.async false

noncomputable section

namespace Cert.Kernel2Ideal.Attn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (g : Dev nD → PrngReg)

/-- What the region finds: the operations before it, run on the arguments. -/
def ventry : Dev nD → Valuation τ sig (Elt F) := fun c => StableHlo.after [hostOps0 (F := F)].flatten (fun b => m (c, b))

set_option maxHeartbeats 4000000 in
theorem fresh0 : (hostOps0 (F := F)).Forall fun op => op.fresh = ∅ := by
  repeat' constructor

theorem fresh1 : (hostOps1 (F := F)).Forall fun op => op.fresh = ∅ := by
  repeat' constructor

theorem entry_tab0 (c : Dev nD) : ventry (F := F) m c (Proc.devRef .tc main_c) = tabQ (F := F) := by
  unfold ventry
  simp only [List.flatten_cons, List.flatten_nil, List.append_nil, hostOps0]
  after_results_simp <;> rfl

theorem entry_tab1 (c : Dev nD) : ventry (F := F) m c (Proc.devRef .tc main_c_0) = tabK (F := F) := by
  unfold ventry
  simp only [List.flatten_cons, List.flatten_nil, List.append_nil, hostOps0]
  after_results_simp <;> rfl

theorem entry_pre (c : Dev nD) (k : Fin 2) : ventry (F := F) m c (Proc.devRef .tc (pre0.ref k)) = (adm (F := F)).1 k := by
  match k with
  | ⟨0, _⟩ => exact entry_tab0 m c
  | ⟨1, _⟩ => exact entry_tab1 m c

/-- The operations after the region name no table, -/
theorem tail_tables (op : HloOp τ sig (Elt F)) (h : op ∈ hostOps1 (F := F)) (k : Fin 2) : Proc.devRef .tc (pre0.ref k) ∉ op.bufs := by
  simp only [hostOps1, List.mem_cons, List.not_mem_nil, or_false] at h
  rcases h with rfl | rfl | rfl | rfl | rfl <;>
    simp only [StableHlo.nullary_bufs, StableHlo.unary_bufs, StableHlo.binary_bufs] <;> revert k <;> decide

/-- and write no array of the region's. -/
theorem tail_arrays (op : HloOp τ sig (Elt F)) (h : op ∈ hostOps1 (F := F)) (w : Fin 11) : Proc.devRef .tc (Pipeline.arrRef spec0 w) ∉ op.writes := by
  simp only [hostOps1, List.mem_cons, List.not_mem_nil, or_false] at h
  rcases h with rfl | rfl | rfl | rfl | rfl <;>
    simp only [StableHlo.nullary_writes, StableHlo.unary_writes, StableHlo.binary_writes] <;> revert w <;> decide

/-- The run, with the pipeline's arrays and every other buffer at the end. -/
theorem run_post : θ_run defs (onTc (τ := τ) (main (F := F))) (s₀ m g) (fun r =>
    Pipeline.FramePost (pcs (F := F)) (dats (F := F) (ventry (F := F) m)) 0 (Pipeline.afterTail (pcfgs (F := F)) (fun _ => adm (F := F)) (dats (F := F) (ventry (F := F) m)) 0 (ventry (F := F) m) [hostOps1 (F := F)]) r
      ∧ r.2.sem = fun _ => 0) :=
  Pipeline.θ_run_frameP_around (Q' := _) (pcfgs (F := F)) (fun _ => adm (F := F)) (dats (F := F) (ventry (F := F) m)) 0 launch0 defs₀ Variants.none m g main
    (hbody := fun c => (body_obligation (F := F) (ventry (F := F) m) c).loose) (hshare := share_eq (F := F) (ventry (F := F) m)) (howed := fun _ _ => rfl)
    (V₀ := ventry (F := F) m) (opss := [hostOps1 (F := F)])
    (hsub := fun ops ho op h => by
      obtain rfl := List.mem_singleton.1 ho
      exact Pipeline.sub_tailRefs pre0 spec0 op ((List.forall_iff_forall_mem.mp hostOps1_sub) op h) (tail_tables op h))
    (hfresh := fun ops ho op h => by
      obtain rfl := List.mem_singleton.1 ho
      exact (List.forall_iff_forall_mem.mp fresh1) op h)
    (hkeep := fun ops ho op h => by
      obtain rfl := List.mem_singleton.1 ho
      exact tail_arrays op h)
    (hmain := Pipeline.hmainP_around (pcfgs (F := F)) 0 defs₀ Variants.none m main [hostOps0 (F := F)] [hostOps1 (F := F)]
      hostOps0_sub fresh0 (fun c => main_chain c))
    (hA := fun _ _ => rfl) (hpf := entry_pre m) (hΦ := fun _ _ => rfl)

end Cert.Kernel2Ideal.Attn

end
-- ==== Proof.AttnRes.lean ====
/-
  The attention gradient program's run, read at its results and its arguments.
-/
module

public import proofs.«01_k».proof.Proof.AttnLaunch

@[expose] public section

set_option maxRecDepth 16384
set_option Elab.async false

noncomputable section

namespace Cert.Kernel2Ideal.Attn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (g : Dev nD → PrngReg)

/-- A buffer the operations before the region do not write. -/
theorem entry_arg0 (c : Dev nD) : ventry (F := F) m c (Proc.devRef .tc main_arg0) = m ((c.tc : Thread nD τ).loc main_arg0) := by
  unfold ventry
  simp only [List.flatten_cons, List.flatten_nil, List.append_nil, hostOps0]
  after_results_simp <;> rfl
theorem entry_arg1 (c : Dev nD) : ventry (F := F) m c (Proc.devRef .tc main_arg1) = m ((c.tc : Thread nD τ).loc main_arg1) := by
  unfold ventry
  simp only [List.flatten_cons, List.flatten_nil, List.append_nil, hostOps0]
  after_results_simp <;> rfl
theorem entry_arg2 (c : Dev nD) : ventry (F := F) m c (Proc.devRef .tc main_arg2) = m ((c.tc : Thread nD τ).loc main_arg2) := by
  unfold ventry
  simp only [List.flatten_cons, List.flatten_nil, List.append_nil, hostOps0]
  after_results_simp <;> rfl
theorem entry_arg3 (c : Dev nD) : ventry (F := F) m c (Proc.devRef .tc main_arg3) = m ((c.tc : Thread nD τ).loc main_arg3) := by
  unfold ventry
  simp only [List.flatten_cons, List.flatten_nil, List.append_nil, hostOps0]
  after_results_simp <;> rfl
theorem entry_arg4 (c : Dev nD) : ventry (F := F) m c (Proc.devRef .tc main_arg4) = m ((c.tc : Thread nD τ).loc main_arg4) := by
  unfold ventry
  simp only [List.flatten_cons, List.flatten_nil, List.append_nil, hostOps0]
  after_results_simp <;> rfl

theorem entry_log2 (c : Dev nD) : ventry (F := F) m c (Proc.devRef .tc main_v0) = (Host.log (constant S_ .f32 0x40000000#32) : S_.Idx → Elt F .f32) := by
  unfold ventry
  simp only [List.flatten_cons, List.flatten_nil, List.append_nil, hostOps0]
  after_results_simp <;> rfl

/-- The region's outputs at its end. -/
abbrev outQ (c : Dev nD) : S8x8192x256.Idx → Elt F .f32 := (dats (F := F) (ventry (F := F) m) 0 c).arrAt (8 : Fin 11) (cfgA (F := F)).N
abbrev outK (c : Dev nD) : S8x8192x256.Idx → Elt F .f32 := (dats (F := F) (ventry (F := F) m) 0 c).arrAt (9 : Fin 11) (cfgA (F := F)).N
abbrev outV (c : Dev nD) : S8x8192x128.Idx → Elt F .f32 := (dats (F := F) (ventry (F := F) m) 0 c).arrAt (10 : Fin 11) (cfgA (F := F)).N

/-- What the region leaves, in every buffer. -/
abbrev vexit (c : Dev nD) : Valuation τ sig (Elt F) :=
  Pipeline.withArrays spec0 c (ventry (F := F) m c) fun w => (dats (F := F) (ventry (F := F) m) 0 c).arrAt w (cfgA (F := F)).N

theorem exit_out (c : Dev nD) (w : Fin 11) : vexit m c (Proc.devRef .tc (Pipeline.arrRef spec0 w)) = (dats (F := F) (ventry (F := F) m) 0 c).arrAt w (cfgA (F := F)).N :=
  Pipeline.withArrays_arr spec0 winFacts0.arr_inj c _ _ w

theorem exit_log2 (c : Dev nD) : vexit m c (Proc.devRef .tc main_v0) = (Host.log (constant S_ .f32 0x40000000#32) : S_.Idx → Elt F .f32) :=
  (Pipeline.withArrays_of_ne spec0 c _ _ main_v0 (by decide)).trans (entry_log2 m c)

theorem tail_dq (c : Dev nD) : Pipeline.afterTail (pcfgs (F := F)) (fun _ => adm (F := F)) (dats (F := F) (ventry (F := F) m)) 0 (ventry (F := F) m) [hostOps1 (F := F)] c main_v44
    = (mulf (outQ m c) (broadcastInDim S8x8192x256 ![] bcast_S_S8x8192x256 (constant S_ .f32 0x3D93CD3A#32)) : S8x8192x256.Idx → Elt F .f32) := by
  unfold Pipeline.afterTail
  show StableHlo.after [hostOps1 (F := F)].flatten (vexit m c) (Proc.devRef .tc main_v44) = _
  simp only [List.flatten_cons, List.flatten_nil, List.append_nil, hostOps1]
  after_results_simp
  rw [show vexit m c (Proc.devRef .tc main_v42_0) = outQ m c from exit_out m c (8 : Fin 11)]

theorem tail_dk (c : Dev nD) : Pipeline.afterTail (pcfgs (F := F)) (fun _ => adm (F := F)) (dats (F := F) (ventry (F := F) m)) 0 (ventry (F := F) m) [hostOps1 (F := F)] c main_v46
    = (mulf (outK m c) (broadcastInDim S8x8192x256 ![] bcast_S_S8x8192x256 (Host.log (constant S_ .f32 0x40000000#32) : S_.Idx → Elt F .f32)) : S8x8192x256.Idx → Elt F .f32) := by
  unfold Pipeline.afterTail
  show StableHlo.after [hostOps1 (F := F)].flatten (vexit m c) (Proc.devRef .tc main_v46) = _
  simp only [List.flatten_cons, List.flatten_nil, List.append_nil, hostOps1]
  after_results_simp
  rw [show vexit m c (Proc.devRef .tc main_v42_1) = outK m c from exit_out m c (9 : Fin 11), exit_log2 m c]

theorem tail_arg0 (c : Dev nD) : Pipeline.afterTail (pcfgs (F := F)) (fun _ => adm (F := F)) (dats (F := F) (ventry (F := F) m)) 0 (ventry (F := F) m) [hostOps1 (F := F)] c main_arg0
    = m ((c.tc : Thread nD τ).loc main_arg0) := by
  unfold Pipeline.afterTail
  show StableHlo.after [hostOps1 (F := F)].flatten (vexit m c) (Proc.devRef .tc main_arg0) = _
  simp only [List.flatten_cons, List.flatten_nil, List.append_nil, hostOps1]
  after_results_simp
  exact (Pipeline.withArrays_of_ne spec0 c _ _ main_arg0 (by decide)).trans (entry_arg0 m c)

theorem tail_arg4 (c : Dev nD) : Pipeline.afterTail (pcfgs (F := F)) (fun _ => adm (F := F)) (dats (F := F) (ventry (F := F) m)) 0 (ventry (F := F) m) [hostOps1 (F := F)] c main_arg4
    = m ((c.tc : Thread nD τ).loc main_arg4) := by
  unfold Pipeline.afterTail
  show StableHlo.after [hostOps1 (F := F)].flatten (vexit m c) (Proc.devRef .tc main_arg4) = _
  simp only [List.flatten_cons, List.flatten_nil, List.append_nil, hostOps1]
  after_results_simp
  exact (Pipeline.withArrays_of_ne spec0 c _ _ main_arg4 (by decide)).trans (entry_arg4 m c)

/-- The run: every result, every argument, every counter. -/
theorem run : θ_run defs (onTc (τ := τ) (main (F := F))) ⟨m, fun _ => 0, g⟩ (fun r => (∀ c : Dev nD,
      (r.2.mem ((c.tc : Thread nD τ).loc main_v44) = (mulf (outQ m c) (broadcastInDim S8x8192x256 ![] bcast_S_S8x8192x256 (constant S_ .f32 0x3D93CD3A#32)) : S8x8192x256.Idx → Elt F .f32)
      ∧ r.2.mem ((c.tc : Thread nD τ).loc main_v46) = (mulf (outK m c) (broadcastInDim S8x8192x256 ![] bcast_S_S8x8192x256 (Host.log (constant S_ .f32 0x40000000#32) : S_.Idx → Elt F .f32)) : S8x8192x256.Idx → Elt F .f32)
      ∧ r.2.mem ((c.tc : Thread nD τ).loc main_v42_2) = outV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ⟨⟨?_, ?_, ?_⟩, ?_, ?_, ?_, ?_, ?_⟩, h.2⟩) (run_post m g)
  · exact ((h.1 c).2 main_v44 (show main_v44 ∈ Pipeline.restRefs sig spec0 by decide)).trans (tail_dq m c)
  · exact ((h.1 c).2 main_v46 (show main_v46 ∈ Pipeline.restRefs sig spec0 by decide)).trans (tail_dk m c)
  · exact (h.1 c).1 (10 : Fin 11)
  · exact ((h.1 c).2 main_arg0 (show main_arg0 ∈ Pipeline.restRefs sig spec0 by decide)).trans (tail_arg0 m c)
  · exact ((h.1 c).1 (1 : Fin 11)).trans (((dats (F := F) (ventry (F := F) m) 0 c).arrAt_in (1 : Fin 11) rfl _).trans (entry_arg1 m c))
  · exact ((h.1 c).1 (2 : Fin 11)).trans (((dats (F := F) (ventry (F := F) m) 0 c).arrAt_in (2 : Fin 11) rfl _).trans (entry_arg2 m c))
  · exact ((h.1 c).1 (3 : Fin 11)).trans (((dats (F := F) (ventry (F := F) m) 0 c).arrAt_in (3 : Fin 11) rfl _).trans (entry_arg3 m c))
  · exact ((h.1 c).2 main_arg4 (show main_arg4 ∈ Pipeline.restRefs sig spec0 by decide)).trans (tail_arg4 m c)

end Cert.Kernel2Ideal.Attn

end
-- ==== Proof.AttnFrames.lean ====
/-
  The frame claims of the attention gradient. The program with words for values is the idealised one read at the words,
  its named mask the word that names it, so one run gives both.
-/
module

public import proofs.«01_k».proof.Defs
public import proofs.«01_k».proof.Proof.AttnRes
public import proofs.«01_k».proof.Proof.Gen.Kernel2
public import proofs.«01_k».proof.Proof.Gen.Reference2Ideal.Run
public import proofs.«01_k».proof.Proof.Gen.Pre_ordered_and_finite
public import Idealize.ShloMosaic.Lib.Quiescent

@[expose] public section

set_option maxRecDepth 65536
set_option Elab.async false

noncomputable section

open Idealize.ShloMosaic Idealize.ShloMosaic.TcCoe Idealize.ShloMosaic.Tactic Idealize.SL.Sem

namespace Cert.Proof.Attn

/-- A named constant read at the words is its word. -/
abbrev wordNamed : Named Bits := ⟨fun _ _ {φ} b => FloatOps.ofBits φ b⟩

/-- The run of the idealised program, read at the words. -/
def WordRun : Prop :=
  letI := wordNamed
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

theorem wordRun : WordRun := by
  letI := wordNamed
  intro m g _
  exact (θ_run Cert.Kernel2Ideal.defs _ _).mono (fun _ h => ⟨fun c => (h.1 c).2, h.2⟩) (Cert.Kernel2Ideal.Attn.run (F := Bits) m g)

/-- The two programs are one text, so the two statements are one. -/
theorem wordRun_eq : WordRun = Cert.quiescent_Kernel2 := by
  sl_kernel_rfl

theorem frame_kernel : Cert.quiescent_Kernel2 := wordRun_eq ▸ wordRun

theorem frame_kernelIdeal : Cert.quiescent_Kernel2Ideal := fun m g _ =>
  (θ_run Cert.Kernel2Ideal.defs _ _).mono (fun _ h => ⟨fun c => (h.1 c).2, h.2⟩) (Cert.Kernel2Ideal.Attn.run (F := Ideal) m g)

theorem frame_kernelIdeal_pre : Cert.quiescent_Kernel2Ideal_pre_ordered_and_finite := fun m g _ =>
  frame_kernelIdeal m g trivial

theorem frame_reference : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

theorem frame_reference_pre : Cert.quiescent_Reference2Ideal_pre_ordered_and_finite := fun m g _ =>
  frame_reference m g trivial

theorem preserves : Cert.preserves_Kernel2_Kernel2Ideal :=
  IdealRules.named_const.statement Cert.Kernel2Ideal.κ "mask" .f32 0xFF7FFFFF#32 ⊥ rfl

end Cert.Proof.Attn
end
-- ==== Proof.AttnIdx.lean ====
/-
  Which part of every array a grid point works on: the head is the point over ten, the pair of blocks the point below ten.
-/
module

public import proofs.«01_k».proof.Proof.AttnDat
public import Idealize.ShloMosaic.Lib.ValueIdx

@[expose] public section

set_option maxRecDepth 16384
set_option Elab.async false

noncomputable section

namespace Cert.Kernel2Ideal.Attn

open Cert.Kernel2Ideal Cert.Kernel2Ideal.Gen
open Idealize.ShloMosaic Idealize.ShloMosaic.ValueIdx
open Idealize.ShloMosaic.TcCoe Idealize.ShloMosaic.Tactic

section
variable {F : FTy → Type} [FloatOps F] [Named F]

/-- The block of queries, and of keys, at a point. -/
def qAt (t : ℕ) : Fin 4 := match t % 10 with | 0 => 0 | 1 => 1 | 2 => 2 | 3 => 3 | 4 => 1 | 5 => 2 | 6 => 3 | 7 => 2 | _ => 3
def kAt (t : ℕ) : Fin 4 := match t % 10 with | 0 => 0 | 1 => 0 | 2 => 0 | 3 => 0 | 4 => 1 | 5 => 1 | 6 => 1 | 7 => 2 | 8 => 2 | _ => 3

theorem wordQ : ∀ t : Fin (cfgA (F := F)).N, (word0 (crd (F := F) t) (tabQ (F := F))).toNat = (qAt t.val).val := of_decide_eq_true (by sl_kernel_rfl)
theorem wordK : ∀ t : Fin (cfgA (F := F)).N, (word1 (crd (F := F) t) (tabK (F := F))).toNat = (kAt t.val).val := of_decide_eq_true (by sl_kernel_rfl)

theorem idx0 : ∀ t : Fin (cfgA (F := F)).N, ((cfgA (F := F)).win (0 : Fin 11)).index t 0 = t.val / 10 ∧ ((cfgA (F := F)).win (0 : Fin 11)).index t 1 = (qAt t.val).val ∧ ((cfgA (F := F)).win (0 : Fin 11)).index t 2 = 0 := of_decide_eq_true (by sl_kernel_rfl)
theorem idx1 : ∀ t : Fin (cfgA (F := F)).N, ((cfgA (F := F)).win (1 : Fin 11)).index t 0 = t.val / 10 ∧ ((cfgA (F := F)).win (1 : Fin 11)).index t 1 = (kAt t.val).val ∧ ((cfgA (F := F)).win (1 : Fin 11)).index t 2 = 0 := of_decide_eq_true (by sl_kernel_rfl)
theorem idx2 : ∀ t : Fin (cfgA (F := F)).N, ((cfgA (F := F)).win (2 : Fin 11)).index t 0 = t.val / 10 ∧ ((cfgA (F := F)).win (2 : Fin 11)).index t 1 = (kAt t.val).val ∧ ((cfgA (F := F)).win (2 : Fin 11)).index t 2 = 0 := of_decide_eq_true (by sl_kernel_rfl)
theorem idx3 : ∀ t : Fin (cfgA (F := F)).N, ((cfgA (F := F)).win (3 : Fin 11)).index t 0 = (qAt t.val).val ∧ ((cfgA (F := F)).win (3 : Fin 11)).index t 1 = t.val / 10 := of_decide_eq_true (by sl_kernel_rfl)
theorem idx4 : ∀ t : Fin (cfgA (F := F)).N, ((cfgA (F := F)).win (4 : Fin 11)).index t 0 = t.val / 10 ∧ ((cfgA (F := F)).win (4 : Fin 11)).index t 1 = 0 ∧ ((cfgA (F := F)).win (4 : Fin 11)).index t 2 = (qAt t.val).val := of_decide_eq_true (by sl_kernel_rfl)
theorem idx5 : ∀ t : Fin (cfgA (F := F)).N, ((cfgA (F := F)).win (5 : Fin 11)).index t 0 = t.val / 10 ∧ ((cfgA (F := F)).win (5 : Fin 11)).index t 1 = 0 ∧ ((cfgA (F := F)).win (5 : Fin 11)).index t 2 = (qAt t.val).val := of_decide_eq_true (by sl_kernel_rfl)
theorem idx6 : ∀ t : Fin (cfgA (F := F)).N, ((cfgA (F := F)).win (6 : Fin 11)).index t 0 = (kAt t.val).val ∧ ((cfgA (F := F)).win (6 : Fin 11)).index t 1 = 0 := of_decide_eq_true (by sl_kernel_rfl)
theorem idx7 : ∀ t : Fin (cfgA (F := F)).N, ((cfgA (F := F)).win (7 : Fin 11)).index t 0 = 0 ∧ ((cfgA (F := F)).win (7 : Fin 11)).index t 1 = (qAt t.val).val := of_decide_eq_true (by sl_kernel_rfl)
theorem idx8 : ∀ t : Fin (cfgA (F := F)).N, ((cfgA (F := F)).win (8 : Fin 11)).index t 0 = t.val / 10 ∧ ((cfgA (F := F)).win (8 : Fin 11)).index t 1 = 0 ∧ ((cfgA (F := F)).win (8 : Fin 11)).index t 2 = 0 := of_decide_eq_true (by sl_kernel_rfl)
theorem idx9 : ∀ t : Fin (cfgA (F := F)).N, ((cfgA (F := F)).win (9 : Fin 11)).index t 0 = t.val / 10 ∧ ((cfgA (F := F)).win (9 : Fin 11)).index t 1 = (kAt t.val).val ∧ ((cfgA (F := F)).win (9 : Fin 11)).index t 2 = 0 := of_decide_eq_true (by sl_kernel_rfl)
theorem idx10 : ∀ t : Fin (cfgA (F := F)).N, ((cfgA (F := F)).win (10 : Fin 11)).index t 0 = t.val / 10 ∧ ((cfgA (F := F)).win (10 : Fin 11)).index t 1 = (kAt t.val).val ∧ ((cfgA (F := F)).win (10 : Fin 11)).index t 2 = 0 := of_decide_eq_true (by sl_kernel_rfl)

theorem points : (cfgA (F := F)).N = 80 := of_decide_eq_true (by sl_kernel_rfl)
end

theorem kq_le : ∀ t < 80, kAt t ≤ qAt t ∧ ((newBlock t = true) ↔ kAt t = qAt t) := by decide +kernel

theorem point_lt (t : Fin (cfgA (F := Ideal)).N) : t.val < 80 := lt_of_lt_of_eq t.isLt (points (F := Ideal))
/-- A point's head, and rows of the queries' and of the keys' blocks, in the whole arrays. -/
def hd (t : Fin (cfgA (F := Ideal)).N) : Fin 8 := ⟨t.val / 10, by have := point_lt t; omega⟩
def rowOf (b : Fin 4) (j : Fin 2048) : Fin 8192 := ⟨2048 * b.val + j.val, by have := j.isLt; have := b.isLt; omega⟩
abbrev qRow (t : ℕ) (j : Fin 2048) : Fin 8192 := rowOf (qAt t) j
abbrev kRow (t : ℕ) (j : Fin 2048) : Fin 8192 := rowOf (kAt t) j

section
variable (V : Dev nD → Valuation τ sig (Elt Ideal)) (c : Dev nD)

/-- The arrays the region reads. -/
abbrev aQ : S8x8192x256.Idx → EReal := V c (Proc.devRef .tc main_v39)
abbrev aK : S8x8192x256.Idx → EReal := V c (Proc.devRef .tc main_arg1)
abbrev aV : S8x8192x128.Idx → EReal := V c (Proc.devRef .tc main_arg2)
abbrev aG : S8192x1024.Idx → EReal := V c (Proc.devRef .tc main_arg3)
abbrev aL : S8x1x8192.Idx → EReal := V c (Proc.devRef .tc main_v30)
abbrev aD : S8x1x8192.Idx → EReal := V c (Proc.devRef .tc main_v35)
abbrev aPK : S8192x1.Idx → BitVec 32 := V c (Proc.devRef .tc main_v40)
abbrev aPQ : S1x8192.Idx → BitVec 32 := V c (Proc.devRef .tc main_v41)

variable (t : Fin (cfgA (F := Ideal)).N)

abbrev bQ : S1x2048x256.Idx → EReal := iblk (F := Ideal) V c (0 : Fin 11) t
abbrev bK : S1x2048x256.Idx → EReal := iblk (F := Ideal) V c (1 : Fin 11) t
abbrev bV : S1x2048x128.Idx → EReal := iblk (F := Ideal) V c (2 : Fin 11) t
abbrev bG : S2048x128.Idx → EReal := iblk (F := Ideal) V c (3 : Fin 11) t
abbrev bL : S1x1x2048.Idx → EReal := iblk (F := Ideal) V c (4 : Fin 11) t
abbrev bD : S1x1x2048.Idx → EReal := iblk (F := Ideal) V c (5 : Fin 11) t
abbrev bPK : S2048x1.Idx → BitVec 32 := iblk (F := Ideal) V c (6 : Fin 11) t
abbrev bPQ : S1x2048.Idx → BitVec 32 := iblk (F := Ideal) V c (7 : Fin 11) t

theorem blk0 (j : Fin 2048) (d : Fin 256) : bQ V c t (ix3 0 j d) = aQ V c (ix3 (hd t) (qRow t.val j) d) := by
  have hi := idx0 (F := Ideal) t
  unfold bQ iblk
  rw [View.read_apply]
  show V c main_v39 _ = V c main_v39 _
  congr 1
  funext a
  apply Fin.ext
  match a with
  | ⟨0, _⟩ => show ((cfgA (F := Ideal)).win (0 : Fin 11)).index t 0 * 1 + 1 * 0 = t.val / 10; rw [hi.1]; omega
  | ⟨1, _⟩ => show ((cfgA (F := Ideal)).win (0 : Fin 11)).index t 1 * 2048 + 1 * j.val = 2048 * (qAt t.val).val + j.val; rw [hi.2.1]; omega
  | ⟨2, _⟩ => show ((cfgA (F := Ideal)).win (0 : Fin 11)).index t 2 * 256 + 1 * d.val = d.val; rw [hi.2.2]; omega
theorem blk1 (j : Fin 2048) (d : Fin 256) : bK V c t (ix3 0 j d) = aK V c (ix3 (hd t) (kRow t.val j) d) := by
  have hi := idx1 (F := Ideal) t
  unfold bK iblk
  rw [View.read_apply]
  show V c main_arg1 _ = V c main_arg1 _
  congr 1
  funext a
  apply Fin.ext
  match a with
  | ⟨0, _⟩ => show ((cfgA (F := Ideal)).win (1 : Fin 11)).index t 0 * 1 + 1 * 0 = t.val / 10; rw [hi.1]; omega
  | ⟨1, _⟩ => show ((cfgA (F := Ideal)).win (1 : Fin 11)).index t 1 * 2048 + 1 * j.val = 2048 * (kAt t.val).val + j.val; rw [hi.2.1]; omega
  | ⟨2, _⟩ => show ((cfgA (F := Ideal)).win (1 : Fin 11)).index t 2 * 256 + 1 * d.val = d.val; rw [hi.2.2]; omega
theorem blk2 (j : Fin 2048) (d : Fin 128) : bV V c t (ix3 0 j d) = aV V c (ix3 (hd t) (kRow t.val j) d) := by
  have hi := idx2 (F := Ideal) t
  unfold bV iblk
  rw [View.read_apply]
  show V c main_arg2 _ = V c main_arg2 _
  congr 1
  funext a
  apply Fin.ext
  match a with
  | ⟨0, _⟩ => show ((cfgA (F := Ideal)).win (2 : Fin 11)).index t 0 * 1 + 1 * 0 = t.val / 10; rw [hi.1]; omega
  | ⟨1, _⟩ => show ((cfgA (F := Ideal)).win (2 : Fin 11)).index t 1 * 2048 + 1 * j.val = 2048 * (kAt t.val).val + j.val; rw [hi.2.1]; omega
  | ⟨2, _⟩ => show ((cfgA (F := Ideal)).win (2 : Fin 11)).index t 2 * 128 + 1 * d.val = d.val; rw [hi.2.2]; omega

/-- A column of the heads' side by side. -/
def colOf (h : Fin 8) (d : Fin 128) : Fin 1024 := ⟨128 * h.val + d.val, by have := h.isLt; have := d.isLt; omega⟩

theorem blk3 (j : Fin 2048) (d : Fin 128) : bG V c t (ix2 j d) = aG V c (ix2 (qRow t.val j) (colOf (hd t) d)) := by
  have hi := idx3 (F := Ideal) t
  unfold bG iblk
  rw [View.read_apply]
  show V c main_arg3 _ = V c main_arg3 _
  congr 1
  funext a
  apply Fin.ext
  match a with
  | ⟨0, _⟩ => show ((cfgA (F := Ideal)).win (3 : Fin 11)).index t 0 * 2048 + 1 * j.val = 2048 * (qAt t.val).val + j.val; rw [hi.1]; omega
  | ⟨1, _⟩ => show ((cfgA (F := Ideal)).win (3 : Fin 11)).index t 1 * 128 + 1 * d.val = 128 * (t.val / 10) + d.val; rw [hi.2]; omega
theorem blk4 (j : Fin 2048) : bL V c t (ix3 0 0 j) = aL V c (ix3 (hd t) 0 (qRow t.val j)) := by
  have hi := idx4 (F := Ideal) t
  unfold bL iblk
  rw [View.read_apply]
  show V c main_v30 _ = V c main_v30 _
  congr 1
  funext a
  apply Fin.ext
  match a with
  | ⟨0, _⟩ => show ((cfgA (F := Ideal)).win (4 : Fin 11)).index t 0 * 1 + 1 * 0 = t.val / 10; rw [hi.1]; omega
  | ⟨1, _⟩ => show ((cfgA (F := Ideal)).win (4 : Fin 11)).index t 1 * 1 + 1 * 0 = 0; rw [hi.2.1]
  | ⟨2, _⟩ => show ((cfgA (F := Ideal)).win (4 : Fin 11)).index t 2 * 2048 + 1 * j.val = 2048 * (qAt t.val).val + j.val; rw [hi.2.2]; omega
theorem blk5 (j : Fin 2048) : bD V c t (ix3 0 0 j) = aD V c (ix3 (hd t) 0 (qRow t.val j)) := by
  have hi := idx5 (F := Ideal) t
  unfold bD iblk
  rw [View.read_apply]
  show V c main_v35 _ = V c main_v35 _
  congr 1
  funext a
  apply Fin.ext
  match a with
  | ⟨0, _⟩ => show ((cfgA (F := Ideal)).win (5 : Fin 11)).index t 0 * 1 + 1 * 0 = t.val / 10; rw [hi.1]; omega
  | ⟨1, _⟩ => show ((cfgA (F := Ideal)).win (5 : Fin 11)).index t 1 * 1 + 1 * 0 = 0; rw [hi.2.1]
  | ⟨2, _⟩ => show ((cfgA (F := Ideal)).win (5 : Fin 11)).index t 2 * 2048 + 1 * j.val = 2048 * (qAt t.val).val + j.val; rw [hi.2.2]; omega
theorem blk6 (j : Fin 2048) : bPK V c t (ix2 j 0) = aPK V c (ix2 (kRow t.val j) 0) := by
  have hi := idx6 (F := Ideal) t
  unfold bPK iblk
  rw [View.read_apply]
  show V c main_v40 _ = V c main_v40 _
  congr 1
  funext a
  apply Fin.ext
  match a with
  | ⟨0, _⟩ => show ((cfgA (F := Ideal)).win (6 : Fin 11)).index t 0 * 2048 + 1 * j.val = 2048 * (kAt t.val).val + j.val; rw [hi.1]; omega
  | ⟨1, _⟩ => show ((cfgA (F := Ideal)).win (6 : Fin 11)).index t 1 * 1 + 1 * 0 = 0; rw [hi.2]
theorem blk7 (j : Fin 2048) : bPQ V c t (ix2 0 j) = aPQ V c (ix2 0 (qRow t.val j)) := by
  have hi := idx7 (F := Ideal) t
  unfold bPQ iblk
  rw [View.read_apply]
  show V c main_v41 _ = V c main_v41 _
  congr 1
  funext a
  apply Fin.ext
  match a with
  | ⟨0, _⟩ => show ((cfgA (F := Ideal)).win (7 : Fin 11)).index t 0 * 1 + 1 * 0 = 0; rw [hi.1]
  | ⟨1, _⟩ => show ((cfgA (F := Ideal)).win (7 : Fin 11)).index t 1 * 2048 + 1 * j.val = 2048 * (qAt t.val).val + j.val; rw [hi.2]; omega

end

end Cert.Kernel2Ideal.Attn

end
-- ==== Proof.AttnTile.lean ====
/-
  What one chunk of 256 queries adds to the three accumulators, over the real numbers with their infinities: the vector
  expressions of the kernel, for any number `n` of keys, and each read at one element.
-/
module

public import proofs.«01_k».proof.Proof.Gen.Kernel2Ideal.Skeleton
public import Idealize.ShloMosaic.Lib.MatmulPlain
public import Idealize.ShloMosaic.Lib.ValueIdx
public import Idealize.ShloMosaic.Lib.VecWindow
public import Idealize.ShloMosaic.Lib.Pipeline.Value

@[expose] public section

noncomputable section

namespace Cert.Kernel2Ideal.Attn

open Cert.Kernel2Ideal Cert.Kernel2Ideal.Gen
open Idealize.ShloMosaic Idealize.ShloMosaic.ValueIdx
open scoped BigOperators

/-- A product contracted over the first axis of both operands. -/
def dotFirst (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem dotFirst_apply {M K N : ℕ} {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (dotFirst M K N) prec lhs rhs acc (ix2 r c) = acc (ix2 r c) + ∑ k : Fin K, lhs (ix2 k r) * rhs (ix2 k c) := by
  have hr : (dotFirst M K N).contr.rank = 1 := rfl
  have hs : (dotFirst M K N).contr.size ⟨0, by rw [hr]; exact Nat.one_pos⟩ = K := rfl
  rw [Ideal.matmul_apply, ← Equiv.sum_comp (contrEquiv1 (dotFirst M K N) K hr hs).symm]
  refine congrArg (acc (ix2 r c) + ·) (Finset.sum_congr rfl fun k _ => ?_)
  have hk := contrEquiv1_symm_val (dotFirst M K N) K hr hs k
  have el : (dotFirst M K N).lhsIdx (ix2 r c) ((contrEquiv1 (dotFirst M K N) K hr hs).symm k) = ix2 k r := by
    funext a; apply Fin.ext
    match a with
    | ⟨0, _⟩ => exact hk
    | ⟨1, _⟩ => rfl
  have er : (dotFirst M K N).rhsIdx (ix2 r c) ((contrEquiv1 (dotFirst M K N) K hr hs).symm k) = ix2 k c := by
    funext a; apply Fin.ext
    match a with
    | ⟨0, _⟩ => exact hk
    | ⟨1, _⟩ => rfl
  rw [el, er]

theorem drop_unit {α : Type} {n m : ℕ} (v : (⟨3, ![1, n, m]⟩ : Shape).Idx → α) (h : (⟨3, ![1, n, m]⟩ : Shape).ShapeCasts ⟨2, ![n, m]⟩)
    (r : Fin n) (d : Fin m) : shapeCast ⟨2, ![n, m]⟩ v h (ix2 r d) = v (ix3 0 r d) := by
  refine (shapeCast_dropUnit_apply ![n, m] v h (ix2 r d)).trans (congrArg v (funext fun a => ?_))
  match a with
  | ⟨0, _⟩ => rfl
  | ⟨1, _⟩ => rfl
  | ⟨2, _⟩ => rfl

theorem add_unit {α : Type} {n m : ℕ} (v : (⟨2, ![n, m]⟩ : Shape).Idx → α) (h : (⟨2, ![n, m]⟩ : Shape).ShapeCasts ⟨3, ![1, n, m]⟩)
    (z : Fin 1) (r : Fin n) (d : Fin m) : shapeCast ⟨3, ![1, n, m]⟩ v h (ix3 z r d) = v (ix2 r d) := by
  refine (shapeCast_addUnit_apply ![n, m] v h (ix3 z r d)).trans (congrArg v (funext fun a => ?_))
  match a with
  | ⟨0, _⟩ => rfl
  | ⟨1, _⟩ => rfl

/-- A row repeated over `n` rows. -/
theorem row_repeat {α : Type} {n m : ℕ} (v : (⟨2, ![1, m]⟩ : Shape).Idx → α) (h : (⟨2, ![1, m]⟩ : Shape).Broadcasts ⟨2, ![n, m]⟩)
    (r : Fin n) (j : Fin m) : broadcastTo ⟨2, ![n, m]⟩ v h (ix2 r j) = v (ix2 0 j) := by
  refine broadcastTo_apply v h (ix2 r j) (ix2 0 j) fun a => ?_
  match a with
  | ⟨0, _⟩ => rfl
  | ⟨1, _⟩ =>
    show j.val = if m = 1 then 0 else j.val
    have := j.isLt
    split <;> omega

/-- A column repeated over `m` columns. -/
theorem column_repeat {α : Type} {n m : ℕ} (v : (⟨2, ![n, 1]⟩ : Shape).Idx → α) (h : (⟨2, ![n, 1]⟩ : Shape).Broadcasts ⟨2, ![n, m]⟩)
    (r : Fin n) (j : Fin m) : broadcastTo ⟨2, ![n, m]⟩ v h (ix2 r j) = v (ix2 r 0) := by
  refine broadcastTo_apply v h (ix2 r j) (ix2 r 0) fun a => ?_
  match a with
  | ⟨0, _⟩ =>
    show r.val = if n = 1 then 0 else r.val
    have := r.isLt
    split <;> omega
  | ⟨1, _⟩ => rfl

section
variable (n : ℕ)

/-- The shape facts at `n` keys. -/
structure Sized : Prop where
  c3 : ∀ m : ℕ, (⟨3, ![1, n, m]⟩ : Shape).ShapeCasts ⟨2, ![n, m]⟩
  c2 : ∀ m : ℕ, (⟨2, ![n, m]⟩ : Shape).ShapeCasts ⟨3, ![1, n, m]⟩
  row : (⟨2, ![1, 256]⟩ : Shape).Broadcasts ⟨2, ![n, 256]⟩
  col : (⟨2, ![n, 1]⟩ : Shape).Broadcasts ⟨2, ![n, 256]⟩
  same : (⟨2, ![n, 1]⟩ : Shape).ShapeCasts ⟨2, ![n, 1]⟩

theorem sized (n : ℕ) : Sized n where
  c3 m := by simp [Shape.ShapeCasts, Shape.numel, Fin.prod_univ_succ]
  c2 m := by simp [Shape.ShapeCasts, Shape.numel, Fin.prod_univ_succ]
  row := ⟨Nat.le_refl _, fun a => by match a with | ⟨0, _⟩ => exact Or.inl rfl | ⟨1, _⟩ => exact Or.inr fun _ => rfl⟩
  col := ⟨Nat.le_refl _, fun a => by match a with | ⟨0, _⟩ => exact Or.inr fun _ => rfl | ⟨1, _⟩ => exact Or.inl rfl⟩
  same := by simp [Shape.ShapeCasts]

variable {n} (sz : Sized n)
variable {F : FTy → Type} [FloatOps F] [Named F]

/-- Scores of `n` keys against 256 queries. -/
def scores (k : FVec F ⟨3, ![1, n, 256]⟩ .bf16) (q : FVec F ⟨3, ![1, 256, 256]⟩ .bf16) : FVec F ⟨2, ![n, 256]⟩ .f32 :=
  matmul (DotDims.transposedRhs n 256 256) none (shapeCast ⟨2, ![n, 256]⟩ k (sz.c3 256)) (shapeCast ⟨2, ![256, 256]⟩ q Gen.facts.shapeCasts_S1x256x256_S256x256)
    (constant ⟨2, ![n, 256]⟩ .f32 0x00000000#32)

/-- The same, below a mask of positions. -/
def maskedScores (k : FVec F ⟨3, ![1, n, 256]⟩ .bf16) (q : FVec F ⟨3, ![1, 256, 256]⟩ .bf16)
    (pk : IVec ⟨2, ![n, 1]⟩ 32) (pq : IVec ⟨2, ![1, 256]⟩ 32) : FVec F ⟨2, ![n, 256]⟩ .f32 :=
  select (cmpi .sge (broadcastTo ⟨2, ![n, 256]⟩ (shapeCast ⟨2, ![1, 256]⟩ pq Gen.facts.shapeCasts_S1x256_S1x256) sz.row)
      (broadcastTo ⟨2, ![n, 256]⟩ (shapeCast ⟨2, ![n, 1]⟩ pk sz.same) sz.col))
    (scores sz k q) (broadcast ⟨2, ![n, 256]⟩ (Named.named (F := F) κ "mask" 0xFF7FFFFF#32))

/-- The values' products with the output's gradient. -/
def products (v : FVec F ⟨3, ![1, n, 128]⟩ .bf16) (g : FVec F ⟨2, ![256, 128]⟩ .f32) : FVec F ⟨2, ![n, 256]⟩ .f32 :=
  matmul (DotDims.transposedRhs n 128 256) none (shapeCast ⟨2, ![n, 128]⟩ v (sz.c3 128)) (truncf .bf16 g bitsLt_bf16_f32)
    (constant ⟨2, ![n, 256]⟩ .f32 0x00000000#32)

/-- Probabilities from scores and the rows' logarithms. -/
def probs (s : FVec F ⟨2, ![n, 256]⟩ .f32) (l : FVec F ⟨3, ![1, 1, 256]⟩ .f32) : FVec F ⟨2, ![n, 256]⟩ .f32 :=
  exp2 (subf s (broadcastTo ⟨2, ![n, 256]⟩ (shapeCast ⟨2, ![1, 256]⟩ l Gen.facts.shapeCasts_S1x1x256_S1x256) sz.row))

/-- The gradient of the scores. -/
def scoreGrad (s p : FVec F ⟨2, ![n, 256]⟩ .f32) (l dl : FVec F ⟨3, ![1, 1, 256]⟩ .f32) : FVec F ⟨2, ![n, 256]⟩ .bf16 :=
  truncf .bf16 (mulf (probs sz s l) (subf p (broadcastTo ⟨2, ![n, 256]⟩ (shapeCast ⟨2, ![1, 256]⟩ dl Gen.facts.shapeCasts_S1x1x256_S1x256) sz.row))) bitsLt_bf16_f32

def addV (x : FVec F ⟨3, ![1, n, 128]⟩ .f32) (s : FVec F ⟨2, ![n, 256]⟩ .f32) (l : FVec F ⟨3, ![1, 1, 256]⟩ .f32)
    (g : FVec F ⟨2, ![256, 128]⟩ .f32) : FVec F ⟨3, ![1, n, 128]⟩ .f32 :=
  shapeCast ⟨3, ![1, n, 128]⟩ (addf (shapeCast ⟨2, ![n, 128]⟩ x (sz.c3 128)) (matmul (DotDims.plain n 256 128) none (truncf .bf16 (probs sz s l) bitsLt_bf16_f32)
    (truncf .bf16 g bitsLt_bf16_f32) (constant ⟨2, ![n, 128]⟩ .f32 0x00000000#32))) (sz.c2 128)

def addK (x : FVec F ⟨3, ![1, n, 256]⟩ .f32) (e : FVec F ⟨2, ![n, 256]⟩ .bf16) (q : FVec F ⟨3, ![1, 256, 256]⟩ .bf16) :
    FVec F ⟨3, ![1, n, 256]⟩ .f32 :=
  shapeCast ⟨3, ![1, n, 256]⟩ (addf (shapeCast ⟨2, ![n, 256]⟩ x (sz.c3 256)) (matmul (DotDims.plain n 256 256) none e
    (shapeCast ⟨2, ![256, 256]⟩ q Gen.facts.shapeCasts_S1x256x256_S256x256) (constant ⟨2, ![n, 256]⟩ .f32 0x00000000#32))) (sz.c2 256)

def addQ (x : FVec F ⟨3, ![1, 256, 256]⟩ .f32) (e : FVec F ⟨2, ![n, 256]⟩ .bf16) (k : FVec F ⟨3, ![1, n, 256]⟩ .bf16) :
    FVec F ⟨3, ![1, 256, 256]⟩ .f32 :=
  shapeCast ⟨3, ![1, 256, 256]⟩ (addf (shapeCast ⟨2, ![256, 256]⟩ x Gen.facts.shapeCasts_S1x256x256_S256x256) (matmul (dotFirst 256 n 256) none e
    (shapeCast ⟨2, ![n, 256]⟩ k (sz.c3 256)) (constant ⟨2, ![256, 256]⟩ .f32 0x00000000#32))) Gen.facts.shapeCasts_S256x256_S1x256x256

theorem zero_word (s : Shape) (i : s.Idx) : (constant (F := Ideal) s .f32 0x00000000#32) i = (0 : EReal) := Ideal.ofBits_zero_f32

theorem scores_apply (k : FVec Ideal ⟨3, ![1, n, 256]⟩ .bf16) (q : FVec Ideal ⟨3, ![1, 256, 256]⟩ .bf16) (r : Fin n) (j : Fin 256) :
    scores sz k q (ix2 r j) = ∑ d : Fin 256, (k (ix3 0 r d) * q (ix3 0 j d) : EReal) := by
  unfold scores
  refine (Ideal.matmul_transposedRhs_apply none _ _ _ r j).trans ?_
  rw [zero_word, zero_add]
  exact Finset.sum_congr rfl fun d _ => congrArg₂ (· * ·) (drop_unit k _ r d) (drop_unit q _ j d)

theorem mask_bot : (Named.named (F := Ideal) κ "mask" (φ := .f32) 0xFF7FFFFF#32 : EReal) = ⊥ := rfl

theorem maskedScores_apply (k : FVec Ideal ⟨3, ![1, n, 256]⟩ .bf16) (q : FVec Ideal ⟨3, ![1, 256, 256]⟩ .bf16)
    (pk : IVec ⟨2, ![n, 1]⟩ 32) (pq : IVec ⟨2, ![1, 256]⟩ 32) (r : Fin n) (j : Fin 256) :
    maskedScores sz k q pk pq (ix2 r j)
      = (if IntOp.cmpi .sge (pq (ix2 0 j)) (pk (ix2 r 0)) = 1 then ∑ d : Fin 256, (k (ix3 0 r d) * q (ix3 0 j d) : EReal) else ⊥) := by
  unfold maskedScores
  show Scalar.select (IntOp.cmpi .sge (broadcastTo ⟨2, ![n, 256]⟩ (shapeCast ⟨2, ![1, 256]⟩ pq Gen.facts.shapeCasts_S1x256_S1x256) sz.row (ix2 r j))
      (broadcastTo ⟨2, ![n, 256]⟩ (shapeCast ⟨2, ![n, 1]⟩ pk sz.same) sz.col (ix2 r j))) (scores sz k q (ix2 r j)) (Named.named (F := Ideal) κ "mask" (φ := .f32) 0xFF7FFFFF#32) = _
  rw [row_repeat, column_repeat, shapeCast_self, shapeCast_self, scores_apply, mask_bot]
  rfl

theorem products_apply (v : FVec Ideal ⟨3, ![1, n, 128]⟩ .bf16) (g : FVec Ideal ⟨2, ![256, 128]⟩ .f32) (r : Fin n) (j : Fin 256) :
    products sz v g (ix2 r j) = ∑ d : Fin 128, (v (ix3 0 r d) * g (ix2 j d) : EReal) := by
  unfold products
  refine (Ideal.matmul_transposedRhs_apply none _ _ _ r j).trans ?_
  rw [zero_word, zero_add]
  exact Finset.sum_congr rfl fun d _ => congrArg₂ (· * ·) (drop_unit v _ r d) rfl

theorem probs_apply (s : FVec Ideal ⟨2, ![n, 256]⟩ .f32) (l : FVec Ideal ⟨3, ![1, 1, 256]⟩ .f32) (r : Fin n) (j : Fin 256) :
    probs sz s l (ix2 r j) = Ideal.exp2 ((s (ix2 r j) : EReal) - (l (ix3 0 0 j) : EReal)) := by
  unfold probs
  show Ideal.exp2 ((s (ix2 r j) : EReal) - broadcastTo ⟨2, ![n, 256]⟩ (shapeCast ⟨2, ![1, 256]⟩ l Gen.facts.shapeCasts_S1x1x256_S1x256) sz.row (ix2 r j)) = _
  rw [row_repeat, drop_unit]

theorem scoreGrad_apply (s p : FVec Ideal ⟨2, ![n, 256]⟩ .f32) (l dl : FVec Ideal ⟨3, ![1, 1, 256]⟩ .f32) (r : Fin n) (j : Fin 256) :
    scoreGrad sz s p l dl (ix2 r j)
      = (Ideal.exp2 ((s (ix2 r j) : EReal) - (l (ix3 0 0 j) : EReal)) * ((p (ix2 r j) : EReal) - (dl (ix3 0 0 j) : EReal)) : EReal) := by
  unfold scoreGrad
  show (probs sz s l (ix2 r j) * ((p (ix2 r j) : EReal) - broadcastTo ⟨2, ![n, 256]⟩ (shapeCast ⟨2, ![1, 256]⟩ dl Gen.facts.shapeCasts_S1x1x256_S1x256) sz.row (ix2 r j)) : EReal) = _
  rw [row_repeat, drop_unit, probs_apply]

theorem addV_apply (x : FVec Ideal ⟨3, ![1, n, 128]⟩ .f32) (s : FVec Ideal ⟨2, ![n, 256]⟩ .f32) (l : FVec Ideal ⟨3, ![1, 1, 256]⟩ .f32)
    (g : FVec Ideal ⟨2, ![256, 128]⟩ .f32) (z : Fin 1) (r : Fin n) (d : Fin 128) :
    addV sz x s l g (ix3 z r d) = (x (ix3 0 r d) + ∑ j : Fin 256, Ideal.exp2 ((s (ix2 r j) : EReal) - (l (ix3 0 0 j) : EReal)) * g (ix2 j d) : EReal) := by
  unfold addV
  rw [add_unit]
  refine congrArg₂ (· + ·) (drop_unit x _ r d) ((Ideal.matmul_plain_apply none _ _ _ r d).trans ?_)
  rw [zero_word, zero_add]
  exact Finset.sum_congr rfl fun j _ => congrArg₂ (· * ·) (probs_apply sz s l r j) rfl

theorem addK_apply (x : FVec Ideal ⟨3, ![1, n, 256]⟩ .f32) (e : FVec Ideal ⟨2, ![n, 256]⟩ .bf16) (q : FVec Ideal ⟨3, ![1, 256, 256]⟩ .bf16)
    (z : Fin 1) (r : Fin n) (d : Fin 256) :
    addK sz x e q (ix3 z r d) = (x (ix3 0 r d) + ∑ j : Fin 256, e (ix2 r j) * q (ix3 0 j d) : EReal) := by
  unfold addK
  rw [add_unit]
  refine congrArg₂ (· + ·) (drop_unit x _ r d) ((Ideal.matmul_plain_apply none _ _ _ r d).trans ?_)
  rw [zero_word, zero_add]
  exact Finset.sum_congr rfl fun j _ => congrArg₂ (· * ·) rfl (drop_unit q _ j d)

theorem addQ_apply (x : FVec Ideal ⟨3, ![1, 256, 256]⟩ .f32) (e : FVec Ideal ⟨2, ![n, 256]⟩ .bf16) (k : FVec Ideal ⟨3, ![1, n, 256]⟩ .bf16)
    (z : Fin 1) (j : Fin 256) (d : Fin 256) :
    addQ sz x e k (ix3 z j d) = (x (ix3 0 j d) + ∑ r : Fin n, e (ix2 r j) * k (ix3 0 r d) : EReal) := by
  unfold addQ
  rw [add_unit]
  refine congrArg₂ (· + ·) (drop_unit x _ j d) ((dotFirst_apply none _ _ _ j d).trans ?_)
  rw [zero_word, zero_add]
  exact Finset.sum_congr rfl fun r _ => congrArg₂ (· * ·) rfl (drop_unit k _ r d)

end

end Cert.Kernel2Ideal.Attn

end
-- ==== Proof.AttnList.lean ====
/-
  The stores of the body, as lists: what each of the eight chunks of queries stores over an accumulator, stacked.
-/
module

public import proofs.«01_k».proof.Proof.AttnTile
public import proofs.«01_k».proof.Proof.AttnRunA
public import proofs.«01_k».proof.Proof.AttnRunB
public import proofs.«01_k».proof.Proof.AttnRunC

@[expose] public section

set_option maxRecDepth 65536
set_option Elab.async false

noncomputable section

namespace Cert.Kernel2Ideal.Attn

open Cert.Kernel2Ideal Cert.Kernel2Ideal.Gen
open Idealize.ShloMosaic
open Idealize.ShloMosaic.TcCoe Idealize.ShloMosaic.Tactic
open Idealize.SL Idealize.SL.RA Idealize.SL.BI

variable {F : FTy → Type} [FloatOps F] [Named F]

/-- A list of stores built by `p`, chunk after chunk, over the stores `base`; the chunks are listed newest first. -/
def stack {s : Shape} {e : EltTy} (p : Fin 8 → List (View.Piece (Elt F) s e) → View.Piece (Elt F) s e) (base : List (View.Piece (Elt F) s e)) :
    List (Fin 8) → List (View.Piece (Elt F) s e)
  | [] => base
  | c :: cs => p c (stack p base cs) :: stack p base cs

/-- How many keys a chunk sees on the diagonal. -/
def upto (c : Fin 8) : ℕ := 256 * (c.val + 1)

theorem upto_le (c : Fin 8) : upto c ≤ 2048 := by unfold upto; have := c.isLt; omega

section
variable (arg4 : Memref sig .tc .vmem S1x2048x256 .bf16) (arg5 : Memref sig .tc .vmem S1x2048x256 .bf16) (arg6 : Memref sig .tc .vmem S1x2048x128 .bf16) (arg7 : Memref sig .tc .vmem S2048x128 .f32) (arg8 : Memref sig .tc .vmem S1x1x2048 .f32) (arg9 : Memref sig .tc .vmem S1x1x2048 .f32) (arg10 : Memref sig .tc .vmem S2048x1 .i32) (arg11 : Memref sig .tc .vmem S1x2048 .i32)
variable (x0 : S1x2048x256.Idx → Elt F .bf16) (x1 : S1x2048x256.Idx → Elt F .bf16) (x2 : S1x2048x128.Idx → Elt F .bf16) (x3 : S2048x128.Idx → Elt F .f32) (x4 : S1x1x2048.Idx → Elt F .f32) (x5 : S1x1x2048.Idx → Elt F .f32) (x6 : S2048x1.Idx → Elt F .i32) (x7 : S1x2048.Idx → Elt F .i32)

theorem inb_rows (c : Fin 8) (m : ℕ) : ∀ a : Fin 3, (![0, 256 * c.val, 0] : Fin 3 → ℕ) a + (![1, 256, m] : Fin 3 → ℕ) a ≤ (![1, 2048, m] : Fin 3 → ℕ) a := by
  intro a; have := c.isLt
  match a with
  | ⟨0, _⟩ => show 0 + 1 ≤ 1; omega
  | ⟨1, _⟩ => show 256 * c.val + 256 ≤ 2048; omega
  | ⟨2, _⟩ => show 0 + m ≤ m; omega
theorem inb_first (n : ℕ) (hn : n ≤ 2048) (m : ℕ) : ∀ a : Fin 3, (![0, 0, 0] : Fin 3 → ℕ) a + (![1, n, m] : Fin 3 → ℕ) a ≤ (![1, 2048, m] : Fin 3 → ℕ) a := by
  intro a
  match a with
  | ⟨0, _⟩ => show 0 + 1 ≤ 1; omega
  | ⟨1, _⟩ => show 0 + n ≤ 2048; omega
  | ⟨2, _⟩ => show 0 + m ≤ m; omega
theorem inb_lane (c : Fin 8) : ∀ a : Fin 3, (![0, 0, 256 * c.val] : Fin 3 → ℕ) a + (![1, 1, 256] : Fin 3 → ℕ) a ≤ (![1, 1, 2048] : Fin 3 → ℕ) a := by
  intro a; have := c.isLt
  match a with
  | ⟨0, _⟩ => show 0 + 1 ≤ 1; omega
  | ⟨1, _⟩ => show 0 + 1 ≤ 1; omega
  | ⟨2, _⟩ => show 256 * c.val + 256 ≤ 2048; omega
theorem inb_rows2 (c : Fin 8) : ∀ a : Fin 2, (![256 * c.val, 0] : Fin 2 → ℕ) a + (![256, 128] : Fin 2 → ℕ) a ≤ (![2048, 128] : Fin 2 → ℕ) a := by
  intro a; have := c.isLt
  match a with
  | ⟨0, _⟩ => show 256 * c.val + 256 ≤ 2048; omega
  | ⟨1, _⟩ => show 0 + 128 ≤ 128; omega
theorem inb_col (n : ℕ) (hn : n ≤ 2048) : ∀ a : Fin 2, (![0, 0] : Fin 2 → ℕ) a + (![n, 1] : Fin 2 → ℕ) a ≤ (![2048, 1] : Fin 2 → ℕ) a := by
  intro a
  match a with
  | ⟨0, _⟩ => show 0 + n ≤ 2048; omega
  | ⟨1, _⟩ => show 0 + 1 ≤ 1; omega
theorem inb_lane2 (c : Fin 8) : ∀ a : Fin 2, (![0, 256 * c.val] : Fin 2 → ℕ) a + (![1, 256] : Fin 2 → ℕ) a ≤ (![1, 2048] : Fin 2 → ℕ) a := by
  intro a; have := c.isLt
  match a with
  | ⟨0, _⟩ => show 0 + 1 ≤ 1; omega
  | ⟨1, _⟩ => show 256 * c.val + 256 ≤ 2048; omega

/-! ## The chunk's loads -/

def ldQ (c : Fin 8) : FVec F ⟨3, ![1, 256, 256]⟩ .bf16 :=
  View.readAt (Elt F) arg4.view (Rect.unit (s := S1x2048x256) ![0, 256 * c.val, 0] ![1, 256, 256] (inb_rows c 256)).toLoadRect (arg4.view.rep x0)
def ldK (n : ℕ) (hn : n ≤ 2048) : FVec F ⟨3, ![1, n, 256]⟩ .bf16 :=
  View.readAt (Elt F) arg5.view (Rect.unit (s := S1x2048x256) ![0, 0, 0] ![1, n, 256] (inb_first n hn 256)).toLoadRect (arg5.view.rep x1)
def ldV (n : ℕ) (hn : n ≤ 2048) : FVec F ⟨3, ![1, n, 128]⟩ .bf16 :=
  View.readAt (Elt F) arg6.view (Rect.unit (s := S1x2048x128) ![0, 0, 0] ![1, n, 128] (inb_first n hn 128)).toLoadRect (arg6.view.rep x2)
def ldG (c : Fin 8) : FVec F ⟨2, ![256, 128]⟩ .f32 :=
  View.readAt (Elt F) arg7.view (Rect.unit (s := S2048x128) ![256 * c.val, 0] ![256, 128] (inb_rows2 c)).toLoadRect (arg7.view.rep x3)
def ldL (c : Fin 8) : FVec F ⟨3, ![1, 1, 256]⟩ .f32 :=
  View.readAt (Elt F) arg8.view (Rect.unit (s := S1x1x2048) ![0, 0, 256 * c.val] ![1, 1, 256] (inb_lane c)).toLoadRect (arg8.view.rep x4)
def ldD (c : Fin 8) : FVec F ⟨3, ![1, 1, 256]⟩ .f32 :=
  View.readAt (Elt F) arg9.view (Rect.unit (s := S1x1x2048) ![0, 0, 256 * c.val] ![1, 1, 256] (inb_lane c)).toLoadRect (arg9.view.rep x5)
def ldPK (n : ℕ) (hn : n ≤ 2048) : IVec ⟨2, ![n, 1]⟩ 32 :=
  View.readAt (Elt F) arg10.view (Rect.unit (s := S2048x1) ![0, 0] ![n, 1] (inb_col n hn)).toLoadRect (arg10.view.rep x6)
def ldPQ (c : Fin 8) : IVec ⟨2, ![1, 256]⟩ 32 :=
  View.readAt (Elt F) arg11.view (Rect.unit (s := S1x2048) ![0, 256 * c.val] ![1, 256] (inb_lane2 c)).toLoadRect (arg11.view.rep x7)

/-- A chunk's scores below the diagonal, and on it. -/
def scB (c : Fin 8) : FVec F ⟨2, ![2048, 256]⟩ .f32 := scores (sized 2048) (ldK (F := F) arg5 x1 2048 (Nat.le_refl _)) (ldQ (F := F) arg4 x0 c)
def scD (c : Fin 8) : FVec F ⟨2, ![upto c, 256]⟩ .f32 :=
  maskedScores (sized (upto c)) (ldK (F := F) arg5 x1 (upto c) (upto_le c)) (ldQ (F := F) arg4 x0 c) (ldPK (F := F) arg10 x6 (upto c) (upto_le c)) (ldPQ (F := F) arg11 x7 c)

/-- The gradient of a chunk's scores. -/
def gradOf (c : Fin 8) (n : ℕ) (hn : n ≤ 2048) (S : FVec F ⟨2, ![n, 256]⟩ .f32) : FVec F ⟨2, ![n, 256]⟩ .bf16 :=
  scoreGrad (sized n) S (products (sized n) (ldV (F := F) arg6 x2 n hn) (ldG (F := F) arg7 x3 c)) (ldL (F := F) arg8 x4 c) (ldD (F := F) arg9 x5 c)

/-- One store of each accumulator. -/
def pieceV (arg14 : Memref sig .tc .vmem S1x2048x128 .f32) (g : arg14.view.ty.Contents (Elt F)) (c : Fin 8) (n : ℕ) (hn : n ≤ 2048) (S : FVec F ⟨2, ![n, 256]⟩ .f32)
    (L : List (View.Piece (Elt F) S1x2048x128 .f32)) : View.Piece (Elt F) S1x2048x128 .f32 :=
  ⟨Rect.unit (s := S1x2048x128) ![0, 0, 0] ![1, n, 128] (inb_first n hn 128),
    addV (sized n) (View.readAt (Elt F) arg14.view (Rect.unit (s := S1x2048x128) ![0, 0, 0] ![1, n, 128] (inb_first n hn 128)).toLoadRect (arg14.view.writes (Elt F) g L)) S
      (ldL (F := F) arg8 x4 c) (ldG (F := F) arg7 x3 c)⟩
def pieceK (arg13 : Memref sig .tc .vmem S1x2048x256 .f32) (g : arg13.view.ty.Contents (Elt F)) (c : Fin 8) (n : ℕ) (hn : n ≤ 2048) (S : FVec F ⟨2, ![n, 256]⟩ .f32)
    (L : List (View.Piece (Elt F) S1x2048x256 .f32)) : View.Piece (Elt F) S1x2048x256 .f32 :=
  ⟨Rect.unit (s := S1x2048x256) ![0, 0, 0] ![1, n, 256] (inb_first n hn 256),
    addK (sized n) (View.readAt (Elt F) arg13.view (Rect.unit (s := S1x2048x256) ![0, 0, 0] ![1, n, 256] (inb_first n hn 256)).toLoadRect (arg13.view.writes (Elt F) g L))
      (gradOf (F := F) arg6 arg7 arg8 arg9 x2 x3 x4 x5 c n hn S) (ldQ (F := F) arg4 x0 c)⟩
def pieceQ (arg12 : Memref sig .tc .vmem S1x8192x256 .f32) (g : arg12.view.ty.Contents (Elt F)) (off : Fin 3 → ℕ)
    (inb : ∀ a : Fin 3, off a + (![1, 256, 256] : Fin 3 → ℕ) a ≤ (![1, 8192, 256] : Fin 3 → ℕ) a) (c : Fin 8) (n : ℕ) (hn : n ≤ 2048) (S : FVec F ⟨2, ![n, 256]⟩ .f32)
    (L : List (View.Piece (Elt F) S1x8192x256 .f32)) : View.Piece (Elt F) S1x8192x256 .f32 :=
  ⟨Rect.unit (s := S1x8192x256) off ![1, 256, 256] inb,
    addQ (sized n) (View.readAt (Elt F) arg12.view (Rect.unit (s := S1x8192x256) off ![1, 256, 256] inb).toLoadRect (arg12.view.writes (Elt F) g L))
      (gradOf (F := F) arg6 arg7 arg8 arg9 x2 x3 x4 x5 c n hn S) (ldK (F := F) arg5 x1 n hn)⟩
end

/-- The chunks, newest first, and without the oldest. -/
abbrev all8 : List (Fin 8) := [7, 6, 5, 4, 3, 2, 1, 0]
abbrev last7 : List (Fin 8) := [7, 6, 5, 4, 3, 2, 1]

section
variable (arg4 : Memref sig .tc .vmem S1x2048x256 .bf16) (harg4 : arg4.IsWhole) (arg5 : Memref sig .tc .vmem S1x2048x256 .bf16) (harg5 : arg5.IsWhole) (arg6 : Memref sig .tc .vmem S1x2048x128 .bf16) (harg6 : arg6.IsWhole) (arg7 : Memref sig .tc .vmem S2048x128 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S2048x1 .i32) (harg10 : arg10.IsWhole) (arg11 : Memref sig .tc .vmem S1x2048 .i32) (harg11 : arg11.IsWhole) (arg12 : Memref sig .tc .vmem S1x8192x256 .f32) (harg12 : arg12.IsWhole) (arg13 : Memref sig .tc .vmem S1x2048x256 .f32) (harg13 : arg13.IsWhole) (arg14 : Memref sig .tc .vmem S1x2048x128 .f32) (harg14 : arg14.IsWhole)
variable (c : Dev nD) (i : grid0.Coords) (T0 T1 : S10.Idx → Elt F .i32)
    (x0 : S1x2048x256.Idx → Elt F .bf16) (x1 : S1x2048x256.Idx → Elt F .bf16) (x2 : S1x2048x128.Idx → Elt F .bf16) (x3 : S2048x128.Idx → Elt F .f32) (x4 : S1x1x2048.Idx → Elt F .f32) (x5 : S1x1x2048.Idx → Elt F .f32) (x6 : S2048x1.Idx → Elt F .i32) (x7 : S1x2048.Idx → Elt F .i32)
    (p12 : S1x8192x256.Idx → Elt F .f32) (p13 : S1x2048x256.Idx → Elt F .f32) (p14 : S1x2048x128.Idx → Elt F .f32)
    (hchk : k0_chk1 (word0 i T0) (word1 i T1))

/-- Where a chunk's part of the queries' gradient lies. -/
def offQ (w : BitVec 32) (c : Fin 8) : Fin 3 → ℕ := k0_off3 w (BitVec.ofNat 32 (256 * c.val))

def InQ (w : BitVec 32) : Prop := ∀ c : Fin 8, ∀ a : Fin 3, offQ w c a + (![1, 256, 256] : Fin 3 → ℕ) a ≤ (![1, 8192, 256] : Fin 3 → ℕ) a

theorem runA_V (h1 : k0_cond1 i = 1#1) (h2 : k0_cond2 (word0 i T0) (word1 i T1) = 1#1) (h3 : k0_cond3 (word0 i T0) (word1 i T1) = 1#1) (h4 : ¬(k0_cond4 (word0 i T0) (word1 i T1) = 1#1)) :
    (runA (F := F) arg4 harg4 arg5 harg5 arg6 harg6 arg7 harg7 arg8 harg8 arg9 harg9 arg10 harg10 arg11 harg11 arg12 harg12 arg13 harg13 arg14 harg14 c i T0 T1 x0 x1 x2 x3 x4 x5 x6 x7 hchk h1 h2 h3 h4).2.2.1
      = stack (fun k => pieceV (F := F) arg7 arg8 x3 x4 arg14 arg14.view.junk k (upto k) (upto_le k) (scD (F := F) arg4 arg5 arg10 arg11 x0 x1 x6 x7 k))
          [⟨Rect.unit (s := S1x2048x128) ![0, 0, 0] ![1, 2048, 128] (inb_first 2048 (Nat.le_refl _) 128), Gen.k0_pay3 (F := F)⟩] all8 := by
  sl_kernel_rfl

theorem runA_K (h1 : k0_cond1 i = 1#1) (h2 : k0_cond2 (word0 i T0) (word1 i T1) = 1#1) (h3 : k0_cond3 (word0 i T0) (word1 i T1) = 1#1) (h4 : ¬(k0_cond4 (word0 i T0) (word1 i T1) = 1#1)) :
    (runA (F := F) arg4 harg4 arg5 harg5 arg6 harg6 arg7 harg7 arg8 harg8 arg9 harg9 arg10 harg10 arg11 harg11 arg12 harg12 arg13 harg13 arg14 harg14 c i T0 T1 x0 x1 x2 x3 x4 x5 x6 x7 hchk h1 h2 h3 h4).2.1
      = stack (fun k => pieceK (F := F) arg4 arg6 arg7 arg8 arg9 x0 x2 x3 x4 x5 arg13 arg13.view.junk k (upto k) (upto_le k) (scD (F := F) arg4 arg5 arg10 arg11 x0 x1 x6 x7 k))
          [⟨Rect.unit (s := S1x2048x256) ![0, 0, 0] ![1, 2048, 256] (inb_first 2048 (Nat.le_refl _) 256), Gen.k0_pay2 (F := F)⟩] all8 := by
  sl_kernel_rfl

theorem runA_Q (hin : InQ (word0 i T0)) (h1 : k0_cond1 i = 1#1) (h2 : k0_cond2 (word0 i T0) (word1 i T1) = 1#1) (h3 : k0_cond3 (word0 i T0) (word1 i T1) = 1#1) (h4 : ¬(k0_cond4 (word0 i T0) (word1 i T1) = 1#1)) :
    (runA (F := F) arg4 harg4 arg5 harg5 arg6 harg6 arg7 harg7 arg8 harg8 arg9 harg9 arg10 harg10 arg11 harg11 arg12 harg12 arg13 harg13 arg14 harg14 c i T0 T1 x0 x1 x2 x3 x4 x5 x6 x7 hchk h1 h2 h3 h4).1
      = stack (fun k => pieceQ (F := F) arg5 arg6 arg7 arg8 arg9 x1 x2 x3 x4 x5 arg12 arg12.view.junk (offQ (word0 i T0) k) (hin k) k (upto k) (upto_le k) (scD (F := F) arg4 arg5 arg10 arg11 x0 x1 x6 x7 k))
          [⟨Rect.unit (s := S1x8192x256) ![0, 0, 0] ![1, 8192, 256] Gen.inb_S1x8192x256_S1x8192x256_0_0_0, Gen.k0_pay1 (F := F)⟩] all8 := by
  sl_kernel_rfl

theorem runB_V (h1 : ¬(k0_cond1 i = 1#1)) (h2 : k0_cond2 (word0 i T0) (word1 i T1) = 1#1) (h3 : k0_cond3 (word0 i T0) (word1 i T1) = 1#1) (h4 : ¬(k0_cond4 (word0 i T0) (word1 i T1) = 1#1)) :
    (runB (F := F) arg4 harg4 arg5 harg5 arg6 harg6 arg7 harg7 arg8 harg8 arg9 harg9 arg10 harg10 arg11 harg11 arg12 harg12 arg13 harg13 arg14 harg14 c i T0 T1 x0 x1 x2 x3 x4 x5 x6 x7 p12 hchk h1 h2 h3 h4).2.2.1
      = stack (fun k => pieceV (F := F) arg7 arg8 x3 x4 arg14 arg14.view.junk k (upto k) (upto_le k) (scD (F := F) arg4 arg5 arg10 arg11 x0 x1 x6 x7 k))
          [⟨Rect.unit (s := S1x2048x128) ![0, 0, 0] ![1, 2048, 128] (inb_first 2048 (Nat.le_refl _) 128), Gen.k0_pay3 (F := F)⟩] all8 := by
  sl_kernel_rfl

theorem runB_K (h1 : ¬(k0_cond1 i = 1#1)) (h2 : k0_cond2 (word0 i T0) (word1 i T1) = 1#1) (h3 : k0_cond3 (word0 i T0) (word1 i T1) = 1#1) (h4 : ¬(k0_cond4 (word0 i T0) (word1 i T1) = 1#1)) :
    (runB (F := F) arg4 harg4 arg5 harg5 arg6 harg6 arg7 harg7 arg8 harg8 arg9 harg9 arg10 harg10 arg11 harg11 arg12 harg12 arg13 harg13 arg14 harg14 c i T0 T1 x0 x1 x2 x3 x4 x5 x6 x7 p12 hchk h1 h2 h3 h4).2.1
      = stack (fun k => pieceK (F := F) arg4 arg6 arg7 arg8 arg9 x0 x2 x3 x4 x5 arg13 arg13.view.junk k (upto k) (upto_le k) (scD (F := F) arg4 arg5 arg10 arg11 x0 x1 x6 x7 k))
          [⟨Rect.unit (s := S1x2048x256) ![0, 0, 0] ![1, 2048, 256] (inb_first 2048 (Nat.le_refl _) 256), Gen.k0_pay2 (F := F)⟩] all8 := by
  sl_kernel_rfl

theorem runB_Q (hin : InQ (word0 i T0)) (h1 : ¬(k0_cond1 i = 1#1)) (h2 : k0_cond2 (word0 i T0) (word1 i T1) = 1#1) (h3 : k0_cond3 (word0 i T0) (word1 i T1) = 1#1) (h4 : ¬(k0_cond4 (word0 i T0) (word1 i T1) = 1#1)) :
    (runB (F := F) arg4 harg4 arg5 harg5 arg6 harg6 arg7 harg7 arg8 harg8 arg9 harg9 arg10 harg10 arg11 harg11 arg12 harg12 arg13 harg13 arg14 harg14 c i T0 T1 x0 x1 x2 x3 x4 x5 x6 x7 p12 hchk h1 h2 h3 h4).1
      = stack (fun k => pieceQ (F := F) arg5 arg6 arg7 arg8 arg9 x1 x2 x3 x4 x5 arg12 (harg12.unread p12) (offQ (word0 i T0) k) (hin k) k (upto k) (upto_le k) (scD (F := F) arg4 arg5 arg10 arg11 x0 x1 x6 x7 k)) [] all8 := by
  sl_kernel_rfl

theorem runC_V (h1 : ¬(k0_cond1 i = 1#1)) (h2 : ¬(k0_cond2 (word0 i T0) (word1 i T1) = 1#1)) (h3 : ¬(k0_cond3 (word0 i T0) (word1 i T1) = 1#1)) (h4 : k0_cond4 (word0 i T0) (word1 i T1) = 1#1) :
    (runC (F := F) arg4 harg4 arg5 harg5 arg6 harg6 arg7 harg7 arg8 harg8 arg9 harg9 arg10 harg10 arg11 harg11 arg12 harg12 arg13 harg13 arg14 harg14 c i T0 T1 x0 x1 x2 x3 x4 x5 x6 x7 p12 p13 p14 hchk h1 h2 h3 h4).2.2.1
      = stack (fun k => pieceV (F := F) arg7 arg8 x3 x4 arg14 arg14.view.junk k 2048 (Nat.le_refl _) (scB (F := F) arg4 arg5 x0 x1 k))
          [pieceV (F := F) arg7 arg8 x3 x4 arg14 (harg14.unread p14) 0 2048 (Nat.le_refl _) (scB (F := F) arg4 arg5 x0 x1 0) []] last7 := by
  sl_kernel_rfl

theorem runC_K (h1 : ¬(k0_cond1 i = 1#1)) (h2 : ¬(k0_cond2 (word0 i T0) (word1 i T1) = 1#1)) (h3 : ¬(k0_cond3 (word0 i T0) (word1 i T1) = 1#1)) (h4 : k0_cond4 (word0 i T0) (word1 i T1) = 1#1) :
    (runC (F := F) arg4 harg4 arg5 harg5 arg6 harg6 arg7 harg7 arg8 harg8 arg9 harg9 arg10 harg10 arg11 harg11 arg12 harg12 arg13 harg13 arg14 harg14 c i T0 T1 x0 x1 x2 x3 x4 x5 x6 x7 p12 p13 p14 hchk h1 h2 h3 h4).2.1
      = stack (fun k => pieceK (F := F) arg4 arg6 arg7 arg8 arg9 x0 x2 x3 x4 x5 arg13 arg13.view.junk k 2048 (Nat.le_refl _) (scB (F := F) arg4 arg5 x0 x1 k))
          [pieceK (F := F) arg4 arg6 arg7 arg8 arg9 x0 x2 x3 x4 x5 arg13 (harg13.unread p13) 0 2048 (Nat.le_refl _) (scB (F := F) arg4 arg5 x0 x1 0) []] last7 := by
  sl_kernel_rfl

theorem runC_Q (hin : InQ (word0 i T0)) (h1 : ¬(k0_cond1 i = 1#1)) (h2 : ¬(k0_cond2 (word0 i T0) (word1 i T1) = 1#1)) (h3 : ¬(k0_cond3 (word0 i T0) (word1 i T1) = 1#1)) (h4 : k0_cond4 (word0 i T0) (word1 i T1) = 1#1) :
    (runC (F := F) arg4 harg4 arg5 harg5 arg6 harg6 arg7 harg7 arg8 harg8 arg9 harg9 arg10 harg10 arg11 harg11 arg12 harg12 arg13 harg13 arg14 harg14 c i T0 T1 x0 x1 x2 x3 x4 x5 x6 x7 p12 p13 p14 hchk h1 h2 h3 h4).1
      = stack (fun k => pieceQ (F := F) arg5 arg6 arg7 arg8 arg9 x1 x2 x3 x4 x5 arg12 (harg12.unread p12) (offQ (word0 i T0) k) (hin k) k 2048 (Nat.le_refl _) (scB (F := F) arg4 arg5 x0 x1 k)) [] all8 := by
  sl_kernel_rfl

end

end Cert.Kernel2Ideal.Attn

end
-- ==== Proof.AttnPiece.lean ====
/-
  What one store of a chunk makes of the accumulator it is laid over, and what the eight of them make of it, over the
  real numbers with their infinities.
-/
module

public import proofs.«01_k».proof.Proof.AttnList

@[expose] public section

set_option maxRecDepth 16384
set_option Elab.async false

noncomputable section

namespace Cert.Kernel2Ideal.Attn

open Cert.Kernel2Ideal Cert.Kernel2Ideal.Gen
open Idealize.ShloMosaic Idealize.ShloMosaic.ValueIdx
open Idealize.ShloMosaic.TcCoe Idealize.ShloMosaic.Tactic
open scoped BigOperators

/-- A chunk's query, and a key, in the whole block. -/
def ch (c : Fin 8) (j : Fin 256) : Fin 2048 := ⟨256 * c.val + j.val, by have := c.isLt; have := j.isLt; omega⟩
def up {n : ℕ} (hn : n ≤ 2048) (r : Fin n) : Fin 2048 := ⟨r.val, by have := r.isLt; omega⟩

section
variable (x0 : S1x2048x256.Idx → EReal) (x1 : S1x2048x256.Idx → EReal) (x2 : S1x2048x128.Idx → EReal) (x3 : S2048x128.Idx → EReal) (x4 : S1x1x2048.Idx → EReal) (x5 : S1x1x2048.Idx → EReal) (x6 : S2048x1.Idx → BitVec 32) (x7 : S1x2048.Idx → BitVec 32)

/-- Scores of a block of keys against a block of queries, key first; the same below the mask of positions; -/
def rawS (r j : Fin 2048) : EReal := ∑ d : Fin 256, x1 (ix3 0 r d) * x0 (ix3 0 j d)
def mskS (r j : Fin 2048) : EReal := if IntOp.cmpi .sge (x7 (ix2 0 j)) (x6 (ix2 r 0)) = 1 then rawS x0 x1 r j else ⊥
/-- probabilities; and the gradients of the scores. -/
def prS (s : Fin 2048 → Fin 2048 → EReal) (r j : Fin 2048) : EReal := Ideal.exp2 (s r j - x4 (ix3 0 0 j))
def dsS (s : Fin 2048 → Fin 2048 → EReal) (r j : Fin 2048) : EReal := prS x4 s r j * ((∑ d : Fin 128, x2 (ix3 0 r d) * x3 (ix2 j d)) - x5 (ix3 0 0 j))
end

section
variable (arg4 : Memref sig .tc .vmem S1x2048x256 .bf16) (arg5 : Memref sig .tc .vmem S1x2048x256 .bf16) (arg6 : Memref sig .tc .vmem S1x2048x128 .bf16) (arg7 : Memref sig .tc .vmem S2048x128 .f32) (arg8 : Memref sig .tc .vmem S1x1x2048 .f32) (arg9 : Memref sig .tc .vmem S1x1x2048 .f32) (arg10 : Memref sig .tc .vmem S2048x1 .i32) (arg11 : Memref sig .tc .vmem S1x2048 .i32)
variable (x0 : S1x2048x256.Idx → Elt Ideal .bf16) (x1 : S1x2048x256.Idx → Elt Ideal .bf16) (x2 : S1x2048x128.Idx → Elt Ideal .bf16) (x3 : S2048x128.Idx → Elt Ideal .f32) (x4 : S1x1x2048.Idx → Elt Ideal .f32) (x5 : S1x1x2048.Idx → Elt Ideal .f32) (x6 : S2048x1.Idx → Elt Ideal .i32) (x7 : S1x2048.Idx → Elt Ideal .i32)

theorem ldQ_apply (c : Fin 8) (j : Fin 256) (d : Fin 256) : ldQ (F := Ideal) arg4 x0 c (ix3 0 j d) = x0 (ix3 0 (ch c j) d) := by
  unfold ldQ
  rw [View.readAt_rep_unit arg4.view x0 _ rfl (inb_rows c 256)]
  refine congrArg x0 (funext fun a => Fin.ext ?_)
  match a with
  | ⟨0, _⟩ => rfl
  | ⟨1, _⟩ => show 256 * c.val + 1 * j.val = 256 * c.val + j.val; omega
  | ⟨2, _⟩ => show 0 + 1 * d.val = d.val; omega
theorem ldK_apply (n : ℕ) (hn : n ≤ 2048) (r : Fin n) (d : Fin 256) : ldK (F := Ideal) arg5 x1 n hn (ix3 0 r d) = x1 (ix3 0 (up hn r) d) := by
  unfold ldK
  rw [View.readAt_rep_unit arg5.view x1 _ rfl (inb_first n hn 256)]
  refine congrArg x1 (funext fun a => Fin.ext ?_)
  match a with
  | ⟨0, _⟩ => rfl
  | ⟨1, _⟩ => show 0 + 1 * r.val = r.val; omega
  | ⟨2, _⟩ => show 0 + 1 * d.val = d.val; omega
theorem ldV_apply (n : ℕ) (hn : n ≤ 2048) (r : Fin n) (d : Fin 128) : ldV (F := Ideal) arg6 x2 n hn (ix3 0 r d) = x2 (ix3 0 (up hn r) d) := by
  unfold ldV
  rw [View.readAt_rep_unit arg6.view x2 _ rfl (inb_first n hn 128)]
  refine congrArg x2 (funext fun a => Fin.ext ?_)
  match a with
  | ⟨0, _⟩ => rfl
  | ⟨1, _⟩ => show 0 + 1 * r.val = r.val; omega
  | ⟨2, _⟩ => show 0 + 1 * d.val = d.val; omega
theorem ldG_apply (c : Fin 8) (j : Fin 256) (d : Fin 128) : ldG (F := Ideal) arg7 x3 c (ix2 j d) = x3 (ix2 (ch c j) d) := by
  unfold ldG
  rw [View.readAt_rep_unit arg7.view x3 _ rfl (inb_rows2 c)]
  refine congrArg x3 (funext fun a => Fin.ext ?_)
  match a with
  | ⟨0, _⟩ => show 256 * c.val + 1 * j.val = 256 * c.val + j.val; omega
  | ⟨1, _⟩ => show 0 + 1 * d.val = d.val; omega
theorem ldL_apply (c : Fin 8) (j : Fin 256) : ldL (F := Ideal) arg8 x4 c (ix3 0 0 j) = x4 (ix3 0 0 (ch c j)) := by
  unfold ldL
  rw [View.readAt_rep_unit arg8.view x4 _ rfl (inb_lane c)]
  refine congrArg x4 (funext fun a => Fin.ext ?_)
  match a with
  | ⟨0, _⟩ => rfl
  | ⟨1, _⟩ => rfl
  | ⟨2, _⟩ => show 256 * c.val + 1 * j.val = 256 * c.val + j.val; omega
theorem ldD_apply (c : Fin 8) (j : Fin 256) : ldD (F := Ideal) arg9 x5 c (ix3 0 0 j) = x5 (ix3 0 0 (ch c j)) := by
  unfold ldD
  rw [View.readAt_rep_unit arg9.view x5 _ rfl (inb_lane c)]
  refine congrArg x5 (funext fun a => Fin.ext ?_)
  match a with
  | ⟨0, _⟩ => rfl
  | ⟨1, _⟩ => rfl
  | ⟨2, _⟩ => show 256 * c.val + 1 * j.val = 256 * c.val + j.val; omega
theorem ldPK_apply (n : ℕ) (hn : n ≤ 2048) (r : Fin n) : ldPK (F := Ideal) arg10 x6 n hn (ix2 r 0) = x6 (ix2 (up hn r) 0) := by
  unfold ldPK
  rw [View.readAt_rep_unit arg10.view x6 _ rfl (inb_col n hn)]
  refine congrArg x6 (funext fun a => Fin.ext ?_)
  match a with
  | ⟨0, _⟩ => show 0 + 1 * r.val = r.val; omega
  | ⟨1, _⟩ => rfl
theorem ldPQ_apply (c : Fin 8) (j : Fin 256) : ldPQ (F := Ideal) arg11 x7 c (ix2 0 j) = x7 (ix2 0 (ch c j)) := by
  unfold ldPQ
  rw [View.readAt_rep_unit arg11.view x7 _ rfl (inb_lane2 c)]
  refine congrArg x7 (funext fun a => Fin.ext ?_)
  match a with
  | ⟨0, _⟩ => rfl
  | ⟨1, _⟩ => show 256 * c.val + 1 * j.val = 256 * c.val + j.val; omega

theorem scB_apply (c : Fin 8) (r : Fin 2048) (j : Fin 256) : scB (F := Ideal) arg4 arg5 x0 x1 c (ix2 r j) = rawS x0 x1 (up (Nat.le_refl 2048) r) (ch c j) := by
  unfold scB
  rw [scores_apply]
  exact Finset.sum_congr rfl fun d _ => congrArg₂ (· * ·) (ldK_apply arg5 x1 2048 _ r d) (ldQ_apply arg4 x0 c j d)
theorem scD_apply (c : Fin 8) (r : Fin (upto c)) (j : Fin 256) :
    scD (F := Ideal) arg4 arg5 arg10 arg11 x0 x1 x6 x7 c (ix2 r j) = mskS x0 x1 x6 x7 (up (upto_le c) r) (ch c j) := by
  unfold scD
  rw [maskedScores_apply, ldPK_apply, ldPQ_apply]
  unfold mskS rawS
  have e : (∑ d : Fin 256, (ldK (F := Ideal) arg5 x1 (upto c) (upto_le c) (ix3 0 r d) * ldQ (F := Ideal) arg4 x0 c (ix3 0 j d) : EReal))
      = ∑ d : Fin 256, (x1 (ix3 0 (up (upto_le c) r) d) * x0 (ix3 0 (ch c j) d) : EReal) :=
    Finset.sum_congr rfl fun d _ => congrArg₂ (· * ·) (ldK_apply arg5 x1 (upto c) _ r d) (ldQ_apply arg4 x0 c j d)
  rw [e]

section
variable (c : Fin 8) (n : ℕ) (hn : n ≤ 2048) (S : FVec Ideal ⟨2, ![n, 256]⟩ .f32) (s : Fin 2048 → Fin 2048 → EReal)
  (hS : ∀ (r : Fin n) (j : Fin 256), (S (ix2 r j) : EReal) = s (up hn r) (ch c j))
include hS

theorem gradOf_apply (r : Fin n) (j : Fin 256) :
    gradOf (F := Ideal) arg6 arg7 arg8 arg9 x2 x3 x4 x5 c n hn S (ix2 r j) = dsS x2 x3 x4 x5 s (up hn r) (ch c j) := by
  unfold gradOf
  rw [scoreGrad_apply, products_apply, ldL_apply, ldD_apply, hS]
  unfold dsS prS
  have e : (∑ d : Fin 128, (ldV (F := Ideal) arg6 x2 n hn (ix3 0 r d) * ldG (F := Ideal) arg7 x3 c (ix2 j d) : EReal))
      = ∑ d : Fin 128, (x2 (ix3 0 (up hn r) d) * x3 (ix2 (ch c j) d) : EReal) :=
    Finset.sum_congr rfl fun d _ => congrArg₂ (· * ·) (ldV_apply arg6 x2 n hn r d) (ldG_apply arg7 x3 c j d)
  rw [e]

theorem pieceV_read (arg14 : Memref sig .tc .vmem S1x2048x128 .f32) (f g : arg14.view.ty.Contents (Elt Ideal)) (L : List (View.Piece (Elt Ideal) S1x2048x128 .f32))
    (X : S1x2048x128.Idx → EReal) (hf : arg14.view.read (Elt Ideal) (arg14.view.writes (Elt Ideal) f L) = X) (hg : arg14.view.read (Elt Ideal) (arg14.view.writes (Elt Ideal) g L) = X) :
    arg14.view.read (Elt Ideal) (arg14.view.writes (Elt Ideal) f (pieceV (F := Ideal) arg7 arg8 x3 x4 arg14 g c n hn S L :: L))
      = fun y => X y + (if (y 1).val < n then ∑ j : Fin 256, prS x4 s (y 1) (ch c j) * x3 (ix2 (ch c j) (y 2)) else 0) := by
  unfold pieceV
  rw [View.read_writes_cons_put _ _ _ _ _ rfl, hf, View.readAt_unit _ _ _ rfl (inb_first n hn 128), hg]
  funext y
  obtain ⟨z, r, d, rfl⟩ : ∃ (z : Fin 1) (r : Fin 2048) (d : Fin 128), y = ix3 z r d := ⟨y 0, y 1, y 2, eq_ix3 y⟩
  obtain rfl : z = 0 := Subsingleton.elim _ _
  unfold VecWindow.put
  by_cases h : r.val < n
  · have hin : ∀ a : Fin 3, (![0, 0, 0] : Fin 3 → ℕ) a ≤ ((ix3 (0 : Fin 1) r d) a).val ∧ ((ix3 (0 : Fin 1) r d) a).val < (![0, 0, 0] : Fin 3 → ℕ) a + (![1, n, 128] : Fin 3 → ℕ) a := by
      intro a
      match a with
      | ⟨0, _⟩ => exact ⟨Nat.zero_le _, by show 0 < 0 + 1; omega⟩
      | ⟨1, _⟩ => exact ⟨Nat.zero_le _, by show r.val < 0 + n; omega⟩
      | ⟨2, _⟩ => exact ⟨Nat.zero_le _, by show d.val < 0 + 128; have := d.isLt; omega⟩
    rw [dif_pos hin, if_pos h]
    have el : Rect.unitLocal (s := S1x2048x128) (off := ![0, 0, 0]) (size := ![1, n, 128]) (ix3 (0 : Fin 1) r d) hin = ix3 (0 : Fin 1) ⟨r.val, h⟩ d := by
      funext a; refine Fin.ext ?_
      match a with
      | ⟨0, _⟩ => rfl
      | ⟨1, _⟩ => rfl
      | ⟨2, _⟩ => rfl
    rw [el]
    refine (addV_apply _ _ _ _ _ _ _ _).trans (congrArg₂ (· + ·) ?_ (Finset.sum_congr rfl fun j _ => ?_))
    · refine congrArg X (funext fun a => Fin.ext ?_)
      match a with
      | ⟨0, _⟩ => rfl
      | ⟨1, _⟩ => show 0 + 1 * r.val = r.val; omega
      | ⟨2, _⟩ => show 0 + 1 * d.val = d.val; omega
    · rw [hS, ldL_apply, ldG_apply]; rfl
  · have hout : ¬ ∀ a : Fin 3, (![0, 0, 0] : Fin 3 → ℕ) a ≤ ((ix3 (0 : Fin 1) r d) a).val ∧ ((ix3 (0 : Fin 1) r d) a).val < (![0, 0, 0] : Fin 3 → ℕ) a + (![1, n, 128] : Fin 3 → ℕ) a := by
      intro hall
      have : r.val < 0 + n := (hall 1).2
      omega
    rw [dif_neg hout, if_neg h, add_zero]

theorem pieceK_read (arg13 : Memref sig .tc .vmem S1x2048x256 .f32) (f g : arg13.view.ty.Contents (Elt Ideal)) (L : List (View.Piece (Elt Ideal) S1x2048x256 .f32))
    (X : S1x2048x256.Idx → EReal) (hf : arg13.view.read (Elt Ideal) (arg13.view.writes (Elt Ideal) f L) = X) (hg : arg13.view.read (Elt Ideal) (arg13.view.writes (Elt Ideal) g L) = X) :
    arg13.view.read (Elt Ideal) (arg13.view.writes (Elt Ideal) f (pieceK (F := Ideal) arg4 arg6 arg7 arg8 arg9 x0 x2 x3 x4 x5 arg13 g c n hn S L :: L))
      = fun y => X y + (if (y 1).val < n then ∑ j : Fin 256, dsS x2 x3 x4 x5 s (y 1) (ch c j) * x0 (ix3 0 (ch c j) (y 2)) else 0) := by
  unfold pieceK
  rw [View.read_writes_cons_put _ _ _ _ _ rfl, hf, View.readAt_unit _ _ _ rfl (inb_first n hn 256), hg]
  funext y
  obtain ⟨z, r, d, rfl⟩ : ∃ (z : Fin 1) (r : Fin 2048) (d : Fin 256), y = ix3 z r d := ⟨y 0, y 1, y 2, eq_ix3 y⟩
  obtain rfl : z = 0 := Subsingleton.elim _ _
  unfold VecWindow.put
  by_cases h : r.val < n
  · have hin : ∀ a : Fin 3, (![0, 0, 0] : Fin 3 → ℕ) a ≤ ((ix3 (0 : Fin 1) r d) a).val ∧ ((ix3 (0 : Fin 1) r d) a).val < (![0, 0, 0] : Fin 3 → ℕ) a + (![1, n, 256] : Fin 3 → ℕ) a := by
      intro a
      match a with
      | ⟨0, _⟩ => exact ⟨Nat.zero_le _, by show 0 < 0 + 1; omega⟩
      | ⟨1, _⟩ => exact ⟨Nat.zero_le _, by show r.val < 0 + n; omega⟩
      | ⟨2, _⟩ => exact ⟨Nat.zero_le _, by show d.val < 0 + 256; have := d.isLt; omega⟩
    rw [dif_pos hin, if_pos h]
    have el : Rect.unitLocal (s := S1x2048x256) (off := ![0, 0, 0]) (size := ![1, n, 256]) (ix3 (0 : Fin 1) r d) hin = ix3 (0 : Fin 1) ⟨r.val, h⟩ d := by
      funext a; refine Fin.ext ?_
      match a with
      | ⟨0, _⟩ => rfl
      | ⟨1, _⟩ => rfl
      | ⟨2, _⟩ => rfl
    rw [el]
    refine (addK_apply _ _ _ _ _ _ _).trans (congrArg₂ (· + ·) ?_ (Finset.sum_congr rfl fun j _ => ?_))
    · refine congrArg X (funext fun a => Fin.ext ?_)
      match a with
      | ⟨0, _⟩ => rfl
      | ⟨1, _⟩ => show 0 + 1 * r.val = r.val; omega
      | ⟨2, _⟩ => show 0 + 1 * d.val = d.val; omega
    · rw [gradOf_apply arg6 arg7 arg8 arg9 x2 x3 x4 x5 c n hn S s hS, ldQ_apply]; rfl
  · have hout : ¬ ∀ a : Fin 3, (![0, 0, 0] : Fin 3 → ℕ) a ≤ ((ix3 (0 : Fin 1) r d) a).val ∧ ((ix3 (0 : Fin 1) r d) a).val < (![0, 0, 0] : Fin 3 → ℕ) a + (![1, n, 256] : Fin 3 → ℕ) a := by
      intro hall
      have : r.val < 0 + n := (hall 1).2
      omega
    rw [dif_neg hout, if_neg h, add_zero]

theorem pieceQ_read (arg12 : Memref sig .tc .vmem S1x8192x256 .f32) (f g : arg12.view.ty.Contents (Elt Ideal)) (L : List (View.Piece (Elt Ideal) S1x8192x256 .f32))
    (X : S1x8192x256.Idx → EReal) (hf : arg12.view.read (Elt Ideal) (arg12.view.writes (Elt Ideal) f L) = X) (hg : arg12.view.read (Elt Ideal) (arg12.view.writes (Elt Ideal) g L) = X)
    (off : Fin 3 → ℕ) (inb : ∀ a : Fin 3, off a + (![1, 256, 256] : Fin 3 → ℕ) a ≤ (![1, 8192, 256] : Fin 3 → ℕ) a) (o : ℕ) (ho : off = ![0, o, 0]) :
    arg12.view.read (Elt Ideal) (arg12.view.writes (Elt Ideal) f (pieceQ (F := Ideal) arg5 arg6 arg7 arg8 arg9 x1 x2 x3 x4 x5 arg12 g off inb c n hn S L :: L))
      = fun y => X y + (if h : o ≤ (y 1).val ∧ (y 1).val < o + 256 then
          ∑ r : Fin n, dsS x2 x3 x4 x5 s (up hn r) (ch c ⟨(y 1).val - o, by omega⟩) * x1 (ix3 0 (up hn r) (y 2)) else 0) := by
  unfold pieceQ
  subst ho
  rw [View.read_writes_cons_put _ _ _ _ _ rfl, hf, View.readAt_unit _ _ _ rfl inb, hg]
  funext y
  obtain ⟨z, r, d, rfl⟩ : ∃ (z : Fin 1) (r : Fin 8192) (d : Fin 256), y = ix3 z r d := ⟨y 0, y 1, y 2, eq_ix3 y⟩
  obtain rfl : z = 0 := Subsingleton.elim _ _
  unfold VecWindow.put
  by_cases h : o ≤ r.val ∧ r.val < o + 256
  · have hin : ∀ a : Fin 3, (![0, o, 0] : Fin 3 → ℕ) a ≤ ((ix3 (0 : Fin 1) r d) a).val ∧ ((ix3 (0 : Fin 1) r d) a).val < (![0, o, 0] : Fin 3 → ℕ) a + (![1, 256, 256] : Fin 3 → ℕ) a := by
      intro a
      match a with
      | ⟨0, _⟩ => exact ⟨Nat.zero_le _, by show 0 < 0 + 1; omega⟩
      | ⟨1, _⟩ => exact h
      | ⟨2, _⟩ => exact ⟨Nat.zero_le _, by show d.val < 0 + 256; have := d.isLt; omega⟩
    rw [dif_pos hin, dif_pos h]
    have el : Rect.unitLocal (s := S1x8192x256) (off := ![0, o, 0]) (size := ![1, 256, 256]) (ix3 (0 : Fin 1) r d) hin = ix3 (0 : Fin 1) (⟨r.val - o, by omega⟩ : Fin 256) d := by
      funext a; refine Fin.ext ?_
      match a with
      | ⟨0, _⟩ => rfl
      | ⟨1, _⟩ => rfl
      | ⟨2, _⟩ => rfl
    rw [el]
    refine (addQ_apply _ _ _ _ _ _ _).trans (congrArg₂ (· + ·) ?_ (Finset.sum_congr rfl fun k _ => ?_))
    · refine congrArg X (funext fun a => Fin.ext ?_)
      match a with
      | ⟨0, _⟩ => rfl
      | ⟨1, _⟩ => show o + 1 * (r.val - o) = r.val; omega
      | ⟨2, _⟩ => show 0 + 1 * d.val = d.val; omega
    · rw [gradOf_apply arg6 arg7 arg8 arg9 x2 x3 x4 x5 c n hn S s hS, ldK_apply]
  · have hout : ¬ ∀ a : Fin 3, (![0, o, 0] : Fin 3 → ℕ) a ≤ ((ix3 (0 : Fin 1) r d) a).val ∧ ((ix3 (0 : Fin 1) r d) a).val < (![0, o, 0] : Fin 3 → ℕ) a + (![1, 256, 256] : Fin 3 → ℕ) a := by
      intro hall
      exact h (hall 1)
    rw [dif_neg hout, dif_neg h, add_zero]

end
end

/-- The readings of a stack of stores, each of which adds its part. -/
theorem stack_read {s : Shape} (v : Memref sig .tc .vmem s .f32) (P : v.view.ty.Contents (Elt Ideal) → Prop)
    (p : Fin 8 → List (View.Piece (Elt Ideal) s .f32) → View.Piece (Elt Ideal) s .f32) (base : List (View.Piece (Elt Ideal) s .f32)) (X0 : s.Idx → EReal) (T : Fin 8 → s.Idx → EReal)
    (hb : ∀ f, P f → v.view.read (Elt Ideal) (v.view.writes (Elt Ideal) f base) = X0)
    (hp : ∀ c L (X : s.Idx → EReal), (∀ f, P f → v.view.read (Elt Ideal) (v.view.writes (Elt Ideal) f L) = X) →
      ∀ f, P f → v.view.read (Elt Ideal) (v.view.writes (Elt Ideal) f (p c L :: L)) = fun y => X y + T c y) :
    ∀ cs f, P f → v.view.read (Elt Ideal) (v.view.writes (Elt Ideal) f (stack p base cs)) = fun y => X0 y + (cs.map (T · y)).sum
  | [], f, h => by
    funext y
    show v.view.read (Elt Ideal) (v.view.writes (Elt Ideal) f base) y = _
    rw [hb f h]; simp
  | c :: cs, f, h => by
    show v.view.read (Elt Ideal) (v.view.writes (Elt Ideal) f (p c (stack p base cs) :: stack p base cs)) = _
    rw [hp c _ _ (stack_read v P p base X0 T hb hp cs) f h]
    funext y
    simp only [List.map_cons, List.sum_cons]
    rw [add_assoc, add_comm (T c y)]

theorem sum_all8 (g : Fin 8 → EReal) : (all8.map g).sum = ∑ c : Fin 8, g c := by
  simp [Fin.sum_univ_eight]; abel
theorem sum_last7 (g : Fin 8 → EReal) : g 0 + (last7.map g).sum = ∑ c : Fin 8, g c := by
  simp [Fin.sum_univ_eight]; abel

/-- A sum over the block's queries, chunk by chunk. -/
theorem sum_chunks (g : Fin 2048 → EReal) : ∑ c : Fin 8, ∑ j : Fin 256, g (ch c j) = ∑ j : Fin 2048, g j := by
  rw [← Fintype.sum_prod_type' (fun c j => g (ch c j))]
  refine Fintype.sum_equiv (finProdFinEquiv (m := 8) (n := 256)) _ _ fun x => congrArg g (Fin.ext ?_)
  show 256 * x.1.val + x.2.val = x.2.val + 256 * x.1.val
  omega

end Cert.Kernel2Ideal.Attn

end
-- ==== Proof.AttnRunValue.lean ====
/-
  What the body makes of the three accumulators at each kind of pair of blocks, as sums over the whole block of queries or
  of keys.
-/
module

public import proofs.«01_k».proof.Proof.AttnPiece

@[expose] public section

set_option maxRecDepth 16384
set_option Elab.async false

noncomputable section

namespace Cert.Kernel2Ideal.Attn

open Cert.Kernel2Ideal Cert.Kernel2Ideal.Gen
open Idealize.ShloMosaic Idealize.ShloMosaic.ValueIdx
open Idealize.ShloMosaic.TcCoe Idealize.ShloMosaic.Tactic
open scoped BigOperators

theorem exp2_bot : Ideal.exp2 (⊥ : EReal) = 0 := rfl

theorem sum_up {n : ℕ} (hn : n ≤ 2048) (g : Fin 2048 → EReal) (h : ∀ r : Fin 2048, n ≤ r.val → g r = 0) : ∑ r : Fin n, g (up hn r) = ∑ r : Fin 2048, g r :=
  Fintype.sum_of_injective (up hn) (fun a b e => Fin.ext (show a.val = b.val from congrArg (fun z : Fin 2048 => z.val) e)) _ _
    (fun r hr => h r (by
      by_contra hlt
      exact hr ⟨⟨r.val, by omega⟩, rfl⟩)) fun _ => rfl

theorem offQ_eq (w : BitVec 32) (hw : w.toNat ≤ 3) (c : Fin 8) : offQ w c = ![0, 2048 * w.toNat + 256 * c.val, 0] := by
  have hc := c.isLt
  have e : ((w * 2048#32 + BitVec.ofNat 32 (256 * c.val)).toNat) = 2048 * w.toNat + 256 * c.val := by
    rw [BitVec.toNat_add, BitVec.toNat_mul, BitVec.toNat_ofNat]
    show (w.toNat * 2048 % 4294967296 + 256 * c.val % 4294967296) % 4294967296 = _
    omega
  funext a
  match a with
  | ⟨0, _⟩ => rfl
  | ⟨1, _⟩ => exact e
  | ⟨2, _⟩ => rfl

theorem inQ_of (w : BitVec 32) (hw : w.toNat ≤ 3) : InQ w := by
  intro c a
  have hc := c.isLt
  rw [offQ_eq w hw c]
  match a with
  | ⟨0, _⟩ => show 0 + 1 ≤ 1; omega
  | ⟨1, _⟩ => show 2048 * w.toNat + 256 * c.val + 256 ≤ 8192; omega
  | ⟨2, _⟩ => show 0 + 256 ≤ 256; omega

section
variable (x0 : S1x2048x256.Idx → EReal) (x1 : S1x2048x256.Idx → EReal) (x2 : S1x2048x128.Idx → EReal) (x3 : S2048x128.Idx → EReal) (x4 : S1x1x2048.Idx → EReal) (x5 : S1x1x2048.Idx → EReal) (s : Fin 2048 → Fin 2048 → EReal)

theorem prS_zero (r j : Fin 2048) (h : s r j = ⊥) : prS x4 s r j = 0 := by
  unfold prS; rw [h, EReal.bot_sub, exp2_bot]
theorem dsS_zero (r j : Fin 2048) (h : s r j = ⊥) : dsS x2 x3 x4 x5 s r j = 0 := by
  unfold dsS; rw [prS_zero x4 s r j h, zero_mul]

/-- What a pair of blocks adds to the values' gradient, to the keys', and to the queries'. -/
def sumV (y : S1x2048x128.Idx) : EReal := ∑ j : Fin 2048, prS x4 s (y 1) j * x3 (ix2 j (y 2))
def sumK (y : S1x2048x256.Idx) : EReal := ∑ j : Fin 2048, dsS x2 x3 x4 x5 s (y 1) j * x0 (ix3 0 j (y 2))
def sumQ (w : ℕ) (y : S1x8192x256.Idx) : EReal :=
  if h : 2048 * w ≤ (y 1).val ∧ (y 1).val < 2048 * w + 2048 then ∑ r : Fin 2048, dsS x2 x3 x4 x5 s r ⟨(y 1).val - 2048 * w, by omega⟩ * x1 (ix3 0 r (y 2)) else 0

variable (n : Fin 8 → ℕ) (hn : ∀ c, n c ≤ 2048) (hs : ∀ c (r : Fin 2048) (j : Fin 256), n c ≤ r.val → s r (ch c j) = ⊥)
include hs

theorem collapseV (y : S1x2048x128.Idx) : (∑ c : Fin 8, if (y 1).val < n c then ∑ j : Fin 256, prS x4 s (y 1) (ch c j) * x3 (ix2 (ch c j) (y 2)) else 0) = sumV x3 x4 s y := by
  unfold sumV
  rw [← sum_chunks]
  refine Finset.sum_congr rfl fun c _ => ?_
  split
  · rfl
  · rename_i h
    exact (Finset.sum_eq_zero fun j _ => by rw [prS_zero x4 s (y 1) (ch c j) (hs c (y 1) j (by omega)), zero_mul]).symm
theorem collapseK (y : S1x2048x256.Idx) : (∑ c : Fin 8, if (y 1).val < n c then ∑ j : Fin 256, dsS x2 x3 x4 x5 s (y 1) (ch c j) * x0 (ix3 0 (ch c j) (y 2)) else 0) = sumK x0 x2 x3 x4 x5 s y := by
  unfold sumK
  rw [← sum_chunks]
  refine Finset.sum_congr rfl fun c _ => ?_
  split
  · rfl
  · rename_i h
    exact (Finset.sum_eq_zero fun j _ => by rw [dsS_zero x2 x3 x4 x5 s (y 1) (ch c j) (hs c (y 1) j (by omega)), zero_mul]).symm
theorem collapseQ (w : ℕ) (y : S1x8192x256.Idx) : (∑ c : Fin 8, if h : 2048 * w + 256 * c.val ≤ (y 1).val ∧ (y 1).val < 2048 * w + 256 * c.val + 256 then
      ∑ r : Fin (n c), dsS x2 x3 x4 x5 s (up (hn c) r) (ch c ⟨(y 1).val - (2048 * w + 256 * c.val), by omega⟩) * x1 (ix3 0 (up (hn c) r) (y 2)) else 0)
    = sumQ x1 x2 x3 x4 x5 s w y := by
  unfold sumQ
  by_cases h : 2048 * w ≤ (y 1).val ∧ (y 1).val < 2048 * w + 2048
  · rw [dif_pos h]
    have hc : ((y 1).val - 2048 * w) / 256 < 8 := by omega
    have hin : 2048 * w + 256 * (((y 1).val - 2048 * w) / 256) ≤ (y 1).val ∧ (y 1).val < 2048 * w + 256 * (((y 1).val - 2048 * w) / 256) + 256 := by omega
    rw [Finset.sum_eq_single (⟨((y 1).val - 2048 * w) / 256, hc⟩ : Fin 8)]
    · rw [dif_pos hin]
      have ej : ch ⟨((y 1).val - 2048 * w) / 256, hc⟩ ⟨(y 1).val - (2048 * w + 256 * (((y 1).val - 2048 * w) / 256)), by omega⟩ = (⟨(y 1).val - 2048 * w, by omega⟩ : Fin 2048) := by
        refine Fin.ext ?_
        show 256 * (((y 1).val - 2048 * w) / 256) + ((y 1).val - (2048 * w + 256 * (((y 1).val - 2048 * w) / 256))) = (y 1).val - 2048 * w
        omega
      have ho := sum_up (hn ⟨((y 1).val - 2048 * w) / 256, hc⟩) (fun r => dsS x2 x3 x4 x5 s r (ch ⟨((y 1).val - 2048 * w) / 256, hc⟩ ⟨(y 1).val - (2048 * w + 256 * (((y 1).val - 2048 * w) / 256)), by omega⟩) * x1 (ix3 0 r (y 2)))
        (fun r hr => by rw [dsS_zero x2 x3 x4 x5 s r _ (hs _ r _ hr), zero_mul])
      rw [ej] at ho
      rw [← ho]
      exact Finset.sum_congr rfl fun r _ => by rw [← ej]
    · intro c _ hne
      rw [dif_neg]
      rintro ⟨h1, h2⟩
      exact hne (Fin.ext (by show c.val = ((y 1).val - 2048 * w) / 256; omega))
    · intro hx; exact absurd (Finset.mem_univ _) hx
  · rw [dif_neg h]
    refine Finset.sum_eq_zero fun c _ => dif_neg ?_
    have := c.isLt
    omega
end

section
variable (x0 : S1x2048x256.Idx → EReal) (x1 : S1x2048x256.Idx → EReal) (x6 : S2048x1.Idx → BitVec 32) (x7 : S1x2048.Idx → BitVec 32)
theorem mskS_out (hpos : ∀ r j : Fin 2048, j.val < r.val → ¬ IntOp.cmpi .sge (x7 (ix2 0 j)) (x6 (ix2 r 0)) = 1) (c : Fin 8) (r : Fin 2048) (j : Fin 256) (h : upto c ≤ r.val) :
    mskS x0 x1 x6 x7 r (ch c j) = ⊥ := by
  unfold mskS
  exact if_neg (hpos r (ch c j) (by
    have hj := j.isLt
    have h' : 256 * (c.val + 1) ≤ r.val := h
    show 256 * c.val + j.val < r.val
    omega))
end

theorem zeroV (v : Memref sig .tc .vmem S1x2048x128 .f32) (f : v.view.ty.Contents (Elt Ideal)) :
    v.view.read (Elt Ideal) (v.view.writes (Elt Ideal) f [⟨Rect.unit (s := S1x2048x128) ![0, 0, 0] ![1, 2048, 128] (inb_first 2048 (Nat.le_refl _) 128), Gen.k0_pay3 (F := Ideal)⟩]) = fun _ => (0 : EReal) := by
  refine (View.read_writes_full (s := S1x2048x128) v.view f (off := ![0, 0, 0]) (inb_first 2048 (Nat.le_refl _) 128) _ []).trans ?_
  funext y; exact Ideal.ofBits_zero_f32
theorem zeroK (v : Memref sig .tc .vmem S1x2048x256 .f32) (f : v.view.ty.Contents (Elt Ideal)) :
    v.view.read (Elt Ideal) (v.view.writes (Elt Ideal) f [⟨Rect.unit (s := S1x2048x256) ![0, 0, 0] ![1, 2048, 256] (inb_first 2048 (Nat.le_refl _) 256), Gen.k0_pay2 (F := Ideal)⟩]) = fun _ => (0 : EReal) := by
  refine (View.read_writes_full (s := S1x2048x256) v.view f (off := ![0, 0, 0]) (inb_first 2048 (Nat.le_refl _) 256) _ []).trans ?_
  funext y; exact Ideal.ofBits_zero_f32
theorem zeroQ (v : Memref sig .tc .vmem S1x8192x256 .f32) (f : v.view.ty.Contents (Elt Ideal)) :
    v.view.read (Elt Ideal) (v.view.writes (Elt Ideal) f [⟨Rect.unit (s := S1x8192x256) ![0, 0, 0] ![1, 8192, 256] Gen.inb_S1x8192x256_S1x8192x256_0_0_0, Gen.k0_pay1 (F := Ideal)⟩]) = fun _ => (0 : EReal) := by
  refine (View.read_writes_full (s := S1x8192x256) v.view f (off := ![0, 0, 0]) Gen.inb_S1x8192x256_S1x8192x256_0_0_0 _ []).trans ?_
  funext y; exact Ideal.ofBits_zero_f32

section
variable (arg4 : Memref sig .tc .vmem S1x2048x256 .bf16) (arg6 : Memref sig .tc .vmem S1x2048x128 .bf16) (arg7 : Memref sig .tc .vmem S2048x128 .f32) (arg8 : Memref sig .tc .vmem S1x1x2048 .f32) (arg9 : Memref sig .tc .vmem S1x1x2048 .f32)
variable (x0 : S1x2048x256.Idx → Elt Ideal .bf16) (x2 : S1x2048x128.Idx → Elt Ideal .bf16) (x3 : S2048x128.Idx → Elt Ideal .f32) (x4 : S1x1x2048.Idx → Elt Ideal .f32) (x5 : S1x1x2048.Idx → Elt Ideal .f32)

/-- A store of the whole accumulator leaves the same, whatever was there. -/
theorem fullV (arg14 : Memref sig .tc .vmem S1x2048x128 .f32) (g : arg14.view.ty.Contents (Elt Ideal)) (c : Fin 8) (S : FVec Ideal ⟨2, ![2048, 256]⟩ .f32)
    (L : List (View.Piece (Elt Ideal) S1x2048x128 .f32)) (f f' : arg14.view.ty.Contents (Elt Ideal)) :
    arg14.view.read (Elt Ideal) (arg14.view.writes (Elt Ideal) f [pieceV (F := Ideal) arg7 arg8 x3 x4 arg14 g c 2048 (Nat.le_refl _) S L])
      = arg14.view.read (Elt Ideal) (arg14.view.writes (Elt Ideal) f' [pieceV (F := Ideal) arg7 arg8 x3 x4 arg14 g c 2048 (Nat.le_refl _) S L]) := by
  unfold pieceV
  exact (View.read_writes_full (s := S1x2048x128) arg14.view f (off := ![0, 0, 0]) (inb_first 2048 (Nat.le_refl _) 128) _ []).trans
    (View.read_writes_full (s := S1x2048x128) arg14.view f' (off := ![0, 0, 0]) (inb_first 2048 (Nat.le_refl _) 128) _ []).symm
theorem fullK (arg13 : Memref sig .tc .vmem S1x2048x256 .f32) (g : arg13.view.ty.Contents (Elt Ideal)) (c : Fin 8) (S : FVec Ideal ⟨2, ![2048, 256]⟩ .f32)
    (L : List (View.Piece (Elt Ideal) S1x2048x256 .f32)) (f f' : arg13.view.ty.Contents (Elt Ideal)) :
    arg13.view.read (Elt Ideal) (arg13.view.writes (Elt Ideal) f [pieceK (F := Ideal) arg4 arg6 arg7 arg8 arg9 x0 x2 x3 x4 x5 arg13 g c 2048 (Nat.le_refl _) S L])
      = arg13.view.read (Elt Ideal) (arg13.view.writes (Elt Ideal) f' [pieceK (F := Ideal) arg4 arg6 arg7 arg8 arg9 x0 x2 x3 x4 x5 arg13 g c 2048 (Nat.le_refl _) S L]) := by
  unfold pieceK
  exact (View.read_writes_full (s := S1x2048x256) arg13.view f (off := ![0, 0, 0]) (inb_first 2048 (Nat.le_refl _) 256) _ []).trans
    (View.read_writes_full (s := S1x2048x256) arg13.view f' (off := ![0, 0, 0]) (inb_first 2048 (Nat.le_refl _) 256) _ []).symm
end

section
variable (arg4 : Memref sig .tc .vmem S1x2048x256 .bf16) (harg4 : arg4.IsWhole) (arg5 : Memref sig .tc .vmem S1x2048x256 .bf16) (harg5 : arg5.IsWhole) (arg6 : Memref sig .tc .vmem S1x2048x128 .bf16) (harg6 : arg6.IsWhole) (arg7 : Memref sig .tc .vmem S2048x128 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S2048x1 .i32) (harg10 : arg10.IsWhole) (arg11 : Memref sig .tc .vmem S1x2048 .i32) (harg11 : arg11.IsWhole) (arg12 : Memref sig .tc .vmem S1x8192x256 .f32) (harg12 : arg12.IsWhole) (arg13 : Memref sig .tc .vmem S1x2048x256 .f32) (harg13 : arg13.IsWhole) (arg14 : Memref sig .tc .vmem S1x2048x128 .f32) (harg14 : arg14.IsWhole)
variable (c : Dev nD) (i : grid0.Coords) (T0 T1 : S10.Idx → Elt Ideal .i32)
    (x0 : S1x2048x256.Idx → EReal) (x1 : S1x2048x256.Idx → EReal) (x2 : S1x2048x128.Idx → EReal) (x3 : S2048x128.Idx → EReal) (x4 : S1x1x2048.Idx → EReal) (x5 : S1x1x2048.Idx → EReal) (x6 : S2048x1.Idx → BitVec 32) (x7 : S1x2048.Idx → BitVec 32)
    (p12 : S1x8192x256.Idx → EReal) (p13 : S1x2048x256.Idx → EReal) (p14 : S1x2048x128.Idx → EReal)
    (hchk : k0_chk1 (word0 (F := Ideal) i T0) (word1 (F := Ideal) i T1))

theorem runA_V_value (hpos : ∀ r j : Fin 2048, j.val < r.val → ¬ IntOp.cmpi .sge (x7 (ix2 0 j)) (x6 (ix2 r 0)) = 1) (h1 : k0_cond1 i = 1#1) (h2 : k0_cond2 (word0 (F := Ideal) i T0) (word1 (F := Ideal) i T1) = 1#1) (h3 : k0_cond3 (word0 (F := Ideal) i T0) (word1 (F := Ideal) i T1) = 1#1) (h4 : ¬(k0_cond4 (word0 (F := Ideal) i T0) (word1 (F := Ideal) i T1) = 1#1)) (f : arg14.view.ty.Contents (Elt Ideal)) :
    arg14.view.read (Elt Ideal) (arg14.view.writes (Elt Ideal) f (runA (F := Ideal) arg4 harg4 arg5 harg5 arg6 harg6 arg7 harg7 arg8 harg8 arg9 harg9 arg10 harg10 arg11 harg11 arg12 harg12 arg13 harg13 arg14 harg14 c i T0 T1 x0 x1 x2 x3 x4 x5 x6 x7 hchk h1 h2 h3 h4).2.2.1)
      = fun y => (0 + sumV x3 x4 (mskS x0 x1 x6 x7) y : EReal) := by
  rw [runA_V]
  refine (stack_read arg14 (fun _ => True) _ _ (fun _ => (0 : EReal)) (fun (k : Fin 8) (y : S1x2048x128.Idx) => if (y 1).val < upto k then ∑ j : Fin 256, prS x4 (mskS x0 x1 x6 x7) (y 1) (ch k j) * x3 (ix2 (ch k j) (y 2)) else 0) (fun f _ => zeroV arg14 f) (fun k L X hX f hf => pieceV_read arg7 arg8 x3 x4 k (upto k) (upto_le k) (scD (F := Ideal) arg4 arg5 arg10 arg11 x0 x1 x6 x7 k) (mskS x0 x1 x6 x7) (scD_apply arg4 arg5 arg10 arg11 x0 x1 x6 x7 k) arg14 f _ L X (hX f hf) (hX _ trivial)) all8 f trivial).trans ?_
  funext y
  refine congrArg ((0 : EReal) + ·) ?_
  rw [sum_all8]
  exact collapseV x3 x4 (mskS x0 x1 x6 x7) upto (mskS_out x0 x1 x6 x7 hpos) y

theorem runA_K_value (hpos : ∀ r j : Fin 2048, j.val < r.val → ¬ IntOp.cmpi .sge (x7 (ix2 0 j)) (x6 (ix2 r 0)) = 1) (h1 : k0_cond1 i = 1#1) (h2 : k0_cond2 (word0 (F := Ideal) i T0) (word1 (F := Ideal) i T1) = 1#1) (h3 : k0_cond3 (word0 (F := Ideal) i T0) (word1 (F := Ideal) i T1) = 1#1) (h4 : ¬(k0_cond4 (word0 (F := Ideal) i T0) (word1 (F := Ideal) i T1) = 1#1)) (f : arg13.view.ty.Contents (Elt Ideal)) :
    arg13.view.read (Elt Ideal) (arg13.view.writes (Elt Ideal) f (runA (F := Ideal) arg4 harg4 arg5 harg5 arg6 harg6 arg7 harg7 arg8 harg8 arg9 harg9 arg10 harg10 arg11 harg11 arg12 harg12 arg13 harg13 arg14 harg14 c i T0 T1 x0 x1 x2 x3 x4 x5 x6 x7 hchk h1 h2 h3 h4).2.1)
      = fun y => (0 + sumK x0 x2 x3 x4 x5 (mskS x0 x1 x6 x7) y : EReal) := by
  rw [runA_K]
  refine (stack_read arg13 (fun _ => True) _ _ (fun _ => (0 : EReal)) (fun (k : Fin 8) (y : S1x2048x256.Idx) => if (y 1).val < upto k then ∑ j : Fin 256, dsS x2 x3 x4 x5 (mskS x0 x1 x6 x7) (y 1) (ch k j) * x0 (ix3 0 (ch k j) (y 2)) else 0) (fun f _ => zeroK arg13 f) (fun k L X hX f hf => pieceK_read arg4 arg6 arg7 arg8 arg9 x0 x2 x3 x4 x5 k (upto k) (upto_le k) (scD (F := Ideal) arg4 arg5 arg10 arg11 x0 x1 x6 x7 k) (mskS x0 x1 x6 x7) (scD_apply arg4 arg5 arg10 arg11 x0 x1 x6 x7 k) arg13 f _ L X (hX f hf) (hX _ trivial)) all8 f trivial).trans ?_
  funext y
  refine congrArg ((0 : EReal) + ·) ?_
  rw [sum_all8]
  exact collapseK x0 x2 x3 x4 x5 (mskS x0 x1 x6 x7) upto (mskS_out x0 x1 x6 x7 hpos) y

theorem runA_Q_value (hw : (word0 (F := Ideal) i T0).toNat ≤ 3) (hpos : ∀ r j : Fin 2048, j.val < r.val → ¬ IntOp.cmpi .sge (x7 (ix2 0 j)) (x6 (ix2 r 0)) = 1) (h1 : k0_cond1 i = 1#1) (h2 : k0_cond2 (word0 (F := Ideal) i T0) (word1 (F := Ideal) i T1) = 1#1) (h3 : k0_cond3 (word0 (F := Ideal) i T0) (word1 (F := Ideal) i T1) = 1#1) (h4 : ¬(k0_cond4 (word0 (F := Ideal) i T0) (word1 (F := Ideal) i T1) = 1#1)) (f : arg12.view.ty.Contents (Elt Ideal)) :
    arg12.view.read (Elt Ideal) (arg12.view.writes (Elt Ideal) f (runA (F := Ideal) arg4 harg4 arg5 harg5 arg6 harg6 arg7 harg7 arg8 harg8 arg9 harg9 arg10 harg10 arg11 harg11 arg12 harg12 arg13 harg13 arg14 harg14 c i T0 T1 x0 x1 x2 x3 x4 x5 x6 x7 hchk h1 h2 h3 h4).1)
      = fun y => (0 + sumQ x1 x2 x3 x4 x5 (mskS x0 x1 x6 x7) (word0 (F := Ideal) i T0).toNat y : EReal) := by
  rw [runA_Q (F := Ideal) arg4 harg4 arg5 harg5 arg6 harg6 arg7 harg7 arg8 harg8 arg9 harg9 arg10 harg10 arg11 harg11 arg12 harg12 arg13 harg13 arg14 harg14 c i T0 T1 x0 x1 x2 x3 x4 x5 x6 x7 hchk (inQ_of _ hw)]
  refine (stack_read arg12 (fun _ => True) _ _ (fun _ => (0 : EReal)) (fun (k : Fin 8) (y : S1x8192x256.Idx) => if h : 2048 * (word0 (F := Ideal) i T0).toNat + 256 * k.val ≤ (y 1).val ∧ (y 1).val < 2048 * (word0 (F := Ideal) i T0).toNat + 256 * k.val + 256 then ∑ r : Fin (upto k), dsS x2 x3 x4 x5 (mskS x0 x1 x6 x7) (up (upto_le k) r) (ch k ⟨(y 1).val - (2048 * (word0 (F := Ideal) i T0).toNat + 256 * k.val), by omega⟩) * x1 (ix3 0 (up (upto_le k) r) (y 2)) else 0) (fun f _ => zeroQ arg12 f) (fun k L X hX f hf => pieceQ_read arg5 arg6 arg7 arg8 arg9 x1 x2 x3 x4 x5 k (upto k) (upto_le k) (scD (F := Ideal) arg4 arg5 arg10 arg11 x0 x1 x6 x7 k) (mskS x0 x1 x6 x7) (scD_apply arg4 arg5 arg10 arg11 x0 x1 x6 x7 k) arg12 f _ L X (hX f hf) (hX _ trivial) _ (inQ_of _ hw k) _ (offQ_eq _ hw k)) all8 f trivial).trans ?_
  funext y
  refine congrArg ((0 : EReal) + ·) ?_
  rw [sum_all8]
  exact collapseQ x1 x2 x3 x4 x5 (mskS x0 x1 x6 x7) upto upto_le (mskS_out x0 x1 x6 x7 hpos) (word0 (F := Ideal) i T0).toNat y

theorem runB_V_value (hpos : ∀ r j : Fin 2048, j.val < r.val → ¬ IntOp.cmpi .sge (x7 (ix2 0 j)) (x6 (ix2 r 0)) = 1) (h1 : ¬(k0_cond1 i = 1#1)) (h2 : k0_cond2 (word0 (F := Ideal) i T0) (word1 (F := Ideal) i T1) = 1#1) (h3 : k0_cond3 (word0 (F := Ideal) i T0) (word1 (F := Ideal) i T1) = 1#1) (h4 : ¬(k0_cond4 (word0 (F := Ideal) i T0) (word1 (F := Ideal) i T1) = 1#1)) (f : arg14.view.ty.Contents (Elt Ideal)) :
    arg14.view.read (Elt Ideal) (arg14.view.writes (Elt Ideal) f (runB (F := Ideal) arg4 harg4 arg5 harg5 arg6 harg6 arg7 harg7 arg8 harg8 arg9 harg9 arg10 harg10 arg11 harg11 arg12 harg12 arg13 harg13 arg14 harg14 c i T0 T1 x0 x1 x2 x3 x4 x5 x6 x7 p12 hchk h1 h2 h3 h4).2.2.1)
      = fun y => (0 + sumV x3 x4 (mskS x0 x1 x6 x7) y : EReal) := by
  rw [runB_V]
  refine (stack_read arg14 (fun _ => True) _ _ (fun _ => (0 : EReal)) (fun (k : Fin 8) (y : S1x2048x128.Idx) => if (y 1).val < upto k then ∑ j : Fin 256, prS x4 (mskS x0 x1 x6 x7) (y 1) (ch k j) * x3 (ix2 (ch k j) (y 2)) else 0) (fun f _ => zeroV arg14 f) (fun k L X hX f hf => pieceV_read arg7 arg8 x3 x4 k (upto k) (upto_le k) (scD (F := Ideal) arg4 arg5 arg10 arg11 x0 x1 x6 x7 k) (mskS x0 x1 x6 x7) (scD_apply arg4 arg5 arg10 arg11 x0 x1 x6 x7 k) arg14 f _ L X (hX f hf) (hX _ trivial)) all8 f trivial).trans ?_
  funext y
  refine congrArg ((0 : EReal) + ·) ?_
  rw [sum_all8]
  exact collapseV x3 x4 (mskS x0 x1 x6 x7) upto (mskS_out x0 x1 x6 x7 hpos) y

theorem runB_K_value (hpos : ∀ r j : Fin 2048, j.val < r.val → ¬ IntOp.cmpi .sge (x7 (ix2 0 j)) (x6 (ix2 r 0)) = 1) (h1 : ¬(k0_cond1 i = 1#1)) (h2 : k0_cond2 (word0 (F := Ideal) i T0) (word1 (F := Ideal) i T1) = 1#1) (h3 : k0_cond3 (word0 (F := Ideal) i T0) (word1 (F := Ideal) i T1) = 1#1) (h4 : ¬(k0_cond4 (word0 (F := Ideal) i T0) (word1 (F := Ideal) i T1) = 1#1)) (f : arg13.view.ty.Contents (Elt Ideal)) :
    arg13.view.read (Elt Ideal) (arg13.view.writes (Elt Ideal) f (runB (F := Ideal) arg4 harg4 arg5 harg5 arg6 harg6 arg7 harg7 arg8 harg8 arg9 harg9 arg10 harg10 arg11 harg11 arg12 harg12 arg13 harg13 arg14 harg14 c i T0 T1 x0 x1 x2 x3 x4 x5 x6 x7 p12 hchk h1 h2 h3 h4).2.1)
      = fun y => (0 + sumK x0 x2 x3 x4 x5 (mskS x0 x1 x6 x7) y : EReal) := by
  rw [runB_K]
  refine (stack_read arg13 (fun _ => True) _ _ (fun _ => (0 : EReal)) (fun (k : Fin 8) (y : S1x2048x256.Idx) => if (y 1).val < upto k then ∑ j : Fin 256, dsS x2 x3 x4 x5 (mskS x0 x1 x6 x7) (y 1) (ch k j) * x0 (ix3 0 (ch k j) (y 2)) else 0) (fun f _ => zeroK arg13 f) (fun k L X hX f hf => pieceK_read arg4 arg6 arg7 arg8 arg9 x0 x2 x3 x4 x5 k (upto k) (upto_le k) (scD (F := Ideal) arg4 arg5 arg10 arg11 x0 x1 x6 x7 k) (mskS x0 x1 x6 x7) (scD_apply arg4 arg5 arg10 arg11 x0 x1 x6 x7 k) arg13 f _ L X (hX f hf) (hX _ trivial)) all8 f trivial).trans ?_
  funext y
  refine congrArg ((0 : EReal) + ·) ?_
  rw [sum_all8]
  exact collapseK x0 x2 x3 x4 x5 (mskS x0 x1 x6 x7) upto (mskS_out x0 x1 x6 x7 hpos) y

theorem runB_Q_value (hw : (word0 (F := Ideal) i T0).toNat ≤ 3) (hpos : ∀ r j : Fin 2048, j.val < r.val → ¬ IntOp.cmpi .sge (x7 (ix2 0 j)) (x6 (ix2 r 0)) = 1) (h1 : ¬(k0_cond1 i = 1#1)) (h2 : k0_cond2 (word0 (F := Ideal) i T0) (word1 (F := Ideal) i T1) = 1#1) (h3 : k0_cond3 (word0 (F := Ideal) i T0) (word1 (F := Ideal) i T1) = 1#1) (h4 : ¬(k0_cond4 (word0 (F := Ideal) i T0) (word1 (F := Ideal) i T1) = 1#1)) :
    arg12.view.read (Elt Ideal) (arg12.view.writes (Elt Ideal) (harg12.unread p12) (runB (F := Ideal) arg4 harg4 arg5 harg5 arg6 harg6 arg7 harg7 arg8 harg8 arg9 harg9 arg10 harg10 arg11 harg11 arg12 harg12 arg13 harg13 arg14 harg14 c i T0 T1 x0 x1 x2 x3 x4 x5 x6 x7 p12 hchk h1 h2 h3 h4).1)
      = fun y => (p12 y + sumQ x1 x2 x3 x4 x5 (mskS x0 x1 x6 x7) (word0 (F := Ideal) i T0).toNat y : EReal) := by
  rw [runB_Q (F := Ideal) arg4 harg4 arg5 harg5 arg6 harg6 arg7 harg7 arg8 harg8 arg9 harg9 arg10 harg10 arg11 harg11 arg12 harg12 arg13 harg13 arg14 harg14 c i T0 T1 x0 x1 x2 x3 x4 x5 x6 x7 p12 hchk (inQ_of _ hw)]
  refine (stack_read arg12 (fun f => f = harg12.unread p12) _ [] p12 (fun (k : Fin 8) (y : S1x8192x256.Idx) => if h : 2048 * (word0 (F := Ideal) i T0).toNat + 256 * k.val ≤ (y 1).val ∧ (y 1).val < 2048 * (word0 (F := Ideal) i T0).toNat + 256 * k.val + 256 then ∑ r : Fin (upto k), dsS x2 x3 x4 x5 (mskS x0 x1 x6 x7) (up (upto_le k) r) (ch k ⟨(y 1).val - (2048 * (word0 (F := Ideal) i T0).toNat + 256 * k.val), by omega⟩) * x1 (ix3 0 (up (upto_le k) r) (y 2)) else 0) (fun f hf => by subst hf; exact harg12.read_unread (Val := Elt Ideal) p12) (fun k L X hX f hf => pieceQ_read arg5 arg6 arg7 arg8 arg9 x1 x2 x3 x4 x5 k (upto k) (upto_le k) (scD (F := Ideal) arg4 arg5 arg10 arg11 x0 x1 x6 x7 k) (mskS x0 x1 x6 x7) (scD_apply arg4 arg5 arg10 arg11 x0 x1 x6 x7 k) arg12 f _ L X (hX f hf) (hX _ rfl) _ (inQ_of _ hw k) _ (offQ_eq _ hw k)) all8 _ rfl).trans ?_
  funext y
  refine congrArg (p12 y + ·) ?_
  rw [sum_all8]
  exact collapseQ x1 x2 x3 x4 x5 (mskS x0 x1 x6 x7) upto upto_le (mskS_out x0 x1 x6 x7 hpos) (word0 (F := Ideal) i T0).toNat y

theorem runC_V_value (h1 : ¬(k0_cond1 i = 1#1)) (h2 : ¬(k0_cond2 (word0 (F := Ideal) i T0) (word1 (F := Ideal) i T1) = 1#1)) (h3 : ¬(k0_cond3 (word0 (F := Ideal) i T0) (word1 (F := Ideal) i T1) = 1#1)) (h4 : k0_cond4 (word0 (F := Ideal) i T0) (word1 (F := Ideal) i T1) = 1#1) (f : arg14.view.ty.Contents (Elt Ideal)) :
    arg14.view.read (Elt Ideal) (arg14.view.writes (Elt Ideal) f (runC (F := Ideal) arg4 harg4 arg5 harg5 arg6 harg6 arg7 harg7 arg8 harg8 arg9 harg9 arg10 harg10 arg11 harg11 arg12 harg12 arg13 harg13 arg14 harg14 c i T0 T1 x0 x1 x2 x3 x4 x5 x6 x7 p12 p13 p14 hchk h1 h2 h3 h4).2.2.1)
      = fun y => (p14 y + sumV x3 x4 (rawS x0 x1) y : EReal) := by
  rw [runC_V]
  have hb : ∀ f, arg14.view.read (Elt Ideal) (arg14.view.writes (Elt Ideal) f [pieceV (F := Ideal) arg7 arg8 x3 x4 arg14 (harg14.unread p14) 0 2048 (Nat.le_refl _) (scB (F := Ideal) arg4 arg5 x0 x1 0) []]) = (fun y => p14 y + (fun (k : Fin 8) (y : S1x2048x128.Idx) => if (y 1).val < (fun _ => 2048) k then ∑ j : Fin 256, prS x4 (rawS x0 x1) (y 1) (ch k j) * x3 (ix2 (ch k j) (y 2)) else 0) 0 y) := fun f =>
    (fullV arg7 arg8 x3 x4 arg14 (harg14.unread p14) 0 (scB (F := Ideal) arg4 arg5 x0 x1 0) [] f (harg14.unread p14)).trans (pieceV_read arg7 arg8 x3 x4 0 2048 (Nat.le_refl _) (scB (F := Ideal) arg4 arg5 x0 x1 0) (rawS x0 x1) (scB_apply arg4 arg5 x0 x1 0) arg14 (harg14.unread p14) (harg14.unread p14) [] p14 (harg14.read_unread (Val := Elt Ideal) p14) (harg14.read_unread (Val := Elt Ideal) p14))
  refine (stack_read arg14 (fun _ => True) _ _ _ (fun (k : Fin 8) (y : S1x2048x128.Idx) => if (y 1).val < (fun _ => 2048) k then ∑ j : Fin 256, prS x4 (rawS x0 x1) (y 1) (ch k j) * x3 (ix2 (ch k j) (y 2)) else 0) (fun f _ => hb f) (fun k L X hX f hf => pieceV_read arg7 arg8 x3 x4 k 2048 (Nat.le_refl _) (scB (F := Ideal) arg4 arg5 x0 x1 k) (rawS x0 x1) (scB_apply arg4 arg5 x0 x1 k) arg14 f _ L X (hX f hf) (hX _ trivial)) last7 f trivial).trans ?_
  funext y
  rw [add_assoc]
  exact congrArg (fun e : EReal => p14 y + e) ((sum_last7 (fun k => (fun (k : Fin 8) (y : S1x2048x128.Idx) => if (y 1).val < (fun _ => 2048) k then ∑ j : Fin 256, prS x4 (rawS x0 x1) (y 1) (ch k j) * x3 (ix2 (ch k j) (y 2)) else 0) k y)).trans (collapseV x3 x4 (rawS x0 x1) (fun _ => 2048) (fun _ r _ h => absurd r.isLt (by omega)) y))

theorem runC_K_value (h1 : ¬(k0_cond1 i = 1#1)) (h2 : ¬(k0_cond2 (word0 (F := Ideal) i T0) (word1 (F := Ideal) i T1) = 1#1)) (h3 : ¬(k0_cond3 (word0 (F := Ideal) i T0) (word1 (F := Ideal) i T1) = 1#1)) (h4 : k0_cond4 (word0 (F := Ideal) i T0) (word1 (F := Ideal) i T1) = 1#1) (f : arg13.view.ty.Contents (Elt Ideal)) :
    arg13.view.read (Elt Ideal) (arg13.view.writes (Elt Ideal) f (runC (F := Ideal) arg4 harg4 arg5 harg5 arg6 harg6 arg7 harg7 arg8 harg8 arg9 harg9 arg10 harg10 arg11 harg11 arg12 harg12 arg13 harg13 arg14 harg14 c i T0 T1 x0 x1 x2 x3 x4 x5 x6 x7 p12 p13 p14 hchk h1 h2 h3 h4).2.1)
      = fun y => (p13 y + sumK x0 x2 x3 x4 x5 (rawS x0 x1) y : EReal) := by
  rw [runC_K]
  have hb : ∀ f, arg13.view.read (Elt Ideal) (arg13.view.writes (Elt Ideal) f [pieceK (F := Ideal) arg4 arg6 arg7 arg8 arg9 x0 x2 x3 x4 x5 arg13 (harg13.unread p13) 0 2048 (Nat.le_refl _) (scB (F := Ideal) arg4 arg5 x0 x1 0) []]) = (fun y => p13 y + (fun (k : Fin 8) (y : S1x2048x256.Idx) => if (y 1).val < (fun _ => 2048) k then ∑ j : Fin 256, dsS x2 x3 x4 x5 (rawS x0 x1) (y 1) (ch k j) * x0 (ix3 0 (ch k j) (y 2)) else 0) 0 y) := fun f =>
    (fullK arg4 arg6 arg7 arg8 arg9 x0 x2 x3 x4 x5 arg13 (harg13.unread p13) 0 (scB (F := Ideal) arg4 arg5 x0 x1 0) [] f (harg13.unread p13)).trans (pieceK_read arg4 arg6 arg7 arg8 arg9 x0 x2 x3 x4 x5 0 2048 (Nat.le_refl _) (scB (F := Ideal) arg4 arg5 x0 x1 0) (rawS x0 x1) (scB_apply arg4 arg5 x0 x1 0) arg13 (harg13.unread p13) (harg13.unread p13) [] p13 (harg13.read_unread (Val := Elt Ideal) p13) (harg13.read_unread (Val := Elt Ideal) p13))
  refine (stack_read arg13 (fun _ => True) _ _ _ (fun (k : Fin 8) (y : S1x2048x256.Idx) => if (y 1).val < (fun _ => 2048) k then ∑ j : Fin 256, dsS x2 x3 x4 x5 (rawS x0 x1) (y 1) (ch k j) * x0 (ix3 0 (ch k j) (y 2)) else 0) (fun f _ => hb f) (fun k L X hX f hf => pieceK_read arg4 arg6 arg7 arg8 arg9 x0 x2 x3 x4 x5 k 2048 (Nat.le_refl _) (scB (F := Ideal) arg4 arg5 x0 x1 k) (rawS x0 x1) (scB_apply arg4 arg5 x0 x1 k) arg13 f _ L X (hX f hf) (hX _ trivial)) last7 f trivial).trans ?_
  funext y
  rw [add_assoc]
  exact congrArg (fun e : EReal => p13 y + e) ((sum_last7 (fun k => (fun (k : Fin 8) (y : S1x2048x256.Idx) => if (y 1).val < (fun _ => 2048) k then ∑ j : Fin 256, dsS x2 x3 x4 x5 (rawS x0 x1) (y 1) (ch k j) * x0 (ix3 0 (ch k j) (y 2)) else 0) k y)).trans (collapseK x0 x2 x3 x4 x5 (rawS x0 x1) (fun _ => 2048) (fun _ r _ h => absurd r.isLt (by omega)) y))

theorem runC_Q_value (hw : (word0 (F := Ideal) i T0).toNat ≤ 3) (h1 : ¬(k0_cond1 i = 1#1)) (h2 : ¬(k0_cond2 (word0 (F := Ideal) i T0) (word1 (F := Ideal) i T1) = 1#1)) (h3 : ¬(k0_cond3 (word0 (F := Ideal) i T0) (word1 (F := Ideal) i T1) = 1#1)) (h4 : k0_cond4 (word0 (F := Ideal) i T0) (word1 (F := Ideal) i T1) = 1#1) :
    arg12.view.read (Elt Ideal) (arg12.view.writes (Elt Ideal) (harg12.unread p12) (runC (F := Ideal) arg4 harg4 arg5 harg5 arg6 harg6 arg7 harg7 arg8 harg8 arg9 harg9 arg10 harg10 arg11 harg11 arg12 harg12 arg13 harg13 arg14 harg14 c i T0 T1 x0 x1 x2 x3 x4 x5 x6 x7 p12 p13 p14 hchk h1 h2 h3 h4).1)
      = fun y => (p12 y + sumQ x1 x2 x3 x4 x5 (rawS x0 x1) (word0 (F := Ideal) i T0).toNat y : EReal) := by
  rw [runC_Q (F := Ideal) arg4 harg4 arg5 harg5 arg6 harg6 arg7 harg7 arg8 harg8 arg9 harg9 arg10 harg10 arg11 harg11 arg12 harg12 arg13 harg13 arg14 harg14 c i T0 T1 x0 x1 x2 x3 x4 x5 x6 x7 p12 p13 p14 hchk (inQ_of _ hw)]
  refine (stack_read arg12 (fun f => f = harg12.unread p12) _ [] p12 (fun (k : Fin 8) (y : S1x8192x256.Idx) => if h : 2048 * (word0 (F := Ideal) i T0).toNat + 256 * k.val ≤ (y 1).val ∧ (y 1).val < 2048 * (word0 (F := Ideal) i T0).toNat + 256 * k.val + 256 then ∑ r : Fin ((fun _ => 2048) k), dsS x2 x3 x4 x5 (rawS x0 x1) (up ((fun _ => Nat.le_refl _) k) r) (ch k ⟨(y 1).val - (2048 * (word0 (F := Ideal) i T0).toNat + 256 * k.val), by omega⟩) * x1 (ix3 0 (up ((fun _ => Nat.le_refl _) k) r) (y 2)) else 0) (fun f hf => by subst hf; exact harg12.read_unread (Val := Elt Ideal) p12) (fun k L X hX f hf => pieceQ_read arg5 arg6 arg7 arg8 arg9 x1 x2 x3 x4 x5 k 2048 (Nat.le_refl _) (scB (F := Ideal) arg4 arg5 x0 x1 k) (rawS x0 x1) (scB_apply arg4 arg5 x0 x1 k) arg12 f _ L X (hX f hf) (hX _ rfl) _ (inQ_of _ hw k) _ (offQ_eq _ hw k)) all8 _ rfl).trans ?_
  funext y
  refine congrArg (p12 y + ·) ?_
  rw [sum_all8]
  exact collapseQ x1 x2 x3 x4 x5 (rawS x0 x1) (fun _ => 2048) (fun _ => Nat.le_refl _) (fun _ r _ h => absurd r.isLt (by omega)) (word0 (F := Ideal) i T0).toNat y

end

end Cert.Kernel2Ideal.Attn

end
-- ==== Proof.AttnStepValue.lean ====
/-
  What every grid point adds to the three accumulators, in terms of the whole arrays: a block of queries' share of the keys'
  and the values' gradients, and a block of keys' share of the queries' gradient.
-/
module

public import proofs.«01_k».proof.Proof.AttnIdx
public import proofs.«01_k».proof.Proof.AttnRunValue

@[expose] public section

set_option maxRecDepth 16384
set_option Elab.async false

noncomputable section

namespace Cert.Kernel2Ideal.Attn

open Cert.Kernel2Ideal Cert.Kernel2Ideal.Gen
open Idealize.ShloMosaic Idealize.ShloMosaic.ValueIdx
open Idealize.ShloMosaic.TcCoe Idealize.ShloMosaic.Tactic
open scoped BigOperators

variable (V : Dev nD → Valuation τ sig (Elt Ideal)) (c : Dev nD)

/-- A key is seen by a query. -/
def Seen (R Q : Fin 8192) : Prop := IntOp.cmpi .sge (aPQ V c (ix2 0 Q)) (aPK V c (ix2 R 0)) = 1
/-- The score of a key and a query, that score where the query sees the key, its weight, and its gradient. -/
def dot (h : Fin 8) (R Q : Fin 8192) : EReal := ∑ d : Fin 256, aK V c (ix3 h R d) * aQ V c (ix3 h Q d)
open Classical in
def score (h : Fin 8) (R Q : Fin 8192) : EReal := if Seen V c R Q then dot V c h R Q else ⊥
def weight (h : Fin 8) (R Q : Fin 8192) : EReal := Ideal.exp2 (score V c h R Q - aL V c (ix3 h 0 Q))
def slope (h : Fin 8) (R Q : Fin 8192) : EReal := weight V c h R Q * ((∑ d : Fin 128, aV V c (ix3 h R d) * aG V c (ix2 Q (colOf h d))) - aD V c (ix3 h 0 Q))

/-- The positions grow along the sequence: a query sees the keys up to its own row, and no later one. -/
structure Grows : Prop where
  later : ∀ R Q : Fin 8192, Q.val < R.val → ¬ Seen V c R Q
  upTo : ∀ R Q : Fin 8192, R.val ≤ Q.val → Seen V c R Q

/-- A block of queries' share of a key's two gradients, a block of keys' share of a query's. -/
def shareV (h : Fin 8) (q : Fin 4) (R : Fin 8192) (d : Fin 128) : EReal := ∑ j : Fin 2048, weight V c h R (rowOf q j) * aG V c (ix2 (rowOf q j) (colOf h d))
def shareK (h : Fin 8) (q : Fin 4) (R : Fin 8192) (d : Fin 256) : EReal := ∑ j : Fin 2048, slope V c h R (rowOf q j) * aQ V c (ix3 h (rowOf q j) d)
def shareQ (h : Fin 8) (k : Fin 4) (Q : Fin 8192) (d : Fin 256) : EReal := ∑ r : Fin 2048, slope V c h (rowOf k r) Q * aK V c (ix3 h (rowOf k r) d)

section
variable (t : Fin (cfgA (F := Ideal)).N)

theorem dot_block (r j : Fin 2048) : rawS (bQ V c t) (bK V c t) r j = dot V c (hd t) (kRow t.val r) (qRow t.val j) := by
  unfold rawS dot
  exact Finset.sum_congr rfl fun d _ => by rw [blk0, blk1]
theorem score_block (r j : Fin 2048) : mskS (bQ V c t) (bK V c t) (bPK V c t) (bPQ V c t) r j = score V c (hd t) (kRow t.val r) (qRow t.val j) := by
  unfold mskS score Seen
  rw [blk6, blk7, dot_block]
  split <;> rfl
theorem score_full (g : Grows V c) (hlt : (kAt t.val).val < (qAt t.val).val) (r j : Fin 2048) :
    rawS (bQ V c t) (bK V c t) r j = score V c (hd t) (kRow t.val r) (qRow t.val j) := by
  unfold score
  rw [if_pos, dot_block]
  refine g.upTo _ _ ?_
  have := r.isLt
  show 2048 * (kAt t.val).val + r.val ≤ 2048 * (qAt t.val).val + j.val
  omega
theorem diag (g : Grows V c) (he : kAt t.val = qAt t.val) (r j : Fin 2048) (hjr : j.val < r.val) : ¬ IntOp.cmpi .sge (bPQ V c t (ix2 0 j)) (bPK V c t (ix2 r 0)) = 1 := by
  rw [blk6, blk7]
  refine g.later _ _ ?_
  show 2048 * (qAt t.val).val + j.val < 2048 * (kAt t.val).val + r.val
  rw [he]; omega

variable (s : Fin 2048 → Fin 2048 → EReal) (hs : ∀ r j, s r j = score V c (hd t) (kRow t.val r) (qRow t.val j))
include hs

theorem weight_block (r j : Fin 2048) : prS (bL V c t) s r j = weight V c (hd t) (kRow t.val r) (qRow t.val j) := by
  unfold prS weight
  rw [hs, blk4]
theorem slope_block (r j : Fin 2048) : dsS (bV V c t) (bG V c t) (bL V c t) (bD V c t) s r j = slope V c (hd t) (kRow t.val r) (qRow t.val j) := by
  unfold dsS slope
  rw [weight_block V c t s hs, blk5]
  refine congrArg (fun e : EReal => weight V c (hd t) (kRow t.val r) (qRow t.val j) * (e - aD V c (ix3 (hd t) 0 (qRow t.val j)))) ?_
  exact Finset.sum_congr rfl fun d _ => by rw [blk2, blk3]
theorem shareV_block (r : Fin 2048) (d : Fin 128) : sumV (bG V c t) (bL V c t) s (ix3 0 r d) = shareV V c (hd t) (qAt t.val) (kRow t.val r) d := by
  unfold sumV shareV
  refine Finset.sum_congr rfl fun j _ => ?_
  show prS (bL V c t) s r j * bG V c t (ix2 j d) = _
  rw [weight_block V c t s hs, blk3]
theorem shareK_block (r : Fin 2048) (d : Fin 256) : sumK (bQ V c t) (bV V c t) (bG V c t) (bL V c t) (bD V c t) s (ix3 0 r d) = shareK V c (hd t) (qAt t.val) (kRow t.val r) d := by
  unfold sumK shareK
  refine Finset.sum_congr rfl fun j _ => ?_
  show dsS (bV V c t) (bG V c t) (bL V c t) (bD V c t) s r j * bQ V c t (ix3 0 j d) = _
  rw [slope_block V c t s hs, blk0]
theorem shareQ_block (Q : Fin 8192) (d : Fin 256) : sumQ (bK V c t) (bV V c t) (bG V c t) (bL V c t) (bD V c t) s (qAt t.val).val (ix3 0 Q d)
    = if Q.val / 2048 = (qAt t.val).val then shareQ V c (hd t) (kAt t.val) Q d else 0 := by
  unfold sumQ
  show (if h : 2048 * (qAt t.val).val ≤ Q.val ∧ Q.val < 2048 * (qAt t.val).val + 2048 then ∑ r : Fin 2048, dsS (bV V c t) (bG V c t) (bL V c t) (bD V c t) s r ⟨Q.val - 2048 * (qAt t.val).val, by omega⟩ * bK V c t (ix3 0 r d) else 0) = _
  by_cases h : 2048 * (qAt t.val).val ≤ Q.val ∧ Q.val < 2048 * (qAt t.val).val + 2048
  · rw [dif_pos h, if_pos (by omega)]
    unfold shareQ
    refine Finset.sum_congr rfl fun r _ => ?_
    rw [slope_block V c t s hs, blk1]
    have e : qRow t.val (⟨Q.val - 2048 * (qAt t.val).val, by omega⟩ : Fin 2048) = Q := Fin.ext (by show 2048 * (qAt t.val).val + (Q.val - 2048 * (qAt t.val).val) = Q.val; omega)
    rw [e]
  · rw [dif_neg h, if_neg (by omega)]
end

/-- The blocks of a pair agree exactly where a block of keys opens. -/
theorem diag_iff (t : Fin (cfgA (F := Ideal)).N) : PB (F := Ideal) t ↔ kAt t.val = qAt t.val :=
  (newBlock_iff (F := Ideal) t).symm.trans (kq_le t.val (point_lt t)).2
theorem below (t : Fin (cfgA (F := Ideal)).N) (h : ¬ PB (F := Ideal) t) : (kAt t.val).val < (qAt t.val).val := by
  have h1 := (kq_le t.val (point_lt t)).1
  have h2 := fun e => h ((diag_iff t).2 e)
  exact lt_of_le_of_ne h1 fun e => h2 (Fin.ext e)

theorem stepV (g : Grows V c) (t : Fin (cfgA (F := Ideal)).N) (p : Acc Ideal) (r : Fin 2048) (d : Fin 128) :
    (step (F := Ideal) V c t p).2.2 (ix3 0 r d) = ((if newBlock t.val then 0 else p.2.2 (ix3 0 r d)) + shareV V c (hd t) (qAt t.val) (kRow t.val r) d : EReal) := by
  by_cases qa : PA (F := Ideal) t
  · have qb := pb_of_pa (F := Ideal) t qa
    rw [step_A (F := Ideal) V c t p qa, if_pos ((newBlock_iff (F := Ideal) t).2 qb)]
    have e := congrFun (runA_V_value (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) (ms6 (F := Ideal) t) (hs6 (F := Ideal) t) (ms7 (F := Ideal) t) (hs7 (F := Ideal) t) (ms8 (F := Ideal) t) (hs8 (F := Ideal) t) (ms9 (F := Ideal) t) (hs9 (F := Ideal) t) (ms10 (F := Ideal) t) (hs10 (F := Ideal) t) c (crd (F := Ideal) t) (tabQ (F := Ideal)) (tabK (F := Ideal)) (bQ V c t) (bK V c t) (bV V c t) (bG V c t) (bL V c t) (bD V c t) (bPK V c t) (bPQ V c t) (chk (F := Ideal) t) (diag V c t g ((diag_iff t).1 qb)) qa qb (c3 (F := Ideal) t qb) (c4 (F := Ideal) t qb) ((hs10 (F := Ideal) t).unread p.2.2)) (ix3 0 r d)
    exact e.trans (congrArg (fun z : EReal => 0 + z) (shareV_block V c t _ (score_block V c t) r d))
  by_cases qb : PB (F := Ideal) t
  · rw [step_B (F := Ideal) V c t p qa qb, if_pos ((newBlock_iff (F := Ideal) t).2 qb)]
    have e := congrFun (runB_V_value (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) (ms6 (F := Ideal) t) (hs6 (F := Ideal) t) (ms7 (F := Ideal) t) (hs7 (F := Ideal) t) (ms8 (F := Ideal) t) (hs8 (F := Ideal) t) (ms9 (F := Ideal) t) (hs9 (F := Ideal) t) (ms10 (F := Ideal) t) (hs10 (F := Ideal) t) c (crd (F := Ideal) t) (tabQ (F := Ideal)) (tabK (F := Ideal)) (bQ V c t) (bK V c t) (bV V c t) (bG V c t) (bL V c t) (bD V c t) (bPK V c t) (bPQ V c t) p.1 (chk (F := Ideal) t) (diag V c t g ((diag_iff t).1 qb)) qa qb (c3 (F := Ideal) t qb) (c4 (F := Ideal) t qb) ((hs10 (F := Ideal) t).unread p.2.2)) (ix3 0 r d)
    exact e.trans (congrArg (fun z : EReal => 0 + z) (shareV_block V c t _ (score_block V c t) r d))
  · rw [step_C (F := Ideal) V c t p qb, if_neg (fun h => qb ((newBlock_iff (F := Ideal) t).1 h))]
    have e := congrFun (runC_V_value (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) (ms6 (F := Ideal) t) (hs6 (F := Ideal) t) (ms7 (F := Ideal) t) (hs7 (F := Ideal) t) (ms8 (F := Ideal) t) (hs8 (F := Ideal) t) (ms9 (F := Ideal) t) (hs9 (F := Ideal) t) (ms10 (F := Ideal) t) (hs10 (F := Ideal) t) c (crd (F := Ideal) t) (tabQ (F := Ideal)) (tabK (F := Ideal)) (bQ V c t) (bK V c t) (bV V c t) (bG V c t) (bL V c t) (bD V c t) (bPK V c t) (bPQ V c t) p.1 p.2.1 p.2.2 (chk (F := Ideal) t) (fun h => qb (pb_of_pa (F := Ideal) t h)) qb (nc3 (F := Ideal) t qb) (nc4 (F := Ideal) t qb) ((hs10 (F := Ideal) t).unread p.2.2)) (ix3 0 r d)
    exact e.trans (congrArg (fun z : EReal => p.2.2 (ix3 0 r d) + z) (shareV_block V c t _ (score_full V c t g (below t qb)) r d))

theorem stepK (g : Grows V c) (t : Fin (cfgA (F := Ideal)).N) (p : Acc Ideal) (r : Fin 2048) (d : Fin 256) :
    (step (F := Ideal) V c t p).2.1 (ix3 0 r d) = ((if newBlock t.val then 0 else p.2.1 (ix3 0 r d)) + shareK V c (hd t) (qAt t.val) (kRow t.val r) d : EReal) := by
  by_cases qa : PA (F := Ideal) t
  · have qb := pb_of_pa (F := Ideal) t qa
    rw [step_A (F := Ideal) V c t p qa, if_pos ((newBlock_iff (F := Ideal) t).2 qb)]
    have e := congrFun (runA_K_value (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) (ms6 (F := Ideal) t) (hs6 (F := Ideal) t) (ms7 (F := Ideal) t) (hs7 (F := Ideal) t) (ms8 (F := Ideal) t) (hs8 (F := Ideal) t) (ms9 (F := Ideal) t) (hs9 (F := Ideal) t) (ms10 (F := Ideal) t) (hs10 (F := Ideal) t) c (crd (F := Ideal) t) (tabQ (F := Ideal)) (tabK (F := Ideal)) (bQ V c t) (bK V c t) (bV V c t) (bG V c t) (bL V c t) (bD V c t) (bPK V c t) (bPQ V c t) (chk (F := Ideal) t) (diag V c t g ((diag_iff t).1 qb)) qa qb (c3 (F := Ideal) t qb) (c4 (F := Ideal) t qb) ((hs9 (F := Ideal) t).unread p.2.1)) (ix3 0 r d)
    exact e.trans (congrArg (fun z : EReal => 0 + z) (shareK_block V c t _ (score_block V c t) r d))
  by_cases qb : PB (F := Ideal) t
  · rw [step_B (F := Ideal) V c t p qa qb, if_pos ((newBlock_iff (F := Ideal) t).2 qb)]
    have e := congrFun (runB_K_value (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) (ms6 (F := Ideal) t) (hs6 (F := Ideal) t) (ms7 (F := Ideal) t) (hs7 (F := Ideal) t) (ms8 (F := Ideal) t) (hs8 (F := Ideal) t) (ms9 (F := Ideal) t) (hs9 (F := Ideal) t) (ms10 (F := Ideal) t) (hs10 (F := Ideal) t) c (crd (F := Ideal) t) (tabQ (F := Ideal)) (tabK (F := Ideal)) (bQ V c t) (bK V c t) (bV V c t) (bG V c t) (bL V c t) (bD V c t) (bPK V c t) (bPQ V c t) p.1 (chk (F := Ideal) t) (diag V c t g ((diag_iff t).1 qb)) qa qb (c3 (F := Ideal) t qb) (c4 (F := Ideal) t qb) ((hs9 (F := Ideal) t).unread p.2.1)) (ix3 0 r d)
    exact e.trans (congrArg (fun z : EReal => 0 + z) (shareK_block V c t _ (score_block V c t) r d))
  · rw [step_C (F := Ideal) V c t p qb, if_neg (fun h => qb ((newBlock_iff (F := Ideal) t).1 h))]
    have e := congrFun (runC_K_value (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) (ms6 (F := Ideal) t) (hs6 (F := Ideal) t) (ms7 (F := Ideal) t) (hs7 (F := Ideal) t) (ms8 (F := Ideal) t) (hs8 (F := Ideal) t) (ms9 (F := Ideal) t) (hs9 (F := Ideal) t) (ms10 (F := Ideal) t) (hs10 (F := Ideal) t) c (crd (F := Ideal) t) (tabQ (F := Ideal)) (tabK (F := Ideal)) (bQ V c t) (bK V c t) (bV V c t) (bG V c t) (bL V c t) (bD V c t) (bPK V c t) (bPQ V c t) p.1 p.2.1 p.2.2 (chk (F := Ideal) t) (fun h => qb (pb_of_pa (F := Ideal) t h)) qb (nc3 (F := Ideal) t qb) (nc4 (F := Ideal) t qb) ((hs9 (F := Ideal) t).unread p.2.1)) (ix3 0 r d)
    exact e.trans (congrArg (fun z : EReal => p.2.1 (ix3 0 r d) + z) (shareK_block V c t _ (score_full V c t g (below t qb)) r d))

theorem wordle (t : Fin (cfgA (F := Ideal)).N) : (word0 (F := Ideal) (crd (F := Ideal) t) (tabQ (F := Ideal))).toNat ≤ 3 := by
  have h := (qAt t.val).isLt
  rw [wordQ t]; omega

set_option maxHeartbeats 1600000 in
theorem stepQ (g : Grows V c) (t : Fin (cfgA (F := Ideal)).N) (p : Acc Ideal) (Q : Fin 8192) (d : Fin 256) :
    (step (F := Ideal) V c t p).1 (ix3 0 Q d) = ((if newHead t.val then 0 else p.1 (ix3 0 Q d)) + (if Q.val / 2048 = (qAt t.val).val then shareQ V c (hd t) (kAt t.val) Q d else 0) : EReal) := by
  by_cases qa : PA (F := Ideal) t
  · have qb := pb_of_pa (F := Ideal) t qa
    rw [step_A (F := Ideal) V c t p qa, if_pos ((newHead_iff (F := Ideal) t).2 qa)]
    have e := congrFun (runA_Q_value (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) (ms6 (F := Ideal) t) (hs6 (F := Ideal) t) (ms7 (F := Ideal) t) (hs7 (F := Ideal) t) (ms8 (F := Ideal) t) (hs8 (F := Ideal) t) (ms9 (F := Ideal) t) (hs9 (F := Ideal) t) (ms10 (F := Ideal) t) (hs10 (F := Ideal) t) c (crd (F := Ideal) t) (tabQ (F := Ideal)) (tabK (F := Ideal)) (bQ V c t) (bK V c t) (bV V c t) (bG V c t) (bL V c t) (bD V c t) (bPK V c t) (bPQ V c t) (chk (F := Ideal) t) (wordle t) (diag V c t g ((diag_iff t).1 qb)) qa qb (c3 (F := Ideal) t qb) (c4 (F := Ideal) t qb) ((hs8 (F := Ideal) t).unread p.1)) (ix3 0 Q d)
    rw [wordQ t] at e; exact e.trans (congrArg (fun z : EReal => 0 + z) (shareQ_block V c t _ (score_block V c t) Q d))
  by_cases qb : PB (F := Ideal) t
  · rw [step_B (F := Ideal) V c t p qa qb, if_neg (fun h => qa ((newHead_iff (F := Ideal) t).1 h))]
    have e := congrFun (runB_Q_value (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) (ms6 (F := Ideal) t) (hs6 (F := Ideal) t) (ms7 (F := Ideal) t) (hs7 (F := Ideal) t) (ms8 (F := Ideal) t) (hs8 (F := Ideal) t) (ms9 (F := Ideal) t) (hs9 (F := Ideal) t) (ms10 (F := Ideal) t) (hs10 (F := Ideal) t) c (crd (F := Ideal) t) (tabQ (F := Ideal)) (tabK (F := Ideal)) (bQ V c t) (bK V c t) (bV V c t) (bG V c t) (bL V c t) (bD V c t) (bPK V c t) (bPQ V c t) p.1 (chk (F := Ideal) t) (wordle t) (diag V c t g ((diag_iff t).1 qb)) qa qb (c3 (F := Ideal) t qb) (c4 (F := Ideal) t qb)) (ix3 0 Q d)
    rw [wordQ t] at e; exact e.trans (congrArg (fun z : EReal => p.1 (ix3 0 Q d) + z) (shareQ_block V c t _ (score_block V c t) Q d))
  · rw [step_C (F := Ideal) V c t p qb, if_neg (fun h => qa ((newHead_iff (F := Ideal) t).1 h))]
    have e := congrFun (runC_Q_value (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) (ms6 (F := Ideal) t) (hs6 (F := Ideal) t) (ms7 (F := Ideal) t) (hs7 (F := Ideal) t) (ms8 (F := Ideal) t) (hs8 (F := Ideal) t) (ms9 (F := Ideal) t) (hs9 (F := Ideal) t) (ms10 (F := Ideal) t) (hs10 (F := Ideal) t) c (crd (F := Ideal) t) (tabQ (F := Ideal)) (tabK (F := Ideal)) (bQ V c t) (bK V c t) (bV V c t) (bG V c t) (bL V c t) (bD V c t) (bPK V c t) (bPQ V c t) p.1 p.2.1 p.2.2 (chk (F := Ideal) t) (wordle t) (fun h => qb (pb_of_pa (F := Ideal) t h)) qb (nc3 (F := Ideal) t qb) (nc4 (F := Ideal) t qb)) (ix3 0 Q d)
    rw [wordQ t] at e; exact e.trans (congrArg (fun z : EReal => p.1 (ix3 0 Q d) + z) (shareQ_block V c t _ (score_full V c t g (below t qb)) Q d))

end Cert.Kernel2Ideal.Attn

end
-- ==== Proof.AttnFinal.lean ====
/-
  The three gradients the region leaves: every key's over all the queries, every query's over all the keys.
-/
module

public import proofs.«01_k».proof.Proof.AttnStepValue
public import proofs.«01_k».proof.Proof.AttnRes

@[expose] public section

set_option maxRecDepth 16384
set_option Elab.async false

noncomputable section

namespace Cert.Kernel2Ideal.Attn

open Cert.Kernel2Ideal Cert.Kernel2Ideal.Gen
open Idealize.ShloMosaic Idealize.ShloMosaic.ValueIdx
open Idealize.ShloMosaic.TcCoe Idealize.ShloMosaic.Tactic
open scoped BigOperators

variable (V : Dev nD → Valuation τ sig (Elt Ideal)) (c : Dev nD)

/-! ## What is not seen adds nothing -/

theorem weight_zero (g : Grows V c) (h : Fin 8) (R Q : Fin 8192) (hlt : Q.val < R.val) : weight V c h R Q = 0 := by
  unfold weight score
  rw [if_neg (g.later R Q hlt), EReal.bot_sub, exp2_bot]
theorem slope_zero (g : Grows V c) (h : Fin 8) (R Q : Fin 8192) (hlt : Q.val < R.val) : slope V c h R Q = 0 := by
  unfold slope; rw [weight_zero V c g h R Q hlt, zero_mul]
theorem row_lt (a b : Fin 4) (hab : a.val < b.val) (i j : Fin 2048) : (rowOf a i).val < (rowOf b j).val := by
  have := i.isLt
  show 2048 * a.val + i.val < 2048 * b.val + j.val
  omega
theorem shareV_zero (g : Grows V c) (h : Fin 8) (q k : Fin 4) (hqk : q.val < k.val) (r : Fin 2048) (d : Fin 128) : shareV V c h q (rowOf k r) d = 0 :=
  Finset.sum_eq_zero fun j _ => by rw [weight_zero V c g h _ _ (row_lt q k hqk j r), zero_mul]
theorem shareK_zero (g : Grows V c) (h : Fin 8) (q k : Fin 4) (hqk : q.val < k.val) (r : Fin 2048) (d : Fin 256) : shareK V c h q (rowOf k r) d = 0 :=
  Finset.sum_eq_zero fun j _ => by rw [slope_zero V c g h _ _ (row_lt q k hqk j r), zero_mul]
theorem shareQ_zero (g : Grows V c) (h : Fin 8) (k q : Fin 4) (hqk : q.val < k.val) (j : Fin 2048) (d : Fin 256) : shareQ V c h k (rowOf q j) d = 0 :=
  Finset.sum_eq_zero fun r _ => by rw [slope_zero V c g h _ _ (row_lt q k hqk j r), zero_mul]

/-! ## The accumulators along the points -/

theorem opens : ∀ n < 80, newBlock n = true → kAt n = qAt n := by decide +kernel
theorem goes_on : ∀ n < 79, newBlock (n + 1) = false → (qAt (n + 1)).val = (qAt n).val + 1 ∧ kAt (n + 1) = kAt n ∧ (n + 1) / 10 = n / 10 := by decide +kernel

/-- The first blocks' shares. -/
def firsts (f : Fin 4 → EReal) (q : Fin 4) : EReal := ∑ a : Fin 4, if a.val ≤ q.val then f a else 0

theorem firsts_open (f : Fin 4 → EReal) (q : Fin 4) (h : ∀ a : Fin 4, a.val < q.val → f a = 0) : firsts f q = 0 + f q := by
  unfold firsts
  rw [zero_add, Finset.sum_eq_single q]
  · rw [if_pos (le_refl _)]
  · intro a _ ha
    split
    · rename_i hle; exact h a (lt_of_le_of_ne hle fun e => ha (Fin.ext e))
    · rfl
  · intro h; exact absurd (Finset.mem_univ _) h
theorem firsts_next (f : Fin 4 → EReal) (p q : Fin 4) (h : q.val = p.val + 1) : firsts f q = firsts f p + f q := by
  have e : f q = ∑ a : Fin 4, if a = q then f a else 0 := by rw [Finset.sum_ite_eq' Finset.univ q f, if_pos (Finset.mem_univ _)]
  unfold firsts
  rw [e, ← Finset.sum_add_distrib]
  refine Finset.sum_congr rfl fun a _ => ?_
  by_cases h1 : a = q
  · rw [if_pos h1, if_pos (by rw [h1]), if_neg (by rw [h1]; omega), zero_add]
  · have h2 : a.val ≠ q.val := fun e => h1 (Fin.ext e)
    rw [if_neg h1, add_zero]
    by_cases h3 : a.val ≤ p.val
    · rw [if_pos h3, if_pos (by omega)]
    · rw [if_neg h3, if_neg (by omega)]
theorem firsts_all (f : Fin 4 → EReal) (q : Fin 4) (h : q.val = 3) : firsts f q = ∑ a : Fin 4, f a :=
  Finset.sum_congr rfl fun a _ => if_pos (by have := a.isLt; omega)

theorem add_open {P : Prop} [Decidable P] (h : P) (x s : EReal) : (if P then 0 else x) + s = 0 + s := by rw [if_pos h]
theorem add_on {P : Prop} [Decidable P] (h : ¬ P) (x s : EReal) : (if P then 0 else x) + s = x + s := by rw [if_neg h]

theorem prev_zero : prev (F := Ideal) V c ⟨0, by rw [points]; omega⟩ = acc0 (F := Ideal) := rfl
theorem prev_succ (n : ℕ) (hn : n + 1 < (cfgA (F := Ideal)).N) : prev (F := Ideal) V c ⟨n + 1, hn⟩ = traj (F := Ideal) V c n (by omega) := rfl

theorem trajV (g : Grows V c) : ∀ (n : ℕ) (hn : n < (cfgA (F := Ideal)).N) (r : Fin 2048) (d : Fin 128),
    (traj (F := Ideal) V c n hn).2.2 (ix3 0 r d) = firsts (fun q => shareV V c (hd ⟨n, hn⟩) q (kRow n r) d) (qAt n)
  | 0, hn, r, d => by
    refine (congrArg (fun z : Acc Ideal => z.2.2 (ix3 0 r d)) (traj_eq V c ⟨0, hn⟩)).trans ((stepV V c g ⟨0, hn⟩ _ r d).trans ?_)
    exact (add_open (P := newBlock 0 = true) rfl _ _).trans (firsts_open (fun q => shareV V c (hd ⟨0, hn⟩) q (kRow 0 r) d) (qAt 0) fun a ha => absurd ha (Nat.not_lt_zero _)).symm
  | n + 1, hn, r, d => by
    refine (congrArg (fun z : Acc Ideal => z.2.2 (ix3 0 r d)) (traj_eq V c ⟨n + 1, hn⟩)).trans ((stepV V c g ⟨n + 1, hn⟩ _ r d).trans ?_)
    have hN : n + 1 < 80 := lt_of_lt_of_eq hn (points (F := Ideal))
    by_cases hb : newBlock (n + 1) = true
    · refine (add_open (P := newBlock (n + 1) = true) hb _ _).trans (firsts_open (fun q => shareV V c (hd ⟨n + 1, hn⟩) q (kRow (n + 1) r) d) (qAt (n + 1)) fun a ha => ?_).symm
      exact shareV_zero V c g _ _ _ (by rw [opens (n + 1) hN hb]; exact ha) r d
    · have ih := trajV g n (Nat.lt_of_succ_lt hn) r d
      obtain ⟨e1, e2, e3⟩ := goes_on n (by omega) (Bool.not_eq_true _ ▸ hb)
      have e4 : hd ⟨n, Nat.lt_of_succ_lt hn⟩ = hd ⟨n + 1, hn⟩ := Fin.ext e3.symm
      have e5 : kRow n r = kRow (n + 1) r := congrArg (fun b => rowOf b r) e2.symm
      rw [e4, e5] at ih
      refine (add_on (P := newBlock (n + 1) = true) hb _ _).trans ?_
      exact (congrArg (fun z : EReal => z + shareV V c (hd ⟨n + 1, hn⟩) (qAt (n + 1)) (kRow (n + 1) r) d) ih).trans (firsts_next (fun q => shareV V c (hd ⟨n + 1, hn⟩) q (kRow (n + 1) r) d) _ _ e1).symm

theorem trajK (g : Grows V c) : ∀ (n : ℕ) (hn : n < (cfgA (F := Ideal)).N) (r : Fin 2048) (d : Fin 256),
    (traj (F := Ideal) V c n hn).2.1 (ix3 0 r d) = firsts (fun q => shareK V c (hd ⟨n, hn⟩) q (kRow n r) d) (qAt n)
  | 0, hn, r, d => by
    refine (congrArg (fun z : Acc Ideal => z.2.1 (ix3 0 r d)) (traj_eq V c ⟨0, hn⟩)).trans ((stepK V c g ⟨0, hn⟩ _ r d).trans ?_)
    exact (add_open (P := newBlock 0 = true) rfl _ _).trans (firsts_open (fun q => shareK V c (hd ⟨0, hn⟩) q (kRow 0 r) d) (qAt 0) fun a ha => absurd ha (Nat.not_lt_zero _)).symm
  | n + 1, hn, r, d => by
    refine (congrArg (fun z : Acc Ideal => z.2.1 (ix3 0 r d)) (traj_eq V c ⟨n + 1, hn⟩)).trans ((stepK V c g ⟨n + 1, hn⟩ _ r d).trans ?_)
    have hN : n + 1 < 80 := lt_of_lt_of_eq hn (points (F := Ideal))
    by_cases hb : newBlock (n + 1) = true
    · refine (add_open (P := newBlock (n + 1) = true) hb _ _).trans (firsts_open (fun q => shareK V c (hd ⟨n + 1, hn⟩) q (kRow (n + 1) r) d) (qAt (n + 1)) fun a ha => ?_).symm
      exact shareK_zero V c g _ _ _ (by rw [opens (n + 1) hN hb]; exact ha) r d
    · have ih := trajK g n (Nat.lt_of_succ_lt hn) r d
      obtain ⟨e1, e2, e3⟩ := goes_on n (by omega) (Bool.not_eq_true _ ▸ hb)
      have e4 : hd ⟨n, Nat.lt_of_succ_lt hn⟩ = hd ⟨n + 1, hn⟩ := Fin.ext e3.symm
      have e5 : kRow n r = kRow (n + 1) r := congrArg (fun b => rowOf b r) e2.symm
      rw [e4, e5] at ih
      refine (add_on (P := newBlock (n + 1) = true) hb _ _).trans ?_
      exact (congrArg (fun z : EReal => z + shareK V c (hd ⟨n + 1, hn⟩) (qAt (n + 1)) (kRow (n + 1) r) d) ih).trans (firsts_next (fun q => shareK V c (hd ⟨n + 1, hn⟩) q (kRow (n + 1) r) d) _ _ e1).symm

theorem head_opens : ∀ n < 80, newHead n = true → n % 10 = 0 := by decide +kernel
theorem head_goes_on : ∀ n < 79, newHead (n + 1) = false → (n + 1) % 10 = n % 10 + 1 ∧ (n + 1) / 10 = n / 10 := by decide +kernel
theorem periodic : ∀ n < 80, qAt (n % 10) = qAt n ∧ kAt (n % 10) = kAt n := by decide +kernel

theorem trajQ (g : Grows V c) : ∀ (n : ℕ) (hn : n < (cfgA (F := Ideal)).N) (Q : Fin 8192) (d : Fin 256),
    (traj (F := Ideal) V c n hn).1 (ix3 0 Q d)
      = ∑ s ∈ Finset.range (n % 10 + 1), (if Q.val / 2048 = (qAt s).val then shareQ V c (hd ⟨n, hn⟩) (kAt s) Q d else 0 : EReal)
  | 0, hn, Q, d => by
    refine (congrArg (fun z : Acc Ideal => z.1 (ix3 0 Q d)) (traj_eq V c ⟨0, hn⟩)).trans ((stepQ V c g ⟨0, hn⟩ _ Q d).trans ?_)
    exact (add_open (P := newHead 0 = true) rfl _ _).trans ((zero_add _).trans (Finset.sum_range_one (fun s => (if Q.val / 2048 = (qAt s).val then shareQ V c (hd ⟨0, hn⟩) (kAt s) Q d else 0 : EReal))).symm)
  | n + 1, hn, Q, d => by
    refine (congrArg (fun z : Acc Ideal => z.1 (ix3 0 Q d)) (traj_eq V c ⟨n + 1, hn⟩)).trans ((stepQ V c g ⟨n + 1, hn⟩ _ Q d).trans ?_)
    have hN : n + 1 < 80 := lt_of_lt_of_eq hn (points (F := Ideal))
    obtain ⟨p1, p2⟩ := periodic (n + 1) hN
    rw [Finset.sum_range_succ, p1, p2]
    by_cases hb : newHead (n + 1) = true
    · rw [head_opens (n + 1) hN hb]
      exact add_open (P := newHead (n + 1) = true) hb _ _
    · have ih := trajQ g n (Nat.lt_of_succ_lt hn) Q d
      obtain ⟨e1, e3⟩ := head_goes_on n (by omega) (Bool.not_eq_true _ ▸ hb)
      have e4 : hd ⟨n, Nat.lt_of_succ_lt hn⟩ = hd ⟨n + 1, hn⟩ := Fin.ext e3.symm
      rw [e4] at ih
      rw [e1]
      refine (add_on (P := newHead (n + 1) = true) hb _ _).trans ?_
      exact congrArg (fun z : EReal => z + (if Q.val / 2048 = (qAt (n + 1)).val then shareQ V c (hd ⟨n + 1, hn⟩) (kAt (n + 1)) Q d else 0)) ih

/-! ## The whole gradients -/

def gradV (i : S8x8192x128.Idx) : EReal := ∑ Q : Fin 8192, weight V c (i 0) (i 1) Q * aG V c (ix2 Q (colOf (i 0) (i 2)))
def gradK (i : S8x8192x256.Idx) : EReal := ∑ Q : Fin 8192, slope V c (i 0) (i 1) Q * aQ V c (ix3 (i 0) Q (i 2))
def gradQ (i : S8x8192x256.Idx) : EReal := ∑ R : Fin 8192, slope V c (i 0) R (i 1) * aK V c (ix3 (i 0) R (i 2))

theorem sum_blocks (f : Fin 8192 → EReal) : ∑ a : Fin 4, ∑ j : Fin 2048, f (rowOf a j) = ∑ R : Fin 8192, f R := by
  rw [← Finset.sum_product']
  refine Finset.sum_nbij' (fun x : Fin 4 × Fin 2048 => rowOf x.1 x.2)
    (fun r : Fin 8192 => ((⟨r.val / 2048, by omega⟩ : Fin 4), (⟨r.val % 2048, by omega⟩ : Fin 2048))) (by simp) (by simp) ?_ ?_ (fun _ _ => rfl)
  · rintro ⟨x, y⟩ _
    have hy := y.isLt
    refine Prod.ext (Fin.ext ?_) (Fin.ext ?_)
    · show (2048 * x.val + y.val) / 2048 = x.val
      omega
    · show (2048 * x.val + y.val) % 2048 = y.val
      omega
  · intro r _
    refine Fin.ext ?_
    show 2048 * (r.val / 2048) + r.val % 2048 = r.val
    omega

/-- The ten pairs of a head bring every query the keys' blocks up to its own. -/
theorem sum_steps (f : Fin 4 → EReal) (q : Fin 4) (h : ∀ k : Fin 4, q.val < k.val → f k = 0) :
    ∑ s ∈ Finset.range (9 + 1), (if q.val = (qAt s).val then f (kAt s) else 0 : EReal) = ∑ k : Fin 4, f k := by
  simp only [Finset.sum_range_succ, Finset.sum_range_zero, Fin.sum_univ_four]
  show 0 + (if q.val = 0 then f 0 else 0) + (if q.val = 1 then f 0 else 0) + (if q.val = 2 then f 0 else 0) + (if q.val = 3 then f 0 else 0)
    + (if q.val = 1 then f 1 else 0) + (if q.val = 2 then f 1 else 0) + (if q.val = 3 then f 1 else 0) + (if q.val = 2 then f 2 else 0)
    + (if q.val = 3 then f 2 else 0) + (if q.val = 3 then f 3 else 0) = _
  match q, h with
  | ⟨0, _⟩, h => have h1 := h 1 Nat.zero_lt_one; have h2 := h 2 (by show (0 : ℕ) < 2; omega); have h3 := h 3 (by show (0 : ℕ) < 3; omega); simp [h1, h2, h3]
  | ⟨1, _⟩, h => have h2 := h 2 (by show (1 : ℕ) < 2; omega); have h3 := h 3 (by show (1 : ℕ) < 3; omega); simp [h2, h3]
  | ⟨2, _⟩, h => have h3 := h 3 (by show (2 : ℕ) < 3; omega); simp [h3]
  | ⟨3, _⟩, h => simp

theorem flush8 (t : Fin (cfgA (F := Ideal)).N) : ((cfgA (F := Ideal)).win (8 : Fin 11)).flush t = newHead (t.val + 1) := by
  rw [new8 (F := Ideal) t, idle8 (F := Ideal) t, Bool.false_and, Bool.or_false]
theorem flush9 (t : Fin (cfgA (F := Ideal)).N) : ((cfgA (F := Ideal)).win (9 : Fin 11)).flush t = newBlock (t.val + 1) := by
  rw [new9 (F := Ideal) t, idle9 (F := Ideal) t, Bool.false_and, Bool.or_false]
theorem flush10 (t : Fin (cfgA (F := Ideal)).N) : ((cfgA (F := Ideal)).win (10 : Fin 11)).flush t = newBlock (t.val + 1) := by
  rw [new10 (F := Ideal) t, idle10 (F := Ideal) t, Bool.false_and, Bool.or_false]

theorem last_q : ∀ n < 80, newBlock (n + 1) = true → (qAt n).val = 3 := by decide +kernel
theorem last_step : ∀ n < 80, newHead (n + 1) = true → n % 10 = 9 := by decide +kernel

/-- The point at which a block of keys of a head is done. -/
def doneK (h : Fin 8) (k : Fin 4) : ℕ := 10 * h.val + (match k with | 0 => 3 | 1 => 6 | 2 => 8 | 3 => 9)
theorem doneK_facts : ∀ (h : Fin 8) (k : Fin 4), doneK h k < 80 ∧ newBlock (doneK h k + 1) = true ∧ doneK h k / 10 = h.val ∧ kAt (doneK h k) = k := by decide +kernel

theorem mem_blk8 (t : Fin (cfgA (F := Ideal)).N) (i : S8x8192x256.Idx) (h : t.val / 10 = (i 0).val) : i ∈ (((cfgA (F := Ideal)).win (8 : Fin 11)).blk t).view.set := by
  show i ∈ ((View.whole main_v42_0).slice (((cfgA (F := Ideal)).win (8 : Fin 11)).rect t)).set
  rw [View.set_slice_whole, Rect.mem_set_unit]
  have h1 : (i 1 : Nat) < 8192 := (i 1).isLt
  have h2 : (i 2 : Nat) < 256 := (i 2).isLt
  have hi := idx8 (F := Ideal) t
  intro a
  match a with
  | ⟨0, _⟩ => show ((cfgA (F := Ideal)).win (8 : Fin 11)).index t 0 * 1 ≤ (i 0 : Nat) ∧ (i 0 : Nat) < ((cfgA (F := Ideal)).win (8 : Fin 11)).index t 0 * 1 + 1
              rw [hi.1]; omega
  | ⟨1, _⟩ => show ((cfgA (F := Ideal)).win (8 : Fin 11)).index t 1 * 8192 ≤ (i 1 : Nat) ∧ (i 1 : Nat) < ((cfgA (F := Ideal)).win (8 : Fin 11)).index t 1 * 8192 + 8192
              rw [hi.2.1]; omega
  | ⟨2, _⟩ => show ((cfgA (F := Ideal)).win (8 : Fin 11)).index t 2 * 256 ≤ (i 2 : Nat) ∧ (i 2 : Nat) < ((cfgA (F := Ideal)).win (8 : Fin 11)).index t 2 * 256 + 256
              rw [hi.2.2]; omega
theorem mem_blk9 (t : Fin (cfgA (F := Ideal)).N) (i : S8x8192x256.Idx) (h : t.val / 10 = (i 0).val) (hk : (kAt t.val).val = (i 1).val / 2048) : i ∈ (((cfgA (F := Ideal)).win (9 : Fin 11)).blk t).view.set := by
  show i ∈ ((View.whole main_v42_1).slice (((cfgA (F := Ideal)).win (9 : Fin 11)).rect t)).set
  rw [View.set_slice_whole, Rect.mem_set_unit]
  have h2 : (i 2 : Nat) < 256 := (i 2).isLt
  have hi := idx9 (F := Ideal) t
  intro a
  match a with
  | ⟨0, _⟩ => show ((cfgA (F := Ideal)).win (9 : Fin 11)).index t 0 * 1 ≤ (i 0 : Nat) ∧ (i 0 : Nat) < ((cfgA (F := Ideal)).win (9 : Fin 11)).index t 0 * 1 + 1
              rw [hi.1]; omega
  | ⟨1, _⟩ => show ((cfgA (F := Ideal)).win (9 : Fin 11)).index t 1 * 2048 ≤ (i 1 : Nat) ∧ (i 1 : Nat) < ((cfgA (F := Ideal)).win (9 : Fin 11)).index t 1 * 2048 + 2048
              rw [hi.2.1, hk]; omega
  | ⟨2, _⟩ => show ((cfgA (F := Ideal)).win (9 : Fin 11)).index t 2 * 256 ≤ (i 2 : Nat) ∧ (i 2 : Nat) < ((cfgA (F := Ideal)).win (9 : Fin 11)).index t 2 * 256 + 256
              rw [hi.2.2]; omega
theorem mem_blk10 (t : Fin (cfgA (F := Ideal)).N) (i : S8x8192x128.Idx) (h : t.val / 10 = (i 0).val) (hk : (kAt t.val).val = (i 1).val / 2048) : i ∈ (((cfgA (F := Ideal)).win (10 : Fin 11)).blk t).view.set := by
  show i ∈ ((View.whole main_v42_2).slice (((cfgA (F := Ideal)).win (10 : Fin 11)).rect t)).set
  rw [View.set_slice_whole, Rect.mem_set_unit]
  have h2 : (i 2 : Nat) < 128 := (i 2).isLt
  have hi := idx10 (F := Ideal) t
  intro a
  match a with
  | ⟨0, _⟩ => show ((cfgA (F := Ideal)).win (10 : Fin 11)).index t 0 * 1 ≤ (i 0 : Nat) ∧ (i 0 : Nat) < ((cfgA (F := Ideal)).win (10 : Fin 11)).index t 0 * 1 + 1
              rw [hi.1]; omega
  | ⟨1, _⟩ => show ((cfgA (F := Ideal)).win (10 : Fin 11)).index t 1 * 2048 ≤ (i 1 : Nat) ∧ (i 1 : Nat) < ((cfgA (F := Ideal)).win (10 : Fin 11)).index t 1 * 2048 + 2048
              rw [hi.2.1, hk]; omega
  | ⟨2, _⟩ => show ((cfgA (F := Ideal)).win (10 : Fin 11)).index t 2 * 128 ≤ (i 2 : Nat) ∧ (i 2 : Nat) < ((cfgA (F := Ideal)).win (10 : Fin 11)).index t 2 * 128 + 128
              rw [hi.2.2]; omega

/-- Where a block's element lies in the array. -/
theorem emb8 (t : Fin (cfgA (F := Ideal)).N) (Q : Fin 8192) (d : Fin 256) : (((cfgA (F := Ideal)).win (8 : Fin 11)).blk t).view.emb (ix3 0 Q d) = (ix3 (hd t) Q d : S8x8192x256.Idx) := by
  have hi := idx8 (F := Ideal) t
  funext a
  apply Fin.ext
  match a with
  | ⟨0, _⟩ => show ((cfgA (F := Ideal)).win (8 : Fin 11)).index t 0 * 1 + 1 * 0 = t.val / 10; rw [hi.1]; omega
  | ⟨1, _⟩ => show ((cfgA (F := Ideal)).win (8 : Fin 11)).index t 1 * 8192 + 1 * Q.val = Q.val; rw [hi.2.1]; omega
  | ⟨2, _⟩ => show ((cfgA (F := Ideal)).win (8 : Fin 11)).index t 2 * 256 + 1 * d.val = d.val; rw [hi.2.2]; omega
theorem emb9 (t : Fin (cfgA (F := Ideal)).N) (r : Fin 2048) (d : Fin 256) : (((cfgA (F := Ideal)).win (9 : Fin 11)).blk t).view.emb (ix3 0 r d) = (ix3 (hd t) (kRow t.val r) d : S8x8192x256.Idx) := by
  have hi := idx9 (F := Ideal) t
  funext a
  apply Fin.ext
  match a with
  | ⟨0, _⟩ => show ((cfgA (F := Ideal)).win (9 : Fin 11)).index t 0 * 1 + 1 * 0 = t.val / 10; rw [hi.1]; omega
  | ⟨1, _⟩ => show ((cfgA (F := Ideal)).win (9 : Fin 11)).index t 1 * 2048 + 1 * r.val = 2048 * (kAt t.val).val + r.val; rw [hi.2.1]; omega
  | ⟨2, _⟩ => show ((cfgA (F := Ideal)).win (9 : Fin 11)).index t 2 * 256 + 1 * d.val = d.val; rw [hi.2.2]; omega
theorem emb10 (t : Fin (cfgA (F := Ideal)).N) (r : Fin 2048) (d : Fin 128) : (((cfgA (F := Ideal)).win (10 : Fin 11)).blk t).view.emb (ix3 0 r d) = (ix3 (hd t) (kRow t.val r) d : S8x8192x128.Idx) := by
  have hi := idx10 (F := Ideal) t
  funext a
  apply Fin.ext
  match a with
  | ⟨0, _⟩ => show ((cfgA (F := Ideal)).win (10 : Fin 11)).index t 0 * 1 + 1 * 0 = t.val / 10; rw [hi.1]; omega
  | ⟨1, _⟩ => show ((cfgA (F := Ideal)).win (10 : Fin 11)).index t 1 * 2048 + 1 * r.val = 2048 * (kAt t.val).val + r.val; rw [hi.2.1]; omega
  | ⟨2, _⟩ => show ((cfgA (F := Ideal)).win (10 : Fin 11)).index t 2 * 128 + 1 * d.val = d.val; rw [hi.2.2]; omega

theorem lead_ix {n p : ℕ} (j : (⟨3, ![1, n, p]⟩ : Shape).Idx) : j = ix3 0 (j 1) (j 2) := by
  funext a
  match a with
  | ⟨0, _⟩ => exact Fin.ext (by have : (j 0).val < 1 := (j 0).isLt; show (j 0).val = 0; omega)
  | ⟨1, _⟩ => rfl
  | ⟨2, _⟩ => rfl

theorem finalV (g : Grows V c) : (dats (F := Ideal) V 0 c).arrAt (10 : Fin 11) (cfgA (F := Ideal)).N = (gradV V c : S8x8192x128.Idx → EReal) := by
  refine (dats (F := Ideal) V 0 c).arrAt_eq_of_cover (10 : Fin 11) _ (fun t hf => ?_) fun i => ?_
  · have hl := last_q t.val (point_lt t) ((flush10 t).symm.trans hf)
    show ((traj (F := Ideal) V c t.val t.isLt).2.2 : S1x2048x128.Idx → EReal) = _
    funext j
    obtain ⟨r, d, rfl⟩ : ∃ (r : Fin 2048) (d : Fin 128), j = ix3 0 r d := ⟨j 1, j 2, lead_ix j⟩
    have key : (traj (F := Ideal) V c t.val t.isLt).2.2 (ix3 0 r d) = gradV V c (ix3 (hd t) (kRow t.val r) d) := by
      rw [trajV V c g t.val t.isLt, firsts_all _ _ hl]
      exact sum_blocks fun Q => weight V c (hd t) (kRow t.val r) Q * aG V c (ix2 Q (colOf (hd t) d))
    rw [View.read_apply]
    exact key.trans (congrArg (gradV V c) (emb10 t r d).symm)
  · have h1 : (i 1 : Nat) < 8192 := (i 1).isLt
    obtain ⟨e1, e2, e3, e4⟩ := doneK_facts (i 0) ⟨(i 1).val / 2048, by omega⟩
    refine ⟨⟨doneK (i 0) ⟨(i 1).val / 2048, by omega⟩, by rw [points]; exact e1⟩, (flush10 _).trans e2, ?_⟩
    exact mem_blk10 _ i e3 (congrArg Fin.val e4)

theorem finalK (g : Grows V c) : (dats (F := Ideal) V 0 c).arrAt (9 : Fin 11) (cfgA (F := Ideal)).N = (gradK V c : S8x8192x256.Idx → EReal) := by
  refine (dats (F := Ideal) V 0 c).arrAt_eq_of_cover (9 : Fin 11) _ (fun t hf => ?_) fun i => ?_
  · have hl := last_q t.val (point_lt t) ((flush9 t).symm.trans hf)
    show ((traj (F := Ideal) V c t.val t.isLt).2.1 : S1x2048x256.Idx → EReal) = _
    funext j
    obtain ⟨r, d, rfl⟩ : ∃ (r : Fin 2048) (d : Fin 256), j = ix3 0 r d := ⟨j 1, j 2, lead_ix j⟩
    have key : (traj (F := Ideal) V c t.val t.isLt).2.1 (ix3 0 r d) = gradK V c (ix3 (hd t) (kRow t.val r) d) := by
      rw [trajK V c g t.val t.isLt, firsts_all _ _ hl]
      exact sum_blocks fun Q => slope V c (hd t) (kRow t.val r) Q * aQ V c (ix3 (hd t) Q d)
    rw [View.read_apply]
    exact key.trans (congrArg (gradK V c) (emb9 t r d).symm)
  · have h1 : (i 1 : Nat) < 8192 := (i 1).isLt
    obtain ⟨e1, e2, e3, e4⟩ := doneK_facts (i 0) ⟨(i 1).val / 2048, by omega⟩
    refine ⟨⟨doneK (i 0) ⟨(i 1).val / 2048, by omega⟩, by rw [points]; exact e1⟩, (flush9 _).trans e2, ?_⟩
    exact mem_blk9 _ i e3 (congrArg Fin.val e4)

theorem finalQ (g : Grows V c) : (dats (F := Ideal) V 0 c).arrAt (8 : Fin 11) (cfgA (F := Ideal)).N = (gradQ V c : S8x8192x256.Idx → EReal) := by
  refine (dats (F := Ideal) V 0 c).arrAt_eq_of_cover (8 : Fin 11) _ (fun t hf => ?_) fun i => ?_
  · have hl := last_step t.val (point_lt t) ((flush8 t).symm.trans hf)
    show ((traj (F := Ideal) V c t.val t.isLt).1 : S1x8192x256.Idx → EReal) = _
    funext j
    obtain ⟨Q, d, rfl⟩ : ∃ (Q : Fin 8192) (d : Fin 256), j = ix3 0 Q d := ⟨j 1, j 2, lead_ix j⟩
    have key : (traj (F := Ideal) V c t.val t.isLt).1 (ix3 0 Q d) = gradQ V c (ix3 (hd t) Q d) := by
      rw [trajQ V c g t.val t.isLt, hl]
      refine (sum_steps (fun k => shareQ V c (hd t) k Q d) ⟨Q.val / 2048, by omega⟩ fun k hk => ?_).trans ?_
      · have e : Q = rowOf ⟨Q.val / 2048, by omega⟩ ⟨Q.val % 2048, by omega⟩ :=
          Fin.ext (by show Q.val = 2048 * (Q.val / 2048) + Q.val % 2048; omega)
        show shareQ V c (hd t) k Q d = 0
        rw [e]
        exact shareQ_zero V c g (hd t) k _ hk _ d
      · exact sum_blocks fun R => slope V c (hd t) R Q * aK V c (ix3 (hd t) R d)
    rw [View.read_apply]
    exact key.trans (congrArg (gradQ V c) (emb8 t Q d).symm)
  · have h0 : (i 0 : Nat) < 8 := (i 0).isLt
    refine ⟨⟨10 * (i 0).val + 9, by rw [points]; omega⟩, (flush8 _).trans ?_, mem_blk8 _ i (by show (10 * (i 0).val + 9) / 10 = (i 0).val; omega)⟩
    show ((10 * (i 0).val + 9 + 1) % 10 == 0) = true
    rw [beq_iff_eq]; omega

end Cert.Kernel2Ideal.Attn

end
-- ==== Proof.AttnMath.lean ====
/-
  The gradient of masked softmax attention over the real numbers, and the extended-real expressions that come to it.
-/
module

public import Idealize.ShloMosaic.Lib.ValueIdx
public import Idealize.ShloMosaic.PureOps

@[expose] public section

noncomputable section

open Idealize.ShloMosaic

namespace AttnSpec

/-- The real numbers a call works on: queries, keys, values and output gradient by head, which query sees which key,
    the scale, and for every query the largest score it sees. -/
structure Inputs where
  q : Fin 8 → Fin 8192 → Fin 256 → ℝ
  k : Fin 8 → Fin 8192 → Fin 256 → ℝ
  v : Fin 8 → Fin 8192 → Fin 128 → ℝ
  g : Fin 8 → Fin 8192 → Fin 128 → ℝ
  sees : Fin 8192 → Fin 8192 → Prop
  scale : ℝ
  top : Fin 8 → Fin 8192 → ℝ

open Classical in
instance (I : Inputs) (Q R : Fin 8192) : Decidable (I.sees Q R) := Classical.propDecidable _

variable (I : Inputs) (h : Fin 8) (Q R : Fin 8192)

def S : ℝ := (∑ d : Fin 256, I.q h Q d * I.k h R d) * I.scale
def E : ℝ := if I.sees Q R then Real.exp (S I h Q R - I.top h Q) else 0
def L : ℝ := ∑ R : Fin 8192, E I h Q R
def P : ℝ := E I h Q R / L I h Q
def dP : ℝ := ∑ d : Fin 128, I.g h Q d * I.v h R d
def mean : ℝ := ∑ R : Fin 8192, P I h Q R * dP I h Q R
def dS : ℝ := P I h Q R * (dP I h Q R - mean I h Q)
def dQ (d : Fin 256) : ℝ := ∑ R : Fin 8192, dS I h Q R * I.scale * I.k h R d
def dK (d : Fin 256) : ℝ := ∑ Q : Fin 8192, dS I h Q R * I.scale * I.q h Q d
def dV (d : Fin 128) : ℝ := ∑ Q : Fin 8192, I.g h Q d * P I h Q R

theorem E_nonneg : 0 ≤ E I h Q R := by
  unfold E
  split
  · exact (Real.exp_pos _).le
  · exact le_refl _

theorem L_pos (hs : I.sees Q Q) : 0 < L I h Q := by
  refine Finset.sum_pos' (fun R _ => E_nonneg I h Q R) ⟨Q, Finset.mem_univ _, ?_⟩
  unfold E
  rw [if_pos hs]
  exact Real.exp_pos _

/-! ### Extended reals that are real -/

theorem coe_sum {ι : Type} [Fintype ι] (f : ι → ℝ) : ((∑ i, f i : ℝ) : EReal) = ∑ i, (f i : EReal) :=
  map_sum (⟨⟨fun r : ℝ => (r : EReal), EReal.coe_zero⟩, EReal.coe_add⟩ : ℝ →+ EReal) f Finset.univ

theorem sum_coe_mul {ι : Type} [Fintype ι] (f g : ι → ℝ) : ∑ i, (f i : EReal) * (g i : EReal) = ((∑ i, f i * g i : ℝ) : EReal) := by
  rw [coe_sum]
  exact Finset.sum_congr rfl fun i _ => (EReal.coe_mul _ _).symm

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem log_coe (x : ℝ) (hx : 0 < x) : Ideal.log (x : EReal) = (Real.log x : EReal) := by
  show (if x ≤ 0 then (⊥ : EReal) else (Real.log x : EReal)) = _
  rw [if_neg (not_le.2 hx)]

theorem exp_coe (x : ℝ) : Ideal.exp (x : EReal) = (Real.exp x : EReal) := rfl
theorem exp2_coe (x : ℝ) : Ideal.exp2 (x : EReal) = (Real.rpow 2 x : EReal) := rfl
theorem exp_bot : Ideal.exp ⊥ = 0 := rfl
theorem exp2_bot : Ideal.exp2 ⊥ = 0 := rfl

theorem ln2_pos : 0 < Real.log 2 := Real.log_pos (by norm_num)

/-- A score on the host: the exponential of the score less the largest. -/
theorem e_eq : Ideal.exp ((if I.sees Q R then (S I h Q R : EReal) else ⊥) - (I.top h Q : EReal)) = (E I h Q R : EReal) := by
  unfold E
  by_cases hs : I.sees Q R
  · rw [if_pos hs, if_pos hs, ← EReal.coe_sub, exp_coe]
  · rw [if_neg hs, if_neg hs, EReal.bot_sub, exp_bot, EReal.coe_zero]

/-- The kernel's weight, in base two from a saved row value, is the softmax weight. -/
theorem weight_eq (hs : I.sees Q Q) :
    Ideal.exp2 ((if I.sees Q R then ((S I h Q R / Real.log 2 : ℝ) : EReal) else ⊥) - (((I.top h Q + Real.log (L I h Q)) / Real.log 2 : ℝ) : EReal)) = (P I h Q R : EReal) := by
  have hL := L_pos I h Q hs
  have h2 := ln2_pos
  unfold P E
  by_cases hR : I.sees Q R
  · rw [if_pos hR, if_pos hR, ← EReal.coe_sub, exp2_coe, Real.rpow_eq_pow, Real.rpow_def_of_pos (by norm_num : (0 : ℝ) < 2)]
    congr 1
    rw [show Real.log 2 * (S I h Q R / Real.log 2 - (I.top h Q + Real.log (L I h Q)) / Real.log 2) = (S I h Q R - I.top h Q) - Real.log (L I h Q) by
      field_simp; ring, Real.exp_sub, Real.exp_log hL]
  · rw [if_neg hR, if_neg hR, EReal.bot_sub, exp2_bot, zero_div, EReal.coe_zero]

/-- The kernel's row value: the output times its gradient, summed over the head. -/
theorem mean_eq : ∑ d : Fin 128, (∑ R : Fin 8192, P I h Q R * I.v h R d) * I.g h Q d = mean I h Q := by
  unfold mean dP
  simp only [Finset.sum_mul, Finset.mul_sum]
  rw [Finset.sum_comm]
  exact Finset.sum_congr rfl fun R _ => Finset.sum_congr rfl fun d _ => by ring

/-- The reference's gradient of the quotient is the softmax gradient. -/
theorem slope_eq (hs : I.sees Q Q) :
    (dP I h Q R / L I h Q + -(∑ R' : Fin 8192, dP I h Q R' * (1 / (L I h Q * L I h Q)) * E I h Q R')) * E I h Q R = dS I h Q R := by
  have hL := (L_pos I h Q hs).ne'
  have hsum : ∑ R' : Fin 8192, dP I h Q R' * (1 / (L I h Q * L I h Q)) * E I h Q R' = mean I h Q / L I h Q := by
    unfold mean P
    rw [Finset.sum_div]
    exact Finset.sum_congr rfl fun R' _ => by field_simp
  rw [hsum]
  unfold dS P
  field_simp
  ring

theorem dS_zero (hR : ¬ I.sees Q R) : dS I h Q R = 0 := by
  unfold dS P E
  rw [if_neg hR, zero_div, zero_mul]

end AttnSpec
end
-- ==== Proof.AttnRef.lean ====
/-
  The reference of the attention's gradient, read at an index: on real inputs its three results are the real gradients.
-/
module

public import proofs.«01_k».proof.Proof.Gen.Reference2Ideal.Read
public import proofs.«01_k».proof.Proof.AttnMath
public import Idealize.ShloMosaic.Lib.Pointwise

@[expose] public section

set_option maxRecDepth 16384

noncomputable section

open Idealize.ShloMosaic Idealize.ShloMosaic.TcCoe Idealize.SL.Sem

namespace Cert.Reference2Ideal.Attn

open Cert.Reference2Ideal Cert.Reference2Ideal.Gen Cert.Reference2Ideal.Read AttnSpec

variable (x0 : (⟨S8x8192x256, .f32⟩ : BufTy).Contents (Elt Ideal)) (x1 : (⟨S8x8192x256, .bf16⟩ : BufTy).Contents (Elt Ideal))
  (x2 : (⟨S8x8192x128, .bf16⟩ : BufTy).Contents (Elt Ideal)) (x3 : (⟨S8192x1024, .f32⟩ : BufTy).Contents (Elt Ideal))
  (x4 : (⟨S8192, .i32⟩ : BufTy).Contents (Elt Ideal))

/-- The arrays hold the real numbers `I`, the positions order the rows as `I` sees them, every query sees itself, and
    the row maxima are real. -/
structure Holds (I : Inputs) : Prop where
  q : ∀ h Q d, x0 (ix3 h Q d) = (I.q h Q d : EReal)
  k : ∀ h R d, x1 (ix3 h R d) = (I.k h R d : EReal)
  v : ∀ h R d, x2 (ix3 h R d) = (I.v h R d : EReal)
  g : ∀ (h : Fin 8) Q (d : Fin 128) (n : Fin 1024), n.val = h.val * 128 + d.val → x3 (ix2 Q n) = (I.g h Q d : EReal)
  sees : ∀ Q R, I.sees Q R ↔ IntOp.cmpi .sge (x4 (ix1 Q)) (x4 (ix1 R)) = 1#1
  self : ∀ Q, I.sees Q Q
  scale : Ideal.ofBits .f32 0x3D93CD3A#32 = (I.scale : EReal)
  top : ∀ h Q, val_main_v11 (F := Ideal) x0 x1 x4 (ix2 h Q) = (I.top h Q : EReal)

theorem word_bot : Ideal.ofBits .f32 0xFF800000#32 = (⊥ : EReal) := by simp [Ideal.ofBits, Ideal.ieee]
theorem word_one : Ideal.ofBits .f32 0x3F800000#32 = ((1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_zero : Ideal.ofBits .f32 0x00000000#32 = (0 : EReal) := by simp [Ideal.ofBits, Ideal.ieee]

/-- The exponential of a score less its row's largest. -/
theorem exp_row (s : (⟨S8x8192x8192, .f32⟩ : BufTy).Contents (Elt Ideal)) (t : (⟨S8x8192, .f32⟩ : BufTy).Contents (Elt Ideal)) (h : Fin 8) (Q R : Fin 8192) :
    Host.exp (F := Ideal) (φ := .f32) (subf s (broadcastInDim S8x8192x8192 ![0, 1, 2] bcast_S8x8192x1_S8x8192x8192_0_1_2
      (broadcastInDim S8x8192x1 ![0, 1] bcast_S8x8192_S8x8192x1_0_1 (maximumf (val_main_v17 (F := Ideal)) t)))) (ix3 h Q R)
    = Ideal.exp (s (ix3 h Q R) - t (ix2 h Q)) := by
  pointwise [val_main_v17, val_main_cst_3]
  rw [word_bot, show max (⊥ : EReal) (t (ix2 h Q)) = t (ix2 h Q) from max_eq_right bot_le]

variable {x0 x1 x2 x3 x4} {I : Inputs}

theorem v4_of (hq : ∀ h Q d, x0 (ix3 h Q d) = (I.q h Q d : EReal)) (hk : ∀ h R d, x1 (ix3 h R d) = (I.k h R d : EReal))
    (hsc : Ideal.ofBits .f32 0x3D93CD3A#32 = (I.scale : EReal)) (h : Fin 8) (Q R : Fin 8192) :
    val_main_v4 (F := Ideal) x0 x1 (ix3 h Q R) = (S I h Q R : EReal) := by
  pointwise [val_main_v4, val_main_v3, val_main_v2, val_main_v0, val_main_cst]
  simp only [hq, hk]
  rw [hsc, sum_coe_mul, ← EReal.coe_mul]
  rfl

theorem v10_0_of {h : Fin 8} {Q R : Fin 8192} (e : val_main_v4 (F := Ideal) x0 x1 (ix3 h Q R) = (S I h Q R : EReal))
    (hsees : ∀ Q R, I.sees Q R ↔ IntOp.cmpi .sge (x4 (ix1 Q)) (x4 (ix1 R)) = 1#1) :
    val_main_v10_0 (F := Ideal) x0 x1 x4 (ix3 h Q R) = if I.sees Q R then (S I h Q R : EReal) else ⊥ := by
  pointwise [val_main_v10_0, val_main_v10_1, val_main_v9, val_main_v8, val_main_v7, val_main_v6, val_main_v5, val_main_call0_v2, val_main_call0_v0, val_main_cst_0]
  rw [e, show (id (constant (F := Ideal) S_ .f32 0xFF800000#32) ix0 : EReal) = ⊥ from word_bot]
  unfold Scalar.select
  by_cases hs : I.sees Q R
  · rw [if_pos hs]
    exact if_pos ((hsees Q R).1 hs)
  · rw [if_neg hs]
    exact if_neg fun hh => hs ((hsees Q R).2 hh)

variable (H : Holds x0 x1 x2 x3 x4 I) (h : Fin 8) (Q R : Fin 8192)
include H

theorem v10_0 : val_main_v10_0 (F := Ideal) x0 x1 x4 (ix3 h Q R) = if I.sees Q R then (S I h Q R : EReal) else ⊥ :=
  v10_0_of (v4_of H.q H.k H.scale h Q R) H.sees

theorem v31 : val_main_v31 (F := Ideal) x0 x1 x4 (ix3 h Q R) = (E I h Q R : EReal) := by
  have e := v10_0 H h Q R
  have e' := H.top h Q
  unfold val_main_v31 val_main_v30 val_main_v29 val_main_v28 val_main_v18
  generalize val_main_v10_0 (F := Ideal) x0 x1 x4 = s at e ⊢
  generalize val_main_v11 (F := Ideal) x0 x1 x4 = t at e' ⊢
  exact (exp_row s t h Q R).trans (by rw [e, e', e_eq])

theorem v32 : val_main_v32 (F := Ideal) x0 x1 x4 (ix2 h Q) = (L I h Q : EReal) := by
  pointwise [val_main_v32, val_main_cst_9]
  simp only [v31 H]
  rw [← coe_sum]
  rfl

theorem v35 : val_main_v35 (F := Ideal) x0 x1 x4 (ix3 h Q R) = (P I h Q R : EReal) := by
  pointwise [val_main_v35, val_main_v34, val_main_v33]
  rw [v31 H, v32 H, div_coe _ _ (L_pos I h Q (H.self Q)).ne']
  rfl

theorem v43 (d : Fin 128) : val_main_v43 (F := Ideal) x3 (ix3 h Q d) = (I.g h Q d : EReal) := by
  have := h.isLt
  have := Q.isLt
  have := d.isLt
  have e : val_main_v43 (F := Ideal) x3 (ix3 h Q d) = x3 (ix2 Q ⟨h.val * 128 + d.val, by omega⟩) := by
    pointwise [val_main_v43, val_main_v42]
  exact e.trans (H.g h Q d _ rfl)

theorem v45 (d : Fin 128) : val_main_v45 (F := Ideal) x0 x1 x3 x4 (ix3 h R d) = (dV I h R d : EReal) := by
  pointwise [val_main_v45, val_main_v44]
  simp only [v43 H, v35 H]
  rw [sum_coe_mul]
  rfl

theorem v46 : val_main_v46 (F := Ideal) x2 x3 (ix3 h Q R) = (dP I h Q R : EReal) := by
  pointwise [val_main_v46, val_main_v1]
  simp only [v43 H, H.v]
  rw [sum_coe_mul]
  rfl

theorem v49 : val_main_v49 (F := Ideal) x0 x1 x2 x3 x4 (ix3 h Q R) = ((dP I h Q R * (1 / (L I h Q * L I h Q)) * E I h Q R : ℝ) : EReal) := by
  have hL := (L_pos I h Q (H.self Q)).ne'
  pointwise [val_main_v49, val_main_v48, val_main_v47, val_main_v38, val_main_v37, val_main_v36, val_main_v33, val_main_cst_10]
  rw [v46 H, v31 H, v32 H, ← EReal.coe_one, ← EReal.coe_mul, div_coe _ _ (mul_ne_zero hL hL), ← EReal.coe_mul, ← EReal.coe_mul]

theorem v50 : val_main_v50 (F := Ideal) x0 x1 x2 x3 x4 (ix2 h Q)
    = ((∑ R : Fin 8192, dP I h Q R * (1 / (L I h Q * L I h Q)) * E I h Q R : ℝ) : EReal) := by
  pointwise [val_main_v50, val_main_cst_11]
  simp only [v49 H]
  rw [← coe_sum]

theorem v55 : val_main_v55 (F := Ideal) x0 x1 x2 x3 x4 (ix2 h Q)
    = ((-(∑ R : Fin 8192, dP I h Q R * (1 / (L I h Q * L I h Q)) * E I h Q R) : ℝ) : EReal) := by
  pointwise [val_main_v55, val_main_v52, val_main_v51, val_main_cst_12]
  simp only [Finset.univ_unique, Finset.sum_singleton]
  rw [v50 H, EReal.coe_neg]

theorem v58 : val_main_v58 (F := Ideal) x0 x1 x2 x3 x4 (ix3 h Q R) = (dS I h Q R : EReal) := by
  pointwise [val_main_v58, val_main_v57, val_main_v56, val_main_v54, val_main_v53, val_main_v33]
  rw [v55 H, v46 H, v31 H, v32 H, div_coe _ _ (L_pos I h Q (H.self Q)).ne', ← EReal.coe_add, ← EReal.coe_mul, slope_eq I h Q R (H.self Q)]

theorem v61 : val_main_v61 (F := Ideal) x0 x1 x2 x3 x4 (ix3 h Q R) = ((dS I h Q R * I.scale : ℝ) : EReal) := by
  have e := v58 H h Q R
  pointwise [val_main_v61, val_main_v60, val_main_v59, val_main_v10_1, val_main_v9, val_main_v8, val_main_v7, val_main_v6, val_main_v5, val_main_call1_v0, val_main_call1_cst, val_main_cst_13]
  rw [e, H.scale, ← EReal.coe_mul]
  unfold Scalar.select
  by_cases hs : I.sees Q R
  · exact if_pos ((H.sees Q R).1 hs)
  · rw [dS_zero I h Q R hs, zero_mul, EReal.coe_zero]
    exact if_neg fun hh => hs ((H.sees Q R).2 hh)

theorem v62 (d : Fin 256) : val_main_v62 (F := Ideal) x0 x1 x2 x3 x4 (ix3 h R d) = (dK I h R d : EReal) := by
  pointwise [val_main_v62]
  simp only [v61 H, H.q]
  rw [sum_coe_mul]
  rfl

theorem v63 (d : Fin 256) : val_main_v63 (F := Ideal) x0 x1 x2 x3 x4 (ix3 h Q d) = (dQ I h Q d : EReal) := by
  pointwise [val_main_v63, val_main_v0]
  simp only [v61 H, H.k]
  rw [sum_coe_mul]
  rfl

end Cert.Reference2Ideal.Attn
end
-- ==== Proof.AttnEntry.lean ====
/-
  What the attention gradient program hands its kernel: the scaled queries, the row log-sums, the row products and the
  positions, as expressions of the arguments.
-/
module

public import proofs.«01_k».proof.Proof.AttnRes
public import proofs.«01_k».proof.Proof.AttnRef
public import Idealize.ShloMosaic.Lib.Pointwise

@[expose] public section

set_option maxRecDepth 16384
set_option Elab.async false

noncomputable section

namespace Cert.Kernel2Ideal.Attn

open Cert.Kernel2Ideal Cert.Kernel2Ideal.Gen
open Idealize.ShloMosaic
open Idealize.ShloMosaic.TcCoe Idealize.ShloMosaic.Tactic

/-! ### The host's expressions -/

abbrev A3 := FVec Ideal S8x8192x8192 .f32

/-- The masked scores of the arguments. -/
def hScore (x0 : FVec Ideal S8x8192x256 .f32) (x1 : FVec Ideal S8x8192x256 .bf16)
    (x4 : IVec S8192 32) : A3 :=
  select (broadcastInDim S8x8192x8192 ![1, 2] bcast_S8192x8192_S8x8192x8192_1_2
      (cmpi .sge (broadcastInDim S8192x8192 ![0, 1] bcast_S8192x1_S8192x8192_0_1 (broadcastInDim S8192x1 ![0] bcast_S8192_S8192x1_0 x4))
        (broadcastInDim S8192x8192 ![0, 1] bcast_S1x8192_S8192x8192_0_1 (broadcastInDim S1x8192 ![1] bcast_S8192_S1x8192_1 x4))))
    (mulf (Host.dotGeneral dot_S8x8192x256_S8x8192x256_S8x8192x8192_2_2_1_1_0_0 none x0 (extf .f32 x1 bitsLt_bf16_f32))
      (broadcastInDim S8x8192x8192 ![] bcast_S_S8x8192x8192 (constant S_ .f32 0x3D93CD3A#32)))
    (broadcastInDim S8x8192x8192 ![] bcast_S_S8x8192x8192 (constant S_ .f32 0xFF800000#32))

variable (s : A3)

def hTop : FVec Ideal S8x8192 .f32 :=
  Host.reduce FloatOps.maximumf s (constant S_ .f32 0xFF800000#32) reducesTo_S8x8192x8192_S8x8192_d2 h_S_
def hTop1 : FVec Ideal S8x8192x1 .f32 := broadcastInDim S8x8192x1 ![0, 1] bcast_S8x8192_S8x8192x1_0_1 (hTop s)
def hExp : A3 := Host.exp (subf s (broadcastInDim S8x8192x8192 ![0, 1, 2] bcast_S8x8192x1_S8x8192x8192_0_1_2 (hTop1 s)))
def hSum : FVec Ideal S8x8192 .f32 := Host.reduceAdd (hExp s) (constant S_ .f32 0x00000000#32) reducesTo_S8x8192x8192_S8x8192_d2 h_S_
def hSum1 : FVec Ideal S8x8192x1 .f32 := broadcastInDim S8x8192x1 ![0, 1] bcast_S8x8192_S8x8192x1_0_1 (hSum s)
def hProb : A3 := Host.divf (hExp s) (broadcastInDim S8x8192x8192 ![0, 1, 2] bcast_S8x8192x1_S8x8192x8192_0_1_2 (hSum1 s))
def hOut (x2 : FVec Ideal S8x8192x128 .bf16) : FVec Ideal S8x8192x128 .f32 :=
  Host.dotGeneral dot_S8x8192x8192_S8x8192x128_S8x8192x128_2_1_1_2_0_0 none (hProb s) (extf .f32 x2 bitsLt_bf16_f32)
def hFlat (x2 : FVec Ideal S8x8192x128 .bf16) : FVec Ideal S8192x1024 .f32 :=
  shapeCast _ (transpose S8192x8x128 [1, 0, 2] (hOut s x2) transposes_S8x8192x128_S8192x8x128_1_0_2) shapeCasts_S8192x8x128_S8192x1024
def hLse : FVec Ideal S8x1x8192 .f32 :=
  shapeCast _ (Host.divf (addf (hTop1 s) (Host.log (hSum1 s))) (broadcastInDim S8x8192x1 ![] bcast_S_S8x8192x1 (Host.log (constant S_ .f32 0x40000000#32)))) shapeCasts_S8x8192x1_S8x1x8192
def hDelta (x2 : FVec Ideal S8x8192x128 .bf16) (x3 : FVec Ideal S8192x1024 .f32) :
    FVec Ideal S8x1x8192 .f32 :=
  shapeCast _ (transpose S8x8192 [1, 0] (Host.reduceAdd (shapeCast S8192x8x128 (mulf (hFlat s x2) x3) shapeCasts_S8192x1024_S8192x8x128)
    (constant S_ .f32 0x00000000#32) reducesTo_S8192x8x128_S8192x8_d2 h_S_) transposes_S8192x8_S8x8192_1_0) shapeCasts_S8x8192_S8x1x8192

def hQuery (x0 : FVec Ideal S8x8192x256 .f32) : FVec Ideal S8x8192x256 .bf16 :=
  truncf .bf16 (mulf x0 (broadcastInDim S8x8192x256 ![] bcast_S_S8x8192x256 (Host.divf (constant S_ .f32 0x3D93CD3A#32) (Host.log (constant S_ .f32 0x40000000#32))))) bitsLt_bf16_f32

/-! ### The entry buffers are these expressions -/

variable (m : (ℓ : Loc nD τ sig) → Buf (Elt Ideal) ℓ) (c : Dev nD)

abbrev arg0 : FVec Ideal S8x8192x256 .f32 := m ((c.tc : Thread nD τ).loc main_arg0)
abbrev arg1 : FVec Ideal S8x8192x256 .bf16 := m ((c.tc : Thread nD τ).loc main_arg1)
abbrev arg2 : FVec Ideal S8x8192x128 .bf16 := m ((c.tc : Thread nD τ).loc main_arg2)
abbrev arg3 : FVec Ideal S8192x1024 .f32 := m ((c.tc : Thread nD τ).loc main_arg3)
abbrev arg4 : IVec S8192 32 := m ((c.tc : Thread nD τ).loc main_arg4)

theorem entry_query : ventry (F := Ideal) m c (Proc.devRef .tc main_v39) = hQuery (arg0 m c) := by
  unfold ventry
  simp only [List.flatten_cons, List.flatten_nil, List.append_nil, hostOps0]
  after_results_simp <;> rfl

theorem entry_lse : ventry (F := Ideal) m c (Proc.devRef .tc main_v30) = hLse (hScore (arg0 m c) (arg1 m c) (arg4 m c)) := by
  unfold ventry
  simp only [List.flatten_cons, List.flatten_nil, List.append_nil, hostOps0]
  after_results_simp <;> rfl

theorem entry_delta : ventry (F := Ideal) m c (Proc.devRef .tc main_v35) = hDelta (hScore (arg0 m c) (arg1 m c) (arg4 m c)) (arg2 m c) (arg3 m c) := by
  unfold ventry
  simp only [List.flatten_cons, List.flatten_nil, List.append_nil, hostOps0]
  after_results_simp <;> rfl

theorem entry_posK : ventry (F := Ideal) m c (Proc.devRef .tc main_v40) = (shapeCast _ (arg4 m c) shapeCasts_S8192_S8192x1 : S8192x1.Idx → Elt Ideal .i32) := by
  unfold ventry
  simp only [List.flatten_cons, List.flatten_nil, List.append_nil, hostOps0]
  after_results_simp <;> rfl

theorem entry_posQ : ventry (F := Ideal) m c (Proc.devRef .tc main_v41) = (shapeCast _ (arg4 m c) shapeCasts_S8192_S1x8192 : S1x8192.Idx → Elt Ideal .i32) := by
  unfold ventry
  simp only [List.flatten_cons, List.flatten_nil, List.append_nil, hostOps0]
  after_results_simp <;> rfl

/-! ### The expressions read at an index, on real arguments -/

/-- The exponential of a score less its row's largest. -/
theorem exp_row (t : FVec Ideal S8x8192 .f32) (h : Fin 8) (Q R : Fin 8192) :
    Host.exp (F := Ideal) (φ := .f32) (subf s (broadcastInDim S8x8192x8192 ![0, 1, 2] bcast_S8x8192x1_S8x8192x8192_0_1_2
      (broadcastInDim S8x8192x1 ![0, 1] bcast_S8x8192_S8x8192x1_0_1 t))) (ix3 h Q R)
    = Ideal.exp (s (ix3 h Q R) - t (ix2 h Q)) := by
  pointwise []

/-- The saved row value of a largest score and a sum. -/
theorem lse_row (t l : FVec Ideal S8x8192 .f32) (h : Fin 8) (Q : Fin 8192) :
    (shapeCast S8x1x8192 (Host.divf (F := Ideal) (φ := .f32) (addf (broadcastInDim S8x8192x1 ![0, 1] bcast_S8x8192_S8x8192x1_0_1 t)
      (Host.log (broadcastInDim S8x8192x1 ![0, 1] bcast_S8x8192_S8x8192x1_0_1 l)))
      (broadcastInDim S8x8192x1 ![] bcast_S_S8x8192x1 (Host.log (constant S_ .f32 0x40000000#32)))) shapeCasts_S8x8192x1_S8x1x8192) (ix3 h 0 Q)
    = Ideal.div (t (ix2 h Q) + Ideal.log (l (ix2 h Q))) (Ideal.log (Ideal.ofBits .f32 0x40000000#32)) := by
  pointwise []

theorem hScore_eq (x0 : FVec Ideal S8x8192x256 .f32) (x1 : FVec Ideal S8x8192x256 .bf16)
    (x4 : IVec S8192 32) : hScore x0 x1 x4 = Cert.Reference2Ideal.Read.val_main_v10_0 (F := Ideal) x0 x1 x4 := rfl

theorem hTop_eq (x0 : FVec Ideal S8x8192x256 .f32) (x1 : FVec Ideal S8x8192x256 .bf16)
    (x4 : IVec S8192 32) : hTop (hScore x0 x1 x4) = Cert.Reference2Ideal.Read.val_main_v11 (F := Ideal) x0 x1 x4 := rfl

variable {x0 : FVec Ideal S8x8192x256 .f32} {x1 : FVec Ideal S8x8192x256 .bf16}
  {x2 : FVec Ideal S8x8192x128 .bf16} {x3 : FVec Ideal S8192x1024 .f32}
  {x4 : IVec S8192 32} {I : AttnSpec.Inputs}
  (H : Cert.Reference2Ideal.Attn.Holds x0 x1 x2 x3 x4 I) (h : Fin 8) (Q R : Fin 8192)
include H

open AttnSpec Cert.Reference2Ideal.Attn in
theorem hExp_at : hExp (hScore x0 x1 x4) (ix3 h Q R) = (E I h Q R : EReal) := by
  have e : hScore x0 x1 x4 (ix3 h Q R) = _ := v10_0 H h Q R
  have e' : hTop (hScore x0 x1 x4) (ix2 h Q) = _ := H.top h Q
  unfold hExp hTop1
  generalize hTop (hScore x0 x1 x4) = t at e' ⊢
  exact (exp_row (hScore x0 x1 x4) t h Q R).trans (by rw [e, e', e_eq])

open AttnSpec Cert.Reference2Ideal.Attn in
theorem hSum_at : hSum (hScore x0 x1 x4) (ix2 h Q) = (L I h Q : EReal) := by
  pointwise [hSum]
  simp only [hExp_at H]
  rw [← coe_sum]
  rfl

open AttnSpec Cert.Reference2Ideal.Attn in
theorem hProb_at : hProb (hScore x0 x1 x4) (ix3 h Q R) = (P I h Q R : EReal) := by
  pointwise [hProb, hSum1]
  rw [hExp_at H, hSum_at H, div_coe _ _ (L_pos I h Q (H.self Q)).ne']
  rfl

open AttnSpec Cert.Reference2Ideal.Attn in
theorem hOut_at (d : Fin 128) : hOut (hScore x0 x1 x4) x2 (ix3 h Q d) = ((∑ R : Fin 8192, P I h Q R * I.v h R d : ℝ) : EReal) := by
  pointwise [hOut]
  simp only [hProb_at H, H.v]
  rw [sum_coe_mul]

open AttnSpec Cert.Reference2Ideal.Attn in
theorem hLse_at : hLse (hScore x0 x1 x4) (ix3 h 0 Q) = (((I.top h Q + Real.log (L I h Q)) / Real.log 2 : ℝ) : EReal) := by
  have e' : hTop (hScore x0 x1 x4) (ix2 h Q) = _ := H.top h Q
  have e := hSum_at H h Q
  unfold hLse hTop1 hSum1
  generalize hTop (hScore x0 x1 x4) = t at e' ⊢
  generalize hSum (hScore x0 x1 x4) = l at e ⊢
  refine (lse_row t l h Q).trans ?_
  rw [e', e, log_coe _ (L_pos I h Q (H.self Q)), word_two, log_coe _ (by norm_num), ← EReal.coe_add, div_coe _ _ ln2_pos.ne']

open AttnSpec Cert.Reference2Ideal.Attn in
theorem hFlat_at (d : Fin 128) (n : Fin 1024) (hn : n.val = h.val * 128 + d.val) :
    hFlat (hScore x0 x1 x4) x2 (ix2 Q n) = ((∑ R : Fin 8192, P I h Q R * I.v h R d : ℝ) : EReal) := by
  have := h.isLt
  have := d.isLt
  have e : hFlat (hScore x0 x1 x4) x2 (ix2 Q n) = hOut (hScore x0 x1 x4) x2 (ix3 h Q d) := by
    obtain ⟨n, hl⟩ := n
    obtain rfl : n = _ := hn
    pointwise [hFlat]
  exact e.trans (hOut_at H h Q d)

open AttnSpec Cert.Reference2Ideal.Attn in
theorem hDelta_at : hDelta (hScore x0 x1 x4) x2 x3 (ix3 h 0 Q) = (mean I h Q : EReal) := by
  have := h.isLt
  have := Q.isLt
  have e : hDelta (hScore x0 x1 x4) x2 x3 (ix3 h 0 Q)
      = ∑ d : Fin 128, hFlat (hScore x0 x1 x4) x2 (ix2 Q ⟨h.val * 128 + d.val, by have := d.isLt; omega⟩) * x3 (ix2 Q ⟨h.val * 128 + d.val, by have := d.isLt; omega⟩) := by
    pointwise [hDelta]
  rw [e, ← mean_eq, ← sum_coe_mul]
  exact Finset.sum_congr rfl fun d _ => by rw [hFlat_at H h Q d _ rfl, H.g h Q d _ rfl]

open AttnSpec Cert.Reference2Ideal.Attn in
theorem hQuery_at (d : Fin 256) : hQuery x0 (ix3 h Q d) = ((I.q h Q d * (I.scale / Real.log 2) : ℝ) : EReal) := by
  pointwise [hQuery]
  rw [H.q, H.scale, word_two, log_coe _ (by norm_num), div_coe _ _ ln2_pos.ne', ← EReal.coe_mul]

end Cert.Kernel2Ideal.Attn

end
-- ==== Proof.AttnPre.lean ====
/-
  The precondition read: the positions grow, the inputs are real, and so is every row's largest score.
-/
module

public import proofs.«01_k».proof.Proof.AttnRef
public import proofs.«01_k».proof.Proof.Gen.Pre_ordered_and_finite
public import Idealize.ShloMosaic.Lib.ReduceAll
public import Idealize.ShloMosaic.Lib.Affine
public import Idealize.ShloMosaic.PureOps.Ideal.Laws
public import Idealize.ShloMosaic.Lib.Pointwise

@[expose] public section

set_option maxRecDepth 16384

noncomputable section

open Idealize.ShloMosaic Idealize.ShloMosaic.TcCoe Idealize.SL.Sem

namespace Cert.Pre_ordered_and_finite.Attn

open Cert.Pre_ordered_and_finite Cert.Pre_ordered_and_finite.Gen

variable (x0 : FVec Ideal S8x8192x256 .f32) (x1 : FVec Ideal S8x8192x256 .bf16) (x2 : FVec Ideal S8x8192x128 .bf16)
  (x3 : FVec Ideal S8192x1024 .f32) (x4 : IVec S8192 32)

instance : Subsingleton S_.Idx := ⟨fun a b => funext fun i => i.elim0⟩

/-- The precondition's five conjuncts. -/
theorem split (hp : fn (F := Ideal) x0 x1 x2 x3 x4 = fun _ => 1#1) :
    (∀ i : S8191.Idx, (extractStridedSlice S8191 ![0] x4 slices_S8192_S8191_0 i).toInt < (extractStridedSlice S8191 ![1] x4 slices_S8192_S8191_1 i).toInt)
    ∧ (∀ i, max (x0 i) (-x0 i) < ⊤) ∧ (∀ i, max (x1 i) (-x1 i) < ⊤) ∧ (∀ i, max (x2 i) (-x2 i) < ⊤) ∧ (∀ i, max (x3 i) (-x3 i) < ⊤) := by
  have top : Ideal.ofBits .f32 0x7F800000#32 = (⊤ : EReal) := by simp [Ideal.ofBits, Ideal.ieee]
  have lt : ∀ y : EReal, Ideal.cmp .olt y (Ideal.ofBits .f32 0x7F800000#32) = 1#1 → y < ⊤ := fun y h => by
    rw [top] at h
    by_contra hn
    simp [Ideal.cmp, hn] at h
  have h := congrFun hp ix0
  dsimp only [fn, fn_part1] at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  refine ⟨fun i => ?_, fun i => ?_, fun i => ?_, fun i => ?_, fun i => ?_⟩
  · exact IntOp.cmpi_sgt.1 (Host.reduce_andi_all _ _ _ _ _ h0 i)
  · exact lt _ (Host.reduce_andi_all _ _ _ _ _ h1 i)
  · exact lt _ (Host.reduce_andi_all _ _ _ _ _ h2 i)
  · exact lt _ (Host.reduce_andi_all _ _ _ _ _ h3 i)
  · exact lt _ (Host.reduce_andi_all _ _ _ _ _ h4 i)

/-- An extended real whose absolute value is finite is real. -/
theorem real_of_abs (y : EReal) (h : max y (-y) < ⊤) : y = (y.toReal : EReal) := by
  refine (EReal.coe_toReal (fun e => ?_) (fun e => ?_)).symm
  · rw [e] at h; exact absurd h (by simp)
  · rw [e] at h; exact absurd h (by simp)

/-- The positions grow strictly. -/
theorem pos_step (hp : fn (F := Ideal) x0 x1 x2 x3 x4 = fun _ => 1#1) (n : ℕ) (hn : n + 1 < 8192) :
    (x4 (ix1 ⟨n, by omega⟩)).toInt < (x4 (ix1 ⟨n + 1, hn⟩)).toInt := by
  have h := (split x0 x1 x2 x3 x4 hp).1 (ix1 ⟨n, by show n < 8191; omega⟩)
  have e0 : extractStridedSlice S8191 ![0] x4 slices_S8192_S8191_0 (ix1 ⟨n, by show n < 8191; omega⟩) = x4 (ix1 ⟨n, by omega⟩) := by
    pointwise []
  have e1 : extractStridedSlice S8191 ![1] x4 slices_S8192_S8191_1 (ix1 ⟨n, by show n < 8191; omega⟩) = x4 (ix1 ⟨n + 1, hn⟩) := by
    pointwise []
    simp only [Nat.add_comm 1 n]
  rwa [e0, e1] at h

theorem pos_lt (hp : fn (F := Ideal) x0 x1 x2 x3 x4 = fun _ => 1#1) (Q R : Fin 8192) (h : Q < R) :
    (x4 (ix1 Q)).toInt < (x4 (ix1 R)).toInt := by
  obtain ⟨q, hq⟩ := Q
  obtain ⟨r, hr⟩ := R
  have hqr : q < r := h
  induction r with
  | zero => omega
  | succ r ih =>
    have hs := pos_step x0 x1 x2 x3 x4 hp r hr
    rcases (by omega : q = r ∨ q < r) with e | e
    · subst e
      exact hs
    · exact (ih (by omega) e e).trans hs

theorem later (hp : fn (F := Ideal) x0 x1 x2 x3 x4 = fun _ => 1#1) (Q R : Fin 8192) (h : Q.val < R.val) :
    ¬ IntOp.cmpi .sge (x4 (ix1 Q)) (x4 (ix1 R)) = 1#1 := fun e =>
  absurd (IntOp.cmpi_sge.1 e) (not_le.2 (pos_lt x0 x1 x2 x3 x4 hp Q R h))

theorem upTo (hp : fn (F := Ideal) x0 x1 x2 x3 x4 = fun _ => 1#1) (Q R : Fin 8192) (h : R.val ≤ Q.val) :
    IntOp.cmpi .sge (x4 (ix1 Q)) (x4 (ix1 R)) = 1#1 := by
  refine IntOp.cmpi_sge.2 ?_
  rcases h.lt_or_eq with h | h
  · exact (pos_lt x0 x1 x2 x3 x4 hp R Q h).le
  · rw [Fin.ext h]

end Cert.Pre_ordered_and_finite.Attn

namespace Cert.Reference2Ideal.Attn

open Cert.Reference2Ideal Cert.Reference2Ideal.Gen Cert.Reference2Ideal.Read AttnSpec

variable (x0 : (⟨S8x8192x256, .f32⟩ : BufTy).Contents (Elt Ideal)) (x1 : (⟨S8x8192x256, .bf16⟩ : BufTy).Contents (Elt Ideal))
  (x2 : (⟨S8x8192x128, .bf16⟩ : BufTy).Contents (Elt Ideal)) (x3 : (⟨S8192x1024, .f32⟩ : BufTy).Contents (Elt Ideal))
  (x4 : (⟨S8192, .i32⟩ : BufTy).Contents (Elt Ideal))

/-- The real numbers in the arrays. -/
def inputs : Inputs where
  q h Q d := (x0 (ix3 h Q d) : EReal).toReal
  k h R d := (x1 (ix3 h R d) : EReal).toReal
  v h R d := (x2 (ix3 h R d) : EReal).toReal
  g h Q d := (x3 (ix2 Q ⟨h.val * 128 + d.val, by have := h.isLt; have := d.isLt; omega⟩) : EReal).toReal
  sees Q R := IntOp.cmpi .sge (x4 (ix1 Q)) (x4 (ix1 R)) = 1#1
  scale := (Ideal.ofBits .f32 0x3D93CD3A#32 : EReal).toReal
  top h Q := (val_main_v11 (F := Ideal) x0 x1 x4 (ix2 h Q) : EReal).toReal

theorem word_scale : Ideal.ofBits .f32 0x3D93CD3A#32 = (((Ideal.ofBits .f32 0x3D93CD3A#32 : EReal).toReal : ℝ) : EReal) := by
  have e : ∃ r : ℝ, Ideal.ofBits .f32 0x3D93CD3A#32 = (r : EReal) := by
    simp [Ideal.ofBits, Ideal.ieee, -EReal.coe_mul]
  obtain ⟨r, e⟩ := e
  rw [e, EReal.toReal_coe]

theorem reduces : S8x8192x8192.Reduces [2] S8x8192 := by decide

theorem lift_eq (h : Fin 8) (Q R : Fin 8192) : reduces.lift (ix2 h Q) R = ix3 h Q R := by
  funext a
  refine Fin.ext ?_
  show reduces.liftVal (ix2 h Q) R.val a = _
  match a with
  | ⟨0, _⟩ => rfl
  | ⟨1, _⟩ => rfl
  | ⟨2, _⟩ => rfl

/-- Every row's largest value. -/
def rowTop (s : FVec Ideal S8x8192x8192 .f32) : FVec Ideal S8x8192 .f32 :=
  Host.reduce FloatOps.maximumf s (constant (F := Ideal) S_ .f32 0xFF800000#32) reducesTo_S8x8192x8192_S8x8192_d2 h_S_

theorem rowTop_eq : rowTop (val_main_v10_0 (F := Ideal) x0 x1 x4) = val_main_v11 (F := Ideal) x0 x1 x4 := rfl

theorem inputs_top (h : Fin 8) (Q : Fin 8192) : (inputs x0 x1 x2 x3 x4).top h Q = (val_main_v11 (F := Ideal) x0 x1 x4 (ix2 h Q) : EReal).toReal := by
  dsimp only [inputs]

/-- A row's largest value is real when no value is infinite and one is real. -/
theorem max_real (s : FVec Ideal S8x8192x8192 .f32) (h : Fin 8) (Q R : Fin 8192) (hlt : ∀ R, (s (ix3 h Q R) : EReal) < ⊤) (hR : (⊥ : EReal) < s (ix3 h Q R)) :
    (⊥ : EReal) < rowTop s (ix2 h Q) ∧ (rowTop s (ix2 h Q) : EReal) < ⊤ := by
  unfold rowTop
  rw [Host.reduce_eq_fold_single _ _ _ _ reduces]
  have key : ∀ b : EReal, b < ⊤ → ⊥ < (Finset.univ : Finset (Fin 8192)).fold (max : EReal → EReal → EReal) b (fun R => s (ix3 h Q R))
      ∧ (Finset.univ : Finset (Fin 8192)).fold (max : EReal → EReal → EReal) b (fun R => s (ix3 h Q R)) < ⊤ := fun b hb =>
    ⟨lt_of_lt_of_le hR (Finset.le_fold_max _ |>.2 (Or.inr ⟨R, Finset.mem_univ _, le_refl _⟩)), Finset.fold_max_lt _ |>.2 ⟨hb, fun R _ => hlt R⟩⟩
  have e : (s ∘ reduces.lift (ix2 h Q)) = fun R : Fin 8192 => s (ix3 h Q R) := funext fun R => congrArg s (lift_eq h Q R)
  rw [e]
  exact key _ (by show (Ideal.ofBits .f32 0xFF800000#32 : EReal) < ⊤; rw [word_bot]; exact bot_lt_top)

/-- Under the precondition the arrays hold real numbers. -/
theorem holds (hp : Cert.Pre_ordered_and_finite.fn (F := Ideal) x0 x1 x2 x3 x4 = fun _ => 1#1) : Holds x0 x1 x2 x3 x4 (inputs x0 x1 x2 x3 x4) := by
  obtain ⟨_, h0, h1, h2, h3⟩ := Cert.Pre_ordered_and_finite.Attn.split x0 x1 x2 x3 x4 hp
  have q : ∀ h Q d, x0 (ix3 h Q d) = ((inputs x0 x1 x2 x3 x4).q h Q d : EReal) := fun h Q d => Cert.Pre_ordered_and_finite.Attn.real_of_abs _ (h0 _)
  have k : ∀ h R d, x1 (ix3 h R d) = ((inputs x0 x1 x2 x3 x4).k h R d : EReal) := fun h R d => Cert.Pre_ordered_and_finite.Attn.real_of_abs _ (h1 _)
  have sc : ∀ h Q R, val_main_v4 (F := Ideal) x0 x1 (ix3 h Q R) = ((S (inputs x0 x1 x2 x3 x4) h Q R : ℝ) : EReal) := fun h Q R =>
    v4_of q k word_scale h Q R
  refine ⟨q, k, fun h R d => Cert.Pre_ordered_and_finite.Attn.real_of_abs _ (h2 _), fun h Q d n hn => ?_, fun Q R => Iff.rfl,
    fun Q => Cert.Pre_ordered_and_finite.Attn.upTo x0 x1 x2 x3 x4 hp Q Q (le_refl _), word_scale, fun h Q => ?_⟩
  · obtain ⟨n, hl⟩ := n
    obtain rfl : n = _ := hn
    exact Cert.Pre_ordered_and_finite.Attn.real_of_abs _ (h3 _)
  · have hQ : (inputs x0 x1 x2 x3 x4).sees Q Q := Cert.Pre_ordered_and_finite.Attn.upTo x0 x1 x2 x3 x4 hp Q Q (le_refl _)
    have hs : ∀ R, val_main_v10_0 (F := Ideal) x0 x1 x4 (ix3 h Q R) = if (inputs x0 x1 x2 x3 x4).sees Q R then ((S (inputs x0 x1 x2 x3 x4) h Q R : ℝ) : EReal) else ⊥ := fun R =>
      v10_0_of (sc h Q R) (fun Q R => Iff.rfl)
    have hm := max_real (val_main_v10_0 (F := Ideal) x0 x1 x4) h Q Q
      (fun R => by
        rw [hs R]
        split
        · exact EReal.coe_lt_top _
        · exact bot_lt_top)
      (by rw [hs Q, if_pos hQ]; exact EReal.bot_lt_coe _)
    rw [rowTop_eq] at hm
    rw [inputs_top]
    generalize val_main_v11 (F := Ideal) x0 x1 x4 = t at hm ⊢
    exact (EReal.coe_toReal hm.2.ne hm.1.ne').symm

end Cert.Reference2Ideal.Attn
end
-- ==== Proof.AttnClaim.lean ====
/-
  The value claim about the attention's gradient: the kernel's three results equal the reference's.
-/
module

public import proofs.«01_k».proof.Defs
public import proofs.«01_k».proof.Proof.AttnFinal
public import proofs.«01_k».proof.Proof.AttnEntry
public import proofs.«01_k».proof.Proof.AttnPre
public import proofs.«01_k».proof.Proof.Gen.Reference2Ideal.Run

@[expose] public section

set_option maxRecDepth 16384
set_option Elab.async false

noncomputable section

open Idealize.ShloMosaic Idealize.ShloMosaic.TcCoe Idealize.SL.Sem

namespace Cert.Kernel2Ideal.Attn

open Cert.Kernel2Ideal Cert.Kernel2Ideal.Gen AttnSpec
open Cert.Reference2Ideal.Attn (Holds inputs holds)

variable (m : (ℓ : Loc nD τ sig) → Buf (Elt Ideal) ℓ) (c : Dev nD)

theorem posK (R : Fin 8192) : aPK (ventry (F := Ideal) m) c (ValueIdx.ix2 R 0) = arg4 m c (ix1 R) := by
  have e : aPK (ventry (F := Ideal) m) c = (shapeCast _ (arg4 m c) shapeCasts_S8192_S8192x1 : S8192x1.Idx → BitVec 32) := entry_posK m c
  rw [e]
  generalize arg4 m c = x
  have e' : (shapeCast _ x shapeCasts_S8192_S8192x1 : S8192x1.Idx → BitVec 32) (ix2 R 0) = x (ix1 R) := by pointwise []
  exact e'

theorem posQ (Q : Fin 8192) : aPQ (ventry (F := Ideal) m) c (ValueIdx.ix2 0 Q) = arg4 m c (ix1 Q) := by
  have e : aPQ (ventry (F := Ideal) m) c = (shapeCast _ (arg4 m c) shapeCasts_S8192_S1x8192 : S1x8192.Idx → BitVec 32) := entry_posQ m c
  rw [e]
  generalize arg4 m c = x
  have e' : (shapeCast _ x shapeCasts_S8192_S1x8192 : S1x8192.Idx → BitVec 32) (ix2 0 Q) = x (ix1 Q) := by pointwise []
  exact e'

theorem seen_iff (R Q : Fin 8192) : Seen (ventry (F := Ideal) m) c R Q ↔ IntOp.cmpi .sge (arg4 m c (ix1 Q)) (arg4 m c (ix1 R)) = 1#1 := by
  unfold Seen
  rw [posQ, posK]
  exact Iff.rfl

variable (hp : Cert.Pre_ordered_and_finite.fn (F := Ideal) (arg0 m c) (arg1 m c) (arg2 m c) (arg3 m c) (arg4 m c) = fun _ => 1#1)
include hp

theorem grows : Grows (ventry (F := Ideal) m) c where
  later R Q h e := Cert.Pre_ordered_and_finite.Attn.later _ _ _ _ _ hp Q R h ((seen_iff m c R Q).1 e)
  upTo R Q h := (seen_iff m c R Q).2 (Cert.Pre_ordered_and_finite.Attn.upTo _ _ _ _ _ hp Q R h)

/-- The real numbers in the arguments. -/
abbrev reals : Inputs := inputs (arg0 m c) (arg1 m c) (arg2 m c) (arg3 m c) (arg4 m c)

omit hp in
theorem aK_eq : aK (ventry (F := Ideal) m) c = arg1 m c := entry_arg1 m c
omit hp in
theorem aV_eq : aV (ventry (F := Ideal) m) c = arg2 m c := entry_arg2 m c
omit hp in
theorem aG_eq : aG (ventry (F := Ideal) m) c = arg3 m c := entry_arg3 m c
omit hp in
theorem aQ_eq : aQ (ventry (F := Ideal) m) c = hQuery (arg0 m c) := entry_query m c
omit hp in
theorem aL_eq : aL (ventry (F := Ideal) m) c = hLse (hScore (arg0 m c) (arg1 m c) (arg4 m c)) := entry_lse m c
omit hp in
theorem aD_eq : aD (ventry (F := Ideal) m) c = hDelta (hScore (arg0 m c) (arg1 m c) (arg4 m c)) (arg2 m c) (arg3 m c) := entry_delta m c

theorem aK_at (h : Fin 8) (R : Fin 8192) (d : Fin 256) : aK (ventry (F := Ideal) m) c (ValueIdx.ix3 h R d) = ((reals m c).k h R d : EReal) := by
  rw [aK_eq]
  exact (holds _ _ _ _ _ hp).k h R d
theorem aV_at (h : Fin 8) (R : Fin 8192) (d : Fin 128) : aV (ventry (F := Ideal) m) c (ValueIdx.ix3 h R d) = ((reals m c).v h R d : EReal) := by
  rw [aV_eq]
  exact (holds _ _ _ _ _ hp).v h R d
theorem aG_at (h : Fin 8) (Q : Fin 8192) (d : Fin 128) : aG (ventry (F := Ideal) m) c (ValueIdx.ix2 Q (colOf h d)) = ((reals m c).g h Q d : EReal) := by
  rw [aG_eq]
  exact (holds _ _ _ _ _ hp).g h Q d _ (by unfold colOf; show 128 * h.val + d.val = h.val * 128 + d.val; omega)
theorem aQ_at (h : Fin 8) (Q : Fin 8192) (d : Fin 256) : aQ (ventry (F := Ideal) m) c (ValueIdx.ix3 h Q d) = (((reals m c).q h Q d * ((reals m c).scale / Real.log 2) : ℝ) : EReal) := by
  rw [aQ_eq]
  exact hQuery_at (holds _ _ _ _ _ hp) h Q d
theorem aL_at (h : Fin 8) (Q : Fin 8192) : aL (ventry (F := Ideal) m) c (ValueIdx.ix3 h 0 Q) = ((((reals m c).top h Q + Real.log (L (reals m c) h Q)) / Real.log 2 : ℝ) : EReal) := by
  rw [aL_eq]
  exact hLse_at (holds _ _ _ _ _ hp) h Q
theorem aD_at (h : Fin 8) (Q : Fin 8192) : aD (ventry (F := Ideal) m) c (ValueIdx.ix3 h 0 Q) = (mean (reals m c) h Q : EReal) := by
  rw [aD_eq]
  exact hDelta_at (holds _ _ _ _ _ hp) h Q

theorem dot_real (h : Fin 8) (R Q : Fin 8192) : dot (ventry (F := Ideal) m) c h R Q = ((S (reals m c) h Q R / Real.log 2 : ℝ) : EReal) := by
  unfold dot
  simp only [aK_at m c hp, aQ_at m c hp]
  rw [sum_coe_mul]
  congr 1
  unfold S
  rw [Finset.sum_mul, Finset.sum_div]
  exact Finset.sum_congr rfl fun d _ => by ring

theorem weight_real (h : Fin 8) (R Q : Fin 8192) : weight (ventry (F := Ideal) m) c h R Q = (P (reals m c) h Q R : EReal) := by
  have hs : score (ventry (F := Ideal) m) c h R Q = if (reals m c).sees Q R then ((S (reals m c) h Q R / Real.log 2 : ℝ) : EReal) else ⊥ := by
    unfold score
    rw [dot_real m c hp]
    by_cases e : (reals m c).sees Q R
    · rw [if_pos e, if_pos ((seen_iff m c R Q).2 e)]
    · rw [if_neg e, if_neg fun h => e ((seen_iff m c R Q).1 h)]
  unfold weight
  rw [hs, aL_at m c hp, weight_eq (reals m c) h Q R ((holds _ _ _ _ _ hp).self Q)]

theorem slope_real (h : Fin 8) (R Q : Fin 8192) : slope (ventry (F := Ideal) m) c h R Q = (dS (reals m c) h Q R : EReal) := by
  unfold slope
  rw [weight_real m c hp, aD_at m c hp]
  simp only [aV_at m c hp, aG_at m c hp]
  rw [sum_coe_mul, ← EReal.coe_sub, ← EReal.coe_mul]
  have e : ∑ d : Fin 128, (reals m c).v h R d * (reals m c).g h Q d = dP (reals m c) h Q R := Finset.sum_congr rfl fun d _ => mul_comm _ _
  rw [e]
  rfl

theorem resV : outV m c = fun i => (dV (reals m c) (i 0) (i 1) (i 2) : EReal) := by
  rw [show outV m c = _ from finalV (ventry (F := Ideal) m) c (grows m c hp)]
  funext i
  obtain ⟨h, R, d, rfl⟩ : ∃ (h : Fin 8) (R : Fin 8192) (d : Fin 128), i = ix3 h R d := ⟨i 0, i 1, i 2, ValueIdx.eq_ix3 i⟩
  show ∑ Q : Fin 8192, weight (ventry (F := Ideal) m) c h R Q * aG (ventry (F := Ideal) m) c (ValueIdx.ix2 Q (colOf h d)) = (dV (reals m c) h R d : EReal)
  simp only [weight_real m c hp, aG_at m c hp]
  rw [sum_coe_mul]
  have e : ∑ Q : Fin 8192, P (reals m c) h Q R * (reals m c).g h Q d = dV (reals m c) h R d := Finset.sum_congr rfl fun Q _ => mul_comm _ _
  rw [e]

theorem resQ : mulf (outQ m c) (broadcastInDim S8x8192x256 ![] bcast_S_S8x8192x256 (constant S_ .f32 0x3D93CD3A#32))
    = fun i => (dQ (reals m c) (i 0) (i 1) (i 2) : EReal) := by
  rw [show outQ m c = _ from finalQ (ventry (F := Ideal) m) c (grows m c hp)]
  funext i
  obtain ⟨h, Q, d, rfl⟩ : ∃ (h : Fin 8) (Q : Fin 8192) (d : Fin 256), i = ix3 h Q d := ⟨i 0, i 1, i 2, ValueIdx.eq_ix3 i⟩
  show (∑ R : Fin 8192, slope (ventry (F := Ideal) m) c h R Q * aK (ventry (F := Ideal) m) c (ValueIdx.ix3 h R d)) * Ideal.ofBits .f32 0x3D93CD3A#32 = (dQ (reals m c) h Q d : EReal)
  simp only [slope_real m c hp, aK_at m c hp]
  rw [sum_coe_mul, (holds _ _ _ _ _ hp).scale, ← EReal.coe_mul]
  congr 1
  unfold dQ
  rw [Finset.sum_mul]
  exact Finset.sum_congr rfl fun R _ => by ring

theorem resK : mulf (outK m c) (broadcastInDim S8x8192x256 ![] bcast_S_S8x8192x256 (Host.log (constant S_ .f32 0x40000000#32)))
    = fun i => (dK (reals m c) (i 0) (i 1) (i 2) : EReal) := by
  rw [show outK m c = _ from finalK (ventry (F := Ideal) m) c (grows m c hp)]
  funext i
  obtain ⟨h, R, d, rfl⟩ : ∃ (h : Fin 8) (R : Fin 8192) (d : Fin 256), i = ix3 h R d := ⟨i 0, i 1, i 2, ValueIdx.eq_ix3 i⟩
  show (∑ Q : Fin 8192, slope (ventry (F := Ideal) m) c h R Q * aQ (ventry (F := Ideal) m) c (ValueIdx.ix3 h Q d)) * Ideal.log (Ideal.ofBits .f32 0x40000000#32) = (dK (reals m c) h R d : EReal)
  simp only [slope_real m c hp, aQ_at m c hp]
  rw [sum_coe_mul, Cert.Reference2Ideal.Attn.word_two, log_coe _ (by norm_num), ← EReal.coe_mul]
  congr 1
  unfold dK
  rw [Finset.sum_mul]
  have h2 := ln2_pos.ne'
  exact Finset.sum_congr rfl fun Q _ => by field_simp

end Cert.Kernel2Ideal.Attn

namespace Cert.Proof.Attn

open Cert.Kernel2Ideal.Attn AttnSpec

/-- The three results of the kernel are the gradients of the reference. -/
theorem algebraic : Cert.algebraic_Kernel2Ideal_Reference2Ideal_pre_ordered_and_finite := by
  intro m ρ m' ρ' hp hagree
  refine ⟨fun c => (fun i => (dQ (reals m c) (i 0) (i 1) (i 2) : EReal)), fun c => (fun i => (dK (reals m c) (i 0) (i 1) (i 2) : EReal)),
    fun c => (fun i => (dV (reals m c) (i 0) (i 1) (i 2) : EReal)), ?_, ?_⟩
  · exact (θ_run Cert.Kernel2Ideal.defs _ _).mono
      (fun _ h c => ⟨(h.1 c).1.1.trans (resQ m c (hp c)), (h.1 c).1.2.1.trans (resK m c (hp c)), (h.1 c).1.2.2.trans (resV m c (hp c)), (h.1 c).2⟩)
      (Cert.Kernel2Ideal.Attn.run (F := Ideal) m ρ)
  · refine (θ_run Cert.Reference2Ideal.defs _ _).mono (fun _ h c => ⟨(h c).1.trans ?_, (h c).2.1.trans ?_, (h c).2.2.1.trans ?_, (h c).2.2.2⟩)
      (Cert.Reference2Ideal.Value.run (F := Ideal) m' ρ')
    · rw [Cert.Reference2Ideal.Read.val_main_v63_eq, (hagree c).1, (hagree c).2.1, (hagree c).2.2.1, (hagree c).2.2.2.1, (hagree c).2.2.2.2]
      funext i
      obtain ⟨h, Q, d, rfl⟩ : ∃ (h : Fin 8) (Q : Fin 8192) (d : Fin 256), i = ix3 h Q d := ⟨i 0, i 1, i 2, ValueIdx.eq_ix3 i⟩
      exact Cert.Reference2Ideal.Attn.v63 (Cert.Reference2Ideal.Attn.holds _ _ _ _ _ (hp c)) h Q d
    · rw [Cert.Reference2Ideal.Read.val_main_v62_eq, (hagree c).1, (hagree c).2.1, (hagree c).2.2.1, (hagree c).2.2.2.1, (hagree c).2.2.2.2]
      funext i
      obtain ⟨h, R, d, rfl⟩ : ∃ (h : Fin 8) (R : Fin 8192) (d : Fin 256), i = ix3 h R d := ⟨i 0, i 1, i 2, ValueIdx.eq_ix3 i⟩
      exact Cert.Reference2Ideal.Attn.v62 (Cert.Reference2Ideal.Attn.holds _ _ _ _ _ (hp c)) h R d
    · rw [Cert.Reference2Ideal.Read.val_main_v45_eq, (hagree c).1, (hagree c).2.1, (hagree c).2.2.2.1, (hagree c).2.2.2.2]
      funext i
      obtain ⟨h, R, d, rfl⟩ : ∃ (h : Fin 8) (R : Fin 8192) (d : Fin 128), i = ix3 h R d := ⟨i 0, i 1, i 2, ValueIdx.eq_ix3 i⟩
      exact Cert.Reference2Ideal.Attn.v45 (Cert.Reference2Ideal.Attn.holds _ _ _ _ _ (hp c)) h R d

end Cert.Proof.Attn
end
-- ==== Proof.MlpDownDx.lean ====
/-
  The gradient of the squared rectifier's input in the feed-forward block: the rows a grid point computes, the whole
  array the kernel leaves, and the reference's, all at an index.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel3Ideal.MlpDown

open Cert.Kernel3Ideal Cert.Kernel3Ideal.Gen

/-- The slope of the squared rectifier. -/
def slope (u : EReal) : EReal := Ideal.ofBits .f32 0x40000000#32 * max u 0

/-- The gradient of the rectifier's input: the cotangent through the second weight, times the slope. -/
def du (dy : S8192x1024.Idx → EReal) (u : S8192x4096.Idx → EReal) (w : S4096x1024.Idx → EReal) (r : Fin 8192) (q : Fin 4096) : EReal :=
  (∑ k : Fin 1024, dy (ix2 r k) * w (ix2 q k)) * slope (u (ix2 r q))

variable (m : (ℓ : Loc nD τ sig) → Buf (Elt Ideal) ℓ) (c : Dev nD)

abbrev arg0 : FVec Ideal S8192x1024 .f32 := m ((c.tc : Thread nD τ).loc main_arg0)
abbrev arg1 : FVec Ideal S8192x4096 .f32 := m ((c.tc : Thread nD τ).loc main_arg1)
abbrev arg2 : FVec Ideal S4096x1024 .bf16 := m ((c.tc : Thread nD τ).loc main_arg2)

/-! ## The arrays the kernel is handed -/

def hSlope (u : FVec Ideal S8192x4096 .f32) : FVec Ideal S8192x4096 .bf16 :=
  truncf .bf16 (mulf (broadcastInDim S8192x4096 ![] bcast_S_S8192x4096 (constant S_ .f32 0x40000000#32))
    (maximumf u (broadcastInDim S8192x4096 ![] bcast_S_S8192x4096 (constant S_ .f32 0x00000000#32)))) bitsLt_bf16_f32
def hDy (dy : FVec Ideal S8192x1024 .f32) : FVec Ideal S8192x1024 .bf16 := truncf .bf16 dy bitsLt_bf16_f32
def hW (w : FVec Ideal S4096x1024 .bf16) : FVec Ideal S1x4096x1024 .bf16 :=
  broadcastInDim S1x4096x1024 ![1, 2] bcast_S4096x1024_S1x4096x1024_1_2 w

theorem entry_dy : V (F := Ideal) m c main_v4 = hDy (arg0 m c) := by
  show StableHlo.after (hostOps0 ++ hostOps0_1) (fun b => m (c, b)) _ = _
  simp only [List.cons_append, List.nil_append, hostOps0, hostOps0_1]
  after_results_simp <;> rfl

theorem entry_w : V (F := Ideal) m c main_v5 = hW (arg2 m c) := by
  show StableHlo.after (hostOps0 ++ hostOps0_1) (fun b => m (c, b)) _ = _
  simp only [List.cons_append, List.nil_append, hostOps0, hostOps0_1]
  after_results_simp <;> rfl

theorem entry_slope : V (F := Ideal) m c main_v3 = hSlope (arg1 m c) := by
  show StableHlo.after (hostOps0 ++ hostOps0_1) (fun b => m (c, b)) _ = _
  simp only [List.cons_append, List.nil_append, hostOps0, hostOps0_1]
  after_results_simp <;> rfl

theorem hSlope_apply (u : FVec Ideal S8192x4096 .f32) (r : Fin 8192) (q : Fin 4096) : hSlope u (ix2 r q) = slope (u (ix2 r q)) := by
  pointwise [hSlope, slope]

theorem hDy_apply (dy : FVec Ideal S8192x1024 .f32) (r : Fin 8192) (q : Fin 1024) : hDy dy (ix2 r q) = dy (ix2 r q) := by
  pointwise [hDy]

theorem hW_apply (w : FVec Ideal S4096x1024 .bf16) (e : Fin 1) (r : Fin 4096) (q : Fin 1024) : hW w (ix3 e r q) = w (ix2 r q) := by
  pointwise [hW]

/-! ## The blocks -/

theorem idx0 : ∀ t : Fin grid0.N, win0_0.index t 0 = t.val ∧ win0_0.index t 1 = 0 := by decide +kernel
theorem idx1 : ∀ t : Fin grid0.N, win0_1.index t 0 = 0 ∧ win0_1.index t 1 = 0 ∧ win0_1.index t 2 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel

theorem blk0 (t : Fin cfg0.N) (p : Fin 512) (q : Fin 1024) (r : Fin 8192) (hr : r.val = 512 * t.val + p.val) :
    (iblk m c 0 t : S512x1024.Idx → EReal) (ix2 p q) = arg0 m c (ix2 r q) := by
  unfold iblk
  rw [View.read_apply]
  show V m c main_v4 _ = _
  rw [entry_dy]
  refine Eq.trans ?_ (hDy_apply _ r q)
  congr 1
  funext a
  apply Fin.ext
  match a with
  | ⟨0, _⟩ => show win0_0.index t 0 * 512 + 1 * p.val = r.val; rw [(idx0 t).1]; omega
  | ⟨1, _⟩ => show win0_0.index t 1 * 1024 + 1 * q.val = q.val; rw [(idx0 t).2]; omega

theorem blk1 (t : Fin cfg0.N) (e : Fin 1) (p : Fin 4096) (q : Fin 1024) :
    (iblk m c 1 t : S1x4096x1024.Idx → EReal) (ix3 e p q) = arg2 m c (ix2 p q) := by
  unfold iblk
  rw [View.read_apply]
  show V m c main_v5 _ = _
  rw [entry_w]
  refine Eq.trans ?_ (hW_apply _ e p q)
  congr 1
  funext a
  apply Fin.ext
  match a with
  | ⟨0, _⟩ => show win0_1.index t 0 * 1 + 1 * e.val = e.val; rw [(idx1 t).1]; omega
  | ⟨1, _⟩ => show win0_1.index t 1 * 4096 + 1 * p.val = p.val; rw [(idx1 t).2.1]; omega
  | ⟨2, _⟩ => show win0_1.index t 2 * 1024 + 1 * q.val = q.val; rw [(idx1 t).2.2]; omega

theorem blk2 (t : Fin cfg0.N) (p : Fin 512) (q : Fin 4096) (r : Fin 8192) (hr : r.val = 512 * t.val + p.val) :
    (iblk m c 2 t : S512x4096.Idx → EReal) (ix2 p q) = slope (arg1 m c (ix2 r q)) := by
  unfold iblk
  rw [View.read_apply]
  show V m c main_v3 _ = _
  rw [entry_slope]
  refine Eq.trans ?_ (hSlope_apply _ r q)
  congr 1
  funext a
  apply Fin.ext
  match a with
  | ⟨0, _⟩ => show win0_2.index t 0 * 512 + 1 * p.val = r.val; rw [(idx2 t).1]; omega
  | ⟨1, _⟩ => show win0_2.index t 1 * 4096 + 1 * q.val = q.val; rw [(idx2 t).2]; omega

/-! ## What a point leaves -/

theorem hz : (![0, 0] : Fin 2 → Nat) = fun _ => 0 := funext fun a => by fin_cases a <;> rfl

/-- A row index of the whole array from a grid point and a row of its block. -/
abbrev row (t : Fin cfg0.N) (p : Fin 512) : Fin 8192 := ⟨512 * t.val + p.val, by
  have hN : t.val < 16 := lt_of_lt_of_eq t.isLt (show cfg0.N = 16 from N_0)
  omega⟩

/-- The gradient in the rows of point `t`. -/
abbrev rows (t : Fin cfg0.N) : S512x4096.Idx → EReal := fun i => du (arg0 m c) (arg1 m c) (arg2 m c) (row t (i 0)) (i 1)

/-- A block of the gradient at an index, from its three operands. -/
theorem tile (t : Fin cfg0.N) (p q : Fin 512) (o : ℕ) (ho : o + 512 ≤ 4096) (s : EReal) (f g : Fin 1024 → EReal)
    (hf : ∀ k, f k = arg0 m c (ix2 (row t p) k)) (hg : ∀ k, g k = arg2 m c (ix2 ⟨o + q.val, by omega⟩ k))
    (hs : s = slope (arg1 m c (ix2 (row t p) ⟨o + q.val, by omega⟩))) :
    (∑ k : Fin 1024, f k * g k) * s = du (arg0 m c) (arg1 m c) (arg2 m c) (row t p) ⟨o + q.val, by omega⟩ := by
  unfold du
  rw [hs]
  congr 1
  exact Finset.sum_congr rfl fun k _ => by rw [hf, hg]

/-- A tile's place in the block, at an index. -/
theorem at_emb (t : Fin cfg0.N) (p q : Fin 512) (o : ℕ) (ho : o + 512 ≤ 4096) (x : S512x4096.Idx)
    (hx : (x 0).val = p.val ∧ (x 1).val = o + q.val) :
    du (arg0 m c) (arg1 m c) (arg2 m c) (row t p) ⟨o + q.val, by omega⟩ = rows m c t x := by
  show _ = du _ _ _ (row t (x 0)) (x 1)
  congr 1
  · apply Fin.ext
    show 512 * t.val + p.val = 512 * t.val + (x 0).val
    rw [hx.1]
  · exact Fin.ext hx.2.symm

theorem out_eq (t : Fin cfg0.N) : (out0_3 (F := Ideal) (iblk m c 0 t) (iblk m c 1 t) (iblk m c 2 t) : S512x4096.Idx → EReal) = rows m c t := by
  unfold out0_3
  funext y
  refine View.canon_apply_of_pieces (Val := Elt Ideal) (e := .bf16) (rows m c t) _ ?_ y (cover0_3 ..)
  simp only [View.ld_unit_zero (S := S512x1024) hz]
  intro p hp
  simp only [List.mem_cons, List.not_mem_nil, or_false] at hp
  rcases hp with rfl | rfl | rfl | rfl | rfl | rfl | rfl | rfl
  all_goals
    intro x
    obtain ⟨p, q, rfl⟩ : ∃ (p : Fin 512) (q : Fin 512), x = ix2 p q := ⟨x 0, x 1, eq_ix2 x⟩
    pointwise [k0_pay11, k0_pay10, k0_pay9, k0_pay8, k0_pay7, k0_pay6, k0_pay5, k0_pay4, k0_pay3, k0_pay2, k0_pay1]
  · exact (tile m c t p q 3584 (by decide) _ _ _ (fun k => blk0 m c t p k _ rfl) (fun k => blk1 m c t 0 _ k) (blk2 m c t p _ _ rfl)).trans
      (at_emb m c t p q 3584 (by decide) _ (by constructor <;> (simp; try omega)))
  · exact (tile m c t p q 3072 (by decide) _ _ _ (fun k => blk0 m c t p k _ rfl) (fun k => blk1 m c t 0 _ k) (blk2 m c t p _ _ rfl)).trans
      (at_emb m c t p q 3072 (by decide) _ (by constructor <;> (simp; try omega)))
  · exact (tile m c t p q 2560 (by decide) _ _ _ (fun k => blk0 m c t p k _ rfl) (fun k => blk1 m c t 0 _ k) (blk2 m c t p _ _ rfl)).trans
      (at_emb m c t p q 2560 (by decide) _ (by constructor <;> (simp; try omega)))
  · exact (tile m c t p q 2048 (by decide) _ _ _ (fun k => blk0 m c t p k _ rfl) (fun k => blk1 m c t 0 _ k) (blk2 m c t p _ _ rfl)).trans
      (at_emb m c t p q 2048 (by decide) _ (by constructor <;> (simp; try omega)))
  · exact (tile m c t p q 1536 (by decide) _ _ _ (fun k => blk0 m c t p k _ rfl) (fun k => blk1 m c t 0 _ k) (blk2 m c t p _ _ rfl)).trans
      (at_emb m c t p q 1536 (by decide) _ (by constructor <;> (simp; try omega)))
  · exact (tile m c t p q 1024 (by decide) _ _ _ (fun k => blk0 m c t p k _ rfl) (fun k => blk1 m c t 0 _ k) (blk2 m c t p _ _ rfl)).trans
      (at_emb m c t p q 1024 (by decide) _ (by constructor <;> (simp; try omega)))
  · exact (tile m c t p q 512 (by decide) _ _ _ (fun k => blk0 m c t p k _ rfl) (fun k => blk1 m c t 0 _ k) (blk2 m c t p _ _ rfl)).trans
      (at_emb m c t p q 512 (by decide) _ (by constructor <;> (simp; try omega)))
  · exact (tile m c t p q 0 (by decide) _ _ _ (fun k => blk0 m c t p k _ rfl) (fun k => (congrArg (fun j => iblk m c 1 t (ix3 0 j k)) (Fin.ext (Nat.zero_add _).symm)).trans (blk1 m c t 0 _ k)) ((congrArg (fun j => iblk m c 2 t (ix2 p j)) (Fin.ext (Nat.zero_add _).symm)).trans (blk2 m c t p _ _ rfl))).trans
      (at_emb m c t p q 0 (by decide) _ (by constructor <;> (simp; try omega)))

/-! ## The whole array -/

theorem mem_blk3 (t : Fin cfg0.N) (i : S8192x4096.Idx) (h : 512 * t.val ≤ (i 0 : Nat) ∧ (i 0 : Nat) < 512 * t.val + 512) :
    i ∈ ((cfg0.win 3).blk t).view.set := by
  show i ∈ ((View.whole main_v6).slice (win0_3.rect t)).set
  rw [View.set_slice_whole, Rect.mem_set_unit]
  have h1 : (i 1 : Nat) < 4096 := (i 1).isLt
  intro a
  match a with
  | ⟨0, _⟩ => show win0_3.index t 0 * 512 ≤ (i 0 : Nat) ∧ (i 0 : Nat) < win0_3.index t 0 * 512 + 512; rw [(idx3 t).1]; omega
  | ⟨1, _⟩ => show win0_3.index t 1 * 4096 ≤ (i 1 : Nat) ∧ (i 1 : Nat) < win0_3.index t 1 * 4096 + 4096; rw [(idx3 t).2]; omega

theorem final3 : (dats m 0 c).arrAt 3 cfg0.N
    = ((fun i => du (arg0 m c) (arg1 m c) (arg2 m c) (i 0) (i 1)) : S8192x4096.Idx → EReal) := by
  refine (dats m 0 c).arrAt_eq_of_cover 3 _ (fun t _ => ?_) fun i => ?_
  · rw [Value.flushed3, out_eq]
    funext j
    rw [View.read_apply]
    show du _ _ _ _ _ = du _ _ _ _ _
    congr 1
    · apply Fin.ext
      show 512 * t.val + (j 0).val = win0_3.index t 0 * 512 + 1 * (j 0).val
      rw [(idx3 t).1]; omega
    · apply Fin.ext
      show (j 1).val = win0_3.index t 1 * 4096 + 1 * (j 1).val
      rw [(idx3 t).2]; omega
  · have h0 : (i 0).val < 8192 := (i 0).isLt
    have hN : cfg0.N = 16 := N_0
    refine ⟨⟨(i 0).val / 512, by rw [hN]; omega⟩, flush0_3 _, ?_⟩
    refine mem_blk3 _ i ?_
    simp only
    omega

end Cert.Kernel3Ideal.MlpDown

namespace Cert.Proof.MlpDown

open Cert.Kernel3Ideal.MlpDown

/-! ## The reference and the claims -/

/-- The mask of the rectifier's gradient changes nothing: the slope is zero where the input is not positive. -/
theorem mask (x a : EReal) : (if 0 < x then a * Cert.Kernel3Ideal.MlpDown.slope x else 0) = a * Cert.Kernel3Ideal.MlpDown.slope x := by
  by_cases h : 0 < x
  · rw [if_pos h]
  · rw [if_neg h, Cert.Kernel3Ideal.MlpDown.slope, max_eq_right (not_lt.mp h), mul_zero, mul_zero]

open Cert.Reference3Ideal Cert.Reference3Ideal.Read in
theorem reference (dy : FVec Ideal S8192x1024 .f32) (u : FVec Ideal S8192x4096 .f32) (w : FVec Ideal S4096x1024 .bf16)
    (r : Fin 8192) (q : Fin 4096) : val_main_v13 (F := Ideal) dy u w (ix2 r q) = du dy u w r q := by
  pointwise [val_main_v13, val_main_v12, val_main_v2, val_main_v10, val_main_v11, val_main_v9, val_main_v6, val_main_v7,
    val_main_v5, val_main_v0, val_main_v1, val_main_cst_2, val_main_cst_1, val_main_cst, val_main_call0_v0, val_main_call0_cst]
  exact mask _ _

/-- The reference runs, leaves its arguments alone and ends with every semaphore at zero. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's result is the gradient of the reference. -/
theorem algebraic : Cert.algebraic_Kernel3Ideal_Reference3Ideal := by
  intro m ρ m' ρ' _ hagree
  refine ⟨fun c => (fun i => du (arg0 m c) (arg1 m c) (arg2 m c) (i 0) (i 1) : Cert.Kernel3Ideal.S8192x4096.Idx → EReal), ?_, ?_⟩
  · exact (θ_run Cert.Kernel3Ideal.defs _ _).mono
      (fun _ h c => ⟨(h c).1.trans (final3 m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    rw [Cert.Reference3Ideal.Read.val_main_v13_eq, (hagree c).1, (hagree c).2.1, (hagree c).2.2]
    funext i
    rw [eq_ix2 i]
    exact reference _ _ _ _ _

end Cert.Proof.MlpDown
end
-- ==== Proof.MlpDownDw.lean ====
/-
  The gradient of the feed-forward block's second weight: what the grid points add up in the scratch buffer, the whole
  array the kernel leaves, and the reference's, all at an index.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel4Ideal.MlpDw

open Cert.Kernel4Ideal Cert.Kernel4Ideal.Gen

/-- The squared rectifier. -/
def square (u : EReal) : EReal := max u 0 * max u 0

/-- The product of the activation's and the cotangent's columns at one row. -/
def term (dy : S8192x1024.Idx → EReal) (u : S8192x4096.Idx → EReal) (p : Fin 4096) (q : Fin 1024) (k : Fin 8192) : EReal :=
  square (u (ix2 k p)) * dy (ix2 k q)

/-- The weight's gradient. -/
def dw (dy : S8192x1024.Idx → EReal) (u : S8192x4096.Idx → EReal) (p : Fin 4096) (q : Fin 1024) : EReal := ∑ k, term dy u p q k

variable (m : (ℓ : Loc nD τ sig) → Buf (Elt Ideal) ℓ) (c : Dev nD)

abbrev arg0 : FVec Ideal S8192x1024 .f32 := m ((c.tc : Thread nD τ).loc main_arg0)
abbrev arg1 : FVec Ideal S8192x4096 .f32 := m ((c.tc : Thread nD τ).loc main_arg1)

/-! ## The arrays the kernel is handed -/

def hRelu (u : FVec Ideal S8192x4096 .f32) : FVec Ideal S8192x4096 .f32 :=
  maximumf u (broadcastInDim S8192x4096 ![] bcast_S_S8192x4096 (constant S_ .f32 0x00000000#32))
def hAct (u : FVec Ideal S8192x4096 .f32) : FVec Ideal S8192x4096 .bf16 := truncf .bf16 (mulf (hRelu u) (hRelu u)) bitsLt_bf16_f32
def hDy (dy : FVec Ideal S8192x1024 .f32) : FVec Ideal S8192x1024 .bf16 := truncf .bf16 dy bitsLt_bf16_f32

theorem entry_act : V (F := Ideal) m c main_v2 = hAct (arg1 m c) := by
  show StableHlo.after (hostOps0 ++ hostOps0_1) (fun b => m (c, b)) _ = _
  simp only [List.cons_append, List.nil_append, hostOps0, hostOps0_1]
  after_results_simp <;> rfl

theorem entry_dy : V (F := Ideal) m c main_v3 = hDy (arg0 m c) := by
  show StableHlo.after (hostOps0 ++ hostOps0_1) (fun b => m (c, b)) _ = _
  simp only [List.cons_append, List.nil_append, hostOps0, hostOps0_1]
  after_results_simp <;> rfl

theorem hAct_apply (u : FVec Ideal S8192x4096 .f32) (r : Fin 8192) (q : Fin 4096) : hAct u (ix2 r q) = square (u (ix2 r q)) := by
  pointwise [hAct, hRelu, square]

theorem hDy_apply (dy : FVec Ideal S8192x1024 .f32) (r : Fin 8192) (q : Fin 1024) : hDy dy (ix2 r q) = dy (ix2 r q) := by
  pointwise [hDy]

/-! ## The blocks -/

theorem idx0 : ∀ t : Fin grid0.N, win0_0.index t 0 = t.val % 4 ∧ win0_0.index t 1 = t.val / 4 := by decide +kernel
theorem idx1 : ∀ t : Fin grid0.N, win0_1.index t 0 = t.val % 4 ∧ win0_1.index t 1 = 0 := by decide +kernel
theorem idx2 : ∀ t : Fin grid0.N, win0_2.index t 0 = 0 ∧ win0_2.index t 1 = t.val / 4 ∧ win0_2.index t 2 = 0 := by decide +kernel

theorem blk0 (t : Fin cfg0.N) (p : Fin 2048) (q : Fin 1024) (r : Fin 8192) (s : Fin 4096) (hr : r.val = 2048 * (t.val % 4) + p.val)
    (hs : s.val = 1024 * (t.val / 4) + q.val) :
    (iblk m c 0 t : S2048x1024.Idx → EReal) (ix2 p q) = square (arg1 m c (ix2 r s)) := by
  unfold iblk
  rw [View.read_apply]
  show V m c main_v2 _ = _
  rw [entry_act]
  refine Eq.trans ?_ (hAct_apply _ r s)
  congr 1
  funext a
  apply Fin.ext
  match a with
  | ⟨0, _⟩ => show win0_0.index t 0 * 2048 + 1 * p.val = r.val; rw [(idx0 t).1]; omega
  | ⟨1, _⟩ => show win0_0.index t 1 * 1024 + 1 * q.val = s.val; rw [(idx0 t).2]; omega

theorem blk1 (t : Fin cfg0.N) (p : Fin 2048) (q : Fin 1024) (r : Fin 8192) (hr : r.val = 2048 * (t.val % 4) + p.val) :
    (iblk m c 1 t : S2048x1024.Idx → EReal) (ix2 p q) = arg0 m c (ix2 r q) := by
  unfold iblk
  rw [View.read_apply]
  show V m c main_v3 _ = _
  rw [entry_dy]
  refine Eq.trans ?_ (hDy_apply _ r q)
  congr 1
  funext a
  apply Fin.ext
  match a with
  | ⟨0, _⟩ => show win0_1.index t 0 * 2048 + 1 * p.val = r.val; rw [(idx1 t).1]; omega
  | ⟨1, _⟩ => show win0_1.index t 1 * 1024 + 1 * q.val = q.val; rw [(idx1 t).2]; omega

/-! ## What each case leaves -/

theorem hz2 : (![0, 0] : Fin 2 → Nat) = fun _ => 0 := funext fun a => by fin_cases a <;> rfl
theorem hz3 : (![0, 0, 0] : Fin 3 → Nat) = fun _ => 0 := funext fun a => by fin_cases a <;> rfl

theorem scratch_A (i : grid0.Coords) (a0 : Memref sig .tc .vmem S2048x1024 .bf16) (h0 : a0.IsWhole) (a1 : Memref sig .tc .vmem S2048x1024 .bf16) (h1 : a1.IsWhole)
    (a2 : Memref sig .tc .vmem S1x1024x1024 .bf16) (h2 : a2.IsWhole) (a3 : Memref sig .tc .vmem S1x1024x1024 .f32) (h3 : a3.IsWhole)
    (hc0 : cond0_0 i) (hc1 : ¬cond0_1 i) (x0 x1 : Vec Ideal S2048x1024 .bf16) :
    sout0_A_0 c i a0 h0 a1 h1 a2 h2 a3 h3 hc0 hc1 x0 x1 = k0_pay2 x0 (k0_pay1 (F := Ideal)) x1 := by
  unfold sout0_A_0
  rw [View.read_writes_eq_canon _ _ _ (fun y => scover0_A_0 ..)]
  unfold kernelRun0_A
  dsimp only
  sl_unfold_words
  rw [View.canon_cons_unit_zero (S := S1x1024x1024) hz3, View.readCov_unit_zero (S := S1x1024x1024) _ hz3]
  simp only [View.readAt_eq_ld, h0.read_unread, h1.read_unread, View.ld_unit_zero (S := S2048x1024) hz2]

theorem scratch_B (i : grid0.Coords) (a0 : Memref sig .tc .vmem S2048x1024 .bf16) (h0 : a0.IsWhole) (a1 : Memref sig .tc .vmem S2048x1024 .bf16) (h1 : a1.IsWhole)
    (a2 : Memref sig .tc .vmem S1x1024x1024 .bf16) (h2 : a2.IsWhole) (a3 : Memref sig .tc .vmem S1x1024x1024 .f32) (h3 : a3.IsWhole)
    (hc0 : ¬cond0_0 i) (hc1 : ¬cond0_1 i) (x0 x1 : Vec Ideal S2048x1024 .bf16) (s : Vec Ideal S1x1024x1024 .f32) :
    sout0_B_0 c i a0 h0 a1 h1 a2 h2 a3 h3 hc0 hc1 x0 x1 s = k0_pay2 x0 s x1 := by
  unfold sout0_B_0
  rw [View.read_writes_eq_canon _ _ _ (fun y => scover0_B_0 ..)]
  unfold kernelRun0_B
  dsimp only
  sl_unfold_words
  rw [View.canon_unit_zero hz3]
  simp only [View.readAt_eq_ld, h0.read_unread, h1.read_unread, h3.read_unread, View.ld_unit_zero (S := S2048x1024) hz2,
    View.ld_unit_zero (S := S1x1024x1024) hz3]

theorem scratch_C (i : grid0.Coords) (a0 : Memref sig .tc .vmem S2048x1024 .bf16) (h0 : a0.IsWhole) (a1 : Memref sig .tc .vmem S2048x1024 .bf16) (h1 : a1.IsWhole)
    (a2 : Memref sig .tc .vmem S1x1024x1024 .bf16) (h2 : a2.IsWhole) (a3 : Memref sig .tc .vmem S1x1024x1024 .f32) (h3 : a3.IsWhole)
    (hc0 : ¬cond0_0 i) (hc1 : cond0_1 i) (x0 x1 : Vec Ideal S2048x1024 .bf16) (s : Vec Ideal S1x1024x1024 .f32) :
    sout0_C_0 c i a0 h0 a1 h1 a2 h2 a3 h3 hc0 hc1 x0 x1 s = k0_pay2 x0 s x1 := by
  unfold sout0_C_0
  rw [View.read_writes_eq_canon _ _ _ (fun y => scover0_C_0 ..)]
  unfold kernelRun0_C
  dsimp only
  sl_unfold_words
  rw [View.canon_unit_zero hz3]
  simp only [View.readAt_eq_ld, h0.read_unread, h1.read_unread, h3.read_unread, View.ld_unit_zero (S := S2048x1024) hz2,
    View.ld_unit_zero (S := S1x1024x1024) hz3]

theorem out_C (i : grid0.Coords) (a0 : Memref sig .tc .vmem S2048x1024 .bf16) (h0 : a0.IsWhole) (a1 : Memref sig .tc .vmem S2048x1024 .bf16) (h1 : a1.IsWhole)
    (a2 : Memref sig .tc .vmem S1x1024x1024 .bf16) (h2 : a2.IsWhole) (a3 : Memref sig .tc .vmem S1x1024x1024 .f32) (h3 : a3.IsWhole)
    (hc0 : ¬cond0_0 i) (hc1 : cond0_1 i) (x0 x1 : Vec Ideal S2048x1024 .bf16) (s : Vec Ideal S1x1024x1024 .f32) :
    out0_C_2 c i a0 h0 a1 h1 a2 h2 a3 h3 hc0 hc1 x0 x1 s = k0_pay3 (k0_pay2 x0 s x1) := by
  unfold out0_C_2
  rw [View.read_writes_eq_canon _ _ _ (fun y => cover0_C_2 ..)]
  unfold kernelRun0_C
  dsimp only
  sl_unfold_words
  rw [View.canon_unit_zero hz3, View.readCov_unit_zero (S := S1x1024x1024) _ hz3]
  simp only [View.readAt_eq_ld, h0.read_unread, h1.read_unread, h3.read_unread, View.ld_unit_zero (S := S2048x1024) hz2,
    View.ld_unit_zero (S := S1x1024x1024) hz3]

theorem pay2_apply (x0 x1 : Vec Ideal S2048x1024 .bf16) (s : Vec Ideal S1x1024x1024 .f32) (e : Fin 1) (p q : Fin 1024) :
    k0_pay2 (F := Ideal) x0 s x1 (ix3 e p q) = s (ix3 e p q) + ∑ k : Fin 2048, x0 (ix2 k p) * x1 (ix2 k q) := by
  obtain rfl : e = 0 := Subsingleton.elim _ _
  pointwise [k0_pay2]

theorem pay1_apply (e : Fin 1) (p q : Fin 1024) : k0_pay1 (F := Ideal) (ix3 e p q) = 0 := by
  pointwise [k0_pay1]

/-! ## The running sum -/

/-- What the point at step `s` of block `b` adds. -/
abbrev part (b s : ℕ) (p q : Fin 1024) : EReal := ∑ k : Fin 2048,
  if h : b < 4 ∧ s < 4 then term (arg0 m c) (arg1 m c) ⟨1024 * b + p.val, by omega⟩ q ⟨2048 * s + k.val, by omega⟩ else 0

/-- The activation's block of one point. -/
abbrev actBlk (t : Fin cfg0.N) : S2048x1024.Idx → EReal := iblk m c 0 t

/-- The cotangent's block of one point. -/
abbrev dyBlk (t : Fin cfg0.N) : S2048x1024.Idx → EReal := iblk m c 1 t

theorem part_eq (t : Fin cfg0.N) (p q : Fin 1024) :
    ∑ k : Fin 2048, actBlk m c t (ix2 k p) * dyBlk m c t (ix2 k q)
      = part m c (t.val / 4) (t.val % 4) p q := by
  have hN : t.val < 16 := lt_of_lt_of_eq t.isLt (show cfg0.N = 16 from N_0)
  refine Finset.sum_congr rfl fun k _ => ?_
  rw [dif_pos (by omega)]
  exact congrArg₂ (· * ·) (blk0 m c t k p ⟨2048 * (t.val % 4) + k.val, by omega⟩ ⟨1024 * (t.val / 4) + p.val, by omega⟩ rfl rfl)
    (blk1 m c t k q ⟨2048 * (t.val % 4) + k.val, by omega⟩ rfl)

theorem sum_eq : ∀ (n : ℕ) (h : n < cfg0.N) (e : Fin 1) (p q : Fin 1024), ((outsAt0 m c n h).2 : S1x1024x1024.Idx → EReal) (ix3 e p q)
    = ∑ s ∈ Finset.range (n % 4 + 1), part m c (n / 4) s p q := by
  intro n
  induction n with
  | zero =>
    intro h e p q
    rw [outsAt0_A m c ⟨0, h⟩ rfl (by simp)]
    dsimp only
    rw [scratch_A, pay2_apply, pay1_apply, part_eq]
    simp
  | succ n ih =>
    intro h e p q
    have hN : n + 1 < 16 := lt_of_lt_of_eq h (show cfg0.N = 16 from N_0)
    by_cases h0 : (n + 1) % 4 = 0
    · rw [outsAt0_A m c ⟨n + 1, h⟩ h0 (by simp only; omega)]
      dsimp only
      rw [scratch_A, pay2_apply, pay1_apply, part_eq]
      simp [h0]
    · have e1 : (n + 1) % 4 = n % 4 + 1 := by omega
      have e2 : (n + 1) / 4 = n / 4 := by omega
      have step : ((outsAt0 m c (n + 1) h).2 : S1x1024x1024.Idx → EReal) (ix3 e p q)
          = ((outsAt0 m c n (by omega)).2 : S1x1024x1024.Idx → EReal) (ix3 e p q) + part m c ((n + 1) / 4) ((n + 1) % 4) p q := by
        by_cases h1 : (n + 1) % 4 = 3
        · rw [outsAt0_C m c ⟨n + 1, h⟩ h0 h1]
          dsimp only
          rw [scratch_C, pay2_apply, part_eq]
          rfl
        · rw [outsAt0_B m c ⟨n + 1, h⟩ h0 h1]
          dsimp only
          rw [scratch_B, pay2_apply, part_eq]
          rfl
      rw [step, ih, e1, e2, Finset.sum_range_succ _ (n % 4 + 1)]

/-- The four steps of a block are the whole sum over the rows. -/
theorem parts (b : ℕ) (hb : b < 4) (p q : Fin 1024) :
    ∑ s ∈ Finset.range 4, part m c b s p q = dw (arg0 m c) (arg1 m c) ⟨1024 * b + p.val, by omega⟩ q := by
  unfold dw part
  rw [Finset.sum_range, ← Finset.sum_product']
  refine Finset.sum_nbij' (fun x : Fin 4 × Fin 2048 => (⟨2048 * x.1.val + x.2.val, by omega⟩ : Fin 8192))
    (fun r => (⟨r.val / 2048, by omega⟩, ⟨r.val % 2048, by omega⟩)) (by simp) (by simp) ?_ ?_ ?_
  · rintro ⟨x, y⟩ _
    ext <;> simp only <;> omega
  · intro r _
    ext
    simp only
    omega
  · rintro ⟨x, y⟩ _
    exact dif_pos ⟨hb, x.isLt⟩

theorem out_eq (t : Fin cfg0.N) (ht : t.val % 4 = 3) (e : Fin 1) (p q : Fin 1024) :
    ((outsAt0 m c t.val t.isLt).1 : S1x1024x1024.Idx → EReal) (ix3 e p q)
      = dw (arg0 m c) (arg1 m c) ⟨1024 * (t.val / 4) + p.val, by
          have hN : t.val < 16 := lt_of_lt_of_eq t.isLt (show cfg0.N = 16 from N_0)
          omega⟩ q := by
  have hN : t.val < 16 := lt_of_lt_of_eq t.isLt (show cfg0.N = 16 from N_0)
  have h2 := sum_eq m c t.val t.isLt e p q
  rw [ht, parts m c _ (by omega)] at h2
  rw [← h2, outsAt0_C m c t (by omega) ht]
  dsimp only
  rw [out_C, scratch_C]
  rfl

theorem final2 : (dats m 0 c).arrAt 2 cfg0.N
    = ((fun i => dw (arg0 m c) (arg1 m c) (i 1) (i 2)) : S1x4096x1024.Idx → EReal) := by
  refine (dats m 0 c).arrAt_eq_of_cover 2 _ (fun t hf => ?_) fun i => ?_
  · have ht : t.val % 4 = 3 := (flush0_2 t).mp hf
    rw [Value.flushed2]
    funext j
    rw [View.read_apply]
    obtain ⟨e, p, q, rfl⟩ : ∃ (e : Fin 1) (p q : Fin 1024), j = ix3 e p q := ⟨j 0, j 1, j 2, eq_ix3 j⟩
    refine (out_eq m c t ht e p q).trans ?_
    show dw _ _ _ _ = dw _ _ _ _
    congr 1
    · apply Fin.ext
      show 1024 * (t.val / 4) + p.val = win0_2.index t 1 * 1024 + 1 * p.val
      rw [(idx2 t).2.1]; omega
    · apply Fin.ext
      show q.val = win0_2.index t 2 * 1024 + 1 * q.val
      rw [(idx2 t).2.2]; omega
  · exact (Value.covered_iff2 i).2 (by
      have h0 : (i 0).val < 1 := (i 0).isLt
      have h1 : (i 1).val < 4096 := (i 1).isLt
      have h2 : (i 2).val < 1024 := (i 2).isLt
      omega)

end Cert.Kernel4Ideal.MlpDw

namespace Cert.Proof.MlpDw

open Cert.Kernel4Ideal.MlpDw

/-! ## The reference and the claims -/

open Cert.Reference4Ideal Cert.Reference4Ideal.Read in
theorem reference (dy : FVec Ideal S8192x1024 .f32) (u : FVec Ideal S8192x4096 .f32)
    (e : Fin 1) (r : Fin 4096) (q : Fin 1024) : val_main_v7 (F := Ideal) dy u (ix3 e r q) = dw dy u r q := by
  pointwise [val_main_v7, val_main_v6, val_main_v5, val_main_v4, val_main_v2, val_main_v1, val_main_call0_v0, val_main_call0_cst]
  exact Finset.sum_congr rfl fun k _ => mul_comm _ _

/-- The reference runs, leaves its arguments alone and ends with every semaphore at zero. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel's result is the gradient of the reference. -/
theorem algebraic : Cert.algebraic_Kernel4Ideal_Reference4Ideal := by
  intro m ρ m' ρ' _ hagree
  refine ⟨fun c => (fun i => dw (arg0 m c) (arg1 m c) (i 1) (i 2) : Cert.Kernel4Ideal.S1x4096x1024.Idx → EReal), ?_, ?_⟩
  · exact (θ_run Cert.Kernel4Ideal.defs _ _).mono
      (fun _ h c => ⟨(h c).1.trans (final2 m c), (h c).2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    rw [Cert.Reference4Ideal.Read.val_main_v7_eq, (hagree c).1, (hagree c).2]
    funext i
    rw [eq_ix3 i]
    exact reference _ _ _ _ _

end Cert.Proof.MlpDw
end
-- ==== Proof.MlpUpDw.lean ====
/-
  The gradient of the feed-forward block's first weight: what the grid points add up in the scratch buffer's two halves,
  the whole array the kernel leaves, and the reference's, all at an index.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel5Ideal.MlpUpDw

open Cert.Kernel5Ideal Cert.Kernel5Ideal.Gen

/-- The normalised input. -/
def normed (x : S8192x1024.Idx → EReal) (g : S1024.Idx → EReal) (r : Fin 8192) (k : Fin 1024) : EReal :=
  x (ix2 r k) * Ideal.rsqrt (Ideal.div (∑ j : Fin 1024, x (ix2 r j) * x (ix2 r j)) (Ideal.ofBits .f32 0x44800000#32)
    + Ideal.ofBits .f32 0x358637BD#32) * g (ix1 k)

/-- The product of the normalised input and the cotangent at one row. -/
def term (du : S8192x4096.Idx → EReal) (x : S8192x1024.Idx → EReal) (g : S1024.Idx → EReal) (p : Fin 1024) (q : Fin 4096) (r : Fin 8192) : EReal :=
  normed x g r p * du (ix2 r q)

/-- The weight's gradient. -/
def dw (du : S8192x4096.Idx → EReal) (x : S8192x1024.Idx → EReal) (g : S1024.Idx → EReal) (p : Fin 1024) (q : Fin 4096) : EReal :=
  ∑ r, term du x g p q r

/-- It by group of columns. -/
def grouped (du : S8192x4096.Idx → EReal) (x : S8192x1024.Idx → EReal) (g : S1024.Idx → EReal) (e : Fin 8) (p : Fin 1024) (q : Fin 512) : EReal :=
  dw du x g p ⟨512 * e.val + q.val, by omega⟩

variable (m : (ℓ : Loc nD τ sig) → Buf (Elt Ideal) ℓ) (c : Dev nD)

abbrev arg0 : FVec Ideal S8192x4096 .bf16 := m ((c.tc : Thread nD τ).loc main_arg0)
abbrev arg1 : FVec Ideal S8192x1024 .f32 := m ((c.tc : Thread nD τ).loc main_arg1)
abbrev arg2 : FVec Ideal S1024 .f32 := m ((c.tc : Thread nD τ).loc main_arg2)

/-! ## The arrays the kernel is handed -/

/-- The mean square of the rows plus the small number, before the root. -/
abbrev msH (x : FVec Ideal S8192x1024 .f32) : FVec Ideal S8192x1 .f32 :=
  addf (Host.divf (broadcastInDim S8192x1 ![0] bcast_S8192_S8192x1_0
      (Host.reduceAdd (mulf x x) (constant S_ .f32 0x00000000#32) reducesTo_S8192x1024_S8192_d1 h_S_))
      (broadcastInDim S8192x1 ![] bcast_S_S8192x1 (constant S_ .f32 0x44800000#32)))
    (broadcastInDim S8192x1 ![] bcast_S_S8192x1 (constant S_ .f32 0x358637BD#32))

/-- The normalised input, its axes exchanged. -/
abbrev hH (x : FVec Ideal S8192x1024 .f32) (g : FVec Ideal S1024 .f32) : FVec Ideal S1024x8192 .bf16 :=
  transpose S1024x8192 [1, 0] (truncf .bf16 (mulf (mulf x
      (broadcastInDim S8192x1024 ![0, 1] bcast_S8192x1_S8192x1024_0_1 (Host.rsqrt (msH x))))
      (broadcastInDim S8192x1024 ![0, 1] bcast_S1x1024_S8192x1024_0_1 (broadcastInDim S1x1024 ![1] bcast_S1024_S1x1024_1 g))) bitsLt_bf16_f32)
    transposes_S8192x1024_S1024x8192_1_0

theorem hH_apply (x : FVec Ideal S8192x1024 .f32) (g : FVec Ideal S1024 .f32) (p : Fin 1024) (r : Fin 8192) :
    hH x g (ix2 p r) = normed x g r p := by
  unfold normed
  pointwise [hH, msH]

theorem entry_h : V m c main_v14 = hH (arg1 m c) (arg2 m c) := by
  show StableHlo.after hostOps0 (fun b => m (c, b)) _ = _
  simp only [hostOps0]
  after_results_simp <;> rfl

theorem entry_du : V m c main_arg0 = arg0 m c := by
  show StableHlo.after hostOps0 (fun b => m (c, b)) _ = _
  simp only [hostOps0]
  after_results_simp <;> rfl

/-! ## The blocks -/

theorem idx0 : ∀ t : Fin grid0.N, win0_0.index t 0 = 0 ∧ win0_0.index t 1 = t.val % 4 := by decide +kernel
theorem idx1 : ∀ t : Fin grid0.N, win0_1.index t 0 = t.val % 4 ∧ win0_1.index t 1 = t.val / 4 := by decide +kernel
theorem idx2 : ∀ t : Fin grid0.N, win0_2.index t 0 = t.val / 4 ∧ win0_2.index t 1 = 0 ∧ win0_2.index t 2 = 0 := by decide +kernel

/-- The normalised input's block of one point. -/
abbrev hBlk (t : Fin cfg0.N) : S1024x2048.Idx → EReal := iblk m c 0 t

/-- The cotangent's block of one point. -/
abbrev duBlk (t : Fin cfg0.N) : S2048x1024.Idx → EReal := iblk m c 1 t

theorem blk0 (t : Fin cfg0.N) (p : Fin 1024) (k : Fin 2048) (r : Fin 8192) (hr : r.val = 2048 * (t.val % 4) + k.val) :
    hBlk m c t (ix2 p k) = normed (arg1 m c) (arg2 m c) r p := by
  unfold hBlk iblk
  rw [View.read_apply]
  show V m c main_v14 _ = _
  rw [entry_h]
  refine Eq.trans ?_ (hH_apply _ _ p r)
  congr 1
  funext a
  apply Fin.ext
  match a with
  | ⟨0, _⟩ => show win0_0.index t 0 * 1024 + 1 * p.val = p.val; rw [(idx0 t).1]; omega
  | ⟨1, _⟩ => show win0_0.index t 1 * 2048 + 1 * k.val = r.val; rw [(idx0 t).2]; omega

theorem blk1 (t : Fin cfg0.N) (k : Fin 2048) (q : Fin 1024) (r : Fin 8192) (s : Fin 4096) (hr : r.val = 2048 * (t.val % 4) + k.val)
    (hs : s.val = 1024 * (t.val / 4) + q.val) : duBlk m c t (ix2 k q) = arg0 m c (ix2 r s) := by
  unfold duBlk iblk
  rw [View.read_apply]
  show V m c main_arg0 _ = _
  rw [entry_du]
  congr 1
  funext a
  apply Fin.ext
  match a with
  | ⟨0, _⟩ => show win0_1.index t 0 * 2048 + 1 * k.val = r.val; rw [(idx1 t).1]; omega
  | ⟨1, _⟩ => show win0_1.index t 1 * 1024 + 1 * q.val = s.val; rw [(idx1 t).2]; omega

/-! ## What each case leaves -/

theorem hz2 : (![0, 0] : Fin 2 → Nat) = fun _ => 0 := funext fun a => by fin_cases a <;> rfl
theorem hz3 : (![0, 0, 0] : Fin 3 → Nat) = fun _ => 0 := funext fun a => by fin_cases a <;> rfl

/-- The two halves of the scratch buffer. -/
abbrev half0 : Rect S2x1024x512 := Rect.unit (s := S2x1024x512) ![0, 0, 0] ![1, 1024, 512] inb_S2x1024x512_S1x1024x512_0_0_0
abbrev half1 : Rect S2x1024x512 := Rect.unit (s := S2x1024x512) ![1, 0, 0] ![1, 1024, 512] inb_S2x1024x512_S1x1024x512_1_0_0

theorem emb0 (p : Fin 1024) (q : Fin 512) : half0.emb (ix3 0 p q) = ix3 0 p q := by
  funext a
  apply Fin.ext
  match a with
  | ⟨0, _⟩ => rfl
  | ⟨1, _⟩ => show 0 + 1 * p.val = p.val; omega
  | ⟨2, _⟩ => show 0 + 1 * q.val = q.val; omega

theorem emb1 (p : Fin 1024) (q : Fin 512) : half1.emb (ix3 0 p q) = ix3 1 p q := by
  funext a
  apply Fin.ext
  match a with
  | ⟨0, _⟩ => rfl
  | ⟨1, _⟩ => show 0 + 1 * p.val = p.val; omega
  | ⟨2, _⟩ => show 0 + 1 * q.val = q.val; omega

theorem off1 (p : Fin 1024) (q : Fin 512) : (ix3 0 p q : S2x1024x512.Idx) ∉ half1.set := by
  rw [Rect.mem_set_unit]
  intro h
  have h0 := (h 0).1
  simp at h0

theorem off0 (p : Fin 1024) (q : Fin 512) : (ix3 1 p q : S2x1024x512.Idx) ∉ half0.set := by
  rw [Rect.mem_set_unit]
  intro h
  have h0 := (h 0).2
  simp at h0

/-- A store to each half decides the whole buffer, whatever was written before. -/
theorem halves (P1 P0 : S1x1024x512.Idx → EReal) (f : S2x1024x512.Idx → EReal) (L : List (View.Piece (Elt Ideal) S2x1024x512 .f32))
    (h0 : ∀ (p : Fin 1024) (q : Fin 512), P0 (ix3 0 p q) = f (ix3 0 p q)) (h1 : ∀ (p : Fin 1024) (q : Fin 512), P1 (ix3 0 p q) = f (ix3 1 p q)) :
    View.canon (Val := Elt Ideal) (e := .f32) (⟨half1, P1⟩ :: ⟨half0, P0⟩ :: L) = f := by
  funext y
  obtain ⟨e, p, q, rfl⟩ : ∃ (e : Fin 2) (p : Fin 1024) (q : Fin 512), y = ix3 e p q := ⟨y 0, y 1, y 2, eq_ix3 y⟩
  rcases (by omega : e.val = 0 ∨ e.val = 1) with he | he
  · obtain rfl : e = 0 := Fin.ext he
    rw [View.canon_cons_of_not_mem (⟨half1, P1⟩ : View.Piece (Elt Ideal) S2x1024x512 .f32) (⟨half0, P0⟩ :: L) (off1 p q)]
    have e0 := View.canon_cons_emb (Val := Elt Ideal) (e := .f32) half0 P0 L (ix3 0 p q)
    rw [emb0] at e0
    exact e0.trans (h0 p q)
  · obtain rfl : e = 1 := Fin.ext he
    have e1 := View.canon_cons_emb (Val := Elt Ideal) (e := .f32) half1 P1 (⟨half0, P0⟩ :: L) (ix3 0 p q)
    rw [emb1] at e1
    exact e1.trans (h1 p q)

/-- One point's step from what the scratch buffer held. -/
def acc (x0 : Vec Ideal S1024x2048 .bf16) (x1 : Vec Ideal S2048x1024 .bf16) (s : S2x1024x512.Idx → EReal) : S2x1024x512.Idx → EReal :=
  fun i => s i + ∑ k : Fin 2048, x0 (ix2 (i 1) k) * x1 (ix2 k ⟨512 * (i 0).val + (i 2).val, by
    have h0 : (i 0).val < 2 := (i 0).isLt
    have h2 : (i 2).val < 512 := (i 2).isLt
    omega⟩)

theorem pay3_apply (x0 : Vec Ideal S1024x2048 .bf16) (x1 : Vec Ideal S2048x1024 .bf16) (s : Vec Ideal S1x1024x512 .f32) (f : S2x1024x512.Idx → EReal)
    (p : Fin 1024) (q : Fin 512) (hs : s (ix3 0 p q) = f (ix3 0 p q)) :
    k0_pay3 (F := Ideal) x0 s (View.ld x1 (Rect.unit ![0, 0] ![2048, 512] inb_S2048x1024_S2048x512_0_0)) (ix3 0 p q) = acc x0 x1 f (ix3 0 p q) := by
  pointwise [k0_pay3, k0_pay2]
  refine congrArg₂ (· + ·) hs (Finset.sum_congr rfl fun k _ => congrArg (x0 (ix2 p k) * ·) (congrArg x1 ?_))
  funext a
  apply Fin.ext
  match a with
  | ⟨0, _⟩ => rfl
  | ⟨1, _⟩ => show q.val = 512 * 0 + q.val; omega

theorem pay4_apply (x0 : Vec Ideal S1024x2048 .bf16) (x1 : Vec Ideal S2048x1024 .bf16) (s : Vec Ideal S1x1024x512 .f32) (f : S2x1024x512.Idx → EReal)
    (p : Fin 1024) (q : Fin 512) (hs : s (ix3 0 p q) = f (ix3 1 p q)) :
    k0_pay4 (F := Ideal) x0 s (View.ld x1 (Rect.unit ![0, 512] ![2048, 512] inb_S2048x1024_S2048x512_0_512)) (ix3 0 p q) = acc x0 x1 f (ix3 1 p q) := by
  pointwise [k0_pay4, k0_pay2]
  refine congrArg₂ (· + ·) hs (Finset.sum_congr rfl fun k _ => congrArg (x0 (ix2 p k) * ·) (congrArg x1 ?_))
  funext a
  apply Fin.ext
  match a with
  | ⟨0, _⟩ => rfl
  | ⟨1, _⟩ => rfl

theorem pay1_apply (i : S2x1024x512.Idx) : k0_pay1 (F := Ideal) i = 0 := by
  rw [eq_ix3 i]
  pointwise [k0_pay1]

/-- A load of a half of the zeroed buffer reads zeros, -/
theorem back0 (v : View sig .tc .vmem S2x1024x512 .f32) (j : S1x1024x512.Idx) :
    v.readCov [(⟨Rect.unit ![0, 0, 0] ![2, 1024, 512] inb_S2x1024x512_S2x1024x512_0_0_0, k0_pay1 (F := Ideal)⟩ : View.Piece (Elt Ideal) S2x1024x512 .f32)]
      half0.toLoadRect j = (0 : EReal) := by
  rw [View.readCov_eq_canon', View.canon_cons_unit_zero (S := S2x1024x512) hz3]
  exact pay1_apply _

/-- and of the second half also after a store to the first. -/
theorem back1 (v : View sig .tc .vmem S2x1024x512 .f32) (P : S1x1024x512.Idx → EReal) (p : Fin 1024) (q : Fin 512) :
    v.readCov [(⟨half0, P⟩ : View.Piece (Elt Ideal) S2x1024x512 .f32),
      ⟨Rect.unit ![0, 0, 0] ![2, 1024, 512] inb_S2x1024x512_S2x1024x512_0_0_0, k0_pay1 (F := Ideal)⟩] half1.toLoadRect (ix3 0 p q) = (0 : EReal) := by
  rw [View.readCov_eq_canon']
  show View.canon _ (half1.emb (ix3 0 p q)) = _
  rw [emb1, View.canon_cons_of_not_mem (⟨half0, P⟩ : View.Piece (Elt Ideal) S2x1024x512 .f32) _ (off0 p q), View.canon_cons_unit_zero (S := S2x1024x512) hz3]
  exact pay1_apply _

/-- A load of a half reads the buffer there. -/
theorem ld0 (s : Vec Ideal S2x1024x512 .f32) (p : Fin 1024) (q : Fin 512) : View.ld s half0 (ix3 0 p q) = s (ix3 0 p q) := congrArg s (emb0 p q)
theorem ld1 (s : Vec Ideal S2x1024x512 .f32) (p : Fin 1024) (q : Fin 512) : View.ld s half1 (ix3 0 p q) = s (ix3 1 p q) := congrArg s (emb1 p q)

theorem scratch_A (i : grid0.Coords) (a0 : Memref sig .tc .vmem S1024x2048 .bf16) (h0 : a0.IsWhole) (a1 : Memref sig .tc .vmem S2048x1024 .bf16) (h1 : a1.IsWhole)
    (a2 : Memref sig .tc .vmem S2x1024x512 .bf16) (h2 : a2.IsWhole) (a3 : Memref sig .tc .vmem S2x1024x512 .f32) (h3 : a3.IsWhole)
    (hc0 : cond0_0 i) (hc1 : ¬cond0_1 i) (x0 : Vec Ideal S1024x2048 .bf16) (x1 : Vec Ideal S2048x1024 .bf16) :
    (sout0_A_0 c i a0 h0 a1 h1 a2 h2 a3 h3 hc0 hc1 x0 x1 : S2x1024x512.Idx → EReal) = acc x0 x1 fun _ => 0 := by
  unfold sout0_A_0
  rw [View.read_writes_eq_canon _ _ _ (fun y => scover0_A_0 ..)]
  unfold kernelRun0_A
  dsimp only
  sl_unfold_words
  simp only [View.readAt_eq_ld, h0.read_unread, h1.read_unread, View.ld_unit_zero (S := S1024x2048) hz2]
  refine halves _ _ _ _ (fun p q => pay3_apply x0 x1 _ _ p q ?_) (fun p q => pay4_apply x0 x1 _ _ p q ?_)
  · exact back0 _ _
  · exact back1 _ _ p q

theorem scratch_B (i : grid0.Coords) (a0 : Memref sig .tc .vmem S1024x2048 .bf16) (h0 : a0.IsWhole) (a1 : Memref sig .tc .vmem S2048x1024 .bf16) (h1 : a1.IsWhole)
    (a2 : Memref sig .tc .vmem S2x1024x512 .bf16) (h2 : a2.IsWhole) (a3 : Memref sig .tc .vmem S2x1024x512 .f32) (h3 : a3.IsWhole)
    (hc0 : ¬cond0_0 i) (hc1 : ¬cond0_1 i) (x0 : Vec Ideal S1024x2048 .bf16) (x1 : Vec Ideal S2048x1024 .bf16) (s : Vec Ideal S2x1024x512 .f32) :
    (sout0_B_0 c i a0 h0 a1 h1 a2 h2 a3 h3 hc0 hc1 x0 x1 s : S2x1024x512.Idx → EReal) = acc x0 x1 s := by
  unfold sout0_B_0
  rw [View.read_writes_eq_canon _ _ _ (fun y => scover0_B_0 ..)]
  unfold kernelRun0_B
  dsimp only
  sl_unfold_words
  simp only [View.readAt_eq_ld, h0.read_unread, h1.read_unread, h3.read_unread, View.ld_unit_zero (S := S1024x2048) hz2]
  exact halves _ _ _ _ (fun p q => pay3_apply x0 x1 _ _ p q (ld0 s p q)) (fun p q => pay4_apply x0 x1 _ _ p q (ld1 s p q))

theorem scratch_C (i : grid0.Coords) (a0 : Memref sig .tc .vmem S1024x2048 .bf16) (h0 : a0.IsWhole) (a1 : Memref sig .tc .vmem S2048x1024 .bf16) (h1 : a1.IsWhole)
    (a2 : Memref sig .tc .vmem S2x1024x512 .bf16) (h2 : a2.IsWhole) (a3 : Memref sig .tc .vmem S2x1024x512 .f32) (h3 : a3.IsWhole)
    (hc0 : ¬cond0_0 i) (hc1 : cond0_1 i) (x0 : Vec Ideal S1024x2048 .bf16) (x1 : Vec Ideal S2048x1024 .bf16) (s : Vec Ideal S2x1024x512 .f32) :
    (sout0_C_0 c i a0 h0 a1 h1 a2 h2 a3 h3 hc0 hc1 x0 x1 s : S2x1024x512.Idx → EReal) = acc x0 x1 s := by
  unfold sout0_C_0
  rw [View.read_writes_eq_canon _ _ _ (fun y => scover0_C_0 ..)]
  unfold kernelRun0_C
  dsimp only
  sl_unfold_words
  simp only [View.readAt_eq_ld, h0.read_unread, h1.read_unread, h3.read_unread, View.ld_unit_zero (S := S1024x2048) hz2]
  exact halves _ _ _ _ (fun p q => pay3_apply x0 x1 _ _ p q (ld0 s p q)) (fun p q => pay4_apply x0 x1 _ _ p q (ld1 s p q))

theorem out_C (i : grid0.Coords) (a0 : Memref sig .tc .vmem S1024x2048 .bf16) (h0 : a0.IsWhole) (a1 : Memref sig .tc .vmem S2048x1024 .bf16) (h1 : a1.IsWhole)
    (a2 : Memref sig .tc .vmem S2x1024x512 .bf16) (h2 : a2.IsWhole) (a3 : Memref sig .tc .vmem S2x1024x512 .f32) (h3 : a3.IsWhole)
    (hc0 : ¬cond0_0 i) (hc1 : cond0_1 i) (x0 : Vec Ideal S1024x2048 .bf16) (x1 : Vec Ideal S2048x1024 .bf16) (s : Vec Ideal S2x1024x512 .f32) :
    (out0_C_2 c i a0 h0 a1 h1 a2 h2 a3 h3 hc0 hc1 x0 x1 s : S2x1024x512.Idx → EReal) = acc x0 x1 s := by
  unfold out0_C_2
  rw [View.read_writes_eq_canon _ _ _ (fun y => cover0_C_2 ..)]
  unfold kernelRun0_C
  dsimp only
  sl_unfold_words
  rw [View.canon_unit_zero hz3]
  simp only [View.readAt_eq_ld, h0.read_unread, h1.read_unread, h3.read_unread, View.ld_unit_zero (S := S1024x2048) hz2]
  rw [View.readCov_eq_canon', halves _ _ (acc x0 x1 s) _ (fun p q => pay3_apply x0 x1 _ _ p q (ld0 s p q)) (fun p q => pay4_apply x0 x1 _ _ p q (ld1 s p q))]
  funext y
  show acc x0 x1 s _ = _
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-! ## The running sum -/

/-- What the point at step `s` of block `b` adds. -/
abbrev part (b s : ℕ) (e : Fin 2) (p : Fin 1024) (q : Fin 512) : EReal := ∑ k : Fin 2048,
  if h : b < 4 ∧ s < 4 then term (arg0 m c) (arg1 m c) (arg2 m c) p ⟨512 * (2 * b + e.val) + q.val, by omega⟩ ⟨2048 * s + k.val, by omega⟩ else 0

theorem part_eq (t : Fin cfg0.N) (f : S2x1024x512.Idx → EReal) (e : Fin 2) (p : Fin 1024) (q : Fin 512) :
    acc (iblk m c 0 t) (iblk m c 1 t) f (ix3 e p q) = f (ix3 e p q) + part m c (t.val / 4) (t.val % 4) e p q := by
  have hN : t.val < 16 := lt_of_lt_of_eq t.isLt (show cfg0.N = 16 from N_0)
  refine congrArg (f (ix3 e p q) + ·) (Finset.sum_congr rfl fun k _ => ?_)
  rw [dif_pos (by omega)]
  exact congrArg₂ (· * ·) (blk0 m c t p k ⟨2048 * (t.val % 4) + k.val, by omega⟩ rfl)
    (blk1 m c t k ⟨512 * e.val + q.val, by omega⟩ ⟨2048 * (t.val % 4) + k.val, by omega⟩ ⟨512 * (2 * (t.val / 4) + e.val) + q.val, by omega⟩ rfl
      (by simp only; omega))

theorem sum_eq : ∀ (n : ℕ) (h : n < cfg0.N) (e : Fin 2) (p : Fin 1024) (q : Fin 512), ((outsAt0 m c n h).2 : S2x1024x512.Idx → EReal) (ix3 e p q)
    = ∑ s ∈ Finset.range (n % 4 + 1), part m c (n / 4) s e p q := by
  intro n
  induction n with
  | zero =>
    intro h e p q
    rw [outsAt0_A m c ⟨0, h⟩ rfl (by simp)]
    dsimp only
    rw [scratch_A, part_eq]
    simp
  | succ n ih =>
    intro h e p q
    have hN : n + 1 < 16 := lt_of_lt_of_eq h (show cfg0.N = 16 from N_0)
    by_cases h0 : (n + 1) % 4 = 0
    · rw [outsAt0_A m c ⟨n + 1, h⟩ h0 (by simp only; omega)]
      dsimp only
      rw [scratch_A, part_eq]
      simp [h0]
    · have e1 : (n + 1) % 4 = n % 4 + 1 := by omega
      have e2 : (n + 1) / 4 = n / 4 := by omega
      have step : ((outsAt0 m c (n + 1) h).2 : S2x1024x512.Idx → EReal) (ix3 e p q)
          = ((outsAt0 m c n (by omega)).2 : S2x1024x512.Idx → EReal) (ix3 e p q) + part m c ((n + 1) / 4) ((n + 1) % 4) e p q := by
        by_cases h1 : (n + 1) % 4 = 3
        · rw [outsAt0_C m c ⟨n + 1, h⟩ h0 h1]
          dsimp only
          rw [scratch_C, part_eq]
          rfl
        · rw [outsAt0_B m c ⟨n + 1, h⟩ h0 h1]
          dsimp only
          rw [scratch_B, part_eq]
          rfl
      rw [step, ih, e1, e2, Finset.sum_range_succ _ (n % 4 + 1)]

/-- The four steps of a block are the whole sum over the rows. -/
theorem parts (b : ℕ) (hb : b < 4) (e : Fin 2) (p : Fin 1024) (q : Fin 512) :
    ∑ s ∈ Finset.range 4, part m c b s e p q = grouped (arg0 m c) (arg1 m c) (arg2 m c) ⟨2 * b + e.val, by omega⟩ p q := by
  unfold grouped dw part
  rw [Finset.sum_range, ← Finset.sum_product']
  refine Finset.sum_nbij' (fun x : Fin 4 × Fin 2048 => (⟨2048 * x.1.val + x.2.val, by omega⟩ : Fin 8192))
    (fun r => (⟨r.val / 2048, by omega⟩, ⟨r.val % 2048, by omega⟩)) (by simp) (by simp) ?_ ?_ ?_
  · rintro ⟨x, y⟩ _
    ext <;> simp only <;> omega
  · intro r _
    ext
    simp only
    omega
  · rintro ⟨x, y⟩ _
    exact dif_pos ⟨hb, x.isLt⟩

theorem out_eq (t : Fin cfg0.N) (ht : t.val % 4 = 3) (e : Fin 2) (p : Fin 1024) (q : Fin 512) :
    ((outsAt0 m c t.val t.isLt).1 : S2x1024x512.Idx → EReal) (ix3 e p q)
      = grouped (arg0 m c) (arg1 m c) (arg2 m c) ⟨2 * (t.val / 4) + e.val, by
          have hN : t.val < 16 := lt_of_lt_of_eq t.isLt (show cfg0.N = 16 from N_0)
          omega⟩ p q := by
  have hN : t.val < 16 := lt_of_lt_of_eq t.isLt (show cfg0.N = 16 from N_0)
  have h2 := sum_eq m c t.val t.isLt e p q
  rw [ht, parts m c _ (by omega)] at h2
  rw [← h2, outsAt0_C m c t (by omega) ht]
  dsimp only
  rw [out_C, scratch_C]

theorem final2 : (dats m 0 c).arrAt 2 cfg0.N
    = ((fun i => grouped (arg0 m c) (arg1 m c) (arg2 m c) (i 0) (i 1) (i 2)) : S8x1024x512.Idx → EReal) := by
  refine (dats m 0 c).arrAt_eq_of_cover 2 _ (fun t hf => ?_) fun i => ?_
  · have ht : t.val % 4 = 3 := (flush0_2 t).mp hf
    rw [Value.flushed2]
    funext j
    rw [View.read_apply]
    obtain ⟨e, p, q, rfl⟩ : ∃ (e : Fin 2) (p : Fin 1024) (q : Fin 512), j = ix3 e p q := ⟨j 0, j 1, j 2, eq_ix3 j⟩
    refine (out_eq m c t ht e p q).trans ?_
    show grouped _ _ _ _ _ _ = grouped _ _ _ _ _ _
    congr 1
    · apply Fin.ext
      show 2 * (t.val / 4) + e.val = win0_2.index t 0 * 2 + 1 * e.val
      rw [(idx2 t).1]; omega
    · apply Fin.ext
      show p.val = win0_2.index t 1 * 1024 + 1 * p.val
      rw [(idx2 t).2.1]; omega
    · apply Fin.ext
      show q.val = win0_2.index t 2 * 512 + 1 * q.val
      rw [(idx2 t).2.2]; omega
  · exact (Value.covered_iff2 i).2 (by
      have h0 : (i 0).val < 8 := (i 0).isLt
      have h1 : (i 1).val < 1024 := (i 1).isLt
      have h2 : (i 2).val < 512 := (i 2).isLt
      omega)

end Cert.Kernel5Ideal.MlpUpDw

namespace Cert.Proof.MlpUpDw

open Cert.Kernel5Ideal.MlpUpDw

/-! ## The reference and the claims -/

open Cert.Reference5Ideal Cert.Reference5Ideal.Read in
theorem reference (du : FVec Ideal S8192x4096 .bf16) (x : FVec Ideal S8192x1024 .f32) (g : FVec Ideal S1024 .f32)
    (e : Fin 8) (p : Fin 1024) (q : Fin 512) : val_main_v20 (F := Ideal) du x g (ix3 e p q) = grouped du x g e p q := by
  pointwise [val_main_v20, val_main_v19, val_main_v18, val_main_v17, val_main_v16, val_main_v15, val_main_v13, val_main_v12, val_main_v11, val_main_v10, val_main_v9, val_main_v8, val_main_v7, val_main_v6, val_main_v5, val_main_v4, val_main_v3, val_main_v2, val_main_v1, val_main_cst_0, val_main_cst_1, val_main_cst_2, grouped, dw, term, normed]
  refine Finset.sum_congr rfl fun k _ => (mul_comm _ _).trans (congrArg (_ * ·) (congrArg (fun a => du (ix2 k a)) (Fin.ext ?_)))
  simp only
  omega

/-- The reference runs, leaves its arguments alone and ends with every semaphore at zero. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel's result is the gradient of the reference. -/
theorem algebraic : Cert.algebraic_Kernel5Ideal_Reference5Ideal := by
  intro m ρ m' ρ' _ hagree
  refine ⟨fun c => (fun i => grouped (arg0 m c) (arg1 m c) (arg2 m c) (i 0) (i 1) (i 2) : Cert.Kernel5Ideal.S8x1024x512.Idx → EReal), ?_, ?_⟩
  · exact (θ_run Cert.Kernel5Ideal.defs _ _).mono
      (fun _ h c => ⟨(h c).1.trans (final2 m c), (h c).2⟩)
      (Cert.Kernel5Ideal.Value.run_blocks (F := Ideal) m ρ)
  · refine (θ_run Cert.Reference5Ideal.defs _ _).mono (fun _ h c => ⟨(h c).1.trans ?_, (h c).2⟩)
      (Cert.Reference5Ideal.Value.run (F := Ideal) m' ρ')
    rw [Cert.Reference5Ideal.Read.val_main_v20_eq, (hagree c).1, (hagree c).2.1, (hagree c).2.2]
    funext i
    rw [eq_ix3 i]
    exact reference _ _ _ _ _ _

end Cert.Proof.MlpUpDw
end
-- ==== Proof.NormGrad.lean ====
/-
  The gradient of the normalisation of one row: as one difference times the root, and as the sum of its parts. For real
  rows the two are the same number.
-/
module

public import Idealize.ShloMosaic.PureOps.Ideal
public import Idealize.ShloMosaic.PureOps.Ideal.Laws
public import Mathlib.Tactic.FieldSimp
public import Mathlib.Tactic.Ring

@[expose] public section

noncomputable section

open Idealize.ShloMosaic

namespace NormGrad

/-- The mean square of a row plus the small number. -/
def msq (x : Fin 1024 → EReal) : EReal :=
  Ideal.div (∑ j, x j * x j) (Ideal.ofBits .f32 0x44800000#32) + Ideal.ofBits .f32 0x358637BD#32

/-- One over its root. -/
def root (x : Fin 1024 → EReal) : EReal := Ideal.rsqrt (msq x)

/-- The gradient as a difference times the root. -/
def asDifference (x d : Fin 1024 → EReal) (q : Fin 1024) : EReal :=
  root x * (d q - x q * root x * Ideal.div (∑ j, d j * (x j * root x)) (Ideal.ofBits .f32 0x44800000#32))

/-- The share that goes through the mean square, half of it. -/
def half (x d : Fin 1024 → EReal) : EReal :=
  Ideal.div ((∑ j, x j * d j) * (Ideal.ofBits .f32 0xBF000000#32 * Ideal.div (root x) (msq x))) (Ideal.ofBits .f32 0x44800000#32)

/-- The gradient as a sum. -/
def asSum (x d : Fin 1024 → EReal) (q : Fin 1024) : EReal := d q * root x + x q * half x d + half x d * x q

theorem word_count : Ideal.ofBits .f32 0x44800000#32 = ((1024 : ℝ) : EReal) := by
  simp [Ideal.ofBits, Ideal.ieee, -EReal.coe_mul]
  norm_num

theorem word_half : Ideal.ofBits .f32 0xBF000000#32 = ((-(1 / 2) : ℝ) : EReal) := by
  simp [Ideal.ofBits, Ideal.ieee, -EReal.coe_mul]
  norm_num

theorem word_small : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

theorem sum_coe {ι : Type} [Fintype ι] (f : ι → ℝ) : ∑ i, (f i : EReal) = ((∑ i, f i : ℝ) : EReal) :=
  (map_sum (⟨⟨fun r : ℝ => (r : EReal), EReal.coe_zero⟩, EReal.coe_add⟩ : ℝ →+ EReal) f Finset.univ).symm

theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem rsqrt_real (x : ℝ) (hx : 0 < x) : Ideal.rsqrt (x : EReal) = (((Real.sqrt x)⁻¹ : ℝ) : EReal) := by
  show (if x < 0 then (⊥ : EReal) else if x = 0 then ⊤ else _) = _
  rw [if_neg (not_lt.2 hx.le), if_neg hx.ne']

theorem agree (X D : Fin 1024 → ℝ) (q : Fin 1024) :
    asDifference (fun j => (X j : EReal)) (fun j => (D j : EReal)) q = asSum (fun j => (X j : EReal)) (fun j => (D j : EReal)) q := by
  obtain ⟨e, he, hw⟩ := word_small
  have hM : msq (fun j => (X j : EReal)) = (((∑ j, X j * X j) / 1024 + e : ℝ) : EReal) := by
    unfold msq
    simp only [← EReal.coe_mul, sum_coe]
    rw [word_count, hw, div_real _ _ (by norm_num), ← EReal.coe_add]
  have hpos : 0 < (∑ j, X j * X j) / 1024 + e := by
    have : 0 ≤ ∑ j, X j * X j := Finset.sum_nonneg fun j _ => mul_self_nonneg _
    positivity
  generalize (∑ j, X j * X j) / 1024 + e = M at hM hpos
  have hr : root (fun j => (X j : EReal)) = (((Real.sqrt M)⁻¹ : ℝ) : EReal) := by
    unfold root
    rw [hM, rsqrt_real _ hpos]
  have hs : 0 < Real.sqrt M := Real.sqrt_pos.2 hpos
  have hsq : M = Real.sqrt M * Real.sqrt M := (Real.mul_self_sqrt hpos.le).symm
  unfold asDifference asSum half
  rw [hM, hr, word_count, word_half]
  simp only [← EReal.coe_mul, sum_coe, div_real _ (1024 : ℝ) (by norm_num), div_real _ M hpos.ne', ← EReal.coe_sub, ← EReal.coe_add]
  congr 1
  have e1 : ∑ j, D j * (X j * (Real.sqrt M)⁻¹) = (∑ j, X j * D j) * (Real.sqrt M)⁻¹ := by
    rw [Finset.sum_mul]
    exact Finset.sum_congr rfl fun j _ => by ring
  rw [e1]
  generalize Real.sqrt M = s at hs hsq
  generalize ∑ j, X j * D j = T
  subst hsq
  field_simp
  ring

end NormGrad
end
-- ==== Proof.MlpUpDx.lean ====
/-
  The cotangent that the feed-forward block passes to the residual stream, through its first product and its
  normalisation: the blocks of each grid point, the whole arrays the kernel leaves, and the reference's, all at an index.
-/
module

public import proofs.«01_k».proof.Defs
public import proofs.«01_k».proof.Proof.NormGrad
public import proofs.«01_k».proof.Proof.Gen.Pre_finite
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Quiescent
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Kernel6Ideal.MlpUpDx

open Cert.Kernel6Ideal Cert.Kernel6Ideal.Gen NormGrad

/-- The cotangent of the normalised input. -/
def dh (du : S8192x4096.Idx → EReal) (w : S8x1024x512.Idx → EReal) (r : Fin 8192) (q : Fin 1024) : EReal :=
  ∑ e : Fin 8, ∑ k : Fin 512, du (ix2 r ⟨512 * e.val + k.val, by omega⟩) * w (ix3 e q k)

/-- The residual's cotangent with the block's added. -/
def dxK (du : S8192x4096.Idx → EReal) (x : S8192x1024.Idx → EReal) (g : S1024.Idx → EReal) (w : S8x1024x512.Idx → EReal) (dy : S8192x1024.Idx → EReal)
    (r : Fin 8192) (q : Fin 1024) : EReal :=
  dy (ix2 r q) + asDifference (fun j => x (ix2 r j)) (fun j => dh du w r j * g (ix1 j)) q

/-- One row's part of the gain's gradient. -/
def gain (du : S8192x4096.Idx → EReal) (x : S8192x1024.Idx → EReal) (w : S8x1024x512.Idx → EReal) (q : Fin 1024) (r : Fin 8192) : EReal :=
  dh du w r q * (x (ix2 r q) * root fun j => x (ix2 r j))

variable (m : (ℓ : Loc nD τ sig) → Buf (Elt Ideal) ℓ) (c : Dev nD)

abbrev arg0 : FVec Ideal S8192x4096 .bf16 := m ((c.tc : Thread nD τ).loc main_arg0)
abbrev arg1 : FVec Ideal S8192x1024 .f32 := m ((c.tc : Thread nD τ).loc main_arg1)
abbrev arg2 : FVec Ideal S1024 .f32 := m ((c.tc : Thread nD τ).loc main_arg2)
abbrev arg3 : FVec Ideal S8x1024x512 .bf16 := m ((c.tc : Thread nD τ).loc main_arg3)
abbrev arg4 : FVec Ideal S8192x1024 .f32 := m ((c.tc : Thread nD τ).loc main_arg4)

/-! ## The arrays the kernel is handed -/

def hG (g : FVec Ideal S1024 .f32) : FVec Ideal S1x1024 .f32 := shapeCast _ g shapeCasts_S1024_S1x1024

theorem hG_apply (g : FVec Ideal S1024 .f32) (e : Fin 1) (k : Fin 1024) : hG g (ix2 e k) = g (ix1 k) := by
  obtain rfl : e = 0 := Subsingleton.elim _ _
  pointwise [hG]

theorem entry_du : V (F := Ideal) m c main_arg0 = arg0 m c := by
  show StableHlo.after hostOps0 (fun b => m (c, b)) _ = _
  simp only [hostOps0]
  after_results_simp <;> rfl

theorem entry_x : V (F := Ideal) m c main_arg1 = arg1 m c := by
  show StableHlo.after hostOps0 (fun b => m (c, b)) _ = _
  simp only [hostOps0]
  after_results_simp <;> rfl

theorem entry_w : V (F := Ideal) m c main_arg3 = arg3 m c := by
  show StableHlo.after hostOps0 (fun b => m (c, b)) _ = _
  simp only [hostOps0]
  after_results_simp <;> rfl

theorem entry_dy : V (F := Ideal) m c main_arg4 = arg4 m c := by
  show StableHlo.after hostOps0 (fun b => m (c, b)) _ = _
  simp only [hostOps0]
  after_results_simp <;> rfl

theorem entry_g : V (F := Ideal) m c main_v0 = hG (arg2 m c) := by
  show StableHlo.after hostOps0 (fun b => m (c, b)) _ = _
  simp only [hostOps0]
  after_results_simp <;> rfl

/-! ## The blocks -/

theorem idx0 : ∀ t : Fin grid0.N, win0_0.index t 0 = t.val ∧ win0_0.index t 1 = 0 := by decide +kernel
theorem idx1 : ∀ t : Fin grid0.N, win0_1.index t 0 = 0 ∧ win0_1.index t 1 = 0 ∧ win0_1.index t 2 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = 0 ∧ win0_7.index t 1 = 0 := by decide +kernel

/-- A row index of the whole array from a grid point and a row of its block. -/
abbrev row (t : Fin cfg0.N) (p : Fin 512) : Fin 8192 := ⟨512 * t.val + p.val, by
  have hN : t.val < 16 := lt_of_lt_of_eq t.isLt (show cfg0.N = 16 from N_0)
  omega⟩

theorem blk0 (t : Fin cfg0.N) (p : Fin 512) (q : Fin 4096) : (iblk m c 0 t : S512x4096.Idx → EReal) (ix2 p q) = arg0 m c (ix2 (row t p) q) := by
  unfold iblk
  rw [View.read_apply]
  show V m c main_arg0 _ = _
  rw [entry_du]
  congr 1
  funext a
  apply Fin.ext
  match a with
  | ⟨0, _⟩ => show win0_0.index t 0 * 512 + 1 * p.val = 512 * t.val + p.val; rw [(idx0 t).1]; omega
  | ⟨1, _⟩ => show win0_0.index t 1 * 4096 + 1 * q.val = q.val; rw [(idx0 t).2]; omega

theorem blk1 (t : Fin cfg0.N) (i : S8x1024x512.Idx) : (iblk m c 1 t : S8x1024x512.Idx → EReal) i = arg3 m c i := by
  unfold iblk
  rw [View.read_apply]
  show V m c main_arg3 _ = _
  rw [entry_w]
  congr 1
  funext a
  apply Fin.ext
  match a with
  | ⟨0, _⟩ => show win0_1.index t 0 * 8 + 1 * (i 0).val = (i 0).val; rw [(idx1 t).1]; omega
  | ⟨1, _⟩ => show win0_1.index t 1 * 1024 + 1 * (i 1).val = (i 1).val; rw [(idx1 t).2.1]; omega
  | ⟨2, _⟩ => show win0_1.index t 2 * 512 + 1 * (i 2).val = (i 2).val; rw [(idx1 t).2.2]; omega

theorem blk2 (t : Fin cfg0.N) (p : Fin 512) (q : Fin 1024) : (iblk m c 2 t : S512x1024.Idx → EReal) (ix2 p q) = arg1 m c (ix2 (row t p) q) := by
  unfold iblk
  rw [View.read_apply]
  show V m c main_arg1 _ = _
  rw [entry_x]
  congr 1
  funext a
  apply Fin.ext
  match a with
  | ⟨0, _⟩ => show win0_2.index t 0 * 512 + 1 * p.val = 512 * t.val + p.val; rw [(idx2 t).1]; omega
  | ⟨1, _⟩ => show win0_2.index t 1 * 1024 + 1 * q.val = q.val; rw [(idx2 t).2]; omega

theorem blk4 (t : Fin cfg0.N) (p : Fin 512) (q : Fin 1024) : (iblk m c 4 t : S512x1024.Idx → EReal) (ix2 p q) = arg4 m c (ix2 (row t p) q) := by
  unfold iblk
  rw [View.read_apply]
  show V m c main_arg4 _ = _
  rw [entry_dy]
  congr 1
  funext a
  apply Fin.ext
  match a with
  | ⟨0, _⟩ => show win0_4.index t 0 * 512 + 1 * p.val = 512 * t.val + p.val; rw [(idx4 t).1]; omega
  | ⟨1, _⟩ => show win0_4.index t 1 * 1024 + 1 * q.val = q.val; rw [(idx4 t).2]; omega

theorem blk3 (t : Fin cfg0.N) (e : Fin 1) (q : Fin 1024) : (iblk m c 3 t : S1x1024.Idx → EReal) (ix2 e q) = arg2 m c (ix1 q) := by
  unfold iblk
  rw [View.read_apply]
  show V m c main_v0 _ = _
  rw [entry_g]
  refine Eq.trans ?_ (hG_apply _ e q)
  congr 1
  funext a
  apply Fin.ext
  match a with
  | ⟨0, _⟩ => show win0_3.index t 0 * 1 + 1 * e.val = e.val; rw [(idx3 t).1]; omega
  | ⟨1, _⟩ => show win0_3.index t 1 * 1024 + 1 * q.val = q.val; rw [(idx3 t).2]; omega

/-! ## What a point computes -/

theorem hz : (![0, 0] : Fin 2 → Nat) = fun _ => 0 := funext fun a => by fin_cases a <;> rfl

section
variable (x0 : Vec Ideal S512x4096 .bf16) (x1 : Vec Ideal S8x1024x512 .bf16) (x2 : Vec Ideal S512x1024 .f32) (x3 : Vec Ideal S1x1024 .f32)
  (x4 : Vec Ideal S512x1024 .f32)

/-- The first five groups' part of the product of a point's rows. -/
abbrev first : FVec Ideal S512x1024 .f32 :=
  k0_pay4 (View.ld x0 (Rect.unit ![0, 0] ![512, 512] inb_S512x4096_S512x512_0_0))
    (View.ld x1 (Rect.unit ![0, 0, 0] ![1, 1024, 512] inb_S8x1024x512_S1x1024x512_0_0_0)) (View.ld x0 (Rect.unit ![0, 512] ![512, 512] inb_S512x4096_S512x512_0_512))
    (View.ld x1 (Rect.unit ![1, 0, 0] ![1, 1024, 512] inb_S8x1024x512_S1x1024x512_1_0_0)) (View.ld x0 (Rect.unit ![0, 1024] ![512, 512] inb_S512x4096_S512x512_0_1024))
    (View.ld x1 (Rect.unit ![2, 0, 0] ![1, 1024, 512] inb_S8x1024x512_S1x1024x512_2_0_0)) (View.ld x0 (Rect.unit ![0, 1536] ![512, 512] inb_S512x4096_S512x512_0_1536))
    (View.ld x1 (Rect.unit ![3, 0, 0] ![1, 1024, 512] inb_S8x1024x512_S1x1024x512_3_0_0)) (View.ld x0 (Rect.unit ![0, 2048] ![512, 512] inb_S512x4096_S512x512_0_2048))
    (View.ld x1 (Rect.unit ![4, 0, 0] ![1, 1024, 512] inb_S8x1024x512_S1x1024x512_4_0_0))

/-! The last three groups' columns and weights. -/
abbrev w5 := View.ld x1 (Rect.unit ![5, 0, 0] ![1, 1024, 512] inb_S8x1024x512_S1x1024x512_5_0_0)
abbrev w6 := View.ld x1 (Rect.unit ![6, 0, 0] ![1, 1024, 512] inb_S8x1024x512_S1x1024x512_6_0_0)
abbrev w7 := View.ld x1 (Rect.unit ![7, 0, 0] ![1, 1024, 512] inb_S8x1024x512_S1x1024x512_7_0_0)
abbrev d5 := View.ld x0 (Rect.unit ![0, 2560] ![512, 512] inb_S512x4096_S512x512_0_2560)
abbrev d6 := View.ld x0 (Rect.unit ![0, 3072] ![512, 512] inb_S512x4096_S512x512_0_3072)
abbrev d7 := View.ld x0 (Rect.unit ![0, 3584] ![512, 512] inb_S512x4096_S512x512_0_3584)

/-- The product of a point's rows. -/
abbrev prod : FVec Ideal S512x1024 .f32 :=
  k0_pay5 (first x0 x1) (d5 x0) (w5 x1) (d6 x0) (w6 x1) (d7 x0) (w7 x1)

/-- The block of the residual's cotangent a point leaves. -/
abbrev dxBlk : FVec Ideal S512x1024 .f32 :=
  k0_pay1 (k0_pay6 x2) (k0_pay7 x2)
    (k0_pay9 (first x0 x1) (d5 x0) (w5 x1) (d6 x0) (w6 x1) (d7 x0) (w7 x1) x3)
    (k0_pay10 (first x0 x1) (d5 x0) (w5 x1) (d6 x0) (w6 x1) (d7 x0) (w7 x1) x2 x3)
    k0_pay11 x4

/-- A point's part of the gain's gradient. -/
abbrev gainBlk : FVec Ideal S1x1024 .f32 :=
  k0_pay8 (first x0 x1) (d5 x0) (w5 x1) (d6 x0) (w6 x1) (d7 x0) (w7 x1) x2

theorem prod_apply (p : Fin 512) (q : Fin 1024) :
    (prod x0 x1 : S512x1024.Idx → EReal) (ix2 p q) = ∑ e : Fin 8, ∑ k : Fin 512, x0 (ix2 p ⟨512 * e.val + k.val, by omega⟩) * x1 (ix3 e q k) := by
  rw [Fin.sum_univ_eight]
  pointwise [first, prod, d5, d6, d7, w5, w6, w7, k0_pay5, k0_pay4]

/-- The product of a block's rows, as a row. -/
abbrev prodRow (p : Fin 512) (q : Fin 1024) : EReal := ∑ e : Fin 8, ∑ k : Fin 512, x0 (ix2 p ⟨512 * e.val + k.val, by omega⟩) * x1 (ix3 e q k)

theorem dxBlk_apply (p : Fin 512) (q : Fin 1024) : (dxBlk x0 x1 x2 x3 x4 : S512x1024.Idx → EReal) (ix2 p q)
    = x4 (ix2 p q) + asDifference (fun j => x2 (ix2 p j)) (fun j => prodRow x0 x1 p j * x3 (ix2 0 j)) q := by
  pointwise [k0_pay1, k0_pay6, k0_pay7, k0_pay9, k0_pay10, k0_pay11]
  simp only [prod_apply x0 x1]
  rfl

theorem gainBlk_apply (e : Fin 1) (q : Fin 1024) : (gainBlk x0 x1 x2 : S1x1024.Idx → EReal) (ix2 e q)
    = ∑ p : Fin 512, prodRow x0 x1 p q * (x2 (ix2 p q) * root fun j => x2 (ix2 p j)) := by
  obtain rfl : e = 0 := Subsingleton.elim _ _
  pointwise [k0_pay8, k0_pay6, k0_pay7]
  simp only [prod_apply x0 x1]
  rfl

end

theorem outs_A (t : Fin cfg0.N) (h0 : t.val % 16 = 0) (h1 : ¬1 ≤ t.val) :
    (outsAt0 m c t.val t.isLt).1 = dxBlk (iblk m c 0 t) (iblk m c 1 t) (iblk m c 2 t) (iblk m c 3 t) (iblk m c 4 t)
    ∧ (outsAt0 m c t.val t.isLt).2.1 = truncf .bf16 (dxBlk (iblk m c 0 t) (iblk m c 1 t) (iblk m c 2 t) (iblk m c 3 t) (iblk m c 4 t)) bitsLt_bf16_f32
    ∧ (outsAt0 m c t.val t.isLt).2.2 = gainBlk (iblk m c 0 t) (iblk m c 1 t) (iblk m c 2 t) := by
  rw [outsAt0_A m c t h0 h1]
  dsimp only
  unfold out0_A_5 out0_A_6 out0_A_7
  refine ⟨(View.read_writes_eq_canon _ _ _ (fun y => cover0_A_5 ..)).trans ?_, (View.read_writes_eq_canon _ _ _ (fun y => cover0_A_6 ..)).trans ?_, (View.read_writes_eq_canon _ _ _ (fun y => cover0_A_7 ..)).trans ?_⟩
  all_goals
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S512x1024) hz, View.ld_unit_zero (S := S1x1024) hz]
    try rfl

theorem outs_B (t : Fin cfg0.N) (h0 : ¬t.val % 16 = 0) (h1 : 1 ≤ t.val) :
    (outsAt0 m c t.val t.isLt).1 = dxBlk (iblk m c 0 t) (iblk m c 1 t) (iblk m c 2 t) (iblk m c 3 t) (iblk m c 4 t)
    ∧ (outsAt0 m c t.val t.isLt).2.1 = truncf .bf16 (dxBlk (iblk m c 0 t) (iblk m c 1 t) (iblk m c 2 t) (iblk m c 3 t) (iblk m c 4 t)) bitsLt_bf16_f32
    ∧ (outsAt0 m c t.val t.isLt).2.2 = k0_pay3 (gainBlk (iblk m c 0 t) (iblk m c 1 t) (iblk m c 2 t)) (outsAt0 m c (t.val - 1) (Nat.lt_of_le_of_lt (Nat.sub_le _ _) t.isLt)).2.2 := by
  rw [outsAt0_B m c t h0 h1]
  dsimp only
  unfold out0_B_5 out0_B_6 out0_B_7
  refine ⟨(View.read_writes_eq_canon _ _ _ (fun y => cover0_B_5 ..)).trans ?_, (View.read_writes_eq_canon _ _ _ (fun y => cover0_B_6 ..)).trans ?_, (View.read_writes_eq_canon _ _ _ (fun y => cover0_B_7 ..)).trans ?_⟩
  all_goals
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S512x1024) hz, View.ld_unit_zero (S := S1x1024) hz]
    try rfl

/-- A point's block of products, from the whole arrays. -/
theorem prod_eq (t : Fin cfg0.N) (p : Fin 512) (q : Fin 1024) :
    prodRow (iblk m c 0 t) (iblk m c 1 t) p q = dh (arg0 m c) (arg3 m c) (row t p) q :=
  Finset.sum_congr rfl fun e _ => Finset.sum_congr rfl fun k _ => congrArg₂ (· * ·) (blk0 m c t p _) (blk1 m c t _)

theorem dxBlk_eq (t : Fin cfg0.N) (p : Fin 512) (q : Fin 1024) :
    (dxBlk (iblk m c 0 t) (iblk m c 1 t) (iblk m c 2 t) (iblk m c 3 t) (iblk m c 4 t) : S512x1024.Idx → EReal) (ix2 p q)
      = dxK (arg0 m c) (arg1 m c) (arg2 m c) (arg3 m c) (arg4 m c) (row t p) q := by
  rw [dxBlk_apply]
  unfold dxK
  exact congrArg₂ (· + ·) (blk4 m c t p q) (congrArg₂ (fun x d => asDifference x d q) (funext fun j => blk2 m c t p j)
    (funext fun j => congrArg₂ (· * ·) (prod_eq m c t p j) (blk3 m c t 0 j)))

theorem gainBlk_eq (t : Fin cfg0.N) (e : Fin 1) (q : Fin 1024) :
    (gainBlk (iblk m c 0 t) (iblk m c 1 t) (iblk m c 2 t) : S1x1024.Idx → EReal) (ix2 e q)
      = ∑ p : Fin 512, gain (arg0 m c) (arg1 m c) (arg3 m c) q (row t p) := by
  rw [gainBlk_apply]
  refine Finset.sum_congr rfl fun p _ => ?_
  unfold gain
  exact congrArg₂ (· * ·) (prod_eq m c t p q) (congrArg₂ (· * ·) (blk2 m c t p q) (congrArg root (funext fun j => blk2 m c t p j)))

theorem out5_eq (t : Fin cfg0.N) (p : Fin 512) (q : Fin 1024) : ((outsAt0 m c t.val t.isLt).1 : S512x1024.Idx → EReal) (ix2 p q)
    = dxK (arg0 m c) (arg1 m c) (arg2 m c) (arg3 m c) (arg4 m c) (row t p) q := by
  have hN : t.val < 16 := lt_of_lt_of_eq t.isLt (show cfg0.N = 16 from N_0)
  refine Eq.trans (congrFun (?_ : _ = dxBlk (iblk m c 0 t) (iblk m c 1 t) (iblk m c 2 t) (iblk m c 3 t) (iblk m c 4 t)) _) (dxBlk_eq m c t p q)
  by_cases h : t.val = 0
  · exact (outs_A m c t (by omega) (by omega)).1
  · exact (outs_B m c t (by omega) (by omega)).1

theorem out6_eq (t : Fin cfg0.N) (p : Fin 512) (q : Fin 1024) : ((outsAt0 m c t.val t.isLt).2.1 : S512x1024.Idx → EReal) (ix2 p q)
    = dxK (arg0 m c) (arg1 m c) (arg2 m c) (arg3 m c) (arg4 m c) (row t p) q := by
  have hN : t.val < 16 := lt_of_lt_of_eq t.isLt (show cfg0.N = 16 from N_0)
  refine Eq.trans (congrFun (?_ : _ = truncf .bf16 (dxBlk (iblk m c 0 t) (iblk m c 1 t) (iblk m c 2 t) (iblk m c 3 t) (iblk m c 4 t)) bitsLt_bf16_f32) _)
    (dxBlk_eq m c t p q)
  by_cases h : t.val = 0
  · exact (outs_A m c t (by omega) (by omega)).2.1
  · exact (outs_B m c t (by omega) (by omega)).2.1

/-! ## The gain's running sum -/

/-- What point `n` adds. -/
abbrev part (n : ℕ) (q : Fin 1024) : EReal :=
  ∑ p : Fin 512, if h : n < 16 then gain (arg0 m c) (arg1 m c) (arg3 m c) q ⟨512 * n + p.val, by omega⟩ else 0

theorem gainBlk_part (t : Fin cfg0.N) (e : Fin 1) (q : Fin 1024) :
    (gainBlk (iblk m c 0 t) (iblk m c 1 t) (iblk m c 2 t) : S1x1024.Idx → EReal) (ix2 e q) = part m c t.val q := by
  have hN : t.val < 16 := lt_of_lt_of_eq t.isLt (show cfg0.N = 16 from N_0)
  rw [gainBlk_eq]
  unfold part
  exact Finset.sum_congr rfl fun p _ => by rw [dif_pos hN]

theorem add_apply (a b : Vec Ideal S1x1024 .f32) (e : Fin 1) (q : Fin 1024) : k0_pay3 (F := Ideal) a b (ix2 e q) = b (ix2 e q) + a (ix2 e q) := by
  obtain rfl : e = 0 := Subsingleton.elim _ _
  pointwise [k0_pay3]

theorem sum_eq : ∀ (n : ℕ) (h : n < cfg0.N) (e : Fin 1) (q : Fin 1024), ((outsAt0 m c n h).2.2 : S1x1024.Idx → EReal) (ix2 e q)
    = ∑ s ∈ Finset.range (n + 1), part m c s q := by
  intro n
  induction n with
  | zero =>
    intro h e q
    rw [Finset.sum_range_one, ← gainBlk_part m c ⟨0, h⟩ e q]
    exact congrFun ((outs_A m c ⟨0, h⟩ rfl (by simp)).2.2) _
  | succ n ih =>
    intro h e q
    have hN : n + 1 < 16 := lt_of_lt_of_eq h (show cfg0.N = 16 from N_0)
    rw [Finset.sum_range_succ, ← ih (by omega) e q, ← gainBlk_part m c ⟨n + 1, h⟩ e q]
    refine (congrFun ((outs_B m c ⟨n + 1, h⟩ (by show ¬(n + 1) % 16 = 0; omega) (by show 1 ≤ n + 1; omega)).2.2) _).trans ?_
    exact add_apply _ _ e q

/-- The sixteen points' parts are the sum over the rows. -/
theorem parts (q : Fin 1024) : ∑ s ∈ Finset.range 16, part m c s q = ∑ r : Fin 8192, gain (arg0 m c) (arg1 m c) (arg3 m c) q r := by
  unfold part
  rw [Finset.sum_range, ← Finset.sum_product']
  refine Finset.sum_nbij' (fun x : Fin 16 × Fin 512 => (⟨512 * x.1.val + x.2.val, by omega⟩ : Fin 8192))
    (fun r => (⟨r.val / 512, by omega⟩, ⟨r.val % 512, by omega⟩)) (by simp) (by simp) ?_ ?_ ?_
  · rintro ⟨x, y⟩ _
    ext <;> simp only <;> omega
  · intro r _
    ext
    simp only
    omega
  · rintro ⟨x, y⟩ _
    exact dif_pos x.isLt

/-! ## The whole arrays -/

theorem mem_blk5 (t : Fin cfg0.N) (i : S8192x1024.Idx) (h : 512 * t.val ≤ (i 0 : Nat) ∧ (i 0 : Nat) < 512 * t.val + 512) :
    i ∈ ((cfg0.win 5).blk t).view.set := by
  show i ∈ ((View.whole main_v1_0).slice (win0_5.rect t)).set
  rw [View.set_slice_whole, Rect.mem_set_unit]
  have h1 : (i 1 : Nat) < 1024 := (i 1).isLt
  intro a
  match a with
  | ⟨0, _⟩ => show win0_5.index t 0 * 512 ≤ (i 0 : Nat) ∧ (i 0 : Nat) < win0_5.index t 0 * 512 + 512; rw [(idx5 t).1]; omega
  | ⟨1, _⟩ => show win0_5.index t 1 * 1024 ≤ (i 1 : Nat) ∧ (i 1 : Nat) < win0_5.index t 1 * 1024 + 1024; rw [(idx5 t).2]; omega

theorem final5 : (dats m 0 c).arrAt 5 cfg0.N
    = ((fun i => dxK (arg0 m c) (arg1 m c) (arg2 m c) (arg3 m c) (arg4 m c) (i 0) (i 1)) : S8192x1024.Idx → EReal) := by
  refine (dats m 0 c).arrAt_eq_of_cover 5 _ (fun t _ => ?_) fun i => ?_
  · rw [Value.flushed5]
    funext j
    rw [View.read_apply]
    obtain ⟨p, q, rfl⟩ : ∃ (p : Fin 512) (q : Fin 1024), j = ix2 p q := ⟨j 0, j 1, eq_ix2 j⟩
    refine (out5_eq m c t p q).trans ?_
    show dxK _ _ _ _ _ _ _ = dxK _ _ _ _ _ _ _
    congr 1
    · apply Fin.ext
      show 512 * t.val + p.val = win0_5.index t 0 * 512 + 1 * p.val
      rw [(idx5 t).1]; omega
    · apply Fin.ext
      show q.val = win0_5.index t 1 * 1024 + 1 * q.val
      rw [(idx5 t).2]; omega
  · have h0 : (i 0).val < 8192 := (i 0).isLt
    have hN : cfg0.N = 16 := N_0
    refine ⟨⟨(i 0).val / 512, by rw [hN]; omega⟩, flush0_5 _, ?_⟩
    refine mem_blk5 _ i ?_
    simp only
    omega

theorem mem_blk6 (t : Fin cfg0.N) (i : S8192x1024.Idx) (h : 512 * t.val ≤ (i 0 : Nat) ∧ (i 0 : Nat) < 512 * t.val + 512) :
    i ∈ ((cfg0.win 6).blk t).view.set := by
  show i ∈ ((View.whole main_v1_1).slice (win0_6.rect t)).set
  rw [View.set_slice_whole, Rect.mem_set_unit]
  have h1 : (i 1 : Nat) < 1024 := (i 1).isLt
  intro a
  match a with
  | ⟨0, _⟩ => show win0_6.index t 0 * 512 ≤ (i 0 : Nat) ∧ (i 0 : Nat) < win0_6.index t 0 * 512 + 512; rw [(idx6 t).1]; omega
  | ⟨1, _⟩ => show win0_6.index t 1 * 1024 ≤ (i 1 : Nat) ∧ (i 1 : Nat) < win0_6.index t 1 * 1024 + 1024; rw [(idx6 t).2]; omega

theorem final6 : (dats m 0 c).arrAt 6 cfg0.N
    = ((fun i => dxK (arg0 m c) (arg1 m c) (arg2 m c) (arg3 m c) (arg4 m c) (i 0) (i 1)) : S8192x1024.Idx → EReal) := by
  refine (dats m 0 c).arrAt_eq_of_cover 6 _ (fun t _ => ?_) fun i => ?_
  · rw [Value.flushed6]
    funext j
    rw [View.read_apply]
    obtain ⟨p, q, rfl⟩ : ∃ (p : Fin 512) (q : Fin 1024), j = ix2 p q := ⟨j 0, j 1, eq_ix2 j⟩
    refine (out6_eq m c t p q).trans ?_
    show dxK _ _ _ _ _ _ _ = dxK _ _ _ _ _ _ _
    congr 1
    · apply Fin.ext
      show 512 * t.val + p.val = win0_6.index t 0 * 512 + 1 * p.val
      rw [(idx6 t).1]; omega
    · apply Fin.ext
      show q.val = win0_6.index t 1 * 1024 + 1 * q.val
      rw [(idx6 t).2]; omega
  · have h0 : (i 0).val < 8192 := (i 0).isLt
    have hN : cfg0.N = 16 := N_0
    refine ⟨⟨(i 0).val / 512, by rw [hN]; omega⟩, flush0_6 _, ?_⟩
    refine mem_blk6 _ i ?_
    simp only
    omega

theorem mem_blk7 (t : Fin cfg0.N) (i : S1x1024.Idx) : i ∈ ((cfg0.win 7).blk t).view.set := by
  show i ∈ ((View.whole main_v1_2).slice (win0_7.rect t)).set
  rw [View.set_slice_whole, Rect.mem_set_unit]
  have h0 : (i 0 : Nat) < 1 := (i 0).isLt
  have h1 : (i 1 : Nat) < 1024 := (i 1).isLt
  intro a
  match a with
  | ⟨0, _⟩ => show win0_7.index t 0 * 1 ≤ (i 0 : Nat) ∧ (i 0 : Nat) < win0_7.index t 0 * 1 + 1
              rw [(idx7 t).1]; omega
  | ⟨1, _⟩ => show win0_7.index t 1 * 1024 ≤ (i 1 : Nat) ∧ (i 1 : Nat) < win0_7.index t 1 * 1024 + 1024
              rw [(idx7 t).2]; omega

theorem final7 : (dats m 0 c).arrAt 7 cfg0.N
    = ((fun i => ∑ r : Fin 8192, gain (arg0 m c) (arg1 m c) (arg3 m c) (i 1) r) : S1x1024.Idx → EReal) := by
  have hN : cfg0.N = 16 := N_0
  refine (dats m 0 c).arrAt_eq_of_cover 7 _ (fun t hf => ?_) fun i => ?_
  · have ht : t.val % 16 = 15 := (flush0_7 t).mp hf
    have htN : t.val < 16 := lt_of_lt_of_eq t.isLt hN
    rw [Value.flushed7]
    funext j
    rw [View.read_apply]
    obtain ⟨e, q, rfl⟩ : ∃ (e : Fin 1) (q : Fin 1024), j = ix2 e q := ⟨j 0, j 1, eq_ix2 j⟩
    refine (sum_eq m c t.val t.isLt e q).trans ?_
    rw [show t.val + 1 = 16 by omega, parts]
    refine Finset.sum_congr rfl fun r _ => ?_
    show gain _ _ _ _ _ = gain _ _ _ _ _
    congr 1
    apply Fin.ext
    show q.val = win0_7.index t 1 * 1024 + 1 * q.val
    rw [(idx7 t).2]; omega
  · exact ⟨⟨15, by rw [hN]; omega⟩, (flush0_7 _).mpr rfl, mem_blk7 _ i⟩

end Cert.Kernel6Ideal.MlpUpDx

namespace Cert.Pre_finite.MlpUpDx

open Cert.Pre_finite Cert.Pre_finite.Gen

instance : Subsingleton S_.Idx := ⟨fun a b => funext fun i => i.elim0⟩

/-- Under the precondition the four arrays the normalisation's gradient is made of are real. -/
theorem real (du : FVec Ideal S8192x4096 .bf16) (x : FVec Ideal S8192x1024 .f32) (g : FVec Ideal S1024 .f32) (w : FVec Ideal S8x1024x512 .bf16)
    (dy : FVec Ideal S8192x1024 .f32) (hp : fn (F := Ideal) du x g w dy = fun _ => 1#1) :
    (∀ i, (du i : EReal) = ((EReal.toReal (du i) : ℝ) : EReal)) ∧ (∀ i, (x i : EReal) = ((EReal.toReal (x i) : ℝ) : EReal))
    ∧ (∀ i, (g i : EReal) = ((EReal.toReal (g i) : ℝ) : EReal)) ∧ (∀ i, (w i : EReal) = ((EReal.toReal (w i) : ℝ) : EReal)) := by
  have top : Ideal.ofBits .f32 0x7F800000#32 = (⊤ : EReal) := by simp [Ideal.ofBits, Ideal.ieee]
  have fin : ∀ y : EReal, Ideal.cmp .olt (max y (-y)) (Ideal.ofBits .f32 0x7F800000#32) = 1#1 → y = ((EReal.toReal y : ℝ) : EReal) := fun y h => by
    rw [top] at h
    have hlt : max y (-y) < ⊤ := by
      by_contra hn
      simp [Ideal.cmp, hn] at h
    refine (EReal.coe_toReal (fun e => ?_) (fun e => ?_)).symm
    · rw [e] at hlt; exact absurd hlt (by simp)
    · rw [e] at hlt; exact absurd hlt (by simp)
  have h := congrFun hp ix0
  dsimp only [fn, fn_part1] at h
  obtain ⟨h, h3⟩ := IntOp.andi_eq_one.1 h
  obtain ⟨h, h2⟩ := IntOp.andi_eq_one.1 h
  obtain ⟨h0, h1⟩ := IntOp.andi_eq_one.1 h
  refine ⟨fun i => ?_, fun i => ?_, fun i => ?_, fun i => ?_⟩
  · exact fin _ (Host.reduce_andi_all _ _ _ _ _ h0 i)
  · exact fin _ (Host.reduce_andi_all _ _ _ _ _ h1 i)
  · exact fin _ (Host.reduce_andi_all _ _ _ _ _ h2 i)
  · exact fin _ (Host.reduce_andi_all _ _ _ _ _ h3 i)

end Cert.Pre_finite.MlpUpDx

namespace Cert.Proof.MlpUpDx

open Cert.Kernel6Ideal.MlpUpDx

/-! ## The reference and the claims -/

/-- The residual's cotangent with the block's added, as the reference's derivative writes it. -/
def dxR (du : Cert.Kernel6Ideal.S8192x4096.Idx → EReal) (x : Cert.Kernel6Ideal.S8192x1024.Idx → EReal) (g : Cert.Kernel6Ideal.S1024.Idx → EReal)
    (w : Cert.Kernel6Ideal.S8x1024x512.Idx → EReal) (dy : Cert.Kernel6Ideal.S8192x1024.Idx → EReal) (r : Fin 8192) (q : Fin 1024) : EReal :=
  dy (ix2 r q) + NormGrad.asSum (fun j => x (ix2 r j)) (fun j => dh du w r j * g (ix1 j)) q

section
open Cert.Reference6Ideal Cert.Reference6Ideal.Read

variable (du : FVec Ideal S8192x4096 .bf16) (x : FVec Ideal S8192x1024 .f32) (g : FVec Ideal S1024 .f32) (w : FVec Ideal S8x1024x512 .bf16)
  (dy : FVec Ideal S8192x1024 .f32)

theorem ref_msq (r : Fin 8192) (e : Fin 1) : val_main_v6 (F := Ideal) x (ix2 r e) = NormGrad.msq fun j => x (ix2 r j) := by
  obtain rfl : e = 0 := Subsingleton.elim _ _
  pointwise [val_main_v6, val_main_v5, val_main_v4, val_main_v3, val_main_v2, val_main_v1, val_main_v0, val_main_cst, val_main_cst_0, val_main_cst_1]
  rfl

theorem ref_root (r : Fin 8192) (e : Fin 1) : val_main_v7 (F := Ideal) x (ix2 r e) = NormGrad.root fun j => x (ix2 r j) := by
  pointwise [val_main_v7]
  exact congrArg Ideal.rsqrt (ref_msq x r e)

theorem ref_dh (r : Fin 8192) (q : Fin 1024) : val_main_v21 (F := Ideal) du w (ix2 r q) = dh du w r q := by
  pointwise [val_main_v21, val_main_v20, val_main_v18, val_main_v17, val_main_v16]
  unfold dh
  rw [← Finset.sum_product']
  symm
  refine Finset.sum_nbij' (fun x : Fin 8 × Fin 512 => (⟨512 * x.1.val + x.2.val, by omega⟩ : Fin 4096))
    (fun r => (⟨r.val / 512, by omega⟩, ⟨r.val % 512, by omega⟩)) (by simp) (by simp) ?_ ?_ ?_
  · rintro ⟨x, y⟩ _
    ext <;> simp only <;> omega
  · intro r _
    ext
    simp only
    omega
  · rintro ⟨x, y⟩ _
    have e1 : (512 * x.val + y.val) / 512 = x.val := by omega
    have e2 : (512 * x.val + y.val) % 512 = y.val := by omega
    simp only [e1, e2]

theorem ref_cot (r : Fin 8192) (q : Fin 1024) : val_main_v26 (F := Ideal) du g w (ix2 r q) = dh du w r q * g (ix1 q) := by
  pointwise [val_main_v26, val_main_v25, val_main_v13]
  exact congrArg (· * _) (ref_dh du w r q)

theorem ref_half (r : Fin 8192) : val_main_v36 (F := Ideal) du x g w (ix1 r)
    = NormGrad.half (fun j => x (ix2 r j)) (fun j => dh du w r j * g (ix1 j)) := by
  pointwise [val_main_v36, val_main_v35, val_main_v34, val_main_v33, val_main_v30, val_main_v29, val_main_v28, val_main_v10, val_main_v9, val_main_v8,
    val_main_cst_2, val_main_cst_5, val_main_cst_6, val_main_cst_7]
  simp only [ref_cot, ref_root, ref_msq, Fin.sum_univ_one]
  rfl

theorem ref_dx (r : Fin 8192) (q : Fin 1024) : val_main_v42 (F := Ideal) du x g w dy (ix2 r q) = dxR du x g w dy r q := by
  pointwise [val_main_v42, val_main_v41, val_main_v40, val_main_v39, val_main_v38, val_main_v37, val_main_v32, val_main_v31]
  simp only [ref_cot, ref_root, ref_half]
  rfl

theorem ref_sum (q : Fin 1024) : val_main_v23 (F := Ideal) du x w (ix1 q) = ∑ r : Fin 8192, gain du x w q r := by
  pointwise [val_main_v23, val_main_v22, val_main_v12, val_main_v11, val_main_cst_3]
  simp only [ref_dh, ref_root]
  exact Finset.sum_congr rfl fun r _ => mul_comm _ _

theorem ref_gain (e : Fin 1) (q : Fin 1024) : val_main_v44 (F := Ideal) du x w (ix2 e q) = ∑ r : Fin 8192, gain du x w q r := by
  obtain rfl : e = 0 := Subsingleton.elim _ _
  rw [val_main_v44_apply, val_main_v27_apply, Fin.sum_univ_one, val_main_v24_apply, ← ref_sum]
  have z : ∀ i, val_main_cst_4 (F := Ideal) i = (0 : EReal) := fun _ => Ideal.ofBits_zero_f32
  rw [z, zero_add]
  refine congrArg _ (funext fun a => Fin.ext ?_)
  match a with
  | ⟨0, _⟩ => show 0 * 1024 + (0 * 1024 + q.val) = q.val
              omega

/-- On real arrays the two forms agree. -/
theorem forms (hp : Cert.Pre_finite.fn (F := Ideal) du x g w dy = fun _ => 1#1) (r : Fin 8192) (q : Fin 1024) :
    dxR du x g w dy r q = dxK du x g w dy r q := by
  obtain ⟨hdu, hx, hg, hw⟩ := Cert.Pre_finite.MlpUpDx.real du x g w dy hp
  unfold dxR dxK
  congr 1
  have ex : (fun j : Fin 1024 => (x (ix2 r j) : EReal)) = fun j => ((EReal.toReal (x (ix2 r j)) : ℝ) : EReal) := funext fun j => hx _
  have ed : (fun j : Fin 1024 => (dh du w r j * g (ix1 j) : EReal))
      = fun j => (((∑ e : Fin 8, ∑ k : Fin 512, EReal.toReal (du (ix2 r ⟨512 * e.val + k.val, by omega⟩)) * EReal.toReal (w (ix3 e j k)))
          * EReal.toReal (g (ix1 j)) : ℝ) : EReal) := by
    funext j
    rw [EReal.coe_mul, ← NormGrad.sum_coe]
    simp only [← NormGrad.sum_coe, EReal.coe_mul, ← hdu, ← hw, ← hg]
    rfl
  rw [ex, ed]
  exact (NormGrad.agree _ _ q).symm

end

/-- The reference runs, leaves its arguments alone and ends with every semaphore at zero. -/
theorem frame_reference : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

/-- The same under the precondition. -/
theorem frame_reference_pre : Cert.quiescent_Reference6Ideal_pre_finite := fun m ρ _ => frame_reference m ρ trivial

/-- On real arrays the kernel's three results are the gradients of the reference. -/
theorem algebraic : Cert.algebraic_Kernel6Ideal_Reference6Ideal_pre_finite := by
  intro m ρ m' ρ' hp hagree
  refine ⟨fun c => (fun i => dxK (arg0 m c) (arg1 m c) (arg2 m c) (arg3 m c) (arg4 m c) (i 0) (i 1) : Cert.Kernel6Ideal.S8192x1024.Idx → EReal),
    fun c => (fun i => dxK (arg0 m c) (arg1 m c) (arg2 m c) (arg3 m c) (arg4 m c) (i 0) (i 1) : Cert.Kernel6Ideal.S8192x1024.Idx → EReal),
    fun c => (fun i => ∑ r : Fin 8192, gain (arg0 m c) (arg1 m c) (arg3 m c) (i 1) r : Cert.Kernel6Ideal.S1x1024.Idx → EReal), ?_, ?_⟩
  · exact (θ_run Cert.Kernel6Ideal.defs _ _).mono
      (fun _ h c => ⟨(h c).1.trans (final5 m c), (h c).2.1.trans (final6 m c), (h c).2.2.1.trans (final7 m c), (h c).2.2.2⟩)
      (Cert.Kernel6Ideal.Value.run_blocks (F := Ideal) m ρ)
  · refine (θ_run Cert.Reference6Ideal.defs _ _).mono (fun _ h c => ⟨(h c).1.trans ?_, (h c).2.1.trans ?_, (h c).2.2.1.trans ?_, (h c).2.2.2⟩)
      (Cert.Reference6Ideal.Value.run (F := Ideal) m' ρ')
    · rw [Cert.Reference6Ideal.Read.val_main_v42_eq, (hagree c).1, (hagree c).2.1, (hagree c).2.2.1, (hagree c).2.2.2.1, (hagree c).2.2.2.2]
      funext i
      rw [eq_ix2 i]
      exact (ref_dx _ _ _ _ _ _ _).trans (forms _ _ _ _ _ (hp c) _ _)
    · rw [Cert.Reference6Ideal.Read.val_main_v43_eq, (hagree c).1, (hagree c).2.1, (hagree c).2.2.1, (hagree c).2.2.2.1, (hagree c).2.2.2.2]
      funext i
      rw [eq_ix2 i]
      exact (ref_dx _ _ _ _ _ _ _).trans (forms _ _ _ _ _ (hp c) _ _)
    · rw [(hagree c).1, (hagree c).2.1, (hagree c).2.2.2.1]
      rw [Cert.Reference6Ideal.Read.val_main_v44_eq]
      funext i
      rw [eq_ix2 i]
      exact ref_gain _ _ _ _ _

end Cert.Proof.MlpUpDx
end
-- ==== Proof.MlpUp.lean ====
/-
  The first product of the feed-forward block, behind its normalisation: the three blocks of each grid point, the whole
  arrays the kernel leaves, and the reference's, all at an index.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel7Ideal.MlpUp

open Cert.Kernel7Ideal Cert.Kernel7Ideal.Gen

/-- The normalised input. -/
def normed (x : S8192x1024.Idx → EReal) (g : S1024.Idx → EReal) (r : Fin 8192) (k : Fin 1024) : EReal :=
  x (ix2 r k) * Ideal.rsqrt (Ideal.div (∑ j : Fin 1024, x (ix2 r j) * x (ix2 r j)) (Ideal.ofBits .f32 0x44800000#32)
    + Ideal.ofBits .f32 0x358637BD#32) * g (ix1 k)

/-- The product before the rectifier. -/
def pre (x : S8192x1024.Idx → EReal) (g : S1024.Idx → EReal) (w : S8x1024x512.Idx → EReal) (r : Fin 8192) (q : Fin 4096) : EReal :=
  ∑ k : Fin 1024, normed x g r k * w (ix3 ⟨q.val / 512, by omega⟩ k ⟨q.val % 512, by omega⟩)

/-- The squared rectifier. -/
def square (u : EReal) : EReal := max u 0 * max u 0

/-- Its slope. -/
def slope (u : EReal) : EReal := Ideal.ofBits .f32 0x40000000#32 * max u 0

variable (m : (ℓ : Loc nD τ sig) → Buf (Elt Ideal) ℓ) (c : Dev nD)

abbrev arg0 : FVec Ideal S8192x1024 .f32 := m ((c.tc : Thread nD τ).loc main_arg0)
abbrev arg1 : FVec Ideal S1024 .f32 := m ((c.tc : Thread nD τ).loc main_arg1)
abbrev arg2 : FVec Ideal S8x1024x512 .bf16 := m ((c.tc : Thread nD τ).loc main_arg2)

/-! ## The arrays the kernel is handed -/

def hG (g : FVec Ideal S1024 .f32) : FVec Ideal S1x1024 .f32 := shapeCast _ g shapeCasts_S1024_S1x1024

theorem entry_g : V (F := Ideal) m c main_v0 = hG (arg1 m c) := by
  show StableHlo.after hostOps0 (fun b => m (c, b)) _ = _
  simp only [hostOps0]
  after_results_simp <;> rfl

theorem entry_x : V (F := Ideal) m c main_arg0 = arg0 m c := by
  show StableHlo.after hostOps0 (fun b => m (c, b)) _ = _
  simp only [hostOps0]
  after_results_simp <;> rfl

theorem entry_w : V (F := Ideal) m c main_arg2 = arg2 m c := by
  show StableHlo.after hostOps0 (fun b => m (c, b)) _ = _
  simp only [hostOps0]
  after_results_simp <;> rfl

theorem hG_apply (g : FVec Ideal S1024 .f32) (e : Fin 1) (k : Fin 1024) : hG g (ix2 e k) = g (ix1 k) := by
  obtain rfl : e = 0 := Subsingleton.elim _ _
  pointwise [hG]

/-! ## The blocks -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 ∧ win0_2.index t 2 = 0 := by decide +kernel
theorem idx3 : ∀ t : Fin grid0.N, win0_3.index t 0 = 0 ∧ win0_3.index t 1 = t.val := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel

/-- A row index of the whole array from a grid point and a row of its block. -/
abbrev row (t : Fin cfg0.N) (p : Fin 512) : Fin 8192 := ⟨512 * t.val + p.val, by
  have hN : t.val < 16 := lt_of_lt_of_eq t.isLt (show cfg0.N = 16 from N_0)
  omega⟩

theorem blk0 (t : Fin cfg0.N) (p : Fin 512) (q : Fin 1024) :
    (iblk m c 0 t : S512x1024.Idx → EReal) (ix2 p q) = arg0 m c (ix2 (row t p) q) := by
  unfold iblk
  rw [View.read_apply]
  show V m c main_arg0 _ = _
  rw [entry_x]
  congr 1
  funext a
  apply Fin.ext
  match a with
  | ⟨0, _⟩ => show win0_0.index t 0 * 512 + 1 * p.val = 512 * t.val + p.val; rw [(idx0 t).1]; omega
  | ⟨1, _⟩ => show win0_0.index t 1 * 1024 + 1 * q.val = q.val; rw [(idx0 t).2]; omega

theorem blk1 (t : Fin cfg0.N) (e : Fin 1) (q : Fin 1024) :
    (iblk m c 1 t : S1x1024.Idx → EReal) (ix2 e q) = arg1 m c (ix1 q) := by
  unfold iblk
  rw [View.read_apply]
  show V m c main_v0 _ = _
  rw [entry_g]
  refine Eq.trans ?_ (hG_apply _ e q)
  congr 1
  funext a
  apply Fin.ext
  match a with
  | ⟨0, _⟩ => show win0_1.index t 0 * 1 + 1 * e.val = e.val; rw [(idx1 t).1]; omega
  | ⟨1, _⟩ => show win0_1.index t 1 * 1024 + 1 * q.val = q.val; rw [(idx1 t).2]; omega

theorem blk2 (t : Fin cfg0.N) (i j : S8x1024x512.Idx) (h : ∀ a, (i a).val = (j a).val := by intro a; fin_cases a <;> simp) :
    (iblk m c 2 t : S8x1024x512.Idx → EReal) i = arg2 m c j := by
  unfold iblk
  rw [View.read_apply]
  show V m c main_arg2 _ = _
  rw [entry_w]
  congr 1
  funext a
  apply Fin.ext
  match a with
  | ⟨0, _⟩ => show win0_2.index t 0 * 8 + 1 * (i 0).val = (j 0).val; rw [(idx2 t).1, h 0]; omega
  | ⟨1, _⟩ => show win0_2.index t 1 * 1024 + 1 * (i 1).val = (j 1).val; rw [(idx2 t).2.1, h 1]; omega
  | ⟨2, _⟩ => show win0_2.index t 2 * 512 + 1 * (i 2).val = (j 2).val; rw [(idx2 t).2.2, h 2]; omega

/-! ## What a point leaves -/

theorem hz : (![0, 0] : Fin 2 → Nat) = fun _ => 0 := funext fun a => by fin_cases a <;> rfl

theorem pay7_eq (t : Fin cfg0.N) (p : Fin 512) (k : Fin 1024) :
    (k0_pay7 (F := Ideal) (iblk m c 0 t) (iblk m c 1 t) (ix2 p k) : EReal) = normed (arg0 m c) (arg1 m c) (row t p) k := by
  pointwise [k0_pay7]
  unfold normed
  have e : ∀ j : Fin 1024, (iblk m c 0 t : S512x1024.Idx → EReal) (ix2 p j) = arg0 m c (ix2 (row t p) j) := blk0 m c t p
  exact congrArg₂ (· * ·) (congrArg₂ (· * ·) (e k) (congrArg (fun s => Ideal.rsqrt (Ideal.div s _ + _))
    (Finset.sum_congr rfl fun j _ => congrArg₂ (· * ·) (e j) (e j)))) (blk1 m c t 0 k)

/-- A function of the product in the rows of point `t`. -/
abbrev rows (φ : EReal → EReal) (t : Fin cfg0.N) : S512x4096.Idx → EReal :=
  fun i => φ (pre (arg0 m c) (arg1 m c) (arg2 m c) (row t (i 0)) (i 1))

/-- A tile of a block at an index, from its operands. -/
theorem tile (φ : EReal → EReal) (t : Fin cfg0.N) (p q : Fin 512) (j : Fin 8) (f g : Fin 1024 → EReal)
    (hf : ∀ k, f k = normed (arg0 m c) (arg1 m c) (row t p) k) (hg : ∀ k, g k = arg2 m c (ix3 j k q))
    (x : S512x4096.Idx) (h0 : (x 0).val = p.val) (h1 : (x 1).val = 512 * j.val + q.val) :
    φ (∑ k : Fin 1024, f k * g k) = rows m c φ t x := by
  show _ = φ (pre _ _ _ (row t (x 0)) (x 1))
  have e0 : row t (x 0) = row t p := Fin.ext (by show 512 * t.val + (x 0).val = 512 * t.val + p.val; rw [h0])
  rw [e0]
  unfold pre
  congr 1
  refine Finset.sum_congr rfl fun k _ => congrArg₂ (· * ·) (hf k) ((hg k).trans ?_)
  congr 1
  funext a
  apply Fin.ext
  match a with
  | ⟨0, _⟩ => show j.val = (x 1).val / 512; rw [h1]; omega
  | ⟨1, _⟩ => rfl
  | ⟨2, _⟩ => show q.val = (x 1).val % 512; rw [h1]; omega

theorem out3_eq (t : Fin cfg0.N) (k : Fin 1024) (p : Fin 512) :
    (out0_3 (F := Ideal) (iblk m c 0 t) (iblk m c 1 t) (iblk m c 2 t) : S1024x512.Idx → EReal) (ix2 k p)
      = normed (arg0 m c) (arg1 m c) (row t p) k := by
  unfold out0_3
  rw [View.canon_unit_zero hz]
  simp only [View.ld_unit_zero (S := S512x1024) hz, View.ld_unit_zero (S := S1x1024) hz]
  pointwise [k0_pay8]
  exact pay7_eq m c t p k

theorem out4_eq (t : Fin cfg0.N) :
    (out0_4 (F := Ideal) (iblk m c 0 t) (iblk m c 1 t) (iblk m c 2 t) : S512x4096.Idx → EReal) = rows m c square t := by
  unfold out0_4 k0_pay32 k0_pay31 k0_pay30
  funext y
  refine View.canon_apply_of_pieces (Val := Elt Ideal) (e := .bf16) (rows m c square t) _ ?_ y (cover0_4 ..)
  simp only [View.ld_unit_zero (S := S512x1024) hz, View.ld_unit_zero (S := S1x1024) hz]
  intro p hp
  simp only [List.mem_cons, List.not_mem_nil, or_false] at hp
  rcases hp with rfl | rfl | rfl | rfl | rfl | rfl | rfl | rfl
  all_goals
    intro x
    obtain ⟨p, q, rfl⟩ : ∃ (p : Fin 512) (q : Fin 512), x = ix2 p q := ⟨x 0, x 1, eq_ix2 x⟩
    pointwise [k0_pay6, k0_pay4, k0_pay3, k0_pay1, k0_pay28, k0_pay26, k0_pay25, k0_pay23, k0_pay22, k0_pay21, k0_pay19, k0_pay18, k0_pay16, k0_pay15, k0_pay13, k0_pay12, k0_pay11, k0_pay9, k0_pay29]
  · exact tile m c square t p q 7 _ _ (pay7_eq m c t p) (fun k => blk2 m c t _ _) _ (by simp) (by simp)
  · exact tile m c square t p q 6 _ _ (pay7_eq m c t p) (fun k => blk2 m c t _ _) _ (by simp) (by simp)
  · exact tile m c square t p q 5 _ _ (pay7_eq m c t p) (fun k => blk2 m c t _ _) _ (by simp) (by simp)
  · exact tile m c square t p q 4 _ _ (pay7_eq m c t p) (fun k => blk2 m c t _ _) _ (by simp) (by simp)
  · exact tile m c square t p q 3 _ _ (pay7_eq m c t p) (fun k => blk2 m c t _ _) _ (by simp) (by simp)
  · exact tile m c square t p q 2 _ _ (pay7_eq m c t p) (fun k => blk2 m c t _ _) _ (by simp) (by simp)
  · exact tile m c square t p q 1 _ _ (pay7_eq m c t p) (fun k => blk2 m c t _ _) _ (by simp) (by simp)
  · exact tile m c square t p q 0 _ _ (pay7_eq m c t p) (fun k => blk2 m c t _ _) _ (by simp) (by simp)

theorem out5_eq (t : Fin cfg0.N) :
    (out0_5 (F := Ideal) (iblk m c 0 t) (iblk m c 1 t) (iblk m c 2 t) : S512x4096.Idx → EReal) = rows m c slope t := by
  unfold out0_5 k0_pay32 k0_pay31 k0_pay30
  funext y
  refine View.canon_apply_of_pieces (Val := Elt Ideal) (e := .bf16) (rows m c slope t) _ ?_ y (cover0_5 ..)
  simp only [View.ld_unit_zero (S := S512x1024) hz, View.ld_unit_zero (S := S1x1024) hz]
  intro p hp
  simp only [List.mem_cons, List.not_mem_nil, or_false] at hp
  rcases hp with rfl | rfl | rfl | rfl | rfl | rfl | rfl | rfl
  all_goals
    intro x
    obtain ⟨p, q, rfl⟩ : ∃ (p : Fin 512) (q : Fin 512), x = ix2 p q := ⟨x 0, x 1, eq_ix2 x⟩
    pointwise [k0_pay5, k0_pay4, k0_pay2, k0_pay1, k0_pay27, k0_pay26, k0_pay24, k0_pay23, k0_pay20, k0_pay19, k0_pay17, k0_pay16, k0_pay14, k0_pay13, k0_pay12, k0_pay10, k0_pay9, k0_pay29]
  · exact tile m c slope t p q 7 _ _ (pay7_eq m c t p) (fun k => blk2 m c t _ _) _ (by simp) (by simp)
  · exact tile m c slope t p q 6 _ _ (pay7_eq m c t p) (fun k => blk2 m c t _ _) _ (by simp) (by simp)
  · exact tile m c slope t p q 5 _ _ (pay7_eq m c t p) (fun k => blk2 m c t _ _) _ (by simp) (by simp)
  · exact tile m c slope t p q 4 _ _ (pay7_eq m c t p) (fun k => blk2 m c t _ _) _ (by simp) (by simp)
  · exact tile m c slope t p q 3 _ _ (pay7_eq m c t p) (fun k => blk2 m c t _ _) _ (by simp) (by simp)
  · exact tile m c slope t p q 2 _ _ (pay7_eq m c t p) (fun k => blk2 m c t _ _) _ (by simp) (by simp)
  · exact tile m c slope t p q 1 _ _ (pay7_eq m c t p) (fun k => blk2 m c t _ _) _ (by simp) (by simp)
  · exact tile m c slope t p q 0 _ _ (pay7_eq m c t p) (fun k => blk2 m c t _ _) _ (by simp) (by simp)

/-! ## The whole arrays -/

theorem mem_blk3 (t : Fin cfg0.N) (i : S1024x8192.Idx) (h : 512 * t.val ≤ (i 1 : Nat) ∧ (i 1 : Nat) < 512 * t.val + 512) :
    i ∈ ((cfg0.win 3).blk t).view.set := by
  show i ∈ ((View.whole main_v1_0).slice (win0_3.rect t)).set
  rw [View.set_slice_whole, Rect.mem_set_unit]
  have h1 : (i 0 : Nat) < 1024 := (i 0).isLt
  intro a
  match a with
  | ⟨0, _⟩ => show win0_3.index t 0 * 1024 ≤ (i 0 : Nat) ∧ (i 0 : Nat) < win0_3.index t 0 * 1024 + 1024; rw [(idx3 t).1]; omega
  | ⟨1, _⟩ => show win0_3.index t 1 * 512 ≤ (i 1 : Nat) ∧ (i 1 : Nat) < win0_3.index t 1 * 512 + 512; rw [(idx3 t).2]; omega

theorem final3 : (dats m 0 c).arrAt 3 cfg0.N
    = ((fun i => normed (arg0 m c) (arg1 m c) (i 1) (i 0)) : S1024x8192.Idx → EReal) := by
  refine (dats m 0 c).arrAt_eq_of_cover 3 _ (fun t _ => ?_) fun i => ?_
  · rw [Value.flushed3]
    funext j
    rw [View.read_apply]
    obtain ⟨k, p, rfl⟩ : ∃ (k : Fin 1024) (p : Fin 512), j = ix2 k p := ⟨j 0, j 1, eq_ix2 j⟩
    refine (out3_eq m c t k p).trans ?_
    show normed _ _ _ _ = normed _ _ _ _
    congr 1
    · apply Fin.ext
      show 512 * t.val + p.val = win0_3.index t 1 * 512 + 1 * p.val
      rw [(idx3 t).2]; omega
    · apply Fin.ext
      show k.val = win0_3.index t 0 * 1024 + 1 * k.val
      rw [(idx3 t).1]; omega
  · have h1 : (i 1).val < 8192 := (i 1).isLt
    have hN : cfg0.N = 16 := N_0
    refine ⟨⟨(i 1).val / 512, by rw [hN]; omega⟩, flush0_3 _, ?_⟩
    refine mem_blk3 _ i ?_
    simp only
    omega

theorem mem_blk4 (t : Fin cfg0.N) (i : S8192x4096.Idx) (h : 512 * t.val ≤ (i 0 : Nat) ∧ (i 0 : Nat) < 512 * t.val + 512) :
    i ∈ ((cfg0.win 4).blk t).view.set := by
  show i ∈ ((View.whole main_v1_1).slice (win0_4.rect t)).set
  rw [View.set_slice_whole, Rect.mem_set_unit]
  have h1 : (i 1 : Nat) < 4096 := (i 1).isLt
  intro a
  match a with
  | ⟨0, _⟩ => show win0_4.index t 0 * 512 ≤ (i 0 : Nat) ∧ (i 0 : Nat) < win0_4.index t 0 * 512 + 512; rw [(idx4 t).1]; omega
  | ⟨1, _⟩ => show win0_4.index t 1 * 4096 ≤ (i 1 : Nat) ∧ (i 1 : Nat) < win0_4.index t 1 * 4096 + 4096; rw [(idx4 t).2]; omega

theorem final4 : (dats m 0 c).arrAt 4 cfg0.N
    = ((fun i => square (pre (arg0 m c) (arg1 m c) (arg2 m c) (i 0) (i 1))) : S8192x4096.Idx → EReal) := by
  refine (dats m 0 c).arrAt_eq_of_cover 4 _ (fun t _ => ?_) fun i => ?_
  · rw [Value.flushed4, out4_eq]
    funext j
    rw [View.read_apply]
    show square (pre _ _ _ _ _) = square (pre _ _ _ _ _)
    congr 2
    · apply Fin.ext
      show 512 * t.val + (j 0).val = win0_4.index t 0 * 512 + 1 * (j 0).val
      rw [(idx4 t).1]; omega
    · apply Fin.ext
      show (j 1).val = win0_4.index t 1 * 4096 + 1 * (j 1).val
      rw [(idx4 t).2]; omega
  · have h0 : (i 0).val < 8192 := (i 0).isLt
    have hN : cfg0.N = 16 := N_0
    refine ⟨⟨(i 0).val / 512, by rw [hN]; omega⟩, flush0_4 _, ?_⟩
    refine mem_blk4 _ i ?_
    simp only
    omega

theorem mem_blk5 (t : Fin cfg0.N) (i : S8192x4096.Idx) (h : 512 * t.val ≤ (i 0 : Nat) ∧ (i 0 : Nat) < 512 * t.val + 512) :
    i ∈ ((cfg0.win 5).blk t).view.set := by
  show i ∈ ((View.whole main_v1_2).slice (win0_5.rect t)).set
  rw [View.set_slice_whole, Rect.mem_set_unit]
  have h1 : (i 1 : Nat) < 4096 := (i 1).isLt
  intro a
  match a with
  | ⟨0, _⟩ => show win0_5.index t 0 * 512 ≤ (i 0 : Nat) ∧ (i 0 : Nat) < win0_5.index t 0 * 512 + 512; rw [(idx5 t).1]; omega
  | ⟨1, _⟩ => show win0_5.index t 1 * 4096 ≤ (i 1 : Nat) ∧ (i 1 : Nat) < win0_5.index t 1 * 4096 + 4096; rw [(idx5 t).2]; omega

theorem final5 : (dats m 0 c).arrAt 5 cfg0.N
    = ((fun i => slope (pre (arg0 m c) (arg1 m c) (arg2 m c) (i 0) (i 1))) : S8192x4096.Idx → EReal) := by
  refine (dats m 0 c).arrAt_eq_of_cover 5 _ (fun t _ => ?_) fun i => ?_
  · rw [Value.flushed5, out5_eq]
    funext j
    rw [View.read_apply]
    show slope (pre _ _ _ _ _) = slope (pre _ _ _ _ _)
    congr 2
    · apply Fin.ext
      show 512 * t.val + (j 0).val = win0_5.index t 0 * 512 + 1 * (j 0).val
      rw [(idx5 t).1]; omega
    · apply Fin.ext
      show (j 1).val = win0_5.index t 1 * 4096 + 1 * (j 1).val
      rw [(idx5 t).2]; omega
  · have h0 : (i 0).val < 8192 := (i 0).isLt
    have hN : cfg0.N = 16 := N_0
    refine ⟨⟨(i 0).val / 512, by rw [hN]; omega⟩, flush0_5 _, ?_⟩
    refine mem_blk5 _ i ?_
    simp only
    omega

end Cert.Kernel7Ideal.MlpUp

namespace Cert.Proof.MlpUp

open Cert.Kernel7Ideal.MlpUp

/-! ## The reference and the claims -/

section
open Cert.Reference7Ideal Cert.Reference7Ideal.Read

theorem reference_normed (x : FVec Ideal S8192x1024 .f32) (g : FVec Ideal S1024 .f32) (r : Fin 8192) (q : Fin 1024) :
    val_main_v12 (F := Ideal) x g (ix2 r q) = normed x g r q := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem reference_pre (x : FVec Ideal S8192x1024 .f32) (g : FVec Ideal S1024 .f32) (w : FVec Ideal S8x1024x512 .bf16)
    (r : Fin 8192) (q : Fin 4096) : val_main_v16 (F := Ideal) x g w (ix2 r q) = pre x g w r q := by
  pointwise [val_main_v16, val_main_v15, val_main_v14, val_main_v13]
  exact Finset.sum_congr rfl fun k _ => congrArg (· * _) (reference_normed x g r k)

theorem reference_h (x : FVec Ideal S8192x1024 .f32) (g : FVec Ideal S1024 .f32) (k : Fin 1024) (r : Fin 8192) :
    val_main_v19 (F := Ideal) x g (ix2 k r) = normed x g r k := by
  pointwise [val_main_v19, val_main_v18]
  exact reference_normed x g r k

theorem reference_square (x : FVec Ideal S8192x1024 .f32) (g : FVec Ideal S1024 .f32) (w : FVec Ideal S8x1024x512 .bf16)
    (r : Fin 8192) (q : Fin 4096) : val_main_v21 (F := Ideal) x g w (ix2 r q) = square (pre x g w r q) := by
  pointwise [val_main_v21, val_main_v20, val_main_v17, val_main_call0_v0, val_main_call0_cst]
  exact congrArg square (reference_pre x g w r q)

theorem reference_slope (x : FVec Ideal S8192x1024 .f32) (g : FVec Ideal S1024 .f32) (w : FVec Ideal S8x1024x512 .bf16)
    (r : Fin 8192) (q : Fin 4096) :
    val_main_v24 (F := Ideal) x g w (ix2 r q) = Cert.Kernel7Ideal.MlpUp.slope (pre x g w r q) := by
  pointwise [val_main_v24, val_main_v23, val_main_v22, val_main_cst_2, val_main_v17, val_main_call0_v0, val_main_call0_cst]
  exact congrArg Cert.Kernel7Ideal.MlpUp.slope (reference_pre x g w r q)

end

/-- The reference runs, leaves its arguments alone and ends with every semaphore at zero. -/
theorem frame_reference : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The kernel's three results are the reference's. -/
theorem algebraic : Cert.algebraic_Kernel7Ideal_Reference7Ideal := by
  intro m ρ m' ρ' _ hagree
  refine ⟨fun c => (fun i => normed (arg0 m c) (arg1 m c) (i 1) (i 0) : Cert.Kernel7Ideal.S1024x8192.Idx → EReal),
    fun c => (fun i => square (pre (arg0 m c) (arg1 m c) (arg2 m c) (i 0) (i 1)) : Cert.Kernel7Ideal.S8192x4096.Idx → EReal),
    fun c => (fun i => Cert.Kernel7Ideal.MlpUp.slope (pre (arg0 m c) (arg1 m c) (arg2 m c) (i 0) (i 1)) : Cert.Kernel7Ideal.S8192x4096.Idx → EReal),
    ?_, ?_⟩
  · exact (θ_run Cert.Kernel7Ideal.defs _ _).mono
      (fun _ h c => ⟨(h c).1.trans (final3 m c), (h c).2.1.trans (final4 m c), (h c).2.2.1.trans (final5 m c), (h c).2.2.2⟩)
      (Cert.Kernel7Ideal.Value.run_blocks (F := Ideal) m ρ)
  · refine (θ_run Cert.Reference7Ideal.defs _ _).mono (fun _ h c => ⟨(h c).1.trans ?_, (h c).2.1.trans ?_, (h c).2.2.1.trans ?_, (h c).2.2.2⟩)
      (Cert.Reference7Ideal.Value.run (F := Ideal) m' ρ')
    · rw [Cert.Reference7Ideal.Read.val_main_v19_eq, (hagree c).1, (hagree c).2.1]
      funext i
      rw [eq_ix2 i]
      exact reference_h _ _ _ _
    · rw [Cert.Reference7Ideal.Read.val_main_v21_eq, (hagree c).1, (hagree c).2.1, (hagree c).2.2]
      funext i
      rw [eq_ix2 i]
      exact reference_square _ _ _ _ _
    · rw [Cert.Reference7Ideal.Read.val_main_v24_eq, (hagree c).1, (hagree c).2.1, (hagree c).2.2]
      funext i
      rw [eq_ix2 i]
      exact reference_slope _ _ _ _ _

end Cert.Proof.MlpUp
end
-- ==== Proof.MlpDown.lean ====
/-
  The second product of the feed-forward block, added to the residual: the block of each grid point, the whole array the
  kernel leaves, and the reference's, all at an index.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel8Ideal.MlpOut

open Cert.Kernel8Ideal Cert.Kernel8Ideal.Gen

/-- The residual plus the product of the activation and the weight. -/
def out (act : S8192x4096.Idx → EReal) (w : S4096x1024.Idx → EReal) (x : S8192x1024.Idx → EReal) (r : Fin 8192) (q : Fin 1024) : EReal :=
  x (ix2 r q) + ∑ k : Fin 4096, act (ix2 r k) * w (ix2 k q)

variable (m : (ℓ : Loc nD τ sig) → Buf (Elt Ideal) ℓ) (c : Dev nD)

abbrev arg0 : FVec Ideal S8192x4096 .bf16 := m ((c.tc : Thread nD τ).loc main_arg0)
abbrev arg1 : FVec Ideal S4096x1024 .bf16 := m ((c.tc : Thread nD τ).loc main_arg1)
abbrev arg2 : FVec Ideal S8192x1024 .f32 := m ((c.tc : Thread nD τ).loc main_arg2)

/-! ## The blocks -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel

theorem blk0 (t : Fin cfg0.N) (p : Fin 512) (q : Fin 4096) (r : Fin 8192) (hr : r.val = 512 * t.val + p.val) :
    (iblk m c 0 t : S512x4096.Idx → EReal) (ix2 p q) = arg0 m c (ix2 r q) := by
  unfold iblk
  rw [View.read_apply]
  show arg0 m c _ = _
  congr 1
  funext a
  apply Fin.ext
  match a with
  | ⟨0, _⟩ => show win0_0.index t 0 * 512 + 1 * p.val = r.val; rw [(idx0 t).1]; omega
  | ⟨1, _⟩ => show win0_0.index t 1 * 4096 + 1 * q.val = q.val; rw [(idx0 t).2]; omega

theorem blk1 (t : Fin cfg0.N) (p : Fin 4096) (q : Fin 1024) :
    (iblk m c 1 t : S4096x1024.Idx → EReal) (ix2 p q) = arg1 m c (ix2 p q) := by
  unfold iblk
  rw [View.read_apply]
  show arg1 m c _ = _
  congr 1
  funext a
  apply Fin.ext
  match a with
  | ⟨0, _⟩ => show win0_1.index t 0 * 4096 + 1 * p.val = p.val; rw [(idx1 t).1]; omega
  | ⟨1, _⟩ => show win0_1.index t 1 * 1024 + 1 * q.val = q.val; rw [(idx1 t).2]; omega

theorem blk2 (t : Fin cfg0.N) (p : Fin 512) (q : Fin 1024) (r : Fin 8192) (hr : r.val = 512 * t.val + p.val) :
    (iblk m c 2 t : S512x1024.Idx → EReal) (ix2 p q) = arg2 m c (ix2 r q) := by
  unfold iblk
  rw [View.read_apply]
  show arg2 m c _ = _
  congr 1
  funext a
  apply Fin.ext
  match a with
  | ⟨0, _⟩ => show win0_2.index t 0 * 512 + 1 * p.val = r.val; rw [(idx2 t).1]; omega
  | ⟨1, _⟩ => show win0_2.index t 1 * 1024 + 1 * q.val = q.val; rw [(idx2 t).2]; omega

/-! ## What a point leaves -/

theorem hz : (![0, 0] : Fin 2 → Nat) = fun _ => 0 := funext fun a => by fin_cases a <;> rfl

/-- A row index of the whole array from a grid point and a row of its block. -/
abbrev row (t : Fin cfg0.N) (p : Fin 512) : Fin 8192 := ⟨512 * t.val + p.val, by
  have hN : t.val < 16 := lt_of_lt_of_eq t.isLt (show cfg0.N = 16 from N_0)
  omega⟩

/-- The result in the rows of point `t`. -/
abbrev rows (t : Fin cfg0.N) : S512x1024.Idx → EReal := fun i => out (arg0 m c) (arg1 m c) (arg2 m c) (row t (i 0)) (i 1)

theorem out_eq (t : Fin cfg0.N) : (out0_3 (F := Ideal) (iblk m c 0 t) (iblk m c 1 t) (iblk m c 2 t) : S512x1024.Idx → EReal) = rows m c t := by
  unfold out0_3
  rw [View.canon_unit_zero hz]
  simp only [View.ld_unit_zero (S := S512x1024) hz, View.ld_unit_zero (S := S512x4096) hz, View.ld_unit_zero (S := S4096x1024) hz]
  funext y
  obtain ⟨p, q, rfl⟩ : ∃ (p : Fin 512) (q : Fin 1024), y = ix2 p q := ⟨y 0, y 1, eq_ix2 y⟩
  pointwise [k0_pay1]
  exact congrArg₂ (· + ·) (blk2 m c t p q (row t p) rfl)
    (Finset.sum_congr rfl fun k _ => congrArg₂ (· * ·) (blk0 m c t p k (row t p) rfl) (blk1 m c t k q))

/-! ## The whole array -/

theorem mem_blk3 (t : Fin cfg0.N) (i : S8192x1024.Idx) (h : 512 * t.val ≤ (i 0 : Nat) ∧ (i 0 : Nat) < 512 * t.val + 512) :
    i ∈ ((cfg0.win 3).blk t).view.set := by
  show i ∈ ((View.whole main_v0).slice (win0_3.rect t)).set
  rw [View.set_slice_whole, Rect.mem_set_unit]
  have h1 : (i 1 : Nat) < 1024 := (i 1).isLt
  intro a
  match a with
  | ⟨0, _⟩ => show win0_3.index t 0 * 512 ≤ (i 0 : Nat) ∧ (i 0 : Nat) < win0_3.index t 0 * 512 + 512; rw [(idx3 t).1]; omega
  | ⟨1, _⟩ => show win0_3.index t 1 * 1024 ≤ (i 1 : Nat) ∧ (i 1 : Nat) < win0_3.index t 1 * 1024 + 1024; rw [(idx3 t).2]; omega

theorem final3 : (dats m 0 c).arrAt 3 cfg0.N
    = ((fun i => out (arg0 m c) (arg1 m c) (arg2 m c) (i 0) (i 1)) : S8192x1024.Idx → EReal) := by
  refine (dats m 0 c).arrAt_eq_of_cover 3 _ (fun t _ => ?_) fun i => ?_
  · rw [Value.flushed3, out_eq]
    funext j
    rw [View.read_apply]
    show out _ _ _ _ _ = out _ _ _ _ _
    congr 1
    · apply Fin.ext
      show 512 * t.val + (j 0).val = win0_3.index t 0 * 512 + 1 * (j 0).val
      rw [(idx3 t).1]; omega
    · apply Fin.ext
      show (j 1).val = win0_3.index t 1 * 1024 + 1 * (j 1).val
      rw [(idx3 t).2]; omega
  · have h0 : (i 0).val < 8192 := (i 0).isLt
    have hN : cfg0.N = 16 := N_0
    refine ⟨⟨(i 0).val / 512, by rw [hN]; omega⟩, flush0_3 _, ?_⟩
    refine mem_blk3 _ i ?_
    simp only
    omega

end Cert.Kernel8Ideal.MlpOut

namespace Cert.Proof.MlpOut

open Cert.Kernel8Ideal.MlpOut

/-! ## The reference and the claims -/

open Cert.Reference8Ideal Cert.Reference8Ideal.Read in
theorem reference (act : FVec Ideal S8192x4096 .bf16) (w : FVec Ideal S4096x1024 .bf16) (x : FVec Ideal S8192x1024 .f32)
    (r : Fin 8192) (q : Fin 1024) : val_main_v3 (F := Ideal) act w x (ix2 r q) = Cert.Kernel8Ideal.MlpOut.out act w x r q := by
  pointwise [val_main_v3, val_main_v2, val_main_v1, val_main_v0]
  rfl

/-- The reference runs, leaves its arguments alone and ends with every semaphore at zero. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The kernel's result is the reference's. -/
theorem algebraic : Cert.algebraic_Kernel8Ideal_Reference8Ideal := by
  intro m ρ m' ρ' _ hagree
  refine ⟨fun c => (fun i => Cert.Kernel8Ideal.MlpOut.out (arg0 m c) (arg1 m c) (arg2 m c) (i 0) (i 1) : Cert.Kernel8Ideal.S8192x1024.Idx → EReal), ?_, ?_⟩
  · exact (θ_run Cert.Kernel8Ideal.defs _ _).mono
      (fun _ h c => ⟨(h c).1.trans (final3 m c), (h c).2⟩)
      (Cert.Kernel8Ideal.Value.run_blocks (F := Ideal) m ρ)
  · refine (θ_run Cert.Reference8Ideal.defs _ _).mono (fun _ h c => ⟨(h c).1.trans ?_, (h c).2⟩)
      (Cert.Reference8Ideal.Value.run (F := Ideal) m' ρ')
    rw [Cert.Reference8Ideal.Read.val_main_v3_eq, (hagree c).1, (hagree c).2.1, (hagree c).2.2]
    funext i
    rw [eq_ix2 i]
    exact reference _ _ _ _ _

end Cert.Proof.MlpOut
end
-- ==== Proof.ConvInDx.lean ====
/-
  The cotangent that the gated convolution passes to the residual stream, through its first projection and its
  normalisation: the blocks of each grid point, the whole arrays the kernel leaves, and the reference's, all at an index.
-/
module

public import proofs.«01_k».proof.Defs
public import proofs.«01_k».proof.Proof.NormGrad
public import proofs.«01_k».proof.Proof.Gen.Pre_finite_conv
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Quiescent
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Kernel9Ideal.ConvInDx

open Cert.Kernel9Ideal Cert.Kernel9Ideal.Gen NormGrad

/-- The cotangent of the normalised input. -/
def dh (du : S8192x3072.Idx → EReal) (w : S8x1024x384.Idx → EReal) (r : Fin 8192) (q : Fin 1024) : EReal :=
  ∑ e : Fin 8, ∑ k : Fin 384, du (ix2 r ⟨384 * e.val + k.val, by omega⟩) * w (ix3 e q k)

/-- The residual's cotangent with the block's added. -/
def dxK (du : S8192x3072.Idx → EReal) (x : S8192x1024.Idx → EReal) (g : S1024.Idx → EReal) (w : S8x1024x384.Idx → EReal) (dy : S8192x1024.Idx → EReal)
    (r : Fin 8192) (q : Fin 1024) : EReal :=
  dy (ix2 r q) + asDifference (fun j => x (ix2 r j)) (fun j => dh du w r j * g (ix1 j)) q

/-- One row's part of the gain's gradient. -/
def gain (du : S8192x3072.Idx → EReal) (x : S8192x1024.Idx → EReal) (w : S8x1024x384.Idx → EReal) (q : Fin 1024) (r : Fin 8192) : EReal :=
  dh du w r q * (x (ix2 r q) * root fun j => x (ix2 r j))

variable (m : (ℓ : Loc nD τ sig) → Buf (Elt Ideal) ℓ) (c : Dev nD)

abbrev arg0 : FVec Ideal S8192x3072 .bf16 := m ((c.tc : Thread nD τ).loc main_arg0)
abbrev arg1 : FVec Ideal S8192x1024 .f32 := m ((c.tc : Thread nD τ).loc main_arg1)
abbrev arg2 : FVec Ideal S1024 .f32 := m ((c.tc : Thread nD τ).loc main_arg2)
abbrev arg3 : FVec Ideal S8x1024x384 .bf16 := m ((c.tc : Thread nD τ).loc main_arg3)
abbrev arg4 : FVec Ideal S8192x1024 .f32 := m ((c.tc : Thread nD τ).loc main_arg4)

/-! ## The arrays the kernel is handed -/

def hG (g : FVec Ideal S1024 .f32) : FVec Ideal S1x1024 .f32 := shapeCast _ g shapeCasts_S1024_S1x1024

theorem hG_apply (g : FVec Ideal S1024 .f32) (e : Fin 1) (k : Fin 1024) : hG g (ix2 e k) = g (ix1 k) := by
  obtain rfl : e = 0 := Subsingleton.elim _ _
  pointwise [hG]

theorem entry_du : V (F := Ideal) m c main_arg0 = arg0 m c := by
  show StableHlo.after hostOps0 (fun b => m (c, b)) _ = _
  simp only [hostOps0]
  after_results_simp <;> rfl

theorem entry_x : V (F := Ideal) m c main_arg1 = arg1 m c := by
  show StableHlo.after hostOps0 (fun b => m (c, b)) _ = _
  simp only [hostOps0]
  after_results_simp <;> rfl

theorem entry_w : V (F := Ideal) m c main_arg3 = arg3 m c := by
  show StableHlo.after hostOps0 (fun b => m (c, b)) _ = _
  simp only [hostOps0]
  after_results_simp <;> rfl

theorem entry_dy : V (F := Ideal) m c main_arg4 = arg4 m c := by
  show StableHlo.after hostOps0 (fun b => m (c, b)) _ = _
  simp only [hostOps0]
  after_results_simp <;> rfl

theorem entry_g : V (F := Ideal) m c main_v0 = hG (arg2 m c) := by
  show StableHlo.after hostOps0 (fun b => m (c, b)) _ = _
  simp only [hostOps0]
  after_results_simp <;> rfl

/-! ## The blocks -/

theorem idx0 : ∀ t : Fin grid0.N, win0_0.index t 0 = t.val ∧ win0_0.index t 1 = 0 := by decide +kernel
theorem idx1 : ∀ t : Fin grid0.N, win0_1.index t 0 = 0 ∧ win0_1.index t 1 = 0 ∧ win0_1.index t 2 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = 0 ∧ win0_7.index t 1 = 0 := by decide +kernel

/-- A row index of the whole array from a grid point and a row of its block. -/
abbrev row (t : Fin cfg0.N) (p : Fin 512) : Fin 8192 := ⟨512 * t.val + p.val, by
  have hN : t.val < 16 := lt_of_lt_of_eq t.isLt (show cfg0.N = 16 from N_0)
  omega⟩

theorem blk0 (t : Fin cfg0.N) (p : Fin 512) (q : Fin 3072) : (iblk m c 0 t : S512x3072.Idx → EReal) (ix2 p q) = arg0 m c (ix2 (row t p) q) := by
  unfold iblk
  rw [View.read_apply]
  show V m c main_arg0 _ = _
  rw [entry_du]
  congr 1
  funext a
  apply Fin.ext
  match a with
  | ⟨0, _⟩ => show win0_0.index t 0 * 512 + 1 * p.val = 512 * t.val + p.val; rw [(idx0 t).1]; omega
  | ⟨1, _⟩ => show win0_0.index t 1 * 3072 + 1 * q.val = q.val; rw [(idx0 t).2]; omega

theorem blk1 (t : Fin cfg0.N) (i : S8x1024x384.Idx) : (iblk m c 1 t : S8x1024x384.Idx → EReal) i = arg3 m c i := by
  unfold iblk
  rw [View.read_apply]
  show V m c main_arg3 _ = _
  rw [entry_w]
  congr 1
  funext a
  apply Fin.ext
  match a with
  | ⟨0, _⟩ => show win0_1.index t 0 * 8 + 1 * (i 0).val = (i 0).val; rw [(idx1 t).1]; omega
  | ⟨1, _⟩ => show win0_1.index t 1 * 1024 + 1 * (i 1).val = (i 1).val; rw [(idx1 t).2.1]; omega
  | ⟨2, _⟩ => show win0_1.index t 2 * 384 + 1 * (i 2).val = (i 2).val; rw [(idx1 t).2.2]; omega

theorem blk2 (t : Fin cfg0.N) (p : Fin 512) (q : Fin 1024) : (iblk m c 2 t : S512x1024.Idx → EReal) (ix2 p q) = arg1 m c (ix2 (row t p) q) := by
  unfold iblk
  rw [View.read_apply]
  show V m c main_arg1 _ = _
  rw [entry_x]
  congr 1
  funext a
  apply Fin.ext
  match a with
  | ⟨0, _⟩ => show win0_2.index t 0 * 512 + 1 * p.val = 512 * t.val + p.val; rw [(idx2 t).1]; omega
  | ⟨1, _⟩ => show win0_2.index t 1 * 1024 + 1 * q.val = q.val; rw [(idx2 t).2]; omega

theorem blk4 (t : Fin cfg0.N) (p : Fin 512) (q : Fin 1024) : (iblk m c 4 t : S512x1024.Idx → EReal) (ix2 p q) = arg4 m c (ix2 (row t p) q) := by
  unfold iblk
  rw [View.read_apply]
  show V m c main_arg4 _ = _
  rw [entry_dy]
  congr 1
  funext a
  apply Fin.ext
  match a with
  | ⟨0, _⟩ => show win0_4.index t 0 * 512 + 1 * p.val = 512 * t.val + p.val; rw [(idx4 t).1]; omega
  | ⟨1, _⟩ => show win0_4.index t 1 * 1024 + 1 * q.val = q.val; rw [(idx4 t).2]; omega

theorem blk3 (t : Fin cfg0.N) (e : Fin 1) (q : Fin 1024) : (iblk m c 3 t : S1x1024.Idx → EReal) (ix2 e q) = arg2 m c (ix1 q) := by
  unfold iblk
  rw [View.read_apply]
  show V m c main_v0 _ = _
  rw [entry_g]
  refine Eq.trans ?_ (hG_apply _ e q)
  congr 1
  funext a
  apply Fin.ext
  match a with
  | ⟨0, _⟩ => show win0_3.index t 0 * 1 + 1 * e.val = e.val; rw [(idx3 t).1]; omega
  | ⟨1, _⟩ => show win0_3.index t 1 * 1024 + 1 * q.val = q.val; rw [(idx3 t).2]; omega

/-! ## What a point computes -/

theorem hz : (![0, 0] : Fin 2 → Nat) = fun _ => 0 := funext fun a => by fin_cases a <;> rfl

section
variable (x0 : Vec Ideal S512x3072 .bf16) (x1 : Vec Ideal S8x1024x384 .bf16) (x2 : Vec Ideal S512x1024 .f32) (x3 : Vec Ideal S1x1024 .f32)
  (x4 : Vec Ideal S512x1024 .f32)

/-- The first five groups' part of the product of a point's rows. -/
abbrev first : FVec Ideal S512x1024 .f32 :=
  k0_pay4 (View.ld x0 (Rect.unit ![0, 0] ![512, 384] inb_S512x3072_S512x384_0_0))
    (View.ld x1 (Rect.unit ![0, 0, 0] ![1, 1024, 384] inb_S8x1024x384_S1x1024x384_0_0_0)) (View.ld x0 (Rect.unit ![0, 384] ![512, 384] inb_S512x3072_S512x384_0_384))
    (View.ld x1 (Rect.unit ![1, 0, 0] ![1, 1024, 384] inb_S8x1024x384_S1x1024x384_1_0_0)) (View.ld x0 (Rect.unit ![0, 768] ![512, 384] inb_S512x3072_S512x384_0_768))
    (View.ld x1 (Rect.unit ![2, 0, 0] ![1, 1024, 384] inb_S8x1024x384_S1x1024x384_2_0_0)) (View.ld x0 (Rect.unit ![0, 1152] ![512, 384] inb_S512x3072_S512x384_0_1152))
    (View.ld x1 (Rect.unit ![3, 0, 0] ![1, 1024, 384] inb_S8x1024x384_S1x1024x384_3_0_0)) (View.ld x0 (Rect.unit ![0, 1536] ![512, 384] inb_S512x3072_S512x384_0_1536))
    (View.ld x1 (Rect.unit ![4, 0, 0] ![1, 1024, 384] inb_S8x1024x384_S1x1024x384_4_0_0))

/-! The last three groups' columns and weights. -/
abbrev w5 := View.ld x1 (Rect.unit ![5, 0, 0] ![1, 1024, 384] inb_S8x1024x384_S1x1024x384_5_0_0)
abbrev w6 := View.ld x1 (Rect.unit ![6, 0, 0] ![1, 1024, 384] inb_S8x1024x384_S1x1024x384_6_0_0)
abbrev w7 := View.ld x1 (Rect.unit ![7, 0, 0] ![1, 1024, 384] inb_S8x1024x384_S1x1024x384_7_0_0)
abbrev d5 := View.ld x0 (Rect.unit ![0, 1920] ![512, 384] inb_S512x3072_S512x384_0_1920)
abbrev d6 := View.ld x0 (Rect.unit ![0, 2304] ![512, 384] inb_S512x3072_S512x384_0_2304)
abbrev d7 := View.ld x0 (Rect.unit ![0, 2688] ![512, 384] inb_S512x3072_S512x384_0_2688)

/-- The product of a point's rows. -/
abbrev prod : FVec Ideal S512x1024 .f32 :=
  k0_pay5 (first x0 x1) (d5 x0) (w5 x1) (d6 x0) (w6 x1) (d7 x0) (w7 x1)

/-- The block of the residual's cotangent a point leaves. -/
abbrev dxBlk : FVec Ideal S512x1024 .f32 :=
  k0_pay1 (k0_pay6 x2) (k0_pay7 x2)
    (k0_pay9 (first x0 x1) (d5 x0) (w5 x1) (d6 x0) (w6 x1) (d7 x0) (w7 x1) x3)
    (k0_pay10 (first x0 x1) (d5 x0) (w5 x1) (d6 x0) (w6 x1) (d7 x0) (w7 x1) x2 x3)
    k0_pay11 x4

/-- A point's part of the gain's gradient. -/
abbrev gainBlk : FVec Ideal S1x1024 .f32 :=
  k0_pay8 (first x0 x1) (d5 x0) (w5 x1) (d6 x0) (w6 x1) (d7 x0) (w7 x1) x2

theorem prod_apply (p : Fin 512) (q : Fin 1024) :
    (prod x0 x1 : S512x1024.Idx → EReal) (ix2 p q) = ∑ e : Fin 8, ∑ k : Fin 384, x0 (ix2 p ⟨384 * e.val + k.val, by omega⟩) * x1 (ix3 e q k) := by
  rw [Fin.sum_univ_eight]
  pointwise [first, prod, d5, d6, d7, w5, w6, w7, k0_pay5, k0_pay4]

/-- The product of a block's rows, as a row. -/
abbrev prodRow (p : Fin 512) (q : Fin 1024) : EReal := ∑ e : Fin 8, ∑ k : Fin 384, x0 (ix2 p ⟨384 * e.val + k.val, by omega⟩) * x1 (ix3 e q k)

theorem dxBlk_apply (p : Fin 512) (q : Fin 1024) : (dxBlk x0 x1 x2 x3 x4 : S512x1024.Idx → EReal) (ix2 p q)
    = x4 (ix2 p q) + asDifference (fun j => x2 (ix2 p j)) (fun j => prodRow x0 x1 p j * x3 (ix2 0 j)) q := by
  pointwise [k0_pay1, k0_pay6, k0_pay7, k0_pay9, k0_pay10, k0_pay11]
  simp only [prod_apply x0 x1]
  rfl

theorem gainBlk_apply (e : Fin 1) (q : Fin 1024) : (gainBlk x0 x1 x2 : S1x1024.Idx → EReal) (ix2 e q)
    = ∑ p : Fin 512, prodRow x0 x1 p q * (x2 (ix2 p q) * root fun j => x2 (ix2 p j)) := by
  obtain rfl : e = 0 := Subsingleton.elim _ _
  pointwise [k0_pay8, k0_pay6, k0_pay7]
  simp only [prod_apply x0 x1]
  rfl

end

theorem outs_A (t : Fin cfg0.N) (h0 : t.val % 16 = 0) (h1 : ¬1 ≤ t.val) :
    (outsAt0 m c t.val t.isLt).1 = dxBlk (iblk m c 0 t) (iblk m c 1 t) (iblk m c 2 t) (iblk m c 3 t) (iblk m c 4 t)
    ∧ (outsAt0 m c t.val t.isLt).2.1 = truncf .bf16 (dxBlk (iblk m c 0 t) (iblk m c 1 t) (iblk m c 2 t) (iblk m c 3 t) (iblk m c 4 t)) bitsLt_bf16_f32
    ∧ (outsAt0 m c t.val t.isLt).2.2 = gainBlk (iblk m c 0 t) (iblk m c 1 t) (iblk m c 2 t) := by
  rw [outsAt0_A m c t h0 h1]
  dsimp only
  unfold out0_A_5 out0_A_6 out0_A_7
  refine ⟨(View.read_writes_eq_canon _ _ _ (fun y => cover0_A_5 ..)).trans ?_, (View.read_writes_eq_canon _ _ _ (fun y => cover0_A_6 ..)).trans ?_, (View.read_writes_eq_canon _ _ _ (fun y => cover0_A_7 ..)).trans ?_⟩
  all_goals
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S512x1024) hz, View.ld_unit_zero (S := S1x1024) hz]
    try rfl

theorem outs_B (t : Fin cfg0.N) (h0 : ¬t.val % 16 = 0) (h1 : 1 ≤ t.val) :
    (outsAt0 m c t.val t.isLt).1 = dxBlk (iblk m c 0 t) (iblk m c 1 t) (iblk m c 2 t) (iblk m c 3 t) (iblk m c 4 t)
    ∧ (outsAt0 m c t.val t.isLt).2.1 = truncf .bf16 (dxBlk (iblk m c 0 t) (iblk m c 1 t) (iblk m c 2 t) (iblk m c 3 t) (iblk m c 4 t)) bitsLt_bf16_f32
    ∧ (outsAt0 m c t.val t.isLt).2.2 = k0_pay3 (gainBlk (iblk m c 0 t) (iblk m c 1 t) (iblk m c 2 t)) (outsAt0 m c (t.val - 1) (Nat.lt_of_le_of_lt (Nat.sub_le _ _) t.isLt)).2.2 := by
  rw [outsAt0_B m c t h0 h1]
  dsimp only
  unfold out0_B_5 out0_B_6 out0_B_7
  refine ⟨(View.read_writes_eq_canon _ _ _ (fun y => cover0_B_5 ..)).trans ?_, (View.read_writes_eq_canon _ _ _ (fun y => cover0_B_6 ..)).trans ?_, (View.read_writes_eq_canon _ _ _ (fun y => cover0_B_7 ..)).trans ?_⟩
  all_goals
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S512x1024) hz, View.ld_unit_zero (S := S1x1024) hz]
    try rfl

/-- A point's block of products, from the whole arrays. -/
theorem prod_eq (t : Fin cfg0.N) (p : Fin 512) (q : Fin 1024) :
    prodRow (iblk m c 0 t) (iblk m c 1 t) p q = dh (arg0 m c) (arg3 m c) (row t p) q :=
  Finset.sum_congr rfl fun e _ => Finset.sum_congr rfl fun k _ => congrArg₂ (· * ·) (blk0 m c t p _) (blk1 m c t _)

theorem dxBlk_eq (t : Fin cfg0.N) (p : Fin 512) (q : Fin 1024) :
    (dxBlk (iblk m c 0 t) (iblk m c 1 t) (iblk m c 2 t) (iblk m c 3 t) (iblk m c 4 t) : S512x1024.Idx → EReal) (ix2 p q)
      = dxK (arg0 m c) (arg1 m c) (arg2 m c) (arg3 m c) (arg4 m c) (row t p) q := by
  rw [dxBlk_apply]
  unfold dxK
  exact congrArg₂ (· + ·) (blk4 m c t p q) (congrArg₂ (fun x d => asDifference x d q) (funext fun j => blk2 m c t p j)
    (funext fun j => congrArg₂ (· * ·) (prod_eq m c t p j) (blk3 m c t 0 j)))

theorem gainBlk_eq (t : Fin cfg0.N) (e : Fin 1) (q : Fin 1024) :
    (gainBlk (iblk m c 0 t) (iblk m c 1 t) (iblk m c 2 t) : S1x1024.Idx → EReal) (ix2 e q)
      = ∑ p : Fin 512, gain (arg0 m c) (arg1 m c) (arg3 m c) q (row t p) := by
  rw [gainBlk_apply]
  refine Finset.sum_congr rfl fun p _ => ?_
  unfold gain
  exact congrArg₂ (· * ·) (prod_eq m c t p q) (congrArg₂ (· * ·) (blk2 m c t p q) (congrArg root (funext fun j => blk2 m c t p j)))

theorem out5_eq (t : Fin cfg0.N) (p : Fin 512) (q : Fin 1024) : ((outsAt0 m c t.val t.isLt).1 : S512x1024.Idx → EReal) (ix2 p q)
    = dxK (arg0 m c) (arg1 m c) (arg2 m c) (arg3 m c) (arg4 m c) (row t p) q := by
  have hN : t.val < 16 := lt_of_lt_of_eq t.isLt (show cfg0.N = 16 from N_0)
  refine Eq.trans (congrFun (?_ : _ = dxBlk (iblk m c 0 t) (iblk m c 1 t) (iblk m c 2 t) (iblk m c 3 t) (iblk m c 4 t)) _) (dxBlk_eq m c t p q)
  by_cases h : t.val = 0
  · exact (outs_A m c t (by omega) (by omega)).1
  · exact (outs_B m c t (by omega) (by omega)).1

theorem out6_eq (t : Fin cfg0.N) (p : Fin 512) (q : Fin 1024) : ((outsAt0 m c t.val t.isLt).2.1 : S512x1024.Idx → EReal) (ix2 p q)
    = dxK (arg0 m c) (arg1 m c) (arg2 m c) (arg3 m c) (arg4 m c) (row t p) q := by
  have hN : t.val < 16 := lt_of_lt_of_eq t.isLt (show cfg0.N = 16 from N_0)
  refine Eq.trans (congrFun (?_ : _ = truncf .bf16 (dxBlk (iblk m c 0 t) (iblk m c 1 t) (iblk m c 2 t) (iblk m c 3 t) (iblk m c 4 t)) bitsLt_bf16_f32) _)
    (dxBlk_eq m c t p q)
  by_cases h : t.val = 0
  · exact (outs_A m c t (by omega) (by omega)).2.1
  · exact (outs_B m c t (by omega) (by omega)).2.1

/-! ## The gain's running sum -/

/-- What point `n` adds. -/
abbrev part (n : ℕ) (q : Fin 1024) : EReal :=
  ∑ p : Fin 512, if h : n < 16 then gain (arg0 m c) (arg1 m c) (arg3 m c) q ⟨512 * n + p.val, by omega⟩ else 0

theorem gainBlk_part (t : Fin cfg0.N) (e : Fin 1) (q : Fin 1024) :
    (gainBlk (iblk m c 0 t) (iblk m c 1 t) (iblk m c 2 t) : S1x1024.Idx → EReal) (ix2 e q) = part m c t.val q := by
  have hN : t.val < 16 := lt_of_lt_of_eq t.isLt (show cfg0.N = 16 from N_0)
  rw [gainBlk_eq]
  unfold part
  exact Finset.sum_congr rfl fun p _ => by rw [dif_pos hN]

theorem add_apply (a b : Vec Ideal S1x1024 .f32) (e : Fin 1) (q : Fin 1024) : k0_pay3 (F := Ideal) a b (ix2 e q) = b (ix2 e q) + a (ix2 e q) := by
  obtain rfl : e = 0 := Subsingleton.elim _ _
  pointwise [k0_pay3]

theorem sum_eq : ∀ (n : ℕ) (h : n < cfg0.N) (e : Fin 1) (q : Fin 1024), ((outsAt0 m c n h).2.2 : S1x1024.Idx → EReal) (ix2 e q)
    = ∑ s ∈ Finset.range (n + 1), part m c s q := by
  intro n
  induction n with
  | zero =>
    intro h e q
    rw [Finset.sum_range_one, ← gainBlk_part m c ⟨0, h⟩ e q]
    exact congrFun ((outs_A m c ⟨0, h⟩ rfl (by simp)).2.2) _
  | succ n ih =>
    intro h e q
    have hN : n + 1 < 16 := lt_of_lt_of_eq h (show cfg0.N = 16 from N_0)
    rw [Finset.sum_range_succ, ← ih (by omega) e q, ← gainBlk_part m c ⟨n + 1, h⟩ e q]
    refine (congrFun ((outs_B m c ⟨n + 1, h⟩ (by show ¬(n + 1) % 16 = 0; omega) (by show 1 ≤ n + 1; omega)).2.2) _).trans ?_
    exact add_apply _ _ e q

/-- The sixteen points' parts are the sum over the rows. -/
theorem parts (q : Fin 1024) : ∑ s ∈ Finset.range 16, part m c s q = ∑ r : Fin 8192, gain (arg0 m c) (arg1 m c) (arg3 m c) q r := by
  unfold part
  rw [Finset.sum_range, ← Finset.sum_product']
  refine Finset.sum_nbij' (fun x : Fin 16 × Fin 512 => (⟨512 * x.1.val + x.2.val, by omega⟩ : Fin 8192))
    (fun r => (⟨r.val / 512, by omega⟩, ⟨r.val % 512, by omega⟩)) (by simp) (by simp) ?_ ?_ ?_
  · rintro ⟨x, y⟩ _
    ext <;> simp only <;> omega
  · intro r _
    ext
    simp only
    omega
  · rintro ⟨x, y⟩ _
    exact dif_pos x.isLt

/-! ## The whole arrays -/

theorem mem_blk5 (t : Fin cfg0.N) (i : S8192x1024.Idx) (h : 512 * t.val ≤ (i 0 : Nat) ∧ (i 0 : Nat) < 512 * t.val + 512) :
    i ∈ ((cfg0.win 5).blk t).view.set := by
  show i ∈ ((View.whole main_v1_0).slice (win0_5.rect t)).set
  rw [View.set_slice_whole, Rect.mem_set_unit]
  have h1 : (i 1 : Nat) < 1024 := (i 1).isLt
  intro a
  match a with
  | ⟨0, _⟩ => show win0_5.index t 0 * 512 ≤ (i 0 : Nat) ∧ (i 0 : Nat) < win0_5.index t 0 * 512 + 512; rw [(idx5 t).1]; omega
  | ⟨1, _⟩ => show win0_5.index t 1 * 1024 ≤ (i 1 : Nat) ∧ (i 1 : Nat) < win0_5.index t 1 * 1024 + 1024; rw [(idx5 t).2]; omega

theorem final5 : (dats m 0 c).arrAt 5 cfg0.N
    = ((fun i => dxK (arg0 m c) (arg1 m c) (arg2 m c) (arg3 m c) (arg4 m c) (i 0) (i 1)) : S8192x1024.Idx → EReal) := by
  refine (dats m 0 c).arrAt_eq_of_cover 5 _ (fun t _ => ?_) fun i => ?_
  · rw [Value.flushed5]
    funext j
    rw [View.read_apply]
    obtain ⟨p, q, rfl⟩ : ∃ (p : Fin 512) (q : Fin 1024), j = ix2 p q := ⟨j 0, j 1, eq_ix2 j⟩
    refine (out5_eq m c t p q).trans ?_
    show dxK _ _ _ _ _ _ _ = dxK _ _ _ _ _ _ _
    congr 1
    · apply Fin.ext
      show 512 * t.val + p.val = win0_5.index t 0 * 512 + 1 * p.val
      rw [(idx5 t).1]; omega
    · apply Fin.ext
      show q.val = win0_5.index t 1 * 1024 + 1 * q.val
      rw [(idx5 t).2]; omega
  · have h0 : (i 0).val < 8192 := (i 0).isLt
    have hN : cfg0.N = 16 := N_0
    refine ⟨⟨(i 0).val / 512, by rw [hN]; omega⟩, flush0_5 _, ?_⟩
    refine mem_blk5 _ i ?_
    simp only
    omega

theorem mem_blk6 (t : Fin cfg0.N) (i : S8192x1024.Idx) (h : 512 * t.val ≤ (i 0 : Nat) ∧ (i 0 : Nat) < 512 * t.val + 512) :
    i ∈ ((cfg0.win 6).blk t).view.set := by
  show i ∈ ((View.whole main_v1_1).slice (win0_6.rect t)).set
  rw [View.set_slice_whole, Rect.mem_set_unit]
  have h1 : (i 1 : Nat) < 1024 := (i 1).isLt
  intro a
  match a with
  | ⟨0, _⟩ => show win0_6.index t 0 * 512 ≤ (i 0 : Nat) ∧ (i 0 : Nat) < win0_6.index t 0 * 512 + 512; rw [(idx6 t).1]; omega
  | ⟨1, _⟩ => show win0_6.index t 1 * 1024 ≤ (i 1 : Nat) ∧ (i 1 : Nat) < win0_6.index t 1 * 1024 + 1024; rw [(idx6 t).2]; omega

theorem final6 : (dats m 0 c).arrAt 6 cfg0.N
    = ((fun i => dxK (arg0 m c) (arg1 m c) (arg2 m c) (arg3 m c) (arg4 m c) (i 0) (i 1)) : S8192x1024.Idx → EReal) := by
  refine (dats m 0 c).arrAt_eq_of_cover 6 _ (fun t _ => ?_) fun i => ?_
  · rw [Value.flushed6]
    funext j
    rw [View.read_apply]
    obtain ⟨p, q, rfl⟩ : ∃ (p : Fin 512) (q : Fin 1024), j = ix2 p q := ⟨j 0, j 1, eq_ix2 j⟩
    refine (out6_eq m c t p q).trans ?_
    show dxK _ _ _ _ _ _ _ = dxK _ _ _ _ _ _ _
    congr 1
    · apply Fin.ext
      show 512 * t.val + p.val = win0_6.index t 0 * 512 + 1 * p.val
      rw [(idx6 t).1]; omega
    · apply Fin.ext
      show q.val = win0_6.index t 1 * 1024 + 1 * q.val
      rw [(idx6 t).2]; omega
  · have h0 : (i 0).val < 8192 := (i 0).isLt
    have hN : cfg0.N = 16 := N_0
    refine ⟨⟨(i 0).val / 512, by rw [hN]; omega⟩, flush0_6 _, ?_⟩
    refine mem_blk6 _ i ?_
    simp only
    omega

theorem mem_blk7 (t : Fin cfg0.N) (i : S1x1024.Idx) : i ∈ ((cfg0.win 7).blk t).view.set := by
  show i ∈ ((View.whole main_v1_2).slice (win0_7.rect t)).set
  rw [View.set_slice_whole, Rect.mem_set_unit]
  have h0 : (i 0 : Nat) < 1 := (i 0).isLt
  have h1 : (i 1 : Nat) < 1024 := (i 1).isLt
  intro a
  match a with
  | ⟨0, _⟩ => show win0_7.index t 0 * 1 ≤ (i 0 : Nat) ∧ (i 0 : Nat) < win0_7.index t 0 * 1 + 1
              rw [(idx7 t).1]; omega
  | ⟨1, _⟩ => show win0_7.index t 1 * 1024 ≤ (i 1 : Nat) ∧ (i 1 : Nat) < win0_7.index t 1 * 1024 + 1024
              rw [(idx7 t).2]; omega

theorem final7 : (dats m 0 c).arrAt 7 cfg0.N
    = ((fun i => ∑ r : Fin 8192, gain (arg0 m c) (arg1 m c) (arg3 m c) (i 1) r) : S1x1024.Idx → EReal) := by
  have hN : cfg0.N = 16 := N_0
  refine (dats m 0 c).arrAt_eq_of_cover 7 _ (fun t hf => ?_) fun i => ?_
  · have ht : t.val % 16 = 15 := (flush0_7 t).mp hf
    have htN : t.val < 16 := lt_of_lt_of_eq t.isLt hN
    rw [Value.flushed7]
    funext j
    rw [View.read_apply]
    obtain ⟨e, q, rfl⟩ : ∃ (e : Fin 1) (q : Fin 1024), j = ix2 e q := ⟨j 0, j 1, eq_ix2 j⟩
    refine (sum_eq m c t.val t.isLt e q).trans ?_
    rw [show t.val + 1 = 16 by omega, parts]
    refine Finset.sum_congr rfl fun r _ => ?_
    show gain _ _ _ _ _ = gain _ _ _ _ _
    congr 1
    apply Fin.ext
    show q.val = win0_7.index t 1 * 1024 + 1 * q.val
    rw [(idx7 t).2]; omega
  · exact ⟨⟨15, by rw [hN]; omega⟩, (flush0_7 _).mpr rfl, mem_blk7 _ i⟩

end Cert.Kernel9Ideal.ConvInDx

namespace Cert.Pre_finite_conv.ConvInDx

open Cert.Pre_finite_conv Cert.Pre_finite_conv.Gen

instance : Subsingleton S_.Idx := ⟨fun a b => funext fun i => i.elim0⟩

/-- Under the precondition the four arrays the normalisation's gradient is made of are real. -/
theorem real (du : FVec Ideal S8192x3072 .bf16) (x : FVec Ideal S8192x1024 .f32) (g : FVec Ideal S1024 .f32) (w : FVec Ideal S8x1024x384 .bf16)
    (dy : FVec Ideal S8192x1024 .f32) (hp : fn (F := Ideal) du x g w dy = fun _ => 1#1) :
    (∀ i, (du i : EReal) = ((EReal.toReal (du i) : ℝ) : EReal)) ∧ (∀ i, (x i : EReal) = ((EReal.toReal (x i) : ℝ) : EReal))
    ∧ (∀ i, (g i : EReal) = ((EReal.toReal (g i) : ℝ) : EReal)) ∧ (∀ i, (w i : EReal) = ((EReal.toReal (w i) : ℝ) : EReal)) := by
  have top : Ideal.ofBits .f32 0x7F800000#32 = (⊤ : EReal) := by simp [Ideal.ofBits, Ideal.ieee]
  have fin : ∀ y : EReal, Ideal.cmp .olt (max y (-y)) (Ideal.ofBits .f32 0x7F800000#32) = 1#1 → y = ((EReal.toReal y : ℝ) : EReal) := fun y h => by
    rw [top] at h
    have hlt : max y (-y) < ⊤ := by
      by_contra hn
      simp [Ideal.cmp, hn] at h
    refine (EReal.coe_toReal (fun e => ?_) (fun e => ?_)).symm
    · rw [e] at hlt; exact absurd hlt (by simp)
    · rw [e] at hlt; exact absurd hlt (by simp)
  have h := congrFun hp ix0
  dsimp only [fn, fn_part1] at h
  obtain ⟨h, h3⟩ := IntOp.andi_eq_one.1 h
  obtain ⟨h, h2⟩ := IntOp.andi_eq_one.1 h
  obtain ⟨h0, h1⟩ := IntOp.andi_eq_one.1 h
  refine ⟨fun i => ?_, fun i => ?_, fun i => ?_, fun i => ?_⟩
  · exact fin _ (Host.reduce_andi_all _ _ _ _ _ h0 i)
  · exact fin _ (Host.reduce_andi_all _ _ _ _ _ h1 i)
  · exact fin _ (Host.reduce_andi_all _ _ _ _ _ h2 i)
  · exact fin _ (Host.reduce_andi_all _ _ _ _ _ h3 i)

end Cert.Pre_finite_conv.ConvInDx

namespace Cert.Proof.ConvInDx

open Cert.Kernel9Ideal.ConvInDx

/-! ## The reference and the claims -/

/-- The residual's cotangent with the block's added, as the reference's derivative writes it. -/
def dxR (du : Cert.Kernel9Ideal.S8192x3072.Idx → EReal) (x : Cert.Kernel9Ideal.S8192x1024.Idx → EReal) (g : Cert.Kernel9Ideal.S1024.Idx → EReal)
    (w : Cert.Kernel9Ideal.S8x1024x384.Idx → EReal) (dy : Cert.Kernel9Ideal.S8192x1024.Idx → EReal) (r : Fin 8192) (q : Fin 1024) : EReal :=
  dy (ix2 r q) + NormGrad.asSum (fun j => x (ix2 r j)) (fun j => dh du w r j * g (ix1 j)) q

section
open Cert.Reference9Ideal Cert.Reference9Ideal.Read

variable (du : FVec Ideal S8192x3072 .bf16) (x : FVec Ideal S8192x1024 .f32) (g : FVec Ideal S1024 .f32) (w : FVec Ideal S8x1024x384 .bf16)
  (dy : FVec Ideal S8192x1024 .f32)

theorem ref_msq (r : Fin 8192) (e : Fin 1) : val_main_v6 (F := Ideal) x (ix2 r e) = NormGrad.msq fun j => x (ix2 r j) := by
  obtain rfl : e = 0 := Subsingleton.elim _ _
  pointwise [val_main_v6, val_main_v5, val_main_v4, val_main_v3, val_main_v2, val_main_v1, val_main_v0, val_main_cst, val_main_cst_0, val_main_cst_1]
  rfl

theorem ref_root (r : Fin 8192) (e : Fin 1) : val_main_v7 (F := Ideal) x (ix2 r e) = NormGrad.root fun j => x (ix2 r j) := by
  pointwise [val_main_v7]
  exact congrArg Ideal.rsqrt (ref_msq x r e)

theorem ref_dh (r : Fin 8192) (q : Fin 1024) : val_main_v21 (F := Ideal) du w (ix2 r q) = dh du w r q := by
  pointwise [val_main_v21, val_main_v20, val_main_v18, val_main_v17, val_main_v16]
  unfold dh
  rw [← Finset.sum_product']
  symm
  refine Finset.sum_nbij' (fun x : Fin 8 × Fin 384 => (⟨384 * x.1.val + x.2.val, by omega⟩ : Fin 3072))
    (fun r => (⟨r.val / 384, by omega⟩, ⟨r.val % 384, by omega⟩)) (by simp) (by simp) ?_ ?_ ?_
  · rintro ⟨x, y⟩ _
    ext <;> simp only <;> omega
  · intro r _
    ext
    simp only
    omega
  · rintro ⟨x, y⟩ _
    have e1 : (384 * x.val + y.val) / 384 = x.val := by omega
    have e2 : (384 * x.val + y.val) % 384 = y.val := by omega
    simp only [e1, e2]

theorem ref_cot (r : Fin 8192) (q : Fin 1024) : val_main_v26 (F := Ideal) du g w (ix2 r q) = dh du w r q * g (ix1 q) := by
  pointwise [val_main_v26, val_main_v25, val_main_v13]
  exact congrArg (· * _) (ref_dh du w r q)

theorem ref_half (r : Fin 8192) : val_main_v36 (F := Ideal) du x g w (ix1 r)
    = NormGrad.half (fun j => x (ix2 r j)) (fun j => dh du w r j * g (ix1 j)) := by
  pointwise [val_main_v36, val_main_v35, val_main_v34, val_main_v33, val_main_v30, val_main_v29, val_main_v28, val_main_v10, val_main_v9, val_main_v8,
    val_main_cst_2, val_main_cst_5, val_main_cst_6, val_main_cst_7]
  simp only [ref_cot, ref_root, ref_msq, Fin.sum_univ_one]
  rfl

theorem ref_dx (r : Fin 8192) (q : Fin 1024) : val_main_v42 (F := Ideal) du x g w dy (ix2 r q) = dxR du x g w dy r q := by
  pointwise [val_main_v42, val_main_v41, val_main_v40, val_main_v39, val_main_v38, val_main_v37, val_main_v32, val_main_v31]
  simp only [ref_cot, ref_root, ref_half]
  rfl

theorem ref_sum (q : Fin 1024) : val_main_v23 (F := Ideal) du x w (ix1 q) = ∑ r : Fin 8192, gain du x w q r := by
  pointwise [val_main_v23, val_main_v22, val_main_v12, val_main_v11, val_main_cst_3]
  simp only [ref_dh, ref_root]
  exact Finset.sum_congr rfl fun r _ => mul_comm _ _

theorem ref_gain (e : Fin 1) (q : Fin 1024) : val_main_v44 (F := Ideal) du x w (ix2 e q) = ∑ r : Fin 8192, gain du x w q r := by
  obtain rfl : e = 0 := Subsingleton.elim _ _
  rw [val_main_v44_apply, val_main_v27_apply, Fin.sum_univ_one, val_main_v24_apply, ← ref_sum]
  have z : ∀ i, val_main_cst_4 (F := Ideal) i = (0 : EReal) := fun _ => Ideal.ofBits_zero_f32
  rw [z, zero_add]
  refine congrArg _ (funext fun a => Fin.ext ?_)
  match a with
  | ⟨0, _⟩ => show 0 * 1024 + (0 * 1024 + q.val) = q.val
              omega

/-- On real arrays the two forms agree. -/
theorem forms (hp : Cert.Pre_finite_conv.fn (F := Ideal) du x g w dy = fun _ => 1#1) (r : Fin 8192) (q : Fin 1024) :
    dxR du x g w dy r q = dxK du x g w dy r q := by
  obtain ⟨hdu, hx, hg, hw⟩ := Cert.Pre_finite_conv.ConvInDx.real du x g w dy hp
  unfold dxR dxK
  congr 1
  have ex : (fun j : Fin 1024 => (x (ix2 r j) : EReal)) = fun j => ((EReal.toReal (x (ix2 r j)) : ℝ) : EReal) := funext fun j => hx _
  have ed : (fun j : Fin 1024 => (dh du w r j * g (ix1 j) : EReal))
      = fun j => (((∑ e : Fin 8, ∑ k : Fin 384, EReal.toReal (du (ix2 r ⟨384 * e.val + k.val, by omega⟩)) * EReal.toReal (w (ix3 e j k)))
          * EReal.toReal (g (ix1 j)) : ℝ) : EReal) := by
    funext j
    rw [EReal.coe_mul, ← NormGrad.sum_coe]
    simp only [← NormGrad.sum_coe, EReal.coe_mul, ← hdu, ← hw, ← hg]
    rfl
  rw [ex, ed]
  exact (NormGrad.agree _ _ q).symm

end

/-- The reference runs, leaves its arguments alone and ends with every semaphore at zero. -/
theorem frame_reference : Cert.quiescent_Reference9Ideal := fun m ρ _ =>
  (θ_run Cert.Reference9Ideal.defs _ _).mono (fun r h => ⟨fun c => (h c).2.2.2, sem_eq_zero_of_no_sems (by decide) r.2⟩)
    (Cert.Reference9Ideal.Value.run (F := Ideal) m ρ)

/-- The same under the precondition. -/
theorem frame_reference_pre : Cert.quiescent_Reference9Ideal_pre_finite_conv := fun m ρ _ => frame_reference m ρ trivial

/-- On real arrays the kernel's three results are the gradients of the reference. -/
theorem algebraic : Cert.algebraic_Kernel9Ideal_Reference9Ideal_pre_finite_conv := by
  intro m ρ m' ρ' hp hagree
  refine ⟨fun c => (fun i => dxK (arg0 m c) (arg1 m c) (arg2 m c) (arg3 m c) (arg4 m c) (i 0) (i 1) : Cert.Kernel9Ideal.S8192x1024.Idx → EReal),
    fun c => (fun i => dxK (arg0 m c) (arg1 m c) (arg2 m c) (arg3 m c) (arg4 m c) (i 0) (i 1) : Cert.Kernel9Ideal.S8192x1024.Idx → EReal),
    fun c => (fun i => ∑ r : Fin 8192, gain (arg0 m c) (arg1 m c) (arg3 m c) (i 1) r : Cert.Kernel9Ideal.S1x1024.Idx → EReal), ?_, ?_⟩
  · exact (θ_run Cert.Kernel9Ideal.defs _ _).mono
      (fun _ h c => ⟨(h c).1.trans (final5 m c), (h c).2.1.trans (final6 m c), (h c).2.2.1.trans (final7 m c), (h c).2.2.2⟩)
      (Cert.Kernel9Ideal.Value.run_blocks (F := Ideal) m ρ)
  · refine (θ_run Cert.Reference9Ideal.defs _ _).mono (fun _ h c => ⟨(h c).1.trans ?_, (h c).2.1.trans ?_, (h c).2.2.1.trans ?_, (h c).2.2.2⟩)
      (Cert.Reference9Ideal.Value.run (F := Ideal) m' ρ')
    · rw [Cert.Reference9Ideal.Read.val_main_v42_eq, (hagree c).1, (hagree c).2.1, (hagree c).2.2.1, (hagree c).2.2.2.1, (hagree c).2.2.2.2]
      funext i
      rw [eq_ix2 i]
      exact (ref_dx _ _ _ _ _ _ _).trans (forms _ _ _ _ _ (hp c) _ _)
    · rw [Cert.Reference9Ideal.Read.val_main_v43_eq, (hagree c).1, (hagree c).2.1, (hagree c).2.2.1, (hagree c).2.2.2.1, (hagree c).2.2.2.2]
      funext i
      rw [eq_ix2 i]
      exact (ref_dx _ _ _ _ _ _ _).trans (forms _ _ _ _ _ (hp c) _ _)
    · rw [(hagree c).1, (hagree c).2.1, (hagree c).2.2.2.1]
      rw [Cert.Reference9Ideal.Read.val_main_v44_eq]
      funext i
      rw [eq_ix2 i]
      exact ref_gain _ _ _ _ _

end Cert.Proof.ConvInDx
end
-- ==== Proof.ConvInDw.lean ====
/-
  The gradient of the convolution's first projection's weight: what the grid points add up in the scratch buffer's two halves,
  the whole array the kernel leaves, and the reference's, all at an index.
-/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel10Ideal.ConvInDw

open Cert.Kernel10Ideal Cert.Kernel10Ideal.Gen

/-- The normalised input. -/
def normed (x : S8192x1024.Idx → EReal) (g : S1024.Idx → EReal) (r : Fin 8192) (k : Fin 1024) : EReal :=
  x (ix2 r k) * Ideal.rsqrt (Ideal.div (∑ j : Fin 1024, x (ix2 r j) * x (ix2 r j)) (Ideal.ofBits .f32 0x44800000#32)
    + Ideal.ofBits .f32 0x358637BD#32) * g (ix1 k)

/-- The product of the normalised input and the cotangent at one row. -/
def term (du : S8192x3072.Idx → EReal) (x : S8192x1024.Idx → EReal) (g : S1024.Idx → EReal) (p : Fin 1024) (q : Fin 3072) (r : Fin 8192) : EReal :=
  normed x g r p * du (ix2 r q)

/-- The weight's gradient. -/
def dw (du : S8192x3072.Idx → EReal) (x : S8192x1024.Idx → EReal) (g : S1024.Idx → EReal) (p : Fin 1024) (q : Fin 3072) : EReal :=
  ∑ r, term du x g p q r

/-- It by group of columns. -/
def grouped (du : S8192x3072.Idx → EReal) (x : S8192x1024.Idx → EReal) (g : S1024.Idx → EReal) (e : Fin 8) (p : Fin 1024) (q : Fin 384) : EReal :=
  dw du x g p ⟨384 * e.val + q.val, by omega⟩

variable (m : (ℓ : Loc nD τ sig) → Buf (Elt Ideal) ℓ) (c : Dev nD)

abbrev arg0 : FVec Ideal S8192x3072 .bf16 := m ((c.tc : Thread nD τ).loc main_arg0)
abbrev arg1 : FVec Ideal S8192x1024 .f32 := m ((c.tc : Thread nD τ).loc main_arg1)
abbrev arg2 : FVec Ideal S1024 .f32 := m ((c.tc : Thread nD τ).loc main_arg2)

/-! ## The arrays the kernel is handed -/

/-- The mean square of the rows plus the small number, before the root. -/
abbrev msH (x : FVec Ideal S8192x1024 .f32) : FVec Ideal S8192x1 .f32 :=
  addf (Host.divf (broadcastInDim S8192x1 ![0] bcast_S8192_S8192x1_0
      (Host.reduceAdd (mulf x x) (constant S_ .f32 0x00000000#32) reducesTo_S8192x1024_S8192_d1 h_S_))
      (broadcastInDim S8192x1 ![] bcast_S_S8192x1 (constant S_ .f32 0x44800000#32)))
    (broadcastInDim S8192x1 ![] bcast_S_S8192x1 (constant S_ .f32 0x358637BD#32))

/-- The normalised input, its axes exchanged. -/
abbrev hH (x : FVec Ideal S8192x1024 .f32) (g : FVec Ideal S1024 .f32) : FVec Ideal S1024x8192 .bf16 :=
  transpose S1024x8192 [1, 0] (truncf .bf16 (mulf (mulf x
      (broadcastInDim S8192x1024 ![0, 1] bcast_S8192x1_S8192x1024_0_1 (Host.rsqrt (msH x))))
      (broadcastInDim S8192x1024 ![0, 1] bcast_S1x1024_S8192x1024_0_1 (broadcastInDim S1x1024 ![1] bcast_S1024_S1x1024_1 g))) bitsLt_bf16_f32)
    transposes_S8192x1024_S1024x8192_1_0

theorem hH_apply (x : FVec Ideal S8192x1024 .f32) (g : FVec Ideal S1024 .f32) (p : Fin 1024) (r : Fin 8192) :
    hH x g (ix2 p r) = normed x g r p := by
  unfold normed
  pointwise [hH, msH]

theorem entry_h : V m c main_v14 = hH (arg1 m c) (arg2 m c) := by
  show StableHlo.after hostOps0 (fun b => m (c, b)) _ = _
  simp only [hostOps0]
  after_results_simp <;> rfl

theorem entry_du : V m c main_arg0 = arg0 m c := by
  show StableHlo.after hostOps0 (fun b => m (c, b)) _ = _
  simp only [hostOps0]
  after_results_simp <;> rfl

/-! ## The blocks -/

theorem idx0 : ∀ t : Fin grid0.N, win0_0.index t 0 = 0 ∧ win0_0.index t 1 = t.val % 4 := by decide +kernel
theorem idx1 : ∀ t : Fin grid0.N, win0_1.index t 0 = t.val % 4 ∧ win0_1.index t 1 = t.val / 4 := by decide +kernel
theorem idx2 : ∀ t : Fin grid0.N, win0_2.index t 0 = t.val / 4 ∧ win0_2.index t 1 = 0 ∧ win0_2.index t 2 = 0 := by decide +kernel

/-- The normalised input's block of one point. -/
abbrev hBlk (t : Fin cfg0.N) : S1024x2048.Idx → EReal := iblk m c 0 t

/-- The cotangent's block of one point. -/
abbrev duBlk (t : Fin cfg0.N) : S2048x768.Idx → EReal := iblk m c 1 t

theorem blk0 (t : Fin cfg0.N) (p : Fin 1024) (k : Fin 2048) (r : Fin 8192) (hr : r.val = 2048 * (t.val % 4) + k.val) :
    hBlk m c t (ix2 p k) = normed (arg1 m c) (arg2 m c) r p := by
  unfold hBlk iblk
  rw [View.read_apply]
  show V m c main_v14 _ = _
  rw [entry_h]
  refine Eq.trans ?_ (hH_apply _ _ p r)
  congr 1
  funext a
  apply Fin.ext
  match a with
  | ⟨0, _⟩ => show win0_0.index t 0 * 1024 + 1 * p.val = p.val; rw [(idx0 t).1]; omega
  | ⟨1, _⟩ => show win0_0.index t 1 * 2048 + 1 * k.val = r.val; rw [(idx0 t).2]; omega

theorem blk1 (t : Fin cfg0.N) (k : Fin 2048) (q : Fin 768) (r : Fin 8192) (s : Fin 3072) (hr : r.val = 2048 * (t.val % 4) + k.val)
    (hs : s.val = 768 * (t.val / 4) + q.val) : duBlk m c t (ix2 k q) = arg0 m c (ix2 r s) := by
  unfold duBlk iblk
  rw [View.read_apply]
  show V m c main_arg0 _ = _
  rw [entry_du]
  congr 1
  funext a
  apply Fin.ext
  match a with
  | ⟨0, _⟩ => show win0_1.index t 0 * 2048 + 1 * k.val = r.val; rw [(idx1 t).1]; omega
  | ⟨1, _⟩ => show win0_1.index t 1 * 768 + 1 * q.val = s.val; rw [(idx1 t).2]; omega

/-! ## What each case leaves -/

theorem hz2 : (![0, 0] : Fin 2 → Nat) = fun _ => 0 := funext fun a => by fin_cases a <;> rfl
theorem hz3 : (![0, 0, 0] : Fin 3 → Nat) = fun _ => 0 := funext fun a => by fin_cases a <;> rfl

/-- The two halves of the scratch buffer. -/
abbrev half0 : Rect S2x1024x384 := Rect.unit (s := S2x1024x384) ![0, 0, 0] ![1, 1024, 384] inb_S2x1024x384_S1x1024x384_0_0_0
abbrev half1 : Rect S2x1024x384 := Rect.unit (s := S2x1024x384) ![1, 0, 0] ![1, 1024, 384] inb_S2x1024x384_S1x1024x384_1_0_0

theorem emb0 (p : Fin 1024) (q : Fin 384) : half0.emb (ix3 0 p q) = ix3 0 p q := by
  funext a
  apply Fin.ext
  match a with
  | ⟨0, _⟩ => rfl
  | ⟨1, _⟩ => show 0 + 1 * p.val = p.val; omega
  | ⟨2, _⟩ => show 0 + 1 * q.val = q.val; omega

theorem emb1 (p : Fin 1024) (q : Fin 384) : half1.emb (ix3 0 p q) = ix3 1 p q := by
  funext a
  apply Fin.ext
  match a with
  | ⟨0, _⟩ => rfl
  | ⟨1, _⟩ => show 0 + 1 * p.val = p.val; omega
  | ⟨2, _⟩ => show 0 + 1 * q.val = q.val; omega

theorem off1 (p : Fin 1024) (q : Fin 384) : (ix3 0 p q : S2x1024x384.Idx) ∉ half1.set := by
  rw [Rect.mem_set_unit]
  intro h
  have h0 := (h 0).1
  simp at h0

theorem off0 (p : Fin 1024) (q : Fin 384) : (ix3 1 p q : S2x1024x384.Idx) ∉ half0.set := by
  rw [Rect.mem_set_unit]
  intro h
  have h0 := (h 0).2
  simp at h0

/-- A store to each half decides the whole buffer, whatever was written before. -/
theorem halves (P1 P0 : S1x1024x384.Idx → EReal) (f : S2x1024x384.Idx → EReal) (L : List (View.Piece (Elt Ideal) S2x1024x384 .f32))
    (h0 : ∀ (p : Fin 1024) (q : Fin 384), P0 (ix3 0 p q) = f (ix3 0 p q)) (h1 : ∀ (p : Fin 1024) (q : Fin 384), P1 (ix3 0 p q) = f (ix3 1 p q)) :
    View.canon (Val := Elt Ideal) (e := .f32) (⟨half1, P1⟩ :: ⟨half0, P0⟩ :: L) = f := by
  funext y
  obtain ⟨e, p, q, rfl⟩ : ∃ (e : Fin 2) (p : Fin 1024) (q : Fin 384), y = ix3 e p q := ⟨y 0, y 1, y 2, eq_ix3 y⟩
  rcases (by omega : e.val = 0 ∨ e.val = 1) with he | he
  · obtain rfl : e = 0 := Fin.ext he
    rw [View.canon_cons_of_not_mem (⟨half1, P1⟩ : View.Piece (Elt Ideal) S2x1024x384 .f32) (⟨half0, P0⟩ :: L) (off1 p q)]
    have e0 := View.canon_cons_emb (Val := Elt Ideal) (e := .f32) half0 P0 L (ix3 0 p q)
    rw [emb0] at e0
    exact e0.trans (h0 p q)
  · obtain rfl : e = 1 := Fin.ext he
    have e1 := View.canon_cons_emb (Val := Elt Ideal) (e := .f32) half1 P1 (⟨half0, P0⟩ :: L) (ix3 0 p q)
    rw [emb1] at e1
    exact e1.trans (h1 p q)

/-- One point's step from what the scratch buffer held. -/
def acc (x0 : Vec Ideal S1024x2048 .bf16) (x1 : Vec Ideal S2048x768 .bf16) (s : S2x1024x384.Idx → EReal) : S2x1024x384.Idx → EReal :=
  fun i => s i + ∑ k : Fin 2048, x0 (ix2 (i 1) k) * x1 (ix2 k ⟨384 * (i 0).val + (i 2).val, by
    have h0 : (i 0).val < 2 := (i 0).isLt
    have h2 : (i 2).val < 384 := (i 2).isLt
    omega⟩)

theorem pay3_apply (x0 : Vec Ideal S1024x2048 .bf16) (x1 : Vec Ideal S2048x768 .bf16) (s : Vec Ideal S1x1024x384 .f32) (f : S2x1024x384.Idx → EReal)
    (p : Fin 1024) (q : Fin 384) (hs : s (ix3 0 p q) = f (ix3 0 p q)) :
    k0_pay3 (F := Ideal) x0 s (View.ld x1 (Rect.unit ![0, 0] ![2048, 384] inb_S2048x768_S2048x384_0_0)) (ix3 0 p q) = acc x0 x1 f (ix3 0 p q) := by
  pointwise [k0_pay3, k0_pay2]
  refine congrArg₂ (· + ·) hs (Finset.sum_congr rfl fun k _ => congrArg (x0 (ix2 p k) * ·) (congrArg x1 ?_))
  funext a
  apply Fin.ext
  match a with
  | ⟨0, _⟩ => rfl
  | ⟨1, _⟩ => show q.val = 384 * 0 + q.val; omega

theorem pay4_apply (x0 : Vec Ideal S1024x2048 .bf16) (x1 : Vec Ideal S2048x768 .bf16) (s : Vec Ideal S1x1024x384 .f32) (f : S2x1024x384.Idx → EReal)
    (p : Fin 1024) (q : Fin 384) (hs : s (ix3 0 p q) = f (ix3 1 p q)) :
    k0_pay4 (F := Ideal) x0 s (View.ld x1 (Rect.unit ![0, 384] ![2048, 384] inb_S2048x768_S2048x384_0_384)) (ix3 0 p q) = acc x0 x1 f (ix3 1 p q) := by
  pointwise [k0_pay4, k0_pay2]
  refine congrArg₂ (· + ·) hs (Finset.sum_congr rfl fun k _ => congrArg (x0 (ix2 p k) * ·) (congrArg x1 ?_))
  funext a
  apply Fin.ext
  match a with
  | ⟨0, _⟩ => rfl
  | ⟨1, _⟩ => rfl

theorem pay1_apply (i : S2x1024x384.Idx) : k0_pay1 (F := Ideal) i = 0 := by
  rw [eq_ix3 i]
  pointwise [k0_pay1]

/-- A load of a half of the zeroed buffer reads zeros, -/
theorem back0 (v : View sig .tc .vmem S2x1024x384 .f32) (j : S1x1024x384.Idx) :
    v.readCov [(⟨Rect.unit ![0, 0, 0] ![2, 1024, 384] inb_S2x1024x384_S2x1024x384_0_0_0, k0_pay1 (F := Ideal)⟩ : View.Piece (Elt Ideal) S2x1024x384 .f32)]
      half0.toLoadRect j = (0 : EReal) := by
  rw [View.readCov_eq_canon', View.canon_cons_unit_zero (S := S2x1024x384) hz3]
  exact pay1_apply _

/-- and of the second half also after a store to the first. -/
theorem back1 (v : View sig .tc .vmem S2x1024x384 .f32) (P : S1x1024x384.Idx → EReal) (p : Fin 1024) (q : Fin 384) :
    v.readCov [(⟨half0, P⟩ : View.Piece (Elt Ideal) S2x1024x384 .f32),
      ⟨Rect.unit ![0, 0, 0] ![2, 1024, 384] inb_S2x1024x384_S2x1024x384_0_0_0, k0_pay1 (F := Ideal)⟩] half1.toLoadRect (ix3 0 p q) = (0 : EReal) := by
  rw [View.readCov_eq_canon']
  show View.canon _ (half1.emb (ix3 0 p q)) = _
  rw [emb1, View.canon_cons_of_not_mem (⟨half0, P⟩ : View.Piece (Elt Ideal) S2x1024x384 .f32) _ (off0 p q), View.canon_cons_unit_zero (S := S2x1024x384) hz3]
  exact pay1_apply _

/-- A load of a half reads the buffer there. -/
theorem ld0 (s : Vec Ideal S2x1024x384 .f32) (p : Fin 1024) (q : Fin 384) : View.ld s half0 (ix3 0 p q) = s (ix3 0 p q) := congrArg s (emb0 p q)
theorem ld1 (s : Vec Ideal S2x1024x384 .f32) (p : Fin 1024) (q : Fin 384) : View.ld s half1 (ix3 0 p q) = s (ix3 1 p q) := congrArg s (emb1 p q)

theorem scratch_A (i : grid0.Coords) (a0 : Memref sig .tc .vmem S1024x2048 .bf16) (h0 : a0.IsWhole) (a1 : Memref sig .tc .vmem S2048x768 .bf16) (h1 : a1.IsWhole)
    (a2 : Memref sig .tc .vmem S2x1024x384 .bf16) (h2 : a2.IsWhole) (a3 : Memref sig .tc .vmem S2x1024x384 .f32) (h3 : a3.IsWhole)
    (hc0 : cond0_0 i) (hc1 : ¬cond0_1 i) (x0 : Vec Ideal S1024x2048 .bf16) (x1 : Vec Ideal S2048x768 .bf16) :
    (sout0_A_0 c i a0 h0 a1 h1 a2 h2 a3 h3 hc0 hc1 x0 x1 : S2x1024x384.Idx → EReal) = acc x0 x1 fun _ => 0 := by
  unfold sout0_A_0
  rw [View.read_writes_eq_canon _ _ _ (fun y => scover0_A_0 ..)]
  unfold kernelRun0_A
  dsimp only
  sl_unfold_words
  simp only [View.readAt_eq_ld, h0.read_unread, h1.read_unread, View.ld_unit_zero (S := S1024x2048) hz2]
  refine halves _ _ _ _ (fun p q => pay3_apply x0 x1 _ _ p q ?_) (fun p q => pay4_apply x0 x1 _ _ p q ?_)
  · exact back0 _ _
  · exact back1 _ _ p q

theorem scratch_B (i : grid0.Coords) (a0 : Memref sig .tc .vmem S1024x2048 .bf16) (h0 : a0.IsWhole) (a1 : Memref sig .tc .vmem S2048x768 .bf16) (h1 : a1.IsWhole)
    (a2 : Memref sig .tc .vmem S2x1024x384 .bf16) (h2 : a2.IsWhole) (a3 : Memref sig .tc .vmem S2x1024x384 .f32) (h3 : a3.IsWhole)
    (hc0 : ¬cond0_0 i) (hc1 : ¬cond0_1 i) (x0 : Vec Ideal S1024x2048 .bf16) (x1 : Vec Ideal S2048x768 .bf16) (s : Vec Ideal S2x1024x384 .f32) :
    (sout0_B_0 c i a0 h0 a1 h1 a2 h2 a3 h3 hc0 hc1 x0 x1 s : S2x1024x384.Idx → EReal) = acc x0 x1 s := by
  unfold sout0_B_0
  rw [View.read_writes_eq_canon _ _ _ (fun y => scover0_B_0 ..)]
  unfold kernelRun0_B
  dsimp only
  sl_unfold_words
  simp only [View.readAt_eq_ld, h0.read_unread, h1.read_unread, h3.read_unread, View.ld_unit_zero (S := S1024x2048) hz2]
  exact halves _ _ _ _ (fun p q => pay3_apply x0 x1 _ _ p q (ld0 s p q)) (fun p q => pay4_apply x0 x1 _ _ p q (ld1 s p q))

theorem scratch_C (i : grid0.Coords) (a0 : Memref sig .tc .vmem S1024x2048 .bf16) (h0 : a0.IsWhole) (a1 : Memref sig .tc .vmem S2048x768 .bf16) (h1 : a1.IsWhole)
    (a2 : Memref sig .tc .vmem S2x1024x384 .bf16) (h2 : a2.IsWhole) (a3 : Memref sig .tc .vmem S2x1024x384 .f32) (h3 : a3.IsWhole)
    (hc0 : ¬cond0_0 i) (hc1 : cond0_1 i) (x0 : Vec Ideal S1024x2048 .bf16) (x1 : Vec Ideal S2048x768 .bf16) (s : Vec Ideal S2x1024x384 .f32) :
    (sout0_C_0 c i a0 h0 a1 h1 a2 h2 a3 h3 hc0 hc1 x0 x1 s : S2x1024x384.Idx → EReal) = acc x0 x1 s := by
  unfold sout0_C_0
  rw [View.read_writes_eq_canon _ _ _ (fun y => scover0_C_0 ..)]
  unfold kernelRun0_C
  dsimp only
  sl_unfold_words
  simp only [View.readAt_eq_ld, h0.read_unread, h1.read_unread, h3.read_unread, View.ld_unit_zero (S := S1024x2048) hz2]
  exact halves _ _ _ _ (fun p q => pay3_apply x0 x1 _ _ p q (ld0 s p q)) (fun p q => pay4_apply x0 x1 _ _ p q (ld1 s p q))

theorem out_C (i : grid0.Coords) (a0 : Memref sig .tc .vmem S1024x2048 .bf16) (h0 : a0.IsWhole) (a1 : Memref sig .tc .vmem S2048x768 .bf16) (h1 : a1.IsWhole)
    (a2 : Memref sig .tc .vmem S2x1024x384 .bf16) (h2 : a2.IsWhole) (a3 : Memref sig .tc .vmem S2x1024x384 .f32) (h3 : a3.IsWhole)
    (hc0 : ¬cond0_0 i) (hc1 : cond0_1 i) (x0 : Vec Ideal S1024x2048 .bf16) (x1 : Vec Ideal S2048x768 .bf16) (s : Vec Ideal S2x1024x384 .f32) :
    (out0_C_2 c i a0 h0 a1 h1 a2 h2 a3 h3 hc0 hc1 x0 x1 s : S2x1024x384.Idx → EReal) = acc x0 x1 s := by
  unfold out0_C_2
  rw [View.read_writes_eq_canon _ _ _ (fun y => cover0_C_2 ..)]
  unfold kernelRun0_C
  dsimp only
  sl_unfold_words
  rw [View.canon_unit_zero hz3]
  simp only [View.readAt_eq_ld, h0.read_unread, h1.read_unread, h3.read_unread, View.ld_unit_zero (S := S1024x2048) hz2]
  rw [View.readCov_eq_canon', halves _ _ (acc x0 x1 s) _ (fun p q => pay3_apply x0 x1 _ _ p q (ld0 s p q)) (fun p q => pay4_apply x0 x1 _ _ p q (ld1 s p q))]
  funext y
  show acc x0 x1 s _ = _
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-! ## The running sum -/

/-- What the point at step `s` of block `b` adds. -/
abbrev part (b s : ℕ) (e : Fin 2) (p : Fin 1024) (q : Fin 384) : EReal := ∑ k : Fin 2048,
  if h : b < 4 ∧ s < 4 then term (arg0 m c) (arg1 m c) (arg2 m c) p ⟨384 * (2 * b + e.val) + q.val, by omega⟩ ⟨2048 * s + k.val, by omega⟩ else 0

theorem part_eq (t : Fin cfg0.N) (f : S2x1024x384.Idx → EReal) (e : Fin 2) (p : Fin 1024) (q : Fin 384) :
    acc (iblk m c 0 t) (iblk m c 1 t) f (ix3 e p q) = f (ix3 e p q) + part m c (t.val / 4) (t.val % 4) e p q := by
  have hN : t.val < 16 := lt_of_lt_of_eq t.isLt (show cfg0.N = 16 from N_0)
  refine congrArg (f (ix3 e p q) + ·) (Finset.sum_congr rfl fun k _ => ?_)
  rw [dif_pos (by omega)]
  exact congrArg₂ (· * ·) (blk0 m c t p k ⟨2048 * (t.val % 4) + k.val, by omega⟩ rfl)
    (blk1 m c t k ⟨384 * e.val + q.val, by omega⟩ ⟨2048 * (t.val % 4) + k.val, by omega⟩ ⟨384 * (2 * (t.val / 4) + e.val) + q.val, by omega⟩ rfl
      (by simp only; omega))

theorem sum_eq : ∀ (n : ℕ) (h : n < cfg0.N) (e : Fin 2) (p : Fin 1024) (q : Fin 384), ((outsAt0 m c n h).2 : S2x1024x384.Idx → EReal) (ix3 e p q)
    = ∑ s ∈ Finset.range (n % 4 + 1), part m c (n / 4) s e p q := by
  intro n
  induction n with
  | zero =>
    intro h e p q
    rw [outsAt0_A m c ⟨0, h⟩ rfl (by simp)]
    dsimp only
    rw [scratch_A, part_eq]
    simp
  | succ n ih =>
    intro h e p q
    have hN : n + 1 < 16 := lt_of_lt_of_eq h (show cfg0.N = 16 from N_0)
    by_cases h0 : (n + 1) % 4 = 0
    · rw [outsAt0_A m c ⟨n + 1, h⟩ h0 (by simp only; omega)]
      dsimp only
      rw [scratch_A, part_eq]
      simp [h0]
    · have e1 : (n + 1) % 4 = n % 4 + 1 := by omega
      have e2 : (n + 1) / 4 = n / 4 := by omega
      have step : ((outsAt0 m c (n + 1) h).2 : S2x1024x384.Idx → EReal) (ix3 e p q)
          = ((outsAt0 m c n (by omega)).2 : S2x1024x384.Idx → EReal) (ix3 e p q) + part m c ((n + 1) / 4) ((n + 1) % 4) e p q := by
        by_cases h1 : (n + 1) % 4 = 3
        · rw [outsAt0_C m c ⟨n + 1, h⟩ h0 h1]
          dsimp only
          rw [scratch_C, part_eq]
          rfl
        · rw [outsAt0_B m c ⟨n + 1, h⟩ h0 h1]
          dsimp only
          rw [scratch_B, part_eq]
          rfl
      rw [step, ih, e1, e2, Finset.sum_range_succ _ (n % 4 + 1)]

/-- The four steps of a block are the whole sum over the rows. -/
theorem parts (b : ℕ) (hb : b < 4) (e : Fin 2) (p : Fin 1024) (q : Fin 384) :
    ∑ s ∈ Finset.range 4, part m c b s e p q = grouped (arg0 m c) (arg1 m c) (arg2 m c) ⟨2 * b + e.val, by omega⟩ p q := by
  unfold grouped dw part
  rw [Finset.sum_range, ← Finset.sum_product']
  refine Finset.sum_nbij' (fun x : Fin 4 × Fin 2048 => (⟨2048 * x.1.val + x.2.val, by omega⟩ : Fin 8192))
    (fun r => (⟨r.val / 2048, by omega⟩, ⟨r.val % 2048, by omega⟩)) (by simp) (by simp) ?_ ?_ ?_
  · rintro ⟨x, y⟩ _
    ext <;> simp only <;> omega
  · intro r _
    ext
    simp only
    omega
  · rintro ⟨x, y⟩ _
    exact dif_pos ⟨hb, x.isLt⟩

theorem out_eq (t : Fin cfg0.N) (ht : t.val % 4 = 3) (e : Fin 2) (p : Fin 1024) (q : Fin 384) :
    ((outsAt0 m c t.val t.isLt).1 : S2x1024x384.Idx → EReal) (ix3 e p q)
      = grouped (arg0 m c) (arg1 m c) (arg2 m c) ⟨2 * (t.val / 4) + e.val, by
          have hN : t.val < 16 := lt_of_lt_of_eq t.isLt (show cfg0.N = 16 from N_0)
          omega⟩ p q := by
  have hN : t.val < 16 := lt_of_lt_of_eq t.isLt (show cfg0.N = 16 from N_0)
  have h2 := sum_eq m c t.val t.isLt e p q
  rw [ht, parts m c _ (by omega)] at h2
  rw [← h2, outsAt0_C m c t (by omega) ht]
  dsimp only
  rw [out_C, scratch_C]

theorem final2 : (dats m 0 c).arrAt 2 cfg0.N
    = ((fun i => grouped (arg0 m c) (arg1 m c) (arg2 m c) (i 0) (i 1) (i 2)) : S8x1024x384.Idx → EReal) := by
  refine (dats m 0 c).arrAt_eq_of_cover 2 _ (fun t hf => ?_) fun i => ?_
  · have ht : t.val % 4 = 3 := (flush0_2 t).mp hf
    rw [Value.flushed2]
    funext j
    rw [View.read_apply]
    obtain ⟨e, p, q, rfl⟩ : ∃ (e : Fin 2) (p : Fin 1024) (q : Fin 384), j = ix3 e p q := ⟨j 0, j 1, j 2, eq_ix3 j⟩
    refine (out_eq m c t ht e p q).trans ?_
    show grouped _ _ _ _ _ _ = grouped _ _ _ _ _ _
    congr 1
    · apply Fin.ext
      show 2 * (t.val / 4) + e.val = win0_2.index t 0 * 2 + 1 * e.val
      rw [(idx2 t).1]; omega
    · apply Fin.ext
      show p.val = win0_2.index t 1 * 1024 + 1 * p.val
      rw [(idx2 t).2.1]; omega
    · apply Fin.ext
      show q.val = win0_2.index t 2 * 384 + 1 * q.val
      rw [(idx2 t).2.2]; omega
  · exact (Value.covered_iff2 i).2 (by
      have h0 : (i 0).val < 8 := (i 0).isLt
      have h1 : (i 1).val < 1024 := (i 1).isLt
      have h2 : (i 2).val < 384 := (i 2).isLt
      omega)

end Cert.Kernel10Ideal.ConvInDw

namespace Cert.Proof.ConvInDw

open Cert.Kernel10Ideal.ConvInDw

/-! ## The reference and the claims -/

open Cert.Reference10Ideal Cert.Reference10Ideal.Read in
theorem reference (du : FVec Ideal S8192x3072 .bf16) (x : FVec Ideal S8192x1024 .f32) (g : FVec Ideal S1024 .f32)
    (e : Fin 8) (p : Fin 1024) (q : Fin 384) : val_main_v20 (F := Ideal) du x g (ix3 e p q) = grouped du x g e p q := by
  pointwise [val_main_v20, val_main_v19, val_main_v18, val_main_v17, val_main_v16, val_main_v15, val_main_v13, val_main_v12, val_main_v11, val_main_v10, val_main_v9, val_main_v8, val_main_v7, val_main_v6, val_main_v5, val_main_v4, val_main_v3, val_main_v2, val_main_v1, val_main_cst_0, val_main_cst_1, val_main_cst_2, grouped, dw, term, normed]
  refine Finset.sum_congr rfl fun k _ => (mul_comm _ _).trans (congrArg (_ * ·) (congrArg (fun a => du (ix2 k a)) (Fin.ext ?_)))
  simp only
  omega

/-- The reference runs, leaves its arguments alone and ends with every semaphore at zero. -/
theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The kernel's result is the gradient of the reference. -/
theorem algebraic : Cert.algebraic_Kernel10Ideal_Reference10Ideal := by
  intro m ρ m' ρ' _ hagree
  refine ⟨fun c => (fun i => grouped (arg0 m c) (arg1 m c) (arg2 m c) (i 0) (i 1) (i 2) : Cert.Kernel10Ideal.S8x1024x384.Idx → EReal), ?_, ?_⟩
  · exact (θ_run Cert.Kernel10Ideal.defs _ _).mono
      (fun _ h c => ⟨(h c).1.trans (final2 m c), (h c).2⟩)
      (Cert.Kernel10Ideal.Value.run_blocks (F := Ideal) m ρ)
  · refine (θ_run Cert.Reference10Ideal.defs _ _).mono (fun _ h c => ⟨(h c).1.trans ?_, (h c).2⟩)
      (Cert.Reference10Ideal.Value.run (F := Ideal) m' ρ')
    rw [Cert.Reference10Ideal.Read.val_main_v20_eq, (hagree c).1, (hagree c).2.1, (hagree c).2.2]
    funext i
    rw [eq_ix3 i]
    exact reference _ _ _ _ _ _

end Cert.Proof.ConvInDw
end
-- ==== Proof.ConvOutDx.lean ====
/-
  The cotangent of the gated rows, through the convolution's second projection: the rows a grid point computes, the whole
  array the kernel leaves, and the reference's, all at an index.
-/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel11Ideal.ConvOutDx

open Cert.Kernel11Ideal Cert.Kernel11Ideal.Gen

/-- The cotangent through the weight. -/
def dz (dy : S8192x1024.Idx → EReal) (w : S1024x1024.Idx → EReal) (r : Fin 8192) (q : Fin 1024) : EReal :=
  ∑ k : Fin 1024, dy (ix2 r k) * w (ix2 q k)

variable (m : (ℓ : Loc nD τ sig) → Buf (Elt Ideal) ℓ) (c : Dev nD)

abbrev arg0 : FVec Ideal S8192x1024 .f32 := m ((c.tc : Thread nD τ).loc main_arg0)
abbrev arg1 : FVec Ideal S1024x1024 .bf16 := m ((c.tc : Thread nD τ).loc main_arg1)

/-! ## The arrays the kernel is handed -/

def hDy (dy : FVec Ideal S8192x1024 .f32) : FVec Ideal S8192x1024 .bf16 := truncf .bf16 dy bitsLt_bf16_f32
def hW (w : FVec Ideal S1024x1024 .bf16) : FVec Ideal S1x1024x1024 .bf16 :=
  broadcastInDim S1x1024x1024 ![1, 2] bcast_S1024x1024_S1x1024x1024_1_2 w

theorem entry_dy : V (F := Ideal) m c main_v0 = hDy (arg0 m c) := by
  show StableHlo.after hostOps0 (fun b => m (c, b)) _ = _
  simp only [hostOps0]
  after_results_simp <;> rfl

theorem entry_w : V (F := Ideal) m c main_v1 = hW (arg1 m c) := by
  show StableHlo.after hostOps0 (fun b => m (c, b)) _ = _
  simp only [hostOps0]
  after_results_simp <;> rfl

theorem hDy_apply (dy : FVec Ideal S8192x1024 .f32) (r : Fin 8192) (q : Fin 1024) : hDy dy (ix2 r q) = dy (ix2 r q) := by
  pointwise [hDy]

theorem hW_apply (w : FVec Ideal S1024x1024 .bf16) (e : Fin 1) (r : Fin 1024) (q : Fin 1024) : hW w (ix3 e r q) = w (ix2 r q) := by
  pointwise [hW]

/-! ## The blocks -/

theorem idx0 : ∀ t : Fin grid0.N, win0_0.index t 0 = t.val ∧ win0_0.index t 1 = 0 := by decide +kernel
theorem idx1 : ∀ t : Fin grid0.N, win0_1.index t 0 = 0 ∧ win0_1.index t 1 = 0 ∧ win0_1.index t 2 = 0 := by decide +kernel
theorem idx2 : ∀ t : Fin grid0.N, win0_2.index t 0 = t.val ∧ win0_2.index t 1 = 0 := by decide +kernel

theorem blk0 (t : Fin cfg0.N) (p : Fin 1024) (q : Fin 1024) (r : Fin 8192) (hr : r.val = 1024 * t.val + p.val) :
    (iblk m c 0 t : S1024x1024.Idx → EReal) (ix2 p q) = arg0 m c (ix2 r q) := by
  unfold iblk
  rw [View.read_apply]
  show V m c main_v0 _ = _
  rw [entry_dy]
  refine Eq.trans ?_ (hDy_apply _ r q)
  congr 1
  funext a
  apply Fin.ext
  match a with
  | ⟨0, _⟩ => show win0_0.index t 0 * 1024 + 1 * p.val = r.val; rw [(idx0 t).1]; omega
  | ⟨1, _⟩ => show win0_0.index t 1 * 1024 + 1 * q.val = q.val; rw [(idx0 t).2]; omega

theorem blk1 (t : Fin cfg0.N) (e : Fin 1) (p : Fin 1024) (q : Fin 1024) :
    (iblk m c 1 t : S1x1024x1024.Idx → EReal) (ix3 e p q) = arg1 m c (ix2 p q) := by
  unfold iblk
  rw [View.read_apply]
  show V m c main_v1 _ = _
  rw [entry_w]
  refine Eq.trans ?_ (hW_apply _ e p q)
  congr 1
  funext a
  apply Fin.ext
  match a with
  | ⟨0, _⟩ => show win0_1.index t 0 * 1 + 1 * e.val = e.val; rw [(idx1 t).1]; omega
  | ⟨1, _⟩ => show win0_1.index t 1 * 1024 + 1 * p.val = p.val; rw [(idx1 t).2.1]; omega
  | ⟨2, _⟩ => show win0_1.index t 2 * 1024 + 1 * q.val = q.val; rw [(idx1 t).2.2]; omega

/-! ## What a point leaves -/

theorem hz : (![0, 0] : Fin 2 → Nat) = fun _ => 0 := funext fun a => by fin_cases a <;> rfl

/-- A row index of the whole array from a grid point and a row of its block. -/
abbrev row (t : Fin cfg0.N) (p : Fin 1024) : Fin 8192 := ⟨1024 * t.val + p.val, by
  have hN : t.val < 8 := lt_of_lt_of_eq t.isLt (show cfg0.N = 8 from N_0)
  omega⟩

/-- The result in the rows of point `t`. -/
abbrev rows (t : Fin cfg0.N) : S1024x1024.Idx → EReal := fun i => dz (arg0 m c) (arg1 m c) (row t (i 0)) (i 1)

theorem hz3 : (![0, 0, 0] : Fin 3 → Nat) = fun _ => 0 := funext fun a => by fin_cases a <;> rfl

theorem out_eq (t : Fin cfg0.N) : (out0_2 (F := Ideal) (iblk m c 0 t) (iblk m c 1 t) : S1024x1024.Idx → EReal) = rows m c t := by
  unfold out0_2
  rw [View.canon_unit_zero hz]
  simp only [View.ld_unit_zero (S := S1024x1024) hz, View.ld_unit_zero (S := S1x1024x1024) hz3]
  funext y
  obtain ⟨p, q, rfl⟩ : ∃ (p : Fin 1024) (q : Fin 1024), y = ix2 p q := ⟨y 0, y 1, eq_ix2 y⟩
  pointwise [k0_pay1]
  exact Finset.sum_congr rfl fun k _ => congrArg₂ (· * ·) (blk0 m c t p k (row t p) rfl) (blk1 m c t 0 q k)

/-! ## The whole array -/

theorem mem_blk2 (t : Fin cfg0.N) (i : S8192x1024.Idx) (h : 1024 * t.val ≤ (i 0 : Nat) ∧ (i 0 : Nat) < 1024 * t.val + 1024) :
    i ∈ ((cfg0.win 2).blk t).view.set := by
  show i ∈ ((View.whole main_v2).slice (win0_2.rect t)).set
  rw [View.set_slice_whole, Rect.mem_set_unit]
  have h1 : (i 1 : Nat) < 1024 := (i 1).isLt
  intro a
  match a with
  | ⟨0, _⟩ => show win0_2.index t 0 * 1024 ≤ (i 0 : Nat) ∧ (i 0 : Nat) < win0_2.index t 0 * 1024 + 1024; rw [(idx2 t).1]; omega
  | ⟨1, _⟩ => show win0_2.index t 1 * 1024 ≤ (i 1 : Nat) ∧ (i 1 : Nat) < win0_2.index t 1 * 1024 + 1024; rw [(idx2 t).2]; omega

theorem final2 : (dats m 0 c).arrAt 2 cfg0.N
    = ((fun i => dz (arg0 m c) (arg1 m c) (i 0) (i 1)) : S8192x1024.Idx → EReal) := by
  refine (dats m 0 c).arrAt_eq_of_cover 2 _ (fun t _ => ?_) fun i => ?_
  · rw [Value.flushed2, out_eq]
    funext j
    rw [View.read_apply]
    show dz _ _ _ _ = dz _ _ _ _
    congr 1
    · apply Fin.ext
      show 1024 * t.val + (j 0).val = win0_2.index t 0 * 1024 + 1 * (j 0).val
      rw [(idx2 t).1]; omega
    · apply Fin.ext
      show (j 1).val = win0_2.index t 1 * 1024 + 1 * (j 1).val
      rw [(idx2 t).2]; omega
  · have h0 : (i 0).val < 8192 := (i 0).isLt
    have hN : cfg0.N = 8 := N_0
    refine ⟨⟨(i 0).val / 1024, by rw [hN]; omega⟩, flush0_2 _, ?_⟩
    refine mem_blk2 _ i ?_
    simp only
    omega

end Cert.Kernel11Ideal.ConvOutDx

namespace Cert.Proof.ConvOutDx

open Cert.Kernel11Ideal.ConvOutDx

/-! ## The reference and the claims -/

open Cert.Reference11Ideal Cert.Reference11Ideal.Read in
theorem reference (dy : FVec Ideal S8192x1024 .f32) (w : FVec Ideal S1024x1024 .bf16)
    (r : Fin 8192) (q : Fin 1024) : val_main_v3 (F := Ideal) dy w (ix2 r q) = dz dy w r q := by
  pointwise [val_main_v3, val_main_v1]
  rfl

/-- The reference runs, leaves its arguments alone and ends with every semaphore at zero. -/
theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The kernel's result is the gradient of the reference. -/
theorem algebraic : Cert.algebraic_Kernel11Ideal_Reference11Ideal := by
  intro m ρ m' ρ' _ hagree
  refine ⟨fun c => (fun i => dz (arg0 m c) (arg1 m c) (i 0) (i 1) : Cert.Kernel11Ideal.S8192x1024.Idx → EReal), ?_, ?_⟩
  · exact (θ_run Cert.Kernel11Ideal.defs _ _).mono
      (fun _ h c => ⟨(h c).1.trans (final2 m c), (h c).2⟩)
      (Cert.Kernel11Ideal.Value.run_blocks (F := Ideal) m ρ)
  · refine (θ_run Cert.Reference11Ideal.defs _ _).mono (fun _ h c => ⟨(h c).1.trans ?_, (h c).2⟩)
      (Cert.Reference11Ideal.Value.run (F := Ideal) m' ρ')
    rw [Cert.Reference11Ideal.Read.val_main_v3_eq, (hagree c).1, (hagree c).2]
    funext i
    rw [eq_ix2 i]
    exact reference _ _ _ _

end Cert.Proof.ConvOutDx
end
-- ==== Proof.ConvOutDw.lean ====
/-
  The gradient of the convolution's second projection's weight: what the grid points add up in the scratch buffer, the whole
  array the kernel leaves, and the reference's, all at an index.
-/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel12Ideal.ConvOutDw

open Cert.Kernel12Ideal Cert.Kernel12Ideal.Gen

/-- The product of the gated rows' and the cotangent's columns at one row. -/
def term (dy : S8192x1024.Idx → EReal) (u : S8192x1024.Idx → EReal) (p : Fin 1024) (q : Fin 1024) (k : Fin 8192) : EReal :=
  u (ix2 k p) * dy (ix2 k q)

/-- The weight's gradient. -/
def dw (dy : S8192x1024.Idx → EReal) (u : S8192x1024.Idx → EReal) (p : Fin 1024) (q : Fin 1024) : EReal := ∑ k, term dy u p q k

variable (m : (ℓ : Loc nD τ sig) → Buf (Elt Ideal) ℓ) (c : Dev nD)

abbrev arg0 : FVec Ideal S8192x1024 .f32 := m ((c.tc : Thread nD τ).loc main_arg0)
abbrev arg1 : FVec Ideal S8192x1024 .bf16 := m ((c.tc : Thread nD τ).loc main_arg1)

/-! ## The arrays the kernel is handed -/

def hDy (dy : FVec Ideal S8192x1024 .f32) : FVec Ideal S8192x1024 .bf16 := truncf .bf16 dy bitsLt_bf16_f32

theorem entry_act : V (F := Ideal) m c main_arg1 = arg1 m c := by
  show StableHlo.after hostOps0 (fun b => m (c, b)) _ = _
  simp only [hostOps0]
  after_results_simp <;> rfl

theorem entry_dy : V (F := Ideal) m c main_v0 = hDy (arg0 m c) := by
  show StableHlo.after hostOps0 (fun b => m (c, b)) _ = _
  simp only [hostOps0]
  after_results_simp <;> rfl

theorem hDy_apply (dy : FVec Ideal S8192x1024 .f32) (r : Fin 8192) (q : Fin 1024) : hDy dy (ix2 r q) = dy (ix2 r q) := by
  pointwise [hDy]

/-! ## The blocks -/

theorem idx0 : ∀ t : Fin grid0.N, win0_0.index t 0 = t.val % 4 ∧ win0_0.index t 1 = t.val / 4 := by decide +kernel
theorem idx1 : ∀ t : Fin grid0.N, win0_1.index t 0 = t.val % 4 ∧ win0_1.index t 1 = 0 := by decide +kernel
theorem idx2 : ∀ t : Fin grid0.N, win0_2.index t 0 = 0 ∧ win0_2.index t 1 = t.val / 4 ∧ win0_2.index t 2 = 0 := by decide +kernel

theorem blk0 (t : Fin cfg0.N) (p : Fin 2048) (q : Fin 1024) (r : Fin 8192) (s : Fin 1024) (hr : r.val = 2048 * (t.val % 4) + p.val)
    (hs : s.val = 1024 * (t.val / 4) + q.val) :
    (iblk m c 0 t : S2048x1024.Idx → EReal) (ix2 p q) = arg1 m c (ix2 r s) := by
  unfold iblk
  rw [View.read_apply]
  show V m c main_arg1 _ = _
  rw [entry_act]
  congr 1
  funext a
  apply Fin.ext
  match a with
  | ⟨0, _⟩ => show win0_0.index t 0 * 2048 + 1 * p.val = r.val; rw [(idx0 t).1]; omega
  | ⟨1, _⟩ => show win0_0.index t 1 * 1024 + 1 * q.val = s.val; rw [(idx0 t).2]; omega

theorem blk1 (t : Fin cfg0.N) (p : Fin 2048) (q : Fin 1024) (r : Fin 8192) (hr : r.val = 2048 * (t.val % 4) + p.val) :
    (iblk m c 1 t : S2048x1024.Idx → EReal) (ix2 p q) = arg0 m c (ix2 r q) := by
  unfold iblk
  rw [View.read_apply]
  show V m c main_v0 _ = _
  rw [entry_dy]
  refine Eq.trans ?_ (hDy_apply _ r q)
  congr 1
  funext a
  apply Fin.ext
  match a with
  | ⟨0, _⟩ => show win0_1.index t 0 * 2048 + 1 * p.val = r.val; rw [(idx1 t).1]; omega
  | ⟨1, _⟩ => show win0_1.index t 1 * 1024 + 1 * q.val = q.val; rw [(idx1 t).2]; omega

/-! ## What each case leaves -/

theorem hz2 : (![0, 0] : Fin 2 → Nat) = fun _ => 0 := funext fun a => by fin_cases a <;> rfl
theorem hz3 : (![0, 0, 0] : Fin 3 → Nat) = fun _ => 0 := funext fun a => by fin_cases a <;> rfl

theorem scratch_A (i : grid0.Coords) (a0 : Memref sig .tc .vmem S2048x1024 .bf16) (h0 : a0.IsWhole) (a1 : Memref sig .tc .vmem S2048x1024 .bf16) (h1 : a1.IsWhole)
    (a2 : Memref sig .tc .vmem S1x1024x1024 .bf16) (h2 : a2.IsWhole) (a3 : Memref sig .tc .vmem S1x1024x1024 .f32) (h3 : a3.IsWhole)
    (hc0 : cond0_0 i) (hc1 : ¬cond0_1 i) (x0 x1 : Vec Ideal S2048x1024 .bf16) :
    sout0_A_0 c i a0 h0 a1 h1 a2 h2 a3 h3 hc0 hc1 x0 x1 = k0_pay2 x0 (k0_pay1 (F := Ideal)) x1 := by
  unfold sout0_A_0
  rw [View.read_writes_eq_canon _ _ _ (fun y => scover0_A_0 ..)]
  unfold kernelRun0_A
  dsimp only
  sl_unfold_words
  rw [View.canon_cons_unit_zero (S := S1x1024x1024) hz3, View.readCov_unit_zero (S := S1x1024x1024) _ hz3]
  simp only [View.readAt_eq_ld, h0.read_unread, h1.read_unread, View.ld_unit_zero (S := S2048x1024) hz2]

theorem scratch_B (i : grid0.Coords) (a0 : Memref sig .tc .vmem S2048x1024 .bf16) (h0 : a0.IsWhole) (a1 : Memref sig .tc .vmem S2048x1024 .bf16) (h1 : a1.IsWhole)
    (a2 : Memref sig .tc .vmem S1x1024x1024 .bf16) (h2 : a2.IsWhole) (a3 : Memref sig .tc .vmem S1x1024x1024 .f32) (h3 : a3.IsWhole)
    (hc0 : ¬cond0_0 i) (hc1 : ¬cond0_1 i) (x0 x1 : Vec Ideal S2048x1024 .bf16) (s : Vec Ideal S1x1024x1024 .f32) :
    sout0_B_0 c i a0 h0 a1 h1 a2 h2 a3 h3 hc0 hc1 x0 x1 s = k0_pay2 x0 s x1 := by
  unfold sout0_B_0
  rw [View.read_writes_eq_canon _ _ _ (fun y => scover0_B_0 ..)]
  unfold kernelRun0_B
  dsimp only
  sl_unfold_words
  rw [View.canon_unit_zero hz3]
  simp only [View.readAt_eq_ld, h0.read_unread, h1.read_unread, h3.read_unread, View.ld_unit_zero (S := S2048x1024) hz2,
    View.ld_unit_zero (S := S1x1024x1024) hz3]

theorem scratch_C (i : grid0.Coords) (a0 : Memref sig .tc .vmem S2048x1024 .bf16) (h0 : a0.IsWhole) (a1 : Memref sig .tc .vmem S2048x1024 .bf16) (h1 : a1.IsWhole)
    (a2 : Memref sig .tc .vmem S1x1024x1024 .bf16) (h2 : a2.IsWhole) (a3 : Memref sig .tc .vmem S1x1024x1024 .f32) (h3 : a3.IsWhole)
    (hc0 : ¬cond0_0 i) (hc1 : cond0_1 i) (x0 x1 : Vec Ideal S2048x1024 .bf16) (s : Vec Ideal S1x1024x1024 .f32) :
    sout0_C_0 c i a0 h0 a1 h1 a2 h2 a3 h3 hc0 hc1 x0 x1 s = k0_pay2 x0 s x1 := by
  unfold sout0_C_0
  rw [View.read_writes_eq_canon _ _ _ (fun y => scover0_C_0 ..)]
  unfold kernelRun0_C
  dsimp only
  sl_unfold_words
  rw [View.canon_unit_zero hz3]
  simp only [View.readAt_eq_ld, h0.read_unread, h1.read_unread, h3.read_unread, View.ld_unit_zero (S := S2048x1024) hz2,
    View.ld_unit_zero (S := S1x1024x1024) hz3]

theorem out_C (i : grid0.Coords) (a0 : Memref sig .tc .vmem S2048x1024 .bf16) (h0 : a0.IsWhole) (a1 : Memref sig .tc .vmem S2048x1024 .bf16) (h1 : a1.IsWhole)
    (a2 : Memref sig .tc .vmem S1x1024x1024 .bf16) (h2 : a2.IsWhole) (a3 : Memref sig .tc .vmem S1x1024x1024 .f32) (h3 : a3.IsWhole)
    (hc0 : ¬cond0_0 i) (hc1 : cond0_1 i) (x0 x1 : Vec Ideal S2048x1024 .bf16) (s : Vec Ideal S1x1024x1024 .f32) :
    out0_C_2 c i a0 h0 a1 h1 a2 h2 a3 h3 hc0 hc1 x0 x1 s = k0_pay3 (k0_pay2 x0 s x1) := by
  unfold out0_C_2
  rw [View.read_writes_eq_canon _ _ _ (fun y => cover0_C_2 ..)]
  unfold kernelRun0_C
  dsimp only
  sl_unfold_words
  rw [View.canon_unit_zero hz3, View.readCov_unit_zero (S := S1x1024x1024) _ hz3]
  simp only [View.readAt_eq_ld, h0.read_unread, h1.read_unread, h3.read_unread, View.ld_unit_zero (S := S2048x1024) hz2,
    View.ld_unit_zero (S := S1x1024x1024) hz3]

theorem pay2_apply (x0 x1 : Vec Ideal S2048x1024 .bf16) (s : Vec Ideal S1x1024x1024 .f32) (e : Fin 1) (p q : Fin 1024) :
    k0_pay2 (F := Ideal) x0 s x1 (ix3 e p q) = s (ix3 e p q) + ∑ k : Fin 2048, x0 (ix2 k p) * x1 (ix2 k q) := by
  obtain rfl : e = 0 := Subsingleton.elim _ _
  pointwise [k0_pay2]

theorem pay1_apply (e : Fin 1) (p q : Fin 1024) : k0_pay1 (F := Ideal) (ix3 e p q) = 0 := by
  pointwise [k0_pay1]

/-! ## The running sum -/

/-- What the point at step `s` of block `b` adds. -/
abbrev part (b s : ℕ) (p q : Fin 1024) : EReal := ∑ k : Fin 2048,
  if h : b < 1 ∧ s < 4 then term (arg0 m c) (arg1 m c) ⟨1024 * b + p.val, by omega⟩ q ⟨2048 * s + k.val, by omega⟩ else 0

/-- The gated rows' block of one point. -/
abbrev actBlk (t : Fin cfg0.N) : S2048x1024.Idx → EReal := iblk m c 0 t

/-- The cotangent's block of one point. -/
abbrev dyBlk (t : Fin cfg0.N) : S2048x1024.Idx → EReal := iblk m c 1 t

theorem part_eq (t : Fin cfg0.N) (p q : Fin 1024) :
    ∑ k : Fin 2048, actBlk m c t (ix2 k p) * dyBlk m c t (ix2 k q)
      = part m c (t.val / 4) (t.val % 4) p q := by
  have hN : t.val < 4 := lt_of_lt_of_eq t.isLt (show cfg0.N = 4 from N_0)
  refine Finset.sum_congr rfl fun k _ => ?_
  rw [dif_pos (by omega)]
  exact congrArg₂ (· * ·) (blk0 m c t k p ⟨2048 * (t.val % 4) + k.val, by omega⟩ ⟨1024 * (t.val / 4) + p.val, by omega⟩ rfl rfl)
    (blk1 m c t k q ⟨2048 * (t.val % 4) + k.val, by omega⟩ rfl)

theorem sum_eq : ∀ (n : ℕ) (h : n < cfg0.N) (e : Fin 1) (p q : Fin 1024), ((outsAt0 m c n h).2 : S1x1024x1024.Idx → EReal) (ix3 e p q)
    = ∑ s ∈ Finset.range (n % 4 + 1), part m c (n / 4) s p q := by
  intro n
  induction n with
  | zero =>
    intro h e p q
    rw [outsAt0_A m c ⟨0, h⟩ rfl (by simp)]
    dsimp only
    rw [scratch_A, pay2_apply, pay1_apply, part_eq]
    simp
  | succ n ih =>
    intro h e p q
    have hN : n + 1 < 4 := lt_of_lt_of_eq h (show cfg0.N = 4 from N_0)
    by_cases h0 : (n + 1) % 4 = 0
    · rw [outsAt0_A m c ⟨n + 1, h⟩ h0 (by simp only; omega)]
      dsimp only
      rw [scratch_A, pay2_apply, pay1_apply, part_eq]
      simp [h0]
    · have e1 : (n + 1) % 4 = n % 4 + 1 := by omega
      have e2 : (n + 1) / 4 = n / 4 := by omega
      have step : ((outsAt0 m c (n + 1) h).2 : S1x1024x1024.Idx → EReal) (ix3 e p q)
          = ((outsAt0 m c n (by omega)).2 : S1x1024x1024.Idx → EReal) (ix3 e p q) + part m c ((n + 1) / 4) ((n + 1) % 4) p q := by
        by_cases h1 : (n + 1) % 4 = 3
        · rw [outsAt0_C m c ⟨n + 1, h⟩ h0 h1]
          dsimp only
          rw [scratch_C, pay2_apply, part_eq]
          rfl
        · rw [outsAt0_B m c ⟨n + 1, h⟩ h0 h1]
          dsimp only
          rw [scratch_B, pay2_apply, part_eq]
          rfl
      rw [step, ih, e1, e2, Finset.sum_range_succ _ (n % 4 + 1)]

/-- The four steps of a block are the whole sum over the rows. -/
theorem parts (b : ℕ) (hb : b < 1) (p q : Fin 1024) :
    ∑ s ∈ Finset.range 4, part m c b s p q = dw (arg0 m c) (arg1 m c) ⟨1024 * b + p.val, by omega⟩ q := by
  unfold dw part
  rw [Finset.sum_range, ← Finset.sum_product']
  refine Finset.sum_nbij' (fun x : Fin 4 × Fin 2048 => (⟨2048 * x.1.val + x.2.val, by omega⟩ : Fin 8192))
    (fun r => (⟨r.val / 2048, by omega⟩, ⟨r.val % 2048, by omega⟩)) (by simp) (by simp) ?_ ?_ ?_
  · rintro ⟨x, y⟩ _
    ext <;> simp only <;> omega
  · intro r _
    ext
    simp only
    omega
  · rintro ⟨x, y⟩ _
    exact dif_pos ⟨hb, x.isLt⟩

theorem out_eq (t : Fin cfg0.N) (ht : t.val % 4 = 3) (e : Fin 1) (p q : Fin 1024) :
    ((outsAt0 m c t.val t.isLt).1 : S1x1024x1024.Idx → EReal) (ix3 e p q)
      = dw (arg0 m c) (arg1 m c) ⟨1024 * (t.val / 4) + p.val, by
          have hN : t.val < 4 := lt_of_lt_of_eq t.isLt (show cfg0.N = 4 from N_0)
          omega⟩ q := by
  have hN : t.val < 4 := lt_of_lt_of_eq t.isLt (show cfg0.N = 4 from N_0)
  have h2 := sum_eq m c t.val t.isLt e p q
  rw [ht, parts m c _ (by omega)] at h2
  rw [← h2, outsAt0_C m c t (by omega) ht]
  dsimp only
  rw [out_C, scratch_C]
  rfl

theorem final2 : (dats m 0 c).arrAt 2 cfg0.N
    = ((fun i => dw (arg0 m c) (arg1 m c) (i 1) (i 2)) : S1x1024x1024.Idx → EReal) := by
  refine (dats m 0 c).arrAt_eq_of_cover 2 _ (fun t hf => ?_) fun i => ?_
  · have ht : t.val % 4 = 3 := (flush0_2 t).mp hf
    rw [Value.flushed2]
    funext j
    rw [View.read_apply]
    obtain ⟨e, p, q, rfl⟩ : ∃ (e : Fin 1) (p q : Fin 1024), j = ix3 e p q := ⟨j 0, j 1, j 2, eq_ix3 j⟩
    refine (out_eq m c t ht e p q).trans ?_
    show dw _ _ _ _ = dw _ _ _ _
    congr 1
    · apply Fin.ext
      show 1024 * (t.val / 4) + p.val = win0_2.index t 1 * 1024 + 1 * p.val
      rw [(idx2 t).2.1]; omega
    · apply Fin.ext
      show q.val = win0_2.index t 2 * 1024 + 1 * q.val
      rw [(idx2 t).2.2]; omega
  · exact (Value.covered_iff2 i).2 (by
      have h0 : (i 0).val < 1 := (i 0).isLt
      have h1 : (i 1).val < 1024 := (i 1).isLt
      have h2 : (i 2).val < 1024 := (i 2).isLt
      omega)

end Cert.Kernel12Ideal.ConvOutDw

namespace Cert.Proof.ConvOutDw

open Cert.Kernel12Ideal.ConvOutDw

/-! ## The reference and the claims -/

open Cert.Reference12Ideal Cert.Reference12Ideal.Read in
theorem reference (dy : FVec Ideal S8192x1024 .f32) (u : FVec Ideal S8192x1024 .bf16)
    (e : Fin 1) (r : Fin 1024) (q : Fin 1024) : val_main_v6 (F := Ideal) dy u (ix3 e r q) = dw dy u r q := by
  pointwise [val_main_v6, val_main_v5, val_main_v4, val_main_v3, val_main_v1]
  exact Finset.sum_congr rfl fun k _ => mul_comm _ _

/-- The reference runs, leaves its arguments alone and ends with every semaphore at zero. -/
theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The kernel's result is the gradient of the reference. -/
theorem algebraic : Cert.algebraic_Kernel12Ideal_Reference12Ideal := by
  intro m ρ m' ρ' _ hagree
  refine ⟨fun c => (fun i => dw (arg0 m c) (arg1 m c) (i 1) (i 2) : Cert.Kernel12Ideal.S1x1024x1024.Idx → EReal), ?_, ?_⟩
  · exact (θ_run Cert.Kernel12Ideal.defs _ _).mono
      (fun _ h c => ⟨(h c).1.trans (final2 m c), (h c).2⟩)
      (Cert.Kernel12Ideal.Value.run_blocks (F := Ideal) m ρ)
  · refine (θ_run Cert.Reference12Ideal.defs _ _).mono (fun _ h c => ⟨(h c).1.trans ?_, (h c).2⟩)
      (Cert.Reference12Ideal.Value.run (F := Ideal) m' ρ')
    rw [Cert.Reference12Ideal.Read.val_main_v6_eq, (hagree c).1, (hagree c).2]
    funext i
    rw [eq_ix3 i]
    exact reference _ _ _ _ _

end Cert.Proof.ConvOutDw
end
-- ==== Proof.ConvIn.lean ====
/-
  The first projection of the gated convolution, behind its normalisation: the two blocks of each grid point, the whole
  arrays the kernel leaves, and the reference's, all at an index.
-/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel13Ideal.ConvIn

open Cert.Kernel13Ideal Cert.Kernel13Ideal.Gen

/-- The normalised input. -/
def normed (x : S8192x1024.Idx → EReal) (g : S1024.Idx → EReal) (r : Fin 8192) (k : Fin 1024) : EReal :=
  x (ix2 r k) * Ideal.rsqrt (Ideal.div (∑ j : Fin 1024, x (ix2 r j) * x (ix2 r j)) (Ideal.ofBits .f32 0x44800000#32)
    + Ideal.ofBits .f32 0x358637BD#32) * g (ix1 k)

/-- The product. -/
def pre (x : S8192x1024.Idx → EReal) (g : S1024.Idx → EReal) (w : S8x1024x384.Idx → EReal) (r : Fin 8192) (q : Fin 3072) : EReal :=
  ∑ k : Fin 1024, normed x g r k * w (ix3 ⟨q.val / 384, by omega⟩ k ⟨q.val % 384, by omega⟩)

variable (m : (ℓ : Loc nD τ sig) → Buf (Elt Ideal) ℓ) (c : Dev nD)

abbrev arg0 : FVec Ideal S8192x1024 .f32 := m ((c.tc : Thread nD τ).loc main_arg0)
abbrev arg1 : FVec Ideal S1024 .f32 := m ((c.tc : Thread nD τ).loc main_arg1)
abbrev arg2 : FVec Ideal S8x1024x384 .bf16 := m ((c.tc : Thread nD τ).loc main_arg2)

/-! ## The arrays the kernel is handed -/

def hG (g : FVec Ideal S1024 .f32) : FVec Ideal S1x1024 .f32 := shapeCast _ g shapeCasts_S1024_S1x1024

theorem entry_g : V (F := Ideal) m c main_v0 = hG (arg1 m c) := by
  show StableHlo.after hostOps0 (fun b => m (c, b)) _ = _
  simp only [hostOps0]
  after_results_simp <;> rfl

theorem entry_x : V (F := Ideal) m c main_arg0 = arg0 m c := by
  show StableHlo.after hostOps0 (fun b => m (c, b)) _ = _
  simp only [hostOps0]
  after_results_simp <;> rfl

theorem entry_w : V (F := Ideal) m c main_arg2 = arg2 m c := by
  show StableHlo.after hostOps0 (fun b => m (c, b)) _ = _
  simp only [hostOps0]
  after_results_simp <;> rfl

theorem hG_apply (g : FVec Ideal S1024 .f32) (e : Fin 1) (k : Fin 1024) : hG g (ix2 e k) = g (ix1 k) := by
  obtain rfl : e = 0 := Subsingleton.elim _ _
  pointwise [hG]

/-! ## The blocks -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 ∧ win0_2.index t 2 = 0 := by decide +kernel
theorem idx3 : ∀ t : Fin grid0.N, win0_3.index t 0 = 0 ∧ win0_3.index t 1 = t.val := by decide +kernel
theorem idx4 : ∀ t : Fin grid0.N, win0_4.index t 0 = t.val ∧ win0_4.index t 1 = 0 := by decide +kernel

/-- A row index of the whole array from a grid point and a row of its block. -/
abbrev row (t : Fin cfg0.N) (p : Fin 512) : Fin 8192 := ⟨512 * t.val + p.val, by
  have hN : t.val < 16 := lt_of_lt_of_eq t.isLt (show cfg0.N = 16 from N_0)
  omega⟩

theorem blk0 (t : Fin cfg0.N) (p : Fin 512) (q : Fin 1024) :
    (iblk m c 0 t : S512x1024.Idx → EReal) (ix2 p q) = arg0 m c (ix2 (row t p) q) := by
  unfold iblk
  rw [View.read_apply]
  show V m c main_arg0 _ = _
  rw [entry_x]
  congr 1
  funext a
  apply Fin.ext
  match a with
  | ⟨0, _⟩ => show win0_0.index t 0 * 512 + 1 * p.val = 512 * t.val + p.val; rw [(idx0 t).1]; omega
  | ⟨1, _⟩ => show win0_0.index t 1 * 1024 + 1 * q.val = q.val; rw [(idx0 t).2]; omega

theorem blk1 (t : Fin cfg0.N) (e : Fin 1) (q : Fin 1024) :
    (iblk m c 1 t : S1x1024.Idx → EReal) (ix2 e q) = arg1 m c (ix1 q) := by
  unfold iblk
  rw [View.read_apply]
  show V m c main_v0 _ = _
  rw [entry_g]
  refine Eq.trans ?_ (hG_apply _ e q)
  congr 1
  funext a
  apply Fin.ext
  match a with
  | ⟨0, _⟩ => show win0_1.index t 0 * 1 + 1 * e.val = e.val; rw [(idx1 t).1]; omega
  | ⟨1, _⟩ => show win0_1.index t 1 * 1024 + 1 * q.val = q.val; rw [(idx1 t).2]; omega

theorem blk2 (t : Fin cfg0.N) (i j : S8x1024x384.Idx) (h : ∀ a, (i a).val = (j a).val := by intro a; fin_cases a <;> simp) :
    (iblk m c 2 t : S8x1024x384.Idx → EReal) i = arg2 m c j := by
  unfold iblk
  rw [View.read_apply]
  show V m c main_arg2 _ = _
  rw [entry_w]
  congr 1
  funext a
  apply Fin.ext
  match a with
  | ⟨0, _⟩ => show win0_2.index t 0 * 8 + 1 * (i 0).val = (j 0).val; rw [(idx2 t).1, h 0]; omega
  | ⟨1, _⟩ => show win0_2.index t 1 * 1024 + 1 * (i 1).val = (j 1).val; rw [(idx2 t).2.1, h 1]; omega
  | ⟨2, _⟩ => show win0_2.index t 2 * 384 + 1 * (i 2).val = (j 2).val; rw [(idx2 t).2.2, h 2]; omega

/-! ## What a point leaves -/

theorem hz : (![0, 0] : Fin 2 → Nat) = fun _ => 0 := funext fun a => by fin_cases a <;> rfl

theorem pay2_eq (t : Fin cfg0.N) (p : Fin 512) (k : Fin 1024) :
    (k0_pay2 (F := Ideal) (iblk m c 0 t) (iblk m c 1 t) (ix2 p k) : EReal) = normed (arg0 m c) (arg1 m c) (row t p) k := by
  pointwise [k0_pay2]
  unfold normed
  have e : ∀ j : Fin 1024, (iblk m c 0 t : S512x1024.Idx → EReal) (ix2 p j) = arg0 m c (ix2 (row t p) j) := blk0 m c t p
  exact congrArg₂ (· * ·) (congrArg₂ (· * ·) (e k) (congrArg (fun s => Ideal.rsqrt (Ideal.div s _ + _))
    (Finset.sum_congr rfl fun j _ => congrArg₂ (· * ·) (e j) (e j)))) (blk1 m c t 0 k)

/-- The product in the rows of point `t`. -/
abbrev rows (t : Fin cfg0.N) : S512x3072.Idx → EReal :=
  fun i => pre (arg0 m c) (arg1 m c) (arg2 m c) (row t (i 0)) (i 1)

/-- A tile of a block at an index, from its operands. -/
theorem tile (t : Fin cfg0.N) (p : Fin 512) (q : Fin 384) (j : Fin 8) (f g : Fin 1024 → EReal)
    (hf : ∀ k, f k = normed (arg0 m c) (arg1 m c) (row t p) k) (hg : ∀ k, g k = arg2 m c (ix3 j k q))
    (x : S512x3072.Idx) (h0 : (x 0).val = p.val) (h1 : (x 1).val = 384 * j.val + q.val) :
    ∑ k : Fin 1024, f k * g k = rows m c t x := by
  show _ = pre _ _ _ (row t (x 0)) (x 1)
  have e0 : row t (x 0) = row t p := Fin.ext (by show 512 * t.val + (x 0).val = 512 * t.val + p.val; rw [h0])
  rw [e0]
  unfold pre
  refine Finset.sum_congr rfl fun k _ => congrArg₂ (· * ·) (hf k) ((hg k).trans ?_)
  congr 1
  funext a
  apply Fin.ext
  match a with
  | ⟨0, _⟩ => show j.val = (x 1).val / 384; rw [h1]; omega
  | ⟨1, _⟩ => rfl
  | ⟨2, _⟩ => show q.val = (x 1).val % 384; rw [h1]; omega

theorem out3_eq (t : Fin cfg0.N) (k : Fin 1024) (p : Fin 512) :
    (out0_3 (F := Ideal) (iblk m c 0 t) (iblk m c 1 t) (iblk m c 2 t) : S1024x512.Idx → EReal) (ix2 k p)
      = normed (arg0 m c) (arg1 m c) (row t p) k := by
  unfold out0_3
  rw [View.canon_unit_zero hz]
  simp only [View.ld_unit_zero (S := S512x1024) hz, View.ld_unit_zero (S := S1x1024) hz]
  pointwise [k0_pay3]
  exact pay2_eq m c t p k

theorem out4_eq (t : Fin cfg0.N) :
    (out0_4 (F := Ideal) (iblk m c 0 t) (iblk m c 1 t) (iblk m c 2 t) : S512x3072.Idx → EReal) = rows m c t := by
  unfold out0_4 k0_pay13
  funext y
  refine View.canon_apply_of_pieces (Val := Elt Ideal) (e := .bf16) (rows m c t) _ ?_ y (cover0_4 ..)
  simp only [View.ld_unit_zero (S := S512x1024) hz, View.ld_unit_zero (S := S1x1024) hz]
  intro p hp
  simp only [List.mem_cons, List.not_mem_nil, or_false] at hp
  rcases hp with rfl | rfl | rfl | rfl | rfl | rfl | rfl | rfl
  all_goals
    intro x
    obtain ⟨p, q, rfl⟩ : ∃ (p : Fin 512) (q : Fin 384), x = ix2 p q := ⟨x 0, x 1, eq_ix2 x⟩
    pointwise [k0_pay1, k0_pay12, k0_pay11, k0_pay10, k0_pay9, k0_pay8, k0_pay7, k0_pay6, k0_pay5, k0_pay4]
  · exact tile m c t p q 7 _ _ (pay2_eq m c t p) (fun k => blk2 m c t _ _) _ (by simp) (by simp)
  · exact tile m c t p q 6 _ _ (pay2_eq m c t p) (fun k => blk2 m c t _ _) _ (by simp) (by simp)
  · exact tile m c t p q 5 _ _ (pay2_eq m c t p) (fun k => blk2 m c t _ _) _ (by simp) (by simp)
  · exact tile m c t p q 4 _ _ (pay2_eq m c t p) (fun k => blk2 m c t _ _) _ (by simp) (by simp)
  · exact tile m c t p q 3 _ _ (pay2_eq m c t p) (fun k => blk2 m c t _ _) _ (by simp) (by simp)
  · exact tile m c t p q 2 _ _ (pay2_eq m c t p) (fun k => blk2 m c t _ _) _ (by simp) (by simp)
  · exact tile m c t p q 1 _ _ (pay2_eq m c t p) (fun k => blk2 m c t _ _) _ (by simp) (by simp)
  · exact tile m c t p q 0 _ _ (pay2_eq m c t p) (fun k => blk2 m c t _ _) _ (by simp) (by simp)

/-! ## The whole arrays -/

theorem mem_blk3 (t : Fin cfg0.N) (i : S1024x8192.Idx) (h : 512 * t.val ≤ (i 1 : Nat) ∧ (i 1 : Nat) < 512 * t.val + 512) :
    i ∈ ((cfg0.win 3).blk t).view.set := by
  show i ∈ ((View.whole main_v1_0).slice (win0_3.rect t)).set
  rw [View.set_slice_whole, Rect.mem_set_unit]
  have h1 : (i 0 : Nat) < 1024 := (i 0).isLt
  intro a
  match a with
  | ⟨0, _⟩ => show win0_3.index t 0 * 1024 ≤ (i 0 : Nat) ∧ (i 0 : Nat) < win0_3.index t 0 * 1024 + 1024; rw [(idx3 t).1]; omega
  | ⟨1, _⟩ => show win0_3.index t 1 * 512 ≤ (i 1 : Nat) ∧ (i 1 : Nat) < win0_3.index t 1 * 512 + 512; rw [(idx3 t).2]; omega

theorem final3 : (dats m 0 c).arrAt 3 cfg0.N
    = ((fun i => normed (arg0 m c) (arg1 m c) (i 1) (i 0)) : S1024x8192.Idx → EReal) := by
  refine (dats m 0 c).arrAt_eq_of_cover 3 _ (fun t _ => ?_) fun i => ?_
  · rw [Value.flushed3]
    funext j
    rw [View.read_apply]
    obtain ⟨k, p, rfl⟩ : ∃ (k : Fin 1024) (p : Fin 512), j = ix2 k p := ⟨j 0, j 1, eq_ix2 j⟩
    refine (out3_eq m c t k p).trans ?_
    show normed _ _ _ _ = normed _ _ _ _
    congr 1
    · apply Fin.ext
      show 512 * t.val + p.val = win0_3.index t 1 * 512 + 1 * p.val
      rw [(idx3 t).2]; omega
    · apply Fin.ext
      show k.val = win0_3.index t 0 * 1024 + 1 * k.val
      rw [(idx3 t).1]; omega
  · have h1 : (i 1).val < 8192 := (i 1).isLt
    have hN : cfg0.N = 16 := N_0
    refine ⟨⟨(i 1).val / 512, by rw [hN]; omega⟩, flush0_3 _, ?_⟩
    refine mem_blk3 _ i ?_
    simp only
    omega

theorem mem_blk4 (t : Fin cfg0.N) (i : S8192x3072.Idx) (h : 512 * t.val ≤ (i 0 : Nat) ∧ (i 0 : Nat) < 512 * t.val + 512) :
    i ∈ ((cfg0.win 4).blk t).view.set := by
  show i ∈ ((View.whole main_v1_1).slice (win0_4.rect t)).set
  rw [View.set_slice_whole, Rect.mem_set_unit]
  have h1 : (i 1 : Nat) < 3072 := (i 1).isLt
  intro a
  match a with
  | ⟨0, _⟩ => show win0_4.index t 0 * 512 ≤ (i 0 : Nat) ∧ (i 0 : Nat) < win0_4.index t 0 * 512 + 512; rw [(idx4 t).1]; omega
  | ⟨1, _⟩ => show win0_4.index t 1 * 3072 ≤ (i 1 : Nat) ∧ (i 1 : Nat) < win0_4.index t 1 * 3072 + 3072; rw [(idx4 t).2]; omega

theorem final4 : (dats m 0 c).arrAt 4 cfg0.N
    = ((fun i => pre (arg0 m c) (arg1 m c) (arg2 m c) (i 0) (i 1)) : S8192x3072.Idx → EReal) := by
  refine (dats m 0 c).arrAt_eq_of_cover 4 _ (fun t _ => ?_) fun i => ?_
  · rw [Value.flushed4, out4_eq]
    funext j
    rw [View.read_apply]
    show pre _ _ _ _ _ = pre _ _ _ _ _
    congr 1
    · apply Fin.ext
      show 512 * t.val + (j 0).val = win0_4.index t 0 * 512 + 1 * (j 0).val
      rw [(idx4 t).1]; omega
    · apply Fin.ext
      show (j 1).val = win0_4.index t 1 * 3072 + 1 * (j 1).val
      rw [(idx4 t).2]; omega
  · have h0 : (i 0).val < 8192 := (i 0).isLt
    have hN : cfg0.N = 16 := N_0
    refine ⟨⟨(i 0).val / 512, by rw [hN]; omega⟩, flush0_4 _, ?_⟩
    refine mem_blk4 _ i ?_
    simp only
    omega

end Cert.Kernel13Ideal.ConvIn

namespace Cert.Proof.ConvIn

open Cert.Kernel13Ideal.ConvIn

/-! ## The reference and the claims -/

section
open Cert.Reference13Ideal Cert.Reference13Ideal.Read

theorem reference_normed (x : FVec Ideal S8192x1024 .f32) (g : FVec Ideal S1024 .f32) (r : Fin 8192) (q : Fin 1024) :
    val_main_v12 (F := Ideal) x g (ix2 r q) = normed x g r q := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem reference_pre (x : FVec Ideal S8192x1024 .f32) (g : FVec Ideal S1024 .f32) (w : FVec Ideal S8x1024x384 .bf16)
    (r : Fin 8192) (q : Fin 3072) : val_main_v19 (F := Ideal) x g w (ix2 r q) = pre x g w r q := by
  pointwise [val_main_v19, val_main_v18, val_main_v17, val_main_v16, val_main_v15]
  exact Finset.sum_congr rfl fun k _ => congrArg (· * _) (reference_normed x g r k)

theorem reference_h (x : FVec Ideal S8192x1024 .f32) (g : FVec Ideal S1024 .f32) (k : Fin 1024) (r : Fin 8192) :
    val_main_v14 (F := Ideal) x g (ix2 k r) = normed x g r k := by
  pointwise [val_main_v14, val_main_v13]
  exact reference_normed x g r k

end

/-- The reference runs, leaves its arguments alone and ends with every semaphore at zero. -/
theorem frame_reference : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

/-- The kernel's two results are the reference's. -/
theorem algebraic : Cert.algebraic_Kernel13Ideal_Reference13Ideal := by
  intro m ρ m' ρ' _ hagree
  refine ⟨fun c => (fun i => normed (arg0 m c) (arg1 m c) (i 1) (i 0) : Cert.Kernel13Ideal.S1024x8192.Idx → EReal),
    fun c => (fun i => pre (arg0 m c) (arg1 m c) (arg2 m c) (i 0) (i 1) : Cert.Kernel13Ideal.S8192x3072.Idx → EReal), ?_, ?_⟩
  · exact (θ_run Cert.Kernel13Ideal.defs _ _).mono
      (fun _ h c => ⟨(h c).1.trans (final3 m c), (h c).2.1.trans (final4 m c), (h c).2.2⟩)
      (Cert.Kernel13Ideal.Value.run_blocks (F := Ideal) m ρ)
  · refine (θ_run Cert.Reference13Ideal.defs _ _).mono (fun _ h c => ⟨(h c).1.trans ?_, (h c).2.1.trans ?_, (h c).2.2⟩)
      (Cert.Reference13Ideal.Value.run (F := Ideal) m' ρ')
    · rw [Cert.Reference13Ideal.Read.val_main_v14_eq, (hagree c).1, (hagree c).2.1]
      funext i
      rw [eq_ix2 i]
      exact reference_h _ _ _ _
    · rw [Cert.Reference13Ideal.Read.val_main_v19_eq, (hagree c).1, (hagree c).2.1, (hagree c).2.2]
      funext i
      rw [eq_ix2 i]
      exact reference_pre _ _ _ _ _

end Cert.Proof.ConvIn
end
-- ==== Proof.ConvOut.lean ====
/-
  The second projection of the gated convolution, added to the residual: the block of each grid point, the whole array the
  kernel leaves, and the reference's, all at an index.
-/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel14Ideal.ConvOut

open Cert.Kernel14Ideal Cert.Kernel14Ideal.Gen

/-- The residual plus the product of the gated rows and the weight. -/
def out (z : S8192x1024.Idx → EReal) (w : S1024x1024.Idx → EReal) (x : S8192x1024.Idx → EReal) (r : Fin 8192) (q : Fin 1024) : EReal :=
  x (ix2 r q) + ∑ k : Fin 1024, z (ix2 r k) * w (ix2 k q)

variable (m : (ℓ : Loc nD τ sig) → Buf (Elt Ideal) ℓ) (c : Dev nD)

abbrev arg0 : FVec Ideal S8192x1024 .bf16 := m ((c.tc : Thread nD τ).loc main_arg0)
abbrev arg1 : FVec Ideal S1024x1024 .bf16 := m ((c.tc : Thread nD τ).loc main_arg1)
abbrev arg2 : FVec Ideal S8192x1024 .f32 := m ((c.tc : Thread nD τ).loc main_arg2)

/-! ## The blocks -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel

theorem blk0 (t : Fin cfg0.N) (p : Fin 1024) (q : Fin 1024) (r : Fin 8192) (hr : r.val = 1024 * t.val + p.val) :
    (iblk m c 0 t : S1024x1024.Idx → EReal) (ix2 p q) = arg0 m c (ix2 r q) := by
  unfold iblk
  rw [View.read_apply]
  show arg0 m c _ = _
  congr 1
  funext a
  apply Fin.ext
  match a with
  | ⟨0, _⟩ => show win0_0.index t 0 * 1024 + 1 * p.val = r.val; rw [(idx0 t).1]; omega
  | ⟨1, _⟩ => show win0_0.index t 1 * 1024 + 1 * q.val = q.val; rw [(idx0 t).2]; omega

theorem blk1 (t : Fin cfg0.N) (p : Fin 1024) (q : Fin 1024) :
    (iblk m c 1 t : S1024x1024.Idx → EReal) (ix2 p q) = arg1 m c (ix2 p q) := by
  unfold iblk
  rw [View.read_apply]
  show arg1 m c _ = _
  congr 1
  funext a
  apply Fin.ext
  match a with
  | ⟨0, _⟩ => show win0_1.index t 0 * 1024 + 1 * p.val = p.val; rw [(idx1 t).1]; omega
  | ⟨1, _⟩ => show win0_1.index t 1 * 1024 + 1 * q.val = q.val; rw [(idx1 t).2]; omega

theorem blk2 (t : Fin cfg0.N) (p : Fin 1024) (q : Fin 1024) (r : Fin 8192) (hr : r.val = 1024 * t.val + p.val) :
    (iblk m c 2 t : S1024x1024.Idx → EReal) (ix2 p q) = arg2 m c (ix2 r q) := by
  unfold iblk
  rw [View.read_apply]
  show arg2 m c _ = _
  congr 1
  funext a
  apply Fin.ext
  match a with
  | ⟨0, _⟩ => show win0_2.index t 0 * 1024 + 1 * p.val = r.val; rw [(idx2 t).1]; omega
  | ⟨1, _⟩ => show win0_2.index t 1 * 1024 + 1 * q.val = q.val; rw [(idx2 t).2]; omega

/-! ## What a point leaves -/

theorem hz : (![0, 0] : Fin 2 → Nat) = fun _ => 0 := funext fun a => by fin_cases a <;> rfl

/-- A row index of the whole array from a grid point and a row of its block. -/
abbrev row (t : Fin cfg0.N) (p : Fin 1024) : Fin 8192 := ⟨1024 * t.val + p.val, by
  have hN : t.val < 8 := lt_of_lt_of_eq t.isLt (show cfg0.N = 8 from N_0)
  omega⟩

/-- The result in the rows of point `t`. -/
abbrev rows (t : Fin cfg0.N) : S1024x1024.Idx → EReal := fun i => out (arg0 m c) (arg1 m c) (arg2 m c) (row t (i 0)) (i 1)

theorem out_eq (t : Fin cfg0.N) : (out0_3 (F := Ideal) (iblk m c 0 t) (iblk m c 1 t) (iblk m c 2 t) : S1024x1024.Idx → EReal) = rows m c t := by
  unfold out0_3
  rw [View.canon_unit_zero hz]
  simp only [View.ld_unit_zero (S := S1024x1024) hz]
  funext y
  obtain ⟨p, q, rfl⟩ : ∃ (p : Fin 1024) (q : Fin 1024), y = ix2 p q := ⟨y 0, y 1, eq_ix2 y⟩
  pointwise [k0_pay1]
  exact congrArg₂ (· + ·) (blk2 m c t p q (row t p) rfl)
    (Finset.sum_congr rfl fun k _ => congrArg₂ (· * ·) (blk0 m c t p k (row t p) rfl) (blk1 m c t k q))

/-! ## The whole array -/

theorem mem_blk3 (t : Fin cfg0.N) (i : S8192x1024.Idx) (h : 1024 * t.val ≤ (i 0 : Nat) ∧ (i 0 : Nat) < 1024 * t.val + 1024) :
    i ∈ ((cfg0.win 3).blk t).view.set := by
  show i ∈ ((View.whole main_v0).slice (win0_3.rect t)).set
  rw [View.set_slice_whole, Rect.mem_set_unit]
  have h1 : (i 1 : Nat) < 1024 := (i 1).isLt
  intro a
  match a with
  | ⟨0, _⟩ => show win0_3.index t 0 * 1024 ≤ (i 0 : Nat) ∧ (i 0 : Nat) < win0_3.index t 0 * 1024 + 1024; rw [(idx3 t).1]; omega
  | ⟨1, _⟩ => show win0_3.index t 1 * 1024 ≤ (i 1 : Nat) ∧ (i 1 : Nat) < win0_3.index t 1 * 1024 + 1024; rw [(idx3 t).2]; omega

theorem final3 : (dats m 0 c).arrAt 3 cfg0.N
    = ((fun i => out (arg0 m c) (arg1 m c) (arg2 m c) (i 0) (i 1)) : S8192x1024.Idx → EReal) := by
  refine (dats m 0 c).arrAt_eq_of_cover 3 _ (fun t _ => ?_) fun i => ?_
  · rw [Value.flushed3, out_eq]
    funext j
    rw [View.read_apply]
    show out _ _ _ _ _ = out _ _ _ _ _
    congr 1
    · apply Fin.ext
      show 1024 * t.val + (j 0).val = win0_3.index t 0 * 1024 + 1 * (j 0).val
      rw [(idx3 t).1]; omega
    · apply Fin.ext
      show (j 1).val = win0_3.index t 1 * 1024 + 1 * (j 1).val
      rw [(idx3 t).2]; omega
  · have h0 : (i 0).val < 8192 := (i 0).isLt
    have hN : cfg0.N = 8 := N_0
    refine ⟨⟨(i 0).val / 1024, by rw [hN]; omega⟩, flush0_3 _, ?_⟩
    refine mem_blk3 _ i ?_
    simp only
    omega

end Cert.Kernel14Ideal.ConvOut

namespace Cert.Proof.ConvOut

open Cert.Kernel14Ideal.ConvOut

/-! ## The reference and the claims -/

open Cert.Reference14Ideal Cert.Reference14Ideal.Read in
theorem reference (z : FVec Ideal S8192x1024 .bf16) (w : FVec Ideal S1024x1024 .bf16) (x : FVec Ideal S8192x1024 .f32)
    (r : Fin 8192) (q : Fin 1024) : val_main_v3 (F := Ideal) z w x (ix2 r q) = Cert.Kernel14Ideal.ConvOut.out z w x r q := by
  pointwise [val_main_v3, val_main_v2, val_main_v1, val_main_v0]
  rfl

/-- The reference runs, leaves its arguments alone and ends with every semaphore at zero. -/
theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The kernel's result is the reference's. -/
theorem algebraic : Cert.algebraic_Kernel14Ideal_Reference14Ideal := by
  intro m ρ m' ρ' _ hagree
  refine ⟨fun c => (fun i => Cert.Kernel14Ideal.ConvOut.out (arg0 m c) (arg1 m c) (arg2 m c) (i 0) (i 1) : Cert.Kernel14Ideal.S8192x1024.Idx → EReal), ?_, ?_⟩
  · exact (θ_run Cert.Kernel14Ideal.defs _ _).mono
      (fun _ h c => ⟨(h c).1.trans (final3 m c), (h c).2⟩)
      (Cert.Kernel14Ideal.Value.run_blocks (F := Ideal) m ρ)
  · refine (θ_run Cert.Reference14Ideal.defs _ _).mono (fun _ h c => ⟨(h c).1.trans ?_, (h c).2⟩)
      (Cert.Reference14Ideal.Value.run (F := Ideal) m' ρ')
    rw [Cert.Reference14Ideal.Read.val_main_v3_eq, (hagree c).1, (hagree c).2.1, (hagree c).2.2]
    funext i
    rw [eq_ix2 i]
    exact reference _ _ _ _ _

end Cert.Proof.ConvOut
end
-- ==== Proof.AttnOut.lean ====
/-
  The output projection of the attention, added to the residual: the block of each grid point, the whole array the
  kernel leaves, and the reference's, all at an index.
-/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel15Ideal.AttnOut

open Cert.Kernel15Ideal Cert.Kernel15Ideal.Gen

/-- The residual plus the product of the heads and the weight. -/
def out (o : S8192x1024.Idx → EReal) (w : S1024x1024.Idx → EReal) (x : S8192x1024.Idx → EReal) (r : Fin 8192) (q : Fin 1024) : EReal :=
  x (ix2 r q) + ∑ k : Fin 1024, o (ix2 r k) * w (ix2 k q)

variable (m : (ℓ : Loc nD τ sig) → Buf (Elt Ideal) ℓ) (c : Dev nD)

abbrev arg0 : FVec Ideal S8192x1024 .f32 := m ((c.tc : Thread nD τ).loc main_arg0)
abbrev arg1 : FVec Ideal S1024x1024 .bf16 := m ((c.tc : Thread nD τ).loc main_arg1)
abbrev arg2 : FVec Ideal S8192x1024 .f32 := m ((c.tc : Thread nD τ).loc main_arg2)

/-! ## The blocks -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel

theorem blk0 (t : Fin cfg0.N) (p : Fin 1024) (q : Fin 1024) (r : Fin 8192) (hr : r.val = 1024 * t.val + p.val) :
    (iblk m c 0 t : S1024x1024.Idx → EReal) (ix2 p q) = arg0 m c (ix2 r q) := by
  unfold iblk
  rw [View.read_apply]
  show arg0 m c _ = _
  congr 1
  funext a
  apply Fin.ext
  match a with
  | ⟨0, _⟩ => show win0_0.index t 0 * 1024 + 1 * p.val = r.val; rw [(idx0 t).1]; omega
  | ⟨1, _⟩ => show win0_0.index t 1 * 1024 + 1 * q.val = q.val; rw [(idx0 t).2]; omega

theorem blk1 (t : Fin cfg0.N) (p : Fin 1024) (q : Fin 1024) :
    (iblk m c 1 t : S1024x1024.Idx → EReal) (ix2 p q) = arg1 m c (ix2 p q) := by
  unfold iblk
  rw [View.read_apply]
  show arg1 m c _ = _
  congr 1
  funext a
  apply Fin.ext
  match a with
  | ⟨0, _⟩ => show win0_1.index t 0 * 1024 + 1 * p.val = p.val; rw [(idx1 t).1]; omega
  | ⟨1, _⟩ => show win0_1.index t 1 * 1024 + 1 * q.val = q.val; rw [(idx1 t).2]; omega

theorem blk2 (t : Fin cfg0.N) (p : Fin 1024) (q : Fin 1024) (r : Fin 8192) (hr : r.val = 1024 * t.val + p.val) :
    (iblk m c 2 t : S1024x1024.Idx → EReal) (ix2 p q) = arg2 m c (ix2 r q) := by
  unfold iblk
  rw [View.read_apply]
  show arg2 m c _ = _
  congr 1
  funext a
  apply Fin.ext
  match a with
  | ⟨0, _⟩ => show win0_2.index t 0 * 1024 + 1 * p.val = r.val; rw [(idx2 t).1]; omega
  | ⟨1, _⟩ => show win0_2.index t 1 * 1024 + 1 * q.val = q.val; rw [(idx2 t).2]; omega

/-! ## What a point leaves -/

theorem hz : (![0, 0] : Fin 2 → Nat) = fun _ => 0 := funext fun a => by fin_cases a <;> rfl

/-- A row index of the whole array from a grid point and a row of its block. -/
abbrev row (t : Fin cfg0.N) (p : Fin 1024) : Fin 8192 := ⟨1024 * t.val + p.val, by
  have hN : t.val < 8 := lt_of_lt_of_eq t.isLt (show cfg0.N = 8 from N_0)
  omega⟩

/-- The result in the rows of point `t`. -/
abbrev rows (t : Fin cfg0.N) : S1024x1024.Idx → EReal := fun i => out (arg0 m c) (arg1 m c) (arg2 m c) (row t (i 0)) (i 1)

theorem out_eq (t : Fin cfg0.N) : (out0_3 (F := Ideal) (iblk m c 0 t) (iblk m c 1 t) (iblk m c 2 t) : S1024x1024.Idx → EReal) = rows m c t := by
  unfold out0_3
  rw [View.canon_unit_zero hz]
  simp only [View.ld_unit_zero (S := S1024x1024) hz]
  funext y
  obtain ⟨p, q, rfl⟩ : ∃ (p : Fin 1024) (q : Fin 1024), y = ix2 p q := ⟨y 0, y 1, eq_ix2 y⟩
  pointwise [k0_pay1]
  exact congrArg₂ (· + ·) (blk2 m c t p q (row t p) rfl)
    (Finset.sum_congr rfl fun k _ => congrArg₂ (· * ·) (blk0 m c t p k (row t p) rfl) (blk1 m c t k q))

/-! ## The whole array -/

theorem mem_blk3 (t : Fin cfg0.N) (i : S8192x1024.Idx) (h : 1024 * t.val ≤ (i 0 : Nat) ∧ (i 0 : Nat) < 1024 * t.val + 1024) :
    i ∈ ((cfg0.win 3).blk t).view.set := by
  show i ∈ ((View.whole main_v0).slice (win0_3.rect t)).set
  rw [View.set_slice_whole, Rect.mem_set_unit]
  have h1 : (i 1 : Nat) < 1024 := (i 1).isLt
  intro a
  match a with
  | ⟨0, _⟩ => show win0_3.index t 0 * 1024 ≤ (i 0 : Nat) ∧ (i 0 : Nat) < win0_3.index t 0 * 1024 + 1024; rw [(idx3 t).1]; omega
  | ⟨1, _⟩ => show win0_3.index t 1 * 1024 ≤ (i 1 : Nat) ∧ (i 1 : Nat) < win0_3.index t 1 * 1024 + 1024; rw [(idx3 t).2]; omega

theorem final3 : (dats m 0 c).arrAt 3 cfg0.N
    = ((fun i => out (arg0 m c) (arg1 m c) (arg2 m c) (i 0) (i 1)) : S8192x1024.Idx → EReal) := by
  refine (dats m 0 c).arrAt_eq_of_cover 3 _ (fun t _ => ?_) fun i => ?_
  · rw [Value.flushed3, out_eq]
    funext j
    rw [View.read_apply]
    show out _ _ _ _ _ = out _ _ _ _ _
    congr 1
    · apply Fin.ext
      show 1024 * t.val + (j 0).val = win0_3.index t 0 * 1024 + 1 * (j 0).val
      rw [(idx3 t).1]; omega
    · apply Fin.ext
      show (j 1).val = win0_3.index t 1 * 1024 + 1 * (j 1).val
      rw [(idx3 t).2]; omega
  · have h0 : (i 0).val < 8192 := (i 0).isLt
    have hN : cfg0.N = 8 := N_0
    refine ⟨⟨(i 0).val / 1024, by rw [hN]; omega⟩, flush0_3 _, ?_⟩
    refine mem_blk3 _ i ?_
    simp only
    omega

end Cert.Kernel15Ideal.AttnOut

namespace Cert.Proof.AttnOut

open Cert.Kernel15Ideal.AttnOut

/-! ## The reference and the claims -/

open Cert.Reference15Ideal Cert.Reference15Ideal.Read in
theorem reference (o : FVec Ideal S8192x1024 .f32) (w : FVec Ideal S1024x1024 .bf16) (x : FVec Ideal S8192x1024 .f32)
    (r : Fin 8192) (q : Fin 1024) : val_main_v2 (F := Ideal) o w x (ix2 r q) = Cert.Kernel15Ideal.AttnOut.out o w x r q := by
  pointwise [val_main_v2, val_main_v1, val_main_v0]
  rfl

/-- The reference runs, leaves its arguments alone and ends with every semaphore at zero. -/
theorem frame_reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The kernel's result is the reference's. -/
theorem algebraic : Cert.algebraic_Kernel15Ideal_Reference15Ideal := by
  intro m ρ m' ρ' _ hagree
  refine ⟨fun c => (fun i => Cert.Kernel15Ideal.AttnOut.out (arg0 m c) (arg1 m c) (arg2 m c) (i 0) (i 1) : Cert.Kernel15Ideal.S8192x1024.Idx → EReal), ?_, ?_⟩
  · exact (θ_run Cert.Kernel15Ideal.defs _ _).mono
      (fun _ h c => ⟨(h c).1.trans (final3 m c), (h c).2⟩)
      (Cert.Kernel15Ideal.Value.run_blocks (F := Ideal) m ρ)
  · refine (θ_run Cert.Reference15Ideal.defs _ _).mono (fun _ h c => ⟨(h c).1.trans ?_, (h c).2⟩)
      (Cert.Reference15Ideal.Value.run (F := Ideal) m' ρ')
    rw [Cert.Reference15Ideal.Read.val_main_v2_eq, (hagree c).1, (hagree c).2.1, (hagree c).2.2]
    funext i
    rw [eq_ix2 i]
    exact reference _ _ _ _ _

end Cert.Proof.AttnOut
end
-- ==== Proof.AttnOutDw.lean ====
/-
  The gradient of the attention's output projection's weight: what the grid points add up in the scratch buffer, the whole
  array the kernel leaves, and the reference's, all at an index.
-/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel16Ideal.AttnOutDw

open Cert.Kernel16Ideal Cert.Kernel16Ideal.Gen

/-- The product of the heads' and the cotangent's columns at one row. -/
def term (dy : S8192x1024.Idx → EReal) (u : S8192x1024.Idx → EReal) (p : Fin 1024) (q : Fin 1024) (k : Fin 8192) : EReal :=
  u (ix2 k p) * dy (ix2 k q)

/-- The weight's gradient. -/
def dw (dy : S8192x1024.Idx → EReal) (u : S8192x1024.Idx → EReal) (p : Fin 1024) (q : Fin 1024) : EReal := ∑ k, term dy u p q k

variable (m : (ℓ : Loc nD τ sig) → Buf (Elt Ideal) ℓ) (c : Dev nD)

abbrev arg0 : FVec Ideal S8192x1024 .f32 := m ((c.tc : Thread nD τ).loc main_arg0)
abbrev arg1 : FVec Ideal S8192x1024 .f32 := m ((c.tc : Thread nD τ).loc main_arg1)

/-! ## The arrays the kernel is handed -/

def hDy (dy : FVec Ideal S8192x1024 .f32) : FVec Ideal S8192x1024 .bf16 := truncf .bf16 dy bitsLt_bf16_f32

theorem entry_act : V (F := Ideal) m c main_arg1 = arg1 m c := by
  show StableHlo.after hostOps0 (fun b => m (c, b)) _ = _
  simp only [hostOps0]
  after_results_simp <;> rfl

theorem entry_dy : V (F := Ideal) m c main_v0 = hDy (arg0 m c) := by
  show StableHlo.after hostOps0 (fun b => m (c, b)) _ = _
  simp only [hostOps0]
  after_results_simp <;> rfl

theorem hDy_apply (dy : FVec Ideal S8192x1024 .f32) (r : Fin 8192) (q : Fin 1024) : hDy dy (ix2 r q) = dy (ix2 r q) := by
  pointwise [hDy]

/-! ## The blocks -/

theorem idx0 : ∀ t : Fin grid0.N, win0_0.index t 0 = t.val % 4 ∧ win0_0.index t 1 = t.val / 4 := by decide +kernel
theorem idx1 : ∀ t : Fin grid0.N, win0_1.index t 0 = t.val % 4 ∧ win0_1.index t 1 = 0 := by decide +kernel
theorem idx2 : ∀ t : Fin grid0.N, win0_2.index t 0 = 0 ∧ win0_2.index t 1 = t.val / 4 ∧ win0_2.index t 2 = 0 := by decide +kernel

theorem blk0 (t : Fin cfg0.N) (p : Fin 2048) (q : Fin 1024) (r : Fin 8192) (s : Fin 1024) (hr : r.val = 2048 * (t.val % 4) + p.val)
    (hs : s.val = 1024 * (t.val / 4) + q.val) :
    (iblk m c 0 t : S2048x1024.Idx → EReal) (ix2 p q) = arg1 m c (ix2 r s) := by
  unfold iblk
  rw [View.read_apply]
  show V m c main_arg1 _ = _
  rw [entry_act]
  congr 1
  funext a
  apply Fin.ext
  match a with
  | ⟨0, _⟩ => show win0_0.index t 0 * 2048 + 1 * p.val = r.val; rw [(idx0 t).1]; omega
  | ⟨1, _⟩ => show win0_0.index t 1 * 1024 + 1 * q.val = s.val; rw [(idx0 t).2]; omega

theorem blk1 (t : Fin cfg0.N) (p : Fin 2048) (q : Fin 1024) (r : Fin 8192) (hr : r.val = 2048 * (t.val % 4) + p.val) :
    (iblk m c 1 t : S2048x1024.Idx → EReal) (ix2 p q) = arg0 m c (ix2 r q) := by
  unfold iblk
  rw [View.read_apply]
  show V m c main_v0 _ = _
  rw [entry_dy]
  refine Eq.trans ?_ (hDy_apply _ r q)
  congr 1
  funext a
  apply Fin.ext
  match a with
  | ⟨0, _⟩ => show win0_1.index t 0 * 2048 + 1 * p.val = r.val; rw [(idx1 t).1]; omega
  | ⟨1, _⟩ => show win0_1.index t 1 * 1024 + 1 * q.val = q.val; rw [(idx1 t).2]; omega

/-! ## What each case leaves -/

theorem hz2 : (![0, 0] : Fin 2 → Nat) = fun _ => 0 := funext fun a => by fin_cases a <;> rfl
theorem hz3 : (![0, 0, 0] : Fin 3 → Nat) = fun _ => 0 := funext fun a => by fin_cases a <;> rfl

theorem scratch_A (i : grid0.Coords) (a0 : Memref sig .tc .vmem S2048x1024 .f32) (h0 : a0.IsWhole) (a1 : Memref sig .tc .vmem S2048x1024 .bf16) (h1 : a1.IsWhole)
    (a2 : Memref sig .tc .vmem S1x1024x1024 .bf16) (h2 : a2.IsWhole) (a3 : Memref sig .tc .vmem S1x1024x1024 .f32) (h3 : a3.IsWhole)
    (hc0 : cond0_0 i) (hc1 : ¬cond0_1 i) (x0 : Vec Ideal S2048x1024 .f32) (x1 : Vec Ideal S2048x1024 .bf16) :
    sout0_A_0 c i a0 h0 a1 h1 a2 h2 a3 h3 hc0 hc1 x0 x1 = k0_pay2 x0 (k0_pay1 (F := Ideal)) x1 := by
  unfold sout0_A_0
  rw [View.read_writes_eq_canon _ _ _ (fun y => scover0_A_0 ..)]
  unfold kernelRun0_A
  dsimp only
  sl_unfold_words
  rw [View.canon_cons_unit_zero (S := S1x1024x1024) hz3, View.readCov_unit_zero (S := S1x1024x1024) _ hz3]
  simp only [View.readAt_eq_ld, h0.read_unread, h1.read_unread, View.ld_unit_zero (S := S2048x1024) hz2]

theorem scratch_B (i : grid0.Coords) (a0 : Memref sig .tc .vmem S2048x1024 .f32) (h0 : a0.IsWhole) (a1 : Memref sig .tc .vmem S2048x1024 .bf16) (h1 : a1.IsWhole)
    (a2 : Memref sig .tc .vmem S1x1024x1024 .bf16) (h2 : a2.IsWhole) (a3 : Memref sig .tc .vmem S1x1024x1024 .f32) (h3 : a3.IsWhole)
    (hc0 : ¬cond0_0 i) (hc1 : ¬cond0_1 i) (x0 : Vec Ideal S2048x1024 .f32) (x1 : Vec Ideal S2048x1024 .bf16) (s : Vec Ideal S1x1024x1024 .f32) :
    sout0_B_0 c i a0 h0 a1 h1 a2 h2 a3 h3 hc0 hc1 x0 x1 s = k0_pay2 x0 s x1 := by
  unfold sout0_B_0
  rw [View.read_writes_eq_canon _ _ _ (fun y => scover0_B_0 ..)]
  unfold kernelRun0_B
  dsimp only
  sl_unfold_words
  rw [View.canon_unit_zero hz3]
  simp only [View.readAt_eq_ld, h0.read_unread, h1.read_unread, h3.read_unread, View.ld_unit_zero (S := S2048x1024) hz2,
    View.ld_unit_zero (S := S1x1024x1024) hz3]

theorem scratch_C (i : grid0.Coords) (a0 : Memref sig .tc .vmem S2048x1024 .f32) (h0 : a0.IsWhole) (a1 : Memref sig .tc .vmem S2048x1024 .bf16) (h1 : a1.IsWhole)
    (a2 : Memref sig .tc .vmem S1x1024x1024 .bf16) (h2 : a2.IsWhole) (a3 : Memref sig .tc .vmem S1x1024x1024 .f32) (h3 : a3.IsWhole)
    (hc0 : ¬cond0_0 i) (hc1 : cond0_1 i) (x0 : Vec Ideal S2048x1024 .f32) (x1 : Vec Ideal S2048x1024 .bf16) (s : Vec Ideal S1x1024x1024 .f32) :
    sout0_C_0 c i a0 h0 a1 h1 a2 h2 a3 h3 hc0 hc1 x0 x1 s = k0_pay2 x0 s x1 := by
  unfold sout0_C_0
  rw [View.read_writes_eq_canon _ _ _ (fun y => scover0_C_0 ..)]
  unfold kernelRun0_C
  dsimp only
  sl_unfold_words
  rw [View.canon_unit_zero hz3]
  simp only [View.readAt_eq_ld, h0.read_unread, h1.read_unread, h3.read_unread, View.ld_unit_zero (S := S2048x1024) hz2,
    View.ld_unit_zero (S := S1x1024x1024) hz3]

theorem out_C (i : grid0.Coords) (a0 : Memref sig .tc .vmem S2048x1024 .f32) (h0 : a0.IsWhole) (a1 : Memref sig .tc .vmem S2048x1024 .bf16) (h1 : a1.IsWhole)
    (a2 : Memref sig .tc .vmem S1x1024x1024 .bf16) (h2 : a2.IsWhole) (a3 : Memref sig .tc .vmem S1x1024x1024 .f32) (h3 : a3.IsWhole)
    (hc0 : ¬cond0_0 i) (hc1 : cond0_1 i) (x0 : Vec Ideal S2048x1024 .f32) (x1 : Vec Ideal S2048x1024 .bf16) (s : Vec Ideal S1x1024x1024 .f32) :
    out0_C_2 c i a0 h0 a1 h1 a2 h2 a3 h3 hc0 hc1 x0 x1 s = k0_pay3 (k0_pay2 x0 s x1) := by
  unfold out0_C_2
  rw [View.read_writes_eq_canon _ _ _ (fun y => cover0_C_2 ..)]
  unfold kernelRun0_C
  dsimp only
  sl_unfold_words
  rw [View.canon_unit_zero hz3, View.readCov_unit_zero (S := S1x1024x1024) _ hz3]
  simp only [View.readAt_eq_ld, h0.read_unread, h1.read_unread, h3.read_unread, View.ld_unit_zero (S := S2048x1024) hz2,
    View.ld_unit_zero (S := S1x1024x1024) hz3]

theorem pay2_apply (x0 : Vec Ideal S2048x1024 .f32) (x1 : Vec Ideal S2048x1024 .bf16) (s : Vec Ideal S1x1024x1024 .f32) (e : Fin 1) (p q : Fin 1024) :
    k0_pay2 (F := Ideal) x0 s x1 (ix3 e p q) = s (ix3 e p q) + ∑ k : Fin 2048, x0 (ix2 k p) * x1 (ix2 k q) := by
  obtain rfl : e = 0 := Subsingleton.elim _ _
  pointwise [k0_pay2]

theorem pay1_apply (e : Fin 1) (p q : Fin 1024) : k0_pay1 (F := Ideal) (ix3 e p q) = 0 := by
  pointwise [k0_pay1]

/-! ## The running sum -/

/-- What the point at step `s` of block `b` adds. -/
abbrev part (b s : ℕ) (p q : Fin 1024) : EReal := ∑ k : Fin 2048,
  if h : b < 1 ∧ s < 4 then term (arg0 m c) (arg1 m c) ⟨1024 * b + p.val, by omega⟩ q ⟨2048 * s + k.val, by omega⟩ else 0

/-- The heads' block of one point. -/
abbrev actBlk (t : Fin cfg0.N) : S2048x1024.Idx → EReal := iblk m c 0 t

/-- The cotangent's block of one point. -/
abbrev dyBlk (t : Fin cfg0.N) : S2048x1024.Idx → EReal := iblk m c 1 t

theorem part_eq (t : Fin cfg0.N) (p q : Fin 1024) :
    ∑ k : Fin 2048, actBlk m c t (ix2 k p) * dyBlk m c t (ix2 k q)
      = part m c (t.val / 4) (t.val % 4) p q := by
  have hN : t.val < 4 := lt_of_lt_of_eq t.isLt (show cfg0.N = 4 from N_0)
  refine Finset.sum_congr rfl fun k _ => ?_
  rw [dif_pos (by omega)]
  exact congrArg₂ (· * ·) (blk0 m c t k p ⟨2048 * (t.val % 4) + k.val, by omega⟩ ⟨1024 * (t.val / 4) + p.val, by omega⟩ rfl rfl)
    (blk1 m c t k q ⟨2048 * (t.val % 4) + k.val, by omega⟩ rfl)

theorem sum_eq : ∀ (n : ℕ) (h : n < cfg0.N) (e : Fin 1) (p q : Fin 1024), ((outsAt0 m c n h).2 : S1x1024x1024.Idx → EReal) (ix3 e p q)
    = ∑ s ∈ Finset.range (n % 4 + 1), part m c (n / 4) s p q := by
  intro n
  induction n with
  | zero =>
    intro h e p q
    rw [outsAt0_A m c ⟨0, h⟩ rfl (by simp)]
    dsimp only
    rw [scratch_A, pay2_apply, pay1_apply, part_eq]
    simp
  | succ n ih =>
    intro h e p q
    have hN : n + 1 < 4 := lt_of_lt_of_eq h (show cfg0.N = 4 from N_0)
    by_cases h0 : (n + 1) % 4 = 0
    · rw [outsAt0_A m c ⟨n + 1, h⟩ h0 (by simp only; omega)]
      dsimp only
      rw [scratch_A, pay2_apply, pay1_apply, part_eq]
      simp [h0]
    · have e1 : (n + 1) % 4 = n % 4 + 1 := by omega
      have e2 : (n + 1) / 4 = n / 4 := by omega
      have step : ((outsAt0 m c (n + 1) h).2 : S1x1024x1024.Idx → EReal) (ix3 e p q)
          = ((outsAt0 m c n (by omega)).2 : S1x1024x1024.Idx → EReal) (ix3 e p q) + part m c ((n + 1) / 4) ((n + 1) % 4) p q := by
        by_cases h1 : (n + 1) % 4 = 3
        · rw [outsAt0_C m c ⟨n + 1, h⟩ h0 h1]
          dsimp only
          rw [scratch_C, pay2_apply, part_eq]
          rfl
        · rw [outsAt0_B m c ⟨n + 1, h⟩ h0 h1]
          dsimp only
          rw [scratch_B, pay2_apply, part_eq]
          rfl
      rw [step, ih, e1, e2, Finset.sum_range_succ _ (n % 4 + 1)]

/-- The four steps of a block are the whole sum over the rows. -/
theorem parts (b : ℕ) (hb : b < 1) (p q : Fin 1024) :
    ∑ s ∈ Finset.range 4, part m c b s p q = dw (arg0 m c) (arg1 m c) ⟨1024 * b + p.val, by omega⟩ q := by
  unfold dw part
  rw [Finset.sum_range, ← Finset.sum_product']
  refine Finset.sum_nbij' (fun x : Fin 4 × Fin 2048 => (⟨2048 * x.1.val + x.2.val, by omega⟩ : Fin 8192))
    (fun r => (⟨r.val / 2048, by omega⟩, ⟨r.val % 2048, by omega⟩)) (by simp) (by simp) ?_ ?_ ?_
  · rintro ⟨x, y⟩ _
    ext <;> simp only <;> omega
  · intro r _
    ext
    simp only
    omega
  · rintro ⟨x, y⟩ _
    exact dif_pos ⟨hb, x.isLt⟩

theorem out_eq (t : Fin cfg0.N) (ht : t.val % 4 = 3) (e : Fin 1) (p q : Fin 1024) :
    ((outsAt0 m c t.val t.isLt).1 : S1x1024x1024.Idx → EReal) (ix3 e p q)
      = dw (arg0 m c) (arg1 m c) ⟨1024 * (t.val / 4) + p.val, by
          have hN : t.val < 4 := lt_of_lt_of_eq t.isLt (show cfg0.N = 4 from N_0)
          omega⟩ q := by
  have hN : t.val < 4 := lt_of_lt_of_eq t.isLt (show cfg0.N = 4 from N_0)
  have h2 := sum_eq m c t.val t.isLt e p q
  rw [ht, parts m c _ (by omega)] at h2
  rw [← h2, outsAt0_C m c t (by omega) ht]
  dsimp only
  rw [out_C, scratch_C]
  rfl

theorem final2 : (dats m 0 c).arrAt 2 cfg0.N
    = ((fun i => dw (arg0 m c) (arg1 m c) (i 1) (i 2)) : S1x1024x1024.Idx → EReal) := by
  refine (dats m 0 c).arrAt_eq_of_cover 2 _ (fun t hf => ?_) fun i => ?_
  · have ht : t.val % 4 = 3 := (flush0_2 t).mp hf
    rw [Value.flushed2]
    funext j
    rw [View.read_apply]
    obtain ⟨e, p, q, rfl⟩ : ∃ (e : Fin 1) (p q : Fin 1024), j = ix3 e p q := ⟨j 0, j 1, j 2, eq_ix3 j⟩
    refine (out_eq m c t ht e p q).trans ?_
    show dw _ _ _ _ = dw _ _ _ _
    congr 1
    · apply Fin.ext
      show 1024 * (t.val / 4) + p.val = win0_2.index t 1 * 1024 + 1 * p.val
      rw [(idx2 t).2.1]; omega
    · apply Fin.ext
      show q.val = win0_2.index t 2 * 1024 + 1 * q.val
      rw [(idx2 t).2.2]; omega
  · exact (Value.covered_iff2 i).2 (by
      have h0 : (i 0).val < 1 := (i 0).isLt
      have h1 : (i 1).val < 1024 := (i 1).isLt
      have h2 : (i 2).val < 1024 := (i 2).isLt
      omega)

end Cert.Kernel16Ideal.AttnOutDw

namespace Cert.Proof.AttnOutDw

open Cert.Kernel16Ideal.AttnOutDw

/-! ## The reference and the claims -/

open Cert.Reference16Ideal Cert.Reference16Ideal.Read in
theorem reference (dy : FVec Ideal S8192x1024 .f32) (u : FVec Ideal S8192x1024 .f32)
    (e : Fin 1) (r : Fin 1024) (q : Fin 1024) : val_main_v5 (F := Ideal) dy u (ix3 e r q) = dw dy u r q := by
  pointwise [val_main_v5, val_main_v4, val_main_v3, val_main_v2]
  exact Finset.sum_congr rfl fun k _ => mul_comm _ _

/-- The reference runs, leaves its arguments alone and ends with every semaphore at zero. -/
theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The kernel's result is the gradient of the reference. -/
theorem algebraic : Cert.algebraic_Kernel16Ideal_Reference16Ideal := by
  intro m ρ m' ρ' _ hagree
  refine ⟨fun c => (fun i => dw (arg0 m c) (arg1 m c) (i 1) (i 2) : Cert.Kernel16Ideal.S1x1024x1024.Idx → EReal), ?_, ?_⟩
  · exact (θ_run Cert.Kernel16Ideal.defs _ _).mono
      (fun _ h c => ⟨(h c).1.trans (final2 m c), (h c).2⟩)
      (Cert.Kernel16Ideal.Value.run_blocks (F := Ideal) m ρ)
  · refine (θ_run Cert.Reference16Ideal.defs _ _).mono (fun _ h c => ⟨(h c).1.trans ?_, (h c).2⟩)
      (Cert.Reference16Ideal.Value.run (F := Ideal) m' ρ')
    rw [Cert.Reference16Ideal.Read.val_main_v5_eq, (hagree c).1, (hagree c).2]
    funext i
    rw [eq_ix3 i]
    exact reference _ _ _ _ _

end Cert.Proof.AttnOutDw
end
-- ==== Proof.AttnOutDx.lean ====
/-
  The cotangent of the heads' outputs, through the attention's last projection, and its product with the outputs summed over
  each head: the rows a grid point computes, the whole arrays the kernel leaves, and the reference's, all at an index.
-/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel17Ideal.AttnOutDx

open Cert.Kernel17Ideal Cert.Kernel17Ideal.Gen

/-- The cotangent through the weight. -/
def dz (dy : S8192x1024.Idx → EReal) (w : S1024x1024.Idx → EReal) (r : Fin 8192) (q : Fin 1024) : EReal :=
  ∑ k : Fin 1024, dy (ix2 r k) * w (ix2 q k)

/-- The sum of products over one head's columns. -/
def delta (dy : S8192x1024.Idx → EReal) (w : S1024x1024.Idx → EReal) (o : S8192x1024.Idx → EReal) (h : Fin 8) (r : Fin 8192) : EReal :=
  ∑ k : Fin 128, o (ix2 r ⟨128 * h.val + k.val, by omega⟩) * dz dy w r ⟨128 * h.val + k.val, by omega⟩

variable (m : (ℓ : Loc nD τ sig) → Buf (Elt Ideal) ℓ) (c : Dev nD)

abbrev arg0 : FVec Ideal S8192x1024 .f32 := m ((c.tc : Thread nD τ).loc main_arg0)
abbrev arg1 : FVec Ideal S1024x1024 .bf16 := m ((c.tc : Thread nD τ).loc main_arg1)
abbrev arg2 : FVec Ideal S8192x1024 .f32 := m ((c.tc : Thread nD τ).loc main_arg2)

/-! ## The arrays the kernel is handed -/

def hDy (dy : FVec Ideal S8192x1024 .f32) : FVec Ideal S8192x1024 .bf16 := truncf .bf16 dy bitsLt_bf16_f32
def hW (w : FVec Ideal S1024x1024 .bf16) : FVec Ideal S1x1024x1024 .bf16 :=
  broadcastInDim S1x1024x1024 ![1, 2] bcast_S1024x1024_S1x1024x1024_1_2 w

theorem entry_dy : V (F := Ideal) m c main_v0 = hDy (arg0 m c) := by
  show StableHlo.after hostOps0 (fun b => m (c, b)) _ = _
  simp only [hostOps0]
  after_results_simp <;> rfl

theorem entry_w : V (F := Ideal) m c main_v1 = hW (arg1 m c) := by
  show StableHlo.after hostOps0 (fun b => m (c, b)) _ = _
  simp only [hostOps0]
  after_results_simp <;> rfl

theorem entry_o : V (F := Ideal) m c main_arg2 = arg2 m c := by
  show StableHlo.after hostOps0 (fun b => m (c, b)) _ = _
  simp only [hostOps0]
  after_results_simp <;> rfl

theorem hDy_apply (dy : FVec Ideal S8192x1024 .f32) (r : Fin 8192) (q : Fin 1024) : hDy dy (ix2 r q) = dy (ix2 r q) := by
  pointwise [hDy]

theorem hW_apply (w : FVec Ideal S1024x1024 .bf16) (e : Fin 1) (r : Fin 1024) (q : Fin 1024) : hW w (ix3 e r q) = w (ix2 r q) := by
  pointwise [hW]

/-! ## The blocks -/

theorem idx0 : ∀ t : Fin grid0.N, win0_0.index t 0 = t.val ∧ win0_0.index t 1 = 0 := by decide +kernel
theorem idx1 : ∀ t : Fin grid0.N, win0_1.index t 0 = 0 ∧ win0_1.index t 1 = 0 ∧ win0_1.index t 2 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = 0 ∧ win0_4.index t 1 = 0 ∧ win0_4.index t 2 = t.val := by decide +kernel

theorem blk0 (t : Fin cfg0.N) (p : Fin 1024) (q : Fin 1024) (r : Fin 8192) (hr : r.val = 1024 * t.val + p.val) :
    (iblk m c 0 t : S1024x1024.Idx → EReal) (ix2 p q) = arg0 m c (ix2 r q) := by
  unfold iblk
  rw [View.read_apply]
  show V m c main_v0 _ = _
  rw [entry_dy]
  refine Eq.trans ?_ (hDy_apply _ r q)
  congr 1
  funext a
  apply Fin.ext
  match a with
  | ⟨0, _⟩ => show win0_0.index t 0 * 1024 + 1 * p.val = r.val; rw [(idx0 t).1]; omega
  | ⟨1, _⟩ => show win0_0.index t 1 * 1024 + 1 * q.val = q.val; rw [(idx0 t).2]; omega

theorem blk1 (t : Fin cfg0.N) (e : Fin 1) (p : Fin 1024) (q : Fin 1024) :
    (iblk m c 1 t : S1x1024x1024.Idx → EReal) (ix3 e p q) = arg1 m c (ix2 p q) := by
  unfold iblk
  rw [View.read_apply]
  show V m c main_v1 _ = _
  rw [entry_w]
  refine Eq.trans ?_ (hW_apply _ e p q)
  congr 1
  funext a
  apply Fin.ext
  match a with
  | ⟨0, _⟩ => show win0_1.index t 0 * 1 + 1 * e.val = e.val; rw [(idx1 t).1]; omega
  | ⟨1, _⟩ => show win0_1.index t 1 * 1024 + 1 * p.val = p.val; rw [(idx1 t).2.1]; omega
  | ⟨2, _⟩ => show win0_1.index t 2 * 1024 + 1 * q.val = q.val; rw [(idx1 t).2.2]; omega

theorem blk2 (t : Fin cfg0.N) (p : Fin 1024) (q : Fin 1024) (r : Fin 8192) (hr : r.val = 1024 * t.val + p.val) :
    (iblk m c 2 t : S1024x1024.Idx → EReal) (ix2 p q) = arg2 m c (ix2 r q) := by
  unfold iblk
  rw [View.read_apply]
  show V m c main_arg2 _ = _
  rw [entry_o]
  congr 1
  funext a
  apply Fin.ext
  match a with
  | ⟨0, _⟩ => show win0_2.index t 0 * 1024 + 1 * p.val = r.val; rw [(idx2 t).1]; omega
  | ⟨1, _⟩ => show win0_2.index t 1 * 1024 + 1 * q.val = q.val; rw [(idx2 t).2]; omega

/-! ## What a point leaves -/

theorem hz : (![0, 0] : Fin 2 → Nat) = fun _ => 0 := funext fun a => by fin_cases a <;> rfl

/-- A row index of the whole array from a grid point and a row of its block. -/
abbrev row (t : Fin cfg0.N) (p : Fin 1024) : Fin 8192 := ⟨1024 * t.val + p.val, by
  have hN : t.val < 8 := lt_of_lt_of_eq t.isLt (show cfg0.N = 8 from N_0)
  omega⟩

/-- The result in the rows of point `t`. -/
abbrev rows (t : Fin cfg0.N) : S1024x1024.Idx → EReal := fun i => dz (arg0 m c) (arg1 m c) (row t (i 0)) (i 1)

theorem hz3 : (![0, 0, 0] : Fin 3 → Nat) = fun _ => 0 := funext fun a => by fin_cases a <;> rfl

/-- The product in the rows of point `t`. -/
theorem prod_eq (t : Fin cfg0.N) (p q : Fin 1024) : (k0_pay3 (iblk m c 0 t) (iblk m c 1 t) : S1024x1024.Idx → EReal) (ix2 p q)
    = dz (arg0 m c) (arg1 m c) (row t p) q := by
  pointwise [k0_pay3]
  exact Finset.sum_congr rfl fun k _ => congrArg₂ (· * ·) (blk0 m c t p k (row t p) rfl) (blk1 m c t 0 q k)

theorem out3_eq (t : Fin cfg0.N) : (out0_3 (F := Ideal) (iblk m c 0 t) (iblk m c 1 t) (iblk m c 2 t) : S1024x1024.Idx → EReal) = rows m c t := by
  unfold out0_3 k0_pay11
  rw [View.canon_unit_zero hz]
  simp only [View.ld_unit_zero (S := S1024x1024) hz, View.ld_unit_zero (S := S1x1024x1024) hz3]
  funext y
  obtain ⟨p, q, rfl⟩ : ∃ (p : Fin 1024) (q : Fin 1024), y = ix2 p q := ⟨y 0, y 1, eq_ix2 y⟩
  exact prod_eq m c t p q

/-- The sums of products in the rows of point `t`. -/
abbrev heads (t : Fin cfg0.N) : S8x1x1024.Idx → EReal := fun i => delta (arg0 m c) (arg1 m c) (arg2 m c) (i 0) (row t (i 2))

/-- One head's row of sums at an index, from its operands. -/
theorem head (t : Fin cfg0.N) (p : Fin 1024) (h : Fin 8) (f g : Fin 128 → EReal)
    (hf : ∀ k : Fin 128, f k = arg2 m c (ix2 (row t p) ⟨128 * h.val + k.val, by omega⟩))
    (hg : ∀ k : Fin 128, g k = dz (arg0 m c) (arg1 m c) (row t p) ⟨128 * h.val + k.val, by omega⟩)
    (x : S8x1x1024.Idx) (h0 : (x 0).val = h.val) (h2 : (x 2).val = p.val) :
    ∑ k : Fin 128, f k * g k = heads m c t x := by
  show _ = delta _ _ _ (x 0) (row t (x 2))
  have e0 : x 0 = h := Fin.ext h0
  have e2 : row t (x 2) = row t p := Fin.ext (by show 1024 * t.val + (x 2).val = 1024 * t.val + p.val; rw [h2])
  rw [e0, e2]
  exact Finset.sum_congr rfl fun k _ => congrArg₂ (· * ·) (hf k) (hg k)

theorem o_eq (t : Fin cfg0.N) (p : Fin 1024) (y : S1024x1024.Idx) (q : Fin 1024) (h0 : (y 0).val = p.val) (h1 : (y 1).val = q.val) :
    (iblk m c 2 t : S1024x1024.Idx → EReal) y = arg2 m c (ix2 (row t p) q) := by
  obtain rfl : y = ix2 p q := funext fun a => Fin.ext (by match a with | ⟨0, _⟩ => exact h0 | ⟨1, _⟩ => exact h1)
  exact blk2 m c t p q (row t p) rfl

theorem p_eq (t : Fin cfg0.N) (p : Fin 1024) (y : S1024x1024.Idx) (q : Fin 1024) (h0 : (y 0).val = p.val) (h1 : (y 1).val = q.val) :
    (k0_pay3 (iblk m c 0 t) (iblk m c 1 t) : S1024x1024.Idx → EReal) y = dz (arg0 m c) (arg1 m c) (row t p) q := by
  obtain rfl : y = ix2 p q := funext fun a => Fin.ext (by match a with | ⟨0, _⟩ => exact h0 | ⟨1, _⟩ => exact h1)
  exact prod_eq m c t p q

theorem out4_eq (t : Fin cfg0.N) : (out0_4 (F := Ideal) (iblk m c 0 t) (iblk m c 1 t) (iblk m c 2 t) : S8x1x1024.Idx → EReal) = heads m c t := by
  unfold out0_4 k0_pay11
  funext y
  refine View.canon_apply_of_pieces (Val := Elt Ideal) (e := .f32) (heads m c t) _ ?_ y (cover0_4 ..)
  simp only [View.ld_unit_zero (S := S1024x1024) hz, View.ld_unit_zero (S := S1x1024x1024) hz3]
  intro p hp
  simp only [List.mem_cons, List.not_mem_nil, or_false] at hp
  rcases hp with rfl | rfl | rfl | rfl | rfl | rfl | rfl | rfl
  all_goals
    intro x
    obtain ⟨e, e', p, rfl⟩ : ∃ (e e' : Fin 1) (p : Fin 1024), x = ix3 e e' p := ⟨x 0, x 1, x 2, eq_ix3 x⟩
    obtain rfl : e = 0 := Subsingleton.elim _ _
    obtain rfl : e' = 0 := Subsingleton.elim _ _
    pointwise [k0_pay1, k0_pay2, k0_pay4, k0_pay5, k0_pay6, k0_pay7, k0_pay8, k0_pay9, k0_pay10]
  · exact head m c t p 7 _ _ (fun k => o_eq m c t p _ _ (by simp) (by simp)) (fun k => p_eq m c t p _ _ (by simp) (by simp)) _ (by simp) (by simp)
  · exact head m c t p 6 _ _ (fun k => o_eq m c t p _ _ (by simp) (by simp)) (fun k => p_eq m c t p _ _ (by simp) (by simp)) _ (by simp) (by simp)
  · exact head m c t p 5 _ _ (fun k => o_eq m c t p _ _ (by simp) (by simp)) (fun k => p_eq m c t p _ _ (by simp) (by simp)) _ (by simp) (by simp)
  · exact head m c t p 4 _ _ (fun k => o_eq m c t p _ _ (by simp) (by simp)) (fun k => p_eq m c t p _ _ (by simp) (by simp)) _ (by simp) (by simp)
  · exact head m c t p 3 _ _ (fun k => o_eq m c t p _ _ (by simp) (by simp)) (fun k => p_eq m c t p _ _ (by simp) (by simp)) _ (by simp) (by simp)
  · exact head m c t p 2 _ _ (fun k => o_eq m c t p _ _ (by simp) (by simp)) (fun k => p_eq m c t p _ _ (by simp) (by simp)) _ (by simp) (by simp)
  · exact head m c t p 1 _ _ (fun k => o_eq m c t p _ _ (by simp) (by simp)) (fun k => p_eq m c t p _ _ (by simp) (by simp)) _ (by simp) (by simp)
  · exact head m c t p 0 _ _ (fun k => o_eq m c t p _ _ (by simp) (by simp)) (fun k => p_eq m c t p _ _ (by simp) (by simp)) _ (by simp) (by simp)

/-! ## The whole arrays -/

theorem mem_blk3 (t : Fin cfg0.N) (i : S8192x1024.Idx) (h : 1024 * t.val ≤ (i 0 : Nat) ∧ (i 0 : Nat) < 1024 * t.val + 1024) :
    i ∈ ((cfg0.win 3).blk t).view.set := by
  show i ∈ ((View.whole main_v2_0).slice (win0_3.rect t)).set
  rw [View.set_slice_whole, Rect.mem_set_unit]
  have h1 : (i 1 : Nat) < 1024 := (i 1).isLt
  intro a
  match a with
  | ⟨0, _⟩ => show win0_3.index t 0 * 1024 ≤ (i 0 : Nat) ∧ (i 0 : Nat) < win0_3.index t 0 * 1024 + 1024; rw [(idx3 t).1]; omega
  | ⟨1, _⟩ => show win0_3.index t 1 * 1024 ≤ (i 1 : Nat) ∧ (i 1 : Nat) < win0_3.index t 1 * 1024 + 1024; rw [(idx3 t).2]; omega

theorem final3 : (dats m 0 c).arrAt 3 cfg0.N
    = ((fun i => dz (arg0 m c) (arg1 m c) (i 0) (i 1)) : S8192x1024.Idx → EReal) := by
  refine (dats m 0 c).arrAt_eq_of_cover 3 _ (fun t _ => ?_) fun i => ?_
  · rw [Value.flushed3, out3_eq]
    funext j
    rw [View.read_apply]
    show dz _ _ _ _ = dz _ _ _ _
    congr 1
    · apply Fin.ext
      show 1024 * t.val + (j 0).val = win0_3.index t 0 * 1024 + 1 * (j 0).val
      rw [(idx3 t).1]; omega
    · apply Fin.ext
      show (j 1).val = win0_3.index t 1 * 1024 + 1 * (j 1).val
      rw [(idx3 t).2]; omega
  · have h0 : (i 0).val < 8192 := (i 0).isLt
    have hN : cfg0.N = 8 := N_0
    refine ⟨⟨(i 0).val / 1024, by rw [hN]; omega⟩, flush0_3 _, ?_⟩
    refine mem_blk3 _ i ?_
    simp only
    omega

theorem mem_blk4 (t : Fin cfg0.N) (i : S8x1x8192.Idx) (h : 1024 * t.val ≤ (i 2 : Nat) ∧ (i 2 : Nat) < 1024 * t.val + 1024) :
    i ∈ ((cfg0.win 4).blk t).view.set := by
  show i ∈ ((View.whole main_v2_1).slice (win0_4.rect t)).set
  rw [View.set_slice_whole, Rect.mem_set_unit]
  have h0 : (i 0 : Nat) < 8 := (i 0).isLt
  have h1 : (i 1 : Nat) < 1 := (i 1).isLt
  intro a
  match a with
  | ⟨0, _⟩ => show win0_4.index t 0 * 8 ≤ (i 0 : Nat) ∧ (i 0 : Nat) < win0_4.index t 0 * 8 + 8; rw [(idx4 t).1]; omega
  | ⟨1, _⟩ => show win0_4.index t 1 * 1 ≤ (i 1 : Nat) ∧ (i 1 : Nat) < win0_4.index t 1 * 1 + 1; rw [(idx4 t).2.1]; omega
  | ⟨2, _⟩ => show win0_4.index t 2 * 1024 ≤ (i 2 : Nat) ∧ (i 2 : Nat) < win0_4.index t 2 * 1024 + 1024; rw [(idx4 t).2.2]; omega

theorem final4 : (dats m 0 c).arrAt 4 cfg0.N
    = ((fun i => delta (arg0 m c) (arg1 m c) (arg2 m c) (i 0) (i 2)) : S8x1x8192.Idx → EReal) := by
  refine (dats m 0 c).arrAt_eq_of_cover 4 _ (fun t _ => ?_) fun i => ?_
  · rw [Value.flushed4, out4_eq]
    funext j
    rw [View.read_apply]
    show delta _ _ _ _ _ = delta _ _ _ _ _
    congr 1
    · apply Fin.ext
      show (j 0).val = win0_4.index t 0 * 8 + 1 * (j 0).val
      rw [(idx4 t).1]; omega
    · apply Fin.ext
      show 1024 * t.val + (j 2).val = win0_4.index t 2 * 1024 + 1 * (j 2).val
      rw [(idx4 t).2.2]; omega
  · have h0 : (i 2).val < 8192 := (i 2).isLt
    have hN : cfg0.N = 8 := N_0
    refine ⟨⟨(i 2).val / 1024, by rw [hN]; omega⟩, flush0_4 _, ?_⟩
    refine mem_blk4 _ i ?_
    simp only
    omega

end Cert.Kernel17Ideal.AttnOutDx

namespace Cert.Proof.AttnOutDx

open Cert.Kernel17Ideal.AttnOutDx

/-! ## The reference and the claims -/

open Cert.Reference17Ideal Cert.Reference17Ideal.Read in
theorem reference (dy : FVec Ideal S8192x1024 .f32) (w : FVec Ideal S1024x1024 .bf16)
    (r : Fin 8192) (q : Fin 1024) : val_main_v2 (F := Ideal) dy w (ix2 r q) = dz dy w r q := by
  pointwise [val_main_v2, val_main_v0]
  rfl

open Cert.Reference17Ideal Cert.Reference17Ideal.Read in
theorem reference_delta (dy : FVec Ideal S8192x1024 .f32) (w : FVec Ideal S1024x1024 .bf16) (o : FVec Ideal S8192x1024 .f32)
    (h : Fin 8) (e : Fin 1) (r : Fin 8192) : val_main_v7 (F := Ideal) dy w o (ix3 h e r) = delta dy w o h r := by
  obtain rfl : e = 0 := Subsingleton.elim _ _
  pointwise [val_main_v7, val_main_v6, val_main_v5, val_main_v4, val_main_v3, val_main_cst]
  unfold delta
  refine Finset.sum_congr rfl fun k _ => ?_
  rw [reference]
  simp only [Nat.mul_comm 128]

/-- The reference runs, leaves its arguments alone and ends with every semaphore at zero. -/
theorem frame_reference : Cert.quiescent_Reference17Ideal := fun m ρ _ =>
  (θ_run Cert.Reference17Ideal.defs _ _).mono (fun r h => ⟨fun c => (h c).2.2, sem_eq_zero_of_no_sems (by decide) r.2⟩)
    (Cert.Reference17Ideal.Value.run (F := Ideal) m ρ)

/-- The kernel's two results are the reference's. -/
theorem algebraic : Cert.algebraic_Kernel17Ideal_Reference17Ideal := by
  intro m ρ m' ρ' _ hagree
  refine ⟨fun c => (fun i => dz (arg0 m c) (arg1 m c) (i 0) (i 1) : Cert.Kernel17Ideal.S8192x1024.Idx → EReal),
    fun c => (fun i => delta (arg0 m c) (arg1 m c) (arg2 m c) (i 0) (i 2) : Cert.Kernel17Ideal.S8x1x8192.Idx → EReal), ?_, ?_⟩
  · exact (θ_run Cert.Kernel17Ideal.defs _ _).mono
      (fun _ h c => ⟨(h c).1.trans (final3 m c), (h c).2.1.trans (final4 m c), (h c).2.2⟩)
      (Cert.Kernel17Ideal.Value.run_blocks (F := Ideal) m ρ)
  · refine (θ_run Cert.Reference17Ideal.defs _ _).mono (fun _ h c => ⟨(h c).1.trans ?_, (h c).2.1.trans ?_, (h c).2.2⟩)
      (Cert.Reference17Ideal.Value.run (F := Ideal) m' ρ')
    · rw [Cert.Reference17Ideal.Read.val_main_v2_eq, (hagree c).1, (hagree c).2.1]
      funext i
      rw [eq_ix2 i]
      exact reference _ _ _ _
    · rw [Cert.Reference17Ideal.Read.val_main_v7_eq, (hagree c).1, (hagree c).2.1, (hagree c).2.2]
      funext i
      rw [eq_ix3 i]
      exact reference_delta _ _ _ _ _ _

end Cert.Proof.AttnOutDx
end
-- ==== Proof.MlpLoss.lean ====
/-
  The last product of the feed-forward block with the loss behind it: the blocks of each grid point, the whole arrays the
  kernel leaves (the sum of squared errors, and the loss's cotangent twice), and the reference's, all at an index.
-/
module

public import proofs.«01_k».proof.Defs
public import proofs.«01_k».proof.Proof.NormGrad
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel18Ideal.MlpLoss

open Cert.Kernel18Ideal Cert.Kernel18Ideal.Gen

/-- The output's difference from the target. -/
def err (a : S8192x4096.Idx → EReal) (w : S4096x1024.Idx → EReal) (x : S8192x1024.Idx → EReal) (y : S8192x1024.Idx → EReal)
    (r : Fin 8192) (q : Fin 1024) : EReal :=
  x (ix2 r q) + (∑ k : Fin 4096, a (ix2 r k) * w (ix2 k q)) - y (ix2 r q)

/-- The loss's cotangent. -/
def dy (a : S8192x4096.Idx → EReal) (w : S4096x1024.Idx → EReal) (x : S8192x1024.Idx → EReal) (y : S8192x1024.Idx → EReal)
    (r : Fin 8192) (q : Fin 1024) : EReal :=
  Ideal.div (err a w x y r q) (Ideal.ofBits .f32 0x44800000#32)

/-- One row's sum of squared errors. -/
def sq (a : S8192x4096.Idx → EReal) (w : S4096x1024.Idx → EReal) (x : S8192x1024.Idx → EReal) (y : S8192x1024.Idx → EReal)
    (r : Fin 8192) : EReal :=
  ∑ q : Fin 1024, err a w x y r q * err a w x y r q

variable (m : (ℓ : Loc nD τ sig) → Buf (Elt Ideal) ℓ) (c : Dev nD)

abbrev arg0 : FVec Ideal S8192x4096 .bf16 := m ((c.tc : Thread nD τ).loc main_arg0)
abbrev arg1 : FVec Ideal S4096x1024 .bf16 := m ((c.tc : Thread nD τ).loc main_arg1)
abbrev arg2 : FVec Ideal S8192x1024 .f32 := m ((c.tc : Thread nD τ).loc main_arg2)
abbrev arg3 : FVec Ideal S8192x1024 .f32 := m ((c.tc : Thread nD τ).loc main_arg3)

/-! ## The blocks -/

theorem idx0 : ∀ t : Fin grid0.N, win0_0.index t 0 = t.val ∧ win0_0.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx1 : ∀ t : Fin grid0.N, win0_1.index t 0 = 0 ∧ win0_1.index t 1 = 0 := by decide +kernel
theorem idx4 : ∀ t : Fin grid0.N, win0_4.index t 0 = 0 ∧ win0_4.index t 1 = 0 := by decide +kernel

/-- A row index of the whole array from a grid point and a row of its block. -/
abbrev row (t : Fin cfg0.N) (p : Fin 512) : Fin 8192 := ⟨512 * t.val + p.val, by
  have hN : t.val < 16 := lt_of_lt_of_eq t.isLt (show cfg0.N = 16 from N_0)
  omega⟩

theorem blk0 (t : Fin cfg0.N) (p : Fin 512) (q : Fin 4096) : (iblk m c 0 t : S512x4096.Idx → EReal) (ix2 p q) = arg0 m c (ix2 (row t p) q) := by
  unfold iblk
  rw [View.read_apply]
  show V m c main_arg0 _ = _
  rw [V_main_arg0]
  congr 1
  funext a
  apply Fin.ext
  match a with
  | ⟨0, _⟩ => show win0_0.index t 0 * 512 + 1 * p.val = 512 * t.val + p.val; rw [(idx0 t).1]; omega
  | ⟨1, _⟩ => show win0_0.index t 1 * 4096 + 1 * q.val = q.val; rw [(idx0 t).2]; omega

theorem blk2 (t : Fin cfg0.N) (p : Fin 512) (q : Fin 1024) : (iblk m c 2 t : S512x1024.Idx → EReal) (ix2 p q) = arg2 m c (ix2 (row t p) q) := by
  unfold iblk
  rw [View.read_apply]
  show V m c main_arg2 _ = _
  rw [V_main_arg2]
  congr 1
  funext a
  apply Fin.ext
  match a with
  | ⟨0, _⟩ => show win0_2.index t 0 * 512 + 1 * p.val = 512 * t.val + p.val; rw [(idx2 t).1]; omega
  | ⟨1, _⟩ => show win0_2.index t 1 * 1024 + 1 * q.val = q.val; rw [(idx2 t).2]; omega

theorem blk3 (t : Fin cfg0.N) (p : Fin 512) (q : Fin 1024) : (iblk m c 3 t : S512x1024.Idx → EReal) (ix2 p q) = arg3 m c (ix2 (row t p) q) := by
  unfold iblk
  rw [View.read_apply]
  show V m c main_arg3 _ = _
  rw [V_main_arg3]
  congr 1
  funext a
  apply Fin.ext
  match a with
  | ⟨0, _⟩ => show win0_3.index t 0 * 512 + 1 * p.val = 512 * t.val + p.val; rw [(idx3 t).1]; omega
  | ⟨1, _⟩ => show win0_3.index t 1 * 1024 + 1 * q.val = q.val; rw [(idx3 t).2]; omega

theorem blk1 (t : Fin cfg0.N) (p : Fin 4096) (q : Fin 1024) : (iblk m c 1 t : S4096x1024.Idx → EReal) (ix2 p q) = arg1 m c (ix2 p q) := by
  unfold iblk
  rw [View.read_apply]
  show V m c main_arg1 _ = _
  rw [V_main_arg1]
  congr 1
  funext a
  apply Fin.ext
  match a with
  | ⟨0, _⟩ => show win0_1.index t 0 * 4096 + 1 * p.val = p.val; rw [(idx1 t).1]; omega
  | ⟨1, _⟩ => show win0_1.index t 1 * 1024 + 1 * q.val = q.val; rw [(idx1 t).2]; omega

/-! ## What a point computes -/

theorem hz : (![0, 0] : Fin 2 → Nat) = fun _ => 0 := funext fun a => by fin_cases a <;> rfl

section
variable (x0 : Vec Ideal S512x4096 .bf16) (x1 : Vec Ideal S4096x1024 .bf16) (x2 : Vec Ideal S512x1024 .f32) (x3 : Vec Ideal S512x1024 .f32)

/-- A block's difference from the target. -/
abbrev errRow (p : Fin 512) (q : Fin 1024) : EReal := x2 (ix2 p q) + (∑ k : Fin 4096, x0 (ix2 p k) * x1 (ix2 k q)) - x3 (ix2 p q)

theorem err_apply (p : Fin 512) (q : Fin 1024) : (k0_pay1 x2 x0 x1 x3 : S512x1024.Idx → EReal) (ix2 p q) = errRow x0 x1 x2 x3 p q := by
  pointwise [k0_pay1]
  try rfl

theorem dy_apply (p : Fin 512) (q : Fin 1024) : (k0_pay2 x2 x0 x1 x3 : S512x1024.Idx → EReal) (ix2 p q)
    = Ideal.div (errRow x0 x1 x2 x3 p q) (Ideal.ofBits .f32 0x44800000#32) := by
  pointwise [k0_pay2]
  exact congrArg (Ideal.div · _) (err_apply x0 x1 x2 x3 p q)

theorem dyb_apply (p : Fin 512) (q : Fin 1024) : (k0_pay3 x2 x0 x1 x3 : S512x1024.Idx → EReal) (ix2 p q)
    = Ideal.div (errRow x0 x1 x2 x3 p q) (Ideal.ofBits .f32 0x44800000#32) :=
  dy_apply x0 x1 x2 x3 p q

theorem sq_apply (e : Fin 1) (l : Fin 128) : (k0_pay4 x2 x0 x1 x3 : S1x128.Idx → EReal) (ix2 e l)
    = ∑ p : Fin 512, ∑ q : Fin 1024, errRow x0 x1 x2 x3 p q * errRow x0 x1 x2 x3 p q := by
  pointwise [k0_pay4]
  exact Finset.sum_congr rfl fun p _ => Finset.sum_congr rfl fun q _ => congrArg₂ (· * ·) (err_apply x0 x1 x2 x3 p q) (err_apply x0 x1 x2 x3 p q)

theorem add_apply (b : Vec Ideal S1x128 .f32) (e : Fin 1) (l : Fin 128) : (k0_pay5 x2 x0 x1 x3 b : S1x128.Idx → EReal) (ix2 e l)
    = b (ix2 e l) + (k0_pay4 x2 x0 x1 x3 : S1x128.Idx → EReal) (ix2 e l) := by
  obtain rfl : e = 0 := Subsingleton.elim _ _
  pointwise [k0_pay5]

end

theorem outs_A (t : Fin cfg0.N) (h0 : t.val % 16 = 0) (h1 : ¬1 ≤ t.val) :
    (outsAt0 m c t.val t.isLt).1 = k0_pay4 (iblk m c 2 t) (iblk m c 0 t) (iblk m c 1 t) (iblk m c 3 t)
    ∧ (outsAt0 m c t.val t.isLt).2.1 = k0_pay2 (iblk m c 2 t) (iblk m c 0 t) (iblk m c 1 t) (iblk m c 3 t)
    ∧ (outsAt0 m c t.val t.isLt).2.2 = k0_pay3 (iblk m c 2 t) (iblk m c 0 t) (iblk m c 1 t) (iblk m c 3 t) := by
  rw [outsAt0_A m c t h0 h1]
  dsimp only
  unfold out0_A_4 out0_A_5 out0_A_6
  refine ⟨(View.read_writes_eq_canon _ _ _ (fun y => cover0_A_4 ..)).trans ?_, (View.read_writes_eq_canon _ _ _ (fun y => cover0_A_5 ..)).trans ?_, (View.read_writes_eq_canon _ _ _ (fun y => cover0_A_6 ..)).trans ?_⟩
  all_goals
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz, View.ld_unit_zero (S := S512x4096) hz, View.ld_unit_zero (S := S4096x1024) hz, View.ld_unit_zero (S := S1x128) hz]
    try rfl

theorem outs_B (t : Fin cfg0.N) (h0 : ¬t.val % 16 = 0) (h1 : 1 ≤ t.val) :
    (outsAt0 m c t.val t.isLt).1 = k0_pay5 (iblk m c 2 t) (iblk m c 0 t) (iblk m c 1 t) (iblk m c 3 t) (outsAt0 m c (t.val - 1) (Nat.lt_of_le_of_lt (Nat.sub_le _ _) t.isLt)).1
    ∧ (outsAt0 m c t.val t.isLt).2.1 = k0_pay2 (iblk m c 2 t) (iblk m c 0 t) (iblk m c 1 t) (iblk m c 3 t)
    ∧ (outsAt0 m c t.val t.isLt).2.2 = k0_pay3 (iblk m c 2 t) (iblk m c 0 t) (iblk m c 1 t) (iblk m c 3 t) := by
  rw [outsAt0_B m c t h0 h1]
  dsimp only
  unfold out0_B_4 out0_B_5 out0_B_6
  refine ⟨(View.read_writes_eq_canon _ _ _ (fun y => cover0_B_4 ..)).trans ?_, (View.read_writes_eq_canon _ _ _ (fun y => cover0_B_5 ..)).trans ?_, (View.read_writes_eq_canon _ _ _ (fun y => cover0_B_6 ..)).trans ?_⟩
  all_goals
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S512x1024) hz, View.ld_unit_zero (S := S512x4096) hz, View.ld_unit_zero (S := S4096x1024) hz, View.ld_unit_zero (S := S1x128) hz]
    try rfl

/-- A point's block of differences, from the whole arrays. -/
theorem err_eq (t : Fin cfg0.N) (p : Fin 512) (q : Fin 1024) : errRow (iblk m c 0 t) (iblk m c 1 t) (iblk m c 2 t) (iblk m c 3 t) p q
    = err (arg0 m c) (arg1 m c) (arg2 m c) (arg3 m c) (row t p) q :=
  congrArg₂ (· - ·) (congrArg₂ (· + ·) (blk2 m c t p q) (Finset.sum_congr rfl fun k _ => congrArg₂ (· * ·) (blk0 m c t p k) (blk1 m c t k q)))
    (blk3 m c t p q)

theorem out5_eq (t : Fin cfg0.N) (p : Fin 512) (q : Fin 1024) : ((outsAt0 m c t.val t.isLt).2.1 : S512x1024.Idx → EReal) (ix2 p q)
    = dy (arg0 m c) (arg1 m c) (arg2 m c) (arg3 m c) (row t p) q := by
  have hN : t.val < 16 := lt_of_lt_of_eq t.isLt (show cfg0.N = 16 from N_0)
  refine Eq.trans (congrFun (?_ : _ = k0_pay2 (iblk m c 2 t) (iblk m c 0 t) (iblk m c 1 t) (iblk m c 3 t)) _)
    ((dy_apply _ _ _ _ p q).trans (congrArg (Ideal.div · _) (err_eq m c t p q)))
  by_cases h : t.val = 0
  · exact (outs_A m c t (by omega) (by omega)).2.1
  · exact (outs_B m c t (by omega) (by omega)).2.1

theorem out6_eq (t : Fin cfg0.N) (p : Fin 512) (q : Fin 1024) : ((outsAt0 m c t.val t.isLt).2.2 : S512x1024.Idx → EReal) (ix2 p q)
    = dy (arg0 m c) (arg1 m c) (arg2 m c) (arg3 m c) (row t p) q := by
  have hN : t.val < 16 := lt_of_lt_of_eq t.isLt (show cfg0.N = 16 from N_0)
  refine Eq.trans (congrFun (?_ : _ = k0_pay3 (iblk m c 2 t) (iblk m c 0 t) (iblk m c 1 t) (iblk m c 3 t)) _)
    ((dyb_apply _ _ _ _ p q).trans (congrArg (Ideal.div · _) (err_eq m c t p q)))
  by_cases h : t.val = 0
  · exact (outs_A m c t (by omega) (by omega)).2.2
  · exact (outs_B m c t (by omega) (by omega)).2.2

/-! ## The running sum of squared errors -/

/-- What point `n` adds. -/
abbrev part (n : ℕ) : EReal :=
  ∑ p : Fin 512, if h : n < 16 then sq (arg0 m c) (arg1 m c) (arg2 m c) (arg3 m c) ⟨512 * n + p.val, by omega⟩ else 0

theorem sq_part (t : Fin cfg0.N) (e : Fin 1) (l : Fin 128) :
    (k0_pay4 (iblk m c 2 t) (iblk m c 0 t) (iblk m c 1 t) (iblk m c 3 t) : S1x128.Idx → EReal) (ix2 e l) = part m c t.val := by
  have hN : t.val < 16 := lt_of_lt_of_eq t.isLt (show cfg0.N = 16 from N_0)
  rw [sq_apply]
  unfold part
  refine Finset.sum_congr rfl fun p _ => ?_
  rw [dif_pos hN]
  unfold sq
  exact Finset.sum_congr rfl fun q _ => congrArg₂ (· * ·) (err_eq m c t p q) (err_eq m c t p q)

theorem sum_eq : ∀ (n : ℕ) (h : n < cfg0.N) (e : Fin 1) (l : Fin 128), ((outsAt0 m c n h).1 : S1x128.Idx → EReal) (ix2 e l)
    = ∑ s ∈ Finset.range (n + 1), part m c s := by
  intro n
  induction n with
  | zero =>
    intro h e l
    rw [Finset.sum_range_one, ← sq_part m c ⟨0, h⟩ e l]
    exact congrFun ((outs_A m c ⟨0, h⟩ rfl (by simp)).1) _
  | succ n ih =>
    intro h e l
    have hN : n + 1 < 16 := lt_of_lt_of_eq h (show cfg0.N = 16 from N_0)
    rw [Finset.sum_range_succ, ← ih (by omega) e l, ← sq_part m c ⟨n + 1, h⟩ e l]
    refine (congrFun ((outs_B m c ⟨n + 1, h⟩ (by show ¬(n + 1) % 16 = 0; omega) (by show 1 ≤ n + 1; omega)).1) _).trans ?_
    exact add_apply _ _ _ _ _ e l

/-- The sixteen points' parts are the sum over the rows. -/
theorem parts : ∑ s ∈ Finset.range 16, part m c s = ∑ r : Fin 8192, sq (arg0 m c) (arg1 m c) (arg2 m c) (arg3 m c) r := by
  unfold part
  rw [Finset.sum_range, ← Finset.sum_product']
  refine Finset.sum_nbij' (fun x : Fin 16 × Fin 512 => (⟨512 * x.1.val + x.2.val, by omega⟩ : Fin 8192))
    (fun r => (⟨r.val / 512, by omega⟩, ⟨r.val % 512, by omega⟩)) (by simp) (by simp) ?_ ?_ ?_
  · rintro ⟨x, y⟩ _
    ext <;> simp only <;> omega
  · intro r _
    ext
    simp only
    omega
  · rintro ⟨x, y⟩ _
    exact dif_pos x.isLt

/-! ## The whole arrays -/

theorem mem_blk5 (t : Fin cfg0.N) (i : S8192x1024.Idx) (h : 512 * t.val ≤ (i 0 : Nat) ∧ (i 0 : Nat) < 512 * t.val + 512) :
    i ∈ ((cfg0.win 5).blk t).view.set := by
  show i ∈ ((View.whole main_v0_1).slice (win0_5.rect t)).set
  rw [View.set_slice_whole, Rect.mem_set_unit]
  have h1 : (i 1 : Nat) < 1024 := (i 1).isLt
  intro a
  match a with
  | ⟨0, _⟩ => show win0_5.index t 0 * 512 ≤ (i 0 : Nat) ∧ (i 0 : Nat) < win0_5.index t 0 * 512 + 512; rw [(idx5 t).1]; omega
  | ⟨1, _⟩ => show win0_5.index t 1 * 1024 ≤ (i 1 : Nat) ∧ (i 1 : Nat) < win0_5.index t 1 * 1024 + 1024; rw [(idx5 t).2]; omega

theorem final5 : (dats m 0 c).arrAt 5 cfg0.N
    = ((fun i => dy (arg0 m c) (arg1 m c) (arg2 m c) (arg3 m c) (i 0) (i 1)) : S8192x1024.Idx → EReal) := by
  refine (dats m 0 c).arrAt_eq_of_cover 5 _ (fun t _ => ?_) fun i => ?_
  · rw [Value.flushed5]
    funext j
    rw [View.read_apply]
    obtain ⟨p, q, rfl⟩ : ∃ (p : Fin 512) (q : Fin 1024), j = ix2 p q := ⟨j 0, j 1, eq_ix2 j⟩
    refine (out5_eq m c t p q).trans ?_
    show dy _ _ _ _ _ _ = dy _ _ _ _ _ _
    congr 1
    · apply Fin.ext
      show 512 * t.val + p.val = win0_5.index t 0 * 512 + 1 * p.val
      rw [(idx5 t).1]; omega
    · apply Fin.ext
      show q.val = win0_5.index t 1 * 1024 + 1 * q.val
      rw [(idx5 t).2]; omega
  · have h0 : (i 0).val < 8192 := (i 0).isLt
    have hN : cfg0.N = 16 := N_0
    refine ⟨⟨(i 0).val / 512, by rw [hN]; omega⟩, flush0_5 _, ?_⟩
    refine mem_blk5 _ i ?_
    simp only
    omega

theorem mem_blk6 (t : Fin cfg0.N) (i : S8192x1024.Idx) (h : 512 * t.val ≤ (i 0 : Nat) ∧ (i 0 : Nat) < 512 * t.val + 512) :
    i ∈ ((cfg0.win 6).blk t).view.set := by
  show i ∈ ((View.whole main_v0_2).slice (win0_6.rect t)).set
  rw [View.set_slice_whole, Rect.mem_set_unit]
  have h1 : (i 1 : Nat) < 1024 := (i 1).isLt
  intro a
  match a with
  | ⟨0, _⟩ => show win0_6.index t 0 * 512 ≤ (i 0 : Nat) ∧ (i 0 : Nat) < win0_6.index t 0 * 512 + 512; rw [(idx6 t).1]; omega
  | ⟨1, _⟩ => show win0_6.index t 1 * 1024 ≤ (i 1 : Nat) ∧ (i 1 : Nat) < win0_6.index t 1 * 1024 + 1024; rw [(idx6 t).2]; omega

theorem final6 : (dats m 0 c).arrAt 6 cfg0.N
    = ((fun i => dy (arg0 m c) (arg1 m c) (arg2 m c) (arg3 m c) (i 0) (i 1)) : S8192x1024.Idx → EReal) := by
  refine (dats m 0 c).arrAt_eq_of_cover 6 _ (fun t _ => ?_) fun i => ?_
  · rw [Value.flushed6]
    funext j
    rw [View.read_apply]
    obtain ⟨p, q, rfl⟩ : ∃ (p : Fin 512) (q : Fin 1024), j = ix2 p q := ⟨j 0, j 1, eq_ix2 j⟩
    refine (out6_eq m c t p q).trans ?_
    show dy _ _ _ _ _ _ = dy _ _ _ _ _ _
    congr 1
    · apply Fin.ext
      show 512 * t.val + p.val = win0_6.index t 0 * 512 + 1 * p.val
      rw [(idx6 t).1]; omega
    · apply Fin.ext
      show q.val = win0_6.index t 1 * 1024 + 1 * q.val
      rw [(idx6 t).2]; omega
  · have h0 : (i 0).val < 8192 := (i 0).isLt
    have hN : cfg0.N = 16 := N_0
    refine ⟨⟨(i 0).val / 512, by rw [hN]; omega⟩, flush0_6 _, ?_⟩
    refine mem_blk6 _ i ?_
    simp only
    omega

theorem mem_blk4 (t : Fin cfg0.N) (i : S1x128.Idx) : i ∈ ((cfg0.win 4).blk t).view.set := by
  show i ∈ ((View.whole main_v0_0).slice (win0_4.rect t)).set
  rw [View.set_slice_whole, Rect.mem_set_unit]
  have h0 : (i 0 : Nat) < 1 := (i 0).isLt
  have h1 : (i 1 : Nat) < 128 := (i 1).isLt
  intro a
  match a with
  | ⟨0, _⟩ => show win0_4.index t 0 * 1 ≤ (i 0 : Nat) ∧ (i 0 : Nat) < win0_4.index t 0 * 1 + 1
              rw [(idx4 t).1]; omega
  | ⟨1, _⟩ => show win0_4.index t 1 * 128 ≤ (i 1 : Nat) ∧ (i 1 : Nat) < win0_4.index t 1 * 128 + 128
              rw [(idx4 t).2]; omega

theorem final4 : (dats m 0 c).arrAt 4 cfg0.N
    = ((fun _ => ∑ r : Fin 8192, sq (arg0 m c) (arg1 m c) (arg2 m c) (arg3 m c) r) : S1x128.Idx → EReal) := by
  have hN : cfg0.N = 16 := N_0
  refine (dats m 0 c).arrAt_eq_of_cover 4 _ (fun t hf => ?_) fun i => ?_
  · have ht : t.val % 16 = 15 := (flush0_4 t).mp hf
    have htN : t.val < 16 := lt_of_lt_of_eq t.isLt hN
    rw [Value.flushed4]
    funext j
    rw [View.read_apply]
    obtain ⟨e, l, rfl⟩ : ∃ (e : Fin 1) (l : Fin 128), j = ix2 e l := ⟨j 0, j 1, eq_ix2 j⟩
    refine (sum_eq m c t.val t.isLt e l).trans ?_
    rw [show t.val + 1 = 16 by omega, parts]
    rfl
  · exact ⟨⟨15, by rw [hN]; omega⟩, (flush0_4 _).mpr rfl, mem_blk4 _ i⟩

end Cert.Kernel18Ideal.MlpLoss

namespace Cert.Proof.MlpLoss

open Cert.Kernel18Ideal.MlpLoss

/-! ## The reference and the claims -/

/-- The derivative of half the mean square, as the reference's factors give it. -/
theorem factors (e : EReal) : Ideal.div (Ideal.ofBits .f32 0x3F000000#32) (Ideal.ofBits .f32 0x44800000#32)
    * (Ideal.ofBits .f32 0x40000000#32 * e) = Ideal.div e (Ideal.ofBits .f32 0x44800000#32) := by
  have h2 : Ideal.ofBits .f32 0x3F000000#32 = ((1 / 2 : ℝ) : EReal) := by
    simp [Ideal.ofBits, Ideal.ieee, -EReal.coe_mul]
    norm_num
  have h4 : Ideal.ofBits .f32 0x40000000#32 = ((2 : ℝ) : EReal) := by
    simp [Ideal.ofBits, Ideal.ieee, -EReal.coe_mul]
    try norm_num
  rw [h2, h4, NormGrad.word_count, NormGrad.div_real _ _ (by norm_num), ← mul_assoc, ← EReal.coe_mul]
  unfold Ideal.div
  rw [if_neg (by exact_mod_cast (by norm_num : (1024 : ℝ) ≠ 0)), ← EReal.coe_inv, mul_comm e]
  congr 2
  norm_num

section
open Cert.Reference18Ideal Cert.Reference18Ideal.Read

variable (a : FVec Ideal S8192x4096 .bf16) (w : FVec Ideal S4096x1024 .bf16) (x y : FVec Ideal S8192x1024 .f32)

theorem ref_err (r : Fin 8192) (q : Fin 1024) : val_main_v19 (F := Ideal) a w x y (ix2 r q) = err a w x y r q := by
  pointwise [val_main_v19, val_main_v3, val_main_v2, val_main_v1, val_main_v0]
  try rfl

/-- The same difference, as the reference writes it a second time. -/
theorem ref_err' (r : Fin 8192) (q : Fin 1024) : val_main_v4 (F := Ideal) a w x y (ix2 r q) = err a w x y r q := ref_err a w x y r q

theorem ref_dy (r : Fin 8192) (q : Fin 1024) : val_main_v18 (F := Ideal) a w x y (ix2 r q) = dy a w x y r q := by
  pointwise [val_main_v18, val_main_v17, val_main_v16, val_main_v15, val_main_v14, val_main_v13, val_main_v7, val_main_v6, val_main_cst, val_main_cst_4,
    val_main_cst_5, val_main_cst_6]
  refine Eq.trans ?_ (factors _)
  exact congrArg (fun e => Ideal.div (Ideal.ofBits .f32 0x3F000000#32) (Ideal.ofBits .f32 0x44800000#32) * (Ideal.ofBits .f32 0x40000000#32 * e))
    (ref_err' a w x y r q)

theorem ref_sq (i : S1x128.Idx) : val_main_v22 (F := Ideal) a w x y i = ∑ r : Fin 8192, sq a w x y r := by
  rw [val_main_v22_apply]
  generalize idx_main_v22 i = j
  pointwise [val_main_v21, val_main_v20, val_main_cst_7]
  exact Finset.sum_congr rfl fun r _ => Finset.sum_congr rfl fun q _ => congrArg₂ (· * ·) (ref_err a w x y r q) (ref_err a w x y r q)

end

/-- The reference runs, leaves its arguments alone and ends with every semaphore at zero. -/
theorem frame_reference : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)

/-- The kernel's three results are the reference's. -/
theorem algebraic : Cert.algebraic_Kernel18Ideal_Reference18Ideal := by
  intro m ρ m' ρ' _ hagree
  refine ⟨fun c => (fun _ => ∑ r : Fin 8192, sq (arg0 m c) (arg1 m c) (arg2 m c) (arg3 m c) r : Cert.Kernel18Ideal.S1x128.Idx → EReal),
    fun c => (fun i => dy (arg0 m c) (arg1 m c) (arg2 m c) (arg3 m c) (i 0) (i 1) : Cert.Kernel18Ideal.S8192x1024.Idx → EReal),
    fun c => (fun i => dy (arg0 m c) (arg1 m c) (arg2 m c) (arg3 m c) (i 0) (i 1) : Cert.Kernel18Ideal.S8192x1024.Idx → EReal), ?_, ?_⟩
  · exact (θ_run Cert.Kernel18Ideal.defs _ _).mono
      (fun _ h c => ⟨(h c).1.trans (final4 m c), (h c).2.1.trans (final5 m c), (h c).2.2.1.trans (final6 m c), (h c).2.2.2⟩)
      (Cert.Kernel18Ideal.Value.run_blocks (F := Ideal) m ρ)
  · refine (θ_run Cert.Reference18Ideal.defs _ _).mono (fun _ h c => ⟨(h c).1.trans ?_, (h c).2.1.trans ?_, (h c).2.2.1.trans ?_, (h c).2.2.2⟩)
      (Cert.Reference18Ideal.Value.run (F := Ideal) m' ρ')
    · rw [Cert.Reference18Ideal.Read.val_main_v22_eq, (hagree c).1, (hagree c).2.1, (hagree c).2.2.1, (hagree c).2.2.2]
      funext i
      exact ref_sq _ _ _ _ i
    · rw [Cert.Reference18Ideal.Read.val_main_v18_eq, (hagree c).1, (hagree c).2.1, (hagree c).2.2.1, (hagree c).2.2.2]
      funext i
      rw [eq_ix2 i]
      exact ref_dy _ _ _ _ _ _
    · rw [Cert.Reference18Ideal.Read.val_main_v23_eq, (hagree c).1, (hagree c).2.1, (hagree c).2.2.1, (hagree c).2.2.2]
      funext i
      rw [eq_ix2 i]
      exact ref_dy _ _ _ _ _ _

end Cert.Proof.MlpLoss
end
-- ==== Proof.AttnDown.lean ====
/-
  The attention's first projection, behind its normalisation: the two blocks of each grid point, the whole
  arrays the kernel leaves, and the reference's, all at an index.
-/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel19Ideal.AttnDown

open Cert.Kernel19Ideal Cert.Kernel19Ideal.Gen

/-- The normalised input. -/
def normed (x : S8192x1024.Idx → EReal) (g : S1024.Idx → EReal) (r : Fin 8192) (k : Fin 1024) : EReal :=
  x (ix2 r k) * Ideal.rsqrt (Ideal.div (∑ j : Fin 1024, x (ix2 r j) * x (ix2 r j)) (Ideal.ofBits .f32 0x44800000#32)
    + Ideal.ofBits .f32 0x358637BD#32) * g (ix1 k)

/-- The product. -/
def pre (x : S8192x1024.Idx → EReal) (g : S1024.Idx → EReal) (w : S1024x512.Idx → EReal) (r : Fin 8192) (q : Fin 512) : EReal :=
  ∑ k : Fin 1024, normed x g r k * w (ix2 k q)

variable (m : (ℓ : Loc nD τ sig) → Buf (Elt Ideal) ℓ) (c : Dev nD)

abbrev arg0 : FVec Ideal S8192x1024 .f32 := m ((c.tc : Thread nD τ).loc main_arg0)
abbrev arg1 : FVec Ideal S1024 .f32 := m ((c.tc : Thread nD τ).loc main_arg1)
abbrev arg2 : FVec Ideal S1024x512 .bf16 := m ((c.tc : Thread nD τ).loc main_arg2)

/-! ## The arrays the kernel is handed -/

def hG (g : FVec Ideal S1024 .f32) : FVec Ideal S1x1024 .f32 := shapeCast _ g shapeCasts_S1024_S1x1024

def hW (w : FVec Ideal S1024x512 .bf16) : FVec Ideal S1x1024x512 .bf16 :=
  broadcastInDim S1x1024x512 ![1, 2] bcast_S1024x512_S1x1024x512_1_2 w

theorem hW_apply (w : FVec Ideal S1024x512 .bf16) (e : Fin 1) (r : Fin 1024) (q : Fin 512) : hW w (ix3 e r q) = w (ix2 r q) := by
  pointwise [hW]

theorem entry_g : V (F := Ideal) m c main_v1 = hG (arg1 m c) := by
  show StableHlo.after hostOps0 (fun b => m (c, b)) _ = _
  simp only [hostOps0]
  after_results_simp <;> rfl

theorem entry_x : V (F := Ideal) m c main_arg0 = arg0 m c := by
  show StableHlo.after hostOps0 (fun b => m (c, b)) _ = _
  simp only [hostOps0]
  after_results_simp <;> rfl

theorem entry_w : V (F := Ideal) m c main_v0 = hW (arg2 m c) := by
  show StableHlo.after hostOps0 (fun b => m (c, b)) _ = _
  simp only [hostOps0]
  after_results_simp <;> rfl

theorem hG_apply (g : FVec Ideal S1024 .f32) (e : Fin 1) (k : Fin 1024) : hG g (ix2 e k) = g (ix1 k) := by
  obtain rfl : e = 0 := Subsingleton.elim _ _
  pointwise [hG]

/-! ## The blocks -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 ∧ win0_2.index t 2 = 0 := by decide +kernel
theorem idx3 : ∀ t : Fin grid0.N, win0_3.index t 0 = 0 ∧ win0_3.index t 1 = t.val := by decide +kernel
theorem idx4 : ∀ t : Fin grid0.N, win0_4.index t 0 = t.val ∧ win0_4.index t 1 = 0 := by decide +kernel

/-- A row index of the whole array from a grid point and a row of its block. -/
abbrev row (t : Fin cfg0.N) (p : Fin 1024) : Fin 8192 := ⟨1024 * t.val + p.val, by
  have hN : t.val < 8 := lt_of_lt_of_eq t.isLt (show cfg0.N = 8 from N_0)
  omega⟩

theorem blk0 (t : Fin cfg0.N) (p : Fin 1024) (q : Fin 1024) :
    (iblk m c 0 t : S1024x1024.Idx → EReal) (ix2 p q) = arg0 m c (ix2 (row t p) q) := by
  unfold iblk
  rw [View.read_apply]
  show V m c main_arg0 _ = _
  rw [entry_x]
  congr 1
  funext a
  apply Fin.ext
  match a with
  | ⟨0, _⟩ => show win0_0.index t 0 * 1024 + 1 * p.val = 1024 * t.val + p.val; rw [(idx0 t).1]; omega
  | ⟨1, _⟩ => show win0_0.index t 1 * 1024 + 1 * q.val = q.val; rw [(idx0 t).2]; omega

theorem blk1 (t : Fin cfg0.N) (e : Fin 1) (q : Fin 1024) :
    (iblk m c 1 t : S1x1024.Idx → EReal) (ix2 e q) = arg1 m c (ix1 q) := by
  unfold iblk
  rw [View.read_apply]
  show V m c main_v1 _ = _
  rw [entry_g]
  refine Eq.trans ?_ (hG_apply _ e q)
  congr 1
  funext a
  apply Fin.ext
  match a with
  | ⟨0, _⟩ => show win0_1.index t 0 * 1 + 1 * e.val = e.val; rw [(idx1 t).1]; omega
  | ⟨1, _⟩ => show win0_1.index t 1 * 1024 + 1 * q.val = q.val; rw [(idx1 t).2]; omega

theorem blk2 (t : Fin cfg0.N) (e : Fin 1) (p : Fin 1024) (q : Fin 512) :
    (iblk m c 2 t : S1x1024x512.Idx → EReal) (ix3 e p q) = arg2 m c (ix2 p q) := by
  unfold iblk
  rw [View.read_apply]
  show V m c main_v0 _ = _
  rw [entry_w]
  refine Eq.trans ?_ (hW_apply _ e p q)
  congr 1
  funext a
  apply Fin.ext
  match a with
  | ⟨0, _⟩ => show win0_2.index t 0 * 1 + 1 * e.val = e.val; rw [(idx2 t).1]; omega
  | ⟨1, _⟩ => show win0_2.index t 1 * 1024 + 1 * p.val = p.val; rw [(idx2 t).2.1]; omega
  | ⟨2, _⟩ => show win0_2.index t 2 * 512 + 1 * q.val = q.val; rw [(idx2 t).2.2]; omega

/-! ## What a point leaves -/

theorem hz : (![0, 0] : Fin 2 → Nat) = fun _ => 0 := funext fun a => by fin_cases a <;> rfl

theorem hz3 : (![0, 0, 0] : Fin 3 → Nat) = fun _ => 0 := funext fun a => by fin_cases a <;> rfl

theorem pay_eq (t : Fin cfg0.N) (p : Fin 1024) (k : Fin 1024) :
    (k0_pay1 (F := Ideal) (iblk m c 0 t) (iblk m c 1 t) (ix2 p k) : EReal) = normed (arg0 m c) (arg1 m c) (row t p) k := by
  pointwise [k0_pay1]
  unfold normed
  have e : ∀ j : Fin 1024, (iblk m c 0 t : S1024x1024.Idx → EReal) (ix2 p j) = arg0 m c (ix2 (row t p) j) := blk0 m c t p
  exact congrArg₂ (· * ·) (congrArg₂ (· * ·) (e k) (congrArg (fun s => Ideal.rsqrt (Ideal.div s _ + _))
    (Finset.sum_congr rfl fun j _ => congrArg₂ (· * ·) (e j) (e j)))) (blk1 m c t 0 k)

/-- The product in the rows of point `t`. -/
abbrev rows (t : Fin cfg0.N) : S1024x512.Idx → EReal :=
  fun i => pre (arg0 m c) (arg1 m c) (arg2 m c) (row t (i 0)) (i 1)

theorem out3_eq (t : Fin cfg0.N) (k : Fin 1024) (p : Fin 1024) :
    (out0_3 (F := Ideal) (iblk m c 0 t) (iblk m c 1 t) (iblk m c 2 t) : S1024x1024.Idx → EReal) (ix2 k p)
      = normed (arg0 m c) (arg1 m c) (row t p) k := by
  unfold out0_3
  rw [View.canon_unit_zero hz]
  simp only [View.ld_unit_zero (S := S1024x1024) hz, View.ld_unit_zero (S := S1x1024) hz]
  pointwise [k0_pay2]
  exact pay_eq m c t p k

theorem out4_eq (t : Fin cfg0.N) :
    (out0_4 (F := Ideal) (iblk m c 0 t) (iblk m c 1 t) (iblk m c 2 t) : S1024x512.Idx → EReal) = rows m c t := by
  unfold out0_4
  rw [View.canon_unit_zero hz]
  simp only [View.ld_unit_zero (S := S1024x1024) hz, View.ld_unit_zero (S := S1x1024) hz, View.ld_unit_zero (S := S1x1024x512) hz3]
  funext y
  obtain ⟨p, q, rfl⟩ : ∃ (p : Fin 1024) (q : Fin 512), y = ix2 p q := ⟨y 0, y 1, eq_ix2 y⟩
  pointwise [k0_pay3]
  exact Finset.sum_congr rfl fun k _ => congrArg₂ (· * ·) (pay_eq m c t p k) (blk2 m c t 0 k q)

/-! ## The whole arrays -/

theorem mem_blk3 (t : Fin cfg0.N) (i : S1024x8192.Idx) (h : 1024 * t.val ≤ (i 1 : Nat) ∧ (i 1 : Nat) < 1024 * t.val + 1024) :
    i ∈ ((cfg0.win 3).blk t).view.set := by
  show i ∈ ((View.whole main_v2_0).slice (win0_3.rect t)).set
  rw [View.set_slice_whole, Rect.mem_set_unit]
  have h1 : (i 0 : Nat) < 1024 := (i 0).isLt
  intro a
  match a with
  | ⟨0, _⟩ => show win0_3.index t 0 * 1024 ≤ (i 0 : Nat) ∧ (i 0 : Nat) < win0_3.index t 0 * 1024 + 1024; rw [(idx3 t).1]; omega
  | ⟨1, _⟩ => show win0_3.index t 1 * 1024 ≤ (i 1 : Nat) ∧ (i 1 : Nat) < win0_3.index t 1 * 1024 + 1024; rw [(idx3 t).2]; omega

theorem final3 : (dats m 0 c).arrAt 3 cfg0.N
    = ((fun i => normed (arg0 m c) (arg1 m c) (i 1) (i 0)) : S1024x8192.Idx → EReal) := by
  refine (dats m 0 c).arrAt_eq_of_cover 3 _ (fun t _ => ?_) fun i => ?_
  · rw [Value.flushed3]
    funext j
    rw [View.read_apply]
    obtain ⟨k, p, rfl⟩ : ∃ (k : Fin 1024) (p : Fin 1024), j = ix2 k p := ⟨j 0, j 1, eq_ix2 j⟩
    refine (out3_eq m c t k p).trans ?_
    show normed _ _ _ _ = normed _ _ _ _
    congr 1
    · apply Fin.ext
      show 1024 * t.val + p.val = win0_3.index t 1 * 1024 + 1 * p.val
      rw [(idx3 t).2]; omega
    · apply Fin.ext
      show k.val = win0_3.index t 0 * 1024 + 1 * k.val
      rw [(idx3 t).1]; omega
  · have h1 : (i 1).val < 8192 := (i 1).isLt
    have hN : cfg0.N = 8 := N_0
    refine ⟨⟨(i 1).val / 1024, by rw [hN]; omega⟩, flush0_3 _, ?_⟩
    refine mem_blk3 _ i ?_
    simp only
    omega

theorem mem_blk4 (t : Fin cfg0.N) (i : S8192x512.Idx) (h : 1024 * t.val ≤ (i 0 : Nat) ∧ (i 0 : Nat) < 1024 * t.val + 1024) :
    i ∈ ((cfg0.win 4).blk t).view.set := by
  show i ∈ ((View.whole main_v2_1).slice (win0_4.rect t)).set
  rw [View.set_slice_whole, Rect.mem_set_unit]
  have h1 : (i 1 : Nat) < 512 := (i 1).isLt
  intro a
  match a with
  | ⟨0, _⟩ => show win0_4.index t 0 * 1024 ≤ (i 0 : Nat) ∧ (i 0 : Nat) < win0_4.index t 0 * 1024 + 1024; rw [(idx4 t).1]; omega
  | ⟨1, _⟩ => show win0_4.index t 1 * 512 ≤ (i 1 : Nat) ∧ (i 1 : Nat) < win0_4.index t 1 * 512 + 512; rw [(idx4 t).2]; omega

theorem final4 : (dats m 0 c).arrAt 4 cfg0.N
    = ((fun i => pre (arg0 m c) (arg1 m c) (arg2 m c) (i 0) (i 1)) : S8192x512.Idx → EReal) := by
  refine (dats m 0 c).arrAt_eq_of_cover 4 _ (fun t _ => ?_) fun i => ?_
  · rw [Value.flushed4, out4_eq]
    funext j
    rw [View.read_apply]
    show pre _ _ _ _ _ = pre _ _ _ _ _
    congr 1
    · apply Fin.ext
      show 1024 * t.val + (j 0).val = win0_4.index t 0 * 1024 + 1 * (j 0).val
      rw [(idx4 t).1]; omega
    · apply Fin.ext
      show (j 1).val = win0_4.index t 1 * 512 + 1 * (j 1).val
      rw [(idx4 t).2]; omega
  · have h0 : (i 0).val < 8192 := (i 0).isLt
    have hN : cfg0.N = 8 := N_0
    refine ⟨⟨(i 0).val / 1024, by rw [hN]; omega⟩, flush0_4 _, ?_⟩
    refine mem_blk4 _ i ?_
    simp only
    omega

end Cert.Kernel19Ideal.AttnDown

namespace Cert.Proof.AttnDown

open Cert.Kernel19Ideal.AttnDown

/-! ## The reference and the claims -/

section
open Cert.Reference19Ideal Cert.Reference19Ideal.Read

theorem reference_normed (x : FVec Ideal S8192x1024 .f32) (g : FVec Ideal S1024 .f32) (r : Fin 8192) (q : Fin 1024) :
    val_main_v12 (F := Ideal) x g (ix2 r q) = normed x g r q := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem reference_pre (x : FVec Ideal S8192x1024 .f32) (g : FVec Ideal S1024 .f32) (w : FVec Ideal S1024x512 .bf16)
    (r : Fin 8192) (q : Fin 512) : val_main_v16 (F := Ideal) x g w (ix2 r q) = pre x g w r q := by
  pointwise [val_main_v16, val_main_v15]
  exact Finset.sum_congr rfl fun k _ => congrArg (· * _) (reference_normed x g r k)

theorem reference_h (x : FVec Ideal S8192x1024 .f32) (g : FVec Ideal S1024 .f32) (k : Fin 1024) (r : Fin 8192) :
    val_main_v14 (F := Ideal) x g (ix2 k r) = normed x g r k := by
  pointwise [val_main_v14, val_main_v13]
  exact reference_normed x g r k

end

/-- The reference runs, leaves its arguments alone and ends with every semaphore at zero. -/
theorem frame_reference : Cert.quiescent_Reference19Ideal := fun m ρ _ =>
  (θ_run Cert.Reference19Ideal.defs _ _).mono (fun r h => ⟨fun c => (h c).2.2, sem_eq_zero_of_no_sems (by decide) r.2⟩)
    (Cert.Reference19Ideal.Value.run (F := Ideal) m ρ)

/-- The kernel's two results are the reference's. -/
theorem algebraic : Cert.algebraic_Kernel19Ideal_Reference19Ideal := by
  intro m ρ m' ρ' _ hagree
  refine ⟨fun c => (fun i => normed (arg0 m c) (arg1 m c) (i 1) (i 0) : Cert.Kernel19Ideal.S1024x8192.Idx → EReal),
    fun c => (fun i => pre (arg0 m c) (arg1 m c) (arg2 m c) (i 0) (i 1) : Cert.Kernel19Ideal.S8192x512.Idx → EReal), ?_, ?_⟩
  · exact (θ_run Cert.Kernel19Ideal.defs _ _).mono
      (fun _ h c => ⟨(h c).1.trans (final3 m c), (h c).2.1.trans (final4 m c), (h c).2.2⟩)
      (Cert.Kernel19Ideal.Value.run_blocks (F := Ideal) m ρ)
  · refine (θ_run Cert.Reference19Ideal.defs _ _).mono (fun _ h c => ⟨(h c).1.trans ?_, (h c).2.1.trans ?_, (h c).2.2⟩)
      (Cert.Reference19Ideal.Value.run (F := Ideal) m' ρ')
    · rw [Cert.Reference19Ideal.Read.val_main_v14_eq, (hagree c).1, (hagree c).2.1]
      funext i
      rw [eq_ix2 i]
      exact reference_h _ _ _ _
    · rw [Cert.Reference19Ideal.Read.val_main_v16_eq, (hagree c).1, (hagree c).2.1, (hagree c).2.2]
      funext i
      rw [eq_ix2 i]
      exact reference_pre _ _ _ _ _

end Cert.Proof.AttnDown
end
-- ==== Proof.lean ====
/-
  The proof of `Cert.Claim`: the side conditions of the programs, then the claims in the order `Cert.Claim` states them —
  the gradient of the gated convolution, the gradient of the attention,
  and the products of the feed-forward block and of the convolution in both directions.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.ConvClaim
public import proofs.«01_k».proof.Proof.AttnFrames
public import proofs.«01_k».proof.Proof.AttnClaim
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_ordered_and_finite
public import proofs.«01_k».proof.Proof.MlpDownDx
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.MlpDownDw
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.MlpUpDw
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.MlpUpDx
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Pre_finite
public import proofs.«01_k».proof.Proof.MlpUp
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.MlpDown
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.ConvInDx
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Pre_finite_conv
public import proofs.«01_k».proof.Proof.ConvInDw
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.ConvOutDx
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.ConvOutDw
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.ConvIn
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.ConvOut
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.AttnOut
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.AttnOutDw
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.AttnOutDx
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.MlpLoss
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.AttnDown
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Pre_ordered_and_finite.Gen.facts, Cert.Pre_finite.Gen.facts, Cert.Pre_finite_conv.Gen.facts,
  fun m ρ _ => Cert.Kernel.Gen.frame m ρ, fun m ρ _ => Cert.KernelIdeal.Gen.frame m ρ, Conv.frame_reference,
  Attn.frame_kernel, Attn.frame_kernelIdeal, Attn.frame_kernelIdeal_pre, Attn.frame_reference, Attn.frame_reference_pre,
  fun m ρ _ => Cert.Kernel3.Gen.frame m ρ, fun m ρ _ => Cert.Kernel3Ideal.Gen.frame m ρ, MlpDown.frame_reference,
  fun m ρ _ => Cert.Kernel4.Gen.frame m ρ, fun m ρ _ => Cert.Kernel4Ideal.Gen.frame m ρ, MlpDw.frame_reference,
  fun m ρ _ => Cert.Kernel5.Gen.frame m ρ, fun m ρ _ => Cert.Kernel5Ideal.Gen.frame m ρ, MlpUpDw.frame_reference,
  fun m ρ _ => Cert.Kernel6.Gen.frame m ρ, fun m ρ _ => Cert.Kernel6Ideal.Gen.frame m ρ, fun m ρ _ => Cert.Kernel6Ideal.Gen.frame m ρ,
  MlpUpDx.frame_reference, MlpUpDx.frame_reference_pre,
  fun m ρ _ => Cert.Kernel7.Gen.frame m ρ, fun m ρ _ => Cert.Kernel7Ideal.Gen.frame m ρ, MlpUp.frame_reference,
  fun m ρ _ => Cert.Kernel8.Gen.frame m ρ, fun m ρ _ => Cert.Kernel8Ideal.Gen.frame m ρ, MlpOut.frame_reference,
  fun m ρ _ => Cert.Kernel9.Gen.frame m ρ, fun m ρ _ => Cert.Kernel9Ideal.Gen.frame m ρ, fun m ρ _ => Cert.Kernel9Ideal.Gen.frame m ρ,
  ConvInDx.frame_reference, ConvInDx.frame_reference_pre,
  fun m ρ _ => Cert.Kernel10.Gen.frame m ρ, fun m ρ _ => Cert.Kernel10Ideal.Gen.frame m ρ, ConvInDw.frame_reference,
  fun m ρ _ => Cert.Kernel11.Gen.frame m ρ, fun m ρ _ => Cert.Kernel11Ideal.Gen.frame m ρ, ConvOutDx.frame_reference,
  fun m ρ _ => Cert.Kernel12.Gen.frame m ρ, fun m ρ _ => Cert.Kernel12Ideal.Gen.frame m ρ, ConvOutDw.frame_reference,
  fun m ρ _ => Cert.Kernel13.Gen.frame m ρ, fun m ρ _ => Cert.Kernel13Ideal.Gen.frame m ρ, ConvIn.frame_reference,
  fun m ρ _ => Cert.Kernel14.Gen.frame m ρ, fun m ρ _ => Cert.Kernel14Ideal.Gen.frame m ρ, ConvOut.frame_reference,
  fun m ρ _ => Cert.Kernel15.Gen.frame m ρ, fun m ρ _ => Cert.Kernel15Ideal.Gen.frame m ρ, AttnOut.frame_reference,
  fun m ρ _ => Cert.Kernel16.Gen.frame m ρ, fun m ρ _ => Cert.Kernel16Ideal.Gen.frame m ρ, AttnOutDw.frame_reference,
  fun m ρ _ => Cert.Kernel17.Gen.frame m ρ, fun m ρ _ => Cert.Kernel17Ideal.Gen.frame m ρ, AttnOutDx.frame_reference,
  fun m ρ _ => Cert.Kernel18.Gen.frame m ρ, fun m ρ _ => Cert.Kernel18Ideal.Gen.frame m ρ, MlpLoss.frame_reference,
  fun m ρ _ => Cert.Kernel19.Gen.frame m ρ, fun m ρ _ => Cert.Kernel19Ideal.Gen.frame m ρ, AttnDown.frame_reference,
  trivial, Conv.algebraic, Attn.preserves, Attn.algebraic,
  trivial, MlpDown.algebraic,
  trivial, MlpDw.algebraic,
  trivial, MlpUpDw.algebraic,
  trivial, MlpUpDx.algebraic,
  trivial, MlpUp.algebraic,
  trivial, MlpOut.algebraic,
  trivial, ConvInDx.algebraic,
  trivial, ConvInDw.algebraic,
  trivial, ConvOutDx.algebraic,
  trivial, ConvOutDw.algebraic,
  trivial, ConvIn.algebraic,
  trivial, ConvOut.algebraic,
  trivial, AttnOut.algebraic,
  trivial, AttnOutDw.algebraic,
  trivial, AttnOutDx.algebraic,
  trivial, MlpLoss.algebraic,
  trivial, AttnDown.algebraic⟩

end Cert.Proof

end
